-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_smooth [hPre_smooth : Cert.Pre_smooth.Facts] (m : (ℓ : Loc Cert.KernelIdeal.nD Cert.KernelIdeal.τ Cert.KernelIdeal.sig) → Buf (Elt Ideal) ℓ) : Prop :=
  ∀ c : Dev Cert.KernelIdeal.nD,
    (Cert.Pre_smooth.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_smooth [hPre_smooth : Cert.Pre_smooth.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_smooth.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_InDxZ (m : (ℓ : Loc Cert.InDxZ.nD Cert.InDxZ.τ Cert.InDxZ.sig) → Buf (Elt Bits) ℓ) : Prop :=
  True

def Pre_InDxZIdeal (m : (ℓ : Loc Cert.InDxZIdeal.nD Cert.InDxZIdeal.τ Cert.InDxZIdeal.sig) → Buf (Elt Ideal) ℓ) : Prop :=
  True

def Pre_InDxZReferenceIdeal (m : (ℓ : Loc Cert.InDxZReferenceIdeal.nD Cert.InDxZReferenceIdeal.τ Cert.InDxZReferenceIdeal.sig) → Buf (Elt Ideal) ℓ) : Prop :=
  True

def Pre_InDxXbc (m : (ℓ : Loc Cert.InDxXbc.nD Cert.InDxXbc.τ Cert.InDxXbc.sig) → Buf (Elt Bits) ℓ) : Prop :=
  True

def Pre_InDxXbcIdeal (m : (ℓ : Loc Cert.InDxXbcIdeal.nD Cert.InDxXbcIdeal.τ Cert.InDxXbcIdeal.sig) → Buf (Elt Ideal) ℓ) : Prop :=
  True

def Pre_InDxXbcReferenceIdeal (m : (ℓ : Loc Cert.InDxXbcReferenceIdeal.nD Cert.InDxXbcReferenceIdeal.τ Cert.InDxXbcReferenceIdeal.sig) → Buf (Elt Ideal) ℓ) : Prop :=
  True

def Pre_GdnDxQkv (m : (ℓ : Loc Cert.GdnDxQkv.nD Cert.GdnDxQkv.τ Cert.GdnDxQkv.sig) → Buf (Elt Bits) ℓ) : Prop :=
  True

def Pre_GdnDxQkvIdeal (m : (ℓ : Loc Cert.GdnDxQkvIdeal.nD Cert.GdnDxQkvIdeal.τ Cert.GdnDxQkvIdeal.sig) → Buf (Elt Ideal) ℓ) : Prop :=
  True

def Pre_GdnDxQkvReferenceIdeal (m : (ℓ : Loc Cert.GdnDxQkvReferenceIdeal.nD Cert.GdnDxQkvReferenceIdeal.τ Cert.GdnDxQkvReferenceIdeal.sig) → Buf (Elt Ideal) ℓ) : Prop :=
  True

def Pre_GdnDxZ (m : (ℓ : Loc Cert.GdnDxZ.nD Cert.GdnDxZ.τ Cert.GdnDxZ.sig) → Buf (Elt Bits) ℓ) : Prop :=
  True

def Pre_GdnDxZIdeal (m : (ℓ : Loc Cert.GdnDxZIdeal.nD Cert.GdnDxZIdeal.τ Cert.GdnDxZIdeal.sig) → Buf (Elt Ideal) ℓ) : Prop :=
  True

def Pre_GdnDxZReferenceIdeal (m : (ℓ : Loc Cert.GdnDxZReferenceIdeal.nD Cert.GdnDxZReferenceIdeal.τ Cert.GdnDxZReferenceIdeal.sig) → Buf (Elt Ideal) ℓ) : Prop :=
  True

def Pre_InDwXbc (m : (ℓ : Loc Cert.InDwXbc.nD Cert.InDwXbc.τ Cert.InDwXbc.sig) → Buf (Elt Bits) ℓ) : Prop :=
  True

def Pre_InDwXbcIdeal (m : (ℓ : Loc Cert.InDwXbcIdeal.nD Cert.InDwXbcIdeal.τ Cert.InDwXbcIdeal.sig) → Buf (Elt Ideal) ℓ) : Prop :=
  True

def Pre_InDwXbcReferenceIdeal (m : (ℓ : Loc Cert.InDwXbcReferenceIdeal.nD Cert.InDwXbcReferenceIdeal.τ Cert.InDwXbcReferenceIdeal.sig) → Buf (Elt Ideal) ℓ) : Prop :=
  True

def Pre_InDwZ (m : (ℓ : Loc Cert.InDwZ.nD Cert.InDwZ.τ Cert.InDwZ.sig) → Buf (Elt Bits) ℓ) : Prop :=
  True

def Pre_InDwZIdeal (m : (ℓ : Loc Cert.InDwZIdeal.nD Cert.InDwZIdeal.τ Cert.InDwZIdeal.sig) → Buf (Elt Ideal) ℓ) : Prop :=
  True

def Pre_InDwZReferenceIdeal (m : (ℓ : Loc Cert.InDwZReferenceIdeal.nD Cert.InDwZReferenceIdeal.τ Cert.InDwZReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite [hPre_finite : Cert.Pre_finite.Facts] (m : (ℓ : Loc Cert.FwdIdeal.nD Cert.FwdIdeal.τ Cert.FwdIdeal.sig) → Buf (Elt Ideal) ℓ) : Prop :=
  ∀ c : Dev Cert.FwdIdeal.nD,
    (Cert.Pre_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6))) = (fun _ => 1#1)

def Pre_FwdReferenceIdeal (m : (ℓ : Loc Cert.FwdReferenceIdeal.nD Cert.FwdReferenceIdeal.τ Cert.FwdReferenceIdeal.sig) → Buf (Elt Ideal) ℓ) : Prop :=
  True

def Pre_FwdReferenceIdeal_finite [hPre_finite : Cert.Pre_finite.Facts] (m : (ℓ : Loc Cert.FwdReferenceIdeal.nD Cert.FwdReferenceIdeal.τ Cert.FwdReferenceIdeal.sig) → Buf (Elt Ideal) ℓ) : Prop :=
  ∀ c : Dev Cert.FwdReferenceIdeal.nD,
    (Cert.Pre_finite.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2)) (m ((c.tc : Thread Cert.FwdReferenceIdeal.nD Cert.FwdReferenceIdeal.τ).loc Cert.FwdReferenceIdeal.main_arg3)) (m ((c.tc : Thread Cert.FwdReferenceIdeal.nD Cert.FwdReferenceIdeal.τ).loc Cert.FwdReferenceIdeal.main_arg4)) (m ((c.tc : Thread Cert.FwdReferenceIdeal.nD Cert.FwdReferenceIdeal.τ).loc Cert.FwdReferenceIdeal.main_arg5)) (m ((c.tc : Thread Cert.FwdReferenceIdeal.nD Cert.FwdReferenceIdeal.τ).loc Cert.FwdReferenceIdeal.main_arg6))) = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_smooth [hKernelIdeal : Cert.KernelIdeal.Facts] [hPre_smooth : Cert.Pre_smooth.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_smooth m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_smooth [hReferenceIdeal : Cert.ReferenceIdeal.Facts] [hPre_smooth : Cert.Pre_smooth.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_smooth m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_InDxZ [hInDxZ : Cert.InDxZ.Facts] : Prop :=
  ∀ (m : (ℓ : Loc Cert.InDxZ.nD Cert.InDxZ.τ Cert.InDxZ.sig) → Buf (Elt Bits) ℓ) (g : Dev Cert.InDxZ.nD → PrngReg), Pre_InDxZ m →
    θ_run (Cert.InDxZ.defs (F := Bits)) (onTc (τ := Cert.InDxZ.τ) (Cert.InDxZ.main (F := Bits))) ⟨m, fun _ => 0, g⟩ (fun r => (∀ c : Dev Cert.InDxZ.nD,
      r.2.mem ((c.tc : Thread Cert.InDxZ.nD Cert.InDxZ.τ).loc Cert.InDxZ.main_arg0) = m ((c.tc : Thread Cert.InDxZ.nD Cert.InDxZ.τ).loc Cert.InDxZ.main_arg0)
      ∧ r.2.mem ((c.tc : Thread Cert.InDxZ.nD Cert.InDxZ.τ).loc Cert.InDxZ.main_arg1) = m ((c.tc : Thread Cert.InDxZ.nD Cert.InDxZ.τ).loc Cert.InDxZ.main_arg1))
      ∧ r.2.sem = fun _ => 0)

def quiescent_InDxZIdeal [hInDxZIdeal : Cert.InDxZIdeal.Facts] : Prop :=
  ∀ (m : (ℓ : Loc Cert.InDxZIdeal.nD Cert.InDxZIdeal.τ Cert.InDxZIdeal.sig) → Buf (Elt Ideal) ℓ) (g : Dev Cert.InDxZIdeal.nD → PrngReg), Pre_InDxZIdeal m →
    θ_run (Cert.InDxZIdeal.defs (F := Ideal)) (onTc (τ := Cert.InDxZIdeal.τ) (Cert.InDxZIdeal.main (F := Ideal))) ⟨m, fun _ => 0, g⟩ (fun r => (∀ c : Dev Cert.InDxZIdeal.nD,
      r.2.mem ((c.tc : Thread Cert.InDxZIdeal.nD Cert.InDxZIdeal.τ).loc Cert.InDxZIdeal.main_arg0) = m ((c.tc : Thread Cert.InDxZIdeal.nD Cert.InDxZIdeal.τ).loc Cert.InDxZIdeal.main_arg0)
      ∧ r.2.mem ((c.tc : Thread Cert.InDxZIdeal.nD Cert.InDxZIdeal.τ).loc Cert.InDxZIdeal.main_arg1) = m ((c.tc : Thread Cert.InDxZIdeal.nD Cert.InDxZIdeal.τ).loc Cert.InDxZIdeal.main_arg1))
      ∧ r.2.sem = fun _ => 0)

def quiescent_InDxZReferenceIdeal [hInDxZReferenceIdeal : Cert.InDxZReferenceIdeal.Facts] : Prop :=
  ∀ (m : (ℓ : Loc Cert.InDxZReferenceIdeal.nD Cert.InDxZReferenceIdeal.τ Cert.InDxZReferenceIdeal.sig) → Buf (Elt Ideal) ℓ) (g : Dev Cert.InDxZReferenceIdeal.nD → PrngReg), Pre_InDxZReferenceIdeal m →
    θ_run (Cert.InDxZReferenceIdeal.defs (F := Ideal)) (onTc (τ := Cert.InDxZReferenceIdeal.τ) (Cert.InDxZReferenceIdeal.main (F := Ideal))) ⟨m, fun _ => 0, g⟩ (fun r => (∀ c : Dev Cert.InDxZReferenceIdeal.nD,
      r.2.mem ((c.tc : Thread Cert.InDxZReferenceIdeal.nD Cert.InDxZReferenceIdeal.τ).loc Cert.InDxZReferenceIdeal.main_arg0) = m ((c.tc : Thread Cert.InDxZReferenceIdeal.nD Cert.InDxZReferenceIdeal.τ).loc Cert.InDxZReferenceIdeal.main_arg0)
      ∧ r.2.mem ((c.tc : Thread Cert.InDxZReferenceIdeal.nD Cert.InDxZReferenceIdeal.τ).loc Cert.InDxZReferenceIdeal.main_arg1) = m ((c.tc : Thread Cert.InDxZReferenceIdeal.nD Cert.InDxZReferenceIdeal.τ).loc Cert.InDxZReferenceIdeal.main_arg1))
      ∧ r.2.sem = fun _ => 0)

def quiescent_InDxXbc [hInDxXbc : Cert.InDxXbc.Facts] : Prop :=
  ∀ (m : (ℓ : Loc Cert.InDxXbc.nD Cert.InDxXbc.τ Cert.InDxXbc.sig) → Buf (Elt Bits) ℓ) (g : Dev Cert.InDxXbc.nD → PrngReg), Pre_InDxXbc m →
    θ_run (Cert.InDxXbc.defs (F := Bits)) (onTc (τ := Cert.InDxXbc.τ) (Cert.InDxXbc.main (F := Bits))) ⟨m, fun _ => 0, g⟩ (fun r => (∀ c : Dev Cert.InDxXbc.nD,
      r.2.mem ((c.tc : Thread Cert.InDxXbc.nD Cert.InDxXbc.τ).loc Cert.InDxXbc.main_arg0) = m ((c.tc : Thread Cert.InDxXbc.nD Cert.InDxXbc.τ).loc Cert.InDxXbc.main_arg0)
      ∧ r.2.mem ((c.tc : Thread Cert.InDxXbc.nD Cert.InDxXbc.τ).loc Cert.InDxXbc.main_arg1) = m ((c.tc : Thread Cert.InDxXbc.nD Cert.InDxXbc.τ).loc Cert.InDxXbc.main_arg1)
      ∧ r.2.mem ((c.tc : Thread Cert.InDxXbc.nD Cert.InDxXbc.τ).loc Cert.InDxXbc.main_arg2) = m ((c.tc : Thread Cert.InDxXbc.nD Cert.InDxXbc.τ).loc Cert.InDxXbc.main_arg2))
      ∧ r.2.sem = fun _ => 0)

def quiescent_InDxXbcIdeal [hInDxXbcIdeal : Cert.InDxXbcIdeal.Facts] : Prop :=
  ∀ (m : (ℓ : Loc Cert.InDxXbcIdeal.nD Cert.InDxXbcIdeal.τ Cert.InDxXbcIdeal.sig) → Buf (Elt Ideal) ℓ) (g : Dev Cert.InDxXbcIdeal.nD → PrngReg), Pre_InDxXbcIdeal m →
    θ_run (Cert.InDxXbcIdeal.defs (F := Ideal)) (onTc (τ := Cert.InDxXbcIdeal.τ) (Cert.InDxXbcIdeal.main (F := Ideal))) ⟨m, fun _ => 0, g⟩ (fun r => (∀ c : Dev Cert.InDxXbcIdeal.nD,
      r.2.mem ((c.tc : Thread Cert.InDxXbcIdeal.nD Cert.InDxXbcIdeal.τ).loc Cert.InDxXbcIdeal.main_arg0) = m ((c.tc : Thread Cert.InDxXbcIdeal.nD Cert.InDxXbcIdeal.τ).loc Cert.InDxXbcIdeal.main_arg0)
      ∧ r.2.mem ((c.tc : Thread Cert.InDxXbcIdeal.nD Cert.InDxXbcIdeal.τ).loc Cert.InDxXbcIdeal.main_arg1) = m ((c.tc : Thread Cert.InDxXbcIdeal.nD Cert.InDxXbcIdeal.τ).loc Cert.InDxXbcIdeal.main_arg1)
      ∧ r.2.mem ((c.tc : Thread Cert.InDxXbcIdeal.nD Cert.InDxXbcIdeal.τ).loc Cert.InDxXbcIdeal.main_arg2) = m ((c.tc : Thread Cert.InDxXbcIdeal.nD Cert.InDxXbcIdeal.τ).loc Cert.InDxXbcIdeal.main_arg2))
      ∧ r.2.sem = fun _ => 0)

def quiescent_InDxXbcReferenceIdeal [hInDxXbcReferenceIdeal : Cert.InDxXbcReferenceIdeal.Facts] : Prop :=
  ∀ (m : (ℓ : Loc Cert.InDxXbcReferenceIdeal.nD Cert.InDxXbcReferenceIdeal.τ Cert.InDxXbcReferenceIdeal.sig) → Buf (Elt Ideal) ℓ) (g : Dev Cert.InDxXbcReferenceIdeal.nD → PrngReg), Pre_InDxXbcReferenceIdeal m →
    θ_run (Cert.InDxXbcReferenceIdeal.defs (F := Ideal)) (onTc (τ := Cert.InDxXbcReferenceIdeal.τ) (Cert.InDxXbcReferenceIdeal.main (F := Ideal))) ⟨m, fun _ => 0, g⟩ (fun r => (∀ c : Dev Cert.InDxXbcReferenceIdeal.nD,
      r.2.mem ((c.tc : Thread Cert.InDxXbcReferenceIdeal.nD Cert.InDxXbcReferenceIdeal.τ).loc Cert.InDxXbcReferenceIdeal.main_arg0) = m ((c.tc : Thread Cert.InDxXbcReferenceIdeal.nD Cert.InDxXbcReferenceIdeal.τ).loc Cert.InDxXbcReferenceIdeal.main_arg0)
      ∧ r.2.mem ((c.tc : Thread Cert.InDxXbcReferenceIdeal.nD Cert.InDxXbcReferenceIdeal.τ).loc Cert.InDxXbcReferenceIdeal.main_arg1) = m ((c.tc : Thread Cert.InDxXbcReferenceIdeal.nD Cert.InDxXbcReferenceIdeal.τ).loc Cert.InDxXbcReferenceIdeal.main_arg1)
      ∧ r.2.mem ((c.tc : Thread Cert.InDxXbcReferenceIdeal.nD Cert.InDxXbcReferenceIdeal.τ).loc Cert.InDxXbcReferenceIdeal.main_arg2) = m ((c.tc : Thread Cert.InDxXbcReferenceIdeal.nD Cert.InDxXbcReferenceIdeal.τ).loc Cert.InDxXbcReferenceIdeal.main_arg2))
      ∧ r.2.sem = fun _ => 0)

def quiescent_GdnDxQkv [hGdnDxQkv : Cert.GdnDxQkv.Facts] : Prop :=
  ∀ (m : (ℓ : Loc Cert.GdnDxQkv.nD Cert.GdnDxQkv.τ Cert.GdnDxQkv.sig) → Buf (Elt Bits) ℓ) (g : Dev Cert.GdnDxQkv.nD → PrngReg), Pre_GdnDxQkv m →
    θ_run (Cert.GdnDxQkv.defs (F := Bits)) (onTc (τ := Cert.GdnDxQkv.τ) (Cert.GdnDxQkv.main (F := Bits))) ⟨m, fun _ => 0, g⟩ (fun r => (∀ c : Dev Cert.GdnDxQkv.nD,
      r.2.mem ((c.tc : Thread Cert.GdnDxQkv.nD Cert.GdnDxQkv.τ).loc Cert.GdnDxQkv.main_arg0) = m ((c.tc : Thread Cert.GdnDxQkv.nD Cert.GdnDxQkv.τ).loc Cert.GdnDxQkv.main_arg0)
      ∧ r.2.mem ((c.tc : Thread Cert.GdnDxQkv.nD Cert.GdnDxQkv.τ).loc Cert.GdnDxQkv.main_arg1) = m ((c.tc : Thread Cert.GdnDxQkv.nD Cert.GdnDxQkv.τ).loc Cert.GdnDxQkv.main_arg1))
      ∧ r.2.sem = fun _ => 0)

def quiescent_GdnDxQkvIdeal [hGdnDxQkvIdeal : Cert.GdnDxQkvIdeal.Facts] : Prop :=
  ∀ (m : (ℓ : Loc Cert.GdnDxQkvIdeal.nD Cert.GdnDxQkvIdeal.τ Cert.GdnDxQkvIdeal.sig) → Buf (Elt Ideal) ℓ) (g : Dev Cert.GdnDxQkvIdeal.nD → PrngReg), Pre_GdnDxQkvIdeal m →
    θ_run (Cert.GdnDxQkvIdeal.defs (F := Ideal)) (onTc (τ := Cert.GdnDxQkvIdeal.τ) (Cert.GdnDxQkvIdeal.main (F := Ideal))) ⟨m, fun _ => 0, g⟩ (fun r => (∀ c : Dev Cert.GdnDxQkvIdeal.nD,
      r.2.mem ((c.tc : Thread Cert.GdnDxQkvIdeal.nD Cert.GdnDxQkvIdeal.τ).loc Cert.GdnDxQkvIdeal.main_arg0) = m ((c.tc : Thread Cert.GdnDxQkvIdeal.nD Cert.GdnDxQkvIdeal.τ).loc Cert.GdnDxQkvIdeal.main_arg0)
      ∧ r.2.mem ((c.tc : Thread Cert.GdnDxQkvIdeal.nD Cert.GdnDxQkvIdeal.τ).loc Cert.GdnDxQkvIdeal.main_arg1) = m ((c.tc : Thread Cert.GdnDxQkvIdeal.nD Cert.GdnDxQkvIdeal.τ).loc Cert.GdnDxQkvIdeal.main_arg1))
      ∧ r.2.sem = fun _ => 0)

def quiescent_GdnDxQkvReferenceIdeal [hGdnDxQkvReferenceIdeal : Cert.GdnDxQkvReferenceIdeal.Facts] : Prop :=
  ∀ (m : (ℓ : Loc Cert.GdnDxQkvReferenceIdeal.nD Cert.GdnDxQkvReferenceIdeal.τ Cert.GdnDxQkvReferenceIdeal.sig) → Buf (Elt Ideal) ℓ) (g : Dev Cert.GdnDxQkvReferenceIdeal.nD → PrngReg), Pre_GdnDxQkvReferenceIdeal m →
    θ_run (Cert.GdnDxQkvReferenceIdeal.defs (F := Ideal)) (onTc (τ := Cert.GdnDxQkvReferenceIdeal.τ) (Cert.GdnDxQkvReferenceIdeal.main (F := Ideal))) ⟨m, fun _ => 0, g⟩ (fun r => (∀ c : Dev Cert.GdnDxQkvReferenceIdeal.nD,
      r.2.mem ((c.tc : Thread Cert.GdnDxQkvReferenceIdeal.nD Cert.GdnDxQkvReferenceIdeal.τ).loc Cert.GdnDxQkvReferenceIdeal.main_arg0) = m ((c.tc : Thread Cert.GdnDxQkvReferenceIdeal.nD Cert.GdnDxQkvReferenceIdeal.τ).loc Cert.GdnDxQkvReferenceIdeal.main_arg0)
      ∧ r.2.mem ((c.tc : Thread Cert.GdnDxQkvReferenceIdeal.nD Cert.GdnDxQkvReferenceIdeal.τ).loc Cert.GdnDxQkvReferenceIdeal.main_arg1) = m ((c.tc : Thread Cert.GdnDxQkvReferenceIdeal.nD Cert.GdnDxQkvReferenceIdeal.τ).loc Cert.GdnDxQkvReferenceIdeal.main_arg1))
      ∧ r.2.sem = fun _ => 0)

def quiescent_GdnDxZ [hGdnDxZ : Cert.GdnDxZ.Facts] : Prop :=
  ∀ (m : (ℓ : Loc Cert.GdnDxZ.nD Cert.GdnDxZ.τ Cert.GdnDxZ.sig) → Buf (Elt Bits) ℓ) (g : Dev Cert.GdnDxZ.nD → PrngReg), Pre_GdnDxZ m →
    θ_run (Cert.GdnDxZ.defs (F := Bits)) (onTc (τ := Cert.GdnDxZ.τ) (Cert.GdnDxZ.main (F := Bits))) ⟨m, fun _ => 0, g⟩ (fun r => (∀ c : Dev Cert.GdnDxZ.nD,
      r.2.mem ((c.tc : Thread Cert.GdnDxZ.nD Cert.GdnDxZ.τ).loc Cert.GdnDxZ.main_arg0) = m ((c.tc : Thread Cert.GdnDxZ.nD Cert.GdnDxZ.τ).loc Cert.GdnDxZ.main_arg0)
      ∧ r.2.mem ((c.tc : Thread Cert.GdnDxZ.nD Cert.GdnDxZ.τ).loc Cert.GdnDxZ.main_arg1) = m ((c.tc : Thread Cert.GdnDxZ.nD Cert.GdnDxZ.τ).loc Cert.GdnDxZ.main_arg1)
      ∧ r.2.mem ((c.tc : Thread Cert.GdnDxZ.nD Cert.GdnDxZ.τ).loc Cert.GdnDxZ.main_arg2) = m ((c.tc : Thread Cert.GdnDxZ.nD Cert.GdnDxZ.τ).loc Cert.GdnDxZ.main_arg2))
      ∧ r.2.sem = fun _ => 0)

def quiescent_GdnDxZIdeal [hGdnDxZIdeal : Cert.GdnDxZIdeal.Facts] : Prop :=
  ∀ (m : (ℓ : Loc Cert.GdnDxZIdeal.nD Cert.GdnDxZIdeal.τ Cert.GdnDxZIdeal.sig) → Buf (Elt Ideal) ℓ) (g : Dev Cert.GdnDxZIdeal.nD → PrngReg), Pre_GdnDxZIdeal m →
    θ_run (Cert.GdnDxZIdeal.defs (F := Ideal)) (onTc (τ := Cert.GdnDxZIdeal.τ) (Cert.GdnDxZIdeal.main (F := Ideal))) ⟨m, fun _ => 0, g⟩ (fun r => (∀ c : Dev Cert.GdnDxZIdeal.nD,
      r.2.mem ((c.tc : Thread Cert.GdnDxZIdeal.nD Cert.GdnDxZIdeal.τ).loc Cert.GdnDxZIdeal.main_arg0) = m ((c.tc : Thread Cert.GdnDxZIdeal.nD Cert.GdnDxZIdeal.τ).loc Cert.GdnDxZIdeal.main_arg0)
      ∧ r.2.mem ((c.tc : Thread Cert.GdnDxZIdeal.nD Cert.GdnDxZIdeal.τ).loc Cert.GdnDxZIdeal.main_arg1) = m ((c.tc : Thread Cert.GdnDxZIdeal.nD Cert.GdnDxZIdeal.τ).loc Cert.GdnDxZIdeal.main_arg1)
      ∧ r.2.mem ((c.tc : Thread Cert.GdnDxZIdeal.nD Cert.GdnDxZIdeal.τ).loc Cert.GdnDxZIdeal.main_arg2) = m ((c.tc : Thread Cert.GdnDxZIdeal.nD Cert.GdnDxZIdeal.τ).loc Cert.GdnDxZIdeal.main_arg2))
      ∧ r.2.sem = fun _ => 0)

def quiescent_GdnDxZReferenceIdeal [hGdnDxZReferenceIdeal : Cert.GdnDxZReferenceIdeal.Facts] : Prop :=
  ∀ (m : (ℓ : Loc Cert.GdnDxZReferenceIdeal.nD Cert.GdnDxZReferenceIdeal.τ Cert.GdnDxZReferenceIdeal.sig) → Buf (Elt Ideal) ℓ) (g : Dev Cert.GdnDxZReferenceIdeal.nD → PrngReg), Pre_GdnDxZReferenceIdeal m →
    θ_run (Cert.GdnDxZReferenceIdeal.defs (F := Ideal)) (onTc (τ := Cert.GdnDxZReferenceIdeal.τ) (Cert.GdnDxZReferenceIdeal.main (F := Ideal))) ⟨m, fun _ => 0, g⟩ (fun r => (∀ c : Dev Cert.GdnDxZReferenceIdeal.nD,
      r.2.mem ((c.tc : Thread Cert.GdnDxZReferenceIdeal.nD Cert.GdnDxZReferenceIdeal.τ).loc Cert.GdnDxZReferenceIdeal.main_arg0) = m ((c.tc : Thread Cert.GdnDxZReferenceIdeal.nD Cert.GdnDxZReferenceIdeal.τ).loc Cert.GdnDxZReferenceIdeal.main_arg0)
      ∧ r.2.mem ((c.tc : Thread Cert.GdnDxZReferenceIdeal.nD Cert.GdnDxZReferenceIdeal.τ).loc Cert.GdnDxZReferenceIdeal.main_arg1) = m ((c.tc : Thread Cert.GdnDxZReferenceIdeal.nD Cert.GdnDxZReferenceIdeal.τ).loc Cert.GdnDxZReferenceIdeal.main_arg1)
      ∧ r.2.mem ((c.tc : Thread Cert.GdnDxZReferenceIdeal.nD Cert.GdnDxZReferenceIdeal.τ).loc Cert.GdnDxZReferenceIdeal.main_arg2) = m ((c.tc : Thread Cert.GdnDxZReferenceIdeal.nD Cert.GdnDxZReferenceIdeal.τ).loc Cert.GdnDxZReferenceIdeal.main_arg2))
      ∧ r.2.sem = fun _ => 0)

def quiescent_InDwXbc [hInDwXbc : Cert.InDwXbc.Facts] : Prop :=
  ∀ (m : (ℓ : Loc Cert.InDwXbc.nD Cert.InDwXbc.τ Cert.InDwXbc.sig) → Buf (Elt Bits) ℓ) (g : Dev Cert.InDwXbc.nD → PrngReg), Pre_InDwXbc m →
    θ_run (Cert.InDwXbc.defs (F := Bits)) (onTc (τ := Cert.InDwXbc.τ) (Cert.InDwXbc.main (F := Bits))) ⟨m, fun _ => 0, g⟩ (fun r => (∀ c : Dev Cert.InDwXbc.nD,
      r.2.mem ((c.tc : Thread Cert.InDwXbc.nD Cert.InDwXbc.τ).loc Cert.InDwXbc.main_arg0) = m ((c.tc : Thread Cert.InDwXbc.nD Cert.InDwXbc.τ).loc Cert.InDwXbc.main_arg0)
      ∧ r.2.mem ((c.tc : Thread Cert.InDwXbc.nD Cert.InDwXbc.τ).loc Cert.InDwXbc.main_arg1) = m ((c.tc : Thread Cert.InDwXbc.nD Cert.InDwXbc.τ).loc Cert.InDwXbc.main_arg1))
      ∧ r.2.sem = fun _ => 0)

def quiescent_InDwXbcIdeal [hInDwXbcIdeal : Cert.InDwXbcIdeal.Facts] : Prop :=
  ∀ (m : (ℓ : Loc Cert.InDwXbcIdeal.nD Cert.InDwXbcIdeal.τ Cert.InDwXbcIdeal.sig) → Buf (Elt Ideal) ℓ) (g : Dev Cert.InDwXbcIdeal.nD → PrngReg), Pre_InDwXbcIdeal m →
    θ_run (Cert.InDwXbcIdeal.defs (F := Ideal)) (onTc (τ := Cert.InDwXbcIdeal.τ) (Cert.InDwXbcIdeal.main (F := Ideal))) ⟨m, fun _ => 0, g⟩ (fun r => (∀ c : Dev Cert.InDwXbcIdeal.nD,
      r.2.mem ((c.tc : Thread Cert.InDwXbcIdeal.nD Cert.InDwXbcIdeal.τ).loc Cert.InDwXbcIdeal.main_arg0) = m ((c.tc : Thread Cert.InDwXbcIdeal.nD Cert.InDwXbcIdeal.τ).loc Cert.InDwXbcIdeal.main_arg0)
      ∧ r.2.mem ((c.tc : Thread Cert.InDwXbcIdeal.nD Cert.InDwXbcIdeal.τ).loc Cert.InDwXbcIdeal.main_arg1) = m ((c.tc : Thread Cert.InDwXbcIdeal.nD Cert.InDwXbcIdeal.τ).loc Cert.InDwXbcIdeal.main_arg1))
      ∧ r.2.sem = fun _ => 0)

def quiescent_InDwXbcReferenceIdeal [hInDwXbcReferenceIdeal : Cert.InDwXbcReferenceIdeal.Facts] : Prop :=
  ∀ (m : (ℓ : Loc Cert.InDwXbcReferenceIdeal.nD Cert.InDwXbcReferenceIdeal.τ Cert.InDwXbcReferenceIdeal.sig) → Buf (Elt Ideal) ℓ) (g : Dev Cert.InDwXbcReferenceIdeal.nD → PrngReg), Pre_InDwXbcReferenceIdeal m →
    θ_run (Cert.InDwXbcReferenceIdeal.defs (F := Ideal)) (onTc (τ := Cert.InDwXbcReferenceIdeal.τ) (Cert.InDwXbcReferenceIdeal.main (F := Ideal))) ⟨m, fun _ => 0, g⟩ (fun r => (∀ c : Dev Cert.InDwXbcReferenceIdeal.nD,
      r.2.mem ((c.tc : Thread Cert.InDwXbcReferenceIdeal.nD Cert.InDwXbcReferenceIdeal.τ).loc Cert.InDwXbcReferenceIdeal.main_arg0) = m ((c.tc : Thread Cert.InDwXbcReferenceIdeal.nD Cert.InDwXbcReferenceIdeal.τ).loc Cert.InDwXbcReferenceIdeal.main_arg0)
      ∧ r.2.mem ((c.tc : Thread Cert.InDwXbcReferenceIdeal.nD Cert.InDwXbcReferenceIdeal.τ).loc Cert.InDwXbcReferenceIdeal.main_arg1) = m ((c.tc : Thread Cert.InDwXbcReferenceIdeal.nD Cert.InDwXbcReferenceIdeal.τ).loc Cert.InDwXbcReferenceIdeal.main_arg1))
      ∧ r.2.sem = fun _ => 0)

def quiescent_InDwZ [hInDwZ : Cert.InDwZ.Facts] : Prop :=
  ∀ (m : (ℓ : Loc Cert.InDwZ.nD Cert.InDwZ.τ Cert.InDwZ.sig) → Buf (Elt Bits) ℓ) (g : Dev Cert.InDwZ.nD → PrngReg), Pre_InDwZ m →
    θ_run (Cert.InDwZ.defs (F := Bits)) (onTc (τ := Cert.InDwZ.τ) (Cert.InDwZ.main (F := Bits))) ⟨m, fun _ => 0, g⟩ (fun r => (∀ c : Dev Cert.InDwZ.nD,
      r.2.mem ((c.tc : Thread Cert.InDwZ.nD Cert.InDwZ.τ).loc Cert.InDwZ.main_arg0) = m ((c.tc : Thread Cert.InDwZ.nD Cert.InDwZ.τ).loc Cert.InDwZ.main_arg0)
      ∧ r.2.mem ((c.tc : Thread Cert.InDwZ.nD Cert.InDwZ.τ).loc Cert.InDwZ.main_arg1) = m ((c.tc : Thread Cert.InDwZ.nD Cert.InDwZ.τ).loc Cert.InDwZ.main_arg1))
      ∧ r.2.sem = fun _ => 0)

def quiescent_InDwZIdeal [hInDwZIdeal : Cert.InDwZIdeal.Facts] : Prop :=
  ∀ (m : (ℓ : Loc Cert.InDwZIdeal.nD Cert.InDwZIdeal.τ Cert.InDwZIdeal.sig) → Buf (Elt Ideal) ℓ) (g : Dev Cert.InDwZIdeal.nD → PrngReg), Pre_InDwZIdeal m →
    θ_run (Cert.InDwZIdeal.defs (F := Ideal)) (onTc (τ := Cert.InDwZIdeal.τ) (Cert.InDwZIdeal.main (F := Ideal))) ⟨m, fun _ => 0, g⟩ (fun r => (∀ c : Dev Cert.InDwZIdeal.nD,
      r.2.mem ((c.tc : Thread Cert.InDwZIdeal.nD Cert.InDwZIdeal.τ).loc Cert.InDwZIdeal.main_arg0) = m ((c.tc : Thread Cert.InDwZIdeal.nD Cert.InDwZIdeal.τ).loc Cert.InDwZIdeal.main_arg0)
      ∧ r.2.mem ((c.tc : Thread Cert.InDwZIdeal.nD Cert.InDwZIdeal.τ).loc Cert.InDwZIdeal.main_arg1) = m ((c.tc : Thread Cert.InDwZIdeal.nD Cert.InDwZIdeal.τ).loc Cert.InDwZIdeal.main_arg1))
      ∧ r.2.sem = fun _ => 0)

def quiescent_InDwZReferenceIdeal [hInDwZReferenceIdeal : Cert.InDwZReferenceIdeal.Facts] : Prop :=
  ∀ (m : (ℓ : Loc Cert.InDwZReferenceIdeal.nD Cert.InDwZReferenceIdeal.τ Cert.InDwZReferenceIdeal.sig) → Buf (Elt Ideal) ℓ) (g : Dev Cert.InDwZReferenceIdeal.nD → PrngReg), Pre_InDwZReferenceIdeal m →
    θ_run (Cert.InDwZReferenceIdeal.defs (F := Ideal)) (onTc (τ := Cert.InDwZReferenceIdeal.τ) (Cert.InDwZReferenceIdeal.main (F := Ideal))) ⟨m, fun _ => 0, g⟩ (fun r => (∀ c : Dev Cert.InDwZReferenceIdeal.nD,
      r.2.mem ((c.tc : Thread Cert.InDwZReferenceIdeal.nD Cert.InDwZReferenceIdeal.τ).loc Cert.InDwZReferenceIdeal.main_arg0) = m ((c.tc : Thread Cert.InDwZReferenceIdeal.nD Cert.InDwZReferenceIdeal.τ).loc Cert.InDwZReferenceIdeal.main_arg0)
      ∧ r.2.mem ((c.tc : Thread Cert.InDwZReferenceIdeal.nD Cert.InDwZReferenceIdeal.τ).loc Cert.InDwZReferenceIdeal.main_arg1) = m ((c.tc : Thread Cert.InDwZReferenceIdeal.nD Cert.InDwZReferenceIdeal.τ).loc Cert.InDwZReferenceIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6))
      ∧ r.2.sem = fun _ => 0)

def quiescent_FwdIdeal_pre_finite [hFwdIdeal : Cert.FwdIdeal.Facts] [hPre_finite : Cert.Pre_finite.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5)
      ∧ r.2.mem ((c.tc : Thread Cert.FwdReferenceIdeal.nD Cert.FwdReferenceIdeal.τ).loc Cert.FwdReferenceIdeal.main_arg6) = m ((c.tc : Thread Cert.FwdReferenceIdeal.nD Cert.FwdReferenceIdeal.τ).loc Cert.FwdReferenceIdeal.main_arg6))
      ∧ r.2.sem = fun _ => 0)

def quiescent_FwdReferenceIdeal_pre_finite [hFwdReferenceIdeal : Cert.FwdReferenceIdeal.Facts] [hPre_finite : Cert.Pre_finite.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal_finite m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5)
      ∧ r.2.mem ((c.tc : Thread Cert.FwdReferenceIdeal.nD Cert.FwdReferenceIdeal.τ).loc Cert.FwdReferenceIdeal.main_arg6) = m ((c.tc : Thread Cert.FwdReferenceIdeal.nD Cert.FwdReferenceIdeal.τ).loc Cert.FwdReferenceIdeal.main_arg6))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_smooth [hKernelIdeal : Cert.KernelIdeal.Facts] [hReferenceIdeal : Cert.ReferenceIdeal.Facts] [hPre_smooth : Cert.Pre_smooth.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_smooth m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v59_0)) (v1 : (c : Dev Cert.KernelIdeal.nD) → Buf (Elt Ideal) ((c.tc : Thread Cert.KernelIdeal.nD Cert.KernelIdeal.τ).loc Cert.KernelIdeal.main_v59_1)) (v2 : (c : Dev Cert.KernelIdeal.nD) → Buf (Elt Ideal) ((c.tc : Thread Cert.KernelIdeal.nD Cert.KernelIdeal.τ).loc Cert.KernelIdeal.main_v59_2)) (v3 : (c : Dev Cert.KernelIdeal.nD) → Buf (Elt Ideal) ((c.tc : Thread Cert.KernelIdeal.nD Cert.KernelIdeal.τ).loc Cert.KernelIdeal.main_v59_3)) (v4 : (c : Dev Cert.KernelIdeal.nD) → Buf (Elt Ideal) ((c.tc : Thread Cert.KernelIdeal.nD Cert.KernelIdeal.τ).loc Cert.KernelIdeal.main_v59_4)) (v5 : (c : Dev Cert.KernelIdeal.nD) → Buf (Elt Ideal) ((c.tc : Thread Cert.KernelIdeal.nD Cert.KernelIdeal.τ).loc Cert.KernelIdeal.main_v59_5)) (v6 : (c : Dev Cert.KernelIdeal.nD) → Buf (Elt Ideal) ((c.tc : Thread Cert.KernelIdeal.nD Cert.KernelIdeal.τ).loc Cert.KernelIdeal.main_v59_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59_0) = v0 c
          ∧ r.2.mem ((c.tc : Thread Cert.KernelIdeal.nD Cert.KernelIdeal.τ).loc Cert.KernelIdeal.main_v59_1) = v1 c
          ∧ r.2.mem ((c.tc : Thread Cert.KernelIdeal.nD Cert.KernelIdeal.τ).loc Cert.KernelIdeal.main_v59_2) = v2 c
          ∧ r.2.mem ((c.tc : Thread Cert.KernelIdeal.nD Cert.KernelIdeal.τ).loc Cert.KernelIdeal.main_v59_3) = v3 c
          ∧ r.2.mem ((c.tc : Thread Cert.KernelIdeal.nD Cert.KernelIdeal.τ).loc Cert.KernelIdeal.main_v59_4) = v4 c
          ∧ r.2.mem ((c.tc : Thread Cert.KernelIdeal.nD Cert.KernelIdeal.τ).loc Cert.KernelIdeal.main_v59_5) = v5 c
          ∧ r.2.mem ((c.tc : Thread Cert.KernelIdeal.nD Cert.KernelIdeal.τ).loc Cert.KernelIdeal.main_v59_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_v100) = v4 c
          ∧ r.2.mem ((c.tc : Thread Cert.ReferenceIdeal.nD Cert.ReferenceIdeal.τ).loc Cert.ReferenceIdeal.main_v103) = v5 c
          ∧ r.2.mem ((c.tc : Thread Cert.ReferenceIdeal.nD Cert.ReferenceIdeal.τ).loc Cert.ReferenceIdeal.main_v106) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_InDxZ_InDxZIdeal : Prop :=
  True

def algebraic_InDxZIdeal_InDxZReferenceIdeal [hInDxZIdeal : Cert.InDxZIdeal.Facts] [hInDxZReferenceIdeal : Cert.InDxZReferenceIdeal.Facts] : Prop :=
  ∀ (m : (ℓ : Loc Cert.InDxZIdeal.nD Cert.InDxZIdeal.τ Cert.InDxZIdeal.sig) → Buf (Elt Ideal) ℓ) (g : Dev Cert.InDxZIdeal.nD → PrngReg)
    (m' : (ℓ : Loc Cert.InDxZReferenceIdeal.nD Cert.InDxZReferenceIdeal.τ Cert.InDxZReferenceIdeal.sig) → Buf (Elt Ideal) ℓ) (g' : Dev Cert.InDxZReferenceIdeal.nD → PrngReg), Pre_InDxZIdeal m →
    (∀ c : Dev Cert.InDxZIdeal.nD,
      m' ((c.tc : Thread Cert.InDxZReferenceIdeal.nD Cert.InDxZReferenceIdeal.τ).loc Cert.InDxZReferenceIdeal.main_arg0) = m ((c.tc : Thread Cert.InDxZIdeal.nD Cert.InDxZIdeal.τ).loc Cert.InDxZIdeal.main_arg0)
      ∧ m' ((c.tc : Thread Cert.InDxZReferenceIdeal.nD Cert.InDxZReferenceIdeal.τ).loc Cert.InDxZReferenceIdeal.main_arg1) = m ((c.tc : Thread Cert.InDxZIdeal.nD Cert.InDxZIdeal.τ).loc Cert.InDxZIdeal.main_arg1)) →
    ∃ (v0 : (c : Dev Cert.InDxZIdeal.nD) → Buf (Elt Ideal) ((c.tc : Thread Cert.InDxZIdeal.nD Cert.InDxZIdeal.τ).loc Cert.InDxZIdeal.main_v6)),
      θ_run (Cert.InDxZIdeal.defs (F := Ideal)) (onTc (τ := Cert.InDxZIdeal.τ) (Cert.InDxZIdeal.main (F := Ideal))) ⟨m, fun _ => 0, g⟩ (fun r => ∀ c : Dev Cert.InDxZIdeal.nD,
          r.2.mem ((c.tc : Thread Cert.InDxZIdeal.nD Cert.InDxZIdeal.τ).loc Cert.InDxZIdeal.main_v6) = v0 c
          ∧ r.2.mem ((c.tc : Thread Cert.InDxZIdeal.nD Cert.InDxZIdeal.τ).loc Cert.InDxZIdeal.main_arg0) = m ((c.tc : Thread Cert.InDxZIdeal.nD Cert.InDxZIdeal.τ).loc Cert.InDxZIdeal.main_arg0)
          ∧ r.2.mem ((c.tc : Thread Cert.InDxZIdeal.nD Cert.InDxZIdeal.τ).loc Cert.InDxZIdeal.main_arg1) = m ((c.tc : Thread Cert.InDxZIdeal.nD Cert.InDxZIdeal.τ).loc Cert.InDxZIdeal.main_arg1))
      ∧ θ_run (Cert.InDxZReferenceIdeal.defs (F := Ideal)) (onTc (τ := Cert.InDxZReferenceIdeal.τ) (Cert.InDxZReferenceIdeal.main (F := Ideal))) ⟨m', fun _ => 0, g'⟩ (fun r => ∀ c : Dev Cert.InDxZReferenceIdeal.nD,
          r.2.mem ((c.tc : Thread Cert.InDxZReferenceIdeal.nD Cert.InDxZReferenceIdeal.τ).loc Cert.InDxZReferenceIdeal.main_v8) = v0 c
          ∧ r.2.mem ((c.tc : Thread Cert.InDxZReferenceIdeal.nD Cert.InDxZReferenceIdeal.τ).loc Cert.InDxZReferenceIdeal.main_arg0) = m' ((c.tc : Thread Cert.InDxZReferenceIdeal.nD Cert.InDxZReferenceIdeal.τ).loc Cert.InDxZReferenceIdeal.main_arg0)
          ∧ r.2.mem ((c.tc : Thread Cert.InDxZReferenceIdeal.nD Cert.InDxZReferenceIdeal.τ).loc Cert.InDxZReferenceIdeal.main_arg1) = m' ((c.tc : Thread Cert.InDxZReferenceIdeal.nD Cert.InDxZReferenceIdeal.τ).loc Cert.InDxZReferenceIdeal.main_arg1))

def preserves_InDxXbc_InDxXbcIdeal : Prop :=
  True

def algebraic_InDxXbcIdeal_InDxXbcReferenceIdeal [hInDxXbcIdeal : Cert.InDxXbcIdeal.Facts] [hInDxXbcReferenceIdeal : Cert.InDxXbcReferenceIdeal.Facts] : Prop :=
  ∀ (m : (ℓ : Loc Cert.InDxXbcIdeal.nD Cert.InDxXbcIdeal.τ Cert.InDxXbcIdeal.sig) → Buf (Elt Ideal) ℓ) (g : Dev Cert.InDxXbcIdeal.nD → PrngReg)
    (m' : (ℓ : Loc Cert.InDxXbcReferenceIdeal.nD Cert.InDxXbcReferenceIdeal.τ Cert.InDxXbcReferenceIdeal.sig) → Buf (Elt Ideal) ℓ) (g' : Dev Cert.InDxXbcReferenceIdeal.nD → PrngReg), Pre_InDxXbcIdeal m →
    (∀ c : Dev Cert.InDxXbcIdeal.nD,
      m' ((c.tc : Thread Cert.InDxXbcReferenceIdeal.nD Cert.InDxXbcReferenceIdeal.τ).loc Cert.InDxXbcReferenceIdeal.main_arg0) = m ((c.tc : Thread Cert.InDxXbcIdeal.nD Cert.InDxXbcIdeal.τ).loc Cert.InDxXbcIdeal.main_arg0)
      ∧ m' ((c.tc : Thread Cert.InDxXbcReferenceIdeal.nD Cert.InDxXbcReferenceIdeal.τ).loc Cert.InDxXbcReferenceIdeal.main_arg1) = m ((c.tc : Thread Cert.InDxXbcIdeal.nD Cert.InDxXbcIdeal.τ).loc Cert.InDxXbcIdeal.main_arg1)
      ∧ m' ((c.tc : Thread Cert.InDxXbcReferenceIdeal.nD Cert.InDxXbcReferenceIdeal.τ).loc Cert.InDxXbcReferenceIdeal.main_arg2) = m ((c.tc : Thread Cert.InDxXbcIdeal.nD Cert.InDxXbcIdeal.τ).loc Cert.InDxXbcIdeal.main_arg2)) →
    ∃ (v0 : (c : Dev Cert.InDxXbcIdeal.nD) → Buf (Elt Ideal) ((c.tc : Thread Cert.InDxXbcIdeal.nD Cert.InDxXbcIdeal.τ).loc Cert.InDxXbcIdeal.main_v2)),
      θ_run (Cert.InDxXbcIdeal.defs (F := Ideal)) (onTc (τ := Cert.InDxXbcIdeal.τ) (Cert.InDxXbcIdeal.main (F := Ideal))) ⟨m, fun _ => 0, g⟩ (fun r => ∀ c : Dev Cert.InDxXbcIdeal.nD,
          r.2.mem ((c.tc : Thread Cert.InDxXbcIdeal.nD Cert.InDxXbcIdeal.τ).loc Cert.InDxXbcIdeal.main_v2) = v0 c
          ∧ r.2.mem ((c.tc : Thread Cert.InDxXbcIdeal.nD Cert.InDxXbcIdeal.τ).loc Cert.InDxXbcIdeal.main_arg0) = m ((c.tc : Thread Cert.InDxXbcIdeal.nD Cert.InDxXbcIdeal.τ).loc Cert.InDxXbcIdeal.main_arg0)
          ∧ r.2.mem ((c.tc : Thread Cert.InDxXbcIdeal.nD Cert.InDxXbcIdeal.τ).loc Cert.InDxXbcIdeal.main_arg1) = m ((c.tc : Thread Cert.InDxXbcIdeal.nD Cert.InDxXbcIdeal.τ).loc Cert.InDxXbcIdeal.main_arg1)
          ∧ r.2.mem ((c.tc : Thread Cert.InDxXbcIdeal.nD Cert.InDxXbcIdeal.τ).loc Cert.InDxXbcIdeal.main_arg2) = m ((c.tc : Thread Cert.InDxXbcIdeal.nD Cert.InDxXbcIdeal.τ).loc Cert.InDxXbcIdeal.main_arg2))
      ∧ θ_run (Cert.InDxXbcReferenceIdeal.defs (F := Ideal)) (onTc (τ := Cert.InDxXbcReferenceIdeal.τ) (Cert.InDxXbcReferenceIdeal.main (F := Ideal))) ⟨m', fun _ => 0, g'⟩ (fun r => ∀ c : Dev Cert.InDxXbcReferenceIdeal.nD,
          r.2.mem ((c.tc : Thread Cert.InDxXbcReferenceIdeal.nD Cert.InDxXbcReferenceIdeal.τ).loc Cert.InDxXbcReferenceIdeal.main_v6) = v0 c
          ∧ r.2.mem ((c.tc : Thread Cert.InDxXbcReferenceIdeal.nD Cert.InDxXbcReferenceIdeal.τ).loc Cert.InDxXbcReferenceIdeal.main_arg0) = m' ((c.tc : Thread Cert.InDxXbcReferenceIdeal.nD Cert.InDxXbcReferenceIdeal.τ).loc Cert.InDxXbcReferenceIdeal.main_arg0)
          ∧ r.2.mem ((c.tc : Thread Cert.InDxXbcReferenceIdeal.nD Cert.InDxXbcReferenceIdeal.τ).loc Cert.InDxXbcReferenceIdeal.main_arg1) = m' ((c.tc : Thread Cert.InDxXbcReferenceIdeal.nD Cert.InDxXbcReferenceIdeal.τ).loc Cert.InDxXbcReferenceIdeal.main_arg1)
          ∧ r.2.mem ((c.tc : Thread Cert.InDxXbcReferenceIdeal.nD Cert.InDxXbcReferenceIdeal.τ).loc Cert.InDxXbcReferenceIdeal.main_arg2) = m' ((c.tc : Thread Cert.InDxXbcReferenceIdeal.nD Cert.InDxXbcReferenceIdeal.τ).loc Cert.InDxXbcReferenceIdeal.main_arg2))

def preserves_GdnDxQkv_GdnDxQkvIdeal : Prop :=
  True

def algebraic_GdnDxQkvIdeal_GdnDxQkvReferenceIdeal [hGdnDxQkvIdeal : Cert.GdnDxQkvIdeal.Facts] [hGdnDxQkvReferenceIdeal : Cert.GdnDxQkvReferenceIdeal.Facts] : Prop :=
  ∀ (m : (ℓ : Loc Cert.GdnDxQkvIdeal.nD Cert.GdnDxQkvIdeal.τ Cert.GdnDxQkvIdeal.sig) → Buf (Elt Ideal) ℓ) (g : Dev Cert.GdnDxQkvIdeal.nD → PrngReg)
    (m' : (ℓ : Loc Cert.GdnDxQkvReferenceIdeal.nD Cert.GdnDxQkvReferenceIdeal.τ Cert.GdnDxQkvReferenceIdeal.sig) → Buf (Elt Ideal) ℓ) (g' : Dev Cert.GdnDxQkvReferenceIdeal.nD → PrngReg), Pre_GdnDxQkvIdeal m →
    (∀ c : Dev Cert.GdnDxQkvIdeal.nD,
      m' ((c.tc : Thread Cert.GdnDxQkvReferenceIdeal.nD Cert.GdnDxQkvReferenceIdeal.τ).loc Cert.GdnDxQkvReferenceIdeal.main_arg0) = m ((c.tc : Thread Cert.GdnDxQkvIdeal.nD Cert.GdnDxQkvIdeal.τ).loc Cert.GdnDxQkvIdeal.main_arg0)
      ∧ m' ((c.tc : Thread Cert.GdnDxQkvReferenceIdeal.nD Cert.GdnDxQkvReferenceIdeal.τ).loc Cert.GdnDxQkvReferenceIdeal.main_arg1) = m ((c.tc : Thread Cert.GdnDxQkvIdeal.nD Cert.GdnDxQkvIdeal.τ).loc Cert.GdnDxQkvIdeal.main_arg1)) →
    ∃ (v0 : (c : Dev Cert.GdnDxQkvIdeal.nD) → Buf (Elt Ideal) ((c.tc : Thread Cert.GdnDxQkvIdeal.nD Cert.GdnDxQkvIdeal.τ).loc Cert.GdnDxQkvIdeal.main_v2)),
      θ_run (Cert.GdnDxQkvIdeal.defs (F := Ideal)) (onTc (τ := Cert.GdnDxQkvIdeal.τ) (Cert.GdnDxQkvIdeal.main (F := Ideal))) ⟨m, fun _ => 0, g⟩ (fun r => ∀ c : Dev Cert.GdnDxQkvIdeal.nD,
          r.2.mem ((c.tc : Thread Cert.GdnDxQkvIdeal.nD Cert.GdnDxQkvIdeal.τ).loc Cert.GdnDxQkvIdeal.main_v2) = v0 c
          ∧ r.2.mem ((c.tc : Thread Cert.GdnDxQkvIdeal.nD Cert.GdnDxQkvIdeal.τ).loc Cert.GdnDxQkvIdeal.main_arg0) = m ((c.tc : Thread Cert.GdnDxQkvIdeal.nD Cert.GdnDxQkvIdeal.τ).loc Cert.GdnDxQkvIdeal.main_arg0)
          ∧ r.2.mem ((c.tc : Thread Cert.GdnDxQkvIdeal.nD Cert.GdnDxQkvIdeal.τ).loc Cert.GdnDxQkvIdeal.main_arg1) = m ((c.tc : Thread Cert.GdnDxQkvIdeal.nD Cert.GdnDxQkvIdeal.τ).loc Cert.GdnDxQkvIdeal.main_arg1))
      ∧ θ_run (Cert.GdnDxQkvReferenceIdeal.defs (F := Ideal)) (onTc (τ := Cert.GdnDxQkvReferenceIdeal.τ) (Cert.GdnDxQkvReferenceIdeal.main (F := Ideal))) ⟨m', fun _ => 0, g'⟩ (fun r => ∀ c : Dev Cert.GdnDxQkvReferenceIdeal.nD,
          r.2.mem ((c.tc : Thread Cert.GdnDxQkvReferenceIdeal.nD Cert.GdnDxQkvReferenceIdeal.τ).loc Cert.GdnDxQkvReferenceIdeal.main_v5) = v0 c
          ∧ r.2.mem ((c.tc : Thread Cert.GdnDxQkvReferenceIdeal.nD Cert.GdnDxQkvReferenceIdeal.τ).loc Cert.GdnDxQkvReferenceIdeal.main_arg0) = m' ((c.tc : Thread Cert.GdnDxQkvReferenceIdeal.nD Cert.GdnDxQkvReferenceIdeal.τ).loc Cert.GdnDxQkvReferenceIdeal.main_arg0)
          ∧ r.2.mem ((c.tc : Thread Cert.GdnDxQkvReferenceIdeal.nD Cert.GdnDxQkvReferenceIdeal.τ).loc Cert.GdnDxQkvReferenceIdeal.main_arg1) = m' ((c.tc : Thread Cert.GdnDxQkvReferenceIdeal.nD Cert.GdnDxQkvReferenceIdeal.τ).loc Cert.GdnDxQkvReferenceIdeal.main_arg1))

def preserves_GdnDxZ_GdnDxZIdeal : Prop :=
  True

def algebraic_GdnDxZIdeal_GdnDxZReferenceIdeal [hGdnDxZIdeal : Cert.GdnDxZIdeal.Facts] [hGdnDxZReferenceIdeal : Cert.GdnDxZReferenceIdeal.Facts] : Prop :=
  ∀ (m : (ℓ : Loc Cert.GdnDxZIdeal.nD Cert.GdnDxZIdeal.τ Cert.GdnDxZIdeal.sig) → Buf (Elt Ideal) ℓ) (g : Dev Cert.GdnDxZIdeal.nD → PrngReg)
    (m' : (ℓ : Loc Cert.GdnDxZReferenceIdeal.nD Cert.GdnDxZReferenceIdeal.τ Cert.GdnDxZReferenceIdeal.sig) → Buf (Elt Ideal) ℓ) (g' : Dev Cert.GdnDxZReferenceIdeal.nD → PrngReg), Pre_GdnDxZIdeal m →
    (∀ c : Dev Cert.GdnDxZIdeal.nD,
      m' ((c.tc : Thread Cert.GdnDxZReferenceIdeal.nD Cert.GdnDxZReferenceIdeal.τ).loc Cert.GdnDxZReferenceIdeal.main_arg0) = m ((c.tc : Thread Cert.GdnDxZIdeal.nD Cert.GdnDxZIdeal.τ).loc Cert.GdnDxZIdeal.main_arg0)
      ∧ m' ((c.tc : Thread Cert.GdnDxZReferenceIdeal.nD Cert.GdnDxZReferenceIdeal.τ).loc Cert.GdnDxZReferenceIdeal.main_arg1) = m ((c.tc : Thread Cert.GdnDxZIdeal.nD Cert.GdnDxZIdeal.τ).loc Cert.GdnDxZIdeal.main_arg1)
      ∧ m' ((c.tc : Thread Cert.GdnDxZReferenceIdeal.nD Cert.GdnDxZReferenceIdeal.τ).loc Cert.GdnDxZReferenceIdeal.main_arg2) = m ((c.tc : Thread Cert.GdnDxZIdeal.nD Cert.GdnDxZIdeal.τ).loc Cert.GdnDxZIdeal.main_arg2)) →
    ∃ (v0 : (c : Dev Cert.GdnDxZIdeal.nD) → Buf (Elt Ideal) ((c.tc : Thread Cert.GdnDxZIdeal.nD Cert.GdnDxZIdeal.τ).loc Cert.GdnDxZIdeal.main_v6)),
      θ_run (Cert.GdnDxZIdeal.defs (F := Ideal)) (onTc (τ := Cert.GdnDxZIdeal.τ) (Cert.GdnDxZIdeal.main (F := Ideal))) ⟨m, fun _ => 0, g⟩ (fun r => ∀ c : Dev Cert.GdnDxZIdeal.nD,
          r.2.mem ((c.tc : Thread Cert.GdnDxZIdeal.nD Cert.GdnDxZIdeal.τ).loc Cert.GdnDxZIdeal.main_v6) = v0 c
          ∧ r.2.mem ((c.tc : Thread Cert.GdnDxZIdeal.nD Cert.GdnDxZIdeal.τ).loc Cert.GdnDxZIdeal.main_arg0) = m ((c.tc : Thread Cert.GdnDxZIdeal.nD Cert.GdnDxZIdeal.τ).loc Cert.GdnDxZIdeal.main_arg0)
          ∧ r.2.mem ((c.tc : Thread Cert.GdnDxZIdeal.nD Cert.GdnDxZIdeal.τ).loc Cert.GdnDxZIdeal.main_arg1) = m ((c.tc : Thread Cert.GdnDxZIdeal.nD Cert.GdnDxZIdeal.τ).loc Cert.GdnDxZIdeal.main_arg1)
          ∧ r.2.mem ((c.tc : Thread Cert.GdnDxZIdeal.nD Cert.GdnDxZIdeal.τ).loc Cert.GdnDxZIdeal.main_arg2) = m ((c.tc : Thread Cert.GdnDxZIdeal.nD Cert.GdnDxZIdeal.τ).loc Cert.GdnDxZIdeal.main_arg2))
      ∧ θ_run (Cert.GdnDxZReferenceIdeal.defs (F := Ideal)) (onTc (τ := Cert.GdnDxZReferenceIdeal.τ) (Cert.GdnDxZReferenceIdeal.main (F := Ideal))) ⟨m', fun _ => 0, g'⟩ (fun r => ∀ c : Dev Cert.GdnDxZReferenceIdeal.nD,
          r.2.mem ((c.tc : Thread Cert.GdnDxZReferenceIdeal.nD Cert.GdnDxZReferenceIdeal.τ).loc Cert.GdnDxZReferenceIdeal.main_v7) = v0 c
          ∧ r.2.mem ((c.tc : Thread Cert.GdnDxZReferenceIdeal.nD Cert.GdnDxZReferenceIdeal.τ).loc Cert.GdnDxZReferenceIdeal.main_arg0) = m' ((c.tc : Thread Cert.GdnDxZReferenceIdeal.nD Cert.GdnDxZReferenceIdeal.τ).loc Cert.GdnDxZReferenceIdeal.main_arg0)
          ∧ r.2.mem ((c.tc : Thread Cert.GdnDxZReferenceIdeal.nD Cert.GdnDxZReferenceIdeal.τ).loc Cert.GdnDxZReferenceIdeal.main_arg1) = m' ((c.tc : Thread Cert.GdnDxZReferenceIdeal.nD Cert.GdnDxZReferenceIdeal.τ).loc Cert.GdnDxZReferenceIdeal.main_arg1)
          ∧ r.2.mem ((c.tc : Thread Cert.GdnDxZReferenceIdeal.nD Cert.GdnDxZReferenceIdeal.τ).loc Cert.GdnDxZReferenceIdeal.main_arg2) = m' ((c.tc : Thread Cert.GdnDxZReferenceIdeal.nD Cert.GdnDxZReferenceIdeal.τ).loc Cert.GdnDxZReferenceIdeal.main_arg2))

def preserves_InDwXbc_InDwXbcIdeal : Prop :=
  True

def algebraic_InDwXbcIdeal_InDwXbcReferenceIdeal [hInDwXbcIdeal : Cert.InDwXbcIdeal.Facts] [hInDwXbcReferenceIdeal : Cert.InDwXbcReferenceIdeal.Facts] : Prop :=
  ∀ (m : (ℓ : Loc Cert.InDwXbcIdeal.nD Cert.InDwXbcIdeal.τ Cert.InDwXbcIdeal.sig) → Buf (Elt Ideal) ℓ) (g : Dev Cert.InDwXbcIdeal.nD → PrngReg)
    (m' : (ℓ : Loc Cert.InDwXbcReferenceIdeal.nD Cert.InDwXbcReferenceIdeal.τ Cert.InDwXbcReferenceIdeal.sig) → Buf (Elt Ideal) ℓ) (g' : Dev Cert.InDwXbcReferenceIdeal.nD → PrngReg), Pre_InDwXbcIdeal m →
    (∀ c : Dev Cert.InDwXbcIdeal.nD,
      m' ((c.tc : Thread Cert.InDwXbcReferenceIdeal.nD Cert.InDwXbcReferenceIdeal.τ).loc Cert.InDwXbcReferenceIdeal.main_arg0) = m ((c.tc : Thread Cert.InDwXbcIdeal.nD Cert.InDwXbcIdeal.τ).loc Cert.InDwXbcIdeal.main_arg0)
      ∧ m' ((c.tc : Thread Cert.InDwXbcReferenceIdeal.nD Cert.InDwXbcReferenceIdeal.τ).loc Cert.InDwXbcReferenceIdeal.main_arg1) = m ((c.tc : Thread Cert.InDwXbcIdeal.nD Cert.InDwXbcIdeal.τ).loc Cert.InDwXbcIdeal.main_arg1)) →
    ∃ (v0 : (c : Dev Cert.InDwXbcIdeal.nD) → Buf (Elt Ideal) ((c.tc : Thread Cert.InDwXbcIdeal.nD Cert.InDwXbcIdeal.τ).loc Cert.InDwXbcIdeal.main_v0)),
      θ_run (Cert.InDwXbcIdeal.defs (F := Ideal)) (onTc (τ := Cert.InDwXbcIdeal.τ) (Cert.InDwXbcIdeal.main (F := Ideal))) ⟨m, fun _ => 0, g⟩ (fun r => ∀ c : Dev Cert.InDwXbcIdeal.nD,
          r.2.mem ((c.tc : Thread Cert.InDwXbcIdeal.nD Cert.InDwXbcIdeal.τ).loc Cert.InDwXbcIdeal.main_v0) = v0 c
          ∧ r.2.mem ((c.tc : Thread Cert.InDwXbcIdeal.nD Cert.InDwXbcIdeal.τ).loc Cert.InDwXbcIdeal.main_arg0) = m ((c.tc : Thread Cert.InDwXbcIdeal.nD Cert.InDwXbcIdeal.τ).loc Cert.InDwXbcIdeal.main_arg0)
          ∧ r.2.mem ((c.tc : Thread Cert.InDwXbcIdeal.nD Cert.InDwXbcIdeal.τ).loc Cert.InDwXbcIdeal.main_arg1) = m ((c.tc : Thread Cert.InDwXbcIdeal.nD Cert.InDwXbcIdeal.τ).loc Cert.InDwXbcIdeal.main_arg1))
      ∧ θ_run (Cert.InDwXbcReferenceIdeal.defs (F := Ideal)) (onTc (τ := Cert.InDwXbcReferenceIdeal.τ) (Cert.InDwXbcReferenceIdeal.main (F := Ideal))) ⟨m', fun _ => 0, g'⟩ (fun r => ∀ c : Dev Cert.InDwXbcReferenceIdeal.nD,
          r.2.mem ((c.tc : Thread Cert.InDwXbcReferenceIdeal.nD Cert.InDwXbcReferenceIdeal.τ).loc Cert.InDwXbcReferenceIdeal.main_v5) = v0 c
          ∧ r.2.mem ((c.tc : Thread Cert.InDwXbcReferenceIdeal.nD Cert.InDwXbcReferenceIdeal.τ).loc Cert.InDwXbcReferenceIdeal.main_arg0) = m' ((c.tc : Thread Cert.InDwXbcReferenceIdeal.nD Cert.InDwXbcReferenceIdeal.τ).loc Cert.InDwXbcReferenceIdeal.main_arg0)
          ∧ r.2.mem ((c.tc : Thread Cert.InDwXbcReferenceIdeal.nD Cert.InDwXbcReferenceIdeal.τ).loc Cert.InDwXbcReferenceIdeal.main_arg1) = m' ((c.tc : Thread Cert.InDwXbcReferenceIdeal.nD Cert.InDwXbcReferenceIdeal.τ).loc Cert.InDwXbcReferenceIdeal.main_arg1))

def preserves_InDwZ_InDwZIdeal : Prop :=
  True

def algebraic_InDwZIdeal_InDwZReferenceIdeal [hInDwZIdeal : Cert.InDwZIdeal.Facts] [hInDwZReferenceIdeal : Cert.InDwZReferenceIdeal.Facts] : Prop :=
  ∀ (m : (ℓ : Loc Cert.InDwZIdeal.nD Cert.InDwZIdeal.τ Cert.InDwZIdeal.sig) → Buf (Elt Ideal) ℓ) (g : Dev Cert.InDwZIdeal.nD → PrngReg)
    (m' : (ℓ : Loc Cert.InDwZReferenceIdeal.nD Cert.InDwZReferenceIdeal.τ Cert.InDwZReferenceIdeal.sig) → Buf (Elt Ideal) ℓ) (g' : Dev Cert.InDwZReferenceIdeal.nD → PrngReg), Pre_InDwZIdeal m →
    (∀ c : Dev Cert.InDwZIdeal.nD,
      m' ((c.tc : Thread Cert.InDwZReferenceIdeal.nD Cert.InDwZReferenceIdeal.τ).loc Cert.InDwZReferenceIdeal.main_arg0) = m ((c.tc : Thread Cert.InDwZIdeal.nD Cert.InDwZIdeal.τ).loc Cert.InDwZIdeal.main_arg0)
      ∧ m' ((c.tc : Thread Cert.InDwZReferenceIdeal.nD Cert.InDwZReferenceIdeal.τ).loc Cert.InDwZReferenceIdeal.main_arg1) = m ((c.tc : Thread Cert.InDwZIdeal.nD Cert.InDwZIdeal.τ).loc Cert.InDwZIdeal.main_arg1)) →
    ∃ (v0 : (c : Dev Cert.InDwZIdeal.nD) → Buf (Elt Ideal) ((c.tc : Thread Cert.InDwZIdeal.nD Cert.InDwZIdeal.τ).loc Cert.InDwZIdeal.main_v0)),
      θ_run (Cert.InDwZIdeal.defs (F := Ideal)) (onTc (τ := Cert.InDwZIdeal.τ) (Cert.InDwZIdeal.main (F := Ideal))) ⟨m, fun _ => 0, g⟩ (fun r => ∀ c : Dev Cert.InDwZIdeal.nD,
          r.2.mem ((c.tc : Thread Cert.InDwZIdeal.nD Cert.InDwZIdeal.τ).loc Cert.InDwZIdeal.main_v0) = v0 c
          ∧ r.2.mem ((c.tc : Thread Cert.InDwZIdeal.nD Cert.InDwZIdeal.τ).loc Cert.InDwZIdeal.main_arg0) = m ((c.tc : Thread Cert.InDwZIdeal.nD Cert.InDwZIdeal.τ).loc Cert.InDwZIdeal.main_arg0)
          ∧ r.2.mem ((c.tc : Thread Cert.InDwZIdeal.nD Cert.InDwZIdeal.τ).loc Cert.InDwZIdeal.main_arg1) = m ((c.tc : Thread Cert.InDwZIdeal.nD Cert.InDwZIdeal.τ).loc Cert.InDwZIdeal.main_arg1))
      ∧ θ_run (Cert.InDwZReferenceIdeal.defs (F := Ideal)) (onTc (τ := Cert.InDwZReferenceIdeal.τ) (Cert.InDwZReferenceIdeal.main (F := Ideal))) ⟨m', fun _ => 0, g'⟩ (fun r => ∀ c : Dev Cert.InDwZReferenceIdeal.nD,
          r.2.mem ((c.tc : Thread Cert.InDwZReferenceIdeal.nD Cert.InDwZReferenceIdeal.τ).loc Cert.InDwZReferenceIdeal.main_v5) = v0 c
          ∧ r.2.mem ((c.tc : Thread Cert.InDwZReferenceIdeal.nD Cert.InDwZReferenceIdeal.τ).loc Cert.InDwZReferenceIdeal.main_arg0) = m' ((c.tc : Thread Cert.InDwZReferenceIdeal.nD Cert.InDwZReferenceIdeal.τ).loc Cert.InDwZReferenceIdeal.main_arg0)
          ∧ r.2.mem ((c.tc : Thread Cert.InDwZReferenceIdeal.nD Cert.InDwZReferenceIdeal.τ).loc Cert.InDwZReferenceIdeal.main_arg1) = m' ((c.tc : Thread Cert.InDwZReferenceIdeal.nD Cert.InDwZReferenceIdeal.τ).loc Cert.InDwZReferenceIdeal.main_arg1))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v4) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v4) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v3) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v3) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2))

def preserves_Fwd_FwdIdeal : Prop :=
  IdealRules.named_const.Statement Cert.FwdIdeal.κ "mask" .f32 0xF149F2CA#32 ⊥

def algebraic_FwdIdeal_FwdReferenceIdeal_pre_finite [hFwdIdeal : Cert.FwdIdeal.Facts] [hFwdReferenceIdeal : Cert.FwdReferenceIdeal.Facts] [hPre_finite : Cert.Pre_finite.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdIdeal_finite m →
    (∀ c : Dev Cert.FwdIdeal.nD,
      m' ((c.tc : Thread Cert.FwdReferenceIdeal.nD Cert.FwdReferenceIdeal.τ).loc Cert.FwdReferenceIdeal.main_arg0) = m ((c.tc : Thread Cert.FwdIdeal.nD Cert.FwdIdeal.τ).loc Cert.FwdIdeal.main_arg0)
      ∧ m' ((c.tc : Thread Cert.FwdReferenceIdeal.nD Cert.FwdReferenceIdeal.τ).loc Cert.FwdReferenceIdeal.main_arg1) = m ((c.tc : Thread Cert.FwdIdeal.nD Cert.FwdIdeal.τ).loc Cert.FwdIdeal.main_arg1)
      ∧ m' ((c.tc : Thread Cert.FwdReferenceIdeal.nD Cert.FwdReferenceIdeal.τ).loc Cert.FwdReferenceIdeal.main_arg2) = m ((c.tc : Thread Cert.FwdIdeal.nD Cert.FwdIdeal.τ).loc Cert.FwdIdeal.main_arg2)
      ∧ m' ((c.tc : Thread Cert.FwdReferenceIdeal.nD Cert.FwdReferenceIdeal.τ).loc Cert.FwdReferenceIdeal.main_arg3) = m ((c.tc : Thread Cert.FwdIdeal.nD Cert.FwdIdeal.τ).loc Cert.FwdIdeal.main_arg3)
      ∧ m' ((c.tc : Thread Cert.FwdReferenceIdeal.nD Cert.FwdReferenceIdeal.τ).loc Cert.FwdReferenceIdeal.main_arg4) = m ((c.tc : Thread Cert.FwdIdeal.nD Cert.FwdIdeal.τ).loc Cert.FwdIdeal.main_arg4)
      ∧ m' ((c.tc : Thread Cert.FwdReferenceIdeal.nD Cert.FwdReferenceIdeal.τ).loc Cert.FwdReferenceIdeal.main_arg5) = m ((c.tc : Thread Cert.FwdIdeal.nD Cert.FwdIdeal.τ).loc Cert.FwdIdeal.main_arg5)
      ∧ m' ((c.tc : Thread Cert.FwdReferenceIdeal.nD Cert.FwdReferenceIdeal.τ).loc Cert.FwdReferenceIdeal.main_arg6) = m ((c.tc : Thread Cert.FwdIdeal.nD Cert.FwdIdeal.τ).loc Cert.FwdIdeal.main_arg6)) →
    ∃ (v0 : (c : Dev Cert.FwdIdeal.nD) → Buf (Elt Ideal) ((c.tc : Thread Cert.FwdIdeal.nD Cert.FwdIdeal.τ).loc Cert.FwdIdeal.main_v14_0)) (v1 : (c : Dev Cert.FwdIdeal.nD) → Buf (Elt Ideal) ((c.tc : Thread Cert.FwdIdeal.nD Cert.FwdIdeal.τ).loc Cert.FwdIdeal.main_v14_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v14_0) = v0 c
          ∧ r.2.mem ((c.tc : Thread Cert.FwdIdeal.nD Cert.FwdIdeal.τ).loc Cert.FwdIdeal.main_v14_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v38) = v0 c
          ∧ r.2.mem ((c.tc : Thread Cert.FwdReferenceIdeal.nD Cert.FwdReferenceIdeal.τ).loc Cert.FwdReferenceIdeal.main_v83) = v1 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4)
          ∧ r.2.mem ((c.tc : Thread Cert.FwdReferenceIdeal.nD Cert.FwdReferenceIdeal.τ).loc Cert.FwdReferenceIdeal.main_arg5) = m' ((c.tc : Thread Cert.FwdReferenceIdeal.nD Cert.FwdReferenceIdeal.τ).loc Cert.FwdReferenceIdeal.main_arg5)
          ∧ r.2.mem ((c.tc : Thread Cert.FwdReferenceIdeal.nD Cert.FwdReferenceIdeal.τ).loc Cert.FwdReferenceIdeal.main_arg6) = m' ((c.tc : Thread Cert.FwdReferenceIdeal.nD Cert.FwdReferenceIdeal.τ).loc Cert.FwdReferenceIdeal.main_arg6))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v23) = v0 c
          ∧ r.2.mem ((c.tc : Thread Cert.AdamInReferenceIdeal.nD Cert.AdamInReferenceIdeal.τ).loc Cert.AdamInReferenceIdeal.main_v4) = v1 c
          ∧ r.2.mem ((c.tc : Thread Cert.AdamInReferenceIdeal.nD Cert.AdamInReferenceIdeal.τ).loc Cert.AdamInReferenceIdeal.main_v10) = v2 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v23) = v0 c
          ∧ r.2.mem ((c.tc : Thread Cert.AdamOutReferenceIdeal.nD Cert.AdamOutReferenceIdeal.τ).loc Cert.AdamOutReferenceIdeal.main_v4) = v1 c
          ∧ r.2.mem ((c.tc : Thread Cert.AdamOutReferenceIdeal.nD Cert.AdamOutReferenceIdeal.τ).loc Cert.AdamOutReferenceIdeal.main_v10) = v2 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v4) = v1 c
          ∧ r.2.mem ((c.tc : Thread Cert.AdamSmallReferenceIdeal.nD Cert.AdamSmallReferenceIdeal.τ).loc Cert.AdamSmallReferenceIdeal.main_v10) = v2 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v38) = v0 c
          ∧ r.2.mem ((c.tc : Thread Cert.NormReferenceIdeal.nD Cert.NormReferenceIdeal.τ).loc Cert.NormReferenceIdeal.main_v23) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def Claim : Prop :=
  ∃ (hKernel : Cert.Kernel.Facts) (hKernelIdeal : Cert.KernelIdeal.Facts) (hReferenceIdeal : Cert.ReferenceIdeal.Facts) (hInDxZ : Cert.InDxZ.Facts) (hInDxZIdeal : Cert.InDxZIdeal.Facts) (hInDxZReferenceIdeal : Cert.InDxZReferenceIdeal.Facts) (hInDxXbc : Cert.InDxXbc.Facts) (hInDxXbcIdeal : Cert.InDxXbcIdeal.Facts) (hInDxXbcReferenceIdeal : Cert.InDxXbcReferenceIdeal.Facts) (hGdnDxQkv : Cert.GdnDxQkv.Facts) (hGdnDxQkvIdeal : Cert.GdnDxQkvIdeal.Facts) (hGdnDxQkvReferenceIdeal : Cert.GdnDxQkvReferenceIdeal.Facts) (hGdnDxZ : Cert.GdnDxZ.Facts) (hGdnDxZIdeal : Cert.GdnDxZIdeal.Facts) (hGdnDxZReferenceIdeal : Cert.GdnDxZReferenceIdeal.Facts) (hInDwXbc : Cert.InDwXbc.Facts) (hInDwXbcIdeal : Cert.InDwXbcIdeal.Facts) (hInDwXbcReferenceIdeal : Cert.InDwXbcReferenceIdeal.Facts) (hInDwZ : Cert.InDwZ.Facts) (hInDwZIdeal : Cert.InDwZIdeal.Facts) (hInDwZReferenceIdeal : Cert.InDwZReferenceIdeal.Facts) (hOutDx : Cert.OutDx.Facts) (hOutDxIdeal : Cert.OutDxIdeal.Facts) (hOutDxReferenceIdeal : Cert.OutDxReferenceIdeal.Facts) (hOutDw : Cert.OutDw.Facts) (hOutDwIdeal : Cert.OutDwIdeal.Facts) (hOutDwReferenceIdeal : Cert.OutDwReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hFwd : Cert.Fwd.Facts) (hFwdIdeal : Cert.FwdIdeal.Facts) (hFwdReferenceIdeal : Cert.FwdReferenceIdeal.Facts) (hAdamIn : Cert.AdamIn.Facts) (hAdamInIdeal : Cert.AdamInIdeal.Facts) (hAdamInReferenceIdeal : Cert.AdamInReferenceIdeal.Facts) (hAdamOut : Cert.AdamOut.Facts) (hAdamOutIdeal : Cert.AdamOutIdeal.Facts) (hAdamOutReferenceIdeal : Cert.AdamOutReferenceIdeal.Facts) (hAdamSmall : Cert.AdamSmall.Facts) (hAdamSmallIdeal : Cert.AdamSmallIdeal.Facts) (hAdamSmallReferenceIdeal : Cert.AdamSmallReferenceIdeal.Facts) (hNorm : Cert.Norm.Facts) (hNormIdeal : Cert.NormIdeal.Facts) (hNormReferenceIdeal : Cert.NormReferenceIdeal.Facts) (hPre_smooth : Cert.Pre_smooth.Facts) (hPre_finite : Cert.Pre_finite.Facts),
    quiescent_Kernel (hKernel := hKernel)
    ∧ quiescent_KernelIdeal (hKernelIdeal := hKernelIdeal)
    ∧ quiescent_KernelIdeal_pre_smooth (hKernelIdeal := hKernelIdeal) (hPre_smooth := hPre_smooth)
    ∧ quiescent_ReferenceIdeal (hReferenceIdeal := hReferenceIdeal)
    ∧ quiescent_ReferenceIdeal_pre_smooth (hReferenceIdeal := hReferenceIdeal) (hPre_smooth := hPre_smooth)
    ∧ quiescent_InDxZ (hInDxZ := hInDxZ)
    ∧ quiescent_InDxZIdeal (hInDxZIdeal := hInDxZIdeal)
    ∧ quiescent_InDxZReferenceIdeal (hInDxZReferenceIdeal := hInDxZReferenceIdeal)
    ∧ quiescent_InDxXbc (hInDxXbc := hInDxXbc)
    ∧ quiescent_InDxXbcIdeal (hInDxXbcIdeal := hInDxXbcIdeal)
    ∧ quiescent_InDxXbcReferenceIdeal (hInDxXbcReferenceIdeal := hInDxXbcReferenceIdeal)
    ∧ quiescent_GdnDxQkv (hGdnDxQkv := hGdnDxQkv)
    ∧ quiescent_GdnDxQkvIdeal (hGdnDxQkvIdeal := hGdnDxQkvIdeal)
    ∧ quiescent_GdnDxQkvReferenceIdeal (hGdnDxQkvReferenceIdeal := hGdnDxQkvReferenceIdeal)
    ∧ quiescent_GdnDxZ (hGdnDxZ := hGdnDxZ)
    ∧ quiescent_GdnDxZIdeal (hGdnDxZIdeal := hGdnDxZIdeal)
    ∧ quiescent_GdnDxZReferenceIdeal (hGdnDxZReferenceIdeal := hGdnDxZReferenceIdeal)
    ∧ quiescent_InDwXbc (hInDwXbc := hInDwXbc)
    ∧ quiescent_InDwXbcIdeal (hInDwXbcIdeal := hInDwXbcIdeal)
    ∧ quiescent_InDwXbcReferenceIdeal (hInDwXbcReferenceIdeal := hInDwXbcReferenceIdeal)
    ∧ quiescent_InDwZ (hInDwZ := hInDwZ)
    ∧ quiescent_InDwZIdeal (hInDwZIdeal := hInDwZIdeal)
    ∧ quiescent_InDwZReferenceIdeal (hInDwZReferenceIdeal := hInDwZReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Fwd (hFwd := hFwd)
    ∧ quiescent_FwdIdeal (hFwdIdeal := hFwdIdeal)
    ∧ quiescent_FwdIdeal_pre_finite (hFwdIdeal := hFwdIdeal) (hPre_finite := hPre_finite)
    ∧ quiescent_FwdReferenceIdeal (hFwdReferenceIdeal := hFwdReferenceIdeal)
    ∧ quiescent_FwdReferenceIdeal_pre_finite (hFwdReferenceIdeal := hFwdReferenceIdeal) (hPre_finite := hPre_finite)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_Norm (hNorm := hNorm)
    ∧ quiescent_NormIdeal (hNormIdeal := hNormIdeal)
    ∧ quiescent_NormReferenceIdeal (hNormReferenceIdeal := hNormReferenceIdeal)
    ∧ preserves_Kernel_KernelIdeal
    ∧ algebraic_KernelIdeal_ReferenceIdeal_pre_smooth (hKernelIdeal := hKernelIdeal) (hReferenceIdeal := hReferenceIdeal) (hPre_smooth := hPre_smooth)
    ∧ preserves_InDxZ_InDxZIdeal
    ∧ algebraic_InDxZIdeal_InDxZReferenceIdeal (hInDxZIdeal := hInDxZIdeal) (hInDxZReferenceIdeal := hInDxZReferenceIdeal)
    ∧ preserves_InDxXbc_InDxXbcIdeal
    ∧ algebraic_InDxXbcIdeal_InDxXbcReferenceIdeal (hInDxXbcIdeal := hInDxXbcIdeal) (hInDxXbcReferenceIdeal := hInDxXbcReferenceIdeal)
    ∧ preserves_GdnDxQkv_GdnDxQkvIdeal
    ∧ algebraic_GdnDxQkvIdeal_GdnDxQkvReferenceIdeal (hGdnDxQkvIdeal := hGdnDxQkvIdeal) (hGdnDxQkvReferenceIdeal := hGdnDxQkvReferenceIdeal)
    ∧ preserves_GdnDxZ_GdnDxZIdeal
    ∧ algebraic_GdnDxZIdeal_GdnDxZReferenceIdeal (hGdnDxZIdeal := hGdnDxZIdeal) (hGdnDxZReferenceIdeal := hGdnDxZReferenceIdeal)
    ∧ preserves_InDwXbc_InDwXbcIdeal
    ∧ algebraic_InDwXbcIdeal_InDwXbcReferenceIdeal (hInDwXbcIdeal := hInDwXbcIdeal) (hInDwXbcReferenceIdeal := hInDwXbcReferenceIdeal)
    ∧ preserves_InDwZ_InDwZIdeal
    ∧ algebraic_InDwZIdeal_InDwZReferenceIdeal (hInDwZIdeal := hInDwZIdeal) (hInDwZReferenceIdeal := hInDwZReferenceIdeal)
    ∧ preserves_OutDx_OutDxIdeal
    ∧ algebraic_OutDxIdeal_OutDxReferenceIdeal (hOutDxIdeal := hOutDxIdeal) (hOutDxReferenceIdeal := hOutDxReferenceIdeal)
    ∧ preserves_OutDw_OutDwIdeal
    ∧ algebraic_OutDwIdeal_OutDwReferenceIdeal (hOutDwIdeal := hOutDwIdeal) (hOutDwReferenceIdeal := hOutDwReferenceIdeal)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Fwd_FwdIdeal
    ∧ algebraic_FwdIdeal_FwdReferenceIdeal_pre_finite (hFwdIdeal := hFwdIdeal) (hFwdReferenceIdeal := hFwdReferenceIdeal) (hPre_finite := hPre_finite)
    ∧ preserves_AdamIn_AdamInIdeal
    ∧ algebraic_AdamInIdeal_AdamInReferenceIdeal (hAdamInIdeal := hAdamInIdeal) (hAdamInReferenceIdeal := hAdamInReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_Norm_NormIdeal
    ∧ algebraic_NormIdeal_NormReferenceIdeal (hNormIdeal := hNormIdeal) (hNormReferenceIdeal := hNormReferenceIdeal)
-- ==== Pre_finite.lean ====
abbrev S8x16384x256 : Shape := ⟨3, ![8, 16384, 256]⟩
abbrev S8x16384x128 : Shape := ⟨3, ![8, 16384, 128]⟩
abbrev S16384x32 : Shape := ⟨2, ![16384, 32]⟩
abbrev S32 : Shape := ⟨1, ![32]⟩
abbrev S_ : Shape := ⟨0, ![]⟩

class Facts : Prop where
  bcast_S_S8x16384x256 : S_.BroadcastsInDim S8x16384x256 (![] : Fin 0 → Fin S8x16384x256.rank)
  reducesTo_S8x16384x256_S_d0_1_2 : S8x16384x256.ReducesTo [0, 1, 2] S_
  h_S_ : 0 < S_.numel
  bcast_S_S8x16384x128 : S_.BroadcastsInDim S8x16384x128 (![] : Fin 0 → Fin S8x16384x128.rank)
  reducesTo_S8x16384x128_S_d0_1_2 : S8x16384x128.ReducesTo [0, 1, 2] S_
  bcast_S_S16384x32 : S_.BroadcastsInDim S16384x32 (![] : Fin 0 → Fin S16384x32.rank)
  reducesTo_S16384x32_S_d0_1 : S16384x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg5 : FVec F S32 .f32) (main_arg6 : FVec F S32 .f32) (main_v5 : IVec S_ 1) (main_v11 : IVec S_ 1) (main_v17 : IVec S_ 1) (main_v23 : IVec S_ 1) (main_v29 : IVec S_ 1) (main_v31 : IVec S32 1) : IVec S_ 1 :=
  let main_cst_14 : FVec F S_ .f32 := constant S_ .f32 0x7F800000#32
  let main_v32 : FVec F S32 .f32 := broadcastInDim S32 ![] bcast_S_S32 main_cst_14
  let main_v33 : IVec S32 1 := cmpf .olt main_arg5 main_v32
  let main_v34 : IVec S32 1 := andi main_v31 main_v33
  let main_c_15 : IVec S_ 1 := constantI S_ 1 1#1
  let main_v35 : IVec S_ 1 := (fun x v => Host.reduce IntOp.andi x v reducesTo_S32_S_d0 h_S_) main_v34 main_c_15
  let main_cst_16 : FVec F S_ .f32 := constant S_ .f32 0xFF800000#32
  let main_v36 : FVec F S32 .f32 := broadcastInDim S32 ![] bcast_S_S32 main_cst_16
  let main_v37 : IVec S32 1 := cmpf .ogt main_arg6 main_v36
  let main_cst_17 : FVec F S_ .f32 := constant S_ .f32 0x7F800000#32
  let main_v38 : FVec F S32 .f32 := broadcastInDim S32 ![] bcast_S_S32 main_cst_17
  let main_v39 : IVec S32 1 := cmpf .olt main_arg6 main_v38
  let main_v40 : IVec S32 1 := andi main_v37 main_v39
  let main_c_18 : IVec S_ 1 := constantI S_ 1 1#1
  let main_v41 : IVec S_ 1 := (fun x v => Host.reduce IntOp.andi x v reducesTo_S32_S_d0 h_S_) main_v40 main_c_18
  let main_v42 : IVec S_ 1 := andi main_v5 main_v11
  let main_v43 : IVec S_ 1 := andi main_v42 main_v17
  let main_v44 : IVec S_ 1 := andi main_v43 main_v23
  let main_v45 : IVec S_ 1 := andi main_v44 main_v29
  let main_v46 : IVec S_ 1 := andi main_v45 main_v35
  let main_v47 : IVec S_ 1 := andi main_v46 main_v41
  main_v47

def fn_part1 {F : FTy → Type} [FloatOps F] (main_arg3 : FVec F S16384x32 .f32) (main_arg4 : FVec F S32 .f32) (main_arg5 : FVec F S32 .f32) (main_arg6 : FVec F S32 .f32) (main_v5 : IVec S_ 1) (main_v11 : IVec S_ 1) (main_v13 : IVec S8x16384x128 1) (main_v15 : IVec S8x16384x128 1) : IVec S_ 1 :=
  let main_v16 : IVec S8x16384x128 1 := andi main_v13 main_v15
  let main_c_6 : IVec S_ 1 := constantI S_ 1 1#1
  let main_v17 : IVec S_ 1 := (fun x v => Host.reduce IntOp.andi x v reducesTo_S8x16384x128_S_d0_1_2 h_S_) main_v16 main_c_6
  let main_cst_7 : FVec F S_ .f32 := constant S_ .f32 0xFF800000#32
  let main_v18 : FVec F S16384x32 .f32 := broadcastInDim S16384x32 ![] bcast_S_S16384x32 main_cst_7
  let main_v19 : IVec S16384x32 1 := cmpf .ogt main_arg3 main_v18
  let main_cst_8 : FVec F S_ .f32 := constant S_ .f32 0x7F800000#32
  let main_v20 : FVec F S16384x32 .f32 := broadcastInDim S16384x32 ![] bcast_S_S16384x32 main_cst_8
  let main_v21 : IVec S16384x32 1 := cmpf .olt main_arg3 main_v20
  let main_v22 : IVec S16384x32 1 := andi main_v19 main_v21
  let main_c_9 : IVec S_ 1 := constantI S_ 1 1#1
  let main_v23 : IVec S_ 1 := (fun x v => Host.reduce IntOp.andi x v reducesTo_S16384x32_S_d0_1 h_S_) main_v22 main_c_9
  let main_cst_10 : FVec F S_ .f32 := constant S_ .f32 0xFF800000#32
  let main_v24 : FVec F S32 .f32 := broadcastInDim S32 ![] bcast_S_S32 main_cst_10
  let main_v25 : IVec S32 1 := cmpf .ogt main_arg4 main_v24
  let main_cst_11 : FVec F S_ .f32 := constant S_ .f32 0x7F800000#32
  let main_v26 : FVec F S32 .f32 := broadcastInDim S32 ![] bcast_S_S32 main_cst_11
  let main_v27 : IVec S32 1 := cmpf .olt main_arg4 main_v26
  let main_v28 : IVec S32 1 := andi main_v25 main_v27
  let main_c_12 : IVec S_ 1 := constantI S_ 1 1#1
  let main_v29 : IVec S_ 1 := (fun x v => Host.reduce IntOp.andi x v reducesTo_S32_S_d0 h_S_) main_v28 main_c_12
  let main_cst_13 : FVec F S_ .f32 := constant S_ .f32 0xFF800000#32
  let main_v30 : FVec F S32 .f32 := broadcastInDim S32 ![] bcast_S_S32 main_cst_13
  let main_v31 : IVec S32 1 := cmpf .ogt main_arg5 main_v30
  fn_part2 (F := F) main_arg5 main_arg6 main_v5 main_v11 main_v17 main_v23 main_v29 main_v31

def fn {F : FTy → Type} [FloatOps F] (main_arg0 : FVec F S8x16384x256 .f32) (main_arg1 : FVec F S8x16384x128 .f32) (main_arg2 : FVec F S8x16384x128 .f32) (main_arg3 : FVec F S16384x32 .f32) (main_arg4 : FVec F S32 .f32) (main_arg5 : FVec F S32 .f32) (main_arg6 : FVec F S32 .f32) : IVec S_ 1 :=
  let main_cst : FVec F S_ .f32 := constant S_ .f32 0xFF800000#32
  let main_v0 : FVec F S8x16384x256 .f32 := broadcastInDim S8x16384x256 ![] bcast_S_S8x16384x256 main_cst
  let main_v1 : IVec S8x16384x256 1 := cmpf .ogt main_arg0 main_v0
  let main_cst_0 : FVec F S_ .f32 := constant S_ .f32 0x7F800000#32
  let main_v2 : FVec F S8x16384x256 .f32 := broadcastInDim S8x16384x256 ![] bcast_S_S8x16384x256 main_cst_0
  let main_v3 : IVec S8x16384x256 1 := cmpf .olt main_arg0 main_v2
  let main_v4 : IVec S8x16384x256 1 := andi main_v1 main_v3
  let main_c : IVec S_ 1 := constantI S_ 1 1#1
  let main_v5 : IVec S_ 1 := (fun x v => Host.reduce IntOp.andi x v reducesTo_S8x16384x256_S_d0_1_2 h_S_) main_v4 main_c
  let main_cst_1 : FVec F S_ .f32 := constant S_ .f32 0xFF800000#32
  let main_v6 : FVec F S8x16384x128 .f32 := broadcastInDim S8x16384x128 ![] bcast_S_S8x16384x128 main_cst_1
  let main_v7 : IVec S8x16384x128 1 := cmpf .ogt main_arg1 main_v6
  let main_cst_2 : FVec F S_ .f32 := constant S_ .f32 0x7F800000#32
  let main_v8 : FVec F S8x16384x128 .f32 := broadcastInDim S8x16384x128 ![] bcast_S_S8x16384x128 main_cst_2
  let main_v9 : IVec S8x16384x128 1 := cmpf .olt main_arg1 main_v8
  let main_v10 : IVec S8x16384x128 1 := andi main_v7 main_v9
  let main_c_3 : IVec S_ 1 := constantI S_ 1 1#1
  let main_v11 : IVec S_ 1 := (fun x v => Host.reduce IntOp.andi x v reducesTo_S8x16384x128_S_d0_1_2 h_S_) main_v10 main_c_3
  let main_cst_4 : FVec F S_ .f32 := constant S_ .f32 0xFF800000#32
  let main_v12 : FVec F S8x16384x128 .f32 := broadcastInDim S8x16384x128 ![] bcast_S_S8x16384x128 main_cst_4
  let main_v13 : IVec S8x16384x128 1 := cmpf .ogt main_arg2 main_v12
  let main_cst_5 : FVec F S_ .f32 := constant S_ .f32 0x7F800000#32
  let main_v14 : FVec F S8x16384x128 .f32 := broadcastInDim S8x16384x128 ![] bcast_S_S8x16384x128 main_cst_5
  let main_v15 : IVec S8x16384x128 1 := cmpf .olt main_arg2 main_v14
  fn_part1 (F := F) main_arg3 main_arg4 main_arg5 main_arg6 main_v5 main_v11 main_v13 main_v15
-- ==== Pre_smooth.lean ====
abbrev S8x16384x256 : Shape := ⟨3, ![8, 16384, 256]⟩
abbrev S8x16384x128 : Shape := ⟨3, ![8, 16384, 128]⟩
abbrev S16384x32 : Shape := ⟨2, ![16384, 32]⟩
abbrev S32 : Shape := ⟨1, ![32]⟩
abbrev S_ : Shape := ⟨0, ![]⟩
abbrev S1x32 : Shape := ⟨2, ![1, 32]⟩

class Facts : Prop where
  bcast_S_S8x16384x256 : S_.BroadcastsInDim S8x16384x256 (![] : Fin 0 → Fin S8x16384x256.rank)
  reducesTo_S8x16384x256_S_d0_1_2 : S8x16384x256.ReducesTo [0, 1, 2] S_
  h_S_ : 0 < S_.numel
  bcast_S_S8x16384x128 : S_.BroadcastsInDim S8x16384x128 (![] : Fin 0 → Fin S8x16384x128.rank)
  reducesTo_S8x16384x128_S_d0_1_2 : S8x16384x128.ReducesTo [0, 1, 2] S_
  bcast_S_S16384x32 : S_.BroadcastsInDim S16384x32 (![] : Fin 0 → Fin S16384x32.rank)
  reducesTo_S16384x32_S_d0_1 : S16384x32.ReducesTo [0, 1] S_
  bcast_S_S32 : S_.BroadcastsInDim S32 (![] : Fin 0 → Fin S32.rank)
  reducesTo_S32_S_d0 : S32.ReducesTo [0] S_
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)

variable [Facts]

def fn_part3 {F : FTy → Type} [FloatOps F] (main_arg3 : FVec F S16384x32 .f32) (main_arg4 : FVec F S32 .f32) (main_v5 : IVec S_ 1) (main_v11 : IVec S_ 1) (main_v17 : IVec S_ 1) (main_v23 : IVec S_ 1) (main_v29 : IVec S_ 1) (main_v35 : IVec S_ 1) (main_v41 : IVec S_ 1) (main_v47 : IVec S_ 1) : IVec S_ 1 :=
  let main_v48 : FVec F S1x32 .f32 := broadcastInDim S1x32 ![1] bcast_S32_S1x32_1 main_arg4
  let main_v49 : FVec F S16384x32 .f32 := broadcastInDim S16384x32 ![0, 1] bcast_S1x32_S16384x32_0_1 main_v48
  let main_v50 : FVec F S16384x32 .f32 := addf main_arg3 main_v49
  let main_cst_22 : FVec F S_ .f32 := constant S_ .f32 0x00000000#32
  let main_v51 : FVec F S16384x32 .f32 := broadcastInDim S16384x32 ![] bcast_S_S16384x32 main_cst_22
  let main_v52 : IVec S16384x32 1 := cmpf .une main_v50 main_v51
  let main_c_23 : IVec S_ 1 := constantI S_ 1 1#1
  let main_v53 : IVec S_ 1 := (fun x v => Host.reduce IntOp.andi x v reducesTo_S16384x32_S_d0_1 h_S_) main_v52 main_c_23
  let main_v54 : IVec S_ 1 := andi main_v53 main_v5
  let main_v55 : IVec S_ 1 := andi main_v54 main_v11
  let main_v56 : IVec S_ 1 := andi main_v55 main_v17
  let main_v57 : IVec S_ 1 := andi main_v56 main_v23
  let main_v58 : IVec S_ 1 := andi main_v57 main_v29
  let main_v59 : IVec S_ 1 := andi main_v58 main_v35
  let main_v60 : IVec S_ 1 := andi main_v59 main_v41
  let main_v61 : IVec S_ 1 := andi main_v60 main_v47
  main_v61

def fn_part2 {F : FTy → Type} [FloatOps F] (main_arg3 : FVec F S16384x32 .f32) (main_arg4 : FVec F S32 .f32) (main_arg5 : FVec F S32 .f32) (main_arg6 : FVec F S32 .f32) (main_arg7 : FVec F S8x16384x256 .f32) (main_v5 : IVec S_ 1) (main_v11 : IVec S_ 1) (main_v17 : IVec S_ 1) (main_v23 : IVec S_ 1) (main_v29 : IVec S_ 1) (main_v31 : IVec S32 1) : IVec S_ 1 :=
  let main_cst_14 : FVec F S_ .f32 := constant S_ .f32 0x7F800000#32
  let main_v32 : FVec F S32 .f32 := broadcastInDim S32 ![] bcast_S_S32 main_cst_14
  let main_v33 : IVec S32 1 := cmpf .olt main_arg5 main_v32
  let main_v34 : IVec S32 1 := andi main_v31 main_v33
  let main_c_15 : IVec S_ 1 := constantI S_ 1 1#1
  let main_v35 : IVec S_ 1 := (fun x v => Host.reduce IntOp.andi x v reducesTo_S32_S_d0 h_S_) main_v34 main_c_15
  let main_cst_16 : FVec F S_ .f32 := constant S_ .f32 0xFF800000#32
  let main_v36 : FVec F S32 .f32 := broadcastInDim S32 ![] bcast_S_S32 main_cst_16
  let main_v37 : IVec S32 1 := cmpf .ogt main_arg6 main_v36
  let main_cst_17 : FVec F S_ .f32 := constant S_ .f32 0x7F800000#32
  let main_v38 : FVec F S32 .f32 := broadcastInDim S32 ![] bcast_S_S32 main_cst_17
  let main_v39 : IVec S32 1 := cmpf .olt main_arg6 main_v38
  let main_v40 : IVec S32 1 := andi main_v37 main_v39
  let main_c_18 : IVec S_ 1 := constantI S_ 1 1#1
  let main_v41 : IVec S_ 1 := (fun x v => Host.reduce IntOp.andi x v reducesTo_S32_S_d0 h_S_) main_v40 main_c_18
  let main_cst_19 : FVec F S_ .f32 := constant S_ .f32 0xFF800000#32
  let main_v42 : FVec F S8x16384x256 .f32 := broadcastInDim S8x16384x256 ![] bcast_S_S8x16384x256 main_cst_19
  let main_v43 : IVec S8x16384x256 1 := cmpf .ogt main_arg7 main_v42
  let main_cst_20 : FVec F S_ .f32 := constant S_ .f32 0x7F800000#32
  let main_v44 : FVec F S8x16384x256 .f32 := broadcastInDim S8x16384x256 ![] bcast_S_S8x16384x256 main_cst_20
  let main_v45 : IVec S8x16384x256 1 := cmpf .olt main_arg7 main_v44
  let main_v46 : IVec S8x16384x256 1 := andi main_v43 main_v45
  let main_c_21 : IVec S_ 1 := constantI S_ 1 1#1
  let main_v47 : IVec S_ 1 := (fun x v => Host.reduce IntOp.andi x v reducesTo_S8x16384x256_S_d0_1_2 h_S_) main_v46 main_c_21
  fn_part3 (F := F) main_arg3 main_arg4 main_v5 main_v11 main_v17 main_v23 main_v29 main_v35 main_v41 main_v47

def fn_part1 {F : FTy → Type} [FloatOps F] (main_arg3 : FVec F S16384x32 .f32) (main_arg4 : FVec F S32 .f32) (main_arg5 : FVec F S32 .f32) (main_arg6 : FVec F S32 .f32) (main_arg7 : FVec F S8x16384x256 .f32) (main_v5 : IVec S_ 1) (main_v11 : IVec S_ 1) (main_v13 : IVec S8x16384x128 1) (main_v15 : IVec S8x16384x128 1) : IVec S_ 1 :=
  let main_v16 : IVec S8x16384x128 1 := andi main_v13 main_v15
  let main_c_6 : IVec S_ 1 := constantI S_ 1 1#1
  let main_v17 : IVec S_ 1 := (fun x v => Host.reduce IntOp.andi x v reducesTo_S8x16384x128_S_d0_1_2 h_S_) main_v16 main_c_6
  let main_cst_7 : FVec F S_ .f32 := constant S_ .f32 0xFF800000#32
  let main_v18 : FVec F S16384x32 .f32 := broadcastInDim S16384x32 ![] bcast_S_S16384x32 main_cst_7
  let main_v19 : IVec S16384x32 1 := cmpf .ogt main_arg3 main_v18
  let main_cst_8 : FVec F S_ .f32 := constant S_ .f32 0x7F800000#32
  let main_v20 : FVec F S16384x32 .f32 := broadcastInDim S16384x32 ![] bcast_S_S16384x32 main_cst_8
  let main_v21 : IVec S16384x32 1 := cmpf .olt main_arg3 main_v20
  let main_v22 : IVec S16384x32 1 := andi main_v19 main_v21
  let main_c_9 : IVec S_ 1 := constantI S_ 1 1#1
  let main_v23 : IVec S_ 1 := (fun x v => Host.reduce IntOp.andi x v reducesTo_S16384x32_S_d0_1 h_S_) main_v22 main_c_9
  let main_cst_10 : FVec F S_ .f32 := constant S_ .f32 0xFF800000#32
  let main_v24 : FVec F S32 .f32 := broadcastInDim S32 ![] bcast_S_S32 main_cst_10
  let main_v25 : IVec S32 1 := cmpf .ogt main_arg4 main_v24
  let main_cst_11 : FVec F S_ .f32 := constant S_ .f32 0x7F800000#32
  let main_v26 : FVec F S32 .f32 := broadcastInDim S32 ![] bcast_S_S32 main_cst_11
  let main_v27 : IVec S32 1 := cmpf .olt main_arg4 main_v26
  let main_v28 : IVec S32 1 := andi main_v25 main_v27
  let main_c_12 : IVec S_ 1 := constantI S_ 1 1#1
  let main_v29 : IVec S_ 1 := (fun x v => Host.reduce IntOp.andi x v reducesTo_S32_S_d0 h_S_) main_v28 main_c_12
  let main_cst_13 : FVec F S_ .f32 := constant S_ .f32 0xFF800000#32
  let main_v30 : FVec F S32 .f32 := broadcastInDim S32 ![] bcast_S_S32 main_cst_13
  let main_v31 : IVec S32 1 := cmpf .ogt main_arg5 main_v30
  fn_part2 (F := F) main_arg3 main_arg4 main_arg5 main_arg6 main_arg7 main_v5 main_v11 main_v17 main_v23 main_v29 main_v31

def fn {F : FTy → Type} [FloatOps F] (main_arg0 : FVec F S8x16384x256 .f32) (main_arg1 : FVec F S8x16384x128 .f32) (main_arg2 : FVec F S8x16384x128 .f32) (main_arg3 : FVec F S16384x32 .f32) (main_arg4 : FVec F S32 .f32) (main_arg5 : FVec F S32 .f32) (main_arg6 : FVec F S32 .f32) (main_arg7 : FVec F S8x16384x256 .f32) : IVec S_ 1 :=
  let main_cst : FVec F S_ .f32 := constant S_ .f32 0xFF800000#32
  let main_v0 : FVec F S8x16384x256 .f32 := broadcastInDim S8x16384x256 ![] bcast_S_S8x16384x256 main_cst
  let main_v1 : IVec S8x16384x256 1 := cmpf .ogt main_arg0 main_v0
  let main_cst_0 : FVec F S_ .f32 := constant S_ .f32 0x7F800000#32
  let main_v2 : FVec F S8x16384x256 .f32 := broadcastInDim S8x16384x256 ![] bcast_S_S8x16384x256 main_cst_0
  let main_v3 : IVec S8x16384x256 1 := cmpf .olt main_arg0 main_v2
  let main_v4 : IVec S8x16384x256 1 := andi main_v1 main_v3
  let main_c : IVec S_ 1 := constantI S_ 1 1#1
  let main_v5 : IVec S_ 1 := (fun x v => Host.reduce IntOp.andi x v reducesTo_S8x16384x256_S_d0_1_2 h_S_) main_v4 main_c
  let main_cst_1 : FVec F S_ .f32 := constant S_ .f32 0xFF800000#32
  let main_v6 : FVec F S8x16384x128 .f32 := broadcastInDim S8x16384x128 ![] bcast_S_S8x16384x128 main_cst_1
  let main_v7 : IVec S8x16384x128 1 := cmpf .ogt main_arg1 main_v6
  let main_cst_2 : FVec F S_ .f32 := constant S_ .f32 0x7F800000#32
  let main_v8 : FVec F S8x16384x128 .f32 := broadcastInDim S8x16384x128 ![] bcast_S_S8x16384x128 main_cst_2
  let main_v9 : IVec S8x16384x128 1 := cmpf .olt main_arg1 main_v8
  let main_v10 : IVec S8x16384x128 1 := andi main_v7 main_v9
  let main_c_3 : IVec S_ 1 := constantI S_ 1 1#1
  let main_v11 : IVec S_ 1 := (fun x v => Host.reduce IntOp.andi x v reducesTo_S8x16384x128_S_d0_1_2 h_S_) main_v10 main_c_3
  let main_cst_4 : FVec F S_ .f32 := constant S_ .f32 0xFF800000#32
  let main_v12 : FVec F S8x16384x128 .f32 := broadcastInDim S8x16384x128 ![] bcast_S_S8x16384x128 main_cst_4
  let main_v13 : IVec S8x16384x128 1 := cmpf .ogt main_arg2 main_v12
  let main_cst_5 : FVec F S_ .f32 := constant S_ .f32 0x7F800000#32
  let main_v14 : FVec F S8x16384x128 .f32 := broadcastInDim S8x16384x128 ![] bcast_S_S8x16384x128 main_cst_5
  let main_v15 : IVec S8x16384x128 1 := cmpf .olt main_arg2 main_v14
  fn_part1 (F := F) main_arg3 main_arg4 main_arg5 main_arg6 main_arg7 main_v5 main_v11 main_v13 main_v15
-- ==== Kernel.lean ====
abbrev S8x16384x256 : Shape := ⟨3, ![8, 16384, 256]⟩
abbrev S8x16384x128 : Shape := ⟨3, ![8, 16384, 128]⟩
abbrev S16384x32 : Shape := ⟨2, ![16384, 32]⟩
abbrev S32 : Shape := ⟨1, ![32]⟩
abbrev S8x4 : Shape := ⟨2, ![8, 4]⟩
abbrev S4x8 : Shape := ⟨2, ![4, 8]⟩
abbrev S4x8x1x1 : Shape := ⟨4, ![4, 8, 1, 1]⟩
abbrev S8x16384x4x64 : Shape := ⟨4, ![8, 16384, 4, 64]⟩
abbrev S1x32 : Shape := ⟨2, ![1, 32]⟩
abbrev S_ : Shape := ⟨0, ![]⟩
abbrev S128x128x32 : Shape := ⟨3, ![128, 128, 32]⟩
abbrev S128x1x32 : Shape := ⟨3, ![128, 1, 32]⟩
abbrev S128x32 : Shape := ⟨2, ![128, 32]⟩
abbrev S16384 : Shape := ⟨1, ![16384]⟩
abbrev S1x16384 : Shape := ⟨2, ![1, 16384]⟩
abbrev S128 : Shape := ⟨1, ![128]⟩
abbrev S128x1 : Shape := ⟨2, ![128, 1]⟩
abbrev S128x16384 : Shape := ⟨2, ![128, 16384]⟩
abbrev S128x16384x1 : Shape := ⟨3, ![128, 16384, 1]⟩
abbrev S1x16384x32 : Shape := ⟨3, ![1, 16384, 32]⟩
abbrev S128x16384x32 : Shape := ⟨3, ![128, 16384, 32]⟩
abbrev S128x16384x8x4 : Shape := ⟨4, ![128, 16384, 8, 4]⟩
abbrev S128x8x16384x4 : Shape := ⟨4, ![128, 8, 16384, 4]⟩
abbrev S128x8x16384x4x1 : Shape := ⟨5, ![128, 8, 16384, 4, 1]⟩
abbrev S1x8x16384x4x64 : Shape := ⟨5, ![1, 8, 16384, 4, 64]⟩
abbrev S128x8x16384x4x64 : Shape := ⟨5, ![128, 8, 16384, 4, 64]⟩
abbrev S8x128x128x4x64 : Shape := ⟨5, ![8, 128, 128, 4, 64]⟩
abbrev S128x8x4x64x128 : Shape := ⟨5, ![128, 8, 4, 64, 128]⟩
abbrev S128x8x256x128 : Shape := ⟨4, ![128, 8, 256, 128]⟩
abbrev S128x1x128x32 : Shape := ⟨4, ![128, 1, 128, 32]⟩
abbrev S128x32x1x128 : Shape := ⟨4, ![128, 32, 1, 128]⟩
abbrev S128x8x4x1x128 : Shape := ⟨5, ![128, 8, 4, 1, 128]⟩
abbrev S128x1x4x8x128 : Shape := ⟨5, ![128, 1, 4, 8, 128]⟩
abbrev S128x4x8x1x128 : Shape := ⟨5, ![128, 4, 8, 1, 128]⟩
abbrev S8x128x256 : Shape := ⟨3, ![8, 128, 256]⟩
abbrev S8x128x128 : Shape := ⟨3, ![8, 128, 128]⟩
abbrev S1x4x8x1x128 : Shape := ⟨5, ![1, 4, 8, 1, 128]⟩
abbrev S1x8x256x128 : Shape := ⟨4, ![1, 8, 256, 128]⟩
abbrev S8x256x128 : Shape := ⟨3, ![8, 256, 128]⟩
abbrev S4x8x1x128 : Shape := ⟨4, ![4, 8, 1, 128]⟩
abbrev S1x128x128 : Shape := ⟨3, ![1, 128, 128]⟩
abbrev S1x1x256 : Shape := ⟨3, ![1, 1, 256]⟩
abbrev S1x256x1 : Shape := ⟨3, ![1, 256, 1]⟩
abbrev S1x8x1x128 : Shape := ⟨4, ![1, 8, 1, 128]⟩
abbrev S8x1x128 : Shape := ⟨3, ![8, 1, 128]⟩
abbrev S1x8x1x1 : Shape := ⟨4, ![1, 8, 1, 1]⟩
abbrev S8x1x1 : Shape := ⟨3, ![8, 1, 1]⟩
abbrev S8x128 : Shape := ⟨2, ![8, 128]⟩
abbrev S8x128x1 : Shape := ⟨3, ![8, 128, 1]⟩
abbrev S8x1 : Shape := ⟨2, ![8, 1]⟩
abbrev S8x1x256 : Shape := ⟨3, ![8, 1, 256]⟩
abbrev S8x256x1 : Shape := ⟨3, ![8, 256, 1]⟩
abbrev S8x256 : Shape := ⟨2, ![8, 256]⟩
abbrev S8 : Shape := ⟨1, ![8]⟩
abbrev S3x8x1x1 : Shape := ⟨4, ![3, 8, 1, 1]⟩
abbrev S2x8x1x1 : Shape := ⟨4, ![2, 8, 1, 1]⟩
abbrev S3x8x1x128 : Shape := ⟨4, ![3, 8, 1, 128]⟩
abbrev S2x8x1x128 : Shape := ⟨4, ![2, 8, 1, 128]⟩

abbrev nBuf : Space → Nat
  | .hbm => 94
  | .vmem => 27
  | .smem => 0
  | _ => 0

abbrev bufTy : (tb : Table) → Fin (tcTables nBuf tb) → BufTy
  | .hbm, ⟨0, _⟩ => ⟨S8x16384x256, .f32⟩
  | .hbm, ⟨1, _⟩ => ⟨S8x16384x128, .f32⟩
  | .hbm, ⟨2, _⟩ => ⟨S8x16384x128, .f32⟩
  | .hbm, ⟨3, _⟩ => ⟨S16384x32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S8x16384x256, .f32⟩
  | .hbm, ⟨8, _⟩ => ⟨S8x4, .f32⟩
  | .hbm, ⟨9, _⟩ => ⟨S4x8, .f32⟩
  | .hbm, ⟨10, _⟩ => ⟨S4x8x1x1, .f32⟩
  | .hbm, ⟨11, _⟩ => ⟨S8x4, .f32⟩
  | .hbm, ⟨12, _⟩ => ⟨S4x8, .f32⟩
  | .hbm, ⟨13, _⟩ => ⟨S4x8x1x1, .f32⟩
  | .hbm, ⟨14, _⟩ => ⟨S8x4, .f32⟩
  | .hbm, ⟨15, _⟩ => ⟨S4x8, .f32⟩
  | .hbm, ⟨16, _⟩ => ⟨S4x8x1x1, .f32⟩
  | .hbm, ⟨17, _⟩ => ⟨S8x16384x4x64, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S_, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S16384x32, .f32⟩
  | .hbm, ⟨26, _⟩ => ⟨S16384x32, .i1⟩
  | .hbm, ⟨27, _⟩ => ⟨S16384x32, .f32⟩
  | .hbm, ⟨28, _⟩ => ⟨S16384x32, .f32⟩
  | .hbm, ⟨29, _⟩ => ⟨S16384x32, .f32⟩
  | .hbm, ⟨30, _⟩ => ⟨S16384x32, .f32⟩
  | .hbm, ⟨31, _⟩ => ⟨S16384x32, .f32⟩
  | .hbm, ⟨32, _⟩ => ⟨S16384x32, .f32⟩
  | .hbm, ⟨33, _⟩ => ⟨S16384x32, .f32⟩
  | .hbm, ⟨34, _⟩ => ⟨S16384x32, .f32⟩
  | .hbm, ⟨35, _⟩ => ⟨S32, .f32⟩
  | .hbm, ⟨36, _⟩ => ⟨S32, .f32⟩
  | .hbm, ⟨37, _⟩ => ⟨S1x32, .f32⟩
  | .hbm, ⟨38, _⟩ => ⟨S16384x32, .f32⟩
  | .hbm, ⟨39, _⟩ => ⟨S16384x32, .f32⟩
  | .hbm, ⟨40, _⟩ => ⟨S_, .f32⟩
  | .hbm, ⟨41, _⟩ => ⟨S_, .f32⟩
  | .hbm, ⟨42, _⟩ => ⟨S16384x32, .f32⟩
  | .hbm, ⟨43, _⟩ => ⟨S16384x32, .f32⟩
  | .hbm, ⟨44, _⟩ => ⟨S128x128x32, .f32⟩
  | .hbm, ⟨45, _⟩ => ⟨S128x1x32, .f32⟩
  | .hbm, ⟨46, _⟩ => ⟨S128x32, .f32⟩
  | .hbm, ⟨47, _⟩ => ⟨S16384, .i32⟩
  | .hbm, ⟨48, _⟩ => ⟨S1x16384, .i32⟩
  | .hbm, ⟨49, _⟩ => ⟨S128, .i32⟩
  | .hbm, ⟨50, _⟩ => ⟨S128x1, .i32⟩
  | .hbm, ⟨51, _⟩ => ⟨S_, .i32⟩
  | .hbm, ⟨52, _⟩ => ⟨S128x1, .i32⟩
  | .hbm, ⟨53, _⟩ => ⟨S128x1, .i32⟩
  | .hbm, ⟨54, _⟩ => ⟨S128x16384, .i32⟩
  | .hbm, ⟨55, _⟩ => ⟨S128x16384, .i32⟩
  | .hbm, ⟨56, _⟩ => ⟨S128x16384, .i1⟩
  | .hbm, ⟨57, _⟩ => ⟨S128x16384x1, .i1⟩
  | .hbm, ⟨58, _⟩ => ⟨S128x1x32, .f32⟩
  | .hbm, ⟨59, _⟩ => ⟨S1x16384x32, .f32⟩
  | .hbm, ⟨60, _⟩ => ⟨S128x16384x32, .f32⟩
  | .hbm, ⟨61, _⟩ => ⟨S128x16384x32, .f32⟩
  | .hbm, ⟨62, _⟩ => ⟨S128x16384x32, .f32⟩
  | .hbm, ⟨63, _⟩ => ⟨S_, .f32⟩
  | .hbm, ⟨64, _⟩ => ⟨S_, .f32⟩
  | .hbm, ⟨65, _⟩ => ⟨S128x16384x32, .i1⟩
  | .hbm, ⟨66, _⟩ => ⟨S128x16384x32, .f32⟩
  | .hbm, ⟨67, _⟩ => ⟨S128x16384x32, .f32⟩
  | .hbm, ⟨68, _⟩ => ⟨S128x16384x32, .f32⟩
  | .hbm, ⟨69, _⟩ => ⟨S1x16384x32, .f32⟩
  | .hbm, ⟨70, _⟩ => ⟨S128x16384x32, .f32⟩
  | .hbm, ⟨71, _⟩ => ⟨S128x16384x32, .f32⟩
  | .hbm, ⟨72, _⟩ => ⟨S128x16384x8x4, .f32⟩
  | .hbm, ⟨73, _⟩ => ⟨S128x8x16384x4, .f32⟩
  | .hbm, ⟨74, _⟩ => ⟨S128x8x16384x4x1, .f32⟩
  | .hbm, ⟨75, _⟩ => ⟨S1x8x16384x4x64, .f32⟩
  | .hbm, ⟨76, _⟩ => ⟨S128x8x16384x4x64, .f32⟩
  | .hbm, ⟨77, _⟩ => ⟨S128x8x16384x4x64, .f32⟩
  | .hbm, ⟨78, _⟩ => ⟨S128x8x16384x4x64, .f32⟩
  | .hbm, ⟨79, _⟩ => ⟨S8x128x128x4x64, .f32⟩
  | .hbm, ⟨80, _⟩ => ⟨S128x8x4x64x128, .f32⟩
  | .hbm, ⟨81, _⟩ => ⟨S128x8x256x128, .f32⟩
  | .hbm, ⟨82, _⟩ => ⟨S128x1x128x32, .f32⟩
  | .hbm, ⟨83, _⟩ => ⟨S128x32x1x128, .f32⟩
  | .hbm, ⟨84, _⟩ => ⟨S128x8x4x1x128, .f32⟩
  | .hbm, ⟨85, _⟩ => ⟨S128x1x4x8x128, .f32⟩
  | .hbm, ⟨86, _⟩ => ⟨S128x4x8x1x128, .f32⟩
  | .hbm, ⟨87, _⟩ => ⟨S8x16384x256, .f32⟩
  | .hbm, ⟨88, _⟩ => ⟨S8x16384x128, .f32⟩
  | .hbm, ⟨89, _⟩ => ⟨S8x16384x128, .f32⟩
  | .hbm, ⟨90, _⟩ => ⟨S128x4x8x1x128, .f32⟩
  | .hbm, ⟨91, _⟩ => ⟨S4x8x1x1, .f32⟩
  | .hbm, ⟨92, _⟩ => ⟨S4x8x1x1, .f32⟩
  | .hbm, ⟨93, _⟩ => ⟨S4x8x1x1, .f32⟩
  | .local _ .vmem, ⟨0, _⟩ => ⟨S8x128x256, .f32⟩
  | .local _ .vmem, ⟨1, _⟩ => ⟨S8x128x256, .f32⟩
  | .local _ .vmem, ⟨2, _⟩ => ⟨S8x128x128, .f32⟩
  | .local _ .vmem, ⟨3, _⟩ => ⟨S8x128x128, .f32⟩
  | .local _ .vmem, ⟨4, _⟩ => ⟨S8x128x128, .f32⟩
  | .local _ .vmem, ⟨5, _⟩ => ⟨S8x128x128, .f32⟩
  | .local _ .vmem, ⟨6, _⟩ => ⟨S1x4x8x1x128, .f32⟩
  | .local _ .vmem, ⟨7, _⟩ => ⟨S1x4x8x1x128, .f32⟩
  | .local _ .vmem, ⟨8, _⟩ => ⟨S4x8x1x1, .f32⟩
  | .local _ .vmem, ⟨9, _⟩ => ⟨S4x8x1x1, .f32⟩
  | .local _ .vmem, ⟨10, _⟩ => ⟨S4x8x1x1, .f32⟩
  | .local _ .vmem, ⟨11, _⟩ => ⟨S1x8x256x128, .f32⟩
  | .local _ .vmem, ⟨12, _⟩ => ⟨S1x8x256x128, .f32⟩
  | .local _ .vmem, ⟨13, _⟩ => ⟨S8x128x256, .f32⟩
  | .local _ .vmem, ⟨14, _⟩ => ⟨S8x128x256, .f32⟩
  | .local _ .vmem, ⟨15, _⟩ => ⟨S8x128x256, .f32⟩
  | .local _ .vmem, ⟨16, _⟩ => ⟨S8x128x256, .f32⟩
  | .local _ .vmem, ⟨17, _⟩ => ⟨S8x128x128, .f32⟩
  | .local _ .vmem, ⟨18, _⟩ => ⟨S8x128x128, .f32⟩
  | .local _ .vmem, ⟨19, _⟩ => ⟨S8x128x128, .f32⟩
  | .local _ .vmem, ⟨20, _⟩ => ⟨S8x128x128, .f32⟩
  | .local _ .vmem, ⟨21, _⟩ => ⟨S1x4x8x1x128, .f32⟩
  | .local _ .vmem, ⟨22, _⟩ => ⟨S1x4x8x1x128, .f32⟩
  | .local _ .vmem, ⟨23, _⟩ => ⟨S4x8x1x1, .f32⟩
  | .local _ .vmem, ⟨24, _⟩ => ⟨S4x8x1x1, .f32⟩
  | .local _ .vmem, ⟨25, _⟩ => ⟨S4x8x1x1, .f32⟩
  | .local _ .vmem, ⟨26, _⟩ => ⟨S8x256x128, .f32⟩
  | _, _ => ⟨S8x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call1_call0_cst : Ref sig .tc := ⟨.hbm, 40, rfl⟩
abbrev main_call1_call0_v0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59_0 : Ref sig .tc := ⟨.hbm, 87, rfl⟩
abbrev main_v59_1 : Ref sig .tc := ⟨.hbm, 88, rfl⟩
abbrev main_v59_2 : Ref sig .tc := ⟨.hbm, 89, rfl⟩
abbrev main_v59_3 : Ref sig .tc := ⟨.hbm, 90, rfl⟩
abbrev main_v59_4 : Ref sig .tc := ⟨.hbm, 91, rfl⟩
abbrev main_v59_5 : Ref sig .tc := ⟨.hbm, 92, rfl⟩
abbrev main_v59_6 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨2, ![1, 128], ![false, false]⟩

def cc0_transform_0 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  ![arg0.toNat, v0.toNat, c0_i32.toNat]

def cc0_transform_3 (i : grid0.Coords) : Fin 5 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  let c0_i32_1 : BitVec 32 := 0#32
  let c0_i32_2 : BitVec 32 := 0#32
  ![v0.toNat, c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  ![arg0.toNat, v0.toNat, c0_i32.toNat]

def cc0_transform_12 (i : grid0.Coords) : Fin 5 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  let c0_i32_1 : BitVec 32 := 0#32
  let c0_i32_2 : BitVec 32 := 0#32
  ![v0.toNat, c0_i32.toNat, arg0.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x8x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x8x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S4x8x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S4x8x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S1x8x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x8x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S4x8x1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]

abbrev stage0_14 : Fin 1 → Memref sig .tc .vmem S4x8x1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]

abbrev stage0_15 : Fin 1 → Memref sig .tc .vmem S4x8x1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8x16384x256 : Shape := ⟨3, ![8, 16384, 256]⟩
abbrev S8x16384x128 : Shape := ⟨3, ![8, 16384, 128]⟩
abbrev S16384x32 : Shape := ⟨2, ![16384, 32]⟩
abbrev S32 : Shape := ⟨1, ![32]⟩
abbrev S8x16384x4x64 : Shape := ⟨4, ![8, 16384, 4, 64]⟩
abbrev S1x32 : Shape := ⟨2, ![1, 32]⟩
abbrev S_ : Shape := ⟨0, ![]⟩
abbrev S32x16384 : Shape := ⟨2, ![32, 16384]⟩
abbrev S8x4x16384 : Shape := ⟨3, ![8, 4, 16384]⟩
abbrev S16384x16384 : Shape := ⟨2, ![16384, 16384]⟩
abbrev S8x4x16384x1 : Shape := ⟨4, ![8, 4, 16384, 1]⟩
abbrev S8x4x1x16384 : Shape := ⟨4, ![8, 4, 1, 16384]⟩
abbrev S8x4x16384x16384 : Shape := ⟨4, ![8, 4, 16384, 16384]⟩
abbrev S8x16384x16384 : Shape := ⟨3, ![8, 16384, 16384]⟩
abbrev S8x16384x4 : Shape := ⟨3, ![8, 16384, 4]⟩
abbrev S8x16384x4x1 : Shape := ⟨4, ![8, 16384, 4, 1]⟩
abbrev S8x1x16384x16384 : Shape := ⟨4, ![8, 1, 16384, 16384]⟩
abbrev S8x4x64x16384 : Shape := ⟨4, ![8, 4, 64, 16384]⟩
abbrev S8x1x4x1 : Shape := ⟨4, ![8, 1, 4, 1]⟩
abbrev S8x4 : Shape := ⟨2, ![8, 4]⟩
abbrev S128x128x8x4 : Shape := ⟨4, ![128, 128, 8, 4]⟩
abbrev S128x4x8x128 : Shape := ⟨4, ![128, 4, 8, 128]⟩
abbrev S128x4x8x1x128 : Shape := ⟨5, ![128, 4, 8, 1, 128]⟩
abbrev S4x8 : Shape := ⟨2, ![4, 8]⟩
abbrev S4x8x1x1 : Shape := ⟨4, ![4, 8, 1, 1]⟩

abbrev nBuf : Space → Nat
  | .hbm => 194
  | .vmem => 0
  | .smem => 0
  | _ => 0

abbrev hbmTy0_0 (i : Nat) : BufTy := match i % 128 with
  | 0 => ⟨S8x16384x256, .f32⟩
  | 1 => ⟨S8x16384x128, .f32⟩
  | 2 => ⟨S8x16384x128, .f32⟩
  | 3 => ⟨S16384x32, .f32⟩
  | 4 => ⟨S32, .f32⟩
  | 5 => ⟨S32, .f32⟩
  | 6 => ⟨S32, .f32⟩
  | 7 => ⟨S8x16384x256, .f32⟩
  | 8 => ⟨S8x16384x4x64, .f32⟩
  | 9 => ⟨S1x32, .f32⟩
  | 10 => ⟨S16384x32, .f32⟩
  | 11 => ⟨S16384x32, .f32⟩
  | 12 => ⟨S_, .f32⟩
  | 13 => ⟨S16384x32, .f32⟩
  | 14 => ⟨S16384x32, .f32⟩
  | 15 => ⟨S16384x32, .f32⟩
  | 16 => ⟨S16384x32, .f32⟩
  | 17 => ⟨S16384x32, .i1⟩
  | 18 => ⟨S16384x32, .f32⟩
  | 19 => ⟨S16384x32, .f32⟩
  | 20 => ⟨S16384x32, .f32⟩
  | 21 => ⟨S16384x32, .f32⟩
  | 22 => ⟨S16384x32, .f32⟩
  | 23 => ⟨S16384x32, .f32⟩
  | 24 => ⟨S16384x32, .f32⟩
  | 25 => ⟨S16384x32, .f32⟩
  | 26 => ⟨S_, .f32⟩
  | 27 => ⟨S16384x32, .f32⟩
  | 28 => ⟨S16384x32, .i1⟩
  | 29 => ⟨S_, .f32⟩
  | 30 => ⟨S16384x32, .f32⟩
  | 31 => ⟨S16384x32, .f32⟩
  | 32 => ⟨S_, .f32⟩
  | 33 => ⟨S16384x32, .f32⟩
  | 34 => ⟨S16384x32, .i1⟩
  | 35 => ⟨S_, .f32⟩
  | 36 => ⟨S16384x32, .f32⟩
  | 37 => ⟨S16384x32, .f32⟩
  | 38 => ⟨S16384x32, .f32⟩
  | 39 => ⟨S16384x32, .f32⟩
  | 40 => ⟨S_, .f32⟩
  | 41 => ⟨S_, .f32⟩
  | 42 => ⟨S_, .i1⟩
  | 43 => ⟨S_, .f32⟩
  | 44 => ⟨S_, .f32⟩
  | 45 => ⟨S_, .f32⟩
  | 46 => ⟨S_, .f32⟩
  | 47 => ⟨S16384x32, .f32⟩
  | 48 => ⟨S16384x32, .i1⟩
  | 49 => ⟨S_, .f32⟩
  | 50 => ⟨S16384x32, .f32⟩
  | 51 => ⟨S16384x32, .f32⟩
  | 52 => ⟨S16384x32, .f32⟩
  | 53 => ⟨S16384x32, .f32⟩
  | 54 => ⟨S16384x32, .f32⟩
  | 55 => ⟨S_, .f32⟩
  | 56 => ⟨S16384x32, .f32⟩
  | 57 => ⟨S16384x32, .f32⟩
  | 58 => ⟨S32, .f32⟩
  | 59 => ⟨S32, .f32⟩
  | 60 => ⟨S1x32, .f32⟩
  | 61 => ⟨S16384x32, .f32⟩
  | 62 => ⟨S16384x32, .f32⟩
  | 63 => ⟨S_, .f32⟩
  | 64 => ⟨S_, .f32⟩
  | 65 => ⟨S16384x32, .f32⟩
  | 66 => ⟨S32x16384, .f32⟩
  | 67 => ⟨S8x4x16384, .f32⟩
  | 68 => ⟨S32x16384, .f32⟩
  | 69 => ⟨S8x4x16384, .f32⟩
  | 70 => ⟨S_, .i1⟩
  | 71 => ⟨S16384x16384, .i1⟩
  | 72 => ⟨S16384x16384, .i32⟩
  | 73 => ⟨S_, .i32⟩
  | 74 => ⟨S16384x16384, .i32⟩
  | 75 => ⟨S16384x16384, .i32⟩
  | 76 => ⟨S16384x16384, .i32⟩
  | 77 => ⟨S16384x16384, .i1⟩
  | 78 => ⟨S_, .i1⟩
  | 79 => ⟨S16384x16384, .i1⟩
  | 80 => ⟨S16384x16384, .i1⟩
  | 81 => ⟨S8x4x16384x1, .f32⟩
  | 82 => ⟨S8x4x1x16384, .f32⟩
  | 83 => ⟨S8x4x16384x16384, .f32⟩
  | 84 => ⟨S8x4x16384x16384, .f32⟩
  | 85 => ⟨S8x4x16384x16384, .f32⟩
  | 86 => ⟨S_, .f32⟩
  | 87 => ⟨S_, .f32⟩
  | 88 => ⟨S8x4x16384x16384, .i1⟩
  | 89 => ⟨S8x4x16384x16384, .f32⟩
  | 90 => ⟨S8x4x16384x16384, .f32⟩
  | 91 => ⟨S_, .f32⟩
  | 92 => ⟨S8x4x16384x16384, .f32⟩
  | 93 => ⟨S8x4x16384x16384, .f32⟩
  | 94 => ⟨S8x16384x16384, .f32⟩
  | 95 => ⟨S8x16384x4, .f32⟩
  | 96 => ⟨S8x16384x4x1, .f32⟩
  | 97 => ⟨S8x16384x4x64, .f32⟩
  | 98 => ⟨S8x16384x4x64, .f32⟩
  | 99 => ⟨S8x1x16384x16384, .f32⟩
  | 100 => ⟨S8x4x16384x16384, .f32⟩
  | 101 => ⟨S8x4x16384x16384, .f32⟩
  | 102 => ⟨S8x4x64x16384, .f32⟩
  | 103 => ⟨S8x16384x4x64, .f32⟩
  | 104 => ⟨S8x1x4x1, .f32⟩
  | 105 => ⟨S8x16384x4x64, .f32⟩
  | 106 => ⟨S8x16384x4x64, .f32⟩
  | 107 => ⟨S8x16384x4x64, .f32⟩
  | 108 => ⟨S8x16384x256, .f32⟩
  | 109 => ⟨S8x16384x4x64, .f32⟩
  | 110 => ⟨S8x16384x4x64, .f32⟩
  | 111 => ⟨S_, .f32⟩
  | 112 => ⟨S8x4, .f32⟩
  | 113 => ⟨S8x1x4x1, .f32⟩
  | 114 => ⟨S8x16384x4x64, .f32⟩
  | 115 => ⟨S8x16384x4x64, .f32⟩
  | 116 => ⟨S32, .f32⟩
  | 117 => ⟨S8x4x64x16384, .f32⟩
  | 118 => ⟨S8x4x16384x16384, .f32⟩
  | 119 => ⟨S8x4x64x16384, .f32⟩
  | 120 => ⟨S8x16384x4x64, .f32⟩
  | 121 => ⟨S8x4x16384x16384, .f32⟩
  | 122 => ⟨S8x4x16384x16384, .f32⟩
  | 123 => ⟨S8x4x16384x16384, .f32⟩
  | 124 => ⟨S_, .f32⟩
  | 125 => ⟨S8x16384x16384, .f32⟩
  | 126 => ⟨S8x1x16384x16384, .f32⟩
  | 127 => ⟨S_, .f32⟩
  | _ => ⟨S8x16384x256, .f32⟩

abbrev hbmTy0_1 (i : Nat) : BufTy := match i % 128 with
  | 0 => ⟨S8x16384x16384, .f32⟩
  | 1 => ⟨S8x16384x4x64, .f32⟩
  | 2 => ⟨S_, .f32⟩
  | 3 => ⟨S8x16384x4, .f32⟩
  | 4 => ⟨S8x16384x4x1, .f32⟩
  | 5 => ⟨S8x16384x4x64, .f32⟩
  | 6 => ⟨S8x16384x4x64, .f32⟩
  | 7 => ⟨S8x16384x4x64, .f32⟩
  | 8 => ⟨S_, .f32⟩
  | 9 => ⟨S8x16384x4, .f32⟩
  | 10 => ⟨S8x4x16384, .f32⟩
  | 11 => ⟨S8x16384x128, .f32⟩
  | 12 => ⟨S8x16384x128, .f32⟩
  | 13 => ⟨S8x4x16384x16384, .f32⟩
  | 14 => ⟨S_, .f32⟩
  | 15 => ⟨S8x4x16384x16384, .f32⟩
  | 16 => ⟨S8x4x16384x16384, .f32⟩
  | 17 => ⟨S_, .f32⟩
  | 18 => ⟨S8x4x16384, .f32⟩
  | 19 => ⟨S8x4x16384x1, .f32⟩
  | 20 => ⟨S8x4x16384x16384, .f32⟩
  | 21 => ⟨S_, .f32⟩
  | 22 => ⟨S8x4x16384, .f32⟩
  | 23 => ⟨S8x4x1x16384, .f32⟩
  | 24 => ⟨S_, .f32⟩
  | 25 => ⟨S8x4x16384, .f32⟩
  | 26 => ⟨S_, .f32⟩
  | 27 => ⟨S8x4x16384, .f32⟩
  | 28 => ⟨S8x4x16384, .f32⟩
  | 29 => ⟨S32x16384, .f32⟩
  | 30 => ⟨S16384x32, .f32⟩
  | 31 => ⟨S32x16384, .f32⟩
  | 32 => ⟨S16384x32, .f32⟩
  | 33 => ⟨S_, .f32⟩
  | 34 => ⟨S_, .f32⟩
  | 35 => ⟨S16384x32, .f32⟩
  | 36 => ⟨S16384x32, .f32⟩
  | 37 => ⟨S16384x32, .f32⟩
  | 38 => ⟨S16384x32, .f32⟩
  | 39 => ⟨S16384x32, .f32⟩
  | 40 => ⟨S_, .f32⟩
  | 41 => ⟨S32, .f32⟩
  | 42 => ⟨S1x32, .f32⟩
  | 43 => ⟨S_, .f32⟩
  | 44 => ⟨S32, .f32⟩
  | 45 => ⟨S32, .f32⟩
  | 46 => ⟨S32, .f32⟩
  | 47 => ⟨S16384x32, .f32⟩
  | 48 => ⟨S_, .f32⟩
  | 49 => ⟨S32, .f32⟩
  | 50 => ⟨S1x32, .f32⟩
  | 51 => ⟨S_, .f32⟩
  | 52 => ⟨S32, .f32⟩
  | 53 => ⟨S8x16384x256, .f32⟩
  | 54 => ⟨S128x128x8x4, .f32⟩
  | 55 => ⟨S128x4x8x128, .f32⟩
  | 56 => ⟨S128x4x8x1x128, .f32⟩
  | 57 => ⟨S8x4, .f32⟩
  | 58 => ⟨S4x8, .f32⟩
  | 59 => ⟨S4x8x1x1, .f32⟩
  | 60 => ⟨S8x4, .f32⟩
  | 61 => ⟨S4x8, .f32⟩
  | 62 => ⟨S4x8x1x1, .f32⟩
  | 63 => ⟨S8x4, .f32⟩
  | 64 => ⟨S4x8, .f32⟩
  | 65 => ⟨S4x8x1x1, .f32⟩
  | _ => ⟨S8x16384x256, .f32⟩

abbrev hbmTy (i : Nat) : BufTy := match i / 128 with
  | 0 => hbmTy0_0 i
  | 1 => hbmTy0_1 i
  | _ => ⟨S8x16384x256, .f32⟩

abbrev bufTy : (tb : Table) → Fin (tcTables nBuf tb) → BufTy
  | .hbm, ⟨i, _⟩ => hbmTy i
  | _, _ => ⟨S8x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v4_0 : Ref sig .tc := ⟨.hbm, 25, rfl⟩
abbrev main_call0_cst_0 : Ref sig .tc := ⟨.hbm, 26, rfl⟩
abbrev main_call0_v13 : Ref sig .tc := ⟨.hbm, 27, rfl⟩
abbrev main_call0_v14 : Ref sig .tc := ⟨.hbm, 28, rfl⟩
abbrev main_call0_cst_1 : Ref sig .tc := ⟨.hbm, 29, rfl⟩
abbrev main_call0_v15 : Ref sig .tc := ⟨.hbm, 30, rfl⟩
abbrev main_call0_v16 : Ref sig .tc := ⟨.hbm, 31, rfl⟩
abbrev main_call0_cst_2 : Ref sig .tc := ⟨.hbm, 32, rfl⟩
abbrev main_call0_v17 : Ref sig .tc := ⟨.hbm, 33, rfl⟩
abbrev main_call0_v18 : Ref sig .tc := ⟨.hbm, 34, rfl⟩
abbrev main_call0_cst_3 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_v4_1 : Ref sig .tc := ⟨.hbm, 39, rfl⟩
abbrev main_call0_cst_4 : Ref sig .tc := ⟨.hbm, 40, rfl⟩
abbrev main_call0_cst_5 : Ref sig .tc := ⟨.hbm, 41, rfl⟩
abbrev main_call0_v23 : Ref sig .tc := ⟨.hbm, 42, rfl⟩
abbrev main_call0_cst_6 : Ref sig .tc := ⟨.hbm, 43, rfl⟩
abbrev main_call0_cst_7 : Ref sig .tc := ⟨.hbm, 44, rfl⟩
abbrev main_call0_v24 : Ref sig .tc := ⟨.hbm, 45, rfl⟩
abbrev main_call0_cst_8 : Ref sig .tc := ⟨.hbm, 46, rfl⟩
abbrev main_call0_v25 : Ref sig .tc := ⟨.hbm, 47, rfl⟩
abbrev main_call0_v26 : Ref sig .tc := ⟨.hbm, 48, rfl⟩
abbrev main_call0_cst_9 : Ref sig .tc := ⟨.hbm, 49, rfl⟩
abbrev main_call0_v27 : Ref sig .tc := ⟨.hbm, 50, rfl⟩
abbrev main_call0_v28 : Ref sig .tc := ⟨.hbm, 51, rfl⟩
abbrev main_call0_v29 : Ref sig .tc := ⟨.hbm, 52, rfl⟩
abbrev main_call0_v30 : Ref sig .tc := ⟨.hbm, 53, rfl⟩
abbrev main_call0_v31 : Ref sig .tc := ⟨.hbm, 54, rfl⟩
abbrev main_call0_cst_10 : Ref sig .tc := ⟨.hbm, 55, rfl⟩
abbrev main_call0_v32 : Ref sig .tc := ⟨.hbm, 56, rfl⟩
abbrev main_v4_2 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_call1_call0_cst : Ref sig .tc := ⟨.hbm, 63, rfl⟩
abbrev main_call1_call0_v0 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_c : Ref sig .tc := ⟨.hbm, 70, rfl⟩
abbrev main_v15 : Ref sig .tc := ⟨.hbm, 71, rfl⟩
abbrev main_call2_v0 : Ref sig .tc := ⟨.hbm, 72, rfl⟩
abbrev main_call2_c : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_c_0 : Ref sig .tc := ⟨.hbm, 78, rfl⟩
abbrev main_call2_v5 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_cst : Ref sig .tc := ⟨.hbm, 86, rfl⟩
abbrev main_call3_v0 : Ref sig .tc := ⟨.hbm, 87, rfl⟩
abbrev main_v22_1 : Ref sig .tc := ⟨.hbm, 88, rfl⟩
abbrev main_call3_v2 : Ref sig .tc := ⟨.hbm, 89, rfl⟩
abbrev main_v22_0 : Ref sig .tc := ⟨.hbm, 90, rfl⟩
abbrev main_call3_cst : Ref sig .tc := ⟨.hbm, 91, rfl⟩
abbrev main_v22_2 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_cst_0 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_cst_1 : Ref sig .tc := ⟨.hbm, 124, rfl⟩
abbrev main_v53 : Ref sig .tc := ⟨.hbm, 125, rfl⟩
abbrev main_v54 : Ref sig .tc := ⟨.hbm, 126, rfl⟩
abbrev main_cst_2 : Ref sig .tc := ⟨.hbm, 127, rfl⟩
abbrev main_v55 : Ref sig .tc := ⟨.hbm, 128, rfl⟩
abbrev main_v56 : Ref sig .tc := ⟨.hbm, 129, rfl⟩
abbrev main_cst_3 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_cst_4 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_call4_cst : Ref sig .tc := ⟨.hbm, 142, rfl⟩
abbrev main_call4_v0 : Ref sig .tc := ⟨.hbm, 143, rfl⟩
abbrev main_v67 : Ref sig .tc := ⟨.hbm, 144, rfl⟩
abbrev main_cst_5 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_cst_6 : Ref sig .tc := ⟨.hbm, 149, rfl⟩
abbrev main_v71 : Ref sig .tc := ⟨.hbm, 150, rfl⟩
abbrev main_v72 : Ref sig .tc := ⟨.hbm, 151, rfl⟩
abbrev main_cst_7 : Ref sig .tc := ⟨.hbm, 152, rfl⟩
abbrev main_v73 : Ref sig .tc := ⟨.hbm, 153, rfl⟩
abbrev main_cst_8 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_call5_call0_cst : Ref sig .tc := ⟨.hbm, 161, rfl⟩
abbrev main_call5_call0_v0 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_cst_9 : Ref sig .tc := ⟨.hbm, 168, rfl⟩
abbrev main_v85 : Ref sig .tc := ⟨.hbm, 169, rfl⟩
abbrev main_v86 : Ref sig .tc := ⟨.hbm, 170, rfl⟩
abbrev main_cst_10 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_cst_11 : Ref sig .tc := ⟨.hbm, 176, rfl⟩
abbrev main_v91 : Ref sig .tc := ⟨.hbm, 177, rfl⟩
abbrev main_v92 : Ref sig .tc := ⟨.hbm, 178, rfl⟩
abbrev main_cst_12 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩

abbrev nD : Nat := 1
abbrev τ : Topo := Topo.v7x

variable {F : FTy → Type} [FloatOps F]
-- ==== InDxZ.lean ====
abbrev S16384x2176 : Shape := ⟨2, ![16384, 2176]⟩
abbrev S1024x6176 : Shape := ⟨2, ![1024, 6176]⟩
abbrev S1024x6144 : Shape := ⟨2, ![1024, 6144]⟩
abbrev S1024x32 : Shape := ⟨2, ![1024, 32]⟩
abbrev S_ : Shape := ⟨0, ![]⟩
abbrev S1024x96 : Shape := ⟨2, ![1024, 96]⟩
abbrev S1024x128 : Shape := ⟨2, ![1024, 128]⟩
abbrev S1024x2048 : Shape := ⟨2, ![1024, 2048]⟩
abbrev S1024x2176 : Shape := ⟨2, ![1024, 2176]⟩
abbrev S16384x1024 : Shape := ⟨2, ![16384, 1024]⟩
abbrev S1024x1024 : Shape := ⟨2, ![1024, 1024]⟩

abbrev nBuf : Space → Nat
  | .hbm => 10
  | .vmem => 5
  | .smem => 0
  | _ => 0

abbrev bufTy : (tb : Table) → Fin (tcTables nBuf tb) → BufTy
  | .hbm, ⟨0, _⟩ => ⟨S16384x2176, .bf16⟩
  | .hbm, ⟨1, _⟩ => ⟨S1024x6176, .bf16⟩
  | .hbm, ⟨2, _⟩ => ⟨S1024x6144, .bf16⟩
  | .hbm, ⟨3, _⟩ => ⟨S1024x32, .bf16⟩
  | .hbm, ⟨4, _⟩ => ⟨S_, .bf16⟩
  | .hbm, ⟨5, _⟩ => ⟨S1024x96, .bf16⟩
  | .hbm, ⟨6, _⟩ => ⟨S1024x128, .bf16⟩
  | .hbm, ⟨7, _⟩ => ⟨S1024x2048, .bf16⟩
  | .hbm, ⟨8, _⟩ => ⟨S1024x2176, .bf16⟩
  | .hbm, ⟨9, _⟩ => ⟨S16384x1024, .f32⟩
  | .local _ .vmem, ⟨0, _⟩ => ⟨S1024x2176, .bf16⟩
  | .local _ .vmem, ⟨1, _⟩ => ⟨S1024x2176, .bf16⟩
  | .local _ .vmem, ⟨2, _⟩ => ⟨S1024x2176, .bf16⟩
  | .local _ .vmem, ⟨3, _⟩ => ⟨S1024x1024, .f32⟩
  | .local _ .vmem, ⟨4, _⟩ => ⟨S1024x1024, .f32⟩
  | _, _ => ⟨S16384x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxZReferenceIdeal.lean ====
abbrev S16384x2176 : Shape := ⟨2, ![16384, 2176]⟩
abbrev S1024x6176 : Shape := ⟨2, ![1024, 6176]⟩
abbrev S1024x2048 : Shape := ⟨2, ![1024, 2048]⟩
abbrev S1024x32 : Shape := ⟨2, ![1024, 32]⟩
abbrev S1024x2080 : Shape := ⟨2, ![1024, 2080]⟩
abbrev S16384x2080 : Shape := ⟨2, ![16384, 2080]⟩
abbrev S_ : Shape := ⟨0, ![]⟩
abbrev S16384x1024 : Shape := ⟨2, ![16384, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x2176, .bf16⟩
  | .hbm, ⟨1, _⟩ => ⟨S1024x6176, .bf16⟩
  | .hbm, ⟨2, _⟩ => ⟨S1024x2048, .bf16⟩
  | .hbm, ⟨3, _⟩ => ⟨S1024x32, .bf16⟩
  | .hbm, ⟨4, _⟩ => ⟨S1024x2080, .bf16⟩
  | .hbm, ⟨5, _⟩ => ⟨S16384x2080, .bf16⟩
  | .hbm, ⟨6, _⟩ => ⟨S_, .f32⟩
  | .hbm, ⟨7, _⟩ => ⟨S16384x1024, .f32⟩
  | .hbm, ⟨8, _⟩ => ⟨S1024x2080, .f32⟩
  | .hbm, ⟨9, _⟩ => ⟨S16384x2080, .f32⟩
  | .hbm, ⟨10, _⟩ => ⟨S16384x2080, .f32⟩
  | .hbm, ⟨11, _⟩ => ⟨S16384x1024, .f32⟩
  | _, _ => ⟨S16384x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InDxXbc.lean ====
abbrev S16384x4096 : Shape := ⟨2, ![16384, 4096]⟩
abbrev S1024x6176 : Shape := ⟨2, ![1024, 6176]⟩
abbrev S16384x1024 : Shape := ⟨2, ![16384, 1024]⟩
abbrev S1024x6144 : Shape := ⟨2, ![1024, 6144]⟩
abbrev S1024x4096 : Shape := ⟨2, ![1024, 4096]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S1024x6176, .bf16⟩
  | .hbm, ⟨2, _⟩ => ⟨S16384x1024, .f32⟩
  | .hbm, ⟨3, _⟩ => ⟨S1024x6144, .bf16⟩
  | .hbm, ⟨4, _⟩ => ⟨S1024x4096, .bf16⟩
  | .hbm, ⟨5, _⟩ => ⟨S16384x1024, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InDxXbcReferenceIdeal.lean ====
abbrev S16384x4096 : Shape := ⟨2, ![16384, 4096]⟩
abbrev S1024x6176 : Shape := ⟨2, ![1024, 6176]⟩
abbrev S16384x1024 : Shape := ⟨2, ![16384, 1024]⟩
abbrev S1024x4096 : Shape := ⟨2, ![1024, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1024x6176, .bf16⟩
  | .hbm, ⟨2, _⟩ => ⟨S16384x1024, .f32⟩
  | .hbm, ⟨3, _⟩ => ⟨S1024x4096, .bf16⟩
  | .hbm, ⟨4, _⟩ => ⟨S_, .f32⟩
  | .hbm, ⟨5, _⟩ => ⟨S16384x1024, .f32⟩
  | .hbm, ⟨6, _⟩ => ⟨S1024x4096, .f32⟩
  | .hbm, ⟨7, _⟩ => ⟨S16384x4096, .f32⟩
  | .hbm, ⟨8, _⟩ => ⟨S16384x4096, .f32⟩
  | .hbm, ⟨9, _⟩ => ⟨S16384x1024, .f32⟩
  | .hbm, ⟨10, _⟩ => ⟨S16384x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== GdnDxQkv.lean ====
abbrev S16384x4096 : Shape := ⟨2, ![16384, 4096]⟩
abbrev S1024x6176 : Shape := ⟨2, ![1024, 6176]⟩
abbrev S1024x6144 : Shape := ⟨2, ![1024, 6144]⟩
abbrev S1024x4096 : Shape := ⟨2, ![1024, 4096]⟩
abbrev S16384x1024 : Shape := ⟨2, ![16384, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S1024x6176, .bf16⟩
  | .hbm, ⟨2, _⟩ => ⟨S1024x6144, .bf16⟩
  | .hbm, ⟨3, _⟩ => ⟨S1024x4096, .bf16⟩
  | .hbm, ⟨4, _⟩ => ⟨S16384x1024, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x1024, .f32⟩
  | .local _ .vmem, ⟨4, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdnDxQkvReferenceIdeal.lean ====
abbrev S16384x4096 : Shape := ⟨2, ![16384, 4096]⟩
abbrev S1024x6176 : Shape := ⟨2, ![1024, 6176]⟩
abbrev S1024x4096 : Shape := ⟨2, ![1024, 4096]⟩
abbrev S_ : Shape := ⟨0, ![]⟩
abbrev S16384x1024 : Shape := ⟨2, ![16384, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1024x6176, .bf16⟩
  | .hbm, ⟨2, _⟩ => ⟨S1024x4096, .bf16⟩
  | .hbm, ⟨3, _⟩ => ⟨S_, .f32⟩
  | .hbm, ⟨4, _⟩ => ⟨S16384x1024, .f32⟩
  | .hbm, ⟨5, _⟩ => ⟨S1024x4096, .f32⟩
  | .hbm, ⟨6, _⟩ => ⟨S16384x4096, .f32⟩
  | .hbm, ⟨7, _⟩ => ⟨S16384x4096, .f32⟩
  | .hbm, ⟨8, _⟩ => ⟨S16384x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GdnDxZ.lean ====
abbrev S16384x2176 : Shape := ⟨2, ![16384, 2176]⟩
abbrev S1024x6176 : Shape := ⟨2, ![1024, 6176]⟩
abbrev S16384x1024 : Shape := ⟨2, ![16384, 1024]⟩
abbrev S1024x6144 : Shape := ⟨2, ![1024, 6144]⟩
abbrev S1024x32 : Shape := ⟨2, ![1024, 32]⟩
abbrev S_ : Shape := ⟨0, ![]⟩
abbrev S1024x96 : Shape := ⟨2, ![1024, 96]⟩
abbrev S1024x128 : Shape := ⟨2, ![1024, 128]⟩
abbrev S1024x2048 : Shape := ⟨2, ![1024, 2048]⟩
abbrev S1024x2176 : Shape := ⟨2, ![1024, 2176]⟩
abbrev S1024x1024 : Shape := ⟨2, ![1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S16384x2176, .bf16⟩
  | .hbm, ⟨1, _⟩ => ⟨S1024x6176, .bf16⟩
  | .hbm, ⟨2, _⟩ => ⟨S16384x1024, .f32⟩
  | .hbm, ⟨3, _⟩ => ⟨S1024x6144, .bf16⟩
  | .hbm, ⟨4, _⟩ => ⟨S1024x32, .bf16⟩
  | .hbm, ⟨5, _⟩ => ⟨S_, .bf16⟩
  | .hbm, ⟨6, _⟩ => ⟨S1024x96, .bf16⟩
  | .hbm, ⟨7, _⟩ => ⟨S1024x128, .bf16⟩
  | .hbm, ⟨8, _⟩ => ⟨S1024x2048, .bf16⟩
  | .hbm, ⟨9, _⟩ => ⟨S1024x2176, .bf16⟩
  | .hbm, ⟨10, _⟩ => ⟨S16384x1024, .f32⟩
  | .local _ .vmem, ⟨0, _⟩ => ⟨S1024x2176, .bf16⟩
  | .local _ .vmem, ⟨1, _⟩ => ⟨S1024x2176, .bf16⟩
  | .local _ .vmem, ⟨2, _⟩ => ⟨S1024x2176, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GdnDxZReferenceIdeal.lean ====
abbrev S16384x2176 : Shape := ⟨2, ![16384, 2176]⟩
abbrev S1024x6176 : Shape := ⟨2, ![1024, 6176]⟩
abbrev S16384x1024 : Shape := ⟨2, ![16384, 1024]⟩
abbrev S1024x2080 : Shape := ⟨2, ![1024, 2080]⟩
abbrev S16384x2080 : Shape := ⟨2, ![16384, 2080]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16384x2176, .bf16⟩
  | .hbm, ⟨1, _⟩ => ⟨S1024x6176, .bf16⟩
  | .hbm, ⟨2, _⟩ => ⟨S16384x1024, .f32⟩
  | .hbm, ⟨3, _⟩ => ⟨S1024x2080, .bf16⟩
  | .hbm, ⟨4, _⟩ => ⟨S16384x2080, .bf16⟩
  | .hbm, ⟨5, _⟩ => ⟨S_, .f32⟩
  | .hbm, ⟨6, _⟩ => ⟨S16384x1024, .f32⟩
  | .hbm, ⟨7, _⟩ => ⟨S1024x2080, .f32⟩
  | .hbm, ⟨8, _⟩ => ⟨S16384x2080, .f32⟩
  | .hbm, ⟨9, _⟩ => ⟨S16384x2080, .f32⟩
  | .hbm, ⟨10, _⟩ => ⟨S16384x1024, .f32⟩
  | .hbm, ⟨11, _⟩ => ⟨S16384x1024, .f32⟩
  | _, _ => ⟨S16384x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== InDwXbc.lean ====
abbrev S16384x1024 : Shape := ⟨2, ![16384, 1024]⟩
abbrev S16384x4096 : Shape := ⟨2, ![16384, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwXbcReferenceIdeal.lean ====
abbrev S16384x1024 : Shape := ⟨2, ![16384, 1024]⟩
abbrev S16384x4096 : Shape := ⟨2, ![16384, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S_, .f32⟩
  | .hbm, ⟨3, _⟩ => ⟨S1024x4096, .f32⟩
  | .hbm, ⟨4, _⟩ => ⟨S16384x1024, .f32⟩
  | .hbm, ⟨5, _⟩ => ⟨S16384x4096, .f32⟩
  | .hbm, ⟨6, _⟩ => ⟨S16384x4096, .f32⟩
  | .hbm, ⟨7, _⟩ => ⟨S4096x1024, .f32⟩
  | .hbm, ⟨8, _⟩ => ⟨S1024x4096, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDwZ.lean ====
abbrev S16384x1024 : Shape := ⟨2, ![16384, 1024]⟩
abbrev S16384x2176 : Shape := ⟨2, ![16384, 2176]⟩
abbrev S1024x2176 : Shape := ⟨2, ![1024, 2176]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x2176, .bf16⟩
  | .hbm, ⟨2, _⟩ => ⟨S1024x2176, .f32⟩
  | .local _ .vmem, ⟨0, _⟩ => ⟨S1024x1024, .bf16⟩
  | .local _ .vmem, ⟨1, _⟩ => ⟨S1024x1024, .bf16⟩
  | .local _ .vmem, ⟨2, _⟩ => ⟨S1024x2176, .bf16⟩
  | .local _ .vmem, ⟨3, _⟩ => ⟨S1024x2176, .bf16⟩
  | .local _ .vmem, ⟨4, _⟩ => ⟨S1024x2176, .f32⟩
  | .local _ .vmem, ⟨5, _⟩ => ⟨S1024x2176, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32_6 : BitVec 32 := 15#32
  let v11 : BitVec 1 := Scalar.cmpi .eq arg2 c15_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDwZReferenceIdeal.lean ====
abbrev S16384x1024 : Shape := ⟨2, ![16384, 1024]⟩
abbrev S16384x2176 : Shape := ⟨2, ![16384, 2176]⟩
abbrev S_ : Shape := ⟨0, ![]⟩
abbrev S1024x2176 : Shape := ⟨2, ![1024, 2176]⟩
abbrev S2176x1024 : Shape := ⟨2, ![2176, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2176, .bf16⟩
  | .hbm, ⟨2, _⟩ => ⟨S_, .f32⟩
  | .hbm, ⟨3, _⟩ => ⟨S1024x2176, .f32⟩
  | .hbm, ⟨4, _⟩ => ⟨S16384x1024, .f32⟩
  | .hbm, ⟨5, _⟩ => ⟨S16384x2176, .f32⟩
  | .hbm, ⟨6, _⟩ => ⟨S16384x2176, .f32⟩
  | .hbm, ⟨7, _⟩ => ⟨S2176x1024, .f32⟩
  | .hbm, ⟨8, _⟩ => ⟨S1024x2176, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDx.lean ====
abbrev S16384x1024 : Shape := ⟨2, ![16384, 1024]⟩
abbrev S2048x1024 : Shape := ⟨2, ![2048, 1024]⟩
abbrev S16384x2048 : Shape := ⟨2, ![16384, 2048]⟩
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S2048x1024, .bf16⟩
  | .hbm, ⟨2, _⟩ => ⟨S16384x2048, .bf16⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S1024x2048, .bf16⟩
  | .local _ .vmem, ⟨4, _⟩ => ⟨S1024x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S16384x1024 : Shape := ⟨2, ![16384, 1024]⟩
abbrev S2048x1024 : Shape := ⟨2, ![2048, 1024]⟩
abbrev S_ : Shape := ⟨0, ![]⟩
abbrev S16384x2048 : Shape := ⟨2, ![16384, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2048x1024, .bf16⟩
  | .hbm, ⟨2, _⟩ => ⟨S_, .f32⟩
  | .hbm, ⟨3, _⟩ => ⟨S16384x2048, .f32⟩
  | .hbm, ⟨4, _⟩ => ⟨S2048x1024, .f32⟩
  | .hbm, ⟨5, _⟩ => ⟨S16384x1024, .f32⟩
  | .hbm, ⟨6, _⟩ => ⟨S16384x2048, .f32⟩
  | .hbm, ⟨7, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S16384x2048 : Shape := ⟨2, ![16384, 2048]⟩
abbrev S16384x1024 : Shape := ⟨2, ![16384, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .f32⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S16384x2048 : Shape := ⟨2, ![16384, 2048]⟩
abbrev S16384x1024 : Shape := ⟨2, ![16384, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .f32⟩
  | .hbm, ⟨2, _⟩ => ⟨S_, .f32⟩
  | .hbm, ⟨3, _⟩ => ⟨S2048x1024, .f32⟩
  | .hbm, ⟨4, _⟩ => ⟨S16384x2048, .f32⟩
  | .hbm, ⟨5, _⟩ => ⟨S16384x1024, .f32⟩
  | .hbm, ⟨6, _⟩ => ⟨S1024x2048, .f32⟩
  | .hbm, ⟨7, _⟩ => ⟨S2048x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InProj.lean ====
abbrev S16384x1024 : Shape := ⟨2, ![16384, 1024]⟩
abbrev S1024x6176 : Shape := ⟨2, ![1024, 6176]⟩
abbrev S1024x6144 : Shape := ⟨2, ![1024, 6144]⟩
abbrev S16384x6144 : Shape := ⟨2, ![16384, 6144]⟩
abbrev S2048x1024 : Shape := ⟨2, ![2048, 1024]⟩
abbrev S1024x1536 : Shape := ⟨2, ![1024, 1536]⟩
abbrev S2048x1536 : Shape := ⟨2, ![2048, 1536]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x6176, .bf16⟩
  | .hbm, ⟨2, _⟩ => ⟨S1024x6144, .bf16⟩
  | .hbm, ⟨3, _⟩ => ⟨S16384x6144, .f32⟩
  | .local _ .vmem, ⟨0, _⟩ => ⟨S2048x1024, .bf16⟩
  | .local _ .vmem, ⟨1, _⟩ => ⟨S2048x1024, .bf16⟩
  | .local _ .vmem, ⟨2, _⟩ => ⟨S1024x1536, .bf16⟩
  | .local _ .vmem, ⟨3, _⟩ => ⟨S1024x1536, .bf16⟩
  | .local _ .vmem, ⟨4, _⟩ => ⟨S2048x1536, .f32⟩
  | .local _ .vmem, ⟨5, _⟩ => ⟨S2048x1536, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjReferenceIdeal.lean ====
abbrev S16384x1024 : Shape := ⟨2, ![16384, 1024]⟩
abbrev S1024x6176 : Shape := ⟨2, ![1024, 6176]⟩
abbrev S1024x6144 : Shape := ⟨2, ![1024, 6144]⟩
abbrev S16384x6144 : Shape := ⟨2, ![16384, 6144]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x6176, .bf16⟩
  | .hbm, ⟨2, _⟩ => ⟨S16384x1024, .f32⟩
  | .hbm, ⟨3, _⟩ => ⟨S1024x6144, .bf16⟩
  | .hbm, ⟨4, _⟩ => ⟨S1024x6144, .f32⟩
  | .hbm, ⟨5, _⟩ => ⟨S16384x6144, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S16384x2048 : Shape := ⟨2, ![16384, 2048]⟩
abbrev S2048x1024 : Shape := ⟨2, ![2048, 1024]⟩
abbrev S16384x1024 : Shape := ⟨2, ![16384, 1024]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x1024, .f32⟩
  | .hbm, ⟨3, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjReferenceIdeal.lean ====
abbrev S16384x2048 : Shape := ⟨2, ![16384, 2048]⟩
abbrev S2048x1024 : Shape := ⟨2, ![2048, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x1024, .f32⟩
  | .hbm, ⟨3, _⟩ => ⟨S16384x2048, .f32⟩
  | .hbm, ⟨4, _⟩ => ⟨S2048x1024, .f32⟩
  | .hbm, ⟨5, _⟩ => ⟨S16384x1024, .f32⟩
  | .hbm, ⟨6, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Fwd.lean ====
abbrev S8x16384x256 : Shape := ⟨3, ![8, 16384, 256]⟩
abbrev S8x16384x128 : Shape := ⟨3, ![8, 16384, 128]⟩
abbrev S16384x32 : Shape := ⟨2, ![16384, 32]⟩
abbrev S32 : Shape := ⟨1, ![32]⟩
abbrev S64x2x128x32 : Shape := ⟨4, ![64, 2, 128, 32]⟩
abbrev S64x32x2x128 : Shape := ⟨4, ![64, 32, 2, 128]⟩
abbrev S64x8x4x2x128 : Shape := ⟨5, ![64, 8, 4, 2, 128]⟩
abbrev S64x2x4x8x128 : Shape := ⟨5, ![64, 2, 4, 8, 128]⟩
abbrev S64x8x8x1x128 : Shape := ⟨5, ![64, 8, 8, 1, 128]⟩
abbrev S8x4 : Shape := ⟨2, ![8, 4]⟩
abbrev S4x8 : Shape := ⟨2, ![4, 8]⟩
abbrev S4x8x1x1 : Shape := ⟨4, ![4, 8, 1, 1]⟩
abbrev S128x8x256x128 : Shape := ⟨4, ![128, 8, 256, 128]⟩
abbrev S8x256x256 : Shape := ⟨3, ![8, 256, 256]⟩
abbrev S8x256x128 : Shape := ⟨3, ![8, 256, 128]⟩
abbrev S1x8x8x1x128 : Shape := ⟨5, ![1, 8, 8, 1, 128]⟩
abbrev S2x8x256x128 : Shape := ⟨4, ![2, 8, 256, 128]⟩
abbrev S1x8x256x128 : Shape := ⟨4, ![1, 8, 256, 128]⟩
abbrev S8x128x256 : Shape := ⟨3, ![8, 128, 256]⟩
abbrev S8x128x128 : Shape := ⟨3, ![8, 128, 128]⟩
abbrev S1x4x8x1x128 : Shape := ⟨5, ![1, 4, 8, 1, 128]⟩
abbrev S4x8x1x128 : Shape := ⟨4, ![4, 8, 1, 128]⟩
abbrev S1x128x128 : Shape := ⟨3, ![1, 128, 128]⟩
abbrev S1x1x256 : Shape := ⟨3, ![1, 1, 256]⟩
abbrev S1x256x1 : Shape := ⟨3, ![1, 256, 1]⟩
abbrev S1x8x1x128 : Shape := ⟨4, ![1, 8, 1, 128]⟩
abbrev S8x1x128 : Shape := ⟨3, ![8, 1, 128]⟩
abbrev S1x8x1x1 : Shape := ⟨4, ![1, 8, 1, 1]⟩
abbrev S8x1x1 : Shape := ⟨3, ![8, 1, 1]⟩
abbrev S8x128 : Shape := ⟨2, ![8, 128]⟩
abbrev S8x128x1 : Shape := ⟨3, ![8, 128, 1]⟩
abbrev S8x1 : Shape := ⟨2, ![8, 1]⟩
abbrev S8x1x256 : Shape := ⟨3, ![8, 1, 256]⟩
abbrev S8x256x1 : Shape := ⟨3, ![8, 256, 1]⟩

abbrev nBuf : Space → Nat
  | .hbm => 23
  | .vmem => 16
  | .smem => 0
  | _ => 0

abbrev bufTy : (tb : Table) → Fin (tcTables nBuf tb) → BufTy
  | .hbm, ⟨0, _⟩ => ⟨S8x16384x256, .f32⟩
  | .hbm, ⟨1, _⟩ => ⟨S8x16384x128, .f32⟩
  | .hbm, ⟨2, _⟩ => ⟨S8x16384x128, .f32⟩
  | .hbm, ⟨3, _⟩ => ⟨S16384x32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S64x2x128x32, .f32⟩
  | .hbm, ⟨8, _⟩ => ⟨S64x32x2x128, .f32⟩
  | .hbm, ⟨9, _⟩ => ⟨S64x8x4x2x128, .f32⟩
  | .hbm, ⟨10, _⟩ => ⟨S64x2x4x8x128, .f32⟩
  | .hbm, ⟨11, _⟩ => ⟨S64x8x8x1x128, .f32⟩
  | .hbm, ⟨12, _⟩ => ⟨S8x4, .f32⟩
  | .hbm, ⟨13, _⟩ => ⟨S4x8, .f32⟩
  | .hbm, ⟨14, _⟩ => ⟨S4x8x1x1, .f32⟩
  | .hbm, ⟨15, _⟩ => ⟨S8x4, .f32⟩
  | .hbm, ⟨16, _⟩ => ⟨S4x8, .f32⟩
  | .hbm, ⟨17, _⟩ => ⟨S4x8x1x1, .f32⟩
  | .hbm, ⟨18, _⟩ => ⟨S8x4, .f32⟩
  | .hbm, ⟨19, _⟩ => ⟨S4x8, .f32⟩
  | .hbm, ⟨20, _⟩ => ⟨S4x8x1x1, .f32⟩
  | .hbm, ⟨21, _⟩ => ⟨S8x16384x256, .f32⟩
  | .hbm, ⟨22, _⟩ => ⟨S128x8x256x128, .f32⟩
  | .local _ .vmem, ⟨0, _⟩ => ⟨S8x256x256, .f32⟩
  | .local _ .vmem, ⟨1, _⟩ => ⟨S8x256x256, .f32⟩
  | .local _ .vmem, ⟨2, _⟩ => ⟨S8x256x128, .f32⟩
  | .local _ .vmem, ⟨3, _⟩ => ⟨S8x256x128, .f32⟩
  | .local _ .vmem, ⟨4, _⟩ => ⟨S8x256x128, .f32⟩
  | .local _ .vmem, ⟨5, _⟩ => ⟨S8x256x128, .f32⟩
  | .local _ .vmem, ⟨6, _⟩ => ⟨S1x8x8x1x128, .f32⟩
  | .local _ .vmem, ⟨7, _⟩ => ⟨S1x8x8x1x128, .f32⟩
  | .local _ .vmem, ⟨8, _⟩ => ⟨S4x8x1x1, .f32⟩
  | .local _ .vmem, ⟨9, _⟩ => ⟨S4x8x1x1, .f32⟩
  | .local _ .vmem, ⟨10, _⟩ => ⟨S4x8x1x1, .f32⟩
  | .local _ .vmem, ⟨11, _⟩ => ⟨S8x256x256, .f32⟩
  | .local _ .vmem, ⟨12, _⟩ => ⟨S8x256x256, .f32⟩
  | .local _ .vmem, ⟨13, _⟩ => ⟨S2x8x256x128, .f32⟩
  | .local _ .vmem, ⟨14, _⟩ => ⟨S2x8x256x128, .f32⟩
  | .local _ .vmem, ⟨15, _⟩ => ⟨S8x256x128, .f32⟩
  | _, _ => ⟨S8x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x8x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x8x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S4x8x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S4x8x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S8x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x8x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FwdIdeal.lean ====
variable {F : FTy → Type} [FloatOps F] [Named F]
def κ : String → Option EReal := fun
  | "mask" => some ⊥
  | _ => none
-- ==== FwdReferenceIdeal.lean ====
abbrev S8x16384x256 : Shape := ⟨3, ![8, 16384, 256]⟩
abbrev S8x16384x128 : Shape := ⟨3, ![8, 16384, 128]⟩
abbrev S16384x32 : Shape := ⟨2, ![16384, 32]⟩
abbrev S32 : Shape := ⟨1, ![32]⟩
abbrev S8x16384x4x64 : Shape := ⟨4, ![8, 16384, 4, 64]⟩
abbrev S1x32 : Shape := ⟨2, ![1, 32]⟩
abbrev S_ : Shape := ⟨0, ![]⟩
abbrev S32x16384 : Shape := ⟨2, ![32, 16384]⟩
abbrev S8x4x16384 : Shape := ⟨3, ![8, 4, 16384]⟩
abbrev S16384x16384 : Shape := ⟨2, ![16384, 16384]⟩
abbrev S8x4x16384x1 : Shape := ⟨4, ![8, 4, 16384, 1]⟩
abbrev S8x4x1x16384 : Shape := ⟨4, ![8, 4, 1, 16384]⟩
abbrev S8x4x16384x16384 : Shape := ⟨4, ![8, 4, 16384, 16384]⟩
abbrev S8x16384x16384 : Shape := ⟨3, ![8, 16384, 16384]⟩
abbrev S8x16384x4 : Shape := ⟨3, ![8, 16384, 4]⟩
abbrev S8x16384x4x1 : Shape := ⟨4, ![8, 16384, 4, 1]⟩
abbrev S8x1x16384x16384 : Shape := ⟨4, ![8, 1, 16384, 16384]⟩
abbrev S8x4x64x16384 : Shape := ⟨4, ![8, 4, 64, 16384]⟩
abbrev S8x1x4x1 : Shape := ⟨4, ![8, 1, 4, 1]⟩
abbrev S128x128x32 : Shape := ⟨3, ![128, 128, 32]⟩
abbrev S128x1x32 : Shape := ⟨3, ![128, 1, 32]⟩
abbrev S128x32 : Shape := ⟨2, ![128, 32]⟩
abbrev S16384 : Shape := ⟨1, ![16384]⟩
abbrev S1x16384 : Shape := ⟨2, ![1, 16384]⟩
abbrev S128 : Shape := ⟨1, ![128]⟩
abbrev S128x1 : Shape := ⟨2, ![128, 1]⟩
abbrev S128x16384 : Shape := ⟨2, ![128, 16384]⟩
abbrev S128x16384x1 : Shape := ⟨3, ![128, 16384, 1]⟩
abbrev S1x16384x32 : Shape := ⟨3, ![1, 16384, 32]⟩
abbrev S128x16384x32 : Shape := ⟨3, ![128, 16384, 32]⟩
abbrev S128x16384x8x4 : Shape := ⟨4, ![128, 16384, 8, 4]⟩
abbrev S128x8x16384x4 : Shape := ⟨4, ![128, 8, 16384, 4]⟩
abbrev S128x8x16384x4x1 : Shape := ⟨5, ![128, 8, 16384, 4, 1]⟩
abbrev S1x8x16384x4x64 : Shape := ⟨5, ![1, 8, 16384, 4, 64]⟩
abbrev S128x8x16384x4x64 : Shape := ⟨5, ![128, 8, 16384, 4, 64]⟩
abbrev S8x128x128x4x64 : Shape := ⟨5, ![8, 128, 128, 4, 64]⟩
abbrev S128x8x4x64x128 : Shape := ⟨5, ![128, 8, 4, 64, 128]⟩
abbrev S128x8x256x128 : Shape := ⟨4, ![128, 8, 256, 128]⟩

abbrev nBuf : Space → Nat
  | .hbm => 139
  | .vmem => 0
  | .smem => 0
  | _ => 0

abbrev hbmTy0_0 (i : Nat) : BufTy := match i % 128 with
  | 0 => ⟨S8x16384x256, .f32⟩
  | 1 => ⟨S8x16384x128, .f32⟩
  | 2 => ⟨S8x16384x128, .f32⟩
  | 3 => ⟨S16384x32, .f32⟩
  | 4 => ⟨S32, .f32⟩
  | 5 => ⟨S32, .f32⟩
  | 6 => ⟨S32, .f32⟩
  | 7 => ⟨S8x16384x4x64, .f32⟩
  | 8 => ⟨S1x32, .f32⟩
  | 9 => ⟨S16384x32, .f32⟩
  | 10 => ⟨S16384x32, .f32⟩
  | 11 => ⟨S_, .f32⟩
  | 12 => ⟨S16384x32, .f32⟩
  | 13 => ⟨S16384x32, .f32⟩
  | 14 => ⟨S16384x32, .f32⟩
  | 15 => ⟨S16384x32, .f32⟩
  | 16 => ⟨S16384x32, .i1⟩
  | 17 => ⟨S16384x32, .f32⟩
  | 18 => ⟨S16384x32, .f32⟩
  | 19 => ⟨S16384x32, .f32⟩
  | 20 => ⟨S16384x32, .f32⟩
  | 21 => ⟨S16384x32, .f32⟩
  | 22 => ⟨S16384x32, .f32⟩
  | 23 => ⟨S16384x32, .f32⟩
  | 24 => ⟨S16384x32, .f32⟩
  | 25 => ⟨S32, .f32⟩
  | 26 => ⟨S32, .f32⟩
  | 27 => ⟨S1x32, .f32⟩
  | 28 => ⟨S16384x32, .f32⟩
  | 29 => ⟨S16384x32, .f32⟩
  | 30 => ⟨S_, .f32⟩
  | 31 => ⟨S_, .f32⟩
  | 32 => ⟨S16384x32, .f32⟩
  | 33 => ⟨S32x16384, .f32⟩
  | 34 => ⟨S8x4x16384, .f32⟩
  | 35 => ⟨S32x16384, .f32⟩
  | 36 => ⟨S8x4x16384, .f32⟩
  | 37 => ⟨S_, .i1⟩
  | 38 => ⟨S16384x16384, .i1⟩
  | 39 => ⟨S16384x16384, .i32⟩
  | 40 => ⟨S_, .i32⟩
  | 41 => ⟨S16384x16384, .i32⟩
  | 42 => ⟨S16384x16384, .i32⟩
  | 43 => ⟨S16384x16384, .i32⟩
  | 44 => ⟨S16384x16384, .i1⟩
  | 45 => ⟨S_, .i1⟩
  | 46 => ⟨S16384x16384, .i1⟩
  | 47 => ⟨S16384x16384, .i1⟩
  | 48 => ⟨S8x4x16384x1, .f32⟩
  | 49 => ⟨S8x4x1x16384, .f32⟩
  | 50 => ⟨S8x4x16384x16384, .f32⟩
  | 51 => ⟨S8x4x16384x16384, .f32⟩
  | 52 => ⟨S8x4x16384x16384, .f32⟩
  | 53 => ⟨S_, .f32⟩
  | 54 => ⟨S_, .f32⟩
  | 55 => ⟨S8x4x16384x16384, .i1⟩
  | 56 => ⟨S8x4x16384x16384, .f32⟩
  | 57 => ⟨S8x4x16384x16384, .f32⟩
  | 58 => ⟨S8x4x16384x16384, .f32⟩
  | 59 => ⟨S8x16384x16384, .f32⟩
  | 60 => ⟨S8x16384x4, .f32⟩
  | 61 => ⟨S8x16384x4x1, .f32⟩
  | 62 => ⟨S8x16384x4x64, .f32⟩
  | 63 => ⟨S8x16384x4x64, .f32⟩
  | 64 => ⟨S8x1x16384x16384, .f32⟩
  | 65 => ⟨S8x4x16384x16384, .f32⟩
  | 66 => ⟨S8x4x16384x16384, .f32⟩
  | 67 => ⟨S8x4x64x16384, .f32⟩
  | 68 => ⟨S8x16384x4x64, .f32⟩
  | 69 => ⟨S8x1x4x1, .f32⟩
  | 70 => ⟨S8x16384x4x64, .f32⟩
  | 71 => ⟨S8x16384x4x64, .f32⟩
  | 72 => ⟨S8x16384x4x64, .f32⟩
  | 73 => ⟨S8x16384x256, .f32⟩
  | 74 => ⟨S8x16384x4x64, .f32⟩
  | 75 => ⟨S1x32, .f32⟩
  | 76 => ⟨S16384x32, .f32⟩
  | 77 => ⟨S16384x32, .f32⟩
  | 78 => ⟨S_, .f32⟩
  | 79 => ⟨S16384x32, .f32⟩
  | 80 => ⟨S16384x32, .f32⟩
  | 81 => ⟨S16384x32, .f32⟩
  | 82 => ⟨S16384x32, .f32⟩
  | 83 => ⟨S16384x32, .i1⟩
  | 84 => ⟨S16384x32, .f32⟩
  | 85 => ⟨S16384x32, .f32⟩
  | 86 => ⟨S16384x32, .f32⟩
  | 87 => ⟨S16384x32, .f32⟩
  | 88 => ⟨S16384x32, .f32⟩
  | 89 => ⟨S16384x32, .f32⟩
  | 90 => ⟨S16384x32, .f32⟩
  | 91 => ⟨S16384x32, .f32⟩
  | 92 => ⟨S32, .f32⟩
  | 93 => ⟨S32, .f32⟩
  | 94 => ⟨S1x32, .f32⟩
  | 95 => ⟨S16384x32, .f32⟩
  | 96 => ⟨S16384x32, .f32⟩
  | 97 => ⟨S_, .f32⟩
  | 98 => ⟨S_, .f32⟩
  | 99 => ⟨S16384x32, .f32⟩
  | 100 => ⟨S16384x32, .f32⟩
  | 101 => ⟨S128x128x32, .f32⟩
  | 102 => ⟨S128x1x32, .f32⟩
  | 103 => ⟨S128x32, .f32⟩
  | 104 => ⟨S16384, .i32⟩
  | 105 => ⟨S1x16384, .i32⟩
  | 106 => ⟨S128, .i32⟩
  | 107 => ⟨S128x1, .i32⟩
  | 108 => ⟨S_, .i32⟩
  | 109 => ⟨S128x1, .i32⟩
  | 110 => ⟨S128x1, .i32⟩
  | 111 => ⟨S128x16384, .i32⟩
  | 112 => ⟨S128x16384, .i32⟩
  | 113 => ⟨S128x16384, .i1⟩
  | 114 => ⟨S128x16384x1, .i1⟩
  | 115 => ⟨S128x1x32, .f32⟩
  | 116 => ⟨S1x16384x32, .f32⟩
  | 117 => ⟨S128x16384x32, .f32⟩
  | 118 => ⟨S128x16384x32, .f32⟩
  | 119 => ⟨S128x16384x32, .f32⟩
  | 120 => ⟨S_, .f32⟩
  | 121 => ⟨S_, .f32⟩
  | 122 => ⟨S128x16384x32, .i1⟩
  | 123 => ⟨S128x16384x32, .f32⟩
  | 124 => ⟨S128x16384x32, .f32⟩
  | 125 => ⟨S128x16384x32, .f32⟩
  | 126 => ⟨S1x16384x32, .f32⟩
  | 127 => ⟨S128x16384x32, .f32⟩
  | _ => ⟨S8x16384x256, .f32⟩

abbrev hbmTy0_1 (i : Nat) : BufTy := match i % 128 with
  | 0 => ⟨S128x16384x32, .f32⟩
  | 1 => ⟨S128x16384x8x4, .f32⟩
  | 2 => ⟨S128x8x16384x4, .f32⟩
  | 3 => ⟨S128x8x16384x4x1, .f32⟩
  | 4 => ⟨S1x8x16384x4x64, .f32⟩
  | 5 => ⟨S128x8x16384x4x64, .f32⟩
  | 6 => ⟨S128x8x16384x4x64, .f32⟩
  | 7 => ⟨S128x8x16384x4x64, .f32⟩
  | 8 => ⟨S8x128x128x4x64, .f32⟩
  | 9 => ⟨S128x8x4x64x128, .f32⟩
  | 10 => ⟨S128x8x256x128, .f32⟩
  | _ => ⟨S8x16384x256, .f32⟩

abbrev hbmTy (i : Nat) : BufTy := match i / 128 with
  | 0 => hbmTy0_0 i
  | 1 => hbmTy0_1 i
  | _ => ⟨S8x16384x256, .f32⟩

abbrev bufTy : (tb : Table) → Fin (tcTables nBuf tb) → BufTy
  | .hbm, ⟨i, _⟩ => hbmTy i
  | _, _ => ⟨S8x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_call1_call0_cst : Ref sig .tc := ⟨.hbm, 30, rfl⟩
abbrev main_call1_call0_v0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_call2_v0 : Ref sig .tc := ⟨.hbm, 39, rfl⟩
abbrev main_call2_c : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_c_0 : Ref sig .tc := ⟨.hbm, 45, rfl⟩
abbrev main_call2_v5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_call4_cst : Ref sig .tc := ⟨.hbm, 78, rfl⟩
abbrev main_call4_v0 : Ref sig .tc := ⟨.hbm, 79, rfl⟩
abbrev main_call4_v1 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_call4_v5 : Ref sig .tc := ⟨.hbm, 84, rfl⟩
abbrev main_call4_v6 : Ref sig .tc := ⟨.hbm, 85, rfl⟩
abbrev main_call4_v7 : Ref sig .tc := ⟨.hbm, 86, rfl⟩
abbrev main_call4_v8 : Ref sig .tc := ⟨.hbm, 87, rfl⟩
abbrev main_call4_v9 : Ref sig .tc := ⟨.hbm, 88, rfl⟩
abbrev main_call4_v10 : Ref sig .tc := ⟨.hbm, 89, rfl⟩
abbrev main_call4_v11 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_call5_call0_cst : Ref sig .tc := ⟨.hbm, 97, rfl⟩
abbrev main_call5_call0_v0 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_c_0 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_cst_1 : Ref sig .tc := ⟨.hbm, 120, rfl⟩
abbrev main_call6_v0 : Ref sig .tc := ⟨.hbm, 121, rfl⟩
abbrev main_call6_v1 : Ref sig .tc := ⟨.hbm, 122, rfl⟩
abbrev main_call6_v2 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩

abbrev nD : Nat := 1
abbrev τ : Topo := Topo.v7x

variable {F : FTy → Type} [FloatOps F]
-- ==== AdamIn.lean ====
abbrev S1024x1544 : Shape := ⟨2, ![1024, 1544]⟩
abbrev S256x1544 : Shape := ⟨2, ![256, 1544]⟩

abbrev nBuf : Space → Nat
  | .hbm => 7
  | .vmem => 14
  | .smem => 0
  | _ => 0

abbrev bufTy : (tb : Table) → Fin (tcTables nBuf tb) → BufTy
  | .hbm, ⟨0, _⟩ => ⟨S1024x1544, .f32⟩
  | .hbm, ⟨1, _⟩ => ⟨S1024x1544, .f32⟩
  | .hbm, ⟨2, _⟩ => ⟨S1024x1544, .f32⟩
  | .hbm, ⟨3, _⟩ => ⟨S1024x1544, .f32⟩
  | .hbm, ⟨4, _⟩ => ⟨S1024x1544, .f32⟩
  | .hbm, ⟨5, _⟩ => ⟨S1024x1544, .f32⟩
  | .hbm, ⟨6, _⟩ => ⟨S1024x1544, .f32⟩
  | .local _ .vmem, ⟨0, _⟩ => ⟨S256x1544, .f32⟩
  | .local _ .vmem, ⟨1, _⟩ => ⟨S256x1544, .f32⟩
  | .local _ .vmem, ⟨2, _⟩ => ⟨S256x1544, .f32⟩
  | .local _ .vmem, ⟨3, _⟩ => ⟨S256x1544, .f32⟩
  | .local _ .vmem, ⟨4, _⟩ => ⟨S256x1544, .f32⟩
  | .local _ .vmem, ⟨5, _⟩ => ⟨S256x1544, .f32⟩
  | .local _ .vmem, ⟨6, _⟩ => ⟨S256x1544, .f32⟩
  | .local _ .vmem, ⟨7, _⟩ => ⟨S256x1544, .f32⟩
  | .local _ .vmem, ⟨8, _⟩ => ⟨S256x1544, .f32⟩
  | .local _ .vmem, ⟨9, _⟩ => ⟨S256x1544, .f32⟩
  | .local _ .vmem, ⟨10, _⟩ => ⟨S256x1544, .f32⟩
  | .local _ .vmem, ⟨11, _⟩ => ⟨S256x1544, .f32⟩
  | .local _ .vmem, ⟨12, _⟩ => ⟨S256x1544, .f32⟩
  | .local _ .vmem, ⟨13, _⟩ => ⟨S256x1544, .f32⟩
  | _, _ => ⟨S1024x1544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1544 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1544 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1544 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1544 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S1024x1544 : Shape := ⟨2, ![1024, 1544]⟩
abbrev S256x1544 : Shape := ⟨2, ![256, 1544]⟩

abbrev nBuf : Space → Nat
  | .hbm => 7
  | .vmem => 14
  | .smem => 0
  | _ => 0

abbrev bufTy : (tb : Table) → Fin (tcTables nBuf tb) → BufTy
  | .hbm, ⟨0, _⟩ => ⟨S1024x1544, .f32⟩
  | .hbm, ⟨1, _⟩ => ⟨S1024x1544, .f32⟩
  | .hbm, ⟨2, _⟩ => ⟨S1024x1544, .f32⟩
  | .hbm, ⟨3, _⟩ => ⟨S1024x1544, .f32⟩
  | .hbm, ⟨4, _⟩ => ⟨S1024x1544, .f32⟩
  | .hbm, ⟨5, _⟩ => ⟨S1024x1544, .f32⟩
  | .hbm, ⟨6, _⟩ => ⟨S1024x1544, .f32⟩
  | .local _ .vmem, ⟨0, _⟩ => ⟨S256x1544, .f32⟩
  | .local _ .vmem, ⟨1, _⟩ => ⟨S256x1544, .f32⟩
  | .local _ .vmem, ⟨2, _⟩ => ⟨S256x1544, .f32⟩
  | .local _ .vmem, ⟨3, _⟩ => ⟨S256x1544, .f32⟩
  | .local _ .vmem, ⟨4, _⟩ => ⟨S256x1544, .f32⟩
  | .local _ .vmem, ⟨5, _⟩ => ⟨S256x1544, .f32⟩
  | .local _ .vmem, ⟨6, _⟩ => ⟨S256x1544, .f32⟩
  | .local _ .vmem, ⟨7, _⟩ => ⟨S256x1544, .f32⟩
  | .local _ .vmem, ⟨8, _⟩ => ⟨S256x1544, .f32⟩
  | .local _ .vmem, ⟨9, _⟩ => ⟨S256x1544, .f32⟩
  | .local _ .vmem, ⟨10, _⟩ => ⟨S256x1544, .f32⟩
  | .local _ .vmem, ⟨11, _⟩ => ⟨S256x1544, .f32⟩
  | .local _ .vmem, ⟨12, _⟩ => ⟨S256x1544, .f32⟩
  | .local _ .vmem, ⟨13, _⟩ => ⟨S256x1544, .f32⟩
  | _, _ => ⟨S1024x1544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1544 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1544 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1544 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1544 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInReferenceIdeal.lean ====
abbrev S1024x1544 : Shape := ⟨2, ![1024, 1544]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1544, .f32⟩
  | .hbm, ⟨1, _⟩ => ⟨S1024x1544, .f32⟩
  | .hbm, ⟨2, _⟩ => ⟨S1024x1544, .f32⟩
  | .hbm, ⟨3, _⟩ => ⟨S1024x1544, .f32⟩
  | .hbm, ⟨4, _⟩ => ⟨S_, .f32⟩
  | .hbm, ⟨5, _⟩ => ⟨S1024x1544, .f32⟩
  | .hbm, ⟨6, _⟩ => ⟨S1024x1544, .f32⟩
  | .hbm, ⟨7, _⟩ => ⟨S_, .f32⟩
  | .hbm, ⟨8, _⟩ => ⟨S1024x1544, .f32⟩
  | .hbm, ⟨9, _⟩ => ⟨S1024x1544, .f32⟩
  | .hbm, ⟨10, _⟩ => ⟨S1024x1544, .f32⟩
  | .hbm, ⟨11, _⟩ => ⟨S_, .f32⟩
  | .hbm, ⟨12, _⟩ => ⟨S1024x1544, .f32⟩
  | .hbm, ⟨13, _⟩ => ⟨S1024x1544, .f32⟩
  | .hbm, ⟨14, _⟩ => ⟨S1024x1544, .f32⟩
  | .hbm, ⟨15, _⟩ => ⟨S_, .f32⟩
  | .hbm, ⟨16, _⟩ => ⟨S1024x1544, .f32⟩
  | .hbm, ⟨17, _⟩ => ⟨S1024x1544, .f32⟩
  | .hbm, ⟨18, _⟩ => ⟨S1024x1544, .f32⟩
  | .hbm, ⟨19, _⟩ => ⟨S_, .f32⟩
  | .hbm, ⟨20, _⟩ => ⟨S1024x1544, .f32⟩
  | .hbm, ⟨21, _⟩ => ⟨S1024x1544, .f32⟩
  | .hbm, ⟨22, _⟩ => ⟨S_, .f32⟩
  | .hbm, ⟨23, _⟩ => ⟨S1024x1544, .f32⟩
  | .hbm, ⟨24, _⟩ => ⟨S1024x1544, .f32⟩
  | .hbm, ⟨25, _⟩ => ⟨S1024x1544, .f32⟩
  | .hbm, ⟨26, _⟩ => ⟨S_, .f32⟩
  | .hbm, ⟨27, _⟩ => ⟨S1024x1544, .f32⟩
  | .hbm, ⟨28, _⟩ => ⟨S1024x1544, .f32⟩
  | .hbm, ⟨29, _⟩ => ⟨S1024x1544, .f32⟩
  | .hbm, ⟨30, _⟩ => ⟨S_, .f32⟩
  | .hbm, ⟨31, _⟩ => ⟨S1024x1544, .f32⟩
  | .hbm, ⟨32, _⟩ => ⟨S1024x1544, .f32⟩
  | .hbm, ⟨33, _⟩ => ⟨S1024x1544, .f32⟩
  | .hbm, ⟨34, _⟩ => ⟨S_, .f32⟩
  | .hbm, ⟨35, _⟩ => ⟨S1024x1544, .f32⟩
  | .hbm, ⟨36, _⟩ => ⟨S1024x1544, .f32⟩
  | _, _ => ⟨S1024x1544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutReferenceIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S152x128 : Shape := ⟨2, ![152, 128]⟩

abbrev nBuf : Space → Nat
  | .hbm => 7
  | .vmem => 7
  | .smem => 0
  | _ => 0

abbrev bufTy : (tb : Table) → Fin (tcTables nBuf tb) → BufTy
  | .hbm, ⟨0, _⟩ => ⟨S152x128, .f32⟩
  | .hbm, ⟨1, _⟩ => ⟨S152x128, .f32⟩
  | .hbm, ⟨2, _⟩ => ⟨S152x128, .f32⟩
  | .hbm, ⟨3, _⟩ => ⟨S152x128, .f32⟩
  | .hbm, ⟨4, _⟩ => ⟨S152x128, .f32⟩
  | .hbm, ⟨5, _⟩ => ⟨S152x128, .f32⟩
  | .hbm, ⟨6, _⟩ => ⟨S152x128, .f32⟩
  | .local _ .vmem, ⟨0, _⟩ => ⟨S152x128, .f32⟩
  | .local _ .vmem, ⟨1, _⟩ => ⟨S152x128, .f32⟩
  | .local _ .vmem, ⟨2, _⟩ => ⟨S152x128, .f32⟩
  | .local _ .vmem, ⟨3, _⟩ => ⟨S152x128, .f32⟩
  | .local _ .vmem, ⟨4, _⟩ => ⟨S152x128, .f32⟩
  | .local _ .vmem, ⟨5, _⟩ => ⟨S152x128, .f32⟩
  | .local _ .vmem, ⟨6, _⟩ => ⟨S152x128, .f32⟩
  | _, _ => ⟨S152x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S152x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S152x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S152x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S152x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S152x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S152x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S152x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallReferenceIdeal.lean ====
abbrev S152x128 : Shape := ⟨2, ![152, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S152x128, .f32⟩
  | .hbm, ⟨1, _⟩ => ⟨S152x128, .f32⟩
  | .hbm, ⟨2, _⟩ => ⟨S152x128, .f32⟩
  | .hbm, ⟨3, _⟩ => ⟨S152x128, .f32⟩
  | .hbm, ⟨4, _⟩ => ⟨S_, .f32⟩
  | .hbm, ⟨5, _⟩ => ⟨S152x128, .f32⟩
  | .hbm, ⟨6, _⟩ => ⟨S152x128, .f32⟩
  | .hbm, ⟨7, _⟩ => ⟨S_, .f32⟩
  | .hbm, ⟨8, _⟩ => ⟨S152x128, .f32⟩
  | .hbm, ⟨9, _⟩ => ⟨S152x128, .f32⟩
  | .hbm, ⟨10, _⟩ => ⟨S152x128, .f32⟩
  | .hbm, ⟨11, _⟩ => ⟨S_, .f32⟩
  | .hbm, ⟨12, _⟩ => ⟨S152x128, .f32⟩
  | .hbm, ⟨13, _⟩ => ⟨S152x128, .f32⟩
  | .hbm, ⟨14, _⟩ => ⟨S152x128, .f32⟩
  | .hbm, ⟨15, _⟩ => ⟨S_, .f32⟩
  | .hbm, ⟨16, _⟩ => ⟨S152x128, .f32⟩
  | .hbm, ⟨17, _⟩ => ⟨S152x128, .f32⟩
  | .hbm, ⟨18, _⟩ => ⟨S152x128, .f32⟩
  | .hbm, ⟨19, _⟩ => ⟨S_, .f32⟩
  | .hbm, ⟨20, _⟩ => ⟨S152x128, .f32⟩
  | .hbm, ⟨21, _⟩ => ⟨S152x128, .f32⟩
  | .hbm, ⟨22, _⟩ => ⟨S_, .f32⟩
  | .hbm, ⟨23, _⟩ => ⟨S152x128, .f32⟩
  | .hbm, ⟨24, _⟩ => ⟨S152x128, .f32⟩
  | .hbm, ⟨25, _⟩ => ⟨S152x128, .f32⟩
  | .hbm, ⟨26, _⟩ => ⟨S_, .f32⟩
  | .hbm, ⟨27, _⟩ => ⟨S152x128, .f32⟩
  | .hbm, ⟨28, _⟩ => ⟨S152x128, .f32⟩
  | .hbm, ⟨29, _⟩ => ⟨S152x128, .f32⟩
  | .hbm, ⟨30, _⟩ => ⟨S_, .f32⟩
  | .hbm, ⟨31, _⟩ => ⟨S152x128, .f32⟩
  | .hbm, ⟨32, _⟩ => ⟨S152x128, .f32⟩
  | .hbm, ⟨33, _⟩ => ⟨S152x128, .f32⟩
  | .hbm, ⟨34, _⟩ => ⟨S_, .f32⟩
  | .hbm, ⟨35, _⟩ => ⟨S152x128, .f32⟩
  | .hbm, ⟨36, _⟩ => ⟨S152x128, .f32⟩
  | _, _ => ⟨S152x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Norm.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormReferenceIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.Prelude.lean ====
/- The arrays that the host prepares for the backward scan, as functions of the arguments: the three parameters of each
   head, the raw step sizes by chunk, and the states the chunks start from. -/
module

public import Idealize.ShloMosaic.Lib.StableHlo.ReadAt
public import proofs.«01_k».proof.Proof.Gen.KernelIdeal
public import proofs.«01_k».proof.Proof.Gen.KernelIdeal.Value

@[expose] public section

noncomputable section

namespace Cert.Prelude

open Idealize.ShloMosaic Idealize.ShloMosaic.TcCoe Idealize.SL.Sem Cert.KernelIdeal Cert.KernelIdeal.Gen

/-- A parameter of the heads, by head of a group and group. -/
def heads (x : FVec Ideal S32 .f32) : FVec Ideal S4x8x1x1 .f32 :=
  shapeCast S4x8x1x1 (transpose S4x8 [1, 0] (shapeCast S8x4 x shapeCasts_S32_S8x4) transposes_S8x4_S4x8_1_0) shapeCasts_S4x8_S4x8x1x1
/-- The raw step sizes, by chunk, head of a group and group. -/
def rows (x : FVec Ideal S16384x32 .f32) : FVec Ideal S128x4x8x1x128 .f32 :=
  shapeCast S128x4x8x1x128 (transpose S128x1x4x8x128 [0, 3, 2, 1, 4] (shapeCast S128x8x4x1x128
    (transpose S128x32x1x128 [0, 3, 1, 2] (shapeCast S128x1x128x32 x shapeCasts_S16384x32_S128x1x128x32)
      transposes_S128x1x128x32_S128x32x1x128_0_3_1_2) shapeCasts_S128x32x1x128_S128x8x4x1x128)
      transposes_S128x8x4x1x128_S128x1x4x8x128_0_3_2_1_4) shapeCasts_S128x1x4x8x128_S128x4x8x1x128
/-- A parameter of the heads at every step. -/
def wide (x : FVec Ideal S32 .f32) : FVec Ideal S16384x32 .f32 :=
  broadcastInDim S16384x32 ![0, 1] bcast_S1x32_S16384x32_0_1 (broadcastInDim S1x32 ![1] bcast_S32_S1x32_1 x)
/-- The argument of softplus. -/
def zed (x3 : FVec Ideal S16384x32 .f32) (x4 : FVec Ideal S32 .f32) : FVec Ideal S16384x32 .f32 := addf x3 (wide x4)
/-- Zero at every step and head. -/
def nil : FVec Ideal S16384x32 .f32 := broadcastInDim S16384x32 ![] bcast_S_S16384x32 (constant (F := Ideal) S_ .f32 0x00000000#32)
/-- Softplus. -/
def soft (z : FVec Ideal S16384x32 .f32) : FVec Ideal S16384x32 .f32 :=
  select (cmpf .une (subf z nil) (subf z nil)) (addf z nil)
    (addf (maximumf z nil) (Host.log1p (Host.exp (Host.negf (Host.absf (subf z nil))))))
/-- The exponents of the steps. -/
def expo (x5 : FVec Ideal S32 .f32) (d : FVec Ideal S16384x32 .f32) : FVec Ideal S16384x32 .f32 :=
  mulf (wide (Host.negf (Host.exp x5))) d
/-- The exponents summed. -/
def summed (a : FVec Ideal S16384x32 .f32) : FVec Ideal S16384x32 .f32 :=
  Host.reduceWindowAdd ![16384, 1] ![1, 1] ![16383, 0] ![0, 0] a (broadcastInDim S_ ![] bcast_S_S_ (constant (F := Ideal) S_ .f32 0x00000000#32))
    reduceWindows_S16384x32_S16384x32_w16384s1p16383_0_w1s1p0_0 h_S_
/-- The summed exponent at each chunk's start. -/
def starts (s a : FVec Ideal S16384x32 .f32) : FVec Ideal S128x32 .f32 :=
  shapeCast S128x32 (extractStridedSlice S128x1x32 ![0, 0, 0] (shapeCast S128x128x32 (subf s a) shapeCasts_S16384x32_S128x128x32)
    slices_S128x128x32_S128x1x32_0_0_0) shapeCasts_S128x1x32_S128x32
/-- Which steps come before each chunk. -/
def before : IVec S128x16384 1 :=
  cmpi .slt (broadcastInDim S128x16384 ![0, 1] bcast_S1x16384_S128x16384_0_1 (broadcastInDim S1x16384 ![1] bcast_S16384_S1x16384_1 (iotaInDim S16384 32 0)))
    (broadcastInDim S128x16384 ![0, 1] bcast_S128x1_S128x16384_0_1 (muli (broadcastInDim S128x1 ![] bcast_S_S128x1 (constantI S_ 32 128#32))
      (broadcastInDim S128x1 ![0] bcast_S128_S128x1_0 (iotaInDim S128 32 0))))
/-- The exponent of the decay from each step to each chunk's start, `-∞` from the chunk's start on. -/
def gaps (b s : FVec Ideal S16384x32 .f32) (a : FVec Ideal S128x32 .f32) : FVec Ideal S128x16384x32 .f32 :=
  select (broadcastInDim S128x16384x32 ![0, 1, 2] bcast_S128x16384x1_S128x16384x32_0_1_2
      (broadcastInDim S128x16384x1 ![0, 1] bcast_S128x16384_S128x16384x1_0_1 before))
    (subf (broadcastInDim S128x16384x32 ![0, 1, 2] bcast_S128x1x32_S128x16384x32_0_1_2 (broadcastInDim S128x1x32 ![0, 2] bcast_S128x32_S128x1x32_0_2 a))
      (broadcastInDim S128x16384x32 ![0, 1, 2] bcast_S1x16384x32_S128x16384x32_0_1_2 (broadcastInDim S1x16384x32 ![1, 2] bcast_S16384x32_S1x16384x32_1_2 s)))
    (broadcastInDim S128x16384x32 ![] bcast_S_S128x16384x32 (constant (F := Ideal) S_ .f32 0xFF800000#32))
/-- The weight of each step in each chunk's starting state. -/
def weights (e : FVec Ideal S128x16384x32 .f32) (d : FVec Ideal S16384x32 .f32) : FVec Ideal S128x16384x32 .f32 :=
  mulf (Host.exp e) (broadcastInDim S128x16384x32 ![0, 1, 2] bcast_S1x16384x32_S128x16384x32_0_1_2
    (broadcastInDim S1x16384x32 ![1, 2] bcast_S16384x32_S1x16384x32_1_2 d))
/-- The weighted steps. -/
def weighted (x0 : FVec Ideal S8x16384x256 .f32) (w : FVec Ideal S128x16384x32 .f32) : FVec Ideal S128x8x16384x4x64 .f32 :=
  mulf (broadcastInDim S128x8x16384x4x64 ![0, 1, 2, 3, 4] bcast_S128x8x16384x4x1_S128x8x16384x4x64_0_1_2_3_4
      (broadcastInDim S128x8x16384x4x1 ![0, 1, 2, 3] bcast_S128x8x16384x4_S128x8x16384x4x1_0_1_2_3
        (transpose S128x8x16384x4 [0, 2, 1, 3] (shapeCast S128x16384x8x4 w shapeCasts_S128x16384x32_S128x16384x8x4)
          transposes_S128x16384x8x4_S128x8x16384x4_0_2_1_3)))
    (broadcastInDim S128x8x16384x4x64 ![0, 1, 2, 3, 4] bcast_S1x8x16384x4x64_S128x8x16384x4x64_0_1_2_3_4
      (broadcastInDim S1x8x16384x4x64 ![1, 2, 3, 4] bcast_S8x16384x4x64_S1x8x16384x4x64_1_2_3_4
        (shapeCast S8x16384x4x64 x0 shapeCasts_S8x16384x256_S8x16384x4x64)))
/-- The product of the weighted steps and `B`, before its axes are put in order. -/
def product (x1 : FVec Ideal S8x16384x128 .f32) (w : FVec Ideal S128x8x16384x4x64 .f32) : FVec Ideal S8x128x128x4x64 .f32 :=
  Host.dotGeneral dot_S8x16384x128_S128x8x16384x4x64_S8x128x128x4x64_1_2_2_034_0_1 none x1 w
/-- The states by chunk. -/
def states (p : FVec Ideal S8x128x128x4x64 .f32) : FVec Ideal S128x8x256x128 .f32 :=
  shapeCast S128x8x256x128 (transpose S128x8x4x64x128 [2, 0, 3, 4, 1] p transposes_S8x128x128x4x64_S128x8x4x64x128_2_0_3_4_1)
    shapeCasts_S128x8x4x64x128_S128x8x256x128

variable (m : (ℓ : Loc nD τ sig) → Buf (Elt Ideal) ℓ) (c : Dev nD)

theorem V_v2 : V m c main_v2 = heads (m ((c : Thread nD τ).loc main_arg4)) := by
  unfold_abbrev_sides
  simp only [List.flatten_cons, List.flatten_nil, List.append_nil, List.cons_append, List.nil_append]
  after_reads_simp
  rfl
theorem V_v5 : V m c main_v5 = heads (m ((c : Thread nD τ).loc main_arg5)) := by
  unfold_abbrev_sides
  simp only [List.flatten_cons, List.flatten_nil, List.append_nil, List.cons_append, List.nil_append]
  after_reads_simp
  rfl
theorem V_v8 : V m c main_v8 = heads (m ((c : Thread nD τ).loc main_arg6)) := by
  unfold_abbrev_sides
  simp only [List.flatten_cons, List.flatten_nil, List.append_nil, List.cons_append, List.nil_append]
  after_reads_simp
  rfl
theorem V_v58 : V m c main_v58 = rows (m ((c : Thread nD τ).loc main_arg3)) := by
  unfold_abbrev_sides
  simp only [List.flatten_cons, List.flatten_nil, List.append_nil, List.cons_append, List.nil_append]
  after_reads_simp
  rfl
theorem V_v53 : V m c main_v53 =
    let d := soft (zed (m ((c : Thread nD τ).loc main_arg3)) (m ((c : Thread nD τ).loc main_arg4)))
    let a := expo (m ((c : Thread nD τ).loc main_arg5)) d
    let s := summed a
    states (product (m ((c : Thread nD τ).loc main_arg1)) (weighted (m ((c : Thread nD τ).loc main_arg0)) (weights (gaps d s (starts s a)) d))) := by
  unfold_abbrev_sides
  simp only [List.flatten_cons, List.flatten_nil, List.append_nil, List.cons_append, List.nil_append]
  after_reads_simp
  rfl

end Cert.Prelude

end
-- ==== Proof.Lift.lean ====
/- Arrays of finite values: a real function of the coordinates read as an array of extended reals, and what each
   array operation does to it. -/
module

public import Idealize.ShloMosaic.Lib.Pointwise
public import Idealize.ShloMosaic.Lib.Pipeline.Value
public import Idealize.ShloMosaic.PureOps.Ideal.Laws
public import proofs.«01_k».proof.Proof.Gen.KernelIdeal

@[expose] public section

noncomputable section

namespace Cert.Lift

open Idealize.ShloMosaic Idealize.ShloMosaic.ValueIdx

variable {φ ψ : FTy} {a b c d e : ℕ}

/-- A real function of one coordinate as an array. -/
def up1 (f : Fin a → ℝ) : FVec Ideal ⟨1, ![a]⟩ φ := fun i => ((f (i 0) : ℝ) : EReal)
/-- A real function of two coordinates as an array. -/
def up2 (f : Fin a → Fin b → ℝ) : FVec Ideal ⟨2, ![a, b]⟩ φ := fun i => ((f (i 0) (i 1) : ℝ) : EReal)
/-- A real function of three coordinates as an array. -/
def up3 (f : Fin a → Fin b → Fin c → ℝ) : FVec Ideal ⟨3, ![a, b, c]⟩ φ := fun i => ((f (i 0) (i 1) (i 2) : ℝ) : EReal)
/-- A real function of four coordinates as an array. -/
def up4 (f : Fin a → Fin b → Fin c → Fin d → ℝ) : FVec Ideal ⟨4, ![a, b, c, d]⟩ φ :=
  fun i => ((f (i 0) (i 1) (i 2) (i 3) : ℝ) : EReal)
/-- A real function of five coordinates as an array. -/
def up5 (f : Fin a → Fin b → Fin c → Fin d → Fin e → ℝ) : FVec Ideal ⟨5, ![a, b, c, d, e]⟩ φ :=
  fun i => ((f (i 0) (i 1) (i 2) (i 3) (i 4) : ℝ) : EReal)
/-- A three-coordinate mask. -/
def bm3 (p : Fin a → Fin b → Fin c → Bool) : IVec ⟨3, ![a, b, c]⟩ 1 := fun i => BitVec.ofBool (p (i 0) (i 1) (i 2))
/-- A finite function where a mask holds and `⊥` elsewhere. -/
def low3 (p : Fin a → Fin b → Fin c → Bool) (f : Fin a → Fin b → Fin c → ℝ) : FVec Ideal ⟨3, ![a, b, c]⟩ φ :=
  fun i => if p (i 0) (i 1) (i 2) = true then ((f (i 0) (i 1) (i 2) : ℝ) : EReal) else ⊥

theorem coe_sum {ι : Type*} (s : Finset ι) (f : ι → ℝ) : ((∑ k ∈ s, f k : ℝ) : EReal) = ∑ k ∈ s, ((f k : ℝ) : EReal) := by
  classical
  induction s using Finset.induction_on with
  | empty => simp
  | insert x s hx ih => rw [Finset.sum_insert hx, Finset.sum_insert hx, EReal.coe_add, ih]

theorem select_ofBool {α : Type} (p : Bool) (x y : α) : Scalar.select (BitVec.ofBool p) x y = if p = true then x else y := by
  cases p <;> rfl

/-! ### Arithmetic -/

theorem addf_up3 (f g : Fin a → Fin b → Fin c → ℝ) :
    addf (up3 f : FVec Ideal _ φ) (up3 g) = up3 fun i j k => f i j k + g i j k :=
  funext fun _ => (EReal.coe_add _ _).symm

theorem subf_up3 (f g : Fin a → Fin b → Fin c → ℝ) :
    subf (up3 f : FVec Ideal _ φ) (up3 g) = up3 fun i j k => f i j k - g i j k :=
  funext fun _ => (EReal.coe_sub _ _).symm

theorem mulf_up3 (f g : Fin a → Fin b → Fin c → ℝ) :
    mulf (up3 f : FVec Ideal _ φ) (up3 g) = up3 fun i j k => f i j k * g i j k :=
  funext fun _ => (EReal.coe_mul _ _).symm

theorem addf_up4 (f g : Fin a → Fin b → Fin c → Fin d → ℝ) :
    addf (up4 f : FVec Ideal _ φ) (up4 g) = up4 fun i j k l => f i j k l + g i j k l :=
  funext fun _ => (EReal.coe_add _ _).symm

theorem subf_up4 (f g : Fin a → Fin b → Fin c → Fin d → ℝ) :
    subf (up4 f : FVec Ideal _ φ) (up4 g) = up4 fun i j k l => f i j k l - g i j k l :=
  funext fun _ => (EReal.coe_sub _ _).symm

theorem mulf_up4 (f g : Fin a → Fin b → Fin c → Fin d → ℝ) :
    mulf (up4 f : FVec Ideal _ φ) (up4 g) = up4 fun i j k l => f i j k l * g i j k l :=
  funext fun _ => (EReal.coe_mul _ _).symm

theorem maximumf_up3 (f g : Fin a → Fin b → Fin c → ℝ) :
    maximumf (up3 f : FVec Ideal _ φ) (up3 g) = up3 fun i j k => max (f i j k) (g i j k) :=
  funext fun _ => (EReal.coe_strictMono.monotone.map_max).symm

theorem absf_up3 (f : Fin a → Fin b → Fin c → ℝ) :
    absf (up3 f : FVec Ideal _ φ) = up3 fun i j k => |f i j k| := by
  funext i
  show max ((f (i 0) (i 1) (i 2) : ℝ) : EReal) (-((f (i 0) (i 1) (i 2) : ℝ) : EReal)) = _
  rw [← EReal.coe_neg]
  exact (EReal.coe_strictMono.monotone.map_max).symm

theorem exp_up3 (f : Fin a → Fin b → Fin c → ℝ) :
    exp (up3 f : FVec Ideal _ φ) = up3 fun i j k => Real.exp (f i j k) :=
  funext fun _ => rfl

theorem exp_low3 (p : Fin a → Fin b → Fin c → Bool) (f : Fin a → Fin b → Fin c → ℝ) :
    exp (low3 p f : FVec Ideal _ φ) = up3 fun i j k => if p i j k = true then Real.exp (f i j k) else 0 := by
  funext i
  show Ideal.exp (if p (i 0) (i 1) (i 2) = true then ((f (i 0) (i 1) (i 2) : ℝ) : EReal) else ⊥) =
    ((if p (i 0) (i 1) (i 2) = true then Real.exp (f (i 0) (i 1) (i 2)) else 0 : ℝ) : EReal)
  split
  · rfl
  · rw [Ideal.exp_bot]; rfl

theorem log_up3 (f : Fin a → Fin b → Fin c → ℝ) :
    log (up3 fun i j k => 1 + Real.exp (f i j k) : FVec Ideal _ φ) = up3 fun i j k => Real.log (1 + Real.exp (f i j k)) := by
  funext i
  show (if 1 + Real.exp (f (i 0) (i 1) (i 2)) ≤ 0 then (⊥ : EReal) else _) = _
  rw [if_neg (by have := Real.exp_pos (f (i 0) (i 1) (i 2)); linarith)]
  rfl

theorem divf_up3 (g f : Fin a → Fin b → Fin c → ℝ) :
    divf (up3 g : FVec Ideal _ φ) (up3 fun i j k => 1 + Real.exp (f i j k)) = up3 fun i j k => g i j k / (1 + Real.exp (f i j k)) := by
  funext i
  have h : 1 + Real.exp (f (i 0) (i 1) (i 2)) ≠ 0 := by have := Real.exp_pos (f (i 0) (i 1) (i 2)); linarith
  show Ideal.div ((g (i 0) (i 1) (i 2) : ℝ) : EReal) ((1 + Real.exp (f (i 0) (i 1) (i 2)) : ℝ) : EReal) = _
  rw [Ideal.div_coe h, ← EReal.coe_mul, mul_one_div]
  rfl

theorem truncf_up3 (f : Fin a → Fin b → Fin c → ℝ) (h : ψ.bits < φ.bits) :
    truncf ψ (up3 f : FVec Ideal _ φ) h = up3 f :=
  funext fun _ => rfl

/-! ### Constants, masks and choices -/

theorem ofBits_zero : (Scalar.ofBits .f32 0x00000000#32 : Ideal .f32) = ((0 : ℝ) : EReal) := Ideal.ofBits_zero_f32
theorem ofBits_one : (Scalar.ofBits .f32 0x3F800000#32 : Ideal .f32) = ((1 : ℝ) : EReal) := Ideal.ofBits_one_f32
theorem ofBits_half : (Scalar.ofBits .f32 0x3F000000#32 : Ideal .f32) = ((1 / 2 : ℝ) : EReal) := by
  show Ideal.ofBits .f32 0x3F000000#32 = _
  simp [Ideal.ofBits, Ideal.ieee, -EReal.coe_mul]
  norm_num
theorem named_mask : (Named.named Cert.KernelIdeal.κ "mask" 0xF149F2CA#32 : Ideal .f32) = (⊥ : EReal) := rfl

theorem broadcast_up3 (x : ℝ) : (broadcast (⟨3, ![a, b, c]⟩ : Shape) (x : EReal) : FVec Ideal _ φ) = up3 fun _ _ _ => x := rfl
theorem broadcast_up4 (x : ℝ) : (broadcast (⟨4, ![a, b, c, d]⟩ : Shape) (x : EReal) : FVec Ideal _ φ) = up4 fun _ _ _ _ => x := rfl

theorem cmpf_ogt_up3 (f g : Fin a → Fin b → Fin c → ℝ) :
    cmpf .ogt (up3 f : FVec Ideal _ φ) (up3 g) = bm3 fun i j k => decide (g i j k < f i j k) := by
  funext i
  show BitVec.ofBool (decide (((g (i 0) (i 1) (i 2) : ℝ) : EReal) < ((f (i 0) (i 1) (i 2) : ℝ) : EReal))) = _
  simp only [EReal.coe_lt_coe_iff]; rfl
theorem cmpf_oge_up3 (f g : Fin a → Fin b → Fin c → ℝ) :
    cmpf .oge (up3 f : FVec Ideal _ φ) (up3 g) = bm3 fun i j k => decide (g i j k ≤ f i j k) := by
  funext i
  show BitVec.ofBool (decide (((g (i 0) (i 1) (i 2) : ℝ) : EReal) ≤ ((f (i 0) (i 1) (i 2) : ℝ) : EReal))) = _
  simp only [EReal.coe_le_coe_iff]; rfl
theorem cmpf_oeq_up3 (f g : Fin a → Fin b → Fin c → ℝ) :
    cmpf .oeq (up3 f : FVec Ideal _ φ) (up3 g) = bm3 fun i j k => decide (f i j k = g i j k) := by
  funext i
  show BitVec.ofBool (decide (((f (i 0) (i 1) (i 2) : ℝ) : EReal) = ((g (i 0) (i 1) (i 2) : ℝ) : EReal))) = _
  simp only [EReal.coe_eq_coe_iff]; rfl

theorem select_up3 (p : Fin a → Fin b → Fin c → Bool) (f g : Fin a → Fin b → Fin c → ℝ) :
    select (bm3 p) (up3 f : FVec Ideal _ φ) (up3 g) = up3 fun i j k => if p i j k = true then f i j k else g i j k := by
  funext i
  show Scalar.select (BitVec.ofBool (p (i 0) (i 1) (i 2))) ((f (i 0) (i 1) (i 2) : ℝ) : EReal) ((g (i 0) (i 1) (i 2) : ℝ) : EReal) = _
  rw [select_ofBool]
  exact (apply_ite _ _ _ _).symm

theorem select_low3 (p : Fin a → Fin b → Fin c → Bool) (f : Fin a → Fin b → Fin c → ℝ) :
    select (bm3 p) (up3 f : FVec Ideal _ φ) (broadcast _ (⊥ : EReal)) = low3 p f :=
  funext fun i => select_ofBool _ _ _

theorem mask_ge (h h') : cmpi .sge (iota .tc (⟨3, ![1, 128, 128]⟩ : Shape) 32 [1] h) (iota .tc (⟨3, ![1, 128, 128]⟩ : Shape) 32 [2] h')
    = bm3 fun _ i j => decide (j ≤ i) := by
  funext i
  have h1 := (i 1).isLt
  have h2 := (i 2).isLt
  simp only [Matrix.cons_val] at h1 h2
  show BitVec.ofBool ((BitVec.ofNat 32 (0 * 128 + (i 2).val)).sle (BitVec.ofNat 32 (0 * 128 + (i 1).val))) = _
  simp only [bm3]
  congr 1
  rw [BitVec.sle_eq_decide]
  rw [BitVec.toInt_eq_toNat_of_lt (by simp; omega), BitVec.toInt_eq_toNat_of_lt (by simp; omega)]
  simp only [BitVec.toNat_ofNat, decide_eq_decide, Fin.le_def]
  omega
theorem mask_le (h h') : cmpi .sle (iota .tc (⟨3, ![1, 128, 128]⟩ : Shape) 32 [1] h) (iota .tc (⟨3, ![1, 128, 128]⟩ : Shape) 32 [2] h')
    = bm3 fun _ i j => decide (i ≤ j) := by
  funext i
  have h1 := (i 1).isLt
  have h2 := (i 2).isLt
  simp only [Matrix.cons_val] at h1 h2
  show BitVec.ofBool ((BitVec.ofNat 32 (0 * 128 + (i 1).val)).sle (BitVec.ofNat 32 (0 * 128 + (i 2).val))) = _
  simp only [bm3]
  congr 1
  rw [BitVec.sle_eq_decide]
  rw [BitVec.toInt_eq_toNat_of_lt (by simp; omega), BitVec.toInt_eq_toNat_of_lt (by simp; omega)]
  simp only [BitVec.toNat_ofNat, decide_eq_decide, Fin.le_def]
  omega
theorem mask_eq (h h') : cmpi .eq (iota .tc (⟨3, ![1, 128, 128]⟩ : Shape) 32 [1] h) (iota .tc (⟨3, ![1, 128, 128]⟩ : Shape) 32 [2] h')
    = bm3 fun _ i j => decide (i = j) := by
  funext i
  have h1 := (i 1).isLt
  have h2 := (i 2).isLt
  simp only [Matrix.cons_val] at h1 h2
  show BitVec.ofBool ((BitVec.ofNat 32 (0 * 128 + (i 1).val)) == (BitVec.ofNat 32 (0 * 128 + (i 2).val))) = _
  simp only [bm3]
  congr 1
  rw [Bool.eq_iff_iff]
  simp only [beq_iff_eq, decide_eq_true_eq, ← BitVec.toNat_inj, BitVec.toNat_ofNat, Fin.ext_iff]
  omega
theorem lanes_lt (n : ℕ) (hn : n < 256) (h) : cmpi .slt (iota .tc (⟨3, ![1, 1, 256]⟩ : Shape) 32 [2] h) (broadcast _ (BitVec.ofNat 32 n))
    = bm3 fun _ _ p => decide (p.val < n) := by
  funext i
  have h2 := (i 2).isLt
  simp only [Matrix.cons_val] at h2
  show BitVec.ofBool ((BitVec.ofNat 32 (0 * 256 + (i 2).val)).slt (BitVec.ofNat 32 n)) = _
  simp only [bm3]
  congr 1
  rw [BitVec.slt_eq_decide]
  rw [BitVec.toInt_eq_toNat_of_lt (by simp; omega), BitVec.toInt_eq_toNat_of_lt (by simp; omega)]
  simp only [BitVec.toNat_ofNat, decide_eq_decide]
  omega
theorem rows_lt (n : ℕ) (hn : n < 256) (h) : cmpi .slt (iota .tc (⟨3, ![1, 256, 1]⟩ : Shape) 32 [1] h) (broadcast _ (BitVec.ofNat 32 n))
    = bm3 fun _ p _ => decide (p.val < n) := by
  funext i
  have h2 := (i 1).isLt
  simp only [Matrix.cons_val] at h2
  show BitVec.ofBool ((BitVec.ofNat 32 (0 * 256 + (i 1).val)).slt (BitVec.ofNat 32 n)) = _
  simp only [bm3]
  congr 1
  rw [BitVec.slt_eq_decide]
  rw [BitVec.toInt_eq_toNat_of_lt (by simp; omega), BitVec.toInt_eq_toNat_of_lt (by simp; omega)]
  simp only [BitVec.toNat_ofNat, decide_eq_decide]
  omega

theorem lanes_lt_64 (h) : cmpi .slt (iota .tc (⟨3, ![1, 1, 256]⟩ : Shape) 32 [2] h) (broadcast _ 64#32) = bm3 fun _ _ p => decide (p.val < 64) :=
  lanes_lt 64 (by decide) h
theorem rows_lt_64 (h) : cmpi .slt (iota .tc (⟨3, ![1, 256, 1]⟩ : Shape) 32 [1] h) (broadcast _ 64#32) = bm3 fun _ p _ => decide (p.val < 64) :=
  rows_lt 64 (by decide) h
theorem lanes_lt_128 (h) : cmpi .slt (iota .tc (⟨3, ![1, 1, 256]⟩ : Shape) 32 [2] h) (broadcast _ 128#32) = bm3 fun _ _ p => decide (p.val < 128) :=
  lanes_lt 128 (by decide) h
theorem rows_lt_128 (h) : cmpi .slt (iota .tc (⟨3, ![1, 256, 1]⟩ : Shape) 32 [1] h) (broadcast _ 128#32) = bm3 fun _ p _ => decide (p.val < 128) :=
  rows_lt 128 (by decide) h
theorem lanes_lt_192 (h) : cmpi .slt (iota .tc (⟨3, ![1, 1, 256]⟩ : Shape) 32 [2] h) (broadcast _ 192#32) = bm3 fun _ _ p => decide (p.val < 192) :=
  lanes_lt 192 (by decide) h
theorem rows_lt_192 (h) : cmpi .slt (iota .tc (⟨3, ![1, 256, 1]⟩ : Shape) 32 [1] h) (broadcast _ 192#32) = bm3 fun _ p _ => decide (p.val < 192) :=
  rows_lt 192 (by decide) h

/-! ### Layout -/

theorem cast_8_8x1 (f : Fin 8 → ℝ) (h) :
    shapeCast (⟨2, ![8, 1]⟩ : Shape) (up1 f : FVec Ideal ⟨1, ![8]⟩ φ) h = up2 fun i _ => f i := by
  funext i
  pointwise [up1, up2]
theorem cast_8_8x1x1 (f : Fin 8 → ℝ) (h) :
    shapeCast (⟨3, ![8, 1, 1]⟩ : Shape) (up1 f : FVec Ideal ⟨1, ![8]⟩ φ) h = up3 fun i _ _ => f i := by
  funext i
  pointwise [up1, up3]
theorem cast_8x1_8x1x1 (f : Fin 8 → Fin 1 → ℝ) (h) :
    shapeCast (⟨3, ![8, 1, 1]⟩ : Shape) (up2 f : FVec Ideal ⟨2, ![8, 1]⟩ φ) h = up3 fun i _ _ => f i 0 := by
  funext i
  pointwise [up2, up3]
theorem cast_8x128_8x128x1 (f : Fin 8 → Fin 128 → ℝ) (h) :
    shapeCast (⟨3, ![8, 128, 1]⟩ : Shape) (up2 f : FVec Ideal ⟨2, ![8, 128]⟩ φ) h = up3 fun i j _ => f i j := by
  funext i
  pointwise [up2, up3]
theorem cast_8x128_8x1x128 (f : Fin 8 → Fin 128 → ℝ) (h) :
    shapeCast (⟨3, ![8, 1, 128]⟩ : Shape) (up2 f : FVec Ideal ⟨2, ![8, 128]⟩ φ) h = up3 fun i _ k => f i k := by
  funext i
  pointwise [up2, up3]
theorem cast_8x256_8x1x256 (f : Fin 8 → Fin 256 → ℝ) (h) :
    shapeCast (⟨3, ![8, 1, 256]⟩ : Shape) (up2 f : FVec Ideal ⟨2, ![8, 256]⟩ φ) h = up3 fun i _ k => f i k := by
  funext i
  pointwise [up2, up3]
theorem cast_8x256_8x256x1 (f : Fin 8 → Fin 256 → ℝ) (h) :
    shapeCast (⟨3, ![8, 256, 1]⟩ : Shape) (up2 f : FVec Ideal ⟨2, ![8, 256]⟩ φ) h = up3 fun i j _ => f i j := by
  funext i
  pointwise [up2, up3]
theorem cast_1x8x1x1_8x1x1 (f : Fin 1 → Fin 8 → Fin 1 → Fin 1 → ℝ) (h) :
    shapeCast (⟨3, ![8, 1, 1]⟩ : Shape) (up4 f : FVec Ideal ⟨4, ![1, 8, 1, 1]⟩ φ) h = up3 fun i _ _ => f 0 i 0 0 := by
  funext i
  pointwise [up4, up3]
theorem cast_8x1x1_1x8x1x1 (f : Fin 8 → Fin 1 → Fin 1 → ℝ) (h) :
    shapeCast (⟨4, ![1, 8, 1, 1]⟩ : Shape) (up3 f : FVec Ideal ⟨3, ![8, 1, 1]⟩ φ) h = up4 fun _ j _ _ => f j 0 0 := by
  funext i
  pointwise [up3, up4]
theorem cast_1x8x1x128_8x1x128 (f : Fin 1 → Fin 8 → Fin 1 → Fin 128 → ℝ) (h) :
    shapeCast (⟨3, ![8, 1, 128]⟩ : Shape) (up4 f : FVec Ideal ⟨4, ![1, 8, 1, 128]⟩ φ) h = up3 fun i _ k => f 0 i 0 k := by
  funext i
  pointwise [up4, up3]
theorem cast_8x1x128_1x8x1x128 (f : Fin 8 → Fin 1 → Fin 128 → ℝ) (h) :
    shapeCast (⟨4, ![1, 8, 1, 128]⟩ : Shape) (up3 f : FVec Ideal ⟨3, ![8, 1, 128]⟩ φ) h = up4 fun _ j _ l => f j 0 l := by
  funext i
  pointwise [up3, up4]
theorem cast_1x8x256x128_8x256x128 (f : Fin 1 → Fin 8 → Fin 256 → Fin 128 → ℝ) (h) :
    shapeCast (⟨3, ![8, 256, 128]⟩ : Shape) (up4 f : FVec Ideal ⟨4, ![1, 8, 256, 128]⟩ φ) h = up3 fun i j k => f 0 i j k := by
  funext i
  pointwise [up4, up3]
theorem cast_1x4x8x1x128_4x8x1x128 (f : Fin 1 → Fin 4 → Fin 8 → Fin 1 → Fin 128 → ℝ) (h) :
    shapeCast (⟨4, ![4, 8, 1, 128]⟩ : Shape) (up5 f : FVec Ideal ⟨5, ![1, 4, 8, 1, 128]⟩ φ) h = up4 fun i j _ l => f 0 i j 0 l := by
  funext i
  pointwise [up5, up4]
theorem cast_4x8x1x128_1x4x8x1x128 (f : Fin 4 → Fin 8 → Fin 1 → Fin 128 → ℝ) (h) :
    shapeCast (⟨5, ![1, 4, 8, 1, 128]⟩ : Shape) (up4 f : FVec Ideal ⟨4, ![4, 8, 1, 128]⟩ φ) h = up5 fun _ j k _ m => f j k 0 m := by
  funext i
  pointwise [up4, up5]
theorem bcast_8x1x1_8x128x1 (f : Fin 8 → Fin 1 → Fin 1 → ℝ) (h) :
    broadcastTo (⟨3, ![8, 128, 1]⟩ : Shape) (up3 f : FVec Ideal ⟨3, ![8, 1, 1]⟩ φ) h = up3 fun i _ _ => f i 0 0 := by
  funext i
  pointwise [up3]
theorem bcast_8x128x1_8x128x128 (f : Fin 8 → Fin 128 → Fin 1 → ℝ) (h) :
    broadcastTo (⟨3, ![8, 128, 128]⟩ : Shape) (up3 f : FVec Ideal ⟨3, ![8, 128, 1]⟩ φ) h = up3 fun i j _ => f i j 0 := by
  funext i
  pointwise [up3]
theorem bcast_8x1x128_8x128x128 (f : Fin 8 → Fin 1 → Fin 128 → ℝ) (h) :
    broadcastTo (⟨3, ![8, 128, 128]⟩ : Shape) (up3 f : FVec Ideal ⟨3, ![8, 1, 128]⟩ φ) h = up3 fun i _ k => f i 0 k := by
  funext i
  pointwise [up3]
theorem bcast_8x128x1_8x128x256 (f : Fin 8 → Fin 128 → Fin 1 → ℝ) (h) :
    broadcastTo (⟨3, ![8, 128, 256]⟩ : Shape) (up3 f : FVec Ideal ⟨3, ![8, 128, 1]⟩ φ) h = up3 fun i j _ => f i j 0 := by
  funext i
  pointwise [up3]
theorem bcast_8x1x256_8x128x256 (f : Fin 8 → Fin 1 → Fin 256 → ℝ) (h) :
    broadcastTo (⟨3, ![8, 128, 256]⟩ : Shape) (up3 f : FVec Ideal ⟨3, ![8, 1, 256]⟩ φ) h = up3 fun i _ k => f i 0 k := by
  funext i
  pointwise [up3]
theorem bcast_8x1x1_8x1x128 (f : Fin 8 → Fin 1 → Fin 1 → ℝ) (h) :
    broadcastTo (⟨3, ![8, 1, 128]⟩ : Shape) (up3 f : FVec Ideal ⟨3, ![8, 1, 1]⟩ φ) h = up3 fun i _ _ => f i 0 0 := by
  funext i
  pointwise [up3]
theorem bcast_8x1x1_8x1x256 (f : Fin 8 → Fin 1 → Fin 1 → ℝ) (h) :
    broadcastTo (⟨3, ![8, 1, 256]⟩ : Shape) (up3 f : FVec Ideal ⟨3, ![8, 1, 1]⟩ φ) h = up3 fun i _ _ => f i 0 0 := by
  funext i
  pointwise [up3]
theorem bcast_8x1x1_8x256x1 (f : Fin 8 → Fin 1 → Fin 1 → ℝ) (h) :
    broadcastTo (⟨3, ![8, 256, 1]⟩ : Shape) (up3 f : FVec Ideal ⟨3, ![8, 1, 1]⟩ φ) h = up3 fun i _ _ => f i 0 0 := by
  funext i
  pointwise [up3]
theorem bcast_8x256x1_8x256x128 (f : Fin 8 → Fin 256 → Fin 1 → ℝ) (h) :
    broadcastTo (⟨3, ![8, 256, 128]⟩ : Shape) (up3 f : FVec Ideal ⟨3, ![8, 256, 1]⟩ φ) h = up3 fun i j _ => f i j 0 := by
  funext i
  pointwise [up3]
theorem mcast_1x128x128_8x128x128 (p : Fin 1 → Fin 128 → Fin 128 → Bool) (h) :
    broadcastTo (⟨3, ![8, 128, 128]⟩ : Shape) (bm3 p : IVec ⟨3, ![1, 128, 128]⟩ 1) h = bm3 fun _ j k => p 0 j k := by
  funext i
  pointwise [bm3]
theorem mcast_1x1x256_8x128x256 (p : Fin 1 → Fin 1 → Fin 256 → Bool) (h) :
    broadcastTo (⟨3, ![8, 128, 256]⟩ : Shape) (bm3 p : IVec ⟨3, ![1, 1, 256]⟩ 1) h = bm3 fun _ _ k => p 0 0 k := by
  funext i
  pointwise [bm3]
theorem mcast_1x1x256_8x1x256 (p : Fin 1 → Fin 1 → Fin 256 → Bool) (h) :
    broadcastTo (⟨3, ![8, 1, 256]⟩ : Shape) (bm3 p : IVec ⟨3, ![1, 1, 256]⟩ 1) h = bm3 fun _ _ k => p 0 0 k := by
  funext i
  pointwise [bm3]
theorem mcast_1x256x1_8x256x1 (p : Fin 1 → Fin 256 → Fin 1 → Bool) (h) :
    broadcastTo (⟨3, ![8, 256, 1]⟩ : Shape) (bm3 p : IVec ⟨3, ![1, 256, 1]⟩ 1) h = bm3 fun _ j _ => p 0 j 0 := by
  funext i
  pointwise [bm3]
theorem mcast_1x256x1_8x256x128 (p : Fin 1 → Fin 256 → Fin 1 → Bool) (h) :
    broadcastTo (⟨3, ![8, 256, 128]⟩ : Shape) (bm3 p : IVec ⟨3, ![1, 256, 1]⟩ 1) h = bm3 fun _ j _ => p 0 j 0 := by
  funext i
  pointwise [bm3]
theorem slice_0_1 (f : Fin 4 → Fin 8 → Fin 1 → Fin 1 → ℝ) (h) :
    extractStridedSlice (⟨4, ![1, 8, 1, 1]⟩ : Shape) ![0, 0, 0, 0] (up4 f : FVec Ideal ⟨4, ![4, 8, 1, 1]⟩ φ) h = up4 fun _ j _ _ => f 0 j 0 0 := by
  funext i
  pointwise [up4]
theorem slice_1_1 (f : Fin 4 → Fin 8 → Fin 1 → Fin 1 → ℝ) (h) :
    extractStridedSlice (⟨4, ![1, 8, 1, 1]⟩ : Shape) ![1, 0, 0, 0] (up4 f : FVec Ideal ⟨4, ![4, 8, 1, 1]⟩ φ) h = up4 fun _ j _ _ => f 1 j 0 0 := by
  funext i
  pointwise [up4]
theorem slice_2_1 (f : Fin 4 → Fin 8 → Fin 1 → Fin 1 → ℝ) (h) :
    extractStridedSlice (⟨4, ![1, 8, 1, 1]⟩ : Shape) ![2, 0, 0, 0] (up4 f : FVec Ideal ⟨4, ![4, 8, 1, 1]⟩ φ) h = up4 fun _ j _ _ => f 2 j 0 0 := by
  funext i
  pointwise [up4]
theorem slice_3_1 (f : Fin 4 → Fin 8 → Fin 1 → Fin 1 → ℝ) (h) :
    extractStridedSlice (⟨4, ![1, 8, 1, 1]⟩ : Shape) ![3, 0, 0, 0] (up4 f : FVec Ideal ⟨4, ![4, 8, 1, 1]⟩ φ) h = up4 fun _ j _ _ => f 3 j 0 0 := by
  funext i
  pointwise [up4]
theorem slice_0_128 (f : Fin 4 → Fin 8 → Fin 1 → Fin 128 → ℝ) (h) :
    extractStridedSlice (⟨4, ![1, 8, 1, 128]⟩ : Shape) ![0, 0, 0, 0] (up4 f : FVec Ideal ⟨4, ![4, 8, 1, 128]⟩ φ) h = up4 fun _ j _ l => f 0 j 0 l := by
  funext i
  pointwise [up4]
theorem slice_1_128 (f : Fin 4 → Fin 8 → Fin 1 → Fin 128 → ℝ) (h) :
    extractStridedSlice (⟨4, ![1, 8, 1, 128]⟩ : Shape) ![1, 0, 0, 0] (up4 f : FVec Ideal ⟨4, ![4, 8, 1, 128]⟩ φ) h = up4 fun _ j _ l => f 1 j 0 l := by
  funext i
  pointwise [up4]
theorem slice_2_128 (f : Fin 4 → Fin 8 → Fin 1 → Fin 128 → ℝ) (h) :
    extractStridedSlice (⟨4, ![1, 8, 1, 128]⟩ : Shape) ![2, 0, 0, 0] (up4 f : FVec Ideal ⟨4, ![4, 8, 1, 128]⟩ φ) h = up4 fun _ j _ l => f 2 j 0 l := by
  funext i
  pointwise [up4]
theorem slice_3_128 (f : Fin 4 → Fin 8 → Fin 1 → Fin 128 → ℝ) (h) :
    extractStridedSlice (⟨4, ![1, 8, 1, 128]⟩ : Shape) ![3, 0, 0, 0] (up4 f : FVec Ideal ⟨4, ![4, 8, 1, 128]⟩ φ) h = up4 fun _ j _ l => f 3 j 0 l := by
  funext i
  pointwise [up4]

/-! ### Stacking along the leading axis -/

theorem stack_1_1_1 (f : Fin 1 → Fin 8 → Fin 1 → Fin 1 → ℝ) (g : Fin 1 → Fin 8 → Fin 1 → Fin 1 → ℝ) (h) :
    concatenate (⟨4, ![2, 8, 1, 1]⟩ : Shape) 0 [⟨⟨4, ![1, 8, 1, 1]⟩, (up4 f : FVec Ideal _ φ)⟩, ⟨⟨4, ![1, 8, 1, 1]⟩, (up4 g : FVec Ideal _ φ)⟩] h
      = up4 fun i j _ _ => if hi : i.val < 1 then f ⟨i.val, hi⟩ j 0 0 else g ⟨i.val - 1, by omega⟩ j 0 0 := by
  funext i
  pointwise [up4]
  split <;> rfl
theorem stack_2_1_1 (f : Fin 2 → Fin 8 → Fin 1 → Fin 1 → ℝ) (g : Fin 1 → Fin 8 → Fin 1 → Fin 1 → ℝ) (h) :
    concatenate (⟨4, ![3, 8, 1, 1]⟩ : Shape) 0 [⟨⟨4, ![2, 8, 1, 1]⟩, (up4 f : FVec Ideal _ φ)⟩, ⟨⟨4, ![1, 8, 1, 1]⟩, (up4 g : FVec Ideal _ φ)⟩] h
      = up4 fun i j _ _ => if hi : i.val < 2 then f ⟨i.val, hi⟩ j 0 0 else g ⟨i.val - 2, by omega⟩ j 0 0 := by
  funext i
  pointwise [up4]
  split <;> rfl
theorem stack_1_3_1 (f : Fin 1 → Fin 8 → Fin 1 → Fin 1 → ℝ) (g : Fin 3 → Fin 8 → Fin 1 → Fin 1 → ℝ) (h) :
    concatenate (⟨4, ![4, 8, 1, 1]⟩ : Shape) 0 [⟨⟨4, ![1, 8, 1, 1]⟩, (up4 f : FVec Ideal _ φ)⟩, ⟨⟨4, ![3, 8, 1, 1]⟩, (up4 g : FVec Ideal _ φ)⟩] h
      = up4 fun i j _ _ => if hi : i.val < 1 then f ⟨i.val, hi⟩ j 0 0 else g ⟨i.val - 1, by omega⟩ j 0 0 := by
  funext i
  pointwise [up4]
  split <;> rfl
theorem stack_2_2_1 (f : Fin 2 → Fin 8 → Fin 1 → Fin 1 → ℝ) (g : Fin 2 → Fin 8 → Fin 1 → Fin 1 → ℝ) (h) :
    concatenate (⟨4, ![4, 8, 1, 1]⟩ : Shape) 0 [⟨⟨4, ![2, 8, 1, 1]⟩, (up4 f : FVec Ideal _ φ)⟩, ⟨⟨4, ![2, 8, 1, 1]⟩, (up4 g : FVec Ideal _ φ)⟩] h
      = up4 fun i j _ _ => if hi : i.val < 2 then f ⟨i.val, hi⟩ j 0 0 else g ⟨i.val - 2, by omega⟩ j 0 0 := by
  funext i
  pointwise [up4]
  split <;> rfl
theorem stack_3_1_1 (f : Fin 3 → Fin 8 → Fin 1 → Fin 1 → ℝ) (g : Fin 1 → Fin 8 → Fin 1 → Fin 1 → ℝ) (h) :
    concatenate (⟨4, ![4, 8, 1, 1]⟩ : Shape) 0 [⟨⟨4, ![3, 8, 1, 1]⟩, (up4 f : FVec Ideal _ φ)⟩, ⟨⟨4, ![1, 8, 1, 1]⟩, (up4 g : FVec Ideal _ φ)⟩] h
      = up4 fun i j _ _ => if hi : i.val < 3 then f ⟨i.val, hi⟩ j 0 0 else g ⟨i.val - 3, by omega⟩ j 0 0 := by
  funext i
  pointwise [up4]
  split <;> rfl
theorem stack_1_1_128 (f : Fin 1 → Fin 8 → Fin 1 → Fin 128 → ℝ) (g : Fin 1 → Fin 8 → Fin 1 → Fin 128 → ℝ) (h) :
    concatenate (⟨4, ![2, 8, 1, 128]⟩ : Shape) 0 [⟨⟨4, ![1, 8, 1, 128]⟩, (up4 f : FVec Ideal _ φ)⟩, ⟨⟨4, ![1, 8, 1, 128]⟩, (up4 g : FVec Ideal _ φ)⟩] h
      = up4 fun i j _ l => if hi : i.val < 1 then f ⟨i.val, hi⟩ j 0 l else g ⟨i.val - 1, by omega⟩ j 0 l := by
  funext i
  pointwise [up4]
  split <;> rfl
theorem stack_2_1_128 (f : Fin 2 → Fin 8 → Fin 1 → Fin 128 → ℝ) (g : Fin 1 → Fin 8 → Fin 1 → Fin 128 → ℝ) (h) :
    concatenate (⟨4, ![3, 8, 1, 128]⟩ : Shape) 0 [⟨⟨4, ![2, 8, 1, 128]⟩, (up4 f : FVec Ideal _ φ)⟩, ⟨⟨4, ![1, 8, 1, 128]⟩, (up4 g : FVec Ideal _ φ)⟩] h
      = up4 fun i j _ l => if hi : i.val < 2 then f ⟨i.val, hi⟩ j 0 l else g ⟨i.val - 2, by omega⟩ j 0 l := by
  funext i
  pointwise [up4]
  split <;> rfl
theorem stack_1_3_128 (f : Fin 1 → Fin 8 → Fin 1 → Fin 128 → ℝ) (g : Fin 3 → Fin 8 → Fin 1 → Fin 128 → ℝ) (h) :
    concatenate (⟨4, ![4, 8, 1, 128]⟩ : Shape) 0 [⟨⟨4, ![1, 8, 1, 128]⟩, (up4 f : FVec Ideal _ φ)⟩, ⟨⟨4, ![3, 8, 1, 128]⟩, (up4 g : FVec Ideal _ φ)⟩] h
      = up4 fun i j _ l => if hi : i.val < 1 then f ⟨i.val, hi⟩ j 0 l else g ⟨i.val - 1, by omega⟩ j 0 l := by
  funext i
  pointwise [up4]
  split <;> rfl
theorem stack_2_2_128 (f : Fin 2 → Fin 8 → Fin 1 → Fin 128 → ℝ) (g : Fin 2 → Fin 8 → Fin 1 → Fin 128 → ℝ) (h) :
    concatenate (⟨4, ![4, 8, 1, 128]⟩ : Shape) 0 [⟨⟨4, ![2, 8, 1, 128]⟩, (up4 f : FVec Ideal _ φ)⟩, ⟨⟨4, ![2, 8, 1, 128]⟩, (up4 g : FVec Ideal _ φ)⟩] h
      = up4 fun i j _ l => if hi : i.val < 2 then f ⟨i.val, hi⟩ j 0 l else g ⟨i.val - 2, by omega⟩ j 0 l := by
  funext i
  pointwise [up4]
  split <;> rfl
theorem stack_3_1_128 (f : Fin 3 → Fin 8 → Fin 1 → Fin 128 → ℝ) (g : Fin 1 → Fin 8 → Fin 1 → Fin 128 → ℝ) (h) :
    concatenate (⟨4, ![4, 8, 1, 128]⟩ : Shape) 0 [⟨⟨4, ![3, 8, 1, 128]⟩, (up4 f : FVec Ideal _ φ)⟩, ⟨⟨4, ![1, 8, 1, 128]⟩, (up4 g : FVec Ideal _ φ)⟩] h
      = up4 fun i j _ l => if hi : i.val < 3 then f ⟨i.val, hi⟩ j 0 l else g ⟨i.val - 3, by omega⟩ j 0 l := by
  funext i
  pointwise [up4]
  split <;> rfl

/-! ### Sums -/

theorem sum_8x1x1_12 (f : Fin 8 → Fin 1 → Fin 1 → ℝ) (h) :
    multiReduction .add [1, 2] (⟨1, ![8]⟩ : Shape) (up3 f : FVec Ideal ⟨3, ![8, 1, 1]⟩ .f32) 0x00000000#32 h (.inl rfl) rfl = up1 fun i => f i 0 0 := by
  funext i
  pointwise [up3, up1]
  simp only [coe_sum, Fin.sum_univ_one, Fin.isValue]
theorem sum_8x1x256_12 (f : Fin 8 → Fin 1 → Fin 256 → ℝ) (h) :
    multiReduction .add [1, 2] (⟨1, ![8]⟩ : Shape) (up3 f : FVec Ideal ⟨3, ![8, 1, 256]⟩ .f32) 0x00000000#32 h (.inl rfl) rfl = up1 fun i => ∑ x : Fin 256, f i 0 x := by
  funext i
  pointwise [up3, up1]
  simp only [coe_sum, Fin.sum_univ_one, Fin.isValue]
theorem sum_8x256x1_12 (f : Fin 8 → Fin 256 → Fin 1 → ℝ) (h) :
    multiReduction .add [1, 2] (⟨1, ![8]⟩ : Shape) (up3 f : FVec Ideal ⟨3, ![8, 256, 1]⟩ .f32) 0x00000000#32 h (.inl rfl) rfl = up1 fun i => ∑ x : Fin 256, f i x 0 := by
  funext i
  pointwise [up3, up1]
  simp only [coe_sum, Fin.sum_univ_one, Fin.isValue]
theorem sum_8x128x1_1 (f : Fin 8 → Fin 128 → Fin 1 → ℝ) (h) :
    multiReduction .add [1] (⟨2, ![8, 1]⟩ : Shape) (up3 f : FVec Ideal ⟨3, ![8, 128, 1]⟩ .f32) 0x00000000#32 h (.inl rfl) rfl = up2 fun i j => ∑ x : Fin 128, f i x j := by
  funext i
  pointwise [up3, up2]
  simp only [coe_sum, Fin.sum_univ_one, Fin.isValue, Subsingleton.elim (α := Fin 1) (i 1) 0]
theorem sum_8x128x128_1 (f : Fin 8 → Fin 128 → Fin 128 → ℝ) (h) :
    multiReduction .add [1] (⟨2, ![8, 128]⟩ : Shape) (up3 f : FVec Ideal ⟨3, ![8, 128, 128]⟩ .f32) 0x00000000#32 h (.inl rfl) rfl = up2 fun i j => ∑ x : Fin 128, f i x j := by
  funext i
  pointwise [up3, up2]
  simp only [coe_sum, Fin.sum_univ_one, Fin.isValue]
theorem sum_8x1x128_1 (f : Fin 8 → Fin 1 → Fin 128 → ℝ) (h) :
    multiReduction .add [1] (⟨2, ![8, 128]⟩ : Shape) (up3 f : FVec Ideal ⟨3, ![8, 1, 128]⟩ .f32) 0x00000000#32 h (.inl rfl) rfl = up2 fun i j => f i 0 j := by
  funext i
  pointwise [up3, up2]
  simp only [coe_sum, Fin.sum_univ_one, Fin.isValue]
theorem sum_8x128x256_1 (f : Fin 8 → Fin 128 → Fin 256 → ℝ) (h) :
    multiReduction .add [1] (⟨2, ![8, 256]⟩ : Shape) (up3 f : FVec Ideal ⟨3, ![8, 128, 256]⟩ .f32) 0x00000000#32 h (.inl rfl) rfl = up2 fun i j => ∑ x : Fin 128, f i x j := by
  funext i
  pointwise [up3, up2]
  simp only [coe_sum, Fin.sum_univ_one, Fin.isValue]
theorem sum_8x1x128_2 (f : Fin 8 → Fin 1 → Fin 128 → ℝ) (h) :
    multiReduction .add [2] (⟨2, ![8, 1]⟩ : Shape) (up3 f : FVec Ideal ⟨3, ![8, 1, 128]⟩ .f32) 0x00000000#32 h (.inl rfl) rfl = up2 fun i j => ∑ x : Fin 128, f i j x := by
  funext i
  pointwise [up3, up2]
  simp only [coe_sum, Fin.sum_univ_one, Fin.isValue, Subsingleton.elim (α := Fin 1) (i 1) 0]
theorem sum_8x128x128_2 (f : Fin 8 → Fin 128 → Fin 128 → ℝ) (h) :
    multiReduction .add [2] (⟨2, ![8, 128]⟩ : Shape) (up3 f : FVec Ideal ⟨3, ![8, 128, 128]⟩ .f32) 0x00000000#32 h (.inl rfl) rfl = up2 fun i j => ∑ x : Fin 128, f i j x := by
  funext i
  pointwise [up3, up2]
  simp only [coe_sum, Fin.sum_univ_one, Fin.isValue]
theorem sum_8x128x1_2 (f : Fin 8 → Fin 128 → Fin 1 → ℝ) (h) :
    multiReduction .add [2] (⟨2, ![8, 128]⟩ : Shape) (up3 f : FVec Ideal ⟨3, ![8, 128, 1]⟩ .f32) 0x00000000#32 h (.inl rfl) rfl = up2 fun i j => f i j 0 := by
  funext i
  pointwise [up3, up2]
  simp only [coe_sum, Fin.sum_univ_one, Fin.isValue]
theorem sum_8x128x256_2 (f : Fin 8 → Fin 128 → Fin 256 → ℝ) (h) :
    multiReduction .add [2] (⟨2, ![8, 128]⟩ : Shape) (up3 f : FVec Ideal ⟨3, ![8, 128, 256]⟩ .f32) 0x00000000#32 h (.inl rfl) rfl = up2 fun i j => ∑ x : Fin 256, f i j x := by
  funext i
  pointwise [up3, up2]
  simp only [coe_sum, Fin.sum_univ_one, Fin.isValue]
theorem sum_8x256x128_2 (f : Fin 8 → Fin 256 → Fin 128 → ℝ) (h) :
    multiReduction .add [2] (⟨2, ![8, 256]⟩ : Shape) (up3 f : FVec Ideal ⟨3, ![8, 256, 128]⟩ .f32) 0x00000000#32 h (.inl rfl) rfl = up2 fun i j => ∑ x : Fin 128, f i j x := by
  funext i
  pointwise [up3, up2]
  simp only [coe_sum, Fin.sum_univ_one, Fin.isValue]

/-! ### Products -/

theorem dot_8x128x128_8x128x128_11 (f : Fin 8 → Fin 128 → Fin 128 → ℝ) (g : Fin 8 → Fin 128 → Fin 128 → ℝ) :
    matmul Cert.KernelIdeal.dot_S8x128x128_S8x128x128_S8x128x128_1_1_2_2_0_0 none (up3 f : FVec Ideal _ φ) (up3 g : FVec Ideal _ ψ) (constant (⟨3, ![8, 128, 128]⟩ : Shape) .f32 0x00000000#32)
      = up3 fun i j k => ∑ x : Fin 128, f i x j * g i x k := by
  funext i
  pointwise [up3]
  simp only [coe_sum, EReal.coe_mul]
theorem dot_8x128x128_8x128x128_21 (f : Fin 8 → Fin 128 → Fin 128 → ℝ) (g : Fin 8 → Fin 128 → Fin 128 → ℝ) :
    matmul Cert.KernelIdeal.dot_S8x128x128_S8x128x128_S8x128x128_2_1_1_2_0_0 none (up3 f : FVec Ideal _ φ) (up3 g : FVec Ideal _ ψ) (constant (⟨3, ![8, 128, 128]⟩ : Shape) .f32 0x00000000#32)
      = up3 fun i j k => ∑ x : Fin 128, f i j x * g i x k := by
  funext i
  pointwise [up3]
  simp only [coe_sum, EReal.coe_mul]
theorem dot_8x128x128_8x128x128_22 (f : Fin 8 → Fin 128 → Fin 128 → ℝ) (g : Fin 8 → Fin 128 → Fin 128 → ℝ) :
    matmul Cert.KernelIdeal.dot_S8x128x128_S8x128x128_S8x128x128_2_2_1_1_0_0 none (up3 f : FVec Ideal _ φ) (up3 g : FVec Ideal _ ψ) (constant (⟨3, ![8, 128, 128]⟩ : Shape) .f32 0x00000000#32)
      = up3 fun i j k => ∑ x : Fin 128, f i j x * g i k x := by
  funext i
  pointwise [up3]
  simp only [coe_sum, EReal.coe_mul]
theorem dot_8x128x128_8x128x256_11 (f : Fin 8 → Fin 128 → Fin 128 → ℝ) (g : Fin 8 → Fin 128 → Fin 256 → ℝ) :
    matmul Cert.KernelIdeal.dot_S8x128x128_S8x128x256_S8x128x256_1_1_2_2_0_0 none (up3 f : FVec Ideal _ φ) (up3 g : FVec Ideal _ ψ) (constant (⟨3, ![8, 128, 256]⟩ : Shape) .f32 0x00000000#32)
      = up3 fun i j k => ∑ x : Fin 128, f i x j * g i x k := by
  funext i
  pointwise [up3]
  simp only [coe_sum, EReal.coe_mul]
theorem dot_8x128x128_8x256x128_22 (f : Fin 8 → Fin 128 → Fin 128 → ℝ) (g : Fin 8 → Fin 256 → Fin 128 → ℝ) :
    matmul Cert.KernelIdeal.dot_S8x128x128_S8x256x128_S8x128x256_2_2_1_1_0_0 none (up3 f : FVec Ideal _ φ) (up3 g : FVec Ideal _ ψ) (constant (⟨3, ![8, 128, 256]⟩ : Shape) .f32 0x00000000#32)
      = up3 fun i j k => ∑ x : Fin 128, f i j x * g i k x := by
  funext i
  pointwise [up3]
  simp only [coe_sum, EReal.coe_mul]
theorem dot_8x128x256_8x128x128_11 (f : Fin 8 → Fin 128 → Fin 256 → ℝ) (g : Fin 8 → Fin 128 → Fin 128 → ℝ) :
    matmul Cert.KernelIdeal.dot_S8x128x256_S8x128x128_S8x256x128_1_1_2_2_0_0 none (up3 f : FVec Ideal _ φ) (up3 g : FVec Ideal _ ψ) (constant (⟨3, ![8, 256, 128]⟩ : Shape) .f32 0x00000000#32)
      = up3 fun i j k => ∑ x : Fin 128, f i x j * g i x k := by
  funext i
  pointwise [up3]
  simp only [coe_sum, EReal.coe_mul]
theorem dot_8x128x256_8x128x256_22 (f : Fin 8 → Fin 128 → Fin 256 → ℝ) (g : Fin 8 → Fin 128 → Fin 256 → ℝ) :
    matmul Cert.KernelIdeal.dot_S8x128x256_S8x128x256_S8x128x128_2_2_1_1_0_0 none (up3 f : FVec Ideal _ φ) (up3 g : FVec Ideal _ ψ) (constant (⟨3, ![8, 128, 128]⟩ : Shape) .f32 0x00000000#32)
      = up3 fun i j k => ∑ x : Fin 256, f i j x * g i k x := by
  funext i
  pointwise [up3]
  simp only [coe_sum, EReal.coe_mul]
theorem dot_8x128x256_8x256x128_21 (f : Fin 8 → Fin 128 → Fin 256 → ℝ) (g : Fin 8 → Fin 256 → Fin 128 → ℝ) :
    matmul Cert.KernelIdeal.dot_S8x128x256_S8x256x128_S8x128x128_2_1_1_2_0_0 none (up3 f : FVec Ideal _ φ) (up3 g : FVec Ideal _ ψ) (constant (⟨3, ![8, 128, 128]⟩ : Shape) .f32 0x00000000#32)
      = up3 fun i j k => ∑ x : Fin 256, f i j x * g i x k := by
  funext i
  pointwise [up3]
  simp only [coe_sum, EReal.coe_mul]

end Cert.Lift

end
-- ==== Proof.Cumsum.lean ====
/- Running sums down the rows of an array, from the top and from the bottom, and a sum over the steps and the lanes of
   each head, read as real sums. -/
module

public import Idealize.ShloMosaic.Lib.Routing.OpsOne
public import proofs.«01_k».proof.Proof.Lift

@[expose] public section

noncomputable section

namespace Cert.Lift

open Idealize.ShloMosaic Idealize.ShloMosaic.ValueIdx Idealize.ShloMosaic.Routing

theorem foldl_add {N : ℕ} (g : Fin N → EReal) (v : EReal) : (List.finRange N).foldl (fun r n => r + g n) v = v + ∑ n, g n := by
  have e (l : List (Fin N)) (v : EReal) : l.foldl (fun r n => r + g n) v = v + (l.map g).sum := by
    induction l generalizing v with
    | nil => simp
    | cons a l ih => rw [List.foldl_cons, ih, List.map_cons, List.sum_cons, add_assoc]
  rw [e, Fin.sum_univ_def]

/-- A sum over windows of full height and one column: what each position of the window reads. -/
theorem window_sum {R C a b : ℕ} (x : (shape2 R C).Idx → EReal)
    (h : (shape2 R C).ReduceWindows (![R, 1] : Fin 2 → ℕ) ![1, 1] ![a, 0] ![b, 0] (shape2 R C)) (j : Fin R) (c : Fin C) :
    Ideal.hostReduceWindowAdd ![R, 1] ![1, 1] ![a, 0] ![b, 0] h x 0 (ValueIdx.ix2 j c)
      = ∑ n : Fin R, if hn : a ≤ j.val + n.val ∧ j.val + n.val - a < R then x (ValueIdx.ix2 ⟨j.val + n.val - a, hn.2⟩ c) else 0 := by
  unfold Ideal.hostReduceWindowAdd Host.reduceWindow
  refine (foldl_add _ _).trans ?_
  rw [zero_add]
  refine Fintype.sum_equiv (finCongr (numel_col R)) _ _ fun n => ?_
  have hw0 : ((shape2 R 1).rowMajor.symm n 0).val = n.val := by rw [symm_col]; rfl
  have hw1 : ((shape2 R 1).rowMajor.symm n 1).val = 0 := by rw [symm_col]; rfl
  have hc := c.isLt
  by_cases hn : a ≤ j.val + n.val ∧ j.val + n.val - a < R
  · rw [dif_pos (show a ≤ j.val + (finCongr (numel_col R) n).val ∧ j.val + (finCongr (numel_col R) n).val - a < R from hn)]
    rw [dif_pos (fun q => by
      match q with
      | ⟨0, _⟩ =>
        show a ≤ j.val * 1 + ((shape2 R 1).rowMajor.symm n 0).val ∧ j.val * 1 + ((shape2 R 1).rowMajor.symm n 0).val - a < R
        rw [hw0, Nat.mul_one]; exact hn
      | ⟨1, _⟩ =>
        show 0 ≤ c.val * 1 + ((shape2 R 1).rowMajor.symm n 1).val ∧ c.val * 1 + ((shape2 R 1).rowMajor.symm n 1).val - 0 < C
        rw [hw1]; omega)]
    refine congrArg x (funext fun q => Fin.ext ?_)
    match q with
    | ⟨0, _⟩ =>
      show j.val * 1 + ((shape2 R 1).rowMajor.symm n 0).val - a = j.val + n.val - a
      rw [hw0, Nat.mul_one]
    | ⟨1, _⟩ =>
      show c.val * 1 + ((shape2 R 1).rowMajor.symm n 1).val - 0 = c.val
      rw [hw1]; omega
  · rw [dif_neg (show ¬ (a ≤ j.val + (finCongr (numel_col R) n).val ∧ j.val + (finCongr (numel_col R) n).val - a < R) from hn)]
    rw [dif_neg fun hin => hn ?_]
    have h0 := hin 0
    change a ≤ j.val * 1 + ((shape2 R 1).rowMajor.symm n 0).val ∧ j.val * 1 + ((shape2 R 1).rowMajor.symm n 0).val - a < R at h0
    rw [hw0, Nat.mul_one] at h0
    exact h0

/-- The running sum from the top. -/
theorem window_prefix {R Rm1 : ℕ} (hR : Rm1 + 1 = R) (f : Fin R → EReal) (j : Fin R) :
    (∑ n : Fin R, if hn : Rm1 ≤ j.val + n.val ∧ j.val + n.val - Rm1 < R then f ⟨j.val + n.val - Rm1, hn.2⟩ else 0)
      = ∑ i, if i ≤ j then f i else 0 := by
  have hj := j.isLt
  have e (n : Fin R) : (if hn : Rm1 ≤ j.val + n.val ∧ j.val + n.val - Rm1 < R then f ⟨j.val + n.val - Rm1, hn.2⟩ else 0)
      = if Rm1 ≤ j.val + n.val then f ⟨j.val + n.val - Rm1, by omega⟩ else 0 := by
    have := n.isLt
    by_cases h : Rm1 ≤ j.val + n.val
    · rw [dif_pos ⟨h, by omega⟩, if_pos h]
    · rw [dif_neg (fun q => h q.1), if_neg h]
  rw [Finset.sum_congr rfl fun n _ => e n, ← Finset.sum_filter, ← Finset.sum_filter]
  refine Finset.sum_bij (fun n _ => ⟨j.val + n.val - Rm1, by omega⟩) ?_ ?_ ?_ ?_
  · intro n hn
    have := n.isLt
    simp only [Finset.mem_filter, Finset.mem_univ, true_and, Fin.le_def] at hn ⊢
    omega
  · intro n hn m hm q
    have := congrArg Fin.val q
    simp only [Finset.mem_filter, Finset.mem_univ, true_and] at hn hm this
    exact Fin.ext (by omega)
  · intro i hi
    have := i.isLt
    simp only [Finset.mem_filter, Finset.mem_univ, true_and, Fin.le_def] at hi
    refine ⟨⟨i.val + Rm1 - j.val, by omega⟩, ?_, Fin.ext ?_⟩
    · simp only [Finset.mem_filter, Finset.mem_univ, true_and]; omega
    · show j.val + (i.val + Rm1 - j.val) - Rm1 = i.val
      omega
  · intro _ _; rfl

/-- The running sum from the bottom. -/
theorem window_suffix {R : ℕ} (f : Fin R → EReal) (j : Fin R) :
    (∑ n : Fin R, if hn : 0 ≤ j.val + n.val ∧ j.val + n.val - 0 < R then f ⟨j.val + n.val - 0, hn.2⟩ else 0)
      = ∑ i, if j ≤ i then f i else 0 := by
  have hj := j.isLt
  have e (n : Fin R) : (if hn : 0 ≤ j.val + n.val ∧ j.val + n.val - 0 < R then f ⟨j.val + n.val - 0, hn.2⟩ else 0)
      = if j.val + n.val < R then f ⟨(j.val + n.val) % R, Nat.mod_lt _ (by omega)⟩ else 0 := by
    by_cases h : j.val + n.val < R
    · rw [dif_pos ⟨Nat.zero_le _, by omega⟩, if_pos h]
      exact congrArg f (Fin.ext (by show j.val + n.val - 0 = (j.val + n.val) % R; rw [Nat.mod_eq_of_lt h]; rfl))
    · rw [dif_neg (fun q => h (by have := q.2; omega)), if_neg h]
  rw [Finset.sum_congr rfl fun n _ => e n, ← Finset.sum_filter, ← Finset.sum_filter]
  refine Finset.sum_bij (fun n _ => ⟨(j.val + n.val) % R, Nat.mod_lt _ (by omega)⟩) ?_ ?_ ?_ ?_
  · intro n hn
    simp only [Finset.mem_filter, Finset.mem_univ, true_and, Fin.le_def] at hn ⊢
    rw [Nat.mod_eq_of_lt hn]; omega
  · intro n hn m hm q
    have := congrArg Fin.val q
    simp only [Finset.mem_filter, Finset.mem_univ, true_and] at hn hm this
    rw [Nat.mod_eq_of_lt hn, Nat.mod_eq_of_lt hm] at this
    exact Fin.ext (by omega)
  · intro i hi
    have := i.isLt
    simp only [Finset.mem_filter, Finset.mem_univ, true_and, Fin.le_def] at hi
    refine ⟨⟨i.val - j.val, by omega⟩, ?_, Fin.ext ?_⟩
    · simp only [Finset.mem_filter, Finset.mem_univ, true_and]; omega
    · show (j.val + (i.val - j.val)) % R = i.val
      rw [Nat.mod_eq_of_lt (by omega)]; omega
  · intro _ _; rfl

theorem coe_ite_zero (p : Prop) [Decidable p] (x : ℝ) : (if p then ((x : ℝ) : EReal) else 0) = ((if p then x else 0 : ℝ) : EReal) := by
  split <;> rfl

/-- The running sum of the rows from the top, over finite values. -/
theorem cumsum_down (f : Fin 16384 → Fin 32 → ℝ) (init : (⟨0, ![]⟩ : Shape).Idx → EReal) (hinit : ∀ i, init i = 0) (h) (hu) :
    (Host.reduceWindowAdd (F := Ideal) (s := shape2 16384 32) (t := shape2 16384 32) (u := ⟨0, ![]⟩) (φ := .f32)
      ![16384, 1] ![1, 1] ![16383, 0] ![0, 0] (up2 f) init h hu) = up2 fun j c => ∑ i, if i ≤ j then f i c else 0 := by
  funext i
  obtain ⟨j, c, rfl⟩ : ∃ (j : Fin 16384) (c : Fin 32), i = ValueIdx.ix2 j c := ⟨i 0, i 1, ValueIdx.eq_ix2 i⟩
  unfold Host.reduceWindowAdd
  rw [Ideal.hostReduceWindowAdd_def, hinit]
  refine (window_sum (R := 16384) (C := 32) _ _ j c).trans ?_
  refine (window_prefix (R := 16384) (Rm1 := 16383) rfl (fun i => ((f i c : ℝ) : EReal)) j).trans ?_
  simp only [coe_ite_zero, ← coe_sum]
  rfl

/-- The running sum of the rows from the bottom, over finite values. -/
theorem cumsum_up (f : Fin 16384 → Fin 32 → ℝ) (init : (⟨0, ![]⟩ : Shape).Idx → EReal) (hinit : ∀ i, init i = 0) (h) (hu) :
    (Host.reduceWindowAdd (F := Ideal) (s := shape2 16384 32) (t := shape2 16384 32) (u := ⟨0, ![]⟩) (φ := .f32)
      ![16384, 1] ![1, 1] ![0, 0] ![16383, 0] (up2 f) init h hu) = up2 fun j c => ∑ i, if j ≤ i then f i c else 0 := by
  funext i
  obtain ⟨j, c, rfl⟩ : ∃ (j : Fin 16384) (c : Fin 32), i = ValueIdx.ix2 j c := ⟨i 0, i 1, ValueIdx.eq_ix2 i⟩
  unfold Host.reduceWindowAdd
  rw [Ideal.hostReduceWindowAdd_def, hinit]
  refine (window_sum (R := 16384) (C := 32) _ _ j c).trans ?_
  refine (window_suffix (R := 16384) (fun i => ((f i c : ℝ) : EReal)) j).trans ?_
  simp only [coe_ite_zero, ← coe_sum]
  rfl

end Cert.Lift

end
-- ==== Proof.Blk.lean ====
/- One chunk of the backward scan over the reals: its inputs, and the quantities it computes from them. -/
module

public import Mathlib.Analysis.SpecialFunctions.Log.Basic

@[expose] public section

noncomputable section

namespace Cert

/-- The head, of the four of a group, that holds lane `p`. -/
def hd (p : Fin 256) : Fin 4 := ⟨p.val / 64, by omega⟩

/-- The inputs of one chunk: `x`, `dy` (group, step, lane), `b`, `c` (group, step, state), `raw` (head, group, step), the
    three parameters of each head, the state `S` the chunk starts from and the gradient `dS` of the state it leaves
    (group, lane, state). -/
structure Blk where
  x : Fin 8 → Fin 128 → Fin 256 → ℝ
  b : Fin 8 → Fin 128 → Fin 128 → ℝ
  c : Fin 8 → Fin 128 → Fin 128 → ℝ
  raw : Fin 4 → Fin 8 → Fin 128 → ℝ
  bias : Fin 4 → Fin 8 → ℝ
  al : Fin 4 → Fin 8 → ℝ
  D : Fin 4 → Fin 8 → ℝ
  S : Fin 8 → Fin 256 → Fin 128 → ℝ
  dy : Fin 8 → Fin 128 → Fin 256 → ℝ
  dS : Fin 8 → Fin 256 → Fin 128 → ℝ

namespace Blk

variable (K : Blk)

/-- The step's argument of softplus. -/
def z (r : Fin 4) (g : Fin 8) (l : Fin 128) : ℝ := K.raw r g l + K.bias r g
/-- The step size. -/
def dt (r : Fin 4) (g : Fin 8) (l : Fin 128) : ℝ := max (K.z r g l) 0 + Real.log (1 + Real.exp (0 - |K.z r g l|))
/-- The derivative of `max z 0`, one half at zero. -/
def md (r : Fin 4) (g : Fin 8) (l : Fin 128) : ℝ := if 0 < K.z r g l then 1 else if K.z r g l = 0 then 1 / 2 else 0
/-- The rate of a head. -/
def A (r : Fin 4) (g : Fin 8) : ℝ := 0 - Real.exp (K.al r g)
/-- The exponent of one step. -/
def adt (r : Fin 4) (g : Fin 8) (l : Fin 128) : ℝ := K.A r g * K.dt r g l
/-- The exponents summed from the chunk's start. -/
def acs (r : Fin 4) (g : Fin 8) (l : Fin 128) : ℝ := ∑ j, if j ≤ l then K.adt r g j else 0
/-- The whole chunk's exponent. -/
def last (r : Fin 4) (g : Fin 8) : ℝ := ∑ j, K.adt r g j
/-- The decay from step `s` to step `l`. -/
def L (r : Fin 4) (g : Fin 8) (l s : Fin 128) : ℝ := if s ≤ l then Real.exp (K.acs r g l - K.acs r g s) else 0
/-- The decay from the chunk's start. -/
def ecs (r : Fin 4) (g : Fin 8) (l : Fin 128) : ℝ := Real.exp (K.acs r g l)
/-- The decay to the chunk's end. -/
def dst (r : Fin 4) (g : Fin 8) (l : Fin 128) : ℝ := Real.exp (K.last r g - K.acs r g l)
/-- The decay over the chunk. -/
def edl (r : Fin 4) (g : Fin 8) : ℝ := Real.exp (K.last r g)
/-- `C Bᵀ`. -/
def cb (g : Fin 8) (l s : Fin 128) : ℝ := ∑ n, K.c g l n * K.b g s n
/-- `C` at the starting state. -/
def cs (g : Fin 8) (l : Fin 128) (p : Fin 256) : ℝ := ∑ n, K.c g l n * K.S g p n
/-- `x` times the step size. -/
def xd (g : Fin 8) (l : Fin 128) (p : Fin 256) : ℝ := K.x g l p * K.dt (hd p) g l
/-- A head's lanes of the gradient. -/
def dym (r : Fin 4) (g : Fin 8) (l : Fin 128) (p : Fin 256) : ℝ := if hd p = r then K.dy g l p else 0
/-- A head's rows of the state's gradient. -/
def dSm (r : Fin 4) (g : Fin 8) (p : Fin 256) (n : Fin 128) : ℝ := if hd p = r then K.dS g p n else 0
/-- The gradient of the decayed `B` from the state. -/
def dBst (r : Fin 4) (g : Fin 8) (l n : Fin 128) : ℝ := ∑ p, K.xd g l p * K.dSm r g p n
/-- The gradient of the decay to the chunk's end. -/
def ddst (r : Fin 4) (g : Fin 8) (l : Fin 128) : ℝ := ∑ n, K.b g l n * K.dBst r g l n
/-- The gradient of the masked product. -/
def dM (r : Fin 4) (g : Fin 8) (l s : Fin 128) : ℝ := ∑ p, K.dym r g l p * K.xd g s p
/-- The gradient of the decay matrix. -/
def Q (r : Fin 4) (g : Fin 8) (l s : Fin 128) : ℝ := K.cb g l s * K.dM r g l s
/-- The part of the gradient of `xd` that comes from the state. -/
def dxds (r : Fin 4) (g : Fin 8) (l : Fin 128) (p : Fin 256) : ℝ := ∑ n, K.b g l n * K.dst r g l * K.dSm r g p n
/-- The part of the gradient of `xd` that comes from the chunk. -/
def dxdm (r : Fin 4) (g : Fin 8) (s : Fin 128) (p : Fin 256) : ℝ := ∑ l, K.cb g l s * K.L r g l s * K.dym r g l p
/-- The gradient of `xd`. -/
def dxd (g : Fin 8) (l : Fin 128) (p : Fin 256) : ℝ :=
  K.dxds 3 g l p + K.dxds 2 g l p + K.dxds 1 g l p + K.dxds 0 g l p + K.dxdm 3 g l p + K.dxdm 2 g l p + K.dxdm 1 g l p + K.dxdm 0 g l p
/-- The gradient of `x`. -/
def dx (g : Fin 8) (l : Fin 128) (p : Fin 256) : ℝ := K.dy g l p * K.D (hd p) g + K.dxd g l p * K.dt (hd p) g l
/-- The gradient of `C Bᵀ`. -/
def dcb (g : Fin 8) (l s : Fin 128) : ℝ :=
  K.dM 3 g l s * K.L 3 g l s + K.dM 2 g l s * K.L 2 g l s + K.dM 1 g l s * K.L 1 g l s + K.dM 0 g l s * K.L 0 g l s
/-- The gradient of `C` at the starting state. -/
def dcs (g : Fin 8) (l : Fin 128) (p : Fin 256) : ℝ := K.dy g l p * K.ecs (hd p) g l
/-- The part of the gradient of `B` that comes from the state. -/
def dBs (g : Fin 8) (l n : Fin 128) : ℝ :=
  K.dBst 3 g l n * K.dst 3 g l + K.dBst 2 g l n * K.dst 2 g l + K.dBst 1 g l n * K.dst 1 g l + K.dBst 0 g l n * K.dst 0 g l
/-- The gradient of `B`. -/
def dB (g : Fin 8) (l n : Fin 128) : ℝ := K.dBs g l n + ∑ i, K.dcb g i l * K.c g i n
/-- The gradient of `C`. -/
def dC (g : Fin 8) (l n : Fin 128) : ℝ := (∑ p, K.dcs g l p * K.S g p n) + ∑ s, K.dcb g l s * K.b g s n
/-- The gradient of the state the chunk starts from. -/
def dSn (g : Fin 8) (p : Fin 256) (n : Fin 128) : ℝ := K.dS g p n * K.edl (hd p) g + ∑ l, K.dcs g l p * K.c g l n
/-- The chunk's part of the gradient of a head's skip weight. -/
def dD (r : Fin 4) (g : Fin 8) : ℝ := ∑ p, if hd p = r then ∑ l, K.x g l p * K.dy g l p else 0
/-- The gradient of the decay over the chunk. -/
def sds (r : Fin 4) (g : Fin 8) : ℝ := ∑ p, if hd p = r then ∑ n, K.S g p n * K.dS g p n else 0
/-- The gradient of the decay from the chunk's start. -/
def de (r : Fin 4) (g : Fin 8) (l : Fin 128) : ℝ := ∑ p, if hd p = r then K.cs g l p * K.dy g l p else 0
/-- The part of the gradient of the step size that comes from `xd`. -/
def ddtx (r : Fin 4) (g : Fin 8) (l : Fin 128) : ℝ := ∑ p, if hd p = r then K.x g l p * K.dxd g l p else 0
/-- The masked gradient of the decay matrix's exponent. -/
def Pm (r : Fin 4) (g : Fin 8) (l s : Fin 128) : ℝ := if s ≤ l then K.Q r g l s * K.L r g l s else 0
/-- The gradient of the chunk's exponent. -/
def dlast (r : Fin 4) (g : Fin 8) : ℝ := K.sds r g * K.edl r g + ∑ l, K.ddst r g l * K.dst r g l
/-- The gradient of the summed exponent of step `l` along rows. -/
def rowv (r : Fin 4) (g : Fin 8) (l : Fin 128) : ℝ := 0 - K.ddst r g l * K.dst r g l + K.de r g l * K.ecs r g l + ∑ s, K.Pm r g l s
/-- The gradient of the summed exponent of step `s` along columns. -/
def colv (r : Fin 4) (g : Fin 8) (s : Fin 128) : ℝ := ∑ l, (0 - K.Pm r g l s)
/-- The gradient of one step's exponent. -/
def dadt (r : Fin 4) (g : Fin 8) (u : Fin 128) : ℝ :=
  K.dlast r g + (∑ l, if u ≤ l then K.rowv r g l else 0) + ∑ s, if u ≤ s then K.colv r g s else 0
/-- The gradient of the step size. -/
def ddt (r : Fin 4) (g : Fin 8) (l : Fin 128) : ℝ := K.ddtx r g l + K.A r g * K.dadt r g l
/-- The chunk's part of the gradient of a head's rate parameter. -/
def dal (r : Fin 4) (g : Fin 8) : ℝ := (0 - ∑ l, K.dadt r g l * K.dt r g l) * Real.exp (K.al r g)
/-- The gradient of softplus's argument. -/
def dz (r : Fin 4) (g : Fin 8) (l : Fin 128) : ℝ :=
  (if 0 ≤ K.z r g l then 0 - K.ddt r g l / (1 + Real.exp (0 - |K.z r g l|)) * Real.exp (0 - |K.z r g l|) else 0)
    + (0 - if 0 ≤ K.z r g l then 0 else 0 - K.ddt r g l / (1 + Real.exp (0 - |K.z r g l|)) * Real.exp (0 - |K.z r g l|))
    + K.ddt r g l * K.md r g l
/-- The chunk's part of the gradient of a head's bias. -/
def ddtb (r : Fin 4) (g : Fin 8) : ℝ := ∑ l, K.dz r g l

end Blk

/-! ### Choosing by lane -/

theorem lane_sel (f : Fin 4 → ℝ) (p : Fin 256) :
    (if p.val < 64 then f 0 else if p.val < 128 then f 1 else if p.val < 192 then f 2 else f 3) = f (hd p) := by
  have hp := p.isLt
  have e (k : Fin 4) (h : p.val / 64 = k.val) : hd p = k := Fin.ext h
  split_ifs with h1 h2 h3
  · rw [e 0 (show p.val / 64 = 0 by omega)]
  · rw [e 1 (show p.val / 64 = 1 by omega)]
  · rw [e 2 (show p.val / 64 = 2 by omega)]
  · rw [e 3 (show p.val / 64 = 3 by omega)]
theorem hd_eq (p : Fin 256) (k : Fin 4) : hd p = k ↔ p.val / 64 = k.val := Fin.ext_iff
theorem hd_val0 : (0 : Fin 4).val = 0 := rfl
theorem hd_val1 : (1 : Fin 4).val = 1 := rfl
theorem hd_val2 : (2 : Fin 4).val = 2 := rfl
theorem hd_val3 : (3 : Fin 4).val = 3 := rfl
theorem head0 (x : ℝ) (p : Fin 256) : (if p.val < 64 then x else 0) = if hd p = 0 then x else 0 := by
  have hp := p.isLt
  simp only [hd_eq, hd_val0, hd_val1, hd_val2, hd_val3]; split_ifs <;> first | rfl | (exfalso; omega)
theorem head1 (x : ℝ) (p : Fin 256) : (if p.val < 128 then if p.val < 64 then 0 else x else 0) = if hd p = 1 then x else 0 := by
  have hp := p.isLt
  simp only [hd_eq, hd_val0, hd_val1, hd_val2, hd_val3]; split_ifs <;> first | rfl | (exfalso; omega)
theorem head2 (x : ℝ) (p : Fin 256) :
    (if p.val < 192 then if p.val < 128 then 0 else if p.val < 64 then 0 else x else 0) = if hd p = 2 then x else 0 := by
  have hp := p.isLt
  simp only [hd_eq, hd_val0, hd_val1, hd_val2, hd_val3]; split_ifs <;> first | rfl | (exfalso; omega)
theorem head3 (x : ℝ) (p : Fin 256) :
    (if p.val < 192 then 0 else if p.val < 128 then 0 else if p.val < 64 then 0 else x) = if hd p = 3 then x else 0 := by
  have hp := p.isLt
  simp only [hd_eq, hd_val0, hd_val1, hd_val2, hd_val3]; split_ifs <;> first | rfl | (exfalso; omega)

theorem head_of (p : Fin 256) :
    (p.val < 64 ∧ hd p = 0) ∨ (64 ≤ p.val ∧ p.val < 128 ∧ hd p = 1) ∨ (128 ≤ p.val ∧ p.val < 192 ∧ hd p = 2)
      ∨ (192 ≤ p.val ∧ hd p = 3) := by
  have hp := p.isLt
  simp only [hd_eq, hd_val0, hd_val1, hd_val2, hd_val3]; omega

end Cert

end
-- ==== Proof.Seq.lean ====
/- The whole sequence over the reals: the gradients of the quadratic form that the reference differentiates, and their
   agreement, chunk by chunk, with the gradients that one chunk of the backward scan computes. -/
module

public import proofs.«01_k».proof.Proof.Blk

@[expose] public section

noncomputable section

namespace Cert

/-- The position in the parameter vectors of head `r` of group `g`. -/
def ix (r : Fin 4) (g : Fin 8) : Fin 32 := ⟨4 * g.val + r.val, by omega⟩
/-- The step of the sequence that is step `l` of chunk `c`. -/
def st (c l : Fin 128) : Fin 16384 := ⟨128 * c.val + l.val, by omega⟩
/-- The steps before chunk `c`. -/
def lo (c : Fin 128) : Finset (Fin 16384) := Finset.univ.filter fun t => t.val < 128 * c.val
/-- The steps after chunk `c`. -/
def hi (c : Fin 128) : Finset (Fin 16384) := Finset.univ.filter fun t => 128 * c.val + 128 ≤ t.val

theorem mem_lo (c : Fin 128) (t : Fin 16384) : t ∈ lo c ↔ t.val < 128 * c.val := by simp [lo]
theorem mem_hi (c : Fin 128) (t : Fin 16384) : t ∈ hi c ↔ 128 * c.val + 128 ≤ t.val := by simp [hi]

/-- A sum over the steps, cut at the two ends of a chunk. -/
theorem sum_split (c : Fin 128) (f : Fin 16384 → ℝ) :
    ∑ t, f t = (∑ t ∈ lo c, f t) + (∑ l, f (st c l)) + ∑ t ∈ hi c, f t := by
  have h1 : ∑ l, f (st c l) = ∑ t ∈ Finset.univ.filter (fun t : Fin 16384 => 128 * c.val ≤ t.val ∧ t.val < 128 * c.val + 128), f t := by
    refine Finset.sum_bij (fun l _ => st c l) ?_ ?_ ?_ ?_
    · intro l _
      have := l.isLt
      simp only [Finset.mem_filter, Finset.mem_univ, true_and, st]
      omega
    · intro a _ b _ h
      have := congrArg Fin.val h
      simp only [st] at this
      exact Fin.ext (by omega)
    · intro t ht
      simp only [Finset.mem_filter, Finset.mem_univ, true_and] at ht
      exact ⟨⟨t.val - 128 * c.val, by omega⟩, Finset.mem_univ _, Fin.ext (by simp only [st]; omega)⟩
    · intro _ _; rfl
  rw [h1, lo, hi, Finset.sum_filter, Finset.sum_filter, Finset.sum_filter, ← Finset.sum_add_distrib, ← Finset.sum_add_distrib]
  refine Finset.sum_congr rfl fun t _ => ?_
  by_cases h : t.val < 128 * c.val
  · rw [if_pos h, if_neg (by omega), if_neg (by omega)]; ring
  · by_cases h' : t.val < 128 * c.val + 128
    · rw [if_neg h, if_pos (by omega), if_neg (by omega)]; ring
    · rw [if_neg h, if_neg (by omega), if_pos (by omega)]; ring

/-- A sum over the steps, chunk by chunk. -/
theorem sum_chunks (f : Fin 16384 → ℝ) : ∑ c, ∑ l, f (st c l) = ∑ t, f t := by
  rw [← Fintype.sum_prod_type' (f := fun c l => f (st c l))]
  refine Fintype.sum_equiv (finProdFinEquiv (m := 128) (n := 128)) _ _ fun x => ?_
  congr 1
  exact Fin.ext (by simp only [st, finProdFinEquiv_apply_val]; omega)

/-- A sum over lanes, head by head. -/
theorem sum_heads (f : Fin 4 → Fin 256 → ℝ) : ∑ r, ∑ p, (if hd p = r then f r p else 0) = ∑ p, f (hd p) p := by
  rw [Finset.sum_comm]
  refine Finset.sum_congr rfl fun p _ => ?_
  rw [Finset.sum_ite_eq]
  simp

theorem sum_four (f : Fin 4 → ℝ) : f 3 + f 2 + f 1 + f 0 = ∑ r, f r := by
  rw [Fin.sum_univ_four]; ring

/-- The inputs of the sequence: `X`, `Y` (the gradient of the output), `B`, `C`, the raw step sizes, and the parameters
    of the heads. -/
structure Sq where
  X : Fin 8 → Fin 16384 → Fin 256 → ℝ
  B : Fin 8 → Fin 16384 → Fin 128 → ℝ
  C : Fin 8 → Fin 16384 → Fin 128 → ℝ
  raw : Fin 16384 → Fin 32 → ℝ
  bias : Fin 32 → ℝ
  al : Fin 32 → ℝ
  D : Fin 32 → ℝ
  Y : Fin 8 → Fin 16384 → Fin 256 → ℝ

namespace Sq

variable (Q : Sq)

/-- The argument of softplus. -/
def z (r : Fin 4) (g : Fin 8) (t : Fin 16384) : ℝ := Q.raw t (ix r g) + Q.bias (ix r g)
/-- The step size. -/
def dt (r : Fin 4) (g : Fin 8) (t : Fin 16384) : ℝ := max (Q.z r g t) 0 + Real.log (1 + Real.exp (0 - |Q.z r g t|))
/-- The rate of a head. -/
def A (r : Fin 4) (g : Fin 8) : ℝ := 0 - Real.exp (Q.al (ix r g))
/-- The exponent of one step. -/
def adt (r : Fin 4) (g : Fin 8) (t : Fin 16384) : ℝ := Q.A r g * Q.dt r g t
/-- The exponents summed up to a step. -/
def acs (r : Fin 4) (g : Fin 8) (t : Fin 16384) : ℝ := ∑ j, if j ≤ t then Q.adt r g j else 0
/-- The exponents of the first `k` steps summed. -/
def pre (r : Fin 4) (g : Fin 8) (k : ℕ) : ℝ := ∑ j, if j.val < k then Q.adt r g j else 0
/-- The decay from step `s` to step `t`. -/
def L (r : Fin 4) (g : Fin 8) (t s : Fin 16384) : ℝ := if s ≤ t then Real.exp (Q.acs r g t - Q.acs r g s) else 0
/-- `C Bᵀ`. -/
def cb (g : Fin 8) (t s : Fin 16384) : ℝ := ∑ n, Q.C g t n * Q.B g s n
/-- `X` times the step size. -/
def xd (g : Fin 8) (t : Fin 16384) (p : Fin 256) : ℝ := Q.X g t p * Q.dt (hd p) g t
/-- The gradient of the masked product. -/
def dM (r : Fin 4) (g : Fin 8) (t s : Fin 16384) : ℝ := ∑ p, if hd p = r then Q.Y g t p * Q.xd g s p else 0
/-- The gradient of the decay's exponent. -/
def P (r : Fin 4) (g : Fin 8) (t s : Fin 16384) : ℝ := Q.cb g t s * Q.dM r g t s * Q.L r g t s
/-- The gradient of `xd`. -/
def dxd (g : Fin 8) (s : Fin 16384) (p : Fin 256) : ℝ := ∑ t, Q.cb g t s * Q.L (hd p) g t s * Q.Y g t p
/-- The gradient of `C Bᵀ`. -/
def dcb (g : Fin 8) (t s : Fin 16384) : ℝ := ∑ r, Q.dM r g t s * Q.L r g t s
/-- The gradient of `X`. -/
def dX (g : Fin 8) (t : Fin 16384) (p : Fin 256) : ℝ := Q.Y g t p * Q.D (ix (hd p) g) + Q.dxd g t p * Q.dt (hd p) g t
/-- The gradient of `B`. -/
def dB (g : Fin 8) (s : Fin 16384) (n : Fin 128) : ℝ := ∑ t, Q.dcb g t s * Q.C g t n
/-- The gradient of `C`. -/
def dC (g : Fin 8) (t : Fin 16384) (n : Fin 128) : ℝ := ∑ s, Q.dcb g t s * Q.B g s n
/-- The gradient of the summed exponents. -/
def dacs (r : Fin 4) (g : Fin 8) (t : Fin 16384) : ℝ := (∑ s, Q.P r g t s) - ∑ s, Q.P r g s t
/-- The gradient of one step's exponent. -/
def dadt (r : Fin 4) (g : Fin 8) (u : Fin 16384) : ℝ := ∑ t, if u ≤ t then Q.dacs r g t else 0
/-- The gradient of the step size. -/
def ddt (r : Fin 4) (g : Fin 8) (t : Fin 16384) : ℝ :=
  (∑ p, if hd p = r then Q.X g t p * Q.dxd g t p else 0) + Q.A r g * Q.dadt r g t
/-- The gradient of softplus's argument. -/
def dz (r : Fin 4) (g : Fin 8) (t : Fin 16384) : ℝ := Q.ddt r g t * (Real.exp (Q.z r g t) / (1 + Real.exp (Q.z r g t)))
/-- The gradient of a head's bias. -/
def ddtb (r : Fin 4) (g : Fin 8) : ℝ := ∑ t, Q.dz r g t
/-- The gradient of a head's rate parameter. -/
def dal (r : Fin 4) (g : Fin 8) : ℝ := (∑ t, Q.dadt r g t * Q.dt r g t) * Q.A r g
/-- The gradient of a head's skip weight. -/
def dD (r : Fin 4) (g : Fin 8) : ℝ := ∑ t, ∑ p, if hd p = r then Q.X g t p * Q.Y g t p else 0

/-- The state that chunk `c` starts from. -/
def S (c : Fin 128) (g : Fin 8) (p : Fin 256) (n : Fin 128) : ℝ :=
  ∑ s, Q.B g s n * ((if s.val < 128 * c.val then Real.exp (Q.pre (hd p) g (128 * c.val) - Q.acs (hd p) g s) else 0)
    * Q.dt (hd p) g s * Q.X g s p)
/-- The gradient of the state that chunk `c` leaves. -/
def dS (c : Fin 128) (g : Fin 8) (p : Fin 256) (n : Fin 128) : ℝ :=
  ∑ t ∈ hi c, Real.exp (Q.acs (hd p) g t - Q.pre (hd p) g (128 * c.val + 128)) * Q.Y g t p * Q.C g t n

/-- Chunk `c` as the inputs of one chunk of the scan. -/
def blk (c : Fin 128) : Blk where
  x g l p := Q.X g (st c l) p
  b g l n := Q.B g (st c l) n
  c g l n := Q.C g (st c l) n
  raw r g l := Q.raw (st c l) (ix r g)
  bias r g := Q.bias (ix r g)
  al r g := Q.al (ix r g)
  D r g := Q.D (ix r g)
  S := Q.S c
  dy g l p := Q.Y g (st c l) p
  dS := Q.dS c

variable (c : Fin 128) (r : Fin 4) (g : Fin 8)

theorem blk_z (l : Fin 128) : (Q.blk c).z r g l = Q.z r g (st c l) := rfl
theorem blk_dt (l : Fin 128) : (Q.blk c).dt r g l = Q.dt r g (st c l) := rfl
theorem blk_A : (Q.blk c).A r g = Q.A r g := rfl
theorem blk_adt (l : Fin 128) : (Q.blk c).adt r g l = Q.adt r g (st c l) := rfl
theorem blk_cb (l s : Fin 128) : (Q.blk c).cb g l s = Q.cb g (st c l) (st c s) := rfl
theorem blk_xd (l : Fin 128) (p : Fin 256) : (Q.blk c).xd g l p = Q.xd g (st c l) p := rfl

theorem blk_x (l : Fin 128) (p : Fin 256) : (Q.blk c).x g l p = Q.X g (st c l) p := rfl
theorem blk_dy (l : Fin 128) (p : Fin 256) : (Q.blk c).dy g l p = Q.Y g (st c l) p := rfl
theorem blk_b (l n : Fin 128) : (Q.blk c).b g l n = Q.B g (st c l) n := rfl
theorem blk_c (l n : Fin 128) : (Q.blk c).c g l n = Q.C g (st c l) n := rfl
theorem blk_S (p : Fin 256) (n : Fin 128) : (Q.blk c).S g p n = Q.S c g p n := by simp only [blk]
theorem blk_dS (p : Fin 256) (n : Fin 128) : (Q.blk c).dS g p n = Q.dS c g p n := by simp only [blk]

theorem st_le (l s : Fin 128) : st c s ≤ st c l ↔ s ≤ l := by
  simp only [Fin.le_def, st]; omega

theorem acs_st (l : Fin 128) : Q.acs r g (st c l) = Q.pre r g (128 * c.val) + (Q.blk c).acs r g l := by
  have hl := l.isLt
  rw [acs, sum_split c]
  have h1 : (∑ t ∈ lo c, if t ≤ st c l then Q.adt r g t else 0) = Q.pre r g (128 * c.val) := by
    rw [pre]
    refine (Finset.sum_congr rfl fun t ht => ?_).trans (Finset.sum_filter _ _)
    rw [mem_lo] at ht
    rw [if_pos (by simp only [Fin.le_def, st]; omega)]
  have h2 : (∑ t ∈ hi c, if t ≤ st c l then Q.adt r g t else 0) = 0 := by
    refine Finset.sum_eq_zero fun t ht => ?_
    rw [mem_hi] at ht
    rw [if_neg (by simp only [Fin.le_def, st]; omega)]
  have h3 : (∑ j, if st c j ≤ st c l then Q.adt r g (st c j) else 0) = (Q.blk c).acs r g l := by
    simp only [st_le]; rfl
  rw [h1, h2, h3, add_zero]

theorem pre_next : Q.pre r g (128 * c.val + 128) = Q.pre r g (128 * c.val) + (Q.blk c).last r g := by
  rw [pre, sum_split c]
  have h1 : (∑ t ∈ lo c, if t.val < 128 * c.val + 128 then Q.adt r g t else 0) = Q.pre r g (128 * c.val) := by
    rw [pre]
    refine (Finset.sum_congr rfl fun t ht => ?_).trans (Finset.sum_filter _ _)
    rw [mem_lo] at ht
    rw [if_pos (by omega)]
  have h2 : (∑ t ∈ hi c, if t.val < 128 * c.val + 128 then Q.adt r g t else 0) = 0 := by
    refine Finset.sum_eq_zero fun t ht => ?_
    rw [mem_hi] at ht
    rw [if_neg (by omega)]
  have h3 : (∑ j, if (st c j).val < 128 * c.val + 128 then Q.adt r g (st c j) else 0) = (Q.blk c).last r g := by
    refine Finset.sum_congr rfl fun j _ => ?_
    have := j.isLt
    rw [if_pos (by simp only [st]; omega)]; rfl
  rw [h1, h2, h3, add_zero]

theorem blk_L (l s : Fin 128) : (Q.blk c).L r g l s = Q.L r g (st c l) (st c s) := by
  rw [Blk.L, L, acs_st, acs_st, add_sub_add_left_eq_sub]
  simp only [st_le]
theorem blk_ecs (l : Fin 128) : (Q.blk c).ecs r g l = Real.exp (Q.acs r g (st c l) - Q.pre r g (128 * c.val)) := by
  rw [acs_st, add_sub_cancel_left]; rfl
theorem blk_dst (l : Fin 128) : (Q.blk c).dst r g l = Real.exp (Q.pre r g (128 * c.val + 128) - Q.acs r g (st c l)) := by
  rw [acs_st, pre_next, add_sub_add_left_eq_sub]; rfl
theorem blk_edl : (Q.blk c).edl r g = Real.exp (Q.pre r g (128 * c.val + 128) - Q.pre r g (128 * c.val)) := by
  rw [pre_next, add_sub_cancel_left]; rfl

/-- The starting state as a sum over the steps before the chunk. -/
theorem S_eq (p : Fin 256) (n : Fin 128) : Q.S c g p n
    = ∑ s ∈ lo c, Real.exp (Q.pre (hd p) g (128 * c.val) - Q.acs (hd p) g s) * Q.xd g s p * Q.B g s n := by
  rw [S, lo, Finset.sum_filter]
  refine Finset.sum_congr rfl fun s _ => ?_
  split
  · rw [xd]; ring
  · ring

theorem exp_cut (a p b : ℝ) : Real.exp (a - b) = Real.exp (a - p) * Real.exp (p - b) := by
  rw [← Real.exp_add]; congr 1; ring

theorem L_lo (l : Fin 128) {s : Fin 16384} (h : s ∈ lo c) : Q.L r g (st c l) s
    = Real.exp (Q.acs r g (st c l) - Q.pre r g (128 * c.val)) * Real.exp (Q.pre r g (128 * c.val) - Q.acs r g s) := by
  rw [mem_lo] at h
  rw [L, if_pos (by simp only [Fin.le_def, st]; omega), ← exp_cut]
theorem L_hi (l : Fin 128) {t : Fin 16384} (h : t ∈ hi c) : Q.L r g t (st c l)
    = Real.exp (Q.acs r g t - Q.pre r g (128 * c.val + 128)) * Real.exp (Q.pre r g (128 * c.val + 128) - Q.acs r g (st c l)) := by
  rw [mem_hi] at h
  have := l.isLt
  rw [L, if_pos (by simp only [Fin.le_def, st]; omega), ← exp_cut]
theorem L_lo_zero (l : Fin 128) {t : Fin 16384} (h : t ∈ lo c) : Q.L r g t (st c l) = 0 := by
  rw [mem_lo] at h
  rw [L, if_neg (by simp only [Fin.le_def, st]; omega)]
theorem L_hi_zero (l : Fin 128) {s : Fin 16384} (h : s ∈ hi c) : Q.L r g (st c l) s = 0 := by
  rw [mem_hi] at h
  have := l.isLt
  rw [L, if_neg (by simp only [Fin.le_def, st]; omega)]
theorem L_hi_lo {t s : Fin 16384} (h : t ∈ hi c) (h' : s ∈ lo c) : Q.L r g t s
    = Real.exp (Q.acs r g t - Q.pre r g (128 * c.val + 128)) * Real.exp (Q.pre r g (128 * c.val + 128) - Q.pre r g (128 * c.val))
      * Real.exp (Q.pre r g (128 * c.val) - Q.acs r g s) := by
  rw [mem_hi] at h
  rw [mem_lo] at h'
  rw [L, if_pos (by simp only [Fin.le_def]; omega), ← exp_cut, ← exp_cut]

theorem dcb_eq (t s : Fin 16384) : Q.dcb g t s = ∑ p, Q.Y g t p * Q.xd g s p * Q.L (hd p) g t s := by
  rw [dcb, ← sum_heads fun r p => Q.Y g t p * Q.xd g s p * Q.L r g t s]
  refine Finset.sum_congr rfl fun r _ => ?_
  rw [dM, Finset.sum_mul]
  refine Finset.sum_congr rfl fun p _ => ?_
  split <;> ring
theorem dcb_lo_zero (l : Fin 128) {t : Fin 16384} (h : t ∈ lo c) : Q.dcb g t (st c l) = 0 :=
  Finset.sum_eq_zero fun r _ => by rw [Q.L_lo_zero c r g l h, mul_zero]
theorem dcb_hi_zero (l : Fin 128) {s : Fin 16384} (h : s ∈ hi c) : Q.dcb g (st c l) s = 0 :=
  Finset.sum_eq_zero fun r _ => by rw [Q.L_hi_zero c r g l h, mul_zero]

theorem blk_dM (l s : Fin 128) : (Q.blk c).dM r g l s = Q.dM r g (st c l) (st c s) := by
  refine Finset.sum_congr rfl fun p _ => ?_
  rw [Blk.dym, ite_mul, zero_mul]; rfl
theorem blk_dcb (l s : Fin 128) : (Q.blk c).dcb g l s = Q.dcb g (st c l) (st c s) := by
  rw [Blk.dcb, sum_four fun r => (Q.blk c).dM r g l s * (Q.blk c).L r g l s]
  exact Finset.sum_congr rfl fun r _ => by rw [blk_dM, blk_L]

/-- The gradient of `C`. -/
theorem blk_dC (l n : Fin 128) : (Q.blk c).dC g l n = Q.dC g (st c l) n := by
  rw [Blk.dC, dC, sum_split c]
  have h1 : ∑ p, (Q.blk c).dcs g l p * (Q.blk c).S g p n = ∑ s ∈ lo c, Q.dcb g (st c l) s * Q.B g s n := by
    have e (p : Fin 256) : (Q.blk c).dcs g l p * (Q.blk c).S g p n
        = ∑ s ∈ lo c, Q.Y g (st c l) p * Q.xd g s p * Q.L (hd p) g (st c l) s * Q.B g s n := by
      rw [Blk.dcs, blk_dy, blk_S, S_eq, Finset.mul_sum, blk_ecs]
      refine Finset.sum_congr rfl fun s hs => ?_
      rw [Q.L_lo c _ g l hs]; ring
    rw [Finset.sum_congr rfl fun p _ => e p, Finset.sum_comm]
    refine Finset.sum_congr rfl fun s _ => ?_
    rw [dcb_eq, Finset.sum_mul]
  have h2 : ∑ s, (Q.blk c).dcb g l s * (Q.blk c).b g s n = ∑ s, Q.dcb g (st c l) (st c s) * Q.B g (st c s) n :=
    Finset.sum_congr rfl fun s _ => by rw [blk_dcb]; rfl
  have h3 : ∑ s ∈ hi c, Q.dcb g (st c l) s * Q.B g s n = 0 :=
    Finset.sum_eq_zero fun s hs => by rw [Q.dcb_hi_zero c g l hs, zero_mul]
  rw [h1, h2, h3, add_zero]

theorem blk_dBst (l n : Fin 128) : (Q.blk c).dBst r g l n * (Q.blk c).dst r g l
    = ∑ p, if hd p = r then ∑ t ∈ hi c, Q.Y g t p * Q.xd g (st c l) p * Q.L r g t (st c l) * Q.C g t n else 0 := by
  rw [Blk.dBst, Finset.sum_mul]
  refine Finset.sum_congr rfl fun p _ => ?_
  rw [Blk.dSm]
  split
  · rename_i h
    subst h
    rw [blk_xd, blk_dS, dS, Finset.mul_sum, Finset.sum_mul, blk_dst]
    refine Finset.sum_congr rfl fun t ht => ?_
    rw [Q.L_hi c _ g l ht]; ring
  · ring

/-- The gradient of `B`. -/
theorem blk_dB (l n : Fin 128) : (Q.blk c).dB g l n = Q.dB g (st c l) n := by
  rw [Blk.dB, dB, sum_split c]
  have h1 : (Q.blk c).dBs g l n = ∑ t ∈ hi c, Q.dcb g t (st c l) * Q.C g t n := by
    rw [Blk.dBs, sum_four fun r => (Q.blk c).dBst r g l n * (Q.blk c).dst r g l, Finset.sum_congr rfl fun r _ => Q.blk_dBst c r g l n,
      sum_heads fun r p => ∑ t ∈ hi c, Q.Y g t p * Q.xd g (st c l) p * Q.L r g t (st c l) * Q.C g t n, Finset.sum_comm]
    refine Finset.sum_congr rfl fun t _ => ?_
    rw [dcb_eq, Finset.sum_mul]
  have h2 : ∑ i, (Q.blk c).dcb g i l * (Q.blk c).c g i n = ∑ t, Q.dcb g (st c t) (st c l) * Q.C g (st c t) n :=
    Finset.sum_congr rfl fun s _ => by rw [blk_dcb]; rfl
  have h3 : ∑ t ∈ lo c, Q.dcb g t (st c l) * Q.C g t n = 0 :=
    Finset.sum_eq_zero fun s hs => by rw [Q.dcb_lo_zero c g l hs, zero_mul]
  rw [h1, h2, h3, zero_add, add_comm]

theorem blk_dxd (l : Fin 128) (p : Fin 256) : (Q.blk c).dxd g l p = Q.dxd g (st c l) p := by
  have e1 (r : Fin 4) : (Q.blk c).dxds r g l p
      = if hd p = r then ∑ t ∈ hi c, Q.cb g t (st c l) * Q.L r g t (st c l) * Q.Y g t p else 0 := by
    rw [Blk.dxds]
    simp only [Blk.dSm]
    split
    · rename_i h
      subst h
      have e (n : Fin 128) : (Q.blk c).b g l n * (Q.blk c).dst (hd p) g l * (Q.blk c).dS g p n
          = ∑ t ∈ hi c, Q.C g t n * Q.B g (st c l) n * (Q.L (hd p) g t (st c l) * Q.Y g t p) := by
        rw [blk_b, blk_dS, dS, Finset.mul_sum, blk_dst]
        refine Finset.sum_congr rfl fun t ht => ?_
        rw [Q.L_hi c _ g l ht]; ring
      rw [Finset.sum_congr rfl fun n _ => e n, Finset.sum_comm]
      refine Finset.sum_congr rfl fun t _ => ?_
      rw [← Finset.sum_mul, mul_assoc]; rfl
    · simp
  have e2 (r : Fin 4) : (Q.blk c).dxdm r g l p
      = if hd p = r then ∑ t, Q.cb g (st c t) (st c l) * Q.L r g (st c t) (st c l) * Q.Y g (st c t) p else 0 := by
    rw [Blk.dxdm]
    simp only [Blk.dym]
    split
    · refine Finset.sum_congr rfl fun t _ => ?_
      rw [blk_cb, blk_L]; rfl
    · simp
  have h3 : ∑ t ∈ lo c, Q.cb g t (st c l) * Q.L (hd p) g t (st c l) * Q.Y g t p = 0 :=
    Finset.sum_eq_zero fun t ht => by rw [Q.L_lo_zero c _ g l ht]; ring
  have s1 := sum_four fun r => (Q.blk c).dxds r g l p
  have s2 := sum_four fun r => (Q.blk c).dxdm r g l p
  simp only [e1, Finset.sum_ite_eq, Finset.mem_univ, if_true] at s1
  simp only [e2, Finset.sum_ite_eq, Finset.mem_univ, if_true] at s2
  rw [Blk.dxd, dxd, sum_split c, h3, zero_add, ← s1, ← s2]
  simp only [e1, e2]
  ring

/-- The gradient of `X`. -/
theorem blk_dx (l : Fin 128) (p : Fin 256) : (Q.blk c).dx g l p = Q.dX g (st c l) p := by
  rw [Blk.dx, blk_dxd, blk_dt]; rfl

/-- The gradient of the state that the chunk starts from is that of the state the chunk before it leaves. -/
theorem blk_dSn (c' : Fin 128) (hc : c'.val + 1 = c.val) (p : Fin 256) (n : Fin 128) : (Q.blk c).dSn g p n = Q.dS c' g p n := by
  have hm : 128 * c'.val + 128 = 128 * c.val := by omega
  have e : Q.dS c' g p n = (∑ l, (Q.blk c).dcs g l p * (Q.blk c).c g l n)
      + ∑ t ∈ hi c, Real.exp (Q.acs (hd p) g t - Q.pre (hd p) g (128 * c.val)) * Q.Y g t p * Q.C g t n := by
    rw [dS, hi, Finset.sum_filter, sum_split c, hm]
    have h1 : (∑ t ∈ lo c, if 128 * c.val ≤ t.val then Real.exp (Q.acs (hd p) g t - Q.pre (hd p) g (128 * c.val)) * Q.Y g t p * Q.C g t n else 0) = 0 :=
      Finset.sum_eq_zero fun t ht => by rw [mem_lo] at ht; rw [if_neg (by omega)]
    rw [h1, zero_add]
    refine congrArg₂ (· + ·) ?_ ?_
    · refine Finset.sum_congr rfl fun l _ => ?_
      rw [if_pos (by simp only [st]; omega), ← blk_ecs, Blk.dcs, blk_dy, blk_c]
      ring
    · refine Finset.sum_congr rfl fun t ht => ?_
      rw [mem_hi] at ht
      rw [if_pos (by omega)]
  rw [e, Blk.dSn, add_comm]
  refine congrArg₂ (· + ·) rfl ?_
  rw [blk_dS, dS, Finset.sum_mul, blk_edl]
  refine Finset.sum_congr rfl fun t _ => ?_
  rw [exp_cut (Q.acs (hd p) g t) (Q.pre (hd p) g (128 * c.val + 128)) (Q.pre (hd p) g (128 * c.val))]
  ring
theorem dS_last (hc : c.val = 127) (p : Fin 256) (n : Fin 128) : Q.dS c g p n = 0 := by
  refine Finset.sum_eq_zero fun t ht => ?_
  have := t.isLt
  rw [mem_hi] at ht
  omega

/-! ### The gradient of the exponents -/

theorem P_zero {t s : Fin 16384} (h : ¬ s ≤ t) : Q.P r g t s = 0 := by rw [P, L, if_neg h, mul_zero]

theorem blk_Pm (l s : Fin 128) : (Q.blk c).Pm r g l s = Q.P r g (st c l) (st c s) := by
  rw [Blk.Pm]
  split
  · rw [Blk.Q, blk_cb, blk_dM, blk_L]; rfl
  · rename_i h
    exact (Q.P_zero r g (fun h' => h ((st_le c l s).mp h'))).symm

theorem blk_ddst (l : Fin 128) : (Q.blk c).ddst r g l * (Q.blk c).dst r g l = ∑ t ∈ hi c, Q.P r g t (st c l) := by
  rw [Blk.ddst, Finset.sum_mul]
  have e (n : Fin 128) : (Q.blk c).b g l n * (Q.blk c).dBst r g l n * (Q.blk c).dst r g l
      = ∑ t ∈ hi c, Q.C g t n * Q.B g (st c l) n * (Q.dM r g t (st c l) * Q.L r g t (st c l)) := by
    rw [mul_assoc, blk_dBst, Finset.mul_sum]
    have e' (p : Fin 256) : (Q.blk c).b g l n * (if hd p = r then ∑ t ∈ hi c, Q.Y g t p * Q.xd g (st c l) p * Q.L r g t (st c l) * Q.C g t n else 0)
        = ∑ t ∈ hi c, Q.C g t n * Q.B g (st c l) n * Q.L r g t (st c l) * (if hd p = r then Q.Y g t p * Q.xd g (st c l) p else 0) := by
      split
      · rw [Finset.mul_sum]
        refine Finset.sum_congr rfl fun t _ => ?_
        rw [blk_b]
        ring
      · simp
    rw [Finset.sum_congr rfl fun p _ => e' p, Finset.sum_comm]
    refine Finset.sum_congr rfl fun t _ => ?_
    rw [← Finset.mul_sum, dM]; ring
  rw [Finset.sum_congr rfl fun n _ => e n, Finset.sum_comm]
  refine Finset.sum_congr rfl fun t _ => ?_
  rw [← Finset.sum_mul, P, cb]; ring

theorem blk_de (l : Fin 128) : (Q.blk c).de r g l * (Q.blk c).ecs r g l = ∑ s ∈ lo c, Q.P r g (st c l) s := by
  rw [Blk.de, Finset.sum_mul]
  have e (p : Fin 256) : (if hd p = r then (Q.blk c).cs g l p * (Q.blk c).dy g l p else 0) * (Q.blk c).ecs r g l
      = ∑ s ∈ lo c, Q.cb g (st c l) s * Q.L r g (st c l) s * (if hd p = r then Q.Y g (st c l) p * Q.xd g s p else 0) := by
    split
    · rename_i h
      subst h
      have e' (n : Fin 128) : (Q.blk c).c g l n * (Q.blk c).S g p n
          = ∑ s ∈ lo c, Q.C g (st c l) n * Q.B g s n * (Real.exp (Q.pre (hd p) g (128 * c.val) - Q.acs (hd p) g s) * Q.xd g s p) := by
        rw [blk_c, blk_S, S_eq, Finset.mul_sum]
        exact Finset.sum_congr rfl fun s _ => by ring
      rw [Blk.cs, Finset.sum_congr rfl fun n _ => e' n, Finset.sum_comm, Finset.sum_mul, Finset.sum_mul]
      refine Finset.sum_congr rfl fun s hs => ?_
      rw [← Finset.sum_mul, Q.L_lo c _ g l hs, blk_ecs, cb, blk_dy]
      ring
    · simp
  rw [Finset.sum_congr rfl fun p _ => e p, Finset.sum_comm]
  refine Finset.sum_congr rfl fun s _ => ?_
  rw [← Finset.mul_sum, P, dM]; ring

theorem blk_sds : (Q.blk c).sds r g * (Q.blk c).edl r g = ∑ t ∈ hi c, ∑ s ∈ lo c, Q.P r g t s := by
  rw [Blk.sds, Finset.sum_mul]
  have e (p : Fin 256) : (if hd p = r then ∑ n, (Q.blk c).S g p n * (Q.blk c).dS g p n else 0) * (Q.blk c).edl r g
      = ∑ t ∈ hi c, ∑ s ∈ lo c, Q.cb g t s * Q.L r g t s * (if hd p = r then Q.Y g t p * Q.xd g s p else 0) := by
    split
    · rename_i h
      subst h
      have e' (n : Fin 128) : (Q.blk c).S g p n * (Q.blk c).dS g p n
          = ∑ t ∈ hi c, ∑ s ∈ lo c, Q.C g t n * Q.B g s n * (Real.exp (Q.pre (hd p) g (128 * c.val) - Q.acs (hd p) g s)
            * Real.exp (Q.acs (hd p) g t - Q.pre (hd p) g (128 * c.val + 128)) * (Q.Y g t p * Q.xd g s p)) := by
        rw [blk_S, blk_dS, S_eq, dS, Finset.mul_sum]
        refine Finset.sum_congr rfl fun t _ => ?_
        rw [Finset.sum_mul]
        exact Finset.sum_congr rfl fun s _ => by ring
      rw [Finset.sum_congr rfl fun n _ => e' n, Finset.sum_comm, Finset.sum_mul]
      refine Finset.sum_congr rfl fun t ht => ?_
      rw [Finset.sum_comm, Finset.sum_mul]
      refine Finset.sum_congr rfl fun s hs => ?_
      rw [← Finset.sum_mul, Q.L_hi_lo c _ g ht hs, blk_edl, cb]
      ring
    · simp
  rw [Finset.sum_congr rfl fun p _ => e p, Finset.sum_comm]
  refine Finset.sum_congr rfl fun t _ => ?_
  rw [Finset.sum_comm]
  refine Finset.sum_congr rfl fun s _ => ?_
  rw [← Finset.mul_sum, P, dM]; ring

theorem blk_rowcol (l : Fin 128) : (Q.blk c).rowv r g l + (Q.blk c).colv r g l = Q.dacs r g (st c l) := by
  rw [Blk.rowv, Blk.colv, dacs, sum_split c, sum_split c (fun s => Q.P r g s (st c l))]
  have h1 : ∑ s ∈ hi c, Q.P r g (st c l) s = 0 := Finset.sum_eq_zero fun s hs => by rw [P, Q.L_hi_zero c r g l hs, mul_zero]
  have h2 : ∑ s ∈ lo c, Q.P r g s (st c l) = 0 := Finset.sum_eq_zero fun s hs => by rw [P, Q.L_lo_zero c r g l hs, mul_zero]
  have h3 : 0 - (Q.blk c).ddst r g l * (Q.blk c).dst r g l = - ∑ t ∈ hi c, Q.P r g t (st c l) := by rw [blk_ddst]; ring
  rw [h1, h2, h3, blk_de]
  simp only [blk_Pm, zero_sub, Finset.sum_neg_distrib]
  ring

theorem blk_dlast : (Q.blk c).dlast r g = ∑ t ∈ hi c, Q.dacs r g t := by
  rw [Blk.dlast, blk_sds, Finset.sum_congr rfl fun l _ => Q.blk_ddst c r g l]
  simp only [dacs, Finset.sum_sub_distrib]
  have h1 : ∑ t ∈ hi c, ∑ s, Q.P r g t s = (∑ t ∈ hi c, ∑ s ∈ lo c, Q.P r g t s) + (∑ t ∈ hi c, ∑ l, Q.P r g t (st c l)) + ∑ t ∈ hi c, ∑ s ∈ hi c, Q.P r g t s := by
    rw [← Finset.sum_add_distrib, ← Finset.sum_add_distrib]
    exact Finset.sum_congr rfl fun t _ => sum_split c _
  have h2 : ∑ t ∈ hi c, ∑ s, Q.P r g s t = ∑ t ∈ hi c, ∑ s ∈ hi c, Q.P r g s t := by
    refine Finset.sum_congr rfl fun t ht => ?_
    rw [mem_hi] at ht
    rw [sum_split c]
    have e1 : ∑ s ∈ lo c, Q.P r g s t = 0 := Finset.sum_eq_zero fun s hs => by
      rw [mem_lo] at hs
      exact Q.P_zero r g (by simp only [Fin.le_def]; omega)
    have e2 : ∑ l, Q.P r g (st c l) t = 0 := Finset.sum_eq_zero fun l _ => by
      have := l.isLt
      exact Q.P_zero r g (by simp only [Fin.le_def, st]; omega)
    rw [e1, e2]; ring
  rw [h1, h2, Finset.sum_comm (s := hi c) (t := hi c) (f := fun t s => Q.P r g s t), Finset.sum_comm (s := Finset.univ) (t := hi c)]
  ring

theorem blk_dadt (l : Fin 128) : (Q.blk c).dadt r g l = Q.dadt r g (st c l) := by
  rw [Blk.dadt, dadt, sum_split c, blk_dlast]
  have h1 : (∑ t ∈ lo c, if st c l ≤ t then Q.dacs r g t else 0) = 0 := Finset.sum_eq_zero fun t ht => by
    rw [mem_lo] at ht
    rw [if_neg (by simp only [Fin.le_def, st]; omega)]
  have h2 : (∑ t ∈ hi c, if st c l ≤ t then Q.dacs r g t else 0) = ∑ t ∈ hi c, Q.dacs r g t := Finset.sum_congr rfl fun t ht => by
    have := l.isLt
    rw [mem_hi] at ht
    rw [if_pos (by simp only [Fin.le_def, st]; omega)]
  have h3 : (∑ t, if st c l ≤ st c t then Q.dacs r g (st c t) else 0)
      = (∑ t, if l ≤ t then (Q.blk c).rowv r g t else 0) + ∑ t, if l ≤ t then (Q.blk c).colv r g t else 0 := by
    rw [← Finset.sum_add_distrib]
    refine Finset.sum_congr rfl fun t _ => ?_
    simp only [st_le]
    split
    · exact (Q.blk_rowcol c r g t).symm
    · ring
  rw [h1, h2, h3]; ring

/-- The gradient of the step size. -/
theorem blk_ddt (l : Fin 128) : (Q.blk c).ddt r g l = Q.ddt r g (st c l) := by
  rw [Blk.ddt, ddt, blk_dadt, blk_A]
  refine congrArg₂ (· + ·) ?_ rfl
  refine Finset.sum_congr rfl fun p _ => ?_
  rw [blk_dxd]; rfl

/-- The gradient of softplus's argument, away from zero. -/
theorem blk_dz (l : Fin 128) (hz : Q.z r g (st c l) ≠ 0) : (Q.blk c).dz r g l = Q.dz r g (st c l) := by
  have key (d z : ℝ) (hz : z ≠ 0) :
      (if 0 ≤ z then 0 - d / (1 + Real.exp (0 - |z|)) * Real.exp (0 - |z|) else 0)
        + (0 - if 0 ≤ z then 0 else 0 - d / (1 + Real.exp (0 - |z|)) * Real.exp (0 - |z|))
        + d * (if 0 < z then 1 else if z = 0 then 1 / 2 else 0) = d * (Real.exp z / (1 + Real.exp z)) := by
    rcases lt_or_gt_of_ne hz with h | h
    · have hp := Real.exp_pos z
      rw [if_neg (not_le.mpr h), if_neg (not_le.mpr h), if_neg (not_lt.mpr h.le), if_neg hz, abs_of_neg h]
      have : 0 - -z = z := by ring
      rw [this]
      field_simp
      ring
    · have hp := Real.exp_pos z
      rw [if_pos h.le, if_pos h.le, if_pos h, abs_of_pos h, zero_sub z, Real.exp_neg]
      field_simp
      ring
  rw [Blk.dz, Blk.md, blk_ddt, blk_z, dz]
  exact key _ _ hz

/-- The gradients of the parameters, summed over the chunks. -/
theorem sum_ddtb (hz : ∀ t, Q.z r g t ≠ 0) : ∑ c, (Q.blk c).ddtb r g = Q.ddtb r g := by
  rw [ddtb, ← sum_chunks]
  refine Finset.sum_congr rfl fun c _ => Finset.sum_congr rfl fun l _ => Q.blk_dz c r g l (hz _)
theorem sum_dal : ∑ c, (Q.blk c).dal r g = Q.dal r g := by
  have e (c : Fin 128) : (Q.blk c).dal r g = (∑ l, Q.dadt r g (st c l) * Q.dt r g (st c l)) * Q.A r g := by
    rw [Blk.dal, A, Finset.sum_congr rfl fun l _ => by rw [blk_dadt, blk_dt]]
    show (0 - _) * Real.exp (Q.al (ix r g)) = _
    ring
  rw [Finset.sum_congr rfl fun c _ => e c, ← Finset.sum_mul, sum_chunks fun t => Q.dadt r g t * Q.dt r g t]; rfl
theorem sum_dD : ∑ c, (Q.blk c).dD r g = Q.dD r g := by
  rw [dD, ← sum_chunks]
  refine Finset.sum_congr rfl fun c _ => ?_
  rw [Blk.dD, Finset.sum_comm]
  refine Finset.sum_congr rfl fun p _ => ?_
  split
  · rfl
  · simp

end Sq

end Cert

end
-- ==== Proof.Host.lean ====
/- The host's arrays over finite values: each is a real function of its coordinates. -/
module

public import proofs.«01_k».proof.Proof.Prelude
public import proofs.«01_k».proof.Proof.Cumsum
public import proofs.«01_k».proof.Proof.Seq

@[expose] public section

noncomputable section

namespace Cert

/-- The group of a head. -/
def gr (h : Fin 32) : Fin 8 := ⟨h.val / 4, by omega⟩
/-- The place of a head in its group. -/
def rr (h : Fin 32) : Fin 4 := ⟨h.val % 4, by omega⟩
/-- The lane of a head's feature. -/
def ln (r : Fin 4) (q : Fin 64) : Fin 256 := ⟨64 * r.val + q.val, by omega⟩
/-- The feature of a lane. -/
def ft (p : Fin 256) : Fin 64 := ⟨p.val % 64, by omega⟩

theorem ix_rr_gr (h : Fin 32) : ix (rr h) (gr h) = h := Fin.ext (by simp only [ix, rr, gr]; omega)
theorem rr_ix (r : Fin 4) (g : Fin 8) : rr (ix r g) = r := Fin.ext (by simp only [ix, rr]; omega)
theorem gr_ix (r : Fin 4) (g : Fin 8) : gr (ix r g) = g := Fin.ext (by simp only [ix, gr]; omega)
theorem ln_hd_ft (p : Fin 256) : ln (hd p) (ft p) = p := Fin.ext (by simp only [ln, hd, ft]; omega)
theorem hd_ln (r : Fin 4) (q : Fin 64) : hd (ln r q) = r := Fin.ext (by simp only [ln, hd]; omega)

/-- The exponents before a chunk, from the sum up to its first step. -/
theorem Sq.acs_start (Q : Sq) (r : Fin 4) (g : Fin 8) (k : Fin 128) :
    Q.acs r g (st k 0) - Q.adt r g (st k 0) = Q.pre r g (128 * k.val) := by
  rw [Sq.acs_st]
  have h : (Q.blk k).acs r g 0 = Q.adt r g (st k 0) := by
    rw [Blk.acs, Finset.sum_eq_single (0 : Fin 128)]
    · rw [if_pos le_rfl, Sq.blk_adt]
    · intro j _ hj
      rw [if_neg (by simpa using hj)]
    · intro hn; exact absurd (Finset.mem_univ _) hn
  rw [h]; ring

namespace Prelude

open Idealize.ShloMosaic Idealize.ShloMosaic.TcCoe Idealize.SL.Sem Cert.KernelIdeal Cert.KernelIdeal.Gen Cert.Lift

theorem heads_up (f : Fin 32 → ℝ) : heads (up1 f) = up4 (φ := .f32) fun r g _ _ => f (ix r g) := by
  unfold heads
  funext i
  pointwise [up1, up4]
  exact congrArg (fun h => ((f h : ℝ) : EReal)) (Fin.ext (by simp only [ix]; omega))
theorem rows_up (f : Fin 16384 → Fin 32 → ℝ) : rows (up2 f) = up5 (φ := .f32) fun k r g _ l => f (st k l) (ix r g) := by
  unfold rows
  funext i
  pointwise [up2, up5]
  exact congrArg₂ (fun t h => ((f t h : ℝ) : EReal)) (Fin.ext (by simp only [st]; omega)) (Fin.ext (by simp only [ix]; omega))
theorem wide_up (f : Fin 32 → ℝ) : wide (up1 f) = up2 (φ := .f32) fun _ h => f h := by
  unfold wide
  funext i
  pointwise [up1, up2]
theorem zed_up (f : Fin 16384 → Fin 32 → ℝ) (b : Fin 32 → ℝ) : zed (up2 f) (up1 b) = up2 (φ := .f32) fun t h => f t h + b h := by
  unfold zed
  rw [wide_up]
  exact funext fun _ => (EReal.coe_add _ _).symm
theorem nil_up : nil = up2 (φ := .f32) fun _ _ => 0 := by
  unfold nil
  funext i
  pointwise [up2]
  exact EReal.coe_zero.symm
theorem log1p_exp (x : ℝ) : Ideal.log1p (((Real.exp x : ℝ) : EReal)) = ((Real.log (1 + Real.exp x) : ℝ) : EReal) := by
  show (if 1 + Real.exp x ≤ 0 then (⊥ : EReal) else _) = _
  rw [if_neg (by have := Real.exp_pos x; linarith)]
theorem coe_abs (x : ℝ) : max (x : EReal) (-(x : EReal)) = ((|x| : ℝ) : EReal) := by
  rw [← EReal.coe_neg, ← EReal.coe_strictMono.monotone.map_max]
  rfl
theorem soft_up (f : Fin 16384 → Fin 32 → ℝ) :
    soft (up2 f) = up2 (φ := .f32) fun t h => max (f t h) 0 + Real.log (1 + Real.exp (0 - |f t h|)) := by
  unfold soft
  rw [nil_up]
  have hs : subf (up2 (φ := .f32) f) (up2 fun _ _ => 0) = up2 f := funext fun i => by
    show ((f (i 0) (i 1) : ℝ) : EReal) - ((0 : ℝ) : EReal) = _
    rw [← EReal.coe_sub, sub_zero]; rfl
  rw [hs]
  funext i
  generalize hx : f (i 0) (i 1) = x
  show Scalar.select (BitVec.ofBool (decide (((f (i 0) (i 1) : ℝ) : EReal) ≠ ((f (i 0) (i 1) : ℝ) : EReal)))) _
    (max ((f (i 0) (i 1) : ℝ) : EReal) ((0 : ℝ) : EReal)
      + Ideal.log1p (Ideal.exp (-(max ((f (i 0) (i 1) : ℝ) : EReal) (-((f (i 0) (i 1) : ℝ) : EReal)))))) = _
  rw [select_ofBool, if_neg (by simp), coe_abs, ← EReal.coe_neg, show Ideal.exp (((-|f (i 0) (i 1)| : ℝ)) : EReal)
    = ((Real.exp (-|f (i 0) (i 1)|) : ℝ) : EReal) from rfl, log1p_exp, ← EReal.coe_strictMono.monotone.map_max, ← EReal.coe_add, ← zero_sub]
  rfl
theorem expo_up (al : Fin 32 → ℝ) (d : Fin 16384 → Fin 32 → ℝ) :
    expo (up1 al) (up2 d) = up2 (φ := .f32) fun t h => (0 - Real.exp (al h)) * d t h := by
  unfold expo
  have h : Host.negf (Host.exp (up1 (φ := .f32) al)) = up1 (φ := .f32) fun h => 0 - Real.exp (al h) := by
    funext i
    show -((Real.exp (al (i 0)) : ℝ) : EReal) = _
    simp only [zero_sub]
    rfl
  rw [h, wide_up]
  exact funext fun _ => (EReal.coe_mul _ _).symm
theorem summed_up (f : Fin 16384 → Fin 32 → ℝ) :
    summed (up2 f) = up2 (φ := .f32) fun t h => ∑ i, if i ≤ t then f i h else 0 := by
  unfold summed
  exact cumsum_down f _ (fun i => by pointwise []) _ _
theorem starts_up (s a : Fin 16384 → Fin 32 → ℝ) : starts (up2 s) (up2 a) = up2 (φ := .f32) fun k h => s (st k 0) h - a (st k 0) h := by
  unfold starts
  funext i
  pointwise [up2]
  have h : (⟨(i 0).val * 128, by have : (i 0).val < 128 := (i 0).isLt; omega⟩ : Fin 16384) = st (i 0) 0 := Fin.ext (by simp only [st, Fin.val_zero]; omega)
  refine Eq.trans ?_ (EReal.coe_sub _ _).symm
  rw [← h]
theorem before_eq : before = fun i => BitVec.ofBool (decide ((i 1).val < 128 * (i 0).val)) := by
  unfold before
  funext i
  have h0 : (i 0).val < 128 := (i 0).isLt
  have h1 : (i 1).val < 16384 := (i 1).isLt
  pointwise []
  show BitVec.ofBool ((BitVec.ofNat 32 (i 1).val).slt (128#32 * BitVec.ofNat 32 (i 0).val)) = _
  congr 1
  rw [BitVec.slt_eq_decide]
  have hm : (128#32 * BitVec.ofNat 32 (i 0).val) = BitVec.ofNat 32 (128 * (i 0).val) := by apply BitVec.eq_of_toNat_eq; simp [BitVec.toNat_mul]
  rw [hm, BitVec.toInt_eq_toNat_of_lt (by simp; omega), BitVec.toInt_eq_toNat_of_lt (by simp; omega)]
  simp only [BitVec.toNat_ofNat, decide_eq_decide]
  omega
theorem ofBits_low : Ideal.ofBits .f32 0xFF800000#32 = (⊥ : EReal) := by
  simp [Ideal.ofBits, Ideal.ieee]
theorem gaps_up (b s : Fin 16384 → Fin 32 → ℝ) (a : Fin 128 → Fin 32 → ℝ) :
    gaps (up2 b) (up2 s) (up2 a) = low3 (φ := .f32) (fun k t _ => decide (t.val < 128 * k.val)) fun k t h => a k h - s t h := by
  unfold gaps
  rw [before_eq]
  funext i
  pointwise [up2, low3]
  simp only [decide_eq_true_eq, EReal.coe_sub]
  rw [ofBits_low]
theorem weights_up (p : Fin 128 → Fin 16384 → Fin 32 → Bool) (e : Fin 128 → Fin 16384 → Fin 32 → ℝ) (d : Fin 16384 → Fin 32 → ℝ) :
    weights (low3 p e) (up2 d) = up3 (φ := .f32) fun k t h => (if p k t h = true then Real.exp (e k t h) else 0) * d t h := by
  unfold weights
  have h : Host.exp (low3 (φ := .f32) p e) = up3 (φ := .f32) fun i j k => if p i j k = true then Real.exp (e i j k) else 0 := exp_low3 p e
  rw [h]
  funext i
  pointwise [up2, up3]
  exact (EReal.coe_mul _ _).symm
theorem weighted_up (X : Fin 8 → Fin 16384 → Fin 256 → ℝ) (w : Fin 128 → Fin 16384 → Fin 32 → ℝ) :
    weighted (up3 X) (up3 w) = up5 (φ := .f32) fun k g t r q => w k t (ix r g) * X g t (ln r q) := by
  unfold weighted
  funext i
  pointwise [up3, up5]
  refine Eq.trans ?_ (EReal.coe_mul _ _).symm
  exact congrArg₂ (fun h p => ((w (i 0) (i 2) h : ℝ) : EReal) * ((X (i 1) (i 2) p : ℝ) : EReal))
    (Fin.ext (by simp only [ix]; omega)) (Fin.ext (by simp only [ln]; omega))
theorem product_up (B : Fin 8 → Fin 16384 → Fin 128 → ℝ) (w : Fin 128 → Fin 8 → Fin 16384 → Fin 4 → Fin 64 → ℝ) :
    product (up3 B) (up5 w) = up5 (φ := .f32) fun g n k r q => ∑ t, B g t n * w k g t r q := by
  unfold product
  funext i
  pointwise [up3, up5]
  simp only [← EReal.coe_mul, ← coe_sum]
theorem states_up (p : Fin 8 → Fin 128 → Fin 128 → Fin 4 → Fin 64 → ℝ) :
    states (up5 p) = up4 (φ := .f32) fun k g l n => p g n k (hd l) (ft l) := by
  unfold states
  funext i
  pointwise [up5, up4]
  rfl

/-- The host's states over finite arguments are the starting states of the chunks. -/
theorem states_eq (Q : Sq) :
    (let d := soft (zed (up2 Q.raw) (up1 Q.bias))
     let a := expo (up1 Q.al) d
     let s := summed a
     states (product (up3 Q.B) (weighted (up3 Q.X) (weights (gaps d s (starts s a)) d))))
      = up4 (φ := .f32) fun k g p n => Q.S k g p n := by
  simp only [zed_up, soft_up, expo_up, summed_up, starts_up, gaps_up, weights_up, weighted_up, product_up, states_up]
  funext i
  obtain ⟨k, g, p, n, rfl⟩ : ∃ (k : Fin 128) (g : Fin 8) (p : Fin 256) (n : Fin 128), i = ValueIdx.ix4 k g p n :=
    ⟨i 0, i 1, i 2, i 3, ValueIdx.eq_ix4 i⟩
  refine congrArg (fun x : ℝ => (x : EReal)) ?_
  show _ = ∑ t, Q.B g t n * _
  refine Finset.sum_congr rfl fun t _ => ?_
  refine congrArg (fun x => Q.B g t n * x) ?_
  refine congrArg₂ (· * ·) (congrArg₂ (· * ·) ?_ rfl) (congrArg (Q.X g t) (ln_hd_ft p))
  rw [← Q.acs_start (hd p) g k]
  simp only [decide_eq_true_eq]
  rfl

end Prelude

end Cert

end
-- ==== Proof.Pay1.lean ====
/- What each value of one chunk's computation is over the reals, at finite inputs. -/
module

public import proofs.«01_k».proof.Proof.Lift
public import proofs.«01_k».proof.Proof.Blk
public import proofs.«01_k».proof.Proof.Gen.KernelIdeal.Skeleton

@[expose] public section

noncomputable section

namespace Cert.Pay

open Idealize.ShloMosaic Cert.KernelIdeal Cert.KernelIdeal.Gen Cert.Lift Cert.Blk

theorem pay_1 (K : Blk) (q : Fin 4 → Fin 8 → ℝ) : k0_pay1 (F := Ideal) (up4 (φ := .f32) fun r g _ _ => K.dal r g) (up4 (φ := .f32) fun r g _ _ => q r g) = (up4 (φ := .f32) fun r g _ _ => q r g + K.dal r g) := by
  simp -index only [k0_pay1, shapeCast_self, addf_up4]
  all_goals rfl
theorem pay_2 (K : Blk) (q : Fin 4 → Fin 8 → ℝ) : k0_pay2 (F := Ideal) (up4 (φ := .f32) fun r g _ _ => K.dD r g) (up4 (φ := .f32) fun r g _ _ => q r g) = (up4 (φ := .f32) fun r g _ _ => q r g + K.dD r g) := by
  simp -index only [k0_pay2, shapeCast_self, addf_up4]
  all_goals rfl
theorem pay_3 (K : Blk) : k0_pay3 (F := Ideal) (up3 (φ := .f32) fun g p n => K.dSn g p n) = (up3 (φ := .f32) fun g p n => K.dSn g p n) := by
  simp -index only [k0_pay3, shapeCast_self]
  all_goals rfl
theorem pay_4 : (k0_pay4 (F := Ideal)) = (up3 (φ := .f32) fun _ _ _ => 0) := by
  simp -index only [k0_pay4, ofBits_zero, broadcast_up3, shapeCast_self]
  all_goals rfl
theorem pay_5 : (k0_pay5 (F := Ideal)) = (up4 (φ := .f32) fun _ _ _ _ => 0) := by
  simp -index only [k0_pay5, ofBits_zero, broadcast_up4]
  all_goals rfl
theorem pay_6 : (k0_pay6 (F := Ideal)) = (up4 (φ := .f32) fun _ _ _ _ => 0) := by
  simp -index only [k0_pay6, ofBits_zero, broadcast_up4]
  all_goals rfl
theorem pay_7 : (k0_pay7 (F := Ideal)) = (up4 (φ := .f32) fun _ _ _ _ => 0) := by
  simp -index only [k0_pay7, ofBits_zero, broadcast_up4]
  all_goals rfl
theorem pay_8 (K : Blk) : k0_pay8 (F := Ideal) (up5 (φ := .f32) fun _ r g _ l => K.raw r g l) = (up4 (φ := .f32) fun r g _ l => K.raw r g l) := by
  simp -index only [k0_pay8, cast_1x4x8x1x128_4x8x1x128]
  all_goals rfl
theorem pay_9 (K : Blk) : k0_pay9 (F := Ideal) (up4 (φ := .f32) fun r g _ _ => K.bias r g) = (up4 (φ := .f32) fun r g _ _ => K.bias r g) := by
  simp -index only [k0_pay9, shapeCast_self]
  all_goals rfl
theorem pay_10 (K : Blk) : k0_pay10 (F := Ideal) (up4 (φ := .f32) fun r g _ _ => K.al r g) = (up4 (φ := .f32) fun r g _ _ => K.al r g) := by
  simp -index only [k0_pay10, shapeCast_self]
  all_goals rfl
theorem pay_11 (K : Blk) : k0_pay11 (F := Ideal) (up4 (φ := .f32) fun r g _ _ => K.D r g) = (up4 (φ := .f32) fun r g _ _ => K.D r g) := by
  simp -index only [k0_pay11, shapeCast_self]
  all_goals rfl
theorem pay_12 (K : Blk) : k0_pay12 (F := Ideal) (up4 (φ := .f32) fun _ g p n => K.S g p n) = (up3 (φ := .f32) fun g p n => K.S g p n) := by
  simp -index only [k0_pay12, cast_1x8x256x128_8x256x128]
  all_goals rfl
theorem pay_13 : k0_pay13 = (bm3 fun _ l s => decide (s ≤ l)) := by
  simp -index only [k0_pay13, mask_ge]
  all_goals rfl
theorem pay_14 : k0_pay14 = (bm3 fun _ l s => decide (l = s)) := by
  simp -index only [k0_pay14, mask_eq]
  all_goals rfl
theorem pay_15 : k0_pay15 = (bm3 fun _ l s => decide (l ≤ s)) := by
  simp -index only [k0_pay15, mask_le]
  all_goals rfl
theorem pay_16 (K : Blk) : k0_pay16 (F := Ideal) (up3 (φ := .f32) fun g l n => K.b g l n) (up3 (φ := .f32) fun g l n => K.c g l n) = (up3 (φ := .f32) fun g l s => K.cb g l s) := by
  simp -index only [k0_pay16, truncf_up3, dot_8x128x128_8x128x128_22]
  all_goals rfl
theorem pay_17 (K : Blk) : k0_pay17 (F := Ideal) (up3 (φ := .f32) fun g l n => K.c g l n) (up3 (φ := .f32) fun g p n => K.S g p n) = (up3 (φ := .f32) fun g l p => K.cs g l p) := by
  simp -index only [k0_pay17, truncf_up3, dot_8x128x128_8x256x128_22]
  all_goals rfl
theorem pay_18 (K : Blk) : k0_pay18 (F := Ideal) (up4 (φ := .f32) fun r g _ l => K.raw r g l) (up4 (φ := .f32) fun r g _ _ => K.bias r g) = (up3 (φ := .f32) fun g _ l => K.z 0 g l) := by
  simp -index only [k0_pay18, slice_0_128, cast_1x8x1x128_8x1x128, slice_0_1, cast_1x8x1x1_8x1x1, bcast_8x1x1_8x1x128, addf_up3]
  all_goals rfl
theorem pay_19 (K : Blk) : k0_pay19 (F := Ideal) (up4 (φ := .f32) fun r g _ l => K.raw r g l) (up4 (φ := .f32) fun r g _ _ => K.bias r g) = (up3 (φ := .f32) fun g _ l => K.md 0 g l) := by
  simp -index only [k0_pay19, pay_18, ofBits_zero, broadcast_up3, cmpf_ogt_up3, cmpf_oeq_up3, ofBits_one, ofBits_half, select_up3, select_low3]
  all_goals first | rfl | (simp only [decide_eq_true_eq, Finset.sum_ite_eq, Finset.sum_ite_eq', Finset.mem_univ, if_true, lane_sel, head0, head1, head2, head3] <;> rfl)
theorem pay_20 (K : Blk) : k0_pay20 (up4 (φ := .f32) fun r g _ l => K.raw r g l) (up4 (φ := .f32) fun r g _ _ => K.bias r g) = (bm3 fun g _ l => decide (0 ≤ K.z 0 g l)) := by
  simp -index only [k0_pay20, pay_18, ofBits_zero, broadcast_up3, cmpf_oge_up3]
  all_goals rfl
theorem pay_21 (K : Blk) : k0_pay21 (F := Ideal) (up4 (φ := .f32) fun r g _ l => K.raw r g l) (up4 (φ := .f32) fun r g _ _ => K.bias r g) = (up3 (φ := .f32) fun g _ l => Real.exp (0 - |K.z 0 g l|)) := by
  simp -index only [k0_pay21, pay_18, absf_up3, ofBits_zero, broadcast_up3, subf_up3, exp_up3, exp_low3]
  all_goals rfl
theorem pay_22 (K : Blk) : k0_pay22 (F := Ideal) (up4 (φ := .f32) fun r g _ l => K.raw r g l) (up4 (φ := .f32) fun r g _ _ => K.bias r g) = (up3 (φ := .f32) fun g _ l => 1 + Real.exp (0 - |K.z 0 g l|)) := by
  simp -index only [k0_pay22, pay_21, ofBits_one, broadcast_up3, addf_up3]
  all_goals rfl
theorem pay_23 (K : Blk) : k0_pay23 (F := Ideal) (up4 (φ := .f32) fun r g _ l => K.raw r g l) (up4 (φ := .f32) fun r g _ _ => K.bias r g) = (up3 (φ := .f32) fun g _ l => K.dt 0 g l) := by
  simp -index only [k0_pay23, pay_18, pay_22, ofBits_zero, broadcast_up3, maximumf_up3, log_up3, addf_up3]
  all_goals rfl
theorem pay_24 (K : Blk) : k0_pay24 (F := Ideal) (up4 (φ := .f32) fun r g _ _ => K.al r g) = (up3 (φ := .f32) fun g _ _ => Real.exp (K.al 0 g)) := by
  simp -index only [k0_pay24, slice_0_1, cast_1x8x1x1_8x1x1, exp_up3, exp_low3]
  all_goals rfl
theorem pay_25 (K : Blk) : k0_pay25 (F := Ideal) (up4 (φ := .f32) fun r g _ _ => K.al r g) = (up3 (φ := .f32) fun g _ _ => K.A 0 g) := by
  simp -index only [k0_pay25, pay_24, ofBits_zero, broadcast_up3, subf_up3]
  all_goals rfl
theorem pay_26 (K : Blk) : k0_pay26 (F := Ideal) (up4 (φ := .f32) fun r g _ l => K.raw r g l) (up4 (φ := .f32) fun r g _ _ => K.bias r g) (up4 (φ := .f32) fun r g _ _ => K.al r g) = (up3 (φ := .f32) fun g _ l => K.adt 0 g l) := by
  simp -index only [k0_pay26, pay_23, pay_25, bcast_8x1x1_8x1x128, mulf_up3]
  all_goals rfl
theorem pay_27 : k0_pay27 (bm3 fun _ l s => decide (l = s)) = (bm3 fun _ l s => decide (l = s)) := by
  simp -index only [k0_pay27, shapeCast_self, mcast_1x128x128_8x128x128]
  all_goals rfl
theorem pay_28 (K : Blk) : k0_pay28 (F := Ideal) (up4 (φ := .f32) fun r g _ l => K.raw r g l) (up4 (φ := .f32) fun r g _ _ => K.bias r g) = (up3 (φ := .f32) fun g _ s => K.dt 0 g s) := by
  simp -index only [k0_pay28, pay_23, shapeCast_self, bcast_8x1x128_8x128x128]
  all_goals rfl
theorem pay_29 : (k0_pay29 (F := Ideal)) = (up3 (φ := .f32) fun _ _ _ => 0) := by
  simp -index only [k0_pay29, ofBits_zero, broadcast_up3]
  all_goals rfl
theorem pay_30 (K : Blk) : k0_pay30 (F := Ideal) (bm3 fun _ l s => decide (l = s)) (up3 (φ := .f32) fun g _ s => K.dt 0 g s) (up3 (φ := .f32) fun _ _ _ => 0) = (up3 (φ := .f32) fun g l _ => K.dt 0 g l) := by
  simp -index only [k0_pay30, select_up3, select_low3, sum_8x128x128_2, cast_8x128_8x128x1]
  all_goals first | rfl | (simp only [decide_eq_true_eq, Finset.sum_ite_eq, Finset.sum_ite_eq', Finset.mem_univ, if_true, lane_sel, head0, head1, head2, head3] <;> rfl)
theorem pay_31 : k0_pay31 (bm3 fun _ l s => decide (l = s)) = (bm3 fun _ l s => decide (l = s)) := by
  simp -index only [k0_pay31, shapeCast_self, mcast_1x128x128_8x128x128]
  all_goals rfl
theorem pay_32 : k0_pay32 (bm3 fun _ l s => decide (s ≤ l)) = (bm3 fun _ l s => decide (s ≤ l)) := by
  simp -index only [k0_pay32, shapeCast_self, mcast_1x128x128_8x128x128]
  all_goals rfl
theorem pay_33 (K : Blk) : k0_pay33 (F := Ideal) (bm3 fun _ l s => decide (s ≤ l)) (up3 (φ := .f32) fun g _ l => K.adt 0 g l) = (up3 (φ := .f32) fun g l _ => K.acs 0 g l) := by
  simp -index only [k0_pay33, pay_32, ofBits_zero, shapeCast_self, bcast_8x1x128_8x128x128, broadcast_up3, select_up3, select_low3, sum_8x128x128_2, cast_8x128_8x128x1]
  all_goals first | rfl | (simp only [decide_eq_true_eq, Finset.sum_ite_eq, Finset.sum_ite_eq', Finset.mem_univ, if_true, lane_sel, head0, head1, head2, head3] <;> rfl)
theorem pay_34 : k0_pay34 (bm3 fun _ l s => decide (l ≤ s)) = (bm3 fun _ l s => decide (l ≤ s)) := by
  simp -index only [k0_pay34, shapeCast_self, mcast_1x128x128_8x128x128]
  all_goals rfl
theorem pay_35 (K : Blk) : k0_pay35 (F := Ideal) (up3 (φ := .f32) fun g _ l => K.adt 0 g l) = (up3 (φ := .f32) fun g _ _ => K.last 0 g) := by
  simp -index only [k0_pay35, sum_8x1x128_2, cast_8x1_8x1x1]
  all_goals rfl
theorem pay_36 : k0_pay36 (bm3 fun _ l s => decide (s ≤ l)) = (bm3 fun _ l s => decide (s ≤ l)) := by
  simp -index only [k0_pay36, shapeCast_self, mcast_1x128x128_8x128x128]
  all_goals rfl
theorem pay_37 (K : Blk) : k0_pay37 (F := Ideal) (bm3 fun _ l s => decide (s ≤ l)) (bm3 fun _ l s => decide (l = s)) (bm3 fun _ l s => decide (l ≤ s)) (up3 (φ := .f32) fun g _ l => K.adt 0 g l) = (up3 (φ := .f32) fun g l s => K.L 0 g l s) := by
  simp -index only [k0_pay37, pay_31, pay_33, pay_34, pay_36, ofBits_zero, shapeCast_self, bcast_8x1x128_8x128x128, broadcast_up3, select_up3, select_low3, sum_8x128x128_2, cast_8x128_8x128x1, bcast_8x128x1_8x128x128, sum_8x128x128_1, cast_8x128_8x1x128, subf_up3, named_mask, exp_up3, exp_low3]
  all_goals first | rfl | (simp only [decide_eq_true_eq, Finset.sum_ite_eq, Finset.sum_ite_eq', Finset.mem_univ, if_true, lane_sel, head0, head1, head2, head3] <;> rfl)
theorem pay_38 (K : Blk) : k0_pay38 (F := Ideal) (bm3 fun _ l s => decide (s ≤ l)) (up3 (φ := .f32) fun g _ l => K.adt 0 g l) = (up3 (φ := .f32) fun g l _ => K.ecs 0 g l) := by
  simp -index only [k0_pay38, pay_33, exp_up3, exp_low3]
  all_goals rfl
theorem pay_39 (K : Blk) : k0_pay39 (F := Ideal) (bm3 fun _ l s => decide (s ≤ l)) (up3 (φ := .f32) fun g _ l => K.adt 0 g l) = (up3 (φ := .f32) fun g l _ => K.dst 0 g l) := by
  simp -index only [k0_pay39, pay_33, pay_35, bcast_8x1x1_8x128x1, subf_up3, exp_up3, exp_low3]
  all_goals rfl
theorem pay_40 (K : Blk) : k0_pay40 (F := Ideal) (up3 (φ := .f32) fun g _ l => K.adt 0 g l) = (up3 (φ := .f32) fun g _ _ => K.edl 0 g) := by
  simp -index only [k0_pay40, pay_35, exp_up3, exp_low3]
  all_goals rfl
theorem pay_41 (K : Blk) : k0_pay41 (F := Ideal) (up4 (φ := .f32) fun r g _ l => K.raw r g l) (up4 (φ := .f32) fun r g _ _ => K.bias r g) = (up3 (φ := .f32) fun g _ l => K.z 1 g l) := by
  simp -index only [k0_pay41, slice_1_128, cast_1x8x1x128_8x1x128, slice_1_1, cast_1x8x1x1_8x1x1, bcast_8x1x1_8x1x128, addf_up3]
  all_goals rfl
theorem pay_42 (K : Blk) : k0_pay42 (F := Ideal) (up4 (φ := .f32) fun r g _ l => K.raw r g l) (up4 (φ := .f32) fun r g _ _ => K.bias r g) = (up3 (φ := .f32) fun g _ l => max (K.z 1 g l) 0) := by
  simp -index only [k0_pay42, pay_41, ofBits_zero, broadcast_up3, maximumf_up3]
  all_goals rfl
theorem pay_43 (K : Blk) : k0_pay43 (F := Ideal) (up3 (φ := .f32) fun g _ l => K.z 1 g l) = (up3 (φ := .f32) fun g _ l => K.md 1 g l) := by
  simp -index only [k0_pay43, ofBits_zero, broadcast_up3, cmpf_ogt_up3, cmpf_oeq_up3, ofBits_one, ofBits_half, select_up3, select_low3]
  all_goals first | rfl | (simp only [decide_eq_true_eq, Finset.sum_ite_eq, Finset.sum_ite_eq', Finset.mem_univ, if_true, lane_sel, head0, head1, head2, head3] <;> rfl)
theorem pay_44 (K : Blk) : k0_pay44 (up3 (φ := .f32) fun g _ l => K.z 1 g l) = (bm3 fun g _ l => decide (0 ≤ K.z 1 g l)) := by
  simp -index only [k0_pay44, ofBits_zero, broadcast_up3, cmpf_oge_up3]
  all_goals rfl
theorem pay_45 (K : Blk) : k0_pay45 (F := Ideal) (up3 (φ := .f32) fun g _ l => K.z 1 g l) = (up3 (φ := .f32) fun g _ l => Real.exp (0 - |K.z 1 g l|)) := by
  simp -index only [k0_pay45, absf_up3, ofBits_zero, broadcast_up3, subf_up3, exp_up3, exp_low3]
  all_goals rfl
theorem pay_46 (K : Blk) : k0_pay46 (F := Ideal) (up3 (φ := .f32) fun g _ l => K.z 1 g l) = (up3 (φ := .f32) fun g _ l => 1 + Real.exp (0 - |K.z 1 g l|)) := by
  simp -index only [k0_pay46, pay_45, ofBits_one, broadcast_up3, addf_up3]
  all_goals rfl
theorem pay_47 (K : Blk) : k0_pay47 (F := Ideal) (up3 (φ := .f32) fun g _ l => K.z 1 g l) (up3 (φ := .f32) fun g _ l => max (K.z 1 g l) 0) = (up3 (φ := .f32) fun g _ l => K.dt 1 g l) := by
  simp -index only [k0_pay47, pay_46, log_up3, addf_up3]
  all_goals rfl
theorem pay_48 (K : Blk) : k0_pay48 (F := Ideal) (up4 (φ := .f32) fun r g _ _ => K.al r g) = (up3 (φ := .f32) fun g _ _ => Real.exp (K.al 1 g)) := by
  simp -index only [k0_pay48, slice_1_1, cast_1x8x1x1_8x1x1, exp_up3, exp_low3]
  all_goals rfl
theorem pay_49 (K : Blk) : k0_pay49 (F := Ideal) (up4 (φ := .f32) fun r g _ _ => K.al r g) = (up3 (φ := .f32) fun g _ _ => K.A 1 g) := by
  simp -index only [k0_pay49, pay_48, ofBits_zero, broadcast_up3, subf_up3]
  all_goals rfl
theorem pay_50 (K : Blk) : k0_pay50 (F := Ideal) (up4 (φ := .f32) fun r g _ _ => K.al r g) (up3 (φ := .f32) fun g _ l => K.z 1 g l) (up3 (φ := .f32) fun g _ l => max (K.z 1 g l) 0) = (up3 (φ := .f32) fun g _ l => K.adt 1 g l) := by
  simp -index only [k0_pay50, pay_47, pay_49, bcast_8x1x1_8x1x128, mulf_up3]
  all_goals rfl
theorem pay_51 : k0_pay51 (bm3 fun _ l s => decide (l = s)) = (bm3 fun _ l s => decide (l = s)) := by
  simp -index only [k0_pay51, shapeCast_self, mcast_1x128x128_8x128x128]
  all_goals rfl
theorem pay_52 (K : Blk) : k0_pay52 (F := Ideal) (bm3 fun _ l s => decide (l = s)) (up3 (φ := .f32) fun g _ l => K.z 1 g l) (up3 (φ := .f32) fun g _ l => max (K.z 1 g l) 0) = (up3 (φ := .f32) fun g l _ => K.dt 1 g l) := by
  simp -index only [k0_pay52, pay_47, pay_51, ofBits_zero, shapeCast_self, bcast_8x1x128_8x128x128, broadcast_up3, select_up3, select_low3, sum_8x128x128_2, cast_8x128_8x128x1]
  all_goals first | rfl | (simp only [decide_eq_true_eq, Finset.sum_ite_eq, Finset.sum_ite_eq', Finset.mem_univ, if_true, lane_sel, head0, head1, head2, head3] <;> rfl)
theorem pay_53 : k0_pay53 (bm3 fun _ l s => decide (l = s)) = (bm3 fun _ l s => decide (l = s)) := by
  simp -index only [k0_pay53, shapeCast_self, mcast_1x128x128_8x128x128]
  all_goals rfl
theorem pay_54 (K : Blk) : k0_pay54 (F := Ideal) (up4 (φ := .f32) fun r g _ _ => K.al r g) (bm3 fun _ l s => decide (l = s)) (up3 (φ := .f32) fun g _ l => K.z 1 g l) (up3 (φ := .f32) fun g _ l => max (K.z 1 g l) 0) = (up3 (φ := .f32) fun g l _ => K.adt 1 g l) := by
  simp -index only [k0_pay54, pay_50, pay_53, ofBits_zero, shapeCast_self, bcast_8x1x128_8x128x128, broadcast_up3, select_up3, select_low3, sum_8x128x128_2, cast_8x128_8x128x1]
  all_goals first | rfl | (simp only [decide_eq_true_eq, Finset.sum_ite_eq, Finset.sum_ite_eq', Finset.mem_univ, if_true, lane_sel, head0, head1, head2, head3] <;> rfl)
theorem pay_55 : k0_pay55 (bm3 fun _ l s => decide (s ≤ l)) = (bm3 fun _ l s => decide (s ≤ l)) := by
  simp -index only [k0_pay55, shapeCast_self, mcast_1x128x128_8x128x128]
  all_goals rfl
theorem pay_56 (K : Blk) : k0_pay56 (F := Ideal) (up4 (φ := .f32) fun r g _ _ => K.al r g) (up3 (φ := .f32) fun g _ l => K.z 1 g l) (up3 (φ := .f32) fun g _ l => max (K.z 1 g l) 0) = (up3 (φ := .f32) fun g _ s => K.adt 1 g s) := by
  simp -index only [k0_pay56, pay_50, shapeCast_self, bcast_8x1x128_8x128x128]
  all_goals rfl
theorem pay_57 (K : Blk) : k0_pay57 (F := Ideal) ((0 : ℝ) : EReal) (bm3 fun _ l s => decide (s ≤ l)) (up3 (φ := .f32) fun g _ s => K.adt 1 g s) = (up3 (φ := .f32) fun g l _ => K.acs 1 g l) := by
  simp -index only [k0_pay57, broadcast_up3, select_up3, select_low3, sum_8x128x128_2, cast_8x128_8x128x1]
  all_goals first | rfl | (simp only [decide_eq_true_eq, Finset.sum_ite_eq, Finset.sum_ite_eq', Finset.mem_univ, if_true, lane_sel, head0, head1, head2, head3] <;> rfl)
theorem pay_58 : k0_pay58 (bm3 fun _ l s => decide (l ≤ s)) = (bm3 fun _ l s => decide (l ≤ s)) := by
  simp -index only [k0_pay58, shapeCast_self, mcast_1x128x128_8x128x128]
  all_goals rfl
theorem pay_59 (K : Blk) : k0_pay59 (F := Ideal) (up3 (φ := .f32) fun g _ l => K.adt 1 g l) = (up3 (φ := .f32) fun g _ _ => K.last 1 g) := by
  simp -index only [k0_pay59, sum_8x1x128_2, cast_8x1_8x1x1]
  all_goals rfl
theorem pay_60 : k0_pay60 (bm3 fun _ l s => decide (s ≤ l)) = (bm3 fun _ l s => decide (s ≤ l)) := by
  simp -index only [k0_pay60, shapeCast_self, mcast_1x128x128_8x128x128]
  all_goals rfl
theorem pay_61 (K : Blk) : k0_pay61 (F := Ideal) (bm3 fun _ l s => decide (s ≤ l)) (bm3 fun _ l s => decide (l ≤ s)) (up3 (φ := .f32) fun g l _ => K.adt 1 g l) ((0 : ℝ) : EReal) (bm3 fun _ l s => decide (s ≤ l)) (up3 (φ := .f32) fun g _ s => K.adt 1 g s) = (up3 (φ := .f32) fun g l s => K.L 1 g l s) := by
  simp -index only [k0_pay61, pay_57, pay_58, pay_60, ofBits_zero, shapeCast_self, bcast_8x128x1_8x128x128, broadcast_up3, select_up3, select_low3, sum_8x128x128_1, cast_8x128_8x1x128, bcast_8x1x128_8x128x128, subf_up3, named_mask, exp_up3, exp_low3]
  all_goals first | rfl | (simp only [decide_eq_true_eq, Finset.sum_ite_eq, Finset.sum_ite_eq', Finset.mem_univ, if_true, lane_sel, head0, head1, head2, head3] <;> rfl)
theorem pay_62 (K : Blk) : k0_pay62 (F := Ideal) ((0 : ℝ) : EReal) (bm3 fun _ l s => decide (s ≤ l)) (up3 (φ := .f32) fun g _ s => K.adt 1 g s) = (up3 (φ := .f32) fun g l _ => K.ecs 1 g l) := by
  simp -index only [k0_pay62, pay_57, exp_up3, exp_low3]
  all_goals rfl
theorem pay_63 (K : Blk) : k0_pay63 (F := Ideal) (up3 (φ := .f32) fun g _ l => K.adt 1 g l) ((0 : ℝ) : EReal) (bm3 fun _ l s => decide (s ≤ l)) (up3 (φ := .f32) fun g _ s => K.adt 1 g s) = (up3 (φ := .f32) fun g l _ => K.dst 1 g l) := by
  simp -index only [k0_pay63, pay_57, pay_59, bcast_8x1x1_8x128x1, subf_up3, exp_up3, exp_low3]
  all_goals rfl
theorem pay_64 (K : Blk) : k0_pay64 (F := Ideal) (up3 (φ := .f32) fun g _ l => K.adt 1 g l) = (up3 (φ := .f32) fun g _ _ => K.edl 1 g) := by
  simp -index only [k0_pay64, pay_59, exp_up3, exp_low3]
  all_goals rfl
theorem pay_65 (K : Blk) : k0_pay65 (F := Ideal) (up4 (φ := .f32) fun r g _ l => K.raw r g l) (up4 (φ := .f32) fun r g _ _ => K.bias r g) = (up3 (φ := .f32) fun g _ l => K.z 2 g l) := by
  simp -index only [k0_pay65, slice_2_128, cast_1x8x1x128_8x1x128, slice_2_1, cast_1x8x1x1_8x1x1, bcast_8x1x1_8x1x128, addf_up3]
  all_goals rfl
theorem pay_66 (K : Blk) : k0_pay66 (F := Ideal) (up4 (φ := .f32) fun r g _ l => K.raw r g l) (up4 (φ := .f32) fun r g _ _ => K.bias r g) = (up3 (φ := .f32) fun g _ l => max (K.z 2 g l) 0) := by
  simp -index only [k0_pay66, pay_65, ofBits_zero, broadcast_up3, maximumf_up3]
  all_goals rfl
theorem pay_67 (K : Blk) : k0_pay67 (F := Ideal) (up4 (φ := .f32) fun r g _ l => K.raw r g l) (up4 (φ := .f32) fun r g _ _ => K.bias r g) = (up3 (φ := .f32) fun g _ l => K.md 2 g l) := by
  simp -index only [k0_pay67, pay_65, ofBits_zero, broadcast_up3, cmpf_ogt_up3, cmpf_oeq_up3, ofBits_one, ofBits_half, select_up3, select_low3]
  all_goals first | rfl | (simp only [decide_eq_true_eq, Finset.sum_ite_eq, Finset.sum_ite_eq', Finset.mem_univ, if_true, lane_sel, head0, head1, head2, head3] <;> rfl)
theorem pay_68 (K : Blk) : k0_pay68 (F := Ideal) (up4 (φ := .f32) fun r g _ l => K.raw r g l) (up4 (φ := .f32) fun r g _ _ => K.bias r g) = (up3 (φ := .f32) fun g _ l => |K.z 2 g l|) := by
  simp -index only [k0_pay68, pay_65, absf_up3]
  all_goals rfl
theorem pay_69 (K : Blk) : k0_pay69 (up4 (φ := .f32) fun r g _ l => K.raw r g l) (up4 (φ := .f32) fun r g _ _ => K.bias r g) = (bm3 fun g _ l => decide (0 ≤ K.z 2 g l)) := by
  simp -index only [k0_pay69, pay_65, ofBits_zero, broadcast_up3, cmpf_oge_up3]
  all_goals rfl
theorem pay_70 (K : Blk) : k0_pay70 (F := Ideal) (up3 (φ := .f32) fun g _ l => |K.z 2 g l|) ((0 : ℝ) : EReal) = (up3 (φ := .f32) fun g _ l => Real.exp (0 - |K.z 2 g l|)) := by
  simp -index only [k0_pay70, broadcast_up3, subf_up3, exp_up3, exp_low3]
  all_goals rfl
theorem pay_71 (K : Blk) : k0_pay71 (F := Ideal) (up3 (φ := .f32) fun g _ l => |K.z 2 g l|) ((0 : ℝ) : EReal) = (up3 (φ := .f32) fun g _ l => 1 + Real.exp (0 - |K.z 2 g l|)) := by
  simp -index only [k0_pay71, pay_70, ofBits_one, broadcast_up3, addf_up3]
  all_goals rfl
theorem pay_72 (K : Blk) : k0_pay72 (F := Ideal) (up3 (φ := .f32) fun g _ l => max (K.z 2 g l) 0) (up3 (φ := .f32) fun g _ l => |K.z 2 g l|) ((0 : ℝ) : EReal) = (up3 (φ := .f32) fun g _ l => K.dt 2 g l) := by
  simp -index only [k0_pay72, pay_71, log_up3, addf_up3]
  all_goals rfl
theorem pay_73 (K : Blk) : k0_pay73 (F := Ideal) (up4 (φ := .f32) fun r g _ _ => K.al r g) = (up3 (φ := .f32) fun g _ _ => Real.exp (K.al 2 g)) := by
  simp -index only [k0_pay73, slice_2_1, cast_1x8x1x1_8x1x1, exp_up3, exp_low3]
  all_goals rfl
theorem pay_74 (K : Blk) : k0_pay74 (F := Ideal) (up4 (φ := .f32) fun r g _ _ => K.al r g) = (up3 (φ := .f32) fun g _ _ => K.A 2 g) := by
  simp -index only [k0_pay74, pay_73, ofBits_zero, broadcast_up3, subf_up3]
  all_goals rfl
theorem pay_75 (K : Blk) : k0_pay75 (F := Ideal) (up4 (φ := .f32) fun r g _ _ => K.al r g) (up3 (φ := .f32) fun g _ l => max (K.z 2 g l) 0) (up3 (φ := .f32) fun g _ l => |K.z 2 g l|) ((0 : ℝ) : EReal) = (up3 (φ := .f32) fun g _ l => K.adt 2 g l) := by
  simp -index only [k0_pay75, pay_72, pay_74, bcast_8x1x1_8x1x128, mulf_up3]
  all_goals rfl
theorem pay_76 : k0_pay76 (bm3 fun _ l s => decide (l = s)) = (bm3 fun _ l s => decide (l = s)) := by
  simp -index only [k0_pay76, shapeCast_self, mcast_1x128x128_8x128x128]
  all_goals rfl
theorem pay_77 (K : Blk) : k0_pay77 (F := Ideal) (bm3 fun _ l s => decide (l = s)) (up3 (φ := .f32) fun g _ l => max (K.z 2 g l) 0) (up3 (φ := .f32) fun g _ l => |K.z 2 g l|) ((0 : ℝ) : EReal) = (up3 (φ := .f32) fun g l _ => K.dt 2 g l) := by
  simp -index only [k0_pay77, pay_72, pay_76, ofBits_zero, shapeCast_self, bcast_8x1x128_8x128x128, broadcast_up3, select_up3, select_low3, sum_8x128x128_2, cast_8x128_8x128x1]
  all_goals first | rfl | (simp only [decide_eq_true_eq, Finset.sum_ite_eq, Finset.sum_ite_eq', Finset.mem_univ, if_true, lane_sel, head0, head1, head2, head3] <;> rfl)
theorem pay_78 : k0_pay78 (bm3 fun _ l s => decide (l = s)) = (bm3 fun _ l s => decide (l = s)) := by
  simp -index only [k0_pay78, shapeCast_self, mcast_1x128x128_8x128x128]
  all_goals rfl
theorem pay_79 : k0_pay79 (bm3 fun _ l s => decide (s ≤ l)) = (bm3 fun _ l s => decide (s ≤ l)) := by
  simp -index only [k0_pay79, shapeCast_self, mcast_1x128x128_8x128x128]
  all_goals rfl
theorem pay_80 (K : Blk) : k0_pay80 (F := Ideal) (up4 (φ := .f32) fun r g _ _ => K.al r g) (bm3 fun _ l s => decide (s ≤ l)) (up3 (φ := .f32) fun g _ l => max (K.z 2 g l) 0) (up3 (φ := .f32) fun g _ l => |K.z 2 g l|) ((0 : ℝ) : EReal) = (up3 (φ := .f32) fun g l _ => K.acs 2 g l) := by
  simp -index only [k0_pay80, pay_75, pay_79, ofBits_zero, shapeCast_self, bcast_8x1x128_8x128x128, broadcast_up3, select_up3, select_low3, sum_8x128x128_2, cast_8x128_8x128x1]
  all_goals first | rfl | (simp only [decide_eq_true_eq, Finset.sum_ite_eq, Finset.sum_ite_eq', Finset.mem_univ, if_true, lane_sel, head0, head1, head2, head3] <;> rfl)
theorem pay_81 : k0_pay81 (bm3 fun _ l s => decide (l ≤ s)) = (bm3 fun _ l s => decide (l ≤ s)) := by
  simp -index only [k0_pay81, shapeCast_self, mcast_1x128x128_8x128x128]
  all_goals rfl
theorem pay_82 (K : Blk) : k0_pay82 (F := Ideal) (up4 (φ := .f32) fun r g _ _ => K.al r g) (bm3 fun _ l s => decide (l = s)) (bm3 fun _ l s => decide (l ≤ s)) (up3 (φ := .f32) fun g _ l => max (K.z 2 g l) 0) (up3 (φ := .f32) fun g _ l => |K.z 2 g l|) ((0 : ℝ) : EReal) = (up3 (φ := .f32) fun g _ l => K.acs 2 g l) := by
  simp -index only [k0_pay82, pay_75, pay_78, pay_81, ofBits_zero, shapeCast_self, bcast_8x1x128_8x128x128, broadcast_up3, select_up3, select_low3, sum_8x128x128_2, cast_8x128_8x128x1, bcast_8x128x1_8x128x128, sum_8x128x128_1, cast_8x128_8x1x128]
  all_goals first | rfl | (simp only [decide_eq_true_eq, Finset.sum_ite_eq, Finset.sum_ite_eq', Finset.mem_univ, if_true, lane_sel, head0, head1, head2, head3] <;> rfl)
theorem pay_83 (K : Blk) : k0_pay83 (F := Ideal) (up4 (φ := .f32) fun r g _ _ => K.al r g) (up3 (φ := .f32) fun g _ l => max (K.z 2 g l) 0) (up3 (φ := .f32) fun g _ l => |K.z 2 g l|) ((0 : ℝ) : EReal) = (up3 (φ := .f32) fun g _ _ => K.last 2 g) := by
  simp -index only [k0_pay83, pay_75, sum_8x1x128_2, cast_8x1_8x1x1]
  all_goals rfl
theorem pay_84 (K : Blk) : k0_pay84 (F := Ideal) (up4 (φ := .f32) fun r g _ _ => K.al r g) (bm3 fun _ l s => decide (s ≤ l)) (up3 (φ := .f32) fun g _ l => max (K.z 2 g l) 0) (up3 (φ := .f32) fun g _ l => |K.z 2 g l|) ((0 : ℝ) : EReal) = (up3 (φ := .f32) fun g l _ => K.acs 2 g l) := by
  simp -index only [k0_pay84, pay_80, bcast_8x128x1_8x128x128]
  all_goals rfl
theorem pay_85 : k0_pay85 (bm3 fun _ l s => decide (s ≤ l)) = (bm3 fun _ l s => decide (s ≤ l)) := by
  simp -index only [k0_pay85, shapeCast_self, mcast_1x128x128_8x128x128]
  all_goals rfl
theorem pay_86 (K : Blk) : k0_pay86 (F := Ideal) (bm3 fun _ l s => decide (s ≤ l)) (up3 (φ := .f32) fun g _ l => K.acs 2 g l) (up3 (φ := .f32) fun g l _ => K.acs 2 g l) = (up3 (φ := .f32) fun g l s => K.L 2 g l s) := by
  simp -index only [k0_pay86, pay_85, bcast_8x1x128_8x128x128, subf_up3, named_mask, broadcast_up3, select_up3, select_low3, exp_up3, exp_low3]
  all_goals first | rfl | (simp only [decide_eq_true_eq, Finset.sum_ite_eq, Finset.sum_ite_eq', Finset.mem_univ, if_true, lane_sel, head0, head1, head2, head3] <;> rfl)
theorem pay_87 (K : Blk) : k0_pay87 (F := Ideal) (up3 (φ := .f32) fun g l _ => K.acs 2 g l) = (up3 (φ := .f32) fun g l _ => K.ecs 2 g l) := by
  simp -index only [k0_pay87, exp_up3, exp_low3]
  all_goals rfl
theorem pay_88 (K : Blk) : k0_pay88 (F := Ideal) (up3 (φ := .f32) fun g l _ => K.acs 2 g l) (up3 (φ := .f32) fun g _ _ => K.last 2 g) = (up3 (φ := .f32) fun g l _ => K.dst 2 g l) := by
  simp -index only [k0_pay88, bcast_8x1x1_8x128x1, subf_up3, exp_up3, exp_low3]
  all_goals rfl
theorem pay_89 (K : Blk) : k0_pay89 (F := Ideal) (up3 (φ := .f32) fun g _ _ => K.last 2 g) = (up3 (φ := .f32) fun g _ _ => K.edl 2 g) := by
  simp -index only [k0_pay89, exp_up3, exp_low3]
  all_goals rfl
theorem pay_90 (K : Blk) : k0_pay90 (F := Ideal) (up4 (φ := .f32) fun r g _ l => K.raw r g l) (up4 (φ := .f32) fun r g _ _ => K.bias r g) = (up3 (φ := .f32) fun g _ l => K.z 3 g l) := by
  simp -index only [k0_pay90, slice_3_128, cast_1x8x1x128_8x1x128, slice_3_1, cast_1x8x1x1_8x1x1, bcast_8x1x1_8x1x128, addf_up3]
  all_goals rfl
theorem pay_91 (K : Blk) : k0_pay91 (F := Ideal) (up4 (φ := .f32) fun r g _ l => K.raw r g l) (up4 (φ := .f32) fun r g _ _ => K.bias r g) = (up3 (φ := .f32) fun g _ l => K.md 3 g l) := by
  simp -index only [k0_pay91, pay_90, ofBits_zero, broadcast_up3, cmpf_ogt_up3, cmpf_oeq_up3, ofBits_one, ofBits_half, select_up3, select_low3]
  all_goals first | rfl | (simp only [decide_eq_true_eq, Finset.sum_ite_eq, Finset.sum_ite_eq', Finset.mem_univ, if_true, lane_sel, head0, head1, head2, head3] <;> rfl)
end Cert.Pay

end
-- ==== Proof.Pay2.lean ====
/- What each value of one chunk's computation is over the reals, at finite inputs. -/
module

public import proofs.«01_k».proof.Proof.Lift
public import proofs.«01_k».proof.Proof.Blk
public import proofs.«01_k».proof.Proof.Gen.KernelIdeal.Skeleton
public import proofs.«01_k».proof.Proof.Pay1

@[expose] public section

noncomputable section

namespace Cert.Pay

open Idealize.ShloMosaic Cert.KernelIdeal Cert.KernelIdeal.Gen Cert.Lift Cert.Blk

theorem pay_92 (K : Blk) : k0_pay92 (up4 (φ := .f32) fun r g _ l => K.raw r g l) (up4 (φ := .f32) fun r g _ _ => K.bias r g) = (bm3 fun g _ l => decide (0 ≤ K.z 3 g l)) := by
  simp -index only [k0_pay92, pay_90, ofBits_zero, broadcast_up3, cmpf_oge_up3]
  all_goals rfl
theorem pay_93 (K : Blk) : k0_pay93 (F := Ideal) (up4 (φ := .f32) fun r g _ l => K.raw r g l) (up4 (φ := .f32) fun r g _ _ => K.bias r g) = (up3 (φ := .f32) fun g _ l => Real.exp (0 - |K.z 3 g l|)) := by
  simp -index only [k0_pay93, pay_90, absf_up3, ofBits_zero, broadcast_up3, subf_up3, exp_up3, exp_low3]
  all_goals rfl
theorem pay_94 (K : Blk) : k0_pay94 (F := Ideal) (up4 (φ := .f32) fun r g _ l => K.raw r g l) (up4 (φ := .f32) fun r g _ _ => K.bias r g) = (up3 (φ := .f32) fun g _ l => 1 + Real.exp (0 - |K.z 3 g l|)) := by
  simp -index only [k0_pay94, pay_93, ofBits_one, broadcast_up3, addf_up3]
  all_goals rfl
theorem pay_95 (K : Blk) : k0_pay95 (F := Ideal) (up4 (φ := .f32) fun r g _ l => K.raw r g l) (up4 (φ := .f32) fun r g _ _ => K.bias r g) = (up3 (φ := .f32) fun g _ l => K.dt 3 g l) := by
  simp -index only [k0_pay95, pay_90, pay_94, ofBits_zero, broadcast_up3, maximumf_up3, log_up3, addf_up3]
  all_goals rfl
theorem pay_96 (K : Blk) : k0_pay96 (F := Ideal) (up4 (φ := .f32) fun r g _ _ => K.al r g) = (up3 (φ := .f32) fun g _ _ => Real.exp (K.al 3 g)) := by
  simp -index only [k0_pay96, slice_3_1, cast_1x8x1x1_8x1x1, exp_up3, exp_low3]
  all_goals rfl
theorem pay_97 (K : Blk) : k0_pay97 (F := Ideal) (up4 (φ := .f32) fun r g _ _ => K.al r g) = (up3 (φ := .f32) fun g _ _ => K.A 3 g) := by
  simp -index only [k0_pay97, pay_96, ofBits_zero, broadcast_up3, subf_up3]
  all_goals rfl
theorem pay_98 (K : Blk) : k0_pay98 (F := Ideal) (up4 (φ := .f32) fun r g _ l => K.raw r g l) (up4 (φ := .f32) fun r g _ _ => K.bias r g) (up4 (φ := .f32) fun r g _ _ => K.al r g) = (up3 (φ := .f32) fun g _ l => K.adt 3 g l) := by
  simp -index only [k0_pay98, pay_95, pay_97, bcast_8x1x1_8x1x128, mulf_up3]
  all_goals rfl
theorem pay_99 : k0_pay99 (bm3 fun _ l s => decide (l = s)) = (bm3 fun _ l s => decide (l = s)) := by
  simp -index only [k0_pay99, shapeCast_self, mcast_1x128x128_8x128x128]
  all_goals rfl
theorem pay_100 (K : Blk) : k0_pay100 (F := Ideal) (up3 (φ := .f32) fun g _ l => K.dt 3 g l) ((0 : ℝ) : EReal) (bm3 fun _ l s => decide (l = s)) = (up3 (φ := .f32) fun g l _ => K.dt 3 g l) := by
  simp -index only [k0_pay100, shapeCast_self, bcast_8x1x128_8x128x128, broadcast_up3, select_up3, select_low3, sum_8x128x128_2, cast_8x128_8x128x1]
  all_goals first | rfl | (simp only [decide_eq_true_eq, Finset.sum_ite_eq, Finset.sum_ite_eq', Finset.mem_univ, if_true, lane_sel, head0, head1, head2, head3] <;> rfl)
theorem pay_101 : k0_pay101 (bm3 fun _ l s => decide (l = s)) = (bm3 fun _ l s => decide (l = s)) := by
  simp -index only [k0_pay101, shapeCast_self, mcast_1x128x128_8x128x128]
  all_goals rfl
theorem pay_102 : k0_pay102 (bm3 fun _ l s => decide (s ≤ l)) = (bm3 fun _ l s => decide (s ≤ l)) := by
  simp -index only [k0_pay102, shapeCast_self, mcast_1x128x128_8x128x128]
  all_goals rfl
theorem pay_103 (K : Blk) : k0_pay103 (F := Ideal) (bm3 fun _ l s => decide (s ≤ l)) (up3 (φ := .f32) fun g _ l => K.adt 3 g l) = (up3 (φ := .f32) fun g l _ => K.acs 3 g l) := by
  simp -index only [k0_pay103, pay_102, ofBits_zero, shapeCast_self, bcast_8x1x128_8x128x128, broadcast_up3, select_up3, select_low3, sum_8x128x128_2, cast_8x128_8x128x1]
  all_goals first | rfl | (simp only [decide_eq_true_eq, Finset.sum_ite_eq, Finset.sum_ite_eq', Finset.mem_univ, if_true, lane_sel, head0, head1, head2, head3] <;> rfl)
theorem pay_104 : k0_pay104 (bm3 fun _ l s => decide (l ≤ s)) = (bm3 fun _ l s => decide (l ≤ s)) := by
  simp -index only [k0_pay104, shapeCast_self, mcast_1x128x128_8x128x128]
  all_goals rfl
theorem pay_105 (K : Blk) : k0_pay105 (F := Ideal) (up3 (φ := .f32) fun g _ l => K.adt 3 g l) = (up3 (φ := .f32) fun g _ _ => K.last 3 g) := by
  simp -index only [k0_pay105, sum_8x1x128_2, cast_8x1_8x1x1]
  all_goals rfl
theorem pay_106 : k0_pay106 (bm3 fun _ l s => decide (s ≤ l)) = (bm3 fun _ l s => decide (s ≤ l)) := by
  simp -index only [k0_pay106, shapeCast_self, mcast_1x128x128_8x128x128]
  all_goals rfl
theorem pay_107 (K : Blk) : k0_pay107 (F := Ideal) (bm3 fun _ l s => decide (s ≤ l)) (bm3 fun _ l s => decide (l = s)) (bm3 fun _ l s => decide (l ≤ s)) (up3 (φ := .f32) fun g _ l => K.adt 3 g l) = (up3 (φ := .f32) fun g l s => K.L 3 g l s) := by
  simp -index only [k0_pay107, pay_101, pay_103, pay_104, pay_106, ofBits_zero, shapeCast_self, bcast_8x1x128_8x128x128, broadcast_up3, select_up3, select_low3, sum_8x128x128_2, cast_8x128_8x128x1, bcast_8x128x1_8x128x128, sum_8x128x128_1, cast_8x128_8x1x128, subf_up3, named_mask, exp_up3, exp_low3]
  all_goals first | rfl | (simp only [decide_eq_true_eq, Finset.sum_ite_eq, Finset.sum_ite_eq', Finset.mem_univ, if_true, lane_sel, head0, head1, head2, head3] <;> rfl)
theorem pay_108 (K : Blk) : k0_pay108 (F := Ideal) (bm3 fun _ l s => decide (s ≤ l)) (up3 (φ := .f32) fun g _ l => K.adt 3 g l) = (up3 (φ := .f32) fun g l _ => K.ecs 3 g l) := by
  simp -index only [k0_pay108, pay_103, exp_up3, exp_low3]
  all_goals rfl
theorem pay_109 (K : Blk) : k0_pay109 (F := Ideal) (bm3 fun _ l s => decide (s ≤ l)) (up3 (φ := .f32) fun g _ l => K.adt 3 g l) = (up3 (φ := .f32) fun g l _ => K.dst 3 g l) := by
  simp -index only [k0_pay109, pay_103, pay_105, bcast_8x1x1_8x128x1, subf_up3, exp_up3, exp_low3]
  all_goals rfl
theorem pay_110 (K : Blk) : k0_pay110 (F := Ideal) (up3 (φ := .f32) fun g _ l => K.adt 3 g l) = (up3 (φ := .f32) fun g _ _ => K.edl 3 g) := by
  simp -index only [k0_pay110, pay_105, exp_up3, exp_low3]
  all_goals rfl
theorem pay_111 : k0_pay111 (iota .tc S1x1x256 32 [2] Facts₀.iota_S1x1x256_d2_w32) = (bm3 fun _ _ p => decide (p.val < 192)) := by
  simp -index only [k0_pay111, lanes_lt_192, shapeCast_self, mcast_1x1x256_8x128x256]
  all_goals rfl
theorem pay_112 (K : Blk) : k0_pay112 (F := Ideal) (up3 (φ := .f32) fun g l _ => K.dt 2 g l) = (up3 (φ := .f32) fun g l _ => K.dt 2 g l) := by
  simp -index only [k0_pay112, shapeCast_self]
  all_goals rfl
theorem pay_113 : k0_pay113 (iota .tc S1x1x256 32 [2] Facts₀.iota_S1x1x256_d2_w32) = (bm3 fun _ _ p => decide (p.val < 128)) := by
  simp -index only [k0_pay113, lanes_lt_128, shapeCast_self, mcast_1x1x256_8x128x256]
  all_goals rfl
theorem pay_114 : k0_pay114 (iota .tc S1x1x256 32 [2] Facts₀.iota_S1x1x256_d2_w32) = (bm3 fun _ _ p => decide (p.val < 64)) := by
  simp -index only [k0_pay114, lanes_lt_64, shapeCast_self, mcast_1x1x256_8x128x256]
  all_goals rfl
theorem pay_115 (K : Blk) : k0_pay115 (F := Ideal) (iota .tc S1x1x256 32 [2] Facts₀.iota_S1x1x256_d2_w32) (up3 (φ := .f32) fun g l _ => K.dt 0 g l) (up3 (φ := .f32) fun g l _ => K.dt 1 g l) (up3 (φ := .f32) fun g l _ => K.dt 3 g l) (bm3 fun _ _ p => decide (p.val < 192)) (up3 (φ := .f32) fun g l _ => K.dt 2 g l) = (up3 (φ := .f32) fun g l p => K.dt (hd p) g l) := by
  simp -index only [k0_pay115, pay_113, pay_114, bcast_8x128x1_8x128x256, shapeCast_self, select_up3, select_low3]
  refine congrArg up3 (funext fun g => funext fun i => funext fun j => ?_)
  rcases head_of j with ⟨a, h⟩ | ⟨a, b, h⟩ | ⟨a, b, h⟩ | ⟨a, h⟩ <;> rw [h] <;> simp only [decide_eq_true_eq] <;> split_ifs <;> first | rfl | (exfalso; omega)
theorem pay_116 (K : Blk) : k0_pay116 (F := Ideal) (up3 (φ := .f32) fun g l p => K.x g l p) (iota .tc S1x1x256 32 [2] Facts₀.iota_S1x1x256_d2_w32) (up3 (φ := .f32) fun g l _ => K.dt 0 g l) (up3 (φ := .f32) fun g l _ => K.dt 1 g l) (up3 (φ := .f32) fun g l _ => K.dt 3 g l) (bm3 fun _ _ p => decide (p.val < 192)) (up3 (φ := .f32) fun g l _ => K.dt 2 g l) = (up3 (φ := .f32) fun g l p => K.xd g l p) := by
  simp -index only [k0_pay116, pay_115, mulf_up3]
  all_goals rfl
theorem pay_117 (K : Blk) : k0_pay117 (F := Ideal) (up3 (φ := .f32) fun g l s => K.cb g l s) (up3 (φ := .f32) fun g l s => K.L 0 g l s) = (up3 (φ := .f32) fun g l s => K.cb g l s * K.L 0 g l s) := by
  simp -index only [k0_pay117, mulf_up3]
  all_goals rfl
theorem pay_118 (K : Blk) : k0_pay118 (F := Ideal) (up3 (φ := .f32) fun g l s => K.cb g l s) (up3 (φ := .f32) fun g l s => K.L 1 g l s) = (up3 (φ := .f32) fun g l s => K.cb g l s * K.L 1 g l s) := by
  simp -index only [k0_pay118, mulf_up3]
  all_goals rfl
theorem pay_119 (K : Blk) : k0_pay119 (F := Ideal) (up3 (φ := .f32) fun g l s => K.cb g l s) (up3 (φ := .f32) fun g l s => K.L 2 g l s) = (up3 (φ := .f32) fun g l s => K.cb g l s * K.L 2 g l s) := by
  simp -index only [k0_pay119, mulf_up3]
  all_goals rfl
theorem pay_120 (K : Blk) : k0_pay120 (F := Ideal) (up3 (φ := .f32) fun g l s => K.cb g l s) (up3 (φ := .f32) fun g l s => K.L 3 g l s) = (up3 (φ := .f32) fun g l s => K.cb g l s * K.L 3 g l s) := by
  simp -index only [k0_pay120, mulf_up3]
  all_goals rfl
theorem pay_121 : k0_pay121 (iota .tc S1x1x256 32 [2] Facts₀.iota_S1x1x256_d2_w32) = (bm3 fun _ _ p => decide (p.val < 192)) := by
  simp -index only [k0_pay121, lanes_lt_192, shapeCast_self, mcast_1x1x256_8x128x256]
  all_goals rfl
theorem pay_122 : k0_pay122 (iota .tc S1x1x256 32 [2] Facts₀.iota_S1x1x256_d2_w32) = (bm3 fun _ _ p => decide (p.val < 128)) := by
  simp -index only [k0_pay122, lanes_lt_128, shapeCast_self, mcast_1x1x256_8x128x256]
  all_goals rfl
theorem pay_123 : k0_pay123 (iota .tc S1x1x256 32 [2] Facts₀.iota_S1x1x256_d2_w32) = (bm3 fun _ _ p => decide (p.val < 64)) := by
  simp -index only [k0_pay123, lanes_lt_64, shapeCast_self, mcast_1x1x256_8x128x256]
  all_goals rfl
theorem pay_124 (K : Blk) : k0_pay124 (F := Ideal) (up3 (φ := .f32) fun g l n => K.b g l n) (up3 (φ := .f32) fun g l _ => K.dst 0 g l) = (up3 (φ := .f32) fun g l n => K.b g l n * K.dst 0 g l) := by
  simp -index only [k0_pay124, bcast_8x128x1_8x128x128, mulf_up3]
  all_goals rfl
theorem pay_125 (K : Blk) : k0_pay125 (F := Ideal) (up3 (φ := .f32) fun g l n => K.b g l n) (up3 (φ := .f32) fun g l _ => K.dst 1 g l) = (up3 (φ := .f32) fun g l n => K.b g l n * K.dst 1 g l) := by
  simp -index only [k0_pay125, bcast_8x128x1_8x128x128, mulf_up3]
  all_goals rfl
theorem pay_126 (K : Blk) : k0_pay126 (F := Ideal) (up3 (φ := .f32) fun g l n => K.b g l n) (up3 (φ := .f32) fun g l _ => K.dst 2 g l) = (up3 (φ := .f32) fun g l n => K.b g l n * K.dst 2 g l) := by
  simp -index only [k0_pay126, bcast_8x128x1_8x128x128, mulf_up3]
  all_goals rfl
theorem pay_127 (K : Blk) : k0_pay127 (F := Ideal) (up3 (φ := .f32) fun g l n => K.b g l n) (up3 (φ := .f32) fun g l _ => K.dst 3 g l) = (up3 (φ := .f32) fun g l n => K.b g l n * K.dst 3 g l) := by
  simp -index only [k0_pay127, bcast_8x128x1_8x128x128, mulf_up3]
  all_goals rfl
theorem pay_128 : k0_pay128 (iota .tc S1x256x1 32 [1] Facts₀.iota_S1x256x1_d1_w32) = (bm3 fun _ p _ => decide (p.val < 192)) := by
  simp -index only [k0_pay128, rows_lt_192, shapeCast_self, mcast_1x256x1_8x256x128]
  all_goals rfl
theorem pay_129 : k0_pay129 (iota .tc S1x256x1 32 [1] Facts₀.iota_S1x256x1_d1_w32) = (bm3 fun _ p _ => decide (p.val < 128)) := by
  simp -index only [k0_pay129, rows_lt_128, shapeCast_self, mcast_1x256x1_8x256x128]
  all_goals rfl
theorem pay_130 : k0_pay130 = (broadcast S1x256x1 64#32) := by
  simp -index only [k0_pay130]
  all_goals rfl
theorem pay_131 : k0_pay131 (iota .tc S1x256x1 32 [1] Facts₀.iota_S1x256x1_d1_w32) (broadcast S1x256x1 64#32) = (bm3 fun _ p _ => decide (p.val < 64)) := by
  simp -index only [k0_pay131, rows_lt_64, shapeCast_self, mcast_1x256x1_8x256x128]
  all_goals rfl
theorem pay_132 : k0_pay132 (iota .tc S1x1x256 32 [2] Facts₀.iota_S1x1x256_d2_w32) = (bm3 fun _ _ p => decide (p.val < 192)) := by
  simp -index only [k0_pay132, lanes_lt_192, shapeCast_self, mcast_1x1x256_8x128x256]
  all_goals rfl
theorem pay_133 : k0_pay133 (iota .tc S1x1x256 32 [2] Facts₀.iota_S1x1x256_d2_w32) = (bm3 fun _ _ p => decide (p.val < 128)) := by
  simp -index only [k0_pay133, lanes_lt_128, shapeCast_self, mcast_1x1x256_8x128x256]
  all_goals rfl
theorem pay_134 : k0_pay134 (iota .tc S1x1x256 32 [2] Facts₀.iota_S1x1x256_d2_w32) = (bm3 fun _ _ p => decide (p.val < 64)) := by
  simp -index only [k0_pay134, lanes_lt_64, shapeCast_self, mcast_1x1x256_8x128x256]
  all_goals rfl
theorem pay_135 (K : Blk) : k0_pay135 (F := Ideal) (iota .tc S1x1x256 32 [2] Facts₀.iota_S1x1x256_d2_w32) (up3 (φ := .f32) fun g l _ => K.ecs 0 g l) (up3 (φ := .f32) fun g l _ => K.ecs 1 g l) (up3 (φ := .f32) fun g l _ => K.ecs 2 g l) (up3 (φ := .f32) fun g l _ => K.ecs 3 g l) = (up3 (φ := .f32) fun g l p => K.ecs (hd p) g l) := by
  simp -index only [k0_pay135, pay_132, pay_133, pay_134, shapeCast_self, bcast_8x128x1_8x128x256, select_up3, select_low3]
  refine congrArg up3 (funext fun g => funext fun i => funext fun j => ?_)
  rcases head_of j with ⟨a, h⟩ | ⟨a, b, h⟩ | ⟨a, b, h⟩ | ⟨a, h⟩ <;> rw [h] <;> simp only [decide_eq_true_eq] <;> split_ifs <;> first | rfl | (exfalso; omega)
theorem pay_136 (K : Blk) : k0_pay136 (F := Ideal) (up4 (φ := .f32) fun r g _ _ => K.D r g) = (up3 (φ := .f32) fun g _ _ => K.D 0 g) := by
  simp -index only [k0_pay136, slice_0_1, cast_1x8x1x1_8x1x1]
  all_goals rfl
theorem pay_137 : k0_pay137 (iota .tc S1x1x256 32 [2] Facts₀.iota_S1x1x256_d2_w32) = (bm3 fun _ _ p => decide (p.val < 192)) := by
  simp -index only [k0_pay137, lanes_lt_192, shapeCast_self, mcast_1x1x256_8x1x256]
  all_goals rfl
theorem pay_138 : k0_pay138 (iota .tc S1x1x256 32 [2] Facts₀.iota_S1x1x256_d2_w32) = (bm3 fun _ _ p => decide (p.val < 128)) := by
  simp -index only [k0_pay138, lanes_lt_128, shapeCast_self, mcast_1x1x256_8x1x256]
  all_goals rfl
theorem pay_139 (K : Blk) : k0_pay139 (F := Ideal) (up4 (φ := .f32) fun r g _ _ => K.D r g) (iota .tc S1x1x256 32 [2] Facts₀.iota_S1x1x256_d2_w32) = (up3 (φ := .f32) fun g _ p => if p.val < 128 then K.D 1 g else if p.val < 192 then K.D 2 g else K.D 3 g) := by
  simp -index only [k0_pay139, pay_137, pay_138, slice_1_1, cast_1x8x1x1_8x1x1, slice_2_1, slice_3_1, shapeCast_self, bcast_8x1x1_8x1x256, select_up3, select_low3]
  all_goals first | rfl | (simp only [decide_eq_true_eq, Finset.sum_ite_eq, Finset.sum_ite_eq', Finset.mem_univ, if_true, lane_sel, head0, head1, head2, head3] <;> rfl)
theorem pay_140 : k0_pay140 (iota .tc S1x1x256 32 [2] Facts₀.iota_S1x1x256_d2_w32) = (bm3 fun _ _ p => decide (p.val < 64)) := by
  simp -index only [k0_pay140, lanes_lt_64, shapeCast_self, mcast_1x1x256_8x1x256]
  all_goals rfl
theorem pay_141 (K : Blk) : k0_pay141 (F := Ideal) (up3 (φ := .f32) fun g _ _ => K.D 0 g) (up3 (φ := .f32) fun g _ p => if p.val < 128 then K.D 1 g else if p.val < 192 then K.D 2 g else K.D 3 g) (bm3 fun _ _ p => decide (p.val < 64)) = (up3 (φ := .f32) fun g _ p => K.D (hd p) g) := by
  simp -index only [k0_pay141, shapeCast_self, bcast_8x1x1_8x1x256, select_up3, select_low3]
  refine congrArg up3 (funext fun g => funext fun i => funext fun j => ?_)
  rcases head_of j with ⟨a, h⟩ | ⟨a, b, h⟩ | ⟨a, b, h⟩ | ⟨a, h⟩ <;> rw [h] <;> simp only [decide_eq_true_eq] <;> split_ifs <;> first | rfl | (exfalso; omega)
theorem pay_142 : k0_pay142 (iota .tc S1x256x1 32 [1] Facts₀.iota_S1x256x1_d1_w32) = (bm3 fun _ p _ => decide (p.val < 192)) := by
  simp -index only [k0_pay142, rows_lt_192, shapeCast_self, mcast_1x256x1_8x256x1]
  all_goals rfl
theorem pay_143 : k0_pay143 (iota .tc S1x256x1 32 [1] Facts₀.iota_S1x256x1_d1_w32) = (bm3 fun _ p _ => decide (p.val < 128)) := by
  simp -index only [k0_pay143, rows_lt_128, shapeCast_self, mcast_1x256x1_8x256x1]
  all_goals rfl
theorem pay_144 : k0_pay144 (iota .tc S1x256x1 32 [1] Facts₀.iota_S1x256x1_d1_w32) = (bm3 fun _ p _ => decide (p.val < 64)) := by
  simp -index only [k0_pay144, rows_lt_64, shapeCast_self, mcast_1x256x1_8x256x1]
  all_goals rfl
theorem pay_145 (K : Blk) : k0_pay145 (F := Ideal) (up3 (φ := .f32) fun g p n => K.dS g p n) = (up3 (φ := .f32) fun g p n => K.dS g p n) := by
  simp -index only [k0_pay145, shapeCast_self]
  all_goals rfl
theorem pay_146 (K : Blk) : k0_pay146 (F := Ideal) (up3 (φ := .f32) fun g p n => K.dS g p n) = (up3 (φ := .f32) fun g p n => K.dS g p n) := by
  simp -index only [k0_pay146, shapeCast_self]
  all_goals rfl
theorem pay_147 (K : Blk) : k0_pay147 (F := Ideal) (up3 (φ := .f32) fun g p n => K.dS g p n) (up3 (φ := .f32) fun g p n => K.S g p n) = (up3 (φ := .f32) fun g p _ => ∑ n, K.S g p n * K.dS g p n) := by
  simp -index only [k0_pay147, pay_145, mulf_up3, sum_8x256x128_2, cast_8x256_8x256x1]
  all_goals rfl
theorem pay_148 (K : Blk) : k0_pay148 (F := Ideal) (up3 (φ := .f32) fun g p n => K.dS g p n) (iota .tc S1x256x1 32 [1] Facts₀.iota_S1x256x1_d1_w32) (up3 (φ := .f32) fun g _ _ => K.edl 0 g) (up3 (φ := .f32) fun g _ _ => K.edl 1 g) (up3 (φ := .f32) fun g _ _ => K.edl 2 g) (up3 (φ := .f32) fun g _ _ => K.edl 3 g) = (up3 (φ := .f32) fun g p n => K.dS g p n * K.edl (hd p) g) := by
  simp -index only [k0_pay148, pay_142, pay_143, pay_144, pay_145, shapeCast_self, bcast_8x1x1_8x256x1, select_up3, select_low3, bcast_8x256x1_8x256x128, mulf_up3]
  refine congrArg up3 (funext fun g => funext fun i => funext fun j => ?_)
  rcases head_of i with ⟨a, h⟩ | ⟨a, b, h⟩ | ⟨a, b, h⟩ | ⟨a, h⟩ <;> rw [h] <;> simp only [decide_eq_true_eq] <;> split_ifs <;> first | rfl | (exfalso; omega)
theorem pay_149 : (k0_pay149 (F := Ideal)) = (up3 (φ := .f32) fun _ _ _ => 0) := by
  simp -index only [k0_pay149, ofBits_zero, broadcast_up3]
  all_goals rfl
theorem pay_150 (K : Blk) : k0_pay150 (F := Ideal) (up3 (φ := .f32) fun g p n => K.dS g p n) (up3 (φ := .f32) fun g p n => K.S g p n) (iota .tc S1x256x1 32 [1] Facts₀.iota_S1x256x1_d1_w32) = (up3 (φ := .f32) fun g p _ => if p.val < 64 then 0 else ∑ n, K.S g p n * K.dS g p n) := by
  simp -index only [k0_pay150, pay_144, pay_147, pay_149, select_up3, select_low3]
  all_goals first | rfl | (simp only [decide_eq_true_eq, Finset.sum_ite_eq, Finset.sum_ite_eq', Finset.mem_univ, if_true, lane_sel, head0, head1, head2, head3] <;> rfl)
theorem pay_151 (K : Blk) : k0_pay151 (F := Ideal) (up3 (φ := .f32) fun g p n => K.dS g p n) (up3 (φ := .f32) fun g p n => K.S g p n) (iota .tc S1x256x1 32 [1] Facts₀.iota_S1x256x1_d1_w32) = (up3 (φ := .f32) fun g _ _ => K.sds 0 g) := by
  simp -index only [k0_pay151, pay_144, pay_147, pay_149, select_up3, select_low3, sum_8x256x1_12, cast_8_8x1x1]
  all_goals rfl
theorem pay_152 : (k0_pay152 (F := Ideal)) = (up3 (φ := .f32) fun _ _ _ => 0) := by
  simp -index only [k0_pay152, ofBits_zero, broadcast_up3]
  all_goals rfl
theorem pay_153 (K : Blk) : k0_pay153 (F := Ideal) (up3 (φ := .f32) fun g p n => K.dS g p n) (up3 (φ := .f32) fun g p n => K.S g p n) (iota .tc S1x256x1 32 [1] Facts₀.iota_S1x256x1_d1_w32) = (up3 (φ := .f32) fun g p _ => if p.val < 128 then 0 else if p.val < 64 then 0 else ∑ n, K.S g p n * K.dS g p n) := by
  simp -index only [k0_pay153, pay_143, pay_150, pay_152, select_up3, select_low3]
  all_goals first | rfl | (simp only [decide_eq_true_eq, Finset.sum_ite_eq, Finset.sum_ite_eq', Finset.mem_univ, if_true, lane_sel, head0, head1, head2, head3] <;> rfl)
theorem pay_154 (K : Blk) : k0_pay154 (F := Ideal) (up3 (φ := .f32) fun g p n => K.dS g p n) (up3 (φ := .f32) fun g p n => K.S g p n) (iota .tc S1x256x1 32 [1] Facts₀.iota_S1x256x1_d1_w32) = (up3 (φ := .f32) fun g _ _ => K.sds 1 g) := by
  simp -index only [k0_pay154, pay_143, pay_150, pay_152, select_up3, select_low3, sum_8x256x1_12, cast_8_8x1x1]
  all_goals rfl
theorem pay_155 : (k0_pay155 (F := Ideal)) = (up3 (φ := .f32) fun _ _ _ => 0) := by
  simp -index only [k0_pay155, ofBits_zero, broadcast_up3]
  all_goals rfl
theorem pay_156 (K : Blk) : k0_pay156 (F := Ideal) (up3 (φ := .f32) fun g p n => K.dS g p n) (up3 (φ := .f32) fun g p n => K.S g p n) (iota .tc S1x256x1 32 [1] Facts₀.iota_S1x256x1_d1_w32) = (up3 (φ := .f32) fun g p _ => if hd p = 3 then ∑ n, K.S g p n * K.dS g p n else 0) := by
  simp -index only [k0_pay156, pay_142, pay_153, pay_155, select_up3, select_low3]
  all_goals first | rfl | (simp only [decide_eq_true_eq, Finset.sum_ite_eq, Finset.sum_ite_eq', Finset.mem_univ, if_true, lane_sel, head0, head1, head2, head3] <;> rfl)
theorem pay_157 (K : Blk) : k0_pay157 (F := Ideal) (up3 (φ := .f32) fun g p n => K.dS g p n) (up3 (φ := .f32) fun g p n => K.S g p n) (iota .tc S1x256x1 32 [1] Facts₀.iota_S1x256x1_d1_w32) = (up3 (φ := .f32) fun g p _ => if hd p = 2 then ∑ n, K.S g p n * K.dS g p n else 0) := by
  simp -index only [k0_pay157, pay_142, pay_153, pay_155, select_up3, select_low3]
  all_goals first | rfl | (simp only [decide_eq_true_eq, Finset.sum_ite_eq, Finset.sum_ite_eq', Finset.mem_univ, if_true, lane_sel, head0, head1, head2, head3] <;> rfl)
theorem pay_158 (K : Blk) : k0_pay158 (F := Ideal) (up3 (φ := .f32) fun g p _ => if hd p = 3 then ∑ n, K.S g p n * K.dS g p n else 0) = (up3 (φ := .f32) fun g _ _ => K.sds 3 g) := by
  simp -index only [k0_pay158, sum_8x256x1_12, cast_8_8x1x1]
  all_goals rfl
theorem pay_159 (K : Blk) : k0_pay159 (F := Ideal) (up3 (φ := .f32) fun g p _ => if hd p = 2 then ∑ n, K.S g p n * K.dS g p n else 0) = (up3 (φ := .f32) fun g _ _ => K.sds 2 g) := by
  simp -index only [k0_pay159, sum_8x256x1_12, cast_8_8x1x1]
  all_goals rfl
theorem pay_160 (K : Blk) : k0_pay160 (F := Ideal) (up3 (φ := .f32) fun g l p => K.dy g l p) = (up3 (φ := .f32) fun g l p => K.dy g l p) := by
  simp -index only [k0_pay160, shapeCast_self]
  all_goals rfl
theorem pay_161 (K : Blk) : k0_pay161 (F := Ideal) (up3 (φ := .f32) fun g l p => K.dy g l p) = (up3 (φ := .f32) fun g l p => K.dy g l p) := by
  simp -index only [k0_pay161, shapeCast_self]
  all_goals rfl
theorem pay_162 (K : Blk) : k0_pay162 (F := Ideal) (up3 (φ := .f32) fun g _ p => K.D (hd p) g) (up3 (φ := .f32) fun g l p => K.dy g l p) = (up3 (φ := .f32) fun g l p => K.dy g l p * K.D (hd p) g) := by
  simp -index only [k0_pay162, pay_161, bcast_8x1x256_8x128x256, mulf_up3]
  all_goals rfl
theorem pay_163 (K : Blk) : k0_pay163 (F := Ideal) (up3 (φ := .f32) fun g l p => K.x g l p) (bm3 fun _ _ p => decide (p.val < 192)) (bm3 fun _ _ p => decide (p.val < 128)) (bm3 fun _ _ p => decide (p.val < 64)) (up3 (φ := .f32) fun g l p => K.dy g l p) = (up4 (φ := .f32) fun r g _ _ => K.dD r g) := by
  simp only [k0_pay163]
  repeat first | rw [pay_161] | rw [mulf_up3] | rw [sum_8x128x256_1] | rw [cast_8x256_8x1x256] | rw [ofBits_zero] | rw [broadcast_up3] | rw [select_up3] | rw [sum_8x1x256_12] | rw [cast_8_8x1x1] | rw [cast_8x1x1_1x8x1x1] | rw [broadcast_up4] | rw [stack_3_1_1] | rw [stack_2_1_1] | rw [addf_up4] | rw [stack_1_1_1] | rw [stack_2_2_1] | rw [stack_1_3_1]
  refine congrArg up4 (funext fun r => funext fun g => funext fun _ => funext fun _ => ?_)
  try simp only [decide_eq_true_eq, head0, head1, head2, head3]
  fin_cases r <;> simp [Blk.dD]
theorem pay_164 (K : Blk) : k0_pay164 (F := Ideal) (up3 (φ := .f32) fun g l p => K.cs g l p) (up3 (φ := .f32) fun g l p => K.dy g l p) = (up3 (φ := .f32) fun g l p => K.cs g l p * K.dy g l p) := by
  simp -index only [k0_pay164, mulf_up3]
  all_goals rfl
theorem pay_165 (K : Blk) : k0_pay165 (F := Ideal) (up3 (φ := .f32) fun g l p => K.ecs (hd p) g l) (up3 (φ := .f32) fun g l p => K.dy g l p) = (up3 (φ := .f32) fun g l p => K.dcs g l p) := by
  simp -index only [k0_pay165, mulf_up3]
  all_goals rfl
theorem pay_166 : (k0_pay166 (F := Ideal)) = (up3 (φ := .f32) fun _ _ _ => 0) := by
  simp -index only [k0_pay166, ofBits_zero, broadcast_up3]
  all_goals rfl
theorem pay_167 (K : Blk) : k0_pay167 (F := Ideal) (up3 (φ := .f32) fun g l p => K.cs g l p) (bm3 fun _ _ p => decide (p.val < 64)) (up3 (φ := .f32) fun g l p => K.dy g l p) = (up3 (φ := .f32) fun g l p => if p.val < 64 then 0 else K.cs g l p * K.dy g l p) := by
  simp -index only [k0_pay167, pay_164, pay_166, select_up3, select_low3]
  all_goals first | rfl | (simp only [decide_eq_true_eq, Finset.sum_ite_eq, Finset.sum_ite_eq', Finset.mem_univ, if_true, lane_sel, head0, head1, head2, head3] <;> rfl)
theorem pay_168 (K : Blk) : k0_pay168 (F := Ideal) (up3 (φ := .f32) fun g l p => K.cs g l p) (bm3 fun _ _ p => decide (p.val < 64)) (up3 (φ := .f32) fun g l p => K.dy g l p) = (up3 (φ := .f32) fun g l _ => K.de 0 g l) := by
  simp -index only [k0_pay168, pay_164, pay_166, select_up3, select_low3, sum_8x128x256_2, cast_8x128_8x128x1]
  all_goals rfl
theorem pay_169 : (k0_pay169 (F := Ideal)) = (up3 (φ := .f32) fun _ _ _ => 0) := by
  simp -index only [k0_pay169, ofBits_zero, broadcast_up3]
  all_goals rfl
theorem pay_170 (K : Blk) : k0_pay170 (F := Ideal) (up3 (φ := .f32) fun g l p => K.cs g l p) (bm3 fun _ _ p => decide (p.val < 128)) (bm3 fun _ _ p => decide (p.val < 64)) (up3 (φ := .f32) fun g l p => K.dy g l p) = (up3 (φ := .f32) fun g l p => if p.val < 128 then 0 else if p.val < 64 then 0 else K.cs g l p * K.dy g l p) := by
  simp -index only [k0_pay170, pay_167, pay_169, select_up3, select_low3]
  all_goals first | rfl | (simp only [decide_eq_true_eq, Finset.sum_ite_eq, Finset.sum_ite_eq', Finset.mem_univ, if_true, lane_sel, head0, head1, head2, head3] <;> rfl)
theorem pay_171 (K : Blk) : k0_pay171 (F := Ideal) (up3 (φ := .f32) fun g l p => K.cs g l p) (bm3 fun _ _ p => decide (p.val < 128)) (bm3 fun _ _ p => decide (p.val < 64)) (up3 (φ := .f32) fun g l p => K.dy g l p) = (up3 (φ := .f32) fun g l _ => K.de 1 g l) := by
  simp -index only [k0_pay171, pay_167, pay_169, select_up3, select_low3, sum_8x128x256_2, cast_8x128_8x128x1]
  all_goals rfl
theorem pay_172 : (k0_pay172 (F := Ideal)) = (up3 (φ := .f32) fun _ _ _ => 0) := by
  simp -index only [k0_pay172, ofBits_zero, broadcast_up3]
  all_goals rfl
theorem pay_173 (K : Blk) : k0_pay173 (F := Ideal) (up3 (φ := .f32) fun g l p => K.cs g l p) (bm3 fun _ _ p => decide (p.val < 192)) (bm3 fun _ _ p => decide (p.val < 128)) (bm3 fun _ _ p => decide (p.val < 64)) (up3 (φ := .f32) fun g l p => K.dy g l p) = (up3 (φ := .f32) fun g l _ => K.de 3 g l) := by
  simp -index only [k0_pay173, pay_170, pay_172, select_up3, select_low3, sum_8x128x256_2, cast_8x128_8x128x1]
  all_goals rfl
theorem pay_174 (K : Blk) : k0_pay174 (F := Ideal) (up3 (φ := .f32) fun g l p => K.cs g l p) (bm3 fun _ _ p => decide (p.val < 192)) (bm3 fun _ _ p => decide (p.val < 128)) (bm3 fun _ _ p => decide (p.val < 64)) (up3 (φ := .f32) fun g l p => K.dy g l p) = (up3 (φ := .f32) fun g l _ => K.de 2 g l) := by
  simp -index only [k0_pay174, pay_170, pay_172, select_up3, select_low3, sum_8x128x256_2, cast_8x128_8x128x1]
  all_goals rfl
theorem pay_175 : (k0_pay175 (F := Ideal)) = (up3 (φ := .f32) fun _ _ _ => 0) := by
  simp -index only [k0_pay175, ofBits_zero, broadcast_up3]
  all_goals rfl
theorem pay_176 (K : Blk) : k0_pay176 (F := Ideal) (bm3 fun _ p _ => decide (p.val < 64)) (up3 (φ := .f32) fun g p n => K.dS g p n) = (up3 (φ := .f32) fun g p n => if p.val < 64 then 0 else K.dS g p n) := by
  simp -index only [k0_pay176, pay_175, select_up3, select_low3]
  all_goals first | rfl | (simp only [decide_eq_true_eq, Finset.sum_ite_eq, Finset.sum_ite_eq', Finset.mem_univ, if_true, lane_sel, head0, head1, head2, head3] <;> rfl)
theorem pay_177 (K : Blk) : k0_pay177 (F := Ideal) (bm3 fun _ p _ => decide (p.val < 64)) (up3 (φ := .f32) fun g p n => K.dS g p n) = (up3 (φ := .f32) fun g p n => K.dSm 0 g p n) := by
  simp -index only [k0_pay177, pay_175, select_up3, select_low3]
  all_goals first | rfl | (simp only [decide_eq_true_eq, Finset.sum_ite_eq, Finset.sum_ite_eq', Finset.mem_univ, if_true, lane_sel, head0, head1, head2, head3] <;> rfl)
theorem pay_178 : (k0_pay178 (F := Ideal)) = (up3 (φ := .f32) fun _ _ _ => 0) := by
  simp -index only [k0_pay178, ofBits_zero, broadcast_up3]
  all_goals rfl
theorem pay_179 (K : Blk) : k0_pay179 (F := Ideal) (bm3 fun _ p _ => decide (p.val < 128)) (bm3 fun _ p _ => decide (p.val < 64)) (up3 (φ := .f32) fun g p n => K.dS g p n) = (up3 (φ := .f32) fun g p n => if p.val < 128 then 0 else if p.val < 64 then 0 else K.dS g p n) := by
  simp -index only [k0_pay179, pay_176, pay_178, select_up3, select_low3]
  all_goals first | rfl | (simp only [decide_eq_true_eq, Finset.sum_ite_eq, Finset.sum_ite_eq', Finset.mem_univ, if_true, lane_sel, head0, head1, head2, head3] <;> rfl)
theorem pay_180 (K : Blk) : k0_pay180 (F := Ideal) (bm3 fun _ p _ => decide (p.val < 128)) (bm3 fun _ p _ => decide (p.val < 64)) (up3 (φ := .f32) fun g p n => K.dS g p n) = (up3 (φ := .f32) fun g p n => K.dSm 1 g p n) := by
  simp -index only [k0_pay180, pay_176, pay_178, select_up3, select_low3]
  all_goals first | rfl | (simp only [decide_eq_true_eq, Finset.sum_ite_eq, Finset.sum_ite_eq', Finset.mem_univ, if_true, lane_sel, head0, head1, head2, head3] <;> rfl)
theorem pay_181 : (k0_pay181 (F := Ideal)) = (up3 (φ := .f32) fun _ _ _ => 0) := by
  simp -index only [k0_pay181, ofBits_zero, broadcast_up3]
  all_goals rfl
end Cert.Pay

end
-- ==== Proof.Pay3.lean ====
/- What each value of one chunk's computation is over the reals, at finite inputs. -/
module

public import proofs.«01_k».proof.Proof.Lift
public import proofs.«01_k».proof.Proof.Blk
public import proofs.«01_k».proof.Proof.Gen.KernelIdeal.Skeleton
public import proofs.«01_k».proof.Proof.Pay2

@[expose] public section

noncomputable section

namespace Cert.Pay

open Idealize.ShloMosaic Cert.KernelIdeal Cert.KernelIdeal.Gen Cert.Lift Cert.Blk

theorem pay_182 (K : Blk) : k0_pay182 (F := Ideal) (bm3 fun _ p _ => decide (p.val < 192)) (bm3 fun _ p _ => decide (p.val < 128)) (bm3 fun _ p _ => decide (p.val < 64)) (up3 (φ := .f32) fun g p n => K.dS g p n) = (up3 (φ := .f32) fun g p n => K.dSm 3 g p n) := by
  simp -index only [k0_pay182, pay_179, pay_181, select_up3, select_low3]
  all_goals first | rfl | (simp only [decide_eq_true_eq, Finset.sum_ite_eq, Finset.sum_ite_eq', Finset.mem_univ, if_true, lane_sel, head0, head1, head2, head3] <;> rfl)
theorem pay_183 (K : Blk) : k0_pay183 (F := Ideal) (bm3 fun _ p _ => decide (p.val < 192)) (bm3 fun _ p _ => decide (p.val < 128)) (bm3 fun _ p _ => decide (p.val < 64)) (up3 (φ := .f32) fun g p n => K.dS g p n) = (up3 (φ := .f32) fun g p n => K.dSm 2 g p n) := by
  simp -index only [k0_pay183, pay_179, pay_181, select_up3, select_low3]
  all_goals first | rfl | (simp only [decide_eq_true_eq, Finset.sum_ite_eq, Finset.sum_ite_eq', Finset.mem_univ, if_true, lane_sel, head0, head1, head2, head3] <;> rfl)
theorem pay_184 (K : Blk) : k0_pay184 (F := Ideal) (up3 (φ := .f32) fun g l n => K.b g l n * K.dst 3 g l) (bm3 fun _ p _ => decide (p.val < 192)) (bm3 fun _ p _ => decide (p.val < 128)) (bm3 fun _ p _ => decide (p.val < 64)) (up3 (φ := .f32) fun g p n => K.dS g p n) = (up3 (φ := .f32) fun g l p => K.dxds 3 g l p) := by
  simp -index only [k0_pay184, pay_182, truncf_up3, dot_8x128x128_8x256x128_22]
  all_goals rfl
theorem pay_185 (K : Blk) : k0_pay185 (F := Ideal) (up3 (φ := .f32) fun g l p => K.xd g l p) (bm3 fun _ p _ => decide (p.val < 192)) (bm3 fun _ p _ => decide (p.val < 128)) (bm3 fun _ p _ => decide (p.val < 64)) (up3 (φ := .f32) fun g p n => K.dS g p n) = (up3 (φ := .f32) fun g l n => K.dBst 3 g l n) := by
  simp -index only [k0_pay185, pay_182, truncf_up3, dot_8x128x256_8x256x128_21]
  all_goals rfl
theorem pay_186 (K : Blk) : k0_pay186 (F := Ideal) (up3 (φ := .f32) fun g l n => K.b g l n) (up3 (φ := .f32) fun g l p => K.xd g l p) (bm3 fun _ p _ => decide (p.val < 192)) (bm3 fun _ p _ => decide (p.val < 128)) (bm3 fun _ p _ => decide (p.val < 64)) (up3 (φ := .f32) fun g p n => K.dS g p n) = (up3 (φ := .f32) fun g l _ => K.ddst 3 g l) := by
  simp -index only [k0_pay186, pay_185, mulf_up3, sum_8x128x128_2, cast_8x128_8x128x1]
  all_goals rfl
theorem pay_187 (K : Blk) : k0_pay187 (F := Ideal) (up3 (φ := .f32) fun g l _ => K.dst 3 g l) (up3 (φ := .f32) fun g l p => K.xd g l p) (bm3 fun _ p _ => decide (p.val < 192)) (bm3 fun _ p _ => decide (p.val < 128)) (bm3 fun _ p _ => decide (p.val < 64)) (up3 (φ := .f32) fun g p n => K.dS g p n) = (up3 (φ := .f32) fun g l n => K.dBst 3 g l n * K.dst 3 g l) := by
  simp -index only [k0_pay187, pay_185, bcast_8x128x1_8x128x128, mulf_up3]
  all_goals rfl
theorem pay_188 (K : Blk) : k0_pay188 (F := Ideal) (up3 (φ := .f32) fun g l n => K.b g l n * K.dst 2 g l) (bm3 fun _ p _ => decide (p.val < 192)) (bm3 fun _ p _ => decide (p.val < 128)) (bm3 fun _ p _ => decide (p.val < 64)) (up3 (φ := .f32) fun g p n => K.dS g p n) = (up3 (φ := .f32) fun g l p => K.dxds 2 g l p) := by
  simp -index only [k0_pay188, pay_183, truncf_up3, dot_8x128x128_8x256x128_22]
  all_goals rfl
theorem pay_189 (K : Blk) : k0_pay189 (F := Ideal) (up3 (φ := .f32) fun g l p => K.xd g l p) (bm3 fun _ p _ => decide (p.val < 192)) (bm3 fun _ p _ => decide (p.val < 128)) (bm3 fun _ p _ => decide (p.val < 64)) (up3 (φ := .f32) fun g p n => K.dS g p n) = (up3 (φ := .f32) fun g l n => K.dBst 2 g l n) := by
  simp -index only [k0_pay189, pay_183, truncf_up3, dot_8x128x256_8x256x128_21]
  all_goals rfl
theorem pay_190 (K : Blk) : k0_pay190 (F := Ideal) (up3 (φ := .f32) fun g l n => K.b g l n) (up3 (φ := .f32) fun g l n => K.dBst 2 g l n) = (up3 (φ := .f32) fun g l _ => K.ddst 2 g l) := by
  simp -index only [k0_pay190, mulf_up3, sum_8x128x128_2, cast_8x128_8x128x1]
  all_goals rfl
theorem pay_191 (K : Blk) : k0_pay191 (F := Ideal) (up3 (φ := .f32) fun g l p => K.xd g l p) (up3 (φ := .f32) fun g p n => K.dSm 1 g p n) = (up3 (φ := .f32) fun g l n => K.dBst 1 g l n) := by
  simp -index only [k0_pay191, truncf_up3, dot_8x128x256_8x256x128_21]
  all_goals rfl
theorem pay_192 (K : Blk) : k0_pay192 (F := Ideal) (up3 (φ := .f32) fun g l n => K.b g l n) (up3 (φ := .f32) fun g l p => K.xd g l p) (up3 (φ := .f32) fun g p n => K.dSm 1 g p n) = (up3 (φ := .f32) fun g l _ => K.ddst 1 g l) := by
  simp -index only [k0_pay192, pay_191, mulf_up3, sum_8x128x128_2, cast_8x128_8x128x1]
  all_goals rfl
theorem pay_193 (K : Blk) : k0_pay193 (F := Ideal) (up3 (φ := .f32) fun g l p => K.xd g l p) (up3 (φ := .f32) fun g p n => K.dSm 0 g p n) = (up3 (φ := .f32) fun g l n => K.dBst 0 g l n) := by
  simp -index only [k0_pay193, truncf_up3, dot_8x128x256_8x256x128_21]
  all_goals rfl
theorem pay_194 (K : Blk) : k0_pay194 (F := Ideal) (up3 (φ := .f32) fun g l n => K.b g l n * K.dst 0 g l) (up3 (φ := .f32) fun g l n => K.b g l n * K.dst 1 g l) (up3 (φ := .f32) fun g p n => K.dSm 0 g p n) (up3 (φ := .f32) fun g p n => K.dSm 1 g p n) (up3 (φ := .f32) fun g l p => K.dxds 3 g l p) (up3 (φ := .f32) fun g l p => K.dxds 2 g l p) = (up3 (φ := .f32) fun g l p => K.dxds 3 g l p + K.dxds 2 g l p + K.dxds 1 g l p + K.dxds 0 g l p) := by
  simp -index only [k0_pay194, addf_up3, truncf_up3, dot_8x128x128_8x256x128_22]
  all_goals rfl
theorem pay_195 (K : Blk) : k0_pay195 (F := Ideal) (up3 (φ := .f32) fun g l n => K.b g l n) (up3 (φ := .f32) fun g l p => K.xd g l p) (up3 (φ := .f32) fun g p n => K.dSm 0 g p n) = (up3 (φ := .f32) fun g l _ => K.ddst 0 g l) := by
  simp -index only [k0_pay195, pay_193, mulf_up3, sum_8x128x128_2, cast_8x128_8x128x1]
  all_goals rfl
theorem pay_196 (K : Blk) : k0_pay196 (F := Ideal) (up3 (φ := .f32) fun g l _ => K.dst 0 g l) (up3 (φ := .f32) fun g l _ => K.dst 1 g l) (up3 (φ := .f32) fun g l _ => K.dst 2 g l) (up3 (φ := .f32) fun g l p => K.xd g l p) (up3 (φ := .f32) fun g p n => K.dSm 0 g p n) (up3 (φ := .f32) fun g p n => K.dSm 1 g p n) (up3 (φ := .f32) fun g l n => K.dBst 3 g l n * K.dst 3 g l) (up3 (φ := .f32) fun g l n => K.dBst 2 g l n) = (up3 (φ := .f32) fun g l n => K.dBs g l n) := by
  simp -index only [k0_pay196, pay_191, pay_193, bcast_8x128x1_8x128x128, mulf_up3, addf_up3]
  all_goals rfl
theorem pay_197 : (k0_pay197 (F := Ideal)) = (up3 (φ := .f32) fun _ _ _ => 0) := by
  simp -index only [k0_pay197, ofBits_zero, broadcast_up3]
  all_goals rfl
theorem pay_198 (K : Blk) : k0_pay198 (F := Ideal) (bm3 fun _ _ p => decide (p.val < 64)) (up3 (φ := .f32) fun g l p => K.dy g l p) = (up3 (φ := .f32) fun g l p => if p.val < 64 then 0 else K.dy g l p) := by
  simp -index only [k0_pay198, pay_197, select_up3, select_low3]
  all_goals first | rfl | (simp only [decide_eq_true_eq, Finset.sum_ite_eq, Finset.sum_ite_eq', Finset.mem_univ, if_true, lane_sel, head0, head1, head2, head3] <;> rfl)
theorem pay_199 (K : Blk) : k0_pay199 (F := Ideal) (bm3 fun _ _ p => decide (p.val < 64)) (up3 (φ := .f32) fun g l p => K.dy g l p) = (up3 (φ := .f32) fun g l p => K.dym 0 g l p) := by
  simp -index only [k0_pay199, pay_197, select_up3, select_low3]
  all_goals first | rfl | (simp only [decide_eq_true_eq, Finset.sum_ite_eq, Finset.sum_ite_eq', Finset.mem_univ, if_true, lane_sel, head0, head1, head2, head3] <;> rfl)
theorem pay_200 : (k0_pay200 (F := Ideal)) = (up3 (φ := .f32) fun _ _ _ => 0) := by
  simp -index only [k0_pay200, ofBits_zero, broadcast_up3]
  all_goals rfl
theorem pay_201 (K : Blk) : k0_pay201 (F := Ideal) (bm3 fun _ _ p => decide (p.val < 128)) (bm3 fun _ _ p => decide (p.val < 64)) (up3 (φ := .f32) fun g l p => K.dy g l p) = (up3 (φ := .f32) fun g l p => if p.val < 128 then 0 else if p.val < 64 then 0 else K.dy g l p) := by
  simp -index only [k0_pay201, pay_198, pay_200, select_up3, select_low3]
  all_goals first | rfl | (simp only [decide_eq_true_eq, Finset.sum_ite_eq, Finset.sum_ite_eq', Finset.mem_univ, if_true, lane_sel, head0, head1, head2, head3] <;> rfl)
theorem pay_202 (K : Blk) : k0_pay202 (F := Ideal) (bm3 fun _ _ p => decide (p.val < 128)) (bm3 fun _ _ p => decide (p.val < 64)) (up3 (φ := .f32) fun g l p => K.dy g l p) = (up3 (φ := .f32) fun g l p => K.dym 1 g l p) := by
  simp -index only [k0_pay202, pay_198, pay_200, select_up3, select_low3]
  all_goals first | rfl | (simp only [decide_eq_true_eq, Finset.sum_ite_eq, Finset.sum_ite_eq', Finset.mem_univ, if_true, lane_sel, head0, head1, head2, head3] <;> rfl)
theorem pay_203 : (k0_pay203 (F := Ideal)) = (up3 (φ := .f32) fun _ _ _ => 0) := by
  simp -index only [k0_pay203, ofBits_zero, broadcast_up3]
  all_goals rfl
theorem pay_204 (K : Blk) : k0_pay204 (F := Ideal) (bm3 fun _ _ p => decide (p.val < 192)) (bm3 fun _ _ p => decide (p.val < 128)) (bm3 fun _ _ p => decide (p.val < 64)) (up3 (φ := .f32) fun g l p => K.dy g l p) = (up3 (φ := .f32) fun g l p => K.dym 3 g l p) := by
  simp -index only [k0_pay204, pay_201, pay_203, select_up3, select_low3]
  all_goals first | rfl | (simp only [decide_eq_true_eq, Finset.sum_ite_eq, Finset.sum_ite_eq', Finset.mem_univ, if_true, lane_sel, head0, head1, head2, head3] <;> rfl)
theorem pay_205 (K : Blk) : k0_pay205 (F := Ideal) (bm3 fun _ _ p => decide (p.val < 192)) (bm3 fun _ _ p => decide (p.val < 128)) (bm3 fun _ _ p => decide (p.val < 64)) (up3 (φ := .f32) fun g l p => K.dy g l p) = (up3 (φ := .f32) fun g l p => K.dym 2 g l p) := by
  simp -index only [k0_pay205, pay_201, pay_203, select_up3, select_low3]
  all_goals first | rfl | (simp only [decide_eq_true_eq, Finset.sum_ite_eq, Finset.sum_ite_eq', Finset.mem_univ, if_true, lane_sel, head0, head1, head2, head3] <;> rfl)
theorem pay_206 (K : Blk) : k0_pay206 (F := Ideal) (up3 (φ := .f32) fun g l p => K.xd g l p) (bm3 fun _ _ p => decide (p.val < 192)) (bm3 fun _ _ p => decide (p.val < 128)) (bm3 fun _ _ p => decide (p.val < 64)) (up3 (φ := .f32) fun g l p => K.dy g l p) = (up3 (φ := .f32) fun g l s => K.dM 3 g l s) := by
  simp -index only [k0_pay206, pay_204, truncf_up3, dot_8x128x256_8x128x256_22]
  all_goals rfl
theorem pay_207 (K : Blk) : k0_pay207 (F := Ideal) (up3 (φ := .f32) fun g l s => K.cb g l s * K.L 3 g l s) (bm3 fun _ _ p => decide (p.val < 192)) (bm3 fun _ _ p => decide (p.val < 128)) (bm3 fun _ _ p => decide (p.val < 64)) (up3 (φ := .f32) fun g l p => K.dy g l p) = (up3 (φ := .f32) fun g s p => K.dxdm 3 g s p) := by
  simp -index only [k0_pay207, pay_204, truncf_up3, dot_8x128x128_8x128x256_11]
  all_goals rfl
theorem pay_208 (K : Blk) : k0_pay208 (F := Ideal) (up3 (φ := .f32) fun g l s => K.cb g l s) (up3 (φ := .f32) fun g l s => K.dM 3 g l s) = (up3 (φ := .f32) fun g l s => K.Q 3 g l s) := by
  simp -index only [k0_pay208, mulf_up3]
  all_goals rfl
theorem pay_209 (K : Blk) : k0_pay209 (F := Ideal) (up3 (φ := .f32) fun g l p => K.xd g l p) (up3 (φ := .f32) fun g l p => K.dym 2 g l p) = (up3 (φ := .f32) fun g l s => K.dM 2 g l s) := by
  simp -index only [k0_pay209, truncf_up3, dot_8x128x256_8x128x256_22]
  all_goals rfl
theorem pay_210 (K : Blk) : k0_pay210 (F := Ideal) (up3 (φ := .f32) fun g l s => K.cb g l s) (up3 (φ := .f32) fun g l p => K.xd g l p) (up3 (φ := .f32) fun g l p => K.dym 2 g l p) = (up3 (φ := .f32) fun g l s => K.Q 2 g l s) := by
  simp -index only [k0_pay210, pay_209, mulf_up3]
  all_goals rfl
theorem pay_211 (K : Blk) : k0_pay211 (F := Ideal) (up3 (φ := .f32) fun g l p => K.xd g l p) (up3 (φ := .f32) fun g l p => K.dym 1 g l p) = (up3 (φ := .f32) fun g l s => K.dM 1 g l s) := by
  simp -index only [k0_pay211, truncf_up3, dot_8x128x256_8x128x256_22]
  all_goals rfl
theorem pay_212 (K : Blk) : k0_pay212 (F := Ideal) (up3 (φ := .f32) fun g l s => K.cb g l s) (up3 (φ := .f32) fun g l p => K.xd g l p) (up3 (φ := .f32) fun g l p => K.dym 1 g l p) = (up3 (φ := .f32) fun g l s => K.Q 1 g l s) := by
  simp -index only [k0_pay212, pay_211, mulf_up3]
  all_goals rfl
theorem pay_213 (K : Blk) : k0_pay213 (F := Ideal) (up3 (φ := .f32) fun g l p => K.xd g l p) (up3 (φ := .f32) fun g l p => K.dym 0 g l p) = (up3 (φ := .f32) fun g l s => K.dM 0 g l s) := by
  simp -index only [k0_pay213, truncf_up3, dot_8x128x256_8x128x256_22]
  all_goals rfl
theorem pay_214 (K : Blk) : k0_pay214 (F := Ideal) (up3 (φ := .f32) fun g l s => K.cb g l s * K.L 0 g l s) (up3 (φ := .f32) fun g l s => K.cb g l s * K.L 1 g l s) (up3 (φ := .f32) fun g l s => K.cb g l s * K.L 2 g l s) (up3 (φ := .f32) fun g l p => K.dxds 3 g l p + K.dxds 2 g l p + K.dxds 1 g l p + K.dxds 0 g l p) (up3 (φ := .f32) fun g l p => K.dym 0 g l p) (up3 (φ := .f32) fun g l p => K.dym 1 g l p) (up3 (φ := .f32) fun g l p => K.dym 2 g l p) (up3 (φ := .f32) fun g s p => K.dxdm 3 g s p) = (up3 (φ := .f32) fun g l p => K.dxd g l p) := by
  simp -index only [k0_pay214, addf_up3, truncf_up3, dot_8x128x128_8x128x256_11]
  all_goals rfl
theorem pay_215 (K : Blk) : k0_pay215 (F := Ideal) (up3 (φ := .f32) fun g l s => K.cb g l s) (up3 (φ := .f32) fun g l p => K.xd g l p) (up3 (φ := .f32) fun g l p => K.dym 0 g l p) = (up3 (φ := .f32) fun g l s => K.Q 0 g l s) := by
  simp -index only [k0_pay215, pay_213, mulf_up3]
  all_goals rfl
theorem pay_216 (K : Blk) : k0_pay216 (F := Ideal) (up3 (φ := .f32) fun g l s => K.L 0 g l s) (up3 (φ := .f32) fun g l s => K.L 1 g l s) (up3 (φ := .f32) fun g l s => K.L 2 g l s) (up3 (φ := .f32) fun g l s => K.L 3 g l s) (up3 (φ := .f32) fun g l p => K.xd g l p) (up3 (φ := .f32) fun g l p => K.dym 0 g l p) (up3 (φ := .f32) fun g l p => K.dym 1 g l p) (up3 (φ := .f32) fun g l p => K.dym 2 g l p) (up3 (φ := .f32) fun g l s => K.dM 3 g l s) = (up3 (φ := .f32) fun g l s => K.dcb g l s) := by
  simp -index only [k0_pay216, pay_209, pay_211, pay_213, mulf_up3, addf_up3]
  all_goals rfl
theorem pay_217 (K : Blk) : k0_pay217 (F := Ideal) (up3 (φ := .f32) fun g l p => K.x g l p) (up3 (φ := .f32) fun g l s => K.cb g l s * K.L 0 g l s) (up3 (φ := .f32) fun g l s => K.cb g l s * K.L 1 g l s) (up3 (φ := .f32) fun g l s => K.cb g l s * K.L 2 g l s) (up3 (φ := .f32) fun g l p => K.dxds 3 g l p + K.dxds 2 g l p + K.dxds 1 g l p + K.dxds 0 g l p) (up3 (φ := .f32) fun g l p => K.dym 0 g l p) (up3 (φ := .f32) fun g l p => K.dym 1 g l p) (up3 (φ := .f32) fun g l p => K.dym 2 g l p) (up3 (φ := .f32) fun g s p => K.dxdm 3 g s p) = (up3 (φ := .f32) fun g l p => K.x g l p * K.dxd g l p) := by
  simp -index only [k0_pay217, pay_214, mulf_up3]
  all_goals rfl
theorem pay_218 (K : Blk) : k0_pay218 (F := Ideal) (up3 (φ := .f32) fun g l p => K.dt (hd p) g l) (up3 (φ := .f32) fun g l s => K.cb g l s * K.L 0 g l s) (up3 (φ := .f32) fun g l s => K.cb g l s * K.L 1 g l s) (up3 (φ := .f32) fun g l s => K.cb g l s * K.L 2 g l s) (up3 (φ := .f32) fun g l p => K.dy g l p * K.D (hd p) g) (up3 (φ := .f32) fun g l p => K.dxds 3 g l p + K.dxds 2 g l p + K.dxds 1 g l p + K.dxds 0 g l p) (up3 (φ := .f32) fun g l p => K.dym 0 g l p) (up3 (φ := .f32) fun g l p => K.dym 1 g l p) (up3 (φ := .f32) fun g l p => K.dym 2 g l p) (up3 (φ := .f32) fun g s p => K.dxdm 3 g s p) = (up3 (φ := .f32) fun g l p => K.dx g l p) := by
  simp -index only [k0_pay218, pay_214, mulf_up3, addf_up3]
  all_goals rfl
theorem pay_219 : (k0_pay219 (F := Ideal)) = (up3 (φ := .f32) fun _ _ _ => 0) := by
  simp -index only [k0_pay219, ofBits_zero, broadcast_up3]
  all_goals rfl
theorem pay_220 (K : Blk) : k0_pay220 (F := Ideal) (up3 (φ := .f32) fun g l p => K.x g l p) (bm3 fun _ _ p => decide (p.val < 64)) (up3 (φ := .f32) fun g l s => K.cb g l s * K.L 0 g l s) (up3 (φ := .f32) fun g l s => K.cb g l s * K.L 1 g l s) (up3 (φ := .f32) fun g l s => K.cb g l s * K.L 2 g l s) (up3 (φ := .f32) fun g l p => K.dxds 3 g l p + K.dxds 2 g l p + K.dxds 1 g l p + K.dxds 0 g l p) (up3 (φ := .f32) fun g l p => K.dym 0 g l p) (up3 (φ := .f32) fun g l p => K.dym 1 g l p) (up3 (φ := .f32) fun g l p => K.dym 2 g l p) (up3 (φ := .f32) fun g s p => K.dxdm 3 g s p) = (up3 (φ := .f32) fun g l p => if p.val < 64 then 0 else K.x g l p * K.dxd g l p) := by
  simp -index only [k0_pay220, pay_217, pay_219, select_up3, select_low3]
  all_goals first | rfl | (simp only [decide_eq_true_eq, Finset.sum_ite_eq, Finset.sum_ite_eq', Finset.mem_univ, if_true, lane_sel, head0, head1, head2, head3] <;> rfl)
theorem pay_221 (K : Blk) : k0_pay221 (F := Ideal) (up3 (φ := .f32) fun g l p => K.x g l p) (bm3 fun _ _ p => decide (p.val < 64)) (up3 (φ := .f32) fun g l s => K.cb g l s * K.L 0 g l s) (up3 (φ := .f32) fun g l s => K.cb g l s * K.L 1 g l s) (up3 (φ := .f32) fun g l s => K.cb g l s * K.L 2 g l s) (up3 (φ := .f32) fun g l p => K.dxds 3 g l p + K.dxds 2 g l p + K.dxds 1 g l p + K.dxds 0 g l p) (up3 (φ := .f32) fun g l p => K.dym 0 g l p) (up3 (φ := .f32) fun g l p => K.dym 1 g l p) (up3 (φ := .f32) fun g l p => K.dym 2 g l p) (up3 (φ := .f32) fun g s p => K.dxdm 3 g s p) = (up3 (φ := .f32) fun g l _ => K.ddtx 0 g l) := by
  simp -index only [k0_pay221, pay_217, pay_219, select_up3, select_low3, sum_8x128x256_2, cast_8x128_8x128x1]
  all_goals rfl
theorem pay_222 : (k0_pay222 (F := Ideal)) = (up3 (φ := .f32) fun _ _ _ => 0) := by
  simp -index only [k0_pay222, ofBits_zero, broadcast_up3]
  all_goals rfl
theorem pay_223 (K : Blk) : k0_pay223 (F := Ideal) (up3 (φ := .f32) fun g l p => K.x g l p) (bm3 fun _ _ p => decide (p.val < 128)) (bm3 fun _ _ p => decide (p.val < 64)) (up3 (φ := .f32) fun g l s => K.cb g l s * K.L 0 g l s) (up3 (φ := .f32) fun g l s => K.cb g l s * K.L 1 g l s) (up3 (φ := .f32) fun g l s => K.cb g l s * K.L 2 g l s) (up3 (φ := .f32) fun g l p => K.dxds 3 g l p + K.dxds 2 g l p + K.dxds 1 g l p + K.dxds 0 g l p) (up3 (φ := .f32) fun g l p => K.dym 0 g l p) (up3 (φ := .f32) fun g l p => K.dym 1 g l p) (up3 (φ := .f32) fun g l p => K.dym 2 g l p) (up3 (φ := .f32) fun g s p => K.dxdm 3 g s p) = (up3 (φ := .f32) fun g l p => if p.val < 128 then 0 else if p.val < 64 then 0 else K.x g l p * K.dxd g l p) := by
  simp -index only [k0_pay223, pay_220, pay_222, select_up3, select_low3]
  all_goals first | rfl | (simp only [decide_eq_true_eq, Finset.sum_ite_eq, Finset.sum_ite_eq', Finset.mem_univ, if_true, lane_sel, head0, head1, head2, head3] <;> rfl)
theorem pay_224 (K : Blk) : k0_pay224 (F := Ideal) (up3 (φ := .f32) fun g l p => K.x g l p) (bm3 fun _ _ p => decide (p.val < 128)) (bm3 fun _ _ p => decide (p.val < 64)) (up3 (φ := .f32) fun g l s => K.cb g l s * K.L 0 g l s) (up3 (φ := .f32) fun g l s => K.cb g l s * K.L 1 g l s) (up3 (φ := .f32) fun g l s => K.cb g l s * K.L 2 g l s) (up3 (φ := .f32) fun g l p => K.dxds 3 g l p + K.dxds 2 g l p + K.dxds 1 g l p + K.dxds 0 g l p) (up3 (φ := .f32) fun g l p => K.dym 0 g l p) (up3 (φ := .f32) fun g l p => K.dym 1 g l p) (up3 (φ := .f32) fun g l p => K.dym 2 g l p) (up3 (φ := .f32) fun g s p => K.dxdm 3 g s p) = (up3 (φ := .f32) fun g l _ => K.ddtx 1 g l) := by
  simp -index only [k0_pay224, pay_220, pay_222, select_up3, select_low3, sum_8x128x256_2, cast_8x128_8x128x1]
  all_goals rfl
theorem pay_225 : (k0_pay225 (F := Ideal)) = (up3 (φ := .f32) fun _ _ _ => 0) := by
  simp -index only [k0_pay225, ofBits_zero, broadcast_up3]
  all_goals rfl
theorem pay_226 (K : Blk) : k0_pay226 (F := Ideal) (up3 (φ := .f32) fun g l p => K.x g l p) (bm3 fun _ _ p => decide (p.val < 192)) (bm3 fun _ _ p => decide (p.val < 128)) (bm3 fun _ _ p => decide (p.val < 64)) (up3 (φ := .f32) fun g l s => K.cb g l s * K.L 0 g l s) (up3 (φ := .f32) fun g l s => K.cb g l s * K.L 1 g l s) (up3 (φ := .f32) fun g l s => K.cb g l s * K.L 2 g l s) (up3 (φ := .f32) fun g l p => K.dxds 3 g l p + K.dxds 2 g l p + K.dxds 1 g l p + K.dxds 0 g l p) (up3 (φ := .f32) fun g l p => K.dym 0 g l p) (up3 (φ := .f32) fun g l p => K.dym 1 g l p) (up3 (φ := .f32) fun g l p => K.dym 2 g l p) (up3 (φ := .f32) fun g s p => K.dxdm 3 g s p) = (up3 (φ := .f32) fun g l p => if hd p = 3 then K.x g l p * K.dxd g l p else 0) := by
  simp -index only [k0_pay226, pay_223, pay_225, select_up3, select_low3]
  all_goals first | rfl | (simp only [decide_eq_true_eq, Finset.sum_ite_eq, Finset.sum_ite_eq', Finset.mem_univ, if_true, lane_sel, head0, head1, head2, head3] <;> rfl)
theorem pay_227 (K : Blk) : k0_pay227 (F := Ideal) (up3 (φ := .f32) fun g l p => K.x g l p) (bm3 fun _ _ p => decide (p.val < 192)) (bm3 fun _ _ p => decide (p.val < 128)) (bm3 fun _ _ p => decide (p.val < 64)) (up3 (φ := .f32) fun g l s => K.cb g l s * K.L 0 g l s) (up3 (φ := .f32) fun g l s => K.cb g l s * K.L 1 g l s) (up3 (φ := .f32) fun g l s => K.cb g l s * K.L 2 g l s) (up3 (φ := .f32) fun g l p => K.dxds 3 g l p + K.dxds 2 g l p + K.dxds 1 g l p + K.dxds 0 g l p) (up3 (φ := .f32) fun g l p => K.dym 0 g l p) (up3 (φ := .f32) fun g l p => K.dym 1 g l p) (up3 (φ := .f32) fun g l p => K.dym 2 g l p) (up3 (φ := .f32) fun g s p => K.dxdm 3 g s p) = (up3 (φ := .f32) fun g l p => if hd p = 2 then K.x g l p * K.dxd g l p else 0) := by
  simp -index only [k0_pay227, pay_223, pay_225, select_up3, select_low3]
  all_goals first | rfl | (simp only [decide_eq_true_eq, Finset.sum_ite_eq, Finset.sum_ite_eq', Finset.mem_univ, if_true, lane_sel, head0, head1, head2, head3] <;> rfl)
theorem pay_228 (K : Blk) : k0_pay228 (F := Ideal) (up3 (φ := .f32) fun g l p => if hd p = 3 then K.x g l p * K.dxd g l p else 0) = (up3 (φ := .f32) fun g l _ => K.ddtx 3 g l) := by
  simp -index only [k0_pay228, sum_8x128x256_2, cast_8x128_8x128x1]
  all_goals rfl
theorem pay_229 (K : Blk) : k0_pay229 (F := Ideal) (up3 (φ := .f32) fun g l p => if hd p = 2 then K.x g l p * K.dxd g l p else 0) = (up3 (φ := .f32) fun g l _ => K.ddtx 2 g l) := by
  simp -index only [k0_pay229, sum_8x128x256_2, cast_8x128_8x128x1]
  all_goals rfl
theorem pay_230 (K : Blk) : k0_pay230 (F := Ideal) (bm3 fun _ l s => decide (s ≤ l)) (up3 (φ := .f32) fun g l s => K.L 3 g l s) (up3 (φ := .f32) fun g l s => K.Q 3 g l s) = (up3 (φ := .f32) fun g l s => K.Pm 3 g l s) := by
  simp -index only [k0_pay230, mulf_up3, ofBits_zero, broadcast_up3, select_up3, select_low3]
  all_goals first | rfl | (simp only [decide_eq_true_eq, Finset.sum_ite_eq, Finset.sum_ite_eq', Finset.mem_univ, if_true, lane_sel, head0, head1, head2, head3] <;> rfl)
theorem pay_231 (K : Blk) : k0_pay231 (F := Ideal) (bm3 fun _ l s => decide (s ≤ l)) (bm3 fun _ l s => decide (s ≤ l)) (up3 (φ := .f32) fun g l s => K.L 3 g l s) (up3 (φ := .f32) fun g l _ => K.ecs 3 g l) (up3 (φ := .f32) fun g l _ => K.dst 3 g l) (up3 (φ := .f32) fun g _ _ => K.edl 3 g) (up3 (φ := .f32) fun g _ _ => K.sds 3 g) (up3 (φ := .f32) fun g l _ => K.de 3 g l) (up3 (φ := .f32) fun g l _ => K.ddst 3 g l) (up3 (φ := .f32) fun g l s => K.Q 3 g l s) = (up3 (φ := .f32) fun g _ u => K.dlast 3 g + ∑ l, if u ≤ l then K.rowv 3 g l else 0) := by
  simp -index only [k0_pay231, pay_230, mulf_up3, sum_8x128x1_1, cast_8x1_8x1x1, ofBits_zero, broadcast_up3, subf_up3, addf_up3, sum_8x128x128_2, cast_8x128_8x128x1, sum_8x1x1_12, cast_8_8x1, bcast_8x1x1_8x1x128, sum_8x128x1_2, bcast_8x128x1_8x128x128, select_up3, select_low3, sum_8x128x128_1, cast_8x128_8x1x128]
  all_goals first | rfl | (simp only [decide_eq_true_eq, Finset.sum_ite_eq, Finset.sum_ite_eq', Finset.mem_univ, if_true, lane_sel, head0, head1, head2, head3] <;> rfl)
theorem pay_232 (K : Blk) : k0_pay232 (F := Ideal) (bm3 fun _ l s => decide (l ≤ s)) (bm3 fun _ l s => decide (s ≤ l)) (up3 (φ := .f32) fun g l s => K.L 3 g l s) (up3 (φ := .f32) fun g l s => K.Q 3 g l s) = (up3 (φ := .f32) fun g u _ => ∑ s, if u ≤ s then K.colv 3 g s else 0) := by
  simp -index only [k0_pay232, pay_230, ofBits_zero, broadcast_up3, subf_up3, sum_8x128x128_1, cast_8x128_8x1x128, sum_8x1x128_1, bcast_8x1x128_8x128x128, select_up3, select_low3, sum_8x128x128_2, cast_8x128_8x128x1, sum_8x128x1_2]
  all_goals first | rfl | (simp only [decide_eq_true_eq, Finset.sum_ite_eq, Finset.sum_ite_eq', Finset.mem_univ, if_true, lane_sel, head0, head1, head2, head3] <;> rfl)
theorem pay_233 (K : Blk) : k0_pay233 (F := Ideal) (bm3 fun _ l s => decide (l = s)) (up3 (φ := .f32) fun g _ u => K.dlast 3 g + ∑ l, if u ≤ l then K.rowv 3 g l else 0) (up3 (φ := .f32) fun g u _ => ∑ s, if u ≤ s then K.colv 3 g s else 0) = (up3 (φ := .f32) fun g _ u => K.dadt 3 g u) := by
  simp -index only [k0_pay233, bcast_8x128x1_8x128x128, ofBits_zero, broadcast_up3, select_up3, select_low3, sum_8x128x128_1, cast_8x128_8x1x128, addf_up3]
  all_goals first | rfl | (simp only [decide_eq_true_eq, Finset.sum_ite_eq, Finset.sum_ite_eq', Finset.mem_univ, if_true, lane_sel, head0, head1, head2, head3] <;> rfl)
theorem pay_234 (K : Blk) : k0_pay234 (F := Ideal) (up3 (φ := .f32) fun g _ l => K.dt 3 g l) (up3 (φ := .f32) fun g _ _ => Real.exp (K.al 3 g)) (bm3 fun _ l s => decide (l = s)) (up3 (φ := .f32) fun g _ u => K.dlast 3 g + ∑ l, if u ≤ l then K.rowv 3 g l else 0) (up3 (φ := .f32) fun g u _ => ∑ s, if u ≤ s then K.colv 3 g s else 0) = (up4 (φ := .f32) fun r g _ _ => if 3 ≤ r.val then K.dal r g else 0) := by
  simp only [k0_pay234]
  repeat first | rw [pay_233] | rw [mulf_up3] | rw [sum_8x1x128_2] | rw [cast_8x1_8x1x1] | rw [ofBits_zero] | rw [broadcast_up3] | rw [subf_up3] | rw [cast_8x1x1_1x8x1x1] | rw [broadcast_up4] | rw [stack_3_1_1]
  refine congrArg up4 (funext fun r => funext fun g => funext fun _ => funext fun _ => ?_)
  try simp only [decide_eq_true_eq, head0, head1, head2, head3]
  fin_cases r <;> simp [Blk.dD, Blk.dal, Blk.ddtb]
theorem pay_235 (K : Blk) : k0_pay235 (F := Ideal) (up3 (φ := .f32) fun g _ l => K.md 3 g l) (bm3 fun g _ l => decide (0 ≤ K.z 3 g l)) (up3 (φ := .f32) fun g _ l => Real.exp (0 - |K.z 3 g l|)) (up3 (φ := .f32) fun g _ l => 1 + Real.exp (0 - |K.z 3 g l|)) (up3 (φ := .f32) fun g _ _ => K.A 3 g) (bm3 fun _ l s => decide (l = s)) (bm3 fun _ l s => decide (l = s)) (up3 (φ := .f32) fun g l _ => K.ddtx 3 g l) (up3 (φ := .f32) fun g _ u => K.dlast 3 g + ∑ l, if u ≤ l then K.rowv 3 g l else 0) (up3 (φ := .f32) fun g u _ => ∑ s, if u ≤ s then K.colv 3 g s else 0) = (up3 (φ := .f32) fun g _ l => K.dz 3 g l) := by
  simp -index only [k0_pay235, pay_233, sum_8x128x1_2, cast_8x128_8x128x1, bcast_8x128x1_8x128x128, ofBits_zero, broadcast_up3, select_up3, select_low3, sum_8x128x128_1, cast_8x128_8x1x128, bcast_8x1x1_8x1x128, mulf_up3, addf_up3, divf_up3, subf_up3]
  all_goals first | rfl | (simp only [decide_eq_true_eq, Finset.sum_ite_eq, Finset.sum_ite_eq', Finset.mem_univ, if_true, lane_sel, head0, head1, head2, head3] <;> rfl)
theorem pay_236 (K : Blk) : k0_pay236 (F := Ideal) (up3 (φ := .f32) fun g _ l => K.md 3 g l) (bm3 fun g _ l => decide (0 ≤ K.z 3 g l)) (up3 (φ := .f32) fun g _ l => Real.exp (0 - |K.z 3 g l|)) (up3 (φ := .f32) fun g _ l => 1 + Real.exp (0 - |K.z 3 g l|)) (up3 (φ := .f32) fun g _ _ => K.A 3 g) (bm3 fun _ l s => decide (l = s)) (bm3 fun _ l s => decide (l = s)) (up3 (φ := .f32) fun g l _ => K.ddtx 3 g l) (up3 (φ := .f32) fun g _ u => K.dlast 3 g + ∑ l, if u ≤ l then K.rowv 3 g l else 0) (up3 (φ := .f32) fun g u _ => ∑ s, if u ≤ s then K.colv 3 g s else 0) = (up4 (φ := .f32) fun r g _ _ => if 3 ≤ r.val then K.ddtb r g else 0) := by
  simp only [k0_pay236]
  repeat first | rw [pay_235] | rw [sum_8x1x128_2] | rw [cast_8x1_8x1x1] | rw [cast_8x1x1_1x8x1x1] | rw [ofBits_zero] | rw [broadcast_up4] | rw [stack_3_1_1]
  refine congrArg up4 (funext fun r => funext fun g => funext fun _ => funext fun _ => ?_)
  try simp only [decide_eq_true_eq, head0, head1, head2, head3]
  fin_cases r <;> simp [Blk.dD, Blk.dal, Blk.ddtb]
theorem pay_237 (K : Blk) : k0_pay237 (F := Ideal) (up3 (φ := .f32) fun g _ l => K.md 3 g l) (bm3 fun g _ l => decide (0 ≤ K.z 3 g l)) (up3 (φ := .f32) fun g _ l => Real.exp (0 - |K.z 3 g l|)) (up3 (φ := .f32) fun g _ l => 1 + Real.exp (0 - |K.z 3 g l|)) (up3 (φ := .f32) fun g _ _ => K.A 3 g) (bm3 fun _ l s => decide (l = s)) (bm3 fun _ l s => decide (l = s)) (up3 (φ := .f32) fun g l _ => K.ddtx 3 g l) (up3 (φ := .f32) fun g _ u => K.dlast 3 g + ∑ l, if u ≤ l then K.rowv 3 g l else 0) (up3 (φ := .f32) fun g u _ => ∑ s, if u ≤ s then K.colv 3 g s else 0) = (up4 (φ := .f32) fun r g _ l => if 3 ≤ r.val then K.dz r g l else 0) := by
  simp only [k0_pay237]
  repeat first | rw [pay_235] | rw [cast_8x1x128_1x8x1x128] | rw [ofBits_zero] | rw [broadcast_up4] | rw [stack_3_1_128]
  refine congrArg up4 (funext fun r => funext fun g => funext fun _ => funext fun _ => ?_)
  try simp only [decide_eq_true_eq, head0, head1, head2, head3]
  fin_cases r <;> simp [Blk.dD, Blk.dal, Blk.ddtb]
theorem pay_238 (K : Blk) : k0_pay238 (F := Ideal) (up3 (φ := .f32) fun g _ _ => K.edl 2 g) (up3 (φ := .f32) fun g _ _ => K.sds 2 g) = (up3 (φ := .f32) fun g _ _ => K.sds 2 g * K.edl 2 g) := by
  simp -index only [k0_pay238, mulf_up3]
  all_goals rfl
theorem pay_239 (K : Blk) : k0_pay239 (F := Ideal) (bm3 fun _ l s => decide (s ≤ l)) (up3 (φ := .f32) fun g l s => K.L 2 g l s) (up3 (φ := .f32) fun g l s => K.Q 2 g l s) = (up3 (φ := .f32) fun g l s => K.Pm 2 g l s) := by
  simp -index only [k0_pay239, mulf_up3, ofBits_zero, broadcast_up3, select_up3, select_low3]
  all_goals first | rfl | (simp only [decide_eq_true_eq, Finset.sum_ite_eq, Finset.sum_ite_eq', Finset.mem_univ, if_true, lane_sel, head0, head1, head2, head3] <;> rfl)
theorem pay_240 (K : Blk) : k0_pay240 (F := Ideal) (bm3 fun _ l s => decide (s ≤ l)) (bm3 fun _ l s => decide (s ≤ l)) (up3 (φ := .f32) fun g l s => K.L 2 g l s) (up3 (φ := .f32) fun g l _ => K.ecs 2 g l) (up3 (φ := .f32) fun g l _ => K.dst 2 g l) (up3 (φ := .f32) fun g l _ => K.de 2 g l) (up3 (φ := .f32) fun g l _ => K.ddst 2 g l) (up3 (φ := .f32) fun g l s => K.Q 2 g l s) (up3 (φ := .f32) fun g _ _ => K.sds 2 g * K.edl 2 g) = (up3 (φ := .f32) fun g _ u => K.dlast 2 g + ∑ l, if u ≤ l then K.rowv 2 g l else 0) := by
  simp -index only [k0_pay240, pay_239, mulf_up3, sum_8x128x1_1, cast_8x1_8x1x1, ofBits_zero, broadcast_up3, subf_up3, addf_up3, sum_8x128x128_2, cast_8x128_8x128x1, sum_8x1x1_12, cast_8_8x1, bcast_8x1x1_8x1x128, sum_8x128x1_2, bcast_8x128x1_8x128x128, select_up3, select_low3, sum_8x128x128_1, cast_8x128_8x1x128]
  all_goals first | rfl | (simp only [decide_eq_true_eq, Finset.sum_ite_eq, Finset.sum_ite_eq', Finset.mem_univ, if_true, lane_sel, head0, head1, head2, head3] <;> rfl)
theorem pay_241 (K : Blk) : k0_pay241 (F := Ideal) (bm3 fun _ l s => decide (l = s)) (bm3 fun _ l s => decide (l ≤ s)) (bm3 fun _ l s => decide (s ≤ l)) (up3 (φ := .f32) fun g l s => K.L 2 g l s) (up3 (φ := .f32) fun g l s => K.Q 2 g l s) = (up3 (φ := .f32) fun g _ u => ∑ s, if u ≤ s then K.colv 2 g s else 0) := by
  simp -index only [k0_pay241, pay_239, ofBits_zero, broadcast_up3, subf_up3, sum_8x128x128_1, cast_8x128_8x1x128, sum_8x1x128_1, bcast_8x1x128_8x128x128, select_up3, select_low3, sum_8x128x128_2, cast_8x128_8x128x1, sum_8x128x1_2, bcast_8x128x1_8x128x128]
  all_goals first | rfl | (simp only [decide_eq_true_eq, Finset.sum_ite_eq, Finset.sum_ite_eq', Finset.mem_univ, if_true, lane_sel, head0, head1, head2, head3] <;> rfl)
theorem pay_242 (K : Blk) : k0_pay242 (F := Ideal) (up3 (φ := .f32) fun g _ u => K.dlast 2 g + ∑ l, if u ≤ l then K.rowv 2 g l else 0) (up3 (φ := .f32) fun g _ u => ∑ s, if u ≤ s then K.colv 2 g s else 0) = (up3 (φ := .f32) fun g _ u => K.dadt 2 g u) := by
  simp -index only [k0_pay242, addf_up3]
  all_goals rfl
theorem pay_243 (K : Blk) : k0_pay243 (F := Ideal) (up3 (φ := .f32) fun g _ l => K.dt 2 g l) (up3 (φ := .f32) fun g _ _ => Real.exp (K.al 2 g)) (up4 (φ := .f32) fun r g _ _ => if 3 ≤ r.val then K.dal r g else 0) (up3 (φ := .f32) fun g _ u => K.dlast 2 g + ∑ l, if u ≤ l then K.rowv 2 g l else 0) (up3 (φ := .f32) fun g _ u => ∑ s, if u ≤ s then K.colv 2 g s else 0) = (up4 (φ := .f32) fun r g _ _ => if 2 ≤ r.val then K.dal r g else 0) := by
  simp only [k0_pay243]
  repeat first | rw [pay_242] | rw [mulf_up3] | rw [sum_8x1x128_2] | rw [cast_8x1_8x1x1] | rw [ofBits_zero] | rw [broadcast_up3] | rw [subf_up3] | rw [cast_8x1x1_1x8x1x1] | rw [broadcast_up4] | rw [stack_2_1_1] | rw [stack_3_1_1] | rw [addf_up4]
  refine congrArg up4 (funext fun r => funext fun g => funext fun _ => funext fun _ => ?_)
  try simp only [decide_eq_true_eq, head0, head1, head2, head3]
  fin_cases r <;> simp [Blk.dD, Blk.dal, Blk.ddtb]
theorem pay_244 (K : Blk) : k0_pay244 (F := Ideal) (up3 (φ := .f32) fun g _ l => K.md 2 g l) (bm3 fun g _ l => decide (0 ≤ K.z 2 g l)) (up3 (φ := .f32) fun g _ l => Real.exp (0 - |K.z 2 g l|)) (up3 (φ := .f32) fun g _ l => 1 + Real.exp (0 - |K.z 2 g l|)) (up3 (φ := .f32) fun g _ _ => K.A 2 g) (bm3 fun _ l s => decide (l = s)) (up3 (φ := .f32) fun g l _ => K.ddtx 2 g l) (up3 (φ := .f32) fun g _ u => K.dlast 2 g + ∑ l, if u ≤ l then K.rowv 2 g l else 0) (up3 (φ := .f32) fun g _ u => ∑ s, if u ≤ s then K.colv 2 g s else 0) = (up3 (φ := .f32) fun g _ l => K.dz 2 g l) := by
  simp -index only [k0_pay244, pay_242, sum_8x128x1_2, cast_8x128_8x128x1, bcast_8x128x1_8x128x128, ofBits_zero, broadcast_up3, select_up3, select_low3, sum_8x128x128_1, cast_8x128_8x1x128, bcast_8x1x1_8x1x128, mulf_up3, addf_up3, divf_up3, subf_up3]
  all_goals first | rfl | (simp only [decide_eq_true_eq, Finset.sum_ite_eq, Finset.sum_ite_eq', Finset.mem_univ, if_true, lane_sel, head0, head1, head2, head3] <;> rfl)
theorem pay_245 (K : Blk) : k0_pay245 (F := Ideal) (up3 (φ := .f32) fun g _ l => K.md 2 g l) (bm3 fun g _ l => decide (0 ≤ K.z 2 g l)) (up3 (φ := .f32) fun g _ l => Real.exp (0 - |K.z 2 g l|)) (up3 (φ := .f32) fun g _ l => 1 + Real.exp (0 - |K.z 2 g l|)) (up3 (φ := .f32) fun g _ _ => K.A 2 g) (bm3 fun _ l s => decide (l = s)) (up3 (φ := .f32) fun g l _ => K.ddtx 2 g l) (up4 (φ := .f32) fun r g _ _ => if 3 ≤ r.val then K.ddtb r g else 0) (up3 (φ := .f32) fun g _ u => K.dlast 2 g + ∑ l, if u ≤ l then K.rowv 2 g l else 0) (up3 (φ := .f32) fun g _ u => ∑ s, if u ≤ s then K.colv 2 g s else 0) = (up4 (φ := .f32) fun r g _ _ => if 2 ≤ r.val then K.ddtb r g else 0) := by
  simp only [k0_pay245]
  repeat first | rw [pay_244] | rw [sum_8x1x128_2] | rw [cast_8x1_8x1x1] | rw [cast_8x1x1_1x8x1x1] | rw [ofBits_zero] | rw [broadcast_up4] | rw [stack_2_1_1] | rw [stack_3_1_1] | rw [addf_up4]
  refine congrArg up4 (funext fun r => funext fun g => funext fun _ => funext fun _ => ?_)
  try simp only [decide_eq_true_eq, head0, head1, head2, head3]
  fin_cases r <;> simp [Blk.dD, Blk.dal, Blk.ddtb]
theorem pay_246 (K : Blk) : k0_pay246 (F := Ideal) (up3 (φ := .f32) fun g _ l => K.md 2 g l) (bm3 fun g _ l => decide (0 ≤ K.z 2 g l)) (up3 (φ := .f32) fun g _ l => Real.exp (0 - |K.z 2 g l|)) (up3 (φ := .f32) fun g _ l => 1 + Real.exp (0 - |K.z 2 g l|)) (up3 (φ := .f32) fun g _ _ => K.A 2 g) (bm3 fun _ l s => decide (l = s)) (up3 (φ := .f32) fun g l _ => K.ddtx 2 g l) (up3 (φ := .f32) fun g _ u => K.dlast 2 g + ∑ l, if u ≤ l then K.rowv 2 g l else 0) (up3 (φ := .f32) fun g _ u => ∑ s, if u ≤ s then K.colv 2 g s else 0) = (up4 (φ := .f32) fun r g _ l => if r.val = 2 then K.dz r g l else 0) := by
  simp only [k0_pay246]
  repeat first | rw [pay_244] | rw [cast_8x1x128_1x8x1x128] | rw [ofBits_zero] | rw [broadcast_up4] | rw [stack_2_1_128] | rw [stack_3_1_128]
  refine congrArg up4 (funext fun r => funext fun g => funext fun _ => funext fun _ => ?_)
  try simp only [decide_eq_true_eq, head0, head1, head2, head3]
  fin_cases r <;> simp [Blk.dD, Blk.dal, Blk.ddtb]
theorem pay_247 (K : Blk) : k0_pay247 (F := Ideal) (up4 (φ := .f32) fun r g _ l => if 3 ≤ r.val then K.dz r g l else 0) (up4 (φ := .f32) fun r g _ l => if r.val = 2 then K.dz r g l else 0) = (up4 (φ := .f32) fun r g _ l => if 2 ≤ r.val then K.dz r g l else 0) := by
  simp only [k0_pay247]
  repeat first | rw [addf_up4]
  refine congrArg up4 (funext fun r => funext fun g => funext fun _ => funext fun _ => ?_)
  try simp only [decide_eq_true_eq, head0, head1, head2, head3]
  fin_cases r <;> simp [Blk.dD, Blk.dal, Blk.ddtb]
theorem pay_248 (K : Blk) : k0_pay248 (F := Ideal) (bm3 fun _ l s => decide (s ≤ l)) (up3 (φ := .f32) fun g l s => K.L 1 g l s) (up3 (φ := .f32) fun g l s => K.Q 1 g l s) = (up3 (φ := .f32) fun g l s => K.Pm 1 g l s) := by
  simp -index only [k0_pay248, mulf_up3, ofBits_zero, broadcast_up3, select_up3, select_low3]
  all_goals first | rfl | (simp only [decide_eq_true_eq, Finset.sum_ite_eq, Finset.sum_ite_eq', Finset.mem_univ, if_true, lane_sel, head0, head1, head2, head3] <;> rfl)
theorem pay_249 (K : Blk) : k0_pay249 (F := Ideal) (bm3 fun _ l s => decide (s ≤ l)) (bm3 fun _ l s => decide (s ≤ l)) (up3 (φ := .f32) fun g l s => K.L 1 g l s) (up3 (φ := .f32) fun g l _ => K.ecs 1 g l) (up3 (φ := .f32) fun g l _ => K.dst 1 g l) (up3 (φ := .f32) fun g _ _ => K.edl 1 g) (up3 (φ := .f32) fun g _ _ => K.sds 1 g) (up3 (φ := .f32) fun g l _ => K.de 1 g l) (up3 (φ := .f32) fun g l _ => K.ddst 1 g l) (up3 (φ := .f32) fun g l s => K.Q 1 g l s) = (up3 (φ := .f32) fun g _ u => K.dlast 1 g + ∑ l, if u ≤ l then K.rowv 1 g l else 0) := by
  simp -index only [k0_pay249, pay_248, mulf_up3, sum_8x128x1_1, cast_8x1_8x1x1, ofBits_zero, broadcast_up3, subf_up3, addf_up3, sum_8x128x128_2, cast_8x128_8x128x1, sum_8x1x1_12, cast_8_8x1, bcast_8x1x1_8x1x128, sum_8x128x1_2, bcast_8x128x1_8x128x128, select_up3, select_low3, sum_8x128x128_1, cast_8x128_8x1x128]
  all_goals first | rfl | (simp only [decide_eq_true_eq, Finset.sum_ite_eq, Finset.sum_ite_eq', Finset.mem_univ, if_true, lane_sel, head0, head1, head2, head3] <;> rfl)
theorem pay_250 (K : Blk) : k0_pay250 (F := Ideal) (bm3 fun _ l s => decide (l = s)) (bm3 fun _ l s => decide (l ≤ s)) (bm3 fun _ l s => decide (s ≤ l)) (up3 (φ := .f32) fun g l s => K.L 1 g l s) (up3 (φ := .f32) fun g l s => K.Q 1 g l s) = (up3 (φ := .f32) fun g u l => if u = l then ∑ s, if u ≤ s then K.colv 1 g s else 0 else 0) := by
  simp -index only [k0_pay250, pay_248, ofBits_zero, broadcast_up3, subf_up3, sum_8x128x128_1, cast_8x128_8x1x128, sum_8x1x128_1, bcast_8x1x128_8x128x128, select_up3, select_low3, sum_8x128x128_2, cast_8x128_8x128x1, sum_8x128x1_2, bcast_8x128x1_8x128x128]
  all_goals first | rfl | (simp only [decide_eq_true_eq, Finset.sum_ite_eq, Finset.sum_ite_eq', Finset.mem_univ, if_true, lane_sel, head0, head1, head2, head3] <;> rfl)
theorem pay_251 (K : Blk) : k0_pay251 (F := Ideal) (up3 (φ := .f32) fun g _ u => K.dlast 1 g + ∑ l, if u ≤ l then K.rowv 1 g l else 0) (up3 (φ := .f32) fun g u l => if u = l then ∑ s, if u ≤ s then K.colv 1 g s else 0 else 0) = (up3 (φ := .f32) fun g _ u => K.dadt 1 g u) := by
  simp -index only [k0_pay251, sum_8x128x128_1, cast_8x128_8x1x128, addf_up3]
  all_goals first | rfl | (simp only [decide_eq_true_eq, Finset.sum_ite_eq, Finset.sum_ite_eq', Finset.mem_univ, if_true, lane_sel, head0, head1, head2, head3] <;> rfl)
theorem pay_252 (K : Blk) : k0_pay252 (F := Ideal) (up3 (φ := .f32) fun g _ l => K.dt 1 g l) (up3 (φ := .f32) fun g _ _ => Real.exp (K.al 1 g)) (up4 (φ := .f32) fun r g _ _ => if 2 ≤ r.val then K.dal r g else 0) (up3 (φ := .f32) fun g _ u => K.dlast 1 g + ∑ l, if u ≤ l then K.rowv 1 g l else 0) (up3 (φ := .f32) fun g u l => if u = l then ∑ s, if u ≤ s then K.colv 1 g s else 0 else 0) = (up4 (φ := .f32) fun r g _ _ => if 1 ≤ r.val then K.dal r g else 0) := by
  simp only [k0_pay252]
  repeat first | rw [pay_251] | rw [mulf_up3] | rw [sum_8x1x128_2] | rw [cast_8x1_8x1x1] | rw [ofBits_zero] | rw [broadcast_up3] | rw [subf_up3] | rw [cast_8x1x1_1x8x1x1] | rw [broadcast_up4] | rw [stack_1_1_1] | rw [stack_2_2_1] | rw [addf_up4]
  refine congrArg up4 (funext fun r => funext fun g => funext fun _ => funext fun _ => ?_)
  try simp only [decide_eq_true_eq, head0, head1, head2, head3]
  fin_cases r <;> simp [Blk.dD, Blk.dal, Blk.ddtb]
theorem pay_253 (K : Blk) : k0_pay253 (F := Ideal) (up3 (φ := .f32) fun g _ l => K.md 1 g l) (bm3 fun g _ l => decide (0 ≤ K.z 1 g l)) (up3 (φ := .f32) fun g _ l => Real.exp (0 - |K.z 1 g l|)) (up3 (φ := .f32) fun g _ l => 1 + Real.exp (0 - |K.z 1 g l|)) (up3 (φ := .f32) fun g _ _ => K.A 1 g) (bm3 fun _ l s => decide (l = s)) (up3 (φ := .f32) fun g l _ => K.ddtx 1 g l) (up3 (φ := .f32) fun g _ u => K.dlast 1 g + ∑ l, if u ≤ l then K.rowv 1 g l else 0) (up3 (φ := .f32) fun g u l => if u = l then ∑ s, if u ≤ s then K.colv 1 g s else 0 else 0) = (up3 (φ := .f32) fun g _ l => K.dz 1 g l) := by
  simp -index only [k0_pay253, pay_251, sum_8x128x1_2, cast_8x128_8x128x1, bcast_8x128x1_8x128x128, ofBits_zero, broadcast_up3, select_up3, select_low3, sum_8x128x128_1, cast_8x128_8x1x128, bcast_8x1x1_8x1x128, mulf_up3, addf_up3, divf_up3, subf_up3]
  all_goals first | rfl | (simp only [decide_eq_true_eq, Finset.sum_ite_eq, Finset.sum_ite_eq', Finset.mem_univ, if_true, lane_sel, head0, head1, head2, head3] <;> rfl)
theorem pay_254 (K : Blk) : k0_pay254 (F := Ideal) (up3 (φ := .f32) fun g _ l => K.md 1 g l) (bm3 fun g _ l => decide (0 ≤ K.z 1 g l)) (up3 (φ := .f32) fun g _ l => Real.exp (0 - |K.z 1 g l|)) (up3 (φ := .f32) fun g _ l => 1 + Real.exp (0 - |K.z 1 g l|)) (up3 (φ := .f32) fun g _ _ => K.A 1 g) (bm3 fun _ l s => decide (l = s)) (up3 (φ := .f32) fun g l _ => K.ddtx 1 g l) (up4 (φ := .f32) fun r g _ _ => if 2 ≤ r.val then K.ddtb r g else 0) (up3 (φ := .f32) fun g _ u => K.dlast 1 g + ∑ l, if u ≤ l then K.rowv 1 g l else 0) (up3 (φ := .f32) fun g u l => if u = l then ∑ s, if u ≤ s then K.colv 1 g s else 0 else 0) = (up4 (φ := .f32) fun r g _ _ => if 1 ≤ r.val then K.ddtb r g else 0) := by
  simp only [k0_pay254]
  repeat first | rw [pay_253] | rw [sum_8x1x128_2] | rw [cast_8x1_8x1x1] | rw [cast_8x1x1_1x8x1x1] | rw [ofBits_zero] | rw [broadcast_up4] | rw [stack_1_1_1] | rw [stack_2_2_1] | rw [addf_up4]
  refine congrArg up4 (funext fun r => funext fun g => funext fun _ => funext fun _ => ?_)
  try simp only [decide_eq_true_eq, head0, head1, head2, head3]
  fin_cases r <;> simp [Blk.dD, Blk.dal, Blk.ddtb]
theorem pay_255 (K : Blk) : k0_pay255 (F := Ideal) (up3 (φ := .f32) fun g _ l => K.md 1 g l) (bm3 fun g _ l => decide (0 ≤ K.z 1 g l)) (up3 (φ := .f32) fun g _ l => Real.exp (0 - |K.z 1 g l|)) (up3 (φ := .f32) fun g _ l => 1 + Real.exp (0 - |K.z 1 g l|)) (up3 (φ := .f32) fun g _ _ => K.A 1 g) (bm3 fun _ l s => decide (l = s)) (up3 (φ := .f32) fun g l _ => K.ddtx 1 g l) (up3 (φ := .f32) fun g _ u => K.dlast 1 g + ∑ l, if u ≤ l then K.rowv 1 g l else 0) (up3 (φ := .f32) fun g u l => if u = l then ∑ s, if u ≤ s then K.colv 1 g s else 0 else 0) = (up4 (φ := .f32) fun r g _ l => if r.val = 1 then K.dz 1 g l else 0) := by
  simp only [k0_pay255]
  repeat first | rw [pay_253] | rw [cast_8x1x128_1x8x1x128] | rw [ofBits_zero] | rw [broadcast_up4] | rw [stack_1_1_128]
  refine congrArg up4 (funext fun r => funext fun g => funext fun _ => funext fun _ => ?_)
  try simp only [decide_eq_true_eq, head0, head1, head2, head3]
  fin_cases r <;> simp [Blk.dD, Blk.dal, Blk.ddtb]
theorem pay_256 (K : Blk) : k0_pay256 (F := Ideal) (up4 (φ := .f32) fun r g _ l => if 2 ≤ r.val then K.dz r g l else 0) ((0 : ℝ) : EReal) (up4 (φ := .f32) fun r g _ l => if r.val = 1 then K.dz 1 g l else 0) = (up4 (φ := .f32) fun r g _ l => if 1 ≤ r.val then K.dz r g l else 0) := by
  simp only [k0_pay256]
  repeat first | rw [broadcast_up4] | rw [stack_2_2_128] | rw [addf_up4]
  refine congrArg up4 (funext fun r => funext fun g => funext fun _ => funext fun _ => ?_)
  try simp only [decide_eq_true_eq, head0, head1, head2, head3]
  fin_cases r <;> simp [Blk.dD, Blk.dal, Blk.ddtb]
theorem pay_257 (K : Blk) : k0_pay257 (F := Ideal) (bm3 fun _ l s => decide (s ≤ l)) (up3 (φ := .f32) fun g l s => K.L 0 g l s) (up3 (φ := .f32) fun g l s => K.Q 0 g l s) = (up3 (φ := .f32) fun g l s => K.Pm 0 g l s) := by
  simp -index only [k0_pay257, mulf_up3, ofBits_zero, broadcast_up3, select_up3, select_low3]
  all_goals first | rfl | (simp only [decide_eq_true_eq, Finset.sum_ite_eq, Finset.sum_ite_eq', Finset.mem_univ, if_true, lane_sel, head0, head1, head2, head3] <;> rfl)
theorem pay_258 (K : Blk) : k0_pay258 (F := Ideal) (bm3 fun _ l s => decide (s ≤ l)) (bm3 fun _ l s => decide (s ≤ l)) (up3 (φ := .f32) fun g l s => K.L 0 g l s) (up3 (φ := .f32) fun g l _ => K.ecs 0 g l) (up3 (φ := .f32) fun g l _ => K.dst 0 g l) (up3 (φ := .f32) fun g _ _ => K.edl 0 g) (up3 (φ := .f32) fun g _ _ => K.sds 0 g) (up3 (φ := .f32) fun g l _ => K.de 0 g l) (up3 (φ := .f32) fun g l _ => K.ddst 0 g l) (up3 (φ := .f32) fun g l s => K.Q 0 g l s) = (up3 (φ := .f32) fun g _ u => K.dlast 0 g + ∑ l, if u ≤ l then K.rowv 0 g l else 0) := by
  simp -index only [k0_pay258, pay_257, mulf_up3, sum_8x128x1_1, cast_8x1_8x1x1, ofBits_zero, broadcast_up3, subf_up3, addf_up3, sum_8x128x128_2, cast_8x128_8x128x1, sum_8x1x1_12, cast_8_8x1, bcast_8x1x1_8x1x128, sum_8x128x1_2, bcast_8x128x1_8x128x128, select_up3, select_low3, sum_8x128x128_1, cast_8x128_8x1x128]
  all_goals first | rfl | (simp only [decide_eq_true_eq, Finset.sum_ite_eq, Finset.sum_ite_eq', Finset.mem_univ, if_true, lane_sel, head0, head1, head2, head3] <;> rfl)
theorem pay_259 (K : Blk) : k0_pay259 (F := Ideal) (bm3 fun _ l s => decide (l ≤ s)) (bm3 fun _ l s => decide (s ≤ l)) (up3 (φ := .f32) fun g l s => K.L 0 g l s) (up3 (φ := .f32) fun g l s => K.Q 0 g l s) = (up3 (φ := .f32) fun g u _ => ∑ s, if u ≤ s then K.colv 0 g s else 0) := by
  simp -index only [k0_pay259, pay_257, ofBits_zero, broadcast_up3, subf_up3, sum_8x128x128_1, cast_8x128_8x1x128, sum_8x1x128_1, bcast_8x1x128_8x128x128, select_up3, select_low3, sum_8x128x128_2, cast_8x128_8x128x1, sum_8x128x1_2, bcast_8x128x1_8x128x128]
  all_goals first | rfl | (simp only [decide_eq_true_eq, Finset.sum_ite_eq, Finset.sum_ite_eq', Finset.mem_univ, if_true, lane_sel, head0, head1, head2, head3] <;> rfl)
theorem pay_260 : (k0_pay260 (F := Ideal)) = (up3 (φ := .f32) fun _ _ _ => 0) := by
  simp -index only [k0_pay260, ofBits_zero, broadcast_up3]
  all_goals rfl
theorem pay_261 (K : Blk) : k0_pay261 (F := Ideal) (bm3 fun _ l s => decide (l = s)) (up3 (φ := .f32) fun g _ u => K.dlast 0 g + ∑ l, if u ≤ l then K.rowv 0 g l else 0) (up3 (φ := .f32) fun g u _ => ∑ s, if u ≤ s then K.colv 0 g s else 0) (up3 (φ := .f32) fun _ _ _ => 0) = (up3 (φ := .f32) fun g _ u => K.dadt 0 g u) := by
  simp -index only [k0_pay261, select_up3, select_low3, sum_8x128x128_1, cast_8x128_8x1x128, addf_up3]
  all_goals first | rfl | (simp only [decide_eq_true_eq, Finset.sum_ite_eq, Finset.sum_ite_eq', Finset.mem_univ, if_true, lane_sel, head0, head1, head2, head3] <;> rfl)
theorem pay_262 (K : Blk) : k0_pay262 (F := Ideal) (up3 (φ := .f32) fun g _ l => K.dt 0 g l) (up3 (φ := .f32) fun g _ _ => Real.exp (K.al 0 g)) (bm3 fun _ l s => decide (l = s)) (up4 (φ := .f32) fun r g _ _ => if 1 ≤ r.val then K.dal r g else 0) (up3 (φ := .f32) fun g _ u => K.dlast 0 g + ∑ l, if u ≤ l then K.rowv 0 g l else 0) (up3 (φ := .f32) fun g u _ => ∑ s, if u ≤ s then K.colv 0 g s else 0) (up3 (φ := .f32) fun _ _ _ => 0) = (up4 (φ := .f32) fun r g _ _ => K.dal r g) := by
  simp only [k0_pay262]
  repeat first | rw [pay_261] | rw [mulf_up3] | rw [sum_8x1x128_2] | rw [cast_8x1_8x1x1] | rw [ofBits_zero] | rw [broadcast_up3] | rw [subf_up3] | rw [cast_8x1x1_1x8x1x1] | rw [broadcast_up4] | rw [stack_1_3_1] | rw [addf_up4]
  refine congrArg up4 (funext fun r => funext fun g => funext fun _ => funext fun _ => ?_)
  try simp only [decide_eq_true_eq, head0, head1, head2, head3]
  fin_cases r <;> simp [Blk.dD, Blk.dal, Blk.ddtb]
theorem pay_263 (K : Blk) : k0_pay263 (F := Ideal) (up3 (φ := .f32) fun g _ l => K.md 0 g l) (bm3 fun g _ l => decide (0 ≤ K.z 0 g l)) (up3 (φ := .f32) fun g _ l => Real.exp (0 - |K.z 0 g l|)) (up3 (φ := .f32) fun g _ l => 1 + Real.exp (0 - |K.z 0 g l|)) (up3 (φ := .f32) fun g _ _ => K.A 0 g) (bm3 fun _ l s => decide (l = s)) (bm3 fun _ l s => decide (l = s)) (up3 (φ := .f32) fun g l _ => K.ddtx 0 g l) (up3 (φ := .f32) fun g _ u => K.dlast 0 g + ∑ l, if u ≤ l then K.rowv 0 g l else 0) (up3 (φ := .f32) fun g u _ => ∑ s, if u ≤ s then K.colv 0 g s else 0) (up3 (φ := .f32) fun _ _ _ => 0) = (up3 (φ := .f32) fun g _ l => K.dz 0 g l) := by
  simp -index only [k0_pay263, pay_261, sum_8x128x1_2, cast_8x128_8x128x1, bcast_8x128x1_8x128x128, ofBits_zero, broadcast_up3, select_up3, select_low3, sum_8x128x128_1, cast_8x128_8x1x128, bcast_8x1x1_8x1x128, mulf_up3, addf_up3, divf_up3, subf_up3]
  all_goals first | rfl | (simp only [decide_eq_true_eq, Finset.sum_ite_eq, Finset.sum_ite_eq', Finset.mem_univ, if_true, lane_sel, head0, head1, head2, head3] <;> rfl)
theorem pay_264 (K : Blk) : k0_pay264 (F := Ideal) (up3 (φ := .f32) fun g _ l => K.md 0 g l) (bm3 fun g _ l => decide (0 ≤ K.z 0 g l)) (up3 (φ := .f32) fun g _ l => Real.exp (0 - |K.z 0 g l|)) (up3 (φ := .f32) fun g _ l => 1 + Real.exp (0 - |K.z 0 g l|)) (up3 (φ := .f32) fun g _ _ => K.A 0 g) (bm3 fun _ l s => decide (l = s)) (bm3 fun _ l s => decide (l = s)) (up3 (φ := .f32) fun g l _ => K.ddtx 0 g l) (up4 (φ := .f32) fun r g _ _ => if 1 ≤ r.val then K.ddtb r g else 0) (up3 (φ := .f32) fun g _ u => K.dlast 0 g + ∑ l, if u ≤ l then K.rowv 0 g l else 0) (up3 (φ := .f32) fun g u _ => ∑ s, if u ≤ s then K.colv 0 g s else 0) (up3 (φ := .f32) fun _ _ _ => 0) = (up4 (φ := .f32) fun r g _ _ => K.ddtb r g) := by
  simp only [k0_pay264]
  repeat first | rw [pay_263] | rw [sum_8x1x128_2] | rw [cast_8x1_8x1x1] | rw [cast_8x1x1_1x8x1x1] | rw [ofBits_zero] | rw [broadcast_up4] | rw [stack_1_3_1] | rw [addf_up4]
  refine congrArg up4 (funext fun r => funext fun g => funext fun _ => funext fun _ => ?_)
  try simp only [decide_eq_true_eq, head0, head1, head2, head3]
  fin_cases r <;> simp [Blk.dD, Blk.dal, Blk.ddtb]
theorem pay_265 (K : Blk) : k0_pay265 (F := Ideal) (up3 (φ := .f32) fun g _ l => K.md 0 g l) (bm3 fun g _ l => decide (0 ≤ K.z 0 g l)) (up3 (φ := .f32) fun g _ l => Real.exp (0 - |K.z 0 g l|)) (up3 (φ := .f32) fun g _ l => 1 + Real.exp (0 - |K.z 0 g l|)) (up3 (φ := .f32) fun g _ _ => K.A 0 g) (bm3 fun _ l s => decide (l = s)) (bm3 fun _ l s => decide (l = s)) (up3 (φ := .f32) fun g l _ => K.ddtx 0 g l) (up4 (φ := .f32) fun r g _ l => if 1 ≤ r.val then K.dz r g l else 0) (up3 (φ := .f32) fun g _ u => K.dlast 0 g + ∑ l, if u ≤ l then K.rowv 0 g l else 0) (up3 (φ := .f32) fun g u _ => ∑ s, if u ≤ s then K.colv 0 g s else 0) (up3 (φ := .f32) fun _ _ _ => 0) = (up4 (φ := .f32) fun r g _ l => K.dz r g l) := by
  simp only [k0_pay265]
  repeat first | rw [pay_263] | rw [cast_8x1x128_1x8x1x128] | rw [ofBits_zero] | rw [broadcast_up4] | rw [stack_1_3_128] | rw [addf_up4]
  refine congrArg up4 (funext fun r => funext fun g => funext fun _ => funext fun _ => ?_)
  try simp only [decide_eq_true_eq, head0, head1, head2, head3]
  fin_cases r <;> simp [Blk.dD, Blk.dal, Blk.ddtb]
theorem pay_266 (K : Blk) : k0_pay266 (F := Ideal) (up3 (φ := .f32) fun g l p => K.dcs g l p) = (up3 (φ := .bf16) fun g l p => K.dcs g l p) := by
  simp -index only [k0_pay266, truncf_up3]
  all_goals rfl
theorem pay_267 (K : Blk) : k0_pay267 (F := Ideal) (up3 (φ := .f32) fun g l n => K.c g l n) (up3 (φ := .f32) fun g p n => K.dS g p n * K.edl (hd p) g) (up3 (φ := .f32) fun g l p => K.dcs g l p) = (up3 (φ := .f32) fun g p n => K.dSn g p n) := by
  simp -index only [k0_pay267, truncf_up3, dot_8x128x256_8x128x128_11, addf_up3]
  all_goals rfl
theorem pay_268 (K : Blk) : k0_pay268 (F := Ideal) (up3 (φ := .f32) fun g l n => K.b g l n) (up3 (φ := .f32) fun g p n => K.S g p n) (up3 (φ := .f32) fun g l s => K.dcb g l s) (up3 (φ := .bf16) fun g l p => K.dcs g l p) = (up3 (φ := .f32) fun g l n => K.dC g l n) := by
  simp -index only [k0_pay268, truncf_up3, dot_8x128x256_8x256x128_21, dot_8x128x128_8x128x128_21, addf_up3]
  all_goals rfl
theorem pay_269 (K : Blk) : k0_pay269 (F := Ideal) (up3 (φ := .f32) fun g l n => K.c g l n) (up3 (φ := .f32) fun g l n => K.dBs g l n) (up3 (φ := .f32) fun g l s => K.dcb g l s) = (up3 (φ := .f32) fun g l n => K.dB g l n) := by
  simp -index only [k0_pay269, truncf_up3, dot_8x128x128_8x128x128_11, addf_up3]
  all_goals rfl
theorem pay_270 (K : Blk) : k0_pay270 (F := Ideal) (up4 (φ := .f32) fun r g _ l => K.dz r g l) = (up5 (φ := .f32) fun _ r g _ l => K.dz r g l) := by
  simp -index only [k0_pay270, cast_4x8x1x128_1x4x8x1x128]
  all_goals rfl
theorem pay_271 (K : Blk) (q : Fin 4 → Fin 8 → ℝ) : k0_pay271 (F := Ideal) (up4 (φ := .f32) fun r g _ _ => K.ddtb r g) (up4 (φ := .f32) fun r g _ _ => q r g) = (up4 (φ := .f32) fun r g _ _ => q r g + K.ddtb r g) := by
  simp -index only [k0_pay271, shapeCast_self, addf_up4]
  all_goals rfl
end Cert.Pay

end
-- ==== Proof.BodyA.lean ====
/- What one grid point leaves in its outputs and in the carried gradient of the state, over the reals. -/
module

public import proofs.«01_k».proof.Proof.Pay3
public import proofs.«01_k».proof.Proof.Gen.KernelIdeal.Frame
public import Idealize.ShloMosaic.Lib.Pipeline.Value
public import Idealize.ShloMosaic.Lib.Tactic

@[expose] public section

set_option maxRecDepth 16384

noncomputable section

namespace Cert.Body

open Idealize.ShloMosaic Idealize.ShloMosaic.TcCoe Cert.KernelIdeal Cert.KernelIdeal.Gen Cert.Lift Cert.Pay

theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

variable (c : Dev nD) (i : grid0.Coords)  (arg2 : Memref sig .tc .vmem S8x128x256 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S1x4x8x1x128 .f32) (harg5 : arg5.IsWhole) (arg6 : Memref sig .tc .vmem S4x8x1x1 .f32) (harg6 : arg6.IsWhole) (arg7 : Memref sig .tc .vmem S4x8x1x1 .f32) (harg7 : arg7.IsWhole) (arg8 : Memref sig .tc .vmem S4x8x1x1 .f32) (harg8 : arg8.IsWhole) (arg9 : Memref sig .tc .vmem S1x8x256x128 .f32) (harg9 : arg9.IsWhole) (arg10 : Memref sig .tc .vmem S8x128x256 .f32) (harg10 : arg10.IsWhole) (arg11 : Memref sig .tc .vmem S8x128x256 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S1x4x8x1x128 .f32) (harg14 : arg14.IsWhole) (arg15 : Memref sig .tc .vmem S4x8x1x1 .f32) (harg15 : arg15.IsWhole) (arg16 : Memref sig .tc .vmem S4x8x1x1 .f32) (harg16 : arg16.IsWhole) (arg17 : Memref sig .tc .vmem S4x8x1x1 .f32) (harg17 : arg17.IsWhole) (arg18 : Memref sig .tc .vmem S8x256x128 .f32) (harg18 : arg18.IsWhole) (K : Blk)

theorem out0_A_9_eq (hc : cond0_0 i) (hK : ∀ g p n, K.dS g p n = 0)
    (x0 : Vec Ideal S8x128x256 .f32) (x1 : Vec Ideal S8x128x128 .f32) (x2 : Vec Ideal S8x128x128 .f32) (x3 : Vec Ideal S1x4x8x1x128 .f32) (x4 : Vec Ideal S4x8x1x1 .f32) (x5 : Vec Ideal S4x8x1x1 .f32) (x6 : Vec Ideal S4x8x1x1 .f32) (x7 : Vec Ideal S1x8x256x128 .f32) (x8 : Vec Ideal S8x128x256 .f32)
    (hx0 : x0 = (up3 (φ := .f32) fun g l p => K.x g l p)) (hx1 : x1 = (up3 (φ := .f32) fun g l n => K.b g l n)) (hx2 : x2 = (up3 (φ := .f32) fun g l n => K.c g l n)) (hx3 : x3 = (up5 (φ := .f32) fun _ r g _ l => K.raw r g l)) (hx4 : x4 = (up4 (φ := .f32) fun r g _ _ => K.bias r g)) (hx5 : x5 = (up4 (φ := .f32) fun r g _ _ => K.al r g)) (hx6 : x6 = (up4 (φ := .f32) fun r g _ _ => K.D r g)) (hx7 : x7 = (up4 (φ := .f32) fun _ g p n => K.S g p n)) (hx8 : x8 = (up3 (φ := .f32) fun g l p => K.dy g l p)) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 = up3 (φ := .f32) fun g l p => K.dx g l p := by
  unfold out0_A_9
  rw [View.read_writes_eq_canon _ _ _ (cover0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8)]
  unfold kernelRun0_A
  dsimp only
  sl_unfold_words
  rw [View.canon_unit_zero hz3]
  simp only [View.readAt_eq_ld, View.readCov_unit_zero (S := S8x256x128) _ hz3, View.readCov_unit_zero (S := S4x8x1x1) _ hz4, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S8x128x256) hz3, View.ld_unit_zero (S := S8x128x128) hz3, View.ld_unit_zero (S := S1x4x8x1x128) hz5, View.ld_unit_zero (S := S4x8x1x1) hz4, View.ld_unit_zero (S := S1x8x256x128) hz4, View.ld_unit_zero (S := S8x256x128) hz3, ofBits_zero]
  subst hx0 hx1 hx2 hx3 hx4 hx5 hx6 hx7 hx8
  have h4 : k0_pay4 (F := Ideal) = up3 (φ := .f32) fun g p n => K.dS g p n := by rw [pay_4]; simp only [hK]
  simp -index only [pay_1, pay_2, pay_3, pay_5, pay_6, pay_7, pay_8, pay_9, pay_10, pay_11, pay_12, pay_13, pay_14, pay_15, pay_16, pay_17, pay_18, pay_19, pay_20, pay_21, pay_22, pay_23, pay_24, pay_25, pay_26, pay_27, pay_28, pay_29, pay_30, pay_31, pay_32, pay_33, pay_34, pay_35, pay_36, pay_37, pay_38, pay_39, pay_40, pay_41, pay_42, pay_43, pay_44, pay_45, pay_46, pay_47, pay_48, pay_49, pay_50, pay_51, pay_52, pay_53, pay_54, pay_55, pay_56, pay_57, pay_58, pay_59, pay_60, pay_61, pay_62, pay_63, pay_64, pay_65, pay_66, pay_67, pay_68, pay_69, pay_70, pay_71, pay_72, pay_73, pay_74, pay_75, pay_76, pay_77, pay_78, pay_79, pay_80, pay_81, pay_82, pay_83, pay_84, pay_85, pay_86, pay_87, pay_88, pay_89, pay_90, pay_91, pay_92, pay_93, pay_94, pay_95, pay_96, pay_97, pay_98, pay_99, pay_100, pay_101, pay_102, pay_103, pay_104, pay_105, pay_106, pay_107, pay_108, pay_109, pay_110, pay_111, pay_112, pay_113, pay_114, pay_115, pay_116, pay_117, pay_118, pay_119, pay_120, pay_121, pay_122, pay_123, pay_124, pay_125, pay_126, pay_127, pay_128, pay_129, pay_130, pay_131, pay_132, pay_133, pay_134, pay_135, pay_136, pay_137, pay_138, pay_139, pay_140, pay_141, pay_142, pay_143, pay_144, pay_145, pay_146, pay_147, pay_148, pay_149, pay_150, pay_151, pay_152, pay_153, pay_154, pay_155, pay_156, pay_157, pay_158, pay_159, pay_160, pay_161, pay_162, pay_163, pay_164, pay_165, pay_166, pay_167, pay_168, pay_169, pay_170, pay_171, pay_172, pay_173, pay_174, pay_175, pay_176, pay_177, pay_178, pay_179, pay_180, pay_181, pay_182, pay_183, pay_184, pay_185, pay_186, pay_187, pay_188, pay_189, pay_190, pay_191, pay_192, pay_193, pay_194, pay_195, pay_196, pay_197, pay_198, pay_199, pay_200, pay_201, pay_202, pay_203, pay_204, pay_205, pay_206, pay_207, pay_208, pay_209, pay_210, pay_211, pay_212, pay_213, pay_214, pay_215, pay_216, pay_217, pay_218, pay_219, pay_220, pay_221, pay_222, pay_223, pay_224, pay_225, pay_226, pay_227, pay_228, pay_229, pay_230, pay_231, pay_232, pay_233, pay_234, pay_235, pay_236, pay_237, pay_238, pay_239, pay_240, pay_241, pay_242, pay_243, pay_244, pay_245, pay_246, pay_247, pay_248, pay_249, pay_250, pay_251, pay_252, pay_253, pay_254, pay_255, pay_256, pay_257, pay_258, pay_259, pay_260, pay_261, pay_262, pay_263, pay_264, pay_265, pay_266, pay_267, pay_268, pay_269, pay_270, pay_271, h4]
theorem out0_A_10_eq (hc : cond0_0 i) (hK : ∀ g p n, K.dS g p n = 0)
    (x0 : Vec Ideal S8x128x256 .f32) (x1 : Vec Ideal S8x128x128 .f32) (x2 : Vec Ideal S8x128x128 .f32) (x3 : Vec Ideal S1x4x8x1x128 .f32) (x4 : Vec Ideal S4x8x1x1 .f32) (x5 : Vec Ideal S4x8x1x1 .f32) (x6 : Vec Ideal S4x8x1x1 .f32) (x7 : Vec Ideal S1x8x256x128 .f32) (x8 : Vec Ideal S8x128x256 .f32)
    (hx0 : x0 = (up3 (φ := .f32) fun g l p => K.x g l p)) (hx1 : x1 = (up3 (φ := .f32) fun g l n => K.b g l n)) (hx2 : x2 = (up3 (φ := .f32) fun g l n => K.c g l n)) (hx3 : x3 = (up5 (φ := .f32) fun _ r g _ l => K.raw r g l)) (hx4 : x4 = (up4 (φ := .f32) fun r g _ _ => K.bias r g)) (hx5 : x5 = (up4 (φ := .f32) fun r g _ _ => K.al r g)) (hx6 : x6 = (up4 (φ := .f32) fun r g _ _ => K.D r g)) (hx7 : x7 = (up4 (φ := .f32) fun _ g p n => K.S g p n)) (hx8 : x8 = (up3 (φ := .f32) fun g l p => K.dy g l p)) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 = up3 (φ := .f32) fun g l n => K.dB g l n := by
  unfold out0_A_10
  rw [View.read_writes_eq_canon _ _ _ (cover0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8)]
  unfold kernelRun0_A
  dsimp only
  sl_unfold_words
  rw [View.canon_unit_zero hz3]
  simp only [View.readAt_eq_ld, View.readCov_unit_zero (S := S8x256x128) _ hz3, View.readCov_unit_zero (S := S4x8x1x1) _ hz4, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S8x128x256) hz3, View.ld_unit_zero (S := S8x128x128) hz3, View.ld_unit_zero (S := S1x4x8x1x128) hz5, View.ld_unit_zero (S := S4x8x1x1) hz4, View.ld_unit_zero (S := S1x8x256x128) hz4, View.ld_unit_zero (S := S8x256x128) hz3, ofBits_zero]
  subst hx0 hx1 hx2 hx3 hx4 hx5 hx6 hx7 hx8
  have h4 : k0_pay4 (F := Ideal) = up3 (φ := .f32) fun g p n => K.dS g p n := by rw [pay_4]; simp only [hK]
  simp -index only [pay_13, pay_8, pay_9, pay_10, pay_26, pay_39, pay_41, pay_42, pay_50, pay_55, pay_56, pay_63, pay_66, pay_68, pay_80, pay_83, pay_88, pay_14, pay_27, pay_28, pay_29, pay_30, pay_52, pay_95, pay_99, pay_100, pay_111, pay_77, pay_112, pay_116, pay_130, pay_131, h4, pay_146, pay_177, pay_129, pay_180, pay_98, pay_109, pay_128, pay_187, pay_189, pay_196, pay_15, pay_37, pay_54, pay_61, pay_82, pay_84, pay_86, pay_107, pay_123, pay_160, pay_199, pay_122, pay_202, pay_121, pay_205, pay_206, pay_216, pay_269]
theorem out0_A_11_eq (hc : cond0_0 i) (hK : ∀ g p n, K.dS g p n = 0)
    (x0 : Vec Ideal S8x128x256 .f32) (x1 : Vec Ideal S8x128x128 .f32) (x2 : Vec Ideal S8x128x128 .f32) (x3 : Vec Ideal S1x4x8x1x128 .f32) (x4 : Vec Ideal S4x8x1x1 .f32) (x5 : Vec Ideal S4x8x1x1 .f32) (x6 : Vec Ideal S4x8x1x1 .f32) (x7 : Vec Ideal S1x8x256x128 .f32) (x8 : Vec Ideal S8x128x256 .f32)
    (hx0 : x0 = (up3 (φ := .f32) fun g l p => K.x g l p)) (hx1 : x1 = (up3 (φ := .f32) fun g l n => K.b g l n)) (hx2 : x2 = (up3 (φ := .f32) fun g l n => K.c g l n)) (hx3 : x3 = (up5 (φ := .f32) fun _ r g _ l => K.raw r g l)) (hx4 : x4 = (up4 (φ := .f32) fun r g _ _ => K.bias r g)) (hx5 : x5 = (up4 (φ := .f32) fun r g _ _ => K.al r g)) (hx6 : x6 = (up4 (φ := .f32) fun r g _ _ => K.D r g)) (hx7 : x7 = (up4 (φ := .f32) fun _ g p n => K.S g p n)) (hx8 : x8 = (up3 (φ := .f32) fun g l p => K.dy g l p)) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 = up3 (φ := .f32) fun g l n => K.dC g l n := by
  unfold out0_A_11
  rw [View.read_writes_eq_canon _ _ _ (cover0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8)]
  unfold kernelRun0_A
  dsimp only
  sl_unfold_words
  rw [View.canon_unit_zero hz3]
  simp only [View.readAt_eq_ld, View.readCov_unit_zero (S := S8x256x128) _ hz3, View.readCov_unit_zero (S := S4x8x1x1) _ hz4, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S8x128x256) hz3, View.ld_unit_zero (S := S8x128x128) hz3, View.ld_unit_zero (S := S1x4x8x1x128) hz5, View.ld_unit_zero (S := S4x8x1x1) hz4, View.ld_unit_zero (S := S1x8x256x128) hz4, View.ld_unit_zero (S := S8x256x128) hz3, ofBits_zero]
  subst hx0 hx1 hx2 hx3 hx4 hx5 hx6 hx7 hx8
  have h4 : k0_pay4 (F := Ideal) = up3 (φ := .f32) fun g p n => K.dS g p n := by rw [pay_4]; simp only [hK]
  simp -index only [pay_12, pay_13, pay_14, pay_15, pay_8, pay_9, pay_10, pay_26, pay_37, pay_41, pay_42, pay_54, pay_55, pay_56, pay_61, pay_66, pay_68, pay_82, pay_84, pay_86, pay_98, pay_107, pay_27, pay_28, pay_29, pay_30, pay_52, pay_95, pay_99, pay_100, pay_111, pay_77, pay_112, pay_116, pay_123, pay_160, pay_199, pay_122, pay_202, pay_121, pay_205, pay_206, pay_216, pay_38, pay_62, pay_80, pay_87, pay_108, pay_135, pay_165, pay_266, pay_268]
theorem out0_A_12_eq (hc : cond0_0 i) (hK : ∀ g p n, K.dS g p n = 0)
    (x0 : Vec Ideal S8x128x256 .f32) (x1 : Vec Ideal S8x128x128 .f32) (x2 : Vec Ideal S8x128x128 .f32) (x3 : Vec Ideal S1x4x8x1x128 .f32) (x4 : Vec Ideal S4x8x1x1 .f32) (x5 : Vec Ideal S4x8x1x1 .f32) (x6 : Vec Ideal S4x8x1x1 .f32) (x7 : Vec Ideal S1x8x256x128 .f32) (x8 : Vec Ideal S8x128x256 .f32)
    (hx0 : x0 = (up3 (φ := .f32) fun g l p => K.x g l p)) (hx1 : x1 = (up3 (φ := .f32) fun g l n => K.b g l n)) (hx2 : x2 = (up3 (φ := .f32) fun g l n => K.c g l n)) (hx3 : x3 = (up5 (φ := .f32) fun _ r g _ l => K.raw r g l)) (hx4 : x4 = (up4 (φ := .f32) fun r g _ _ => K.bias r g)) (hx5 : x5 = (up4 (φ := .f32) fun r g _ _ => K.al r g)) (hx6 : x6 = (up4 (φ := .f32) fun r g _ _ => K.D r g)) (hx7 : x7 = (up4 (φ := .f32) fun _ g p n => K.S g p n)) (hx8 : x8 = (up3 (φ := .f32) fun g l p => K.dy g l p)) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 = up5 (φ := .f32) fun _ r g _ l => K.dz r g l := by
  unfold out0_A_12
  rw [View.read_writes_eq_canon _ _ _ (cover0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8)]
  unfold kernelRun0_A
  dsimp only
  sl_unfold_words
  rw [View.canon_unit_zero hz5]
  simp only [View.readAt_eq_ld, View.readCov_unit_zero (S := S8x256x128) _ hz3, View.readCov_unit_zero (S := S4x8x1x1) _ hz4, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S8x128x256) hz3, View.ld_unit_zero (S := S8x128x128) hz3, View.ld_unit_zero (S := S1x4x8x1x128) hz5, View.ld_unit_zero (S := S4x8x1x1) hz4, View.ld_unit_zero (S := S1x8x256x128) hz4, View.ld_unit_zero (S := S8x256x128) hz3, ofBits_zero]
  subst hx0 hx1 hx2 hx3 hx4 hx5 hx6 hx7 hx8
  have h4 : k0_pay4 (F := Ideal) = up3 (φ := .f32) fun g p n => K.dS g p n := by rw [pay_4]; simp only [hK]
  simp -index only [pay_8, pay_9, pay_19, pay_20, pay_21, pay_22, pay_10, pay_25, pay_14, pay_27, pay_31, pay_114, pay_16, pay_13, pay_15, pay_26, pay_37, pay_117, pay_41, pay_42, pay_54, pay_55, pay_56, pay_61, pay_118, pay_66, pay_68, pay_82, pay_84, pay_86, pay_119, pay_39, pay_124, pay_50, pay_63, pay_125, pay_130, pay_131, h4, pay_146, pay_177, pay_129, pay_180, pay_98, pay_109, pay_127, pay_128, pay_184, pay_80, pay_83, pay_88, pay_126, pay_188, pay_194, pay_123, pay_160, pay_199, pay_122, pay_202, pay_121, pay_205, pay_107, pay_120, pay_207, pay_221, pay_91, pay_92, pay_93, pay_94, pay_97, pay_99, pay_101, pay_111, pay_113, pay_226, pay_228, pay_102, pay_106, pay_108, pay_110, pay_12, pay_156, pay_158, pay_17, pay_132, pay_133, pay_134, pay_173, pay_28, pay_29, pay_30, pay_52, pay_95, pay_100, pay_77, pay_112, pay_116, pay_186, pay_206, pay_208, pay_231, pay_104, pay_232, pay_237, pay_67, pay_69, pay_70, pay_71, pay_74, pay_76, pay_227, pay_229, pay_79, pay_85, pay_87, pay_174, pay_189, pay_190, pay_210, pay_89, pay_157, pay_159, pay_238, pay_240, pay_78, pay_81, pay_241, pay_246, pay_247, pay_43, pay_44, pay_45, pay_46, pay_49, pay_51, pay_224, pay_60, pay_62, pay_64, pay_154, pay_171, pay_192, pay_212, pay_249, pay_53, pay_58, pay_250, pay_255, pay_256, pay_32, pay_36, pay_38, pay_40, pay_151, pay_168, pay_195, pay_215, pay_258, pay_34, pay_259, pay_260, pay_265, pay_270]
theorem out0_A_13_eq (hc : cond0_0 i) (hK : ∀ g p n, K.dS g p n = 0)
    (x0 : Vec Ideal S8x128x256 .f32) (x1 : Vec Ideal S8x128x128 .f32) (x2 : Vec Ideal S8x128x128 .f32) (x3 : Vec Ideal S1x4x8x1x128 .f32) (x4 : Vec Ideal S4x8x1x1 .f32) (x5 : Vec Ideal S4x8x1x1 .f32) (x6 : Vec Ideal S4x8x1x1 .f32) (x7 : Vec Ideal S1x8x256x128 .f32) (x8 : Vec Ideal S8x128x256 .f32)
    (hx0 : x0 = (up3 (φ := .f32) fun g l p => K.x g l p)) (hx1 : x1 = (up3 (φ := .f32) fun g l n => K.b g l n)) (hx2 : x2 = (up3 (φ := .f32) fun g l n => K.c g l n)) (hx3 : x3 = (up5 (φ := .f32) fun _ r g _ l => K.raw r g l)) (hx4 : x4 = (up4 (φ := .f32) fun r g _ _ => K.bias r g)) (hx5 : x5 = (up4 (φ := .f32) fun r g _ _ => K.al r g)) (hx6 : x6 = (up4 (φ := .f32) fun r g _ _ => K.D r g)) (hx7 : x7 = (up4 (φ := .f32) fun _ g p n => K.S g p n)) (hx8 : x8 = (up3 (φ := .f32) fun g l p => K.dy g l p)) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 = up4 (φ := .f32) fun r g _ _ => 0 + K.ddtb r g := by
  unfold out0_A_13
  rw [View.read_writes_eq_canon _ _ _ (cover0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8)]
  unfold kernelRun0_A
  dsimp only
  sl_unfold_words
  rw [View.canon_cons_unit_zero hz4]
  simp only [View.readAt_eq_ld, View.readCov_unit_zero (S := S8x256x128) _ hz3, View.readCov_unit_zero (S := S4x8x1x1) _ hz4, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S8x128x256) hz3, View.ld_unit_zero (S := S8x128x128) hz3, View.ld_unit_zero (S := S1x4x8x1x128) hz5, View.ld_unit_zero (S := S4x8x1x1) hz4, View.ld_unit_zero (S := S1x8x256x128) hz4, View.ld_unit_zero (S := S8x256x128) hz3, ofBits_zero]
  subst hx0 hx1 hx2 hx3 hx4 hx5 hx6 hx7 hx8
  have h4 : k0_pay4 (F := Ideal) = up3 (φ := .f32) fun g p n => K.dS g p n := by rw [pay_4]; simp only [hK]
  simp -index only [pay_8, pay_9, pay_19, pay_20, pay_21, pay_22, pay_10, pay_25, pay_14, pay_27, pay_31, pay_114, pay_16, pay_13, pay_15, pay_26, pay_37, pay_117, pay_41, pay_42, pay_54, pay_55, pay_56, pay_61, pay_118, pay_66, pay_68, pay_82, pay_84, pay_86, pay_119, pay_39, pay_124, pay_50, pay_63, pay_125, pay_130, pay_131, h4, pay_146, pay_177, pay_129, pay_180, pay_98, pay_109, pay_127, pay_128, pay_184, pay_80, pay_83, pay_88, pay_126, pay_188, pay_194, pay_123, pay_160, pay_199, pay_122, pay_202, pay_121, pay_205, pay_107, pay_120, pay_207, pay_221, pay_43, pay_44, pay_45, pay_46, pay_49, pay_51, pay_113, pay_224, pay_67, pay_69, pay_70, pay_71, pay_74, pay_76, pay_111, pay_227, pay_229, pay_91, pay_92, pay_93, pay_94, pay_97, pay_99, pay_101, pay_226, pay_228, pay_102, pay_106, pay_108, pay_110, pay_12, pay_156, pay_158, pay_17, pay_132, pay_133, pay_134, pay_173, pay_28, pay_29, pay_30, pay_52, pay_95, pay_100, pay_77, pay_112, pay_116, pay_186, pay_206, pay_208, pay_231, pay_104, pay_232, pay_236, pay_79, pay_85, pay_87, pay_174, pay_189, pay_190, pay_210, pay_89, pay_157, pay_159, pay_238, pay_240, pay_78, pay_81, pay_241, pay_245, pay_60, pay_62, pay_64, pay_154, pay_171, pay_192, pay_212, pay_249, pay_53, pay_58, pay_250, pay_254, pay_32, pay_36, pay_38, pay_40, pay_151, pay_168, pay_195, pay_215, pay_258, pay_34, pay_259, pay_260, pay_264, pay_5, pay_271]
theorem out0_A_14_eq (hc : cond0_0 i) (hK : ∀ g p n, K.dS g p n = 0)
    (x0 : Vec Ideal S8x128x256 .f32) (x1 : Vec Ideal S8x128x128 .f32) (x2 : Vec Ideal S8x128x128 .f32) (x3 : Vec Ideal S1x4x8x1x128 .f32) (x4 : Vec Ideal S4x8x1x1 .f32) (x5 : Vec Ideal S4x8x1x1 .f32) (x6 : Vec Ideal S4x8x1x1 .f32) (x7 : Vec Ideal S1x8x256x128 .f32) (x8 : Vec Ideal S8x128x256 .f32)
    (hx0 : x0 = (up3 (φ := .f32) fun g l p => K.x g l p)) (hx1 : x1 = (up3 (φ := .f32) fun g l n => K.b g l n)) (hx2 : x2 = (up3 (φ := .f32) fun g l n => K.c g l n)) (hx3 : x3 = (up5 (φ := .f32) fun _ r g _ l => K.raw r g l)) (hx4 : x4 = (up4 (φ := .f32) fun r g _ _ => K.bias r g)) (hx5 : x5 = (up4 (φ := .f32) fun r g _ _ => K.al r g)) (hx6 : x6 = (up4 (φ := .f32) fun r g _ _ => K.D r g)) (hx7 : x7 = (up4 (φ := .f32) fun _ g p n => K.S g p n)) (hx8 : x8 = (up3 (φ := .f32) fun g l p => K.dy g l p)) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 = up4 (φ := .f32) fun r g _ _ => 0 + K.dal r g := by
  unfold out0_A_14
  rw [View.read_writes_eq_canon _ _ _ (cover0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8)]
  unfold kernelRun0_A
  dsimp only
  sl_unfold_words
  rw [View.canon_cons_unit_zero hz4]
  simp only [View.readAt_eq_ld, View.readCov_unit_zero (S := S8x256x128) _ hz3, View.readCov_unit_zero (S := S4x8x1x1) _ hz4, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S8x128x256) hz3, View.ld_unit_zero (S := S8x128x128) hz3, View.ld_unit_zero (S := S1x4x8x1x128) hz5, View.ld_unit_zero (S := S4x8x1x1) hz4, View.ld_unit_zero (S := S1x8x256x128) hz4, View.ld_unit_zero (S := S8x256x128) hz3, ofBits_zero]
  subst hx0 hx1 hx2 hx3 hx4 hx5 hx6 hx7 hx8
  have h4 : k0_pay4 (F := Ideal) = up3 (φ := .f32) fun g p n => K.dS g p n := by rw [pay_4]; simp only [hK]
  simp -index only [pay_8, pay_9, pay_23, pay_10, pay_24, pay_14, pay_31, pay_41, pay_42, pay_47, pay_48, pay_66, pay_68, pay_72, pay_73, pay_95, pay_96, pay_101, pay_13, pay_102, pay_106, pay_15, pay_98, pay_107, pay_108, pay_109, pay_110, h4, pay_12, pay_156, pay_158, pay_17, pay_132, pay_133, pay_134, pay_160, pay_173, pay_27, pay_28, pay_29, pay_30, pay_52, pay_99, pay_100, pay_111, pay_77, pay_112, pay_116, pay_128, pay_129, pay_130, pay_131, pay_146, pay_186, pay_16, pay_121, pay_122, pay_123, pay_206, pay_208, pay_231, pay_104, pay_232, pay_234, pay_79, pay_85, pay_82, pay_84, pay_86, pay_80, pay_87, pay_83, pay_88, pay_174, pay_189, pay_190, pay_205, pay_210, pay_89, pay_157, pay_159, pay_238, pay_240, pay_78, pay_81, pay_241, pay_243, pay_55, pay_60, pay_54, pay_56, pay_61, pay_62, pay_50, pay_63, pay_64, pay_154, pay_171, pay_180, pay_192, pay_202, pay_212, pay_249, pay_53, pay_58, pay_250, pay_252, pay_32, pay_36, pay_26, pay_37, pay_38, pay_39, pay_40, pay_151, pay_168, pay_177, pay_195, pay_199, pay_215, pay_258, pay_34, pay_259, pay_260, pay_262, pay_6, pay_1]
theorem out0_A_15_eq (hc : cond0_0 i) (hK : ∀ g p n, K.dS g p n = 0)
    (x0 : Vec Ideal S8x128x256 .f32) (x1 : Vec Ideal S8x128x128 .f32) (x2 : Vec Ideal S8x128x128 .f32) (x3 : Vec Ideal S1x4x8x1x128 .f32) (x4 : Vec Ideal S4x8x1x1 .f32) (x5 : Vec Ideal S4x8x1x1 .f32) (x6 : Vec Ideal S4x8x1x1 .f32) (x7 : Vec Ideal S1x8x256x128 .f32) (x8 : Vec Ideal S8x128x256 .f32)
    (hx0 : x0 = (up3 (φ := .f32) fun g l p => K.x g l p)) (hx1 : x1 = (up3 (φ := .f32) fun g l n => K.b g l n)) (hx2 : x2 = (up3 (φ := .f32) fun g l n => K.c g l n)) (hx3 : x3 = (up5 (φ := .f32) fun _ r g _ l => K.raw r g l)) (hx4 : x4 = (up4 (φ := .f32) fun r g _ _ => K.bias r g)) (hx5 : x5 = (up4 (φ := .f32) fun r g _ _ => K.al r g)) (hx6 : x6 = (up4 (φ := .f32) fun r g _ _ => K.D r g)) (hx7 : x7 = (up4 (φ := .f32) fun _ g p n => K.S g p n)) (hx8 : x8 = (up3 (φ := .f32) fun g l p => K.dy g l p)) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 = up4 (φ := .f32) fun r g _ _ => 0 + K.dD r g := by
  unfold out0_A_15
  rw [View.read_writes_eq_canon _ _ _ (cover0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8)]
  unfold kernelRun0_A
  dsimp only
  sl_unfold_words
  rw [View.canon_cons_unit_zero hz4]
  simp only [View.readAt_eq_ld, View.readCov_unit_zero (S := S8x256x128) _ hz3, View.readCov_unit_zero (S := S4x8x1x1) _ hz4, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S8x128x256) hz3, View.ld_unit_zero (S := S8x128x128) hz3, View.ld_unit_zero (S := S1x4x8x1x128) hz5, View.ld_unit_zero (S := S4x8x1x1) hz4, View.ld_unit_zero (S := S1x8x256x128) hz4, View.ld_unit_zero (S := S8x256x128) hz3, ofBits_zero]
  subst hx0 hx1 hx2 hx3 hx4 hx5 hx6 hx7 hx8
  have h4 : k0_pay4 (F := Ideal) = up3 (φ := .f32) fun g p n => K.dS g p n := by rw [pay_4]; simp only [hK]
  simp -index only [pay_137, pay_138, pay_140, pay_163, pay_7, pay_2]
theorem sout0_A_0_eq (hc : cond0_0 i) (hK : ∀ g p n, K.dS g p n = 0)
    (x0 : Vec Ideal S8x128x256 .f32) (x1 : Vec Ideal S8x128x128 .f32) (x2 : Vec Ideal S8x128x128 .f32) (x3 : Vec Ideal S1x4x8x1x128 .f32) (x4 : Vec Ideal S4x8x1x1 .f32) (x5 : Vec Ideal S4x8x1x1 .f32) (x6 : Vec Ideal S4x8x1x1 .f32) (x7 : Vec Ideal S1x8x256x128 .f32) (x8 : Vec Ideal S8x128x256 .f32)
    (hx0 : x0 = (up3 (φ := .f32) fun g l p => K.x g l p)) (hx1 : x1 = (up3 (φ := .f32) fun g l n => K.b g l n)) (hx2 : x2 = (up3 (φ := .f32) fun g l n => K.c g l n)) (hx3 : x3 = (up5 (φ := .f32) fun _ r g _ l => K.raw r g l)) (hx4 : x4 = (up4 (φ := .f32) fun r g _ _ => K.bias r g)) (hx5 : x5 = (up4 (φ := .f32) fun r g _ _ => K.al r g)) (hx6 : x6 = (up4 (φ := .f32) fun r g _ _ => K.D r g)) (hx7 : x7 = (up4 (φ := .f32) fun _ g p n => K.S g p n)) (hx8 : x8 = (up3 (φ := .f32) fun g l p => K.dy g l p)) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 = up3 (φ := .f32) fun g p n => K.dSn g p n := by
  unfold sout0_A_0
  rw [View.read_writes_eq_canon _ _ _ (scover0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8)]
  unfold kernelRun0_A
  dsimp only
  sl_unfold_words
  rw [View.canon_cons_unit_zero hz3]
  simp only [View.readAt_eq_ld, View.readCov_unit_zero (S := S8x256x128) _ hz3, View.readCov_unit_zero (S := S4x8x1x1) _ hz4, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S8x128x256) hz3, View.ld_unit_zero (S := S8x128x128) hz3, View.ld_unit_zero (S := S1x4x8x1x128) hz5, View.ld_unit_zero (S := S4x8x1x1) hz4, View.ld_unit_zero (S := S1x8x256x128) hz4, View.ld_unit_zero (S := S8x256x128) hz3, ofBits_zero]
  subst hx0 hx1 hx2 hx3 hx4 hx5 hx6 hx7 hx8
  have h4 : k0_pay4 (F := Ideal) = up3 (φ := .f32) fun g p n => K.dS g p n := by rw [pay_4]; simp only [hK]
  simp -index only [h4, pay_8, pay_9, pay_10, pay_26, pay_40, pay_41, pay_42, pay_50, pay_64, pay_66, pay_68, pay_83, pay_89, pay_98, pay_110, pay_148, pay_13, pay_38, pay_55, pay_56, pay_62, pay_80, pay_87, pay_108, pay_135, pay_160, pay_165, pay_267, pay_3]

end Cert.Body

end
-- ==== Proof.BodyB.lean ====
/- What one grid point leaves in its outputs and in the carried gradient of the state, over the reals. -/
module

public import proofs.«01_k».proof.Proof.BodyA
public import proofs.«01_k».proof.Proof.Gen.KernelIdeal.Frame
public import Idealize.ShloMosaic.Lib.Pipeline.Value
public import Idealize.ShloMosaic.Lib.Tactic

@[expose] public section

set_option maxRecDepth 16384

noncomputable section

namespace Cert.Body

open Idealize.ShloMosaic Idealize.ShloMosaic.TcCoe Cert.KernelIdeal Cert.KernelIdeal.Gen Cert.Lift Cert.Pay

variable (c : Dev nD) (i : grid0.Coords)  (arg2 : Memref sig .tc .vmem S8x128x256 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S1x4x8x1x128 .f32) (harg5 : arg5.IsWhole) (arg6 : Memref sig .tc .vmem S4x8x1x1 .f32) (harg6 : arg6.IsWhole) (arg7 : Memref sig .tc .vmem S4x8x1x1 .f32) (harg7 : arg7.IsWhole) (arg8 : Memref sig .tc .vmem S4x8x1x1 .f32) (harg8 : arg8.IsWhole) (arg9 : Memref sig .tc .vmem S1x8x256x128 .f32) (harg9 : arg9.IsWhole) (arg10 : Memref sig .tc .vmem S8x128x256 .f32) (harg10 : arg10.IsWhole) (arg11 : Memref sig .tc .vmem S8x128x256 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S1x4x8x1x128 .f32) (harg14 : arg14.IsWhole) (arg15 : Memref sig .tc .vmem S4x8x1x1 .f32) (harg15 : arg15.IsWhole) (arg16 : Memref sig .tc .vmem S4x8x1x1 .f32) (harg16 : arg16.IsWhole) (arg17 : Memref sig .tc .vmem S4x8x1x1 .f32) (harg17 : arg17.IsWhole) (arg18 : Memref sig .tc .vmem S8x256x128 .f32) (harg18 : arg18.IsWhole) (K : Blk)

theorem out0_B_9_eq (hc : ¬cond0_0 i) (q13 q14 q15 : Fin 4 → Fin 8 → ℝ)
    (x0 : Vec Ideal S8x128x256 .f32) (x1 : Vec Ideal S8x128x128 .f32) (x2 : Vec Ideal S8x128x128 .f32) (x3 : Vec Ideal S1x4x8x1x128 .f32) (x4 : Vec Ideal S4x8x1x1 .f32) (x5 : Vec Ideal S4x8x1x1 .f32) (x6 : Vec Ideal S4x8x1x1 .f32) (x7 : Vec Ideal S1x8x256x128 .f32) (x8 : Vec Ideal S8x128x256 .f32) (xo13 : Vec Ideal S4x8x1x1 .f32) (xo14 : Vec Ideal S4x8x1x1 .f32) (xo15 : Vec Ideal S4x8x1x1 .f32) (xs0 : Vec Ideal S8x256x128 .f32)
    (hx0 : x0 = (up3 (φ := .f32) fun g l p => K.x g l p)) (hx1 : x1 = (up3 (φ := .f32) fun g l n => K.b g l n)) (hx2 : x2 = (up3 (φ := .f32) fun g l n => K.c g l n)) (hx3 : x3 = (up5 (φ := .f32) fun _ r g _ l => K.raw r g l)) (hx4 : x4 = (up4 (φ := .f32) fun r g _ _ => K.bias r g)) (hx5 : x5 = (up4 (φ := .f32) fun r g _ _ => K.al r g)) (hx6 : x6 = (up4 (φ := .f32) fun r g _ _ => K.D r g)) (hx7 : x7 = (up4 (φ := .f32) fun _ g p n => K.S g p n)) (hx8 : x8 = (up3 (φ := .f32) fun g l p => K.dy g l p)) (hxo13 : xo13 = (up4 (φ := .f32) fun r g _ _ => q13 r g)) (hxo14 : xo14 = (up4 (φ := .f32) fun r g _ _ => q14 r g)) (hxo15 : xo15 = (up4 (φ := .f32) fun r g _ _ => q15 r g)) (hxs0 : xs0 = (up3 (φ := .f32) fun g p n => K.dS g p n)) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 xo13 xo14 xo15 xs0 = up3 (φ := .f32) fun g l p => K.dx g l p := by
  unfold out0_B_9
  rw [View.read_writes_eq_canon _ _ _ (cover0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 xo13 xo14 xo15 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S8x128x256) hz3, View.ld_unit_zero (S := S8x128x128) hz3, View.ld_unit_zero (S := S1x4x8x1x128) hz5, View.ld_unit_zero (S := S4x8x1x1) hz4, View.ld_unit_zero (S := S1x8x256x128) hz4, View.ld_unit_zero (S := S8x256x128) hz3, ofBits_zero]
  subst hx0 hx1 hx2 hx3 hx4 hx5 hx6 hx7 hx8 hxo13 hxo14 hxo15 hxs0
  simp -index only [pay_1, pay_2, pay_3, pay_4, pay_5, pay_6, pay_7, pay_8, pay_9, pay_10, pay_11, pay_12, pay_13, pay_14, pay_15, pay_16, pay_17, pay_18, pay_19, pay_20, pay_21, pay_22, pay_23, pay_24, pay_25, pay_26, pay_27, pay_28, pay_29, pay_30, pay_31, pay_32, pay_33, pay_34, pay_35, pay_36, pay_37, pay_38, pay_39, pay_40, pay_41, pay_42, pay_43, pay_44, pay_45, pay_46, pay_47, pay_48, pay_49, pay_50, pay_51, pay_52, pay_53, pay_54, pay_55, pay_56, pay_57, pay_58, pay_59, pay_60, pay_61, pay_62, pay_63, pay_64, pay_65, pay_66, pay_67, pay_68, pay_69, pay_70, pay_71, pay_72, pay_73, pay_74, pay_75, pay_76, pay_77, pay_78, pay_79, pay_80, pay_81, pay_82, pay_83, pay_84, pay_85, pay_86, pay_87, pay_88, pay_89, pay_90, pay_91, pay_92, pay_93, pay_94, pay_95, pay_96, pay_97, pay_98, pay_99, pay_100, pay_101, pay_102, pay_103, pay_104, pay_105, pay_106, pay_107, pay_108, pay_109, pay_110, pay_111, pay_112, pay_113, pay_114, pay_115, pay_116, pay_117, pay_118, pay_119, pay_120, pay_121, pay_122, pay_123, pay_124, pay_125, pay_126, pay_127, pay_128, pay_129, pay_130, pay_131, pay_132, pay_133, pay_134, pay_135, pay_136, pay_137, pay_138, pay_139, pay_140, pay_141, pay_142, pay_143, pay_144, pay_145, pay_146, pay_147, pay_148, pay_149, pay_150, pay_151, pay_152, pay_153, pay_154, pay_155, pay_156, pay_157, pay_158, pay_159, pay_160, pay_161, pay_162, pay_163, pay_164, pay_165, pay_166, pay_167, pay_168, pay_169, pay_170, pay_171, pay_172, pay_173, pay_174, pay_175, pay_176, pay_177, pay_178, pay_179, pay_180, pay_181, pay_182, pay_183, pay_184, pay_185, pay_186, pay_187, pay_188, pay_189, pay_190, pay_191, pay_192, pay_193, pay_194, pay_195, pay_196, pay_197, pay_198, pay_199, pay_200, pay_201, pay_202, pay_203, pay_204, pay_205, pay_206, pay_207, pay_208, pay_209, pay_210, pay_211, pay_212, pay_213, pay_214, pay_215, pay_216, pay_217, pay_218, pay_219, pay_220, pay_221, pay_222, pay_223, pay_224, pay_225, pay_226, pay_227, pay_228, pay_229, pay_230, pay_231, pay_232, pay_233, pay_234, pay_235, pay_236, pay_237, pay_238, pay_239, pay_240, pay_241, pay_242, pay_243, pay_244, pay_245, pay_246, pay_247, pay_248, pay_249, pay_250, pay_251, pay_252, pay_253, pay_254, pay_255, pay_256, pay_257, pay_258, pay_259, pay_260, pay_261, pay_262, pay_263, pay_264, pay_265, pay_266, pay_267, pay_268, pay_269, pay_270, pay_271]
theorem out0_B_10_eq (hc : ¬cond0_0 i) (q13 q14 q15 : Fin 4 → Fin 8 → ℝ)
    (x0 : Vec Ideal S8x128x256 .f32) (x1 : Vec Ideal S8x128x128 .f32) (x2 : Vec Ideal S8x128x128 .f32) (x3 : Vec Ideal S1x4x8x1x128 .f32) (x4 : Vec Ideal S4x8x1x1 .f32) (x5 : Vec Ideal S4x8x1x1 .f32) (x6 : Vec Ideal S4x8x1x1 .f32) (x7 : Vec Ideal S1x8x256x128 .f32) (x8 : Vec Ideal S8x128x256 .f32) (xo13 : Vec Ideal S4x8x1x1 .f32) (xo14 : Vec Ideal S4x8x1x1 .f32) (xo15 : Vec Ideal S4x8x1x1 .f32) (xs0 : Vec Ideal S8x256x128 .f32)
    (hx0 : x0 = (up3 (φ := .f32) fun g l p => K.x g l p)) (hx1 : x1 = (up3 (φ := .f32) fun g l n => K.b g l n)) (hx2 : x2 = (up3 (φ := .f32) fun g l n => K.c g l n)) (hx3 : x3 = (up5 (φ := .f32) fun _ r g _ l => K.raw r g l)) (hx4 : x4 = (up4 (φ := .f32) fun r g _ _ => K.bias r g)) (hx5 : x5 = (up4 (φ := .f32) fun r g _ _ => K.al r g)) (hx6 : x6 = (up4 (φ := .f32) fun r g _ _ => K.D r g)) (hx7 : x7 = (up4 (φ := .f32) fun _ g p n => K.S g p n)) (hx8 : x8 = (up3 (φ := .f32) fun g l p => K.dy g l p)) (hxo13 : xo13 = (up4 (φ := .f32) fun r g _ _ => q13 r g)) (hxo14 : xo14 = (up4 (φ := .f32) fun r g _ _ => q14 r g)) (hxo15 : xo15 = (up4 (φ := .f32) fun r g _ _ => q15 r g)) (hxs0 : xs0 = (up3 (φ := .f32) fun g p n => K.dS g p n)) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 xo13 xo14 xo15 xs0 = up3 (φ := .f32) fun g l n => K.dB g l n := by
  unfold out0_B_10
  rw [View.read_writes_eq_canon _ _ _ (cover0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 xo13 xo14 xo15 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S8x128x256) hz3, View.ld_unit_zero (S := S8x128x128) hz3, View.ld_unit_zero (S := S1x4x8x1x128) hz5, View.ld_unit_zero (S := S4x8x1x1) hz4, View.ld_unit_zero (S := S1x8x256x128) hz4, View.ld_unit_zero (S := S8x256x128) hz3, ofBits_zero]
  subst hx0 hx1 hx2 hx3 hx4 hx5 hx6 hx7 hx8 hxo13 hxo14 hxo15 hxs0
  simp -index only [pay_13, pay_8, pay_9, pay_10, pay_26, pay_39, pay_41, pay_42, pay_50, pay_55, pay_56, pay_63, pay_66, pay_68, pay_80, pay_83, pay_88, pay_14, pay_27, pay_28, pay_29, pay_30, pay_52, pay_95, pay_99, pay_100, pay_111, pay_77, pay_112, pay_116, pay_130, pay_131, pay_146, pay_177, pay_129, pay_180, pay_98, pay_109, pay_128, pay_187, pay_189, pay_196, pay_15, pay_37, pay_54, pay_61, pay_82, pay_84, pay_86, pay_107, pay_123, pay_160, pay_199, pay_122, pay_202, pay_121, pay_205, pay_206, pay_216, pay_269]
theorem out0_B_11_eq (hc : ¬cond0_0 i) (q13 q14 q15 : Fin 4 → Fin 8 → ℝ)
    (x0 : Vec Ideal S8x128x256 .f32) (x1 : Vec Ideal S8x128x128 .f32) (x2 : Vec Ideal S8x128x128 .f32) (x3 : Vec Ideal S1x4x8x1x128 .f32) (x4 : Vec Ideal S4x8x1x1 .f32) (x5 : Vec Ideal S4x8x1x1 .f32) (x6 : Vec Ideal S4x8x1x1 .f32) (x7 : Vec Ideal S1x8x256x128 .f32) (x8 : Vec Ideal S8x128x256 .f32) (xo13 : Vec Ideal S4x8x1x1 .f32) (xo14 : Vec Ideal S4x8x1x1 .f32) (xo15 : Vec Ideal S4x8x1x1 .f32) (xs0 : Vec Ideal S8x256x128 .f32)
    (hx0 : x0 = (up3 (φ := .f32) fun g l p => K.x g l p)) (hx1 : x1 = (up3 (φ := .f32) fun g l n => K.b g l n)) (hx2 : x2 = (up3 (φ := .f32) fun g l n => K.c g l n)) (hx3 : x3 = (up5 (φ := .f32) fun _ r g _ l => K.raw r g l)) (hx4 : x4 = (up4 (φ := .f32) fun r g _ _ => K.bias r g)) (hx5 : x5 = (up4 (φ := .f32) fun r g _ _ => K.al r g)) (hx6 : x6 = (up4 (φ := .f32) fun r g _ _ => K.D r g)) (hx7 : x7 = (up4 (φ := .f32) fun _ g p n => K.S g p n)) (hx8 : x8 = (up3 (φ := .f32) fun g l p => K.dy g l p)) (hxo13 : xo13 = (up4 (φ := .f32) fun r g _ _ => q13 r g)) (hxo14 : xo14 = (up4 (φ := .f32) fun r g _ _ => q14 r g)) (hxo15 : xo15 = (up4 (φ := .f32) fun r g _ _ => q15 r g)) (hxs0 : xs0 = (up3 (φ := .f32) fun g p n => K.dS g p n)) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 xo13 xo14 xo15 xs0 = up3 (φ := .f32) fun g l n => K.dC g l n := by
  unfold out0_B_11
  rw [View.read_writes_eq_canon _ _ _ (cover0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 xo13 xo14 xo15 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S8x128x256) hz3, View.ld_unit_zero (S := S8x128x128) hz3, View.ld_unit_zero (S := S1x4x8x1x128) hz5, View.ld_unit_zero (S := S4x8x1x1) hz4, View.ld_unit_zero (S := S1x8x256x128) hz4, View.ld_unit_zero (S := S8x256x128) hz3, ofBits_zero]
  subst hx0 hx1 hx2 hx3 hx4 hx5 hx6 hx7 hx8 hxo13 hxo14 hxo15 hxs0
  simp -index only [pay_12, pay_13, pay_14, pay_15, pay_8, pay_9, pay_10, pay_26, pay_37, pay_41, pay_42, pay_54, pay_55, pay_56, pay_61, pay_66, pay_68, pay_82, pay_84, pay_86, pay_98, pay_107, pay_27, pay_28, pay_29, pay_30, pay_52, pay_95, pay_99, pay_100, pay_111, pay_77, pay_112, pay_116, pay_123, pay_160, pay_199, pay_122, pay_202, pay_121, pay_205, pay_206, pay_216, pay_38, pay_62, pay_80, pay_87, pay_108, pay_135, pay_165, pay_266, pay_268]
theorem out0_B_12_eq (hc : ¬cond0_0 i) (q13 q14 q15 : Fin 4 → Fin 8 → ℝ)
    (x0 : Vec Ideal S8x128x256 .f32) (x1 : Vec Ideal S8x128x128 .f32) (x2 : Vec Ideal S8x128x128 .f32) (x3 : Vec Ideal S1x4x8x1x128 .f32) (x4 : Vec Ideal S4x8x1x1 .f32) (x5 : Vec Ideal S4x8x1x1 .f32) (x6 : Vec Ideal S4x8x1x1 .f32) (x7 : Vec Ideal S1x8x256x128 .f32) (x8 : Vec Ideal S8x128x256 .f32) (xo13 : Vec Ideal S4x8x1x1 .f32) (xo14 : Vec Ideal S4x8x1x1 .f32) (xo15 : Vec Ideal S4x8x1x1 .f32) (xs0 : Vec Ideal S8x256x128 .f32)
    (hx0 : x0 = (up3 (φ := .f32) fun g l p => K.x g l p)) (hx1 : x1 = (up3 (φ := .f32) fun g l n => K.b g l n)) (hx2 : x2 = (up3 (φ := .f32) fun g l n => K.c g l n)) (hx3 : x3 = (up5 (φ := .f32) fun _ r g _ l => K.raw r g l)) (hx4 : x4 = (up4 (φ := .f32) fun r g _ _ => K.bias r g)) (hx5 : x5 = (up4 (φ := .f32) fun r g _ _ => K.al r g)) (hx6 : x6 = (up4 (φ := .f32) fun r g _ _ => K.D r g)) (hx7 : x7 = (up4 (φ := .f32) fun _ g p n => K.S g p n)) (hx8 : x8 = (up3 (φ := .f32) fun g l p => K.dy g l p)) (hxo13 : xo13 = (up4 (φ := .f32) fun r g _ _ => q13 r g)) (hxo14 : xo14 = (up4 (φ := .f32) fun r g _ _ => q14 r g)) (hxo15 : xo15 = (up4 (φ := .f32) fun r g _ _ => q15 r g)) (hxs0 : xs0 = (up3 (φ := .f32) fun g p n => K.dS g p n)) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 xo13 xo14 xo15 xs0 = up5 (φ := .f32) fun _ r g _ l => K.dz r g l := by
  unfold out0_B_12
  rw [View.read_writes_eq_canon _ _ _ (cover0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 xo13 xo14 xo15 xs0)]
  unfold kernelRun0_B
  dsimp only
  sl_unfold_words
  rw [View.canon_unit_zero hz5]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S8x128x256) hz3, View.ld_unit_zero (S := S8x128x128) hz3, View.ld_unit_zero (S := S1x4x8x1x128) hz5, View.ld_unit_zero (S := S4x8x1x1) hz4, View.ld_unit_zero (S := S1x8x256x128) hz4, View.ld_unit_zero (S := S8x256x128) hz3, ofBits_zero]
  subst hx0 hx1 hx2 hx3 hx4 hx5 hx6 hx7 hx8 hxo13 hxo14 hxo15 hxs0
  simp -index only [pay_8, pay_9, pay_19, pay_20, pay_21, pay_22, pay_10, pay_25, pay_14, pay_27, pay_31, pay_114, pay_16, pay_13, pay_15, pay_26, pay_37, pay_117, pay_41, pay_42, pay_54, pay_55, pay_56, pay_61, pay_118, pay_66, pay_68, pay_82, pay_84, pay_86, pay_119, pay_39, pay_124, pay_50, pay_63, pay_125, pay_130, pay_131, pay_146, pay_177, pay_129, pay_180, pay_98, pay_109, pay_127, pay_128, pay_184, pay_80, pay_83, pay_88, pay_126, pay_188, pay_194, pay_123, pay_160, pay_199, pay_122, pay_202, pay_121, pay_205, pay_107, pay_120, pay_207, pay_221, pay_91, pay_92, pay_93, pay_94, pay_97, pay_99, pay_101, pay_111, pay_113, pay_226, pay_228, pay_102, pay_106, pay_108, pay_110, pay_12, pay_156, pay_158, pay_17, pay_132, pay_133, pay_134, pay_173, pay_28, pay_29, pay_30, pay_52, pay_95, pay_100, pay_77, pay_112, pay_116, pay_186, pay_206, pay_208, pay_231, pay_104, pay_232, pay_237, pay_67, pay_69, pay_70, pay_71, pay_74, pay_76, pay_227, pay_229, pay_79, pay_85, pay_87, pay_174, pay_189, pay_190, pay_210, pay_89, pay_157, pay_159, pay_238, pay_240, pay_78, pay_81, pay_241, pay_246, pay_247, pay_43, pay_44, pay_45, pay_46, pay_49, pay_51, pay_224, pay_60, pay_62, pay_64, pay_154, pay_171, pay_192, pay_212, pay_249, pay_53, pay_58, pay_250, pay_255, pay_256, pay_32, pay_36, pay_38, pay_40, pay_151, pay_168, pay_195, pay_215, pay_258, pay_34, pay_259, pay_260, pay_265, pay_270]
theorem out0_B_13_eq (hc : ¬cond0_0 i) (q13 q14 q15 : Fin 4 → Fin 8 → ℝ)
    (x0 : Vec Ideal S8x128x256 .f32) (x1 : Vec Ideal S8x128x128 .f32) (x2 : Vec Ideal S8x128x128 .f32) (x3 : Vec Ideal S1x4x8x1x128 .f32) (x4 : Vec Ideal S4x8x1x1 .f32) (x5 : Vec Ideal S4x8x1x1 .f32) (x6 : Vec Ideal S4x8x1x1 .f32) (x7 : Vec Ideal S1x8x256x128 .f32) (x8 : Vec Ideal S8x128x256 .f32) (xo13 : Vec Ideal S4x8x1x1 .f32) (xo14 : Vec Ideal S4x8x1x1 .f32) (xo15 : Vec Ideal S4x8x1x1 .f32) (xs0 : Vec Ideal S8x256x128 .f32)
    (hx0 : x0 = (up3 (φ := .f32) fun g l p => K.x g l p)) (hx1 : x1 = (up3 (φ := .f32) fun g l n => K.b g l n)) (hx2 : x2 = (up3 (φ := .f32) fun g l n => K.c g l n)) (hx3 : x3 = (up5 (φ := .f32) fun _ r g _ l => K.raw r g l)) (hx4 : x4 = (up4 (φ := .f32) fun r g _ _ => K.bias r g)) (hx5 : x5 = (up4 (φ := .f32) fun r g _ _ => K.al r g)) (hx6 : x6 = (up4 (φ := .f32) fun r g _ _ => K.D r g)) (hx7 : x7 = (up4 (φ := .f32) fun _ g p n => K.S g p n)) (hx8 : x8 = (up3 (φ := .f32) fun g l p => K.dy g l p)) (hxo13 : xo13 = (up4 (φ := .f32) fun r g _ _ => q13 r g)) (hxo14 : xo14 = (up4 (φ := .f32) fun r g _ _ => q14 r g)) (hxo15 : xo15 = (up4 (φ := .f32) fun r g _ _ => q15 r g)) (hxs0 : xs0 = (up3 (φ := .f32) fun g p n => K.dS g p n)) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 xo13 xo14 xo15 xs0 = up4 (φ := .f32) fun r g _ _ => q13 r g + K.ddtb r g := by
  unfold out0_B_13
  rw [View.read_writes_eq_canon _ _ _ (cover0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 xo13 xo14 xo15 xs0)]
  unfold kernelRun0_B
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S8x128x256) hz3, View.ld_unit_zero (S := S8x128x128) hz3, View.ld_unit_zero (S := S1x4x8x1x128) hz5, View.ld_unit_zero (S := S4x8x1x1) hz4, View.ld_unit_zero (S := S1x8x256x128) hz4, View.ld_unit_zero (S := S8x256x128) hz3, ofBits_zero]
  subst hx0 hx1 hx2 hx3 hx4 hx5 hx6 hx7 hx8 hxo13 hxo14 hxo15 hxs0
  simp -index only [pay_8, pay_9, pay_19, pay_20, pay_21, pay_22, pay_10, pay_25, pay_14, pay_27, pay_31, pay_114, pay_16, pay_13, pay_15, pay_26, pay_37, pay_117, pay_41, pay_42, pay_54, pay_55, pay_56, pay_61, pay_118, pay_66, pay_68, pay_82, pay_84, pay_86, pay_119, pay_39, pay_124, pay_50, pay_63, pay_125, pay_130, pay_131, pay_146, pay_177, pay_129, pay_180, pay_98, pay_109, pay_127, pay_128, pay_184, pay_80, pay_83, pay_88, pay_126, pay_188, pay_194, pay_123, pay_160, pay_199, pay_122, pay_202, pay_121, pay_205, pay_107, pay_120, pay_207, pay_221, pay_43, pay_44, pay_45, pay_46, pay_49, pay_51, pay_113, pay_224, pay_67, pay_69, pay_70, pay_71, pay_74, pay_76, pay_111, pay_227, pay_229, pay_91, pay_92, pay_93, pay_94, pay_97, pay_99, pay_101, pay_226, pay_228, pay_102, pay_106, pay_108, pay_110, pay_12, pay_156, pay_158, pay_17, pay_132, pay_133, pay_134, pay_173, pay_28, pay_29, pay_30, pay_52, pay_95, pay_100, pay_77, pay_112, pay_116, pay_186, pay_206, pay_208, pay_231, pay_104, pay_232, pay_236, pay_79, pay_85, pay_87, pay_174, pay_189, pay_190, pay_210, pay_89, pay_157, pay_159, pay_238, pay_240, pay_78, pay_81, pay_241, pay_245, pay_60, pay_62, pay_64, pay_154, pay_171, pay_192, pay_212, pay_249, pay_53, pay_58, pay_250, pay_254, pay_32, pay_36, pay_38, pay_40, pay_151, pay_168, pay_195, pay_215, pay_258, pay_34, pay_259, pay_260, pay_264, pay_271]
theorem out0_B_14_eq (hc : ¬cond0_0 i) (q13 q14 q15 : Fin 4 → Fin 8 → ℝ)
    (x0 : Vec Ideal S8x128x256 .f32) (x1 : Vec Ideal S8x128x128 .f32) (x2 : Vec Ideal S8x128x128 .f32) (x3 : Vec Ideal S1x4x8x1x128 .f32) (x4 : Vec Ideal S4x8x1x1 .f32) (x5 : Vec Ideal S4x8x1x1 .f32) (x6 : Vec Ideal S4x8x1x1 .f32) (x7 : Vec Ideal S1x8x256x128 .f32) (x8 : Vec Ideal S8x128x256 .f32) (xo13 : Vec Ideal S4x8x1x1 .f32) (xo14 : Vec Ideal S4x8x1x1 .f32) (xo15 : Vec Ideal S4x8x1x1 .f32) (xs0 : Vec Ideal S8x256x128 .f32)
    (hx0 : x0 = (up3 (φ := .f32) fun g l p => K.x g l p)) (hx1 : x1 = (up3 (φ := .f32) fun g l n => K.b g l n)) (hx2 : x2 = (up3 (φ := .f32) fun g l n => K.c g l n)) (hx3 : x3 = (up5 (φ := .f32) fun _ r g _ l => K.raw r g l)) (hx4 : x4 = (up4 (φ := .f32) fun r g _ _ => K.bias r g)) (hx5 : x5 = (up4 (φ := .f32) fun r g _ _ => K.al r g)) (hx6 : x6 = (up4 (φ := .f32) fun r g _ _ => K.D r g)) (hx7 : x7 = (up4 (φ := .f32) fun _ g p n => K.S g p n)) (hx8 : x8 = (up3 (φ := .f32) fun g l p => K.dy g l p)) (hxo13 : xo13 = (up4 (φ := .f32) fun r g _ _ => q13 r g)) (hxo14 : xo14 = (up4 (φ := .f32) fun r g _ _ => q14 r g)) (hxo15 : xo15 = (up4 (φ := .f32) fun r g _ _ => q15 r g)) (hxs0 : xs0 = (up3 (φ := .f32) fun g p n => K.dS g p n)) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 xo13 xo14 xo15 xs0 = up4 (φ := .f32) fun r g _ _ => q14 r g + K.dal r g := by
  unfold out0_B_14
  rw [View.read_writes_eq_canon _ _ _ (cover0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 xo13 xo14 xo15 xs0)]
  unfold kernelRun0_B
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S8x128x256) hz3, View.ld_unit_zero (S := S8x128x128) hz3, View.ld_unit_zero (S := S1x4x8x1x128) hz5, View.ld_unit_zero (S := S4x8x1x1) hz4, View.ld_unit_zero (S := S1x8x256x128) hz4, View.ld_unit_zero (S := S8x256x128) hz3, ofBits_zero]
  subst hx0 hx1 hx2 hx3 hx4 hx5 hx6 hx7 hx8 hxo13 hxo14 hxo15 hxs0
  simp -index only [pay_8, pay_9, pay_23, pay_10, pay_24, pay_14, pay_31, pay_41, pay_42, pay_47, pay_48, pay_66, pay_68, pay_72, pay_73, pay_95, pay_96, pay_101, pay_13, pay_102, pay_106, pay_15, pay_98, pay_107, pay_108, pay_109, pay_110, pay_12, pay_156, pay_158, pay_17, pay_132, pay_133, pay_134, pay_160, pay_173, pay_27, pay_28, pay_29, pay_30, pay_52, pay_99, pay_100, pay_111, pay_77, pay_112, pay_116, pay_128, pay_129, pay_130, pay_131, pay_146, pay_186, pay_16, pay_121, pay_122, pay_123, pay_206, pay_208, pay_231, pay_104, pay_232, pay_234, pay_79, pay_85, pay_82, pay_84, pay_86, pay_80, pay_87, pay_83, pay_88, pay_174, pay_189, pay_190, pay_205, pay_210, pay_89, pay_157, pay_159, pay_238, pay_240, pay_78, pay_81, pay_241, pay_243, pay_55, pay_60, pay_54, pay_56, pay_61, pay_62, pay_50, pay_63, pay_64, pay_154, pay_171, pay_180, pay_192, pay_202, pay_212, pay_249, pay_53, pay_58, pay_250, pay_252, pay_32, pay_36, pay_26, pay_37, pay_38, pay_39, pay_40, pay_151, pay_168, pay_177, pay_195, pay_199, pay_215, pay_258, pay_34, pay_259, pay_260, pay_262, pay_1]
theorem out0_B_15_eq (hc : ¬cond0_0 i) (q13 q14 q15 : Fin 4 → Fin 8 → ℝ)
    (x0 : Vec Ideal S8x128x256 .f32) (x1 : Vec Ideal S8x128x128 .f32) (x2 : Vec Ideal S8x128x128 .f32) (x3 : Vec Ideal S1x4x8x1x128 .f32) (x4 : Vec Ideal S4x8x1x1 .f32) (x5 : Vec Ideal S4x8x1x1 .f32) (x6 : Vec Ideal S4x8x1x1 .f32) (x7 : Vec Ideal S1x8x256x128 .f32) (x8 : Vec Ideal S8x128x256 .f32) (xo13 : Vec Ideal S4x8x1x1 .f32) (xo14 : Vec Ideal S4x8x1x1 .f32) (xo15 : Vec Ideal S4x8x1x1 .f32) (xs0 : Vec Ideal S8x256x128 .f32)
    (hx0 : x0 = (up3 (φ := .f32) fun g l p => K.x g l p)) (hx1 : x1 = (up3 (φ := .f32) fun g l n => K.b g l n)) (hx2 : x2 = (up3 (φ := .f32) fun g l n => K.c g l n)) (hx3 : x3 = (up5 (φ := .f32) fun _ r g _ l => K.raw r g l)) (hx4 : x4 = (up4 (φ := .f32) fun r g _ _ => K.bias r g)) (hx5 : x5 = (up4 (φ := .f32) fun r g _ _ => K.al r g)) (hx6 : x6 = (up4 (φ := .f32) fun r g _ _ => K.D r g)) (hx7 : x7 = (up4 (φ := .f32) fun _ g p n => K.S g p n)) (hx8 : x8 = (up3 (φ := .f32) fun g l p => K.dy g l p)) (hxo13 : xo13 = (up4 (φ := .f32) fun r g _ _ => q13 r g)) (hxo14 : xo14 = (up4 (φ := .f32) fun r g _ _ => q14 r g)) (hxo15 : xo15 = (up4 (φ := .f32) fun r g _ _ => q15 r g)) (hxs0 : xs0 = (up3 (φ := .f32) fun g p n => K.dS g p n)) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 xo13 xo14 xo15 xs0 = up4 (φ := .f32) fun r g _ _ => q15 r g + K.dD r g := by
  unfold out0_B_15
  rw [View.read_writes_eq_canon _ _ _ (cover0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 xo13 xo14 xo15 xs0)]
  unfold kernelRun0_B
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S8x128x256) hz3, View.ld_unit_zero (S := S8x128x128) hz3, View.ld_unit_zero (S := S1x4x8x1x128) hz5, View.ld_unit_zero (S := S4x8x1x1) hz4, View.ld_unit_zero (S := S1x8x256x128) hz4, View.ld_unit_zero (S := S8x256x128) hz3, ofBits_zero]
  subst hx0 hx1 hx2 hx3 hx4 hx5 hx6 hx7 hx8 hxo13 hxo14 hxo15 hxs0
  simp -index only [pay_137, pay_138, pay_140, pay_163, pay_2]
theorem sout0_B_0_eq (hc : ¬cond0_0 i) (q13 q14 q15 : Fin 4 → Fin 8 → ℝ)
    (x0 : Vec Ideal S8x128x256 .f32) (x1 : Vec Ideal S8x128x128 .f32) (x2 : Vec Ideal S8x128x128 .f32) (x3 : Vec Ideal S1x4x8x1x128 .f32) (x4 : Vec Ideal S4x8x1x1 .f32) (x5 : Vec Ideal S4x8x1x1 .f32) (x6 : Vec Ideal S4x8x1x1 .f32) (x7 : Vec Ideal S1x8x256x128 .f32) (x8 : Vec Ideal S8x128x256 .f32) (xo13 : Vec Ideal S4x8x1x1 .f32) (xo14 : Vec Ideal S4x8x1x1 .f32) (xo15 : Vec Ideal S4x8x1x1 .f32) (xs0 : Vec Ideal S8x256x128 .f32)
    (hx0 : x0 = (up3 (φ := .f32) fun g l p => K.x g l p)) (hx1 : x1 = (up3 (φ := .f32) fun g l n => K.b g l n)) (hx2 : x2 = (up3 (φ := .f32) fun g l n => K.c g l n)) (hx3 : x3 = (up5 (φ := .f32) fun _ r g _ l => K.raw r g l)) (hx4 : x4 = (up4 (φ := .f32) fun r g _ _ => K.bias r g)) (hx5 : x5 = (up4 (φ := .f32) fun r g _ _ => K.al r g)) (hx6 : x6 = (up4 (φ := .f32) fun r g _ _ => K.D r g)) (hx7 : x7 = (up4 (φ := .f32) fun _ g p n => K.S g p n)) (hx8 : x8 = (up3 (φ := .f32) fun g l p => K.dy g l p)) (hxo13 : xo13 = (up4 (φ := .f32) fun r g _ _ => q13 r g)) (hxo14 : xo14 = (up4 (φ := .f32) fun r g _ _ => q14 r g)) (hxo15 : xo15 = (up4 (φ := .f32) fun r g _ _ => q15 r g)) (hxs0 : xs0 = (up3 (φ := .f32) fun g p n => K.dS g p n)) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 xo13 xo14 xo15 xs0 = up3 (φ := .f32) fun g p n => K.dSn g p n := by
  unfold sout0_B_0
  rw [View.read_writes_eq_canon _ _ _ (scover0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 xo13 xo14 xo15 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S8x128x256) hz3, View.ld_unit_zero (S := S8x128x128) hz3, View.ld_unit_zero (S := S1x4x8x1x128) hz5, View.ld_unit_zero (S := S4x8x1x1) hz4, View.ld_unit_zero (S := S1x8x256x128) hz4, View.ld_unit_zero (S := S8x256x128) hz3, ofBits_zero]
  subst hx0 hx1 hx2 hx3 hx4 hx5 hx6 hx7 hx8 hxo13 hxo14 hxo15 hxs0
  simp -index only [pay_8, pay_9, pay_10, pay_26, pay_40, pay_41, pay_42, pay_50, pay_64, pay_66, pay_68, pay_83, pay_89, pay_98, pay_110, pay_148, pay_13, pay_38, pay_55, pay_56, pay_62, pay_80, pay_87, pay_108, pay_135, pay_160, pay_165, pay_267, pay_3]

end Cert.Body

end
-- ==== Proof.Grid.lean ====
/- The backward scan over the chunks, last chunk first: what each point of the grid reads, and what the result arrays
   hold after the last point. -/
module

public import Idealize.ShloMosaic.Lib.Pipeline.ValueKit
public import proofs.«01_k».proof.Proof.Host
public import proofs.«01_k».proof.Proof.BodyA
public import proofs.«01_k».proof.Proof.BodyB

@[expose] public section

set_option maxRecDepth 16384

noncomputable section

namespace Cert.Grid

open Idealize.ShloMosaic Idealize.ShloMosaic.TcCoe Idealize.SL.Sem Cert.KernelIdeal Cert.KernelIdeal.Gen Cert.Lift
open Idealize.ShloMosaic.Pipeline (Dat)

/-- The chunk that a point works on. -/
def rv (n : ℕ) : Fin 128 := ⟨127 - n, by omega⟩

theorem st_rv (n : ℕ) (l : Fin 128) : (127 - n) * 128 + l.val = (st (rv n) l).val := by
  simp only [st, rv]
  omega
theorem cong3 {α β γ δ : Type} (f : α → β → γ → δ) {a a' : α} {b b' : β} {c c' : γ} (ha : a = a') (hb : b = b') (hc : c = c') :
    f a b c = f a' b' c' := by rw [ha, hb, hc]

theorem ix_0 : ∀ t : Fin cfg0.N, win0_0.index t = ![0, 127 - t.val, 0] := by decide +kernel
theorem ix_1 : ∀ t : Fin cfg0.N, win0_1.index t = ![0, 127 - t.val, 0] := by decide +kernel
theorem ix_2 : ∀ t : Fin cfg0.N, win0_2.index t = ![0, 127 - t.val, 0] := by decide +kernel
theorem ix_3 : ∀ t : Fin cfg0.N, win0_3.index t = ![127 - t.val, 0, 0, 0, 0] := by decide +kernel
theorem ix_4 : ∀ t : Fin cfg0.N, win0_4.index t = ![0, 0, 0, 0] := by decide +kernel
theorem ix_5 : ∀ t : Fin cfg0.N, win0_5.index t = ![0, 0, 0, 0] := by decide +kernel
theorem ix_6 : ∀ t : Fin cfg0.N, win0_6.index t = ![0, 0, 0, 0] := by decide +kernel
theorem ix_7 : ∀ t : Fin cfg0.N, win0_7.index t = ![127 - t.val, 0, 0, 0] := by decide +kernel
theorem ix_8 : ∀ t : Fin cfg0.N, win0_8.index t = ![0, 127 - t.val, 0] := by decide +kernel
theorem ix_9 : ∀ t : Fin cfg0.N, win0_9.index t = ![0, 127 - t.val, 0] := by decide +kernel
theorem ix_10 : ∀ t : Fin cfg0.N, win0_10.index t = ![0, 127 - t.val, 0] := by decide +kernel
theorem ix_11 : ∀ t : Fin cfg0.N, win0_11.index t = ![0, 127 - t.val, 0] := by decide +kernel
theorem ix_12 : ∀ t : Fin cfg0.N, win0_12.index t = ![127 - t.val, 0, 0, 0, 0] := by decide +kernel

variable (m : (ℓ : Loc nD τ sig) → Buf (Elt Ideal) ℓ) (c : Dev nD) (Q : Sq)

/-- The arrays that the scan reads hold the sequence `Q`. -/
structure Inputs : Prop where
  h0 : V m c main_arg0 = (up3 (φ := .f32) Q.X : FVec Ideal S8x16384x256 .f32)
  h1 : V m c main_arg1 = (up3 (φ := .f32) Q.B : FVec Ideal S8x16384x128 .f32)
  h2 : V m c main_arg2 = (up3 (φ := .f32) Q.C : FVec Ideal S8x16384x128 .f32)
  h3 : V m c main_v58 = (up5 (φ := .f32) fun k r g _ l => Q.raw (st k l) (ix r g) : FVec Ideal S128x4x8x1x128 .f32)
  h4 : V m c main_v2 = (up4 (φ := .f32) fun r g _ _ => Q.bias (ix r g) : FVec Ideal S4x8x1x1 .f32)
  h5 : V m c main_v5 = (up4 (φ := .f32) fun r g _ _ => Q.al (ix r g) : FVec Ideal S4x8x1x1 .f32)
  h6 : V m c main_v8 = (up4 (φ := .f32) fun r g _ _ => Q.D (ix r g) : FVec Ideal S4x8x1x1 .f32)
  h7 : V m c main_v53 = (up4 (φ := .f32) fun k g p n => Q.S k g p n : FVec Ideal S128x8x256x128 .f32)
  h8 : V m c main_arg7 = (up3 (φ := .f32) Q.Y : FVec Ideal S8x16384x256 .f32)

/-- The arguments being finite, they do. -/
theorem inputs_of (h0 : m ((c : Thread nD τ).loc main_arg0) = (up3 (φ := .f32) Q.X : FVec Ideal S8x16384x256 .f32))
    (h1 : m ((c : Thread nD τ).loc main_arg1) = (up3 (φ := .f32) Q.B : FVec Ideal S8x16384x128 .f32))
    (h2 : m ((c : Thread nD τ).loc main_arg2) = (up3 (φ := .f32) Q.C : FVec Ideal S8x16384x128 .f32))
    (h3 : m ((c : Thread nD τ).loc main_arg3) = (up2 (φ := .f32) Q.raw : FVec Ideal S16384x32 .f32))
    (h4 : m ((c : Thread nD τ).loc main_arg4) = (up1 (φ := .f32) Q.bias : FVec Ideal S32 .f32))
    (h5 : m ((c : Thread nD τ).loc main_arg5) = (up1 (φ := .f32) Q.al : FVec Ideal S32 .f32))
    (h6 : m ((c : Thread nD τ).loc main_arg6) = (up1 (φ := .f32) Q.D : FVec Ideal S32 .f32))
    (h7 : m ((c : Thread nD τ).loc main_arg7) = (up3 (φ := .f32) Q.Y : FVec Ideal S8x16384x256 .f32)) : Inputs m c Q where
  h0 := (V_main_arg0 m c).trans h0
  h1 := (V_main_arg1 m c).trans h1
  h2 := (V_main_arg2 m c).trans h2
  h3 := by rw [Prelude.V_v58, h3]; exact Prelude.rows_up Q.raw
  h4 := by rw [Prelude.V_v2, h4]; exact Prelude.heads_up Q.bias
  h5 := by rw [Prelude.V_v5, h5]; exact Prelude.heads_up Q.al
  h6 := by rw [Prelude.V_v8, h6]; exact Prelude.heads_up Q.D
  h7 := by rw [Prelude.V_v53, h0, h1, h3, h4, h5]; exact Prelude.states_eq Q
  h8 := (V_main_arg7 m c).trans h7

variable {m c Q} (I : Inputs m c Q)
include I

theorem iblk_0 (t : Fin cfg0.N) : (iblk m c 0 t : Vec Ideal S8x128x256 .f32) = up3 (φ := .f32) fun g l p => (Q.blk (rv t.val)).x g l p := by
  funext y
  show V m c (Pipeline.arrRef spec0 0) (((cfg0.win 0).blk t).view.emb y) = _
  refine (congrFun I.h0 _).trans (congrArg (fun x : ℝ => (x : EReal)) ?_)
  have e0 : ((((cfg0.win 0).blk t).view.emb y) 0 : ℕ) = (y 0).val := by blk_simp [ix_0]
  have e1 : ((((cfg0.win 0).blk t).view.emb y) 1 : ℕ) = (127 - t.val) * 128 + (y 1).val := by blk_simp [ix_0]
  have e2 : ((((cfg0.win 0).blk t).view.emb y) 2 : ℕ) = (y 2).val := by blk_simp [ix_0]
  show Q.X _ _ _ = Q.X (y 0) (st (rv t.val) (y 1)) (y 2)
  exact cong3 Q.X (Fin.ext e0) (Fin.ext (e1.trans (st_rv t.val (y 1)))) (Fin.ext e2)
theorem iblk_1 (t : Fin cfg0.N) : (iblk m c 1 t : Vec Ideal S8x128x128 .f32) = up3 (φ := .f32) fun g l p => (Q.blk (rv t.val)).b g l p := by
  funext y
  show V m c (Pipeline.arrRef spec0 1) (((cfg0.win 1).blk t).view.emb y) = _
  refine (congrFun I.h1 _).trans (congrArg (fun x : ℝ => (x : EReal)) ?_)
  have e0 : ((((cfg0.win 1).blk t).view.emb y) 0 : ℕ) = (y 0).val := by blk_simp [ix_1]
  have e1 : ((((cfg0.win 1).blk t).view.emb y) 1 : ℕ) = (127 - t.val) * 128 + (y 1).val := by blk_simp [ix_1]
  have e2 : ((((cfg0.win 1).blk t).view.emb y) 2 : ℕ) = (y 2).val := by blk_simp [ix_1]
  show Q.B _ _ _ = Q.B (y 0) (st (rv t.val) (y 1)) (y 2)
  exact cong3 Q.B (Fin.ext e0) (Fin.ext (e1.trans (st_rv t.val (y 1)))) (Fin.ext e2)
theorem iblk_2 (t : Fin cfg0.N) : (iblk m c 2 t : Vec Ideal S8x128x128 .f32) = up3 (φ := .f32) fun g l p => (Q.blk (rv t.val)).c g l p := by
  funext y
  show V m c (Pipeline.arrRef spec0 2) (((cfg0.win 2).blk t).view.emb y) = _
  refine (congrFun I.h2 _).trans (congrArg (fun x : ℝ => (x : EReal)) ?_)
  have e0 : ((((cfg0.win 2).blk t).view.emb y) 0 : ℕ) = (y 0).val := by blk_simp [ix_2]
  have e1 : ((((cfg0.win 2).blk t).view.emb y) 1 : ℕ) = (127 - t.val) * 128 + (y 1).val := by blk_simp [ix_2]
  have e2 : ((((cfg0.win 2).blk t).view.emb y) 2 : ℕ) = (y 2).val := by blk_simp [ix_2]
  show Q.C _ _ _ = Q.C (y 0) (st (rv t.val) (y 1)) (y 2)
  exact cong3 Q.C (Fin.ext e0) (Fin.ext (e1.trans (st_rv t.val (y 1)))) (Fin.ext e2)
theorem iblk_8 (t : Fin cfg0.N) : (iblk m c 8 t : Vec Ideal S8x128x256 .f32) = up3 (φ := .f32) fun g l p => (Q.blk (rv t.val)).dy g l p := by
  funext y
  show V m c (Pipeline.arrRef spec0 8) (((cfg0.win 8).blk t).view.emb y) = _
  refine (congrFun I.h8 _).trans (congrArg (fun x : ℝ => (x : EReal)) ?_)
  have e0 : ((((cfg0.win 8).blk t).view.emb y) 0 : ℕ) = (y 0).val := by blk_simp [ix_8]
  have e1 : ((((cfg0.win 8).blk t).view.emb y) 1 : ℕ) = (127 - t.val) * 128 + (y 1).val := by blk_simp [ix_8]
  have e2 : ((((cfg0.win 8).blk t).view.emb y) 2 : ℕ) = (y 2).val := by blk_simp [ix_8]
  show Q.Y _ _ _ = Q.Y (y 0) (st (rv t.val) (y 1)) (y 2)
  exact cong3 Q.Y (Fin.ext e0) (Fin.ext (e1.trans (st_rv t.val (y 1)))) (Fin.ext e2)
theorem iblk_3 (t : Fin cfg0.N) : (iblk m c 3 t : Vec Ideal S1x4x8x1x128 .f32) = up5 (φ := .f32) fun _ r g _ l => (Q.blk (rv t.val)).raw r g l := by
  funext y
  show V m c (Pipeline.arrRef spec0 3) (((cfg0.win 3).blk t).view.emb y) = _
  refine (congrFun I.h3 _).trans (congrArg (fun x : ℝ => (x : EReal)) ?_)
  have e0 : ((((cfg0.win 3).blk t).view.emb y) 0 : ℕ) = 127 - t.val := by
    have hy : (y 0).val = 0 := by have h : (y 0).val < 1 := (y 0).isLt; omega
    blk_simp [ix_3]
  have e1 : ((((cfg0.win 3).blk t).view.emb y) 1 : ℕ) = (y 1).val := by blk_simp [ix_3]
  have e2 : ((((cfg0.win 3).blk t).view.emb y) 2 : ℕ) = (y 2).val := by blk_simp [ix_3]
  have e4 : ((((cfg0.win 3).blk t).view.emb y) 4 : ℕ) = (y 4).val := by blk_simp [ix_3]
  show Q.raw (st _ _) (ix _ _) = Q.raw (st (rv t.val) (y 4)) (ix (y 1) (y 2))
  exact congrArg₂ Q.raw (congrArg₂ st (Fin.ext e0) (Fin.ext e4)) (congrArg₂ ix (Fin.ext e1) (Fin.ext e2))
theorem iblk_4 (t : Fin cfg0.N) : (iblk m c 4 t : Vec Ideal S4x8x1x1 .f32) = up4 (φ := .f32) fun r g _ _ => (Q.blk (rv t.val)).bias r g := by
  funext y
  show V m c (Pipeline.arrRef spec0 4) (((cfg0.win 4).blk t).view.emb y) = _
  refine (congrFun I.h4 _).trans (congrArg (fun x : ℝ => (x : EReal)) ?_)
  have e0 : ((((cfg0.win 4).blk t).view.emb y) 0 : ℕ) = (y 0).val := by blk_simp [ix_4]
  have e1 : ((((cfg0.win 4).blk t).view.emb y) 1 : ℕ) = (y 1).val := by blk_simp [ix_4]
  show Q.bias (ix _ _) = Q.bias (ix (y 0) (y 1))
  exact congrArg Q.bias (congrArg₂ ix (Fin.ext e0) (Fin.ext e1))
theorem iblk_5 (t : Fin cfg0.N) : (iblk m c 5 t : Vec Ideal S4x8x1x1 .f32) = up4 (φ := .f32) fun r g _ _ => (Q.blk (rv t.val)).al r g := by
  funext y
  show V m c (Pipeline.arrRef spec0 5) (((cfg0.win 5).blk t).view.emb y) = _
  refine (congrFun I.h5 _).trans (congrArg (fun x : ℝ => (x : EReal)) ?_)
  have e0 : ((((cfg0.win 5).blk t).view.emb y) 0 : ℕ) = (y 0).val := by blk_simp [ix_5]
  have e1 : ((((cfg0.win 5).blk t).view.emb y) 1 : ℕ) = (y 1).val := by blk_simp [ix_5]
  show Q.al (ix _ _) = Q.al (ix (y 0) (y 1))
  exact congrArg Q.al (congrArg₂ ix (Fin.ext e0) (Fin.ext e1))
theorem iblk_6 (t : Fin cfg0.N) : (iblk m c 6 t : Vec Ideal S4x8x1x1 .f32) = up4 (φ := .f32) fun r g _ _ => (Q.blk (rv t.val)).D r g := by
  funext y
  show V m c (Pipeline.arrRef spec0 6) (((cfg0.win 6).blk t).view.emb y) = _
  refine (congrFun I.h6 _).trans (congrArg (fun x : ℝ => (x : EReal)) ?_)
  have e0 : ((((cfg0.win 6).blk t).view.emb y) 0 : ℕ) = (y 0).val := by blk_simp [ix_6]
  have e1 : ((((cfg0.win 6).blk t).view.emb y) 1 : ℕ) = (y 1).val := by blk_simp [ix_6]
  show Q.D (ix _ _) = Q.D (ix (y 0) (y 1))
  exact congrArg Q.D (congrArg₂ ix (Fin.ext e0) (Fin.ext e1))
theorem iblk_7 (t : Fin cfg0.N) : (iblk m c 7 t : Vec Ideal S1x8x256x128 .f32) = up4 (φ := .f32) fun _ g p n => (Q.blk (rv t.val)).S g p n := by
  funext y
  show V m c (Pipeline.arrRef spec0 7) (((cfg0.win 7).blk t).view.emb y) = _
  refine (congrFun I.h7 _).trans (congrArg (fun x : ℝ => (x : EReal)) ?_)
  have e0 : ((((cfg0.win 7).blk t).view.emb y) 0 : ℕ) = 127 - t.val := by
    have hy : (y 0).val = 0 := by have h : (y 0).val < 1 := (y 0).isLt; omega
    blk_simp [ix_7]
  have e1 : ((((cfg0.win 7).blk t).view.emb y) 1 : ℕ) = (y 1).val := by blk_simp [ix_7]
  have e2 : ((((cfg0.win 7).blk t).view.emb y) 2 : ℕ) = (y 2).val := by blk_simp [ix_7]
  have e3 : ((((cfg0.win 7).blk t).view.emb y) 3 : ℕ) = (y 3).val := by blk_simp [ix_7]
  refine Eq.trans ?_ (Sq.blk_S Q (rv t.val) (y 1) (y 2) (y 3)).symm
  show Q.S _ _ _ _ = _
  exact congr (cong3 Q.S (Fin.ext e0) (Fin.ext e1) (Fin.ext e2)) (Fin.ext e3)

end Cert.Grid

end
-- ==== Proof.Points.lean ====
/- The backward scan over the chunks, last chunk first: what each point of the grid reads, and what the result arrays
   hold after the last point. -/
module

public import Idealize.ShloMosaic.Lib.Pipeline.ValueKit
public import proofs.«01_k».proof.Proof.Host
public import proofs.«01_k».proof.Proof.BodyA
public import proofs.«01_k».proof.Proof.BodyB
public import proofs.«01_k».proof.Proof.Grid

@[expose] public section

set_option maxRecDepth 16384

noncomputable section

namespace Cert.Grid

open Idealize.ShloMosaic Idealize.ShloMosaic.TcCoe Idealize.SL.Sem Cert.KernelIdeal Cert.KernelIdeal.Gen Cert.Lift
open Idealize.ShloMosaic.Pipeline (Dat)

variable {m : (ℓ : Loc nD τ sig) → Buf (Elt Ideal) ℓ} {c : Dev nD} {Q : Sq} (I : Inputs m c Q)
include I

omit I in
set_option maxHeartbeats 400000 in
/-- What the first point leaves, its blocks being those of `K`. -/
theorem outs_A (K : Blk) (t : Fin cfg0.N) (h0 : t.val % 128 = 0) (hK : ∀ g p n, K.dS g p n = 0)
    (b0 : (iblk m c 0 t : Vec Ideal S8x128x256 .f32) = up3 (φ := .f32) fun g l p => K.x g l p)
    (b1 : (iblk m c 1 t : Vec Ideal S8x128x128 .f32) = up3 (φ := .f32) fun g l p => K.b g l p)
    (b2 : (iblk m c 2 t : Vec Ideal S8x128x128 .f32) = up3 (φ := .f32) fun g l p => K.c g l p)
    (b3 : (iblk m c 3 t : Vec Ideal S1x4x8x1x128 .f32) = up5 (φ := .f32) fun _ r g _ l => K.raw r g l)
    (b4 : (iblk m c 4 t : Vec Ideal S4x8x1x1 .f32) = up4 (φ := .f32) fun r g _ _ => K.bias r g)
    (b5 : (iblk m c 5 t : Vec Ideal S4x8x1x1 .f32) = up4 (φ := .f32) fun r g _ _ => K.al r g)
    (b6 : (iblk m c 6 t : Vec Ideal S4x8x1x1 .f32) = up4 (φ := .f32) fun r g _ _ => K.D r g)
    (b7 : (iblk m c 7 t : Vec Ideal S1x8x256x128 .f32) = up4 (φ := .f32) fun _ g p n => K.S g p n)
    (b8 : (iblk m c 8 t : Vec Ideal S8x128x256 .f32) = up3 (φ := .f32) fun g l p => K.dy g l p) :
    outsAt0 m c t.val t.isLt =
    (up3 (φ := .f32) fun g l p => K.dx g l p,
     up3 (φ := .f32) fun g l p => K.dB g l p,
     up3 (φ := .f32) fun g l p => K.dC g l p,
     up5 (φ := .f32) fun _ r g _ l => K.dz r g l,
     up4 (φ := .f32) fun r g _ _ => 0 + K.ddtb r g,
     up4 (φ := .f32) fun r g _ _ => 0 + K.dal r g,
     up4 (φ := .f32) fun r g _ _ => 0 + K.dD r g,
     up3 (φ := .f32) fun g p u => K.dSn g p u) := by
  refine (outsAt0_A m c t h0).trans ?_
  refine congrArg₂ Prod.mk (Body.out0_A_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) K ((hcond0_0 t).mpr h0) hK (iblk m c 0 t) (iblk m c 1 t) (iblk m c 2 t) (iblk m c 3 t) (iblk m c 4 t) (iblk m c 5 t) (iblk m c 6 t) (iblk m c 7 t) (iblk m c 8 t) b0 b1 b2 b3 b4 b5 b6 b7 b8) ?_
  refine congrArg₂ Prod.mk (Body.out0_A_10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) K ((hcond0_0 t).mpr h0) hK (iblk m c 0 t) (iblk m c 1 t) (iblk m c 2 t) (iblk m c 3 t) (iblk m c 4 t) (iblk m c 5 t) (iblk m c 6 t) (iblk m c 7 t) (iblk m c 8 t) b0 b1 b2 b3 b4 b5 b6 b7 b8) ?_
  refine congrArg₂ Prod.mk (Body.out0_A_11_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) K ((hcond0_0 t).mpr h0) hK (iblk m c 0 t) (iblk m c 1 t) (iblk m c 2 t) (iblk m c 3 t) (iblk m c 4 t) (iblk m c 5 t) (iblk m c 6 t) (iblk m c 7 t) (iblk m c 8 t) b0 b1 b2 b3 b4 b5 b6 b7 b8) ?_
  refine congrArg₂ Prod.mk (Body.out0_A_12_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) K ((hcond0_0 t).mpr h0) hK (iblk m c 0 t) (iblk m c 1 t) (iblk m c 2 t) (iblk m c 3 t) (iblk m c 4 t) (iblk m c 5 t) (iblk m c 6 t) (iblk m c 7 t) (iblk m c 8 t) b0 b1 b2 b3 b4 b5 b6 b7 b8) ?_
  refine congrArg₂ Prod.mk (Body.out0_A_13_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) K ((hcond0_0 t).mpr h0) hK (iblk m c 0 t) (iblk m c 1 t) (iblk m c 2 t) (iblk m c 3 t) (iblk m c 4 t) (iblk m c 5 t) (iblk m c 6 t) (iblk m c 7 t) (iblk m c 8 t) b0 b1 b2 b3 b4 b5 b6 b7 b8) ?_
  refine congrArg₂ Prod.mk (Body.out0_A_14_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) K ((hcond0_0 t).mpr h0) hK (iblk m c 0 t) (iblk m c 1 t) (iblk m c 2 t) (iblk m c 3 t) (iblk m c 4 t) (iblk m c 5 t) (iblk m c 6 t) (iblk m c 7 t) (iblk m c 8 t) b0 b1 b2 b3 b4 b5 b6 b7 b8) ?_
  refine congrArg₂ Prod.mk (Body.out0_A_15_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) K ((hcond0_0 t).mpr h0) hK (iblk m c 0 t) (iblk m c 1 t) (iblk m c 2 t) (iblk m c 3 t) (iblk m c 4 t) (iblk m c 5 t) (iblk m c 6 t) (iblk m c 7 t) (iblk m c 8 t) b0 b1 b2 b3 b4 b5 b6 b7 b8) ?_
  exact Body.sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) K ((hcond0_0 t).mpr h0) hK (iblk m c 0 t) (iblk m c 1 t) (iblk m c 2 t) (iblk m c 3 t) (iblk m c 4 t) (iblk m c 5 t) (iblk m c 6 t) (iblk m c 7 t) (iblk m c 8 t) b0 b1 b2 b3 b4 b5 b6 b7 b8

omit I in
set_option maxHeartbeats 400000 in
/-- What a later point leaves, its blocks being those of `K`. -/
theorem outs_B (K : Blk) (t : Fin cfg0.N) (h0 : ¬t.val % 128 = 0) (q13 q14 q15 : Fin 4 → Fin 8 → ℝ)
    (b0 : (iblk m c 0 t : Vec Ideal S8x128x256 .f32) = up3 (φ := .f32) fun g l p => K.x g l p)
    (b1 : (iblk m c 1 t : Vec Ideal S8x128x128 .f32) = up3 (φ := .f32) fun g l p => K.b g l p)
    (b2 : (iblk m c 2 t : Vec Ideal S8x128x128 .f32) = up3 (φ := .f32) fun g l p => K.c g l p)
    (b3 : (iblk m c 3 t : Vec Ideal S1x4x8x1x128 .f32) = up5 (φ := .f32) fun _ r g _ l => K.raw r g l)
    (b4 : (iblk m c 4 t : Vec Ideal S4x8x1x1 .f32) = up4 (φ := .f32) fun r g _ _ => K.bias r g)
    (b5 : (iblk m c 5 t : Vec Ideal S4x8x1x1 .f32) = up4 (φ := .f32) fun r g _ _ => K.al r g)
    (b6 : (iblk m c 6 t : Vec Ideal S4x8x1x1 .f32) = up4 (φ := .f32) fun r g _ _ => K.D r g)
    (b7 : (iblk m c 7 t : Vec Ideal S1x8x256x128 .f32) = up4 (φ := .f32) fun _ g p n => K.S g p n)
    (b8 : (iblk m c 8 t : Vec Ideal S8x128x256 .f32) = up3 (φ := .f32) fun g l p => K.dy g l p)
    (h13 : (outsAt0 m c (t.val - 1) (Nat.lt_of_le_of_lt (Nat.sub_le _ _) t.isLt)).2.2.2.2.1 = up4 (φ := .f32) fun r g _ _ => q13 r g)
    (h14 : (outsAt0 m c (t.val - 1) (Nat.lt_of_le_of_lt (Nat.sub_le _ _) t.isLt)).2.2.2.2.2.1 = up4 (φ := .f32) fun r g _ _ => q14 r g)
    (h15 : (outsAt0 m c (t.val - 1) (Nat.lt_of_le_of_lt (Nat.sub_le _ _) t.isLt)).2.2.2.2.2.2.1 = up4 (φ := .f32) fun r g _ _ => q15 r g)
    (hs : (outsAt0 m c (t.val - 1) (Nat.lt_of_le_of_lt (Nat.sub_le _ _) t.isLt)).2.2.2.2.2.2.2 = up3 (φ := .f32) fun g p u => K.dS g p u) :
    outsAt0 m c t.val t.isLt =
    (up3 (φ := .f32) fun g l p => K.dx g l p,
     up3 (φ := .f32) fun g l p => K.dB g l p,
     up3 (φ := .f32) fun g l p => K.dC g l p,
     up5 (φ := .f32) fun _ r g _ l => K.dz r g l,
     up4 (φ := .f32) fun r g _ _ => q13 r g + K.ddtb r g,
     up4 (φ := .f32) fun r g _ _ => q14 r g + K.dal r g,
     up4 (φ := .f32) fun r g _ _ => q15 r g + K.dD r g,
     up3 (φ := .f32) fun g p u => K.dSn g p u) := by
  refine (outsAt0_B m c t h0).trans ?_
  refine congrArg₂ Prod.mk (Body.out0_B_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) K (fun h => h0 ((hcond0_0 t).mp h)) q13 q14 q15 (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 b0 b1 b2 b3 b4 b5 b6 b7 b8 h13 h14 h15 hs) ?_
  refine congrArg₂ Prod.mk (Body.out0_B_10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) K (fun h => h0 ((hcond0_0 t).mp h)) q13 q14 q15 (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 b0 b1 b2 b3 b4 b5 b6 b7 b8 h13 h14 h15 hs) ?_
  refine congrArg₂ Prod.mk (Body.out0_B_11_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) K (fun h => h0 ((hcond0_0 t).mp h)) q13 q14 q15 (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 b0 b1 b2 b3 b4 b5 b6 b7 b8 h13 h14 h15 hs) ?_
  refine congrArg₂ Prod.mk (Body.out0_B_12_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) K (fun h => h0 ((hcond0_0 t).mp h)) q13 q14 q15 (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 b0 b1 b2 b3 b4 b5 b6 b7 b8 h13 h14 h15 hs) ?_
  refine congrArg₂ Prod.mk (Body.out0_B_13_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) K (fun h => h0 ((hcond0_0 t).mp h)) q13 q14 q15 (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 b0 b1 b2 b3 b4 b5 b6 b7 b8 h13 h14 h15 hs) ?_
  refine congrArg₂ Prod.mk (Body.out0_B_14_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) K (fun h => h0 ((hcond0_0 t).mp h)) q13 q14 q15 (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 b0 b1 b2 b3 b4 b5 b6 b7 b8 h13 h14 h15 hs) ?_
  refine congrArg₂ Prod.mk (Body.out0_B_15_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) K (fun h => h0 ((hcond0_0 t).mp h)) q13 q14 q15 (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 b0 b1 b2 b3 b4 b5 b6 b7 b8 h13 h14 h15 hs) ?_
  exact Body.sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) K (fun h => h0 ((hcond0_0 t).mp h)) q13 q14 q15 (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 b0 b1 b2 b3 b4 b5 b6 b7 b8 h13 h14 h15 hs

/-- What the staging buffers and the carried state hold after point `n`. -/
theorem outs_eq : ∀ (n : ℕ) (hn : n < cfg0.N), outsAt0 m c n hn =
    (up3 (φ := .f32) fun g l p => (Q.blk (rv n)).dx g l p,
     up3 (φ := .f32) fun g l p => (Q.blk (rv n)).dB g l p,
     up3 (φ := .f32) fun g l p => (Q.blk (rv n)).dC g l p,
     up5 (φ := .f32) fun _ r g _ l => (Q.blk (rv n)).dz r g l,
     up4 (φ := .f32) fun r g _ _ => ∑ j ∈ Finset.range (n + 1), (Q.blk (rv j)).ddtb r g,
     up4 (φ := .f32) fun r g _ _ => ∑ j ∈ Finset.range (n + 1), (Q.blk (rv j)).dal r g,
     up4 (φ := .f32) fun r g _ _ => ∑ j ∈ Finset.range (n + 1), (Q.blk (rv j)).dD r g,
     up3 (φ := .f32) fun g p u => (Q.blk (rv n)).dSn g p u)
  | 0, hn => by
    have hK : ∀ g p n, (Q.blk (rv 0)).dS g p n = 0 := fun g p n => (Sq.blk_dS Q (rv 0) g p n).trans (Sq.dS_last Q (rv 0) g rfl p n)
    refine (outs_A (Q.blk (rv 0)) ⟨0, hn⟩ rfl hK (iblk_0 I ⟨0, hn⟩) (iblk_1 I ⟨0, hn⟩) (iblk_2 I ⟨0, hn⟩) (iblk_3 I ⟨0, hn⟩) (iblk_4 I ⟨0, hn⟩) (iblk_5 I ⟨0, hn⟩) (iblk_6 I ⟨0, hn⟩) (iblk_7 I ⟨0, hn⟩) (iblk_8 I ⟨0, hn⟩)).trans ?_
    simp only [zero_add, Finset.range_one, Finset.sum_singleton]
  | n + 1, hn => by
    have hN : n + 1 < 128 := lt_of_lt_of_eq hn N_0
    have ih := outs_eq n (Nat.lt_of_succ_lt hn)
    refine (outs_B (Q.blk (rv (n + 1))) ⟨n + 1, hn⟩ (by show ¬(n + 1) % 128 = 0; omega)
      (fun r g => ∑ j ∈ Finset.range (n + 1), (Q.blk (rv j)).ddtb r g) (fun r g => ∑ j ∈ Finset.range (n + 1), (Q.blk (rv j)).dal r g)
      (fun r g => ∑ j ∈ Finset.range (n + 1), (Q.blk (rv j)).dD r g)
      (iblk_0 I ⟨n + 1, hn⟩) (iblk_1 I ⟨n + 1, hn⟩) (iblk_2 I ⟨n + 1, hn⟩) (iblk_3 I ⟨n + 1, hn⟩) (iblk_4 I ⟨n + 1, hn⟩) (iblk_5 I ⟨n + 1, hn⟩) (iblk_6 I ⟨n + 1, hn⟩) (iblk_7 I ⟨n + 1, hn⟩) (iblk_8 I ⟨n + 1, hn⟩)
      (congrArg (fun o => o.2.2.2.2.1) ih) (congrArg (fun o => o.2.2.2.2.2.1) ih) (congrArg (fun o => o.2.2.2.2.2.2.1) ih)
      ((congrArg (fun o => o.2.2.2.2.2.2.2) ih).trans ?_)).trans ?_
    · refine congrArg (up3 (φ := .f32)) (funext fun g => funext fun p => funext fun u => ?_)
      exact (Sq.blk_dSn Q (rv n) g (rv (n + 1)) (by simp only [rv]; omega) p u).trans (Sq.blk_dS Q (rv (n + 1)) g p u).symm
    · simp only [Finset.sum_range_succ _ (n + 1)]

omit I in
theorem sum_points (f : Fin 128 → ℝ) : ∑ j ∈ Finset.range (127 + 1), f (rv j) = ∑ c, f c := by
  rw [← Finset.sum_range_reflect, Finset.sum_range]
  refine Finset.sum_congr rfl fun k _ => congrArg f (Fin.ext ?_)
  simp only [rv]
  omega

end Cert.Grid

end
-- ==== Proof.Arrays.lean ====
/- The seven result arrays of the backward scan after its last point, in terms of the sequence. -/
module

public import Idealize.ShloMosaic.Lib.Pipeline.ValueKit
public import proofs.«01_k».proof.Proof.Host
public import proofs.«01_k».proof.Proof.BodyA
public import proofs.«01_k».proof.Proof.BodyB
public import proofs.«01_k».proof.Proof.Points

@[expose] public section

set_option maxRecDepth 16384

noncomputable section

namespace Cert.Grid

open Idealize.ShloMosaic Idealize.ShloMosaic.TcCoe Idealize.SL.Sem Cert.KernelIdeal Cert.KernelIdeal.Gen Cert.Lift
open Idealize.ShloMosaic.Pipeline (Dat)

variable {m : (ℓ : Loc nD τ sig) → Buf (Elt Ideal) ℓ} {c : Dev nD} {Q : Sq} (I : Inputs m c Q)
include I

/-- The last point of the grid. -/
def lastPoint : Fin cfg0.N := ⟨127, by decide⟩

theorem arr_9 : (dats m 0 c).arrAt 9 cfg0.N = (up3 (φ := .f32) Q.dX : FVec Ideal S8x16384x256 .f32) := by
  refine (dats m 0 c).arrAt_eq_of_covers 9 _ (by decide +kernel) fun t hf y => ?_
  have e0 : ((((cfg0.win 9).blk t).view.emb y) 0 : ℕ) = (y 0).val := by blk_simp [ix_9]
  have e1 : ((((cfg0.win 9).blk t).view.emb y) 1 : ℕ) = (127 - t.val) * 128 + (y 1).val := by blk_simp [ix_9]
  have e2 : ((((cfg0.win 9).blk t).view.emb y) 2 : ℕ) = (y 2).val := by blk_simp [ix_9]
  blk_simp
  rw [after0_9, outs_eq I t.val t.isLt]
  refine congrArg (fun x : ℝ => (x : EReal)) ((Sq.blk_dx Q (rv t.val) (y 0) (y 1) (y 2)).trans ?_)
  exact cong3 Q.dX (Fin.ext e0.symm) (Fin.ext ((st_rv t.val (y 1)).symm.trans e1.symm)) (Fin.ext e2.symm)
theorem arr_10 : (dats m 0 c).arrAt 10 cfg0.N = (up3 (φ := .f32) Q.dB : FVec Ideal S8x16384x128 .f32) := by
  refine (dats m 0 c).arrAt_eq_of_covers 10 _ (by decide +kernel) fun t hf y => ?_
  have e0 : ((((cfg0.win 10).blk t).view.emb y) 0 : ℕ) = (y 0).val := by blk_simp [ix_10]
  have e1 : ((((cfg0.win 10).blk t).view.emb y) 1 : ℕ) = (127 - t.val) * 128 + (y 1).val := by blk_simp [ix_10]
  have e2 : ((((cfg0.win 10).blk t).view.emb y) 2 : ℕ) = (y 2).val := by blk_simp [ix_10]
  blk_simp
  rw [after0_10, outs_eq I t.val t.isLt]
  refine congrArg (fun x : ℝ => (x : EReal)) ((Sq.blk_dB Q (rv t.val) (y 0) (y 1) (y 2)).trans ?_)
  exact cong3 Q.dB (Fin.ext e0.symm) (Fin.ext ((st_rv t.val (y 1)).symm.trans e1.symm)) (Fin.ext e2.symm)
theorem arr_11 : (dats m 0 c).arrAt 11 cfg0.N = (up3 (φ := .f32) Q.dC : FVec Ideal S8x16384x128 .f32) := by
  refine (dats m 0 c).arrAt_eq_of_covers 11 _ (by decide +kernel) fun t hf y => ?_
  have e0 : ((((cfg0.win 11).blk t).view.emb y) 0 : ℕ) = (y 0).val := by blk_simp [ix_11]
  have e1 : ((((cfg0.win 11).blk t).view.emb y) 1 : ℕ) = (127 - t.val) * 128 + (y 1).val := by blk_simp [ix_11]
  have e2 : ((((cfg0.win 11).blk t).view.emb y) 2 : ℕ) = (y 2).val := by blk_simp [ix_11]
  blk_simp
  rw [after0_11, outs_eq I t.val t.isLt]
  refine congrArg (fun x : ℝ => (x : EReal)) ((Sq.blk_dC Q (rv t.val) (y 0) (y 1) (y 2)).trans ?_)
  exact cong3 Q.dC (Fin.ext e0.symm) (Fin.ext ((st_rv t.val (y 1)).symm.trans e1.symm)) (Fin.ext e2.symm)
theorem arr_12 (hz : ∀ r g t, Q.z r g t ≠ 0) :
    (dats m 0 c).arrAt 12 cfg0.N = (up5 (φ := .f32) fun k r g _ l => Q.dz r g (st k l) : FVec Ideal S128x4x8x1x128 .f32) := by
  refine (dats m 0 c).arrAt_eq_of_covers 12 _ (by decide +kernel) fun t hf y => ?_
  have e0 : ((((cfg0.win 12).blk t).view.emb y) 0 : ℕ) = 127 - t.val := by
    have hy : (y 0).val = 0 := by have h : (y 0).val < 1 := (y 0).isLt; omega
    blk_simp [ix_12]
  have e1 : ((((cfg0.win 12).blk t).view.emb y) 1 : ℕ) = (y 1).val := by blk_simp [ix_12]
  have e2 : ((((cfg0.win 12).blk t).view.emb y) 2 : ℕ) = (y 2).val := by blk_simp [ix_12]
  have e4 : ((((cfg0.win 12).blk t).view.emb y) 4 : ℕ) = (y 4).val := by blk_simp [ix_12]
  blk_simp
  rw [after0_12, outs_eq I t.val t.isLt]
  refine congrArg (fun x : ℝ => (x : EReal)) ((Sq.blk_dz Q (rv t.val) (y 1) (y 2) (y 4) (hz _ _ _)).trans ?_)
  exact cong3 Q.dz (Fin.ext e1.symm) (Fin.ext e2.symm) (congrArg₂ st (Fin.ext e0.symm) (Fin.ext e4.symm))
theorem arr_13 (hz : ∀ r g t, Q.z r g t ≠ 0) : (dats m 0 c).arrAt 13 cfg0.N = (up4 (φ := .f32) fun r g _ _ => Q.ddtb r g : FVec Ideal S4x8x1x1 .f32) := by
  refine (dats m 0 c).arrAt_eq_of_after_last 13 lastPoint (by decide +kernel) _ fun j => ?_
  blk_simp
  rw [after0_13, outs_eq I lastPoint.val lastPoint.isLt]
  refine congrArg (fun x : ℝ => (x : EReal)) ?_
  exact (sum_points fun k => (Q.blk k).ddtb (j 0) (j 1)).trans (Sq.sum_ddtb Q (j 0) (j 1) (hz _ _))
theorem arr_14 : (dats m 0 c).arrAt 14 cfg0.N = (up4 (φ := .f32) fun r g _ _ => Q.dal r g : FVec Ideal S4x8x1x1 .f32) := by
  refine (dats m 0 c).arrAt_eq_of_after_last 14 lastPoint (by decide +kernel) _ fun j => ?_
  blk_simp
  rw [after0_14, outs_eq I lastPoint.val lastPoint.isLt]
  refine congrArg (fun x : ℝ => (x : EReal)) ?_
  exact (sum_points fun k => (Q.blk k).dal (j 0) (j 1)).trans (Sq.sum_dal Q (j 0) (j 1))
theorem arr_15 : (dats m 0 c).arrAt 15 cfg0.N = (up4 (φ := .f32) fun r g _ _ => Q.dD r g : FVec Ideal S4x8x1x1 .f32) := by
  refine (dats m 0 c).arrAt_eq_of_after_last 15 lastPoint (by decide +kernel) _ fun j => ?_
  blk_simp
  rw [after0_15, outs_eq I lastPoint.val lastPoint.isLt]
  refine congrArg (fun x : ℝ => (x : EReal)) ?_
  exact (sum_points fun k => (Q.blk k).dD (j 0) (j 1)).trans (Sq.sum_dD Q (j 0) (j 1))

end Cert.Grid

end
-- ==== Proof.RefA.lean ====
/- The reference over finite values, operation by operation, up to the gradient of the masked product and the gradient
   that comes back through it. -/
module

public import proofs.«01_k».proof.Proof.Gen.ReferenceIdeal.Read
public import proofs.«01_k».proof.Proof.Host

@[expose] public section

set_option maxRecDepth 16384

noncomputable section

namespace Cert.Ref

open Idealize.ShloMosaic Idealize.ShloMosaic.TcCoe Idealize.SL.Sem Cert.ReferenceIdeal Cert.ReferenceIdeal.Gen
open Cert.ReferenceIdeal.Read Cert.Lift

variable (Q : Sq)

/-- The arguments that hold the sequence `Q`. -/
abbrev A0 : FVec Ideal S8x16384x256 .f32 := up3 Q.X
abbrev A1 : FVec Ideal S8x16384x128 .f32 := up3 Q.B
abbrev A2 : FVec Ideal S8x16384x128 .f32 := up3 Q.C
abbrev A3 : FVec Ideal S16384x32 .f32 := up2 Q.raw
abbrev A4 : FVec Ideal S32 .f32 := up1 Q.bias
abbrev A5 : FVec Ideal S32 .f32 := up1 Q.al
abbrev A6 : FVec Ideal S32 .f32 := up1 Q.D
abbrev A7 : FVec Ideal S8x16384x256 .f32 := up3 Q.Y

theorem r0 (f : Fin 8 → Fin 16384 → Fin 256 → ℝ) :
    val_main_v0 (F := Ideal) (up3 (φ := .f32) f) = up4 (φ := .f32) fun g t r q => f g t (ln r q) := by
  unfold val_main_v0
  funext i
  pointwise [up3, up4]
  exact congrArg (fun p => ((f (i 0) (i 1) p : ℝ) : EReal)) (Fin.ext (by simp only [ln]; omega))
theorem r39 (f : Fin 8 → Fin 16384 → Fin 256 → ℝ) :
    val_main_v39 (F := Ideal) (up3 (φ := .f32) f) = up4 (φ := .f32) fun g t r q => f g t (ln r q) := r0 f
theorem r3 : val_main_v3 (F := Ideal) (A3 Q) (A4 Q) = up2 (φ := .f32) fun t h => Q.raw t h + Q.bias h :=
  Prelude.zed_up Q.raw Q.bias
theorem r4 : val_main_v4_0 (F := Ideal) (A3 Q) (A4 Q) = up2 (φ := .f32) fun t h => Q.dt (rr h) (gr h) t := by
  have e : val_main_v4_0 (F := Ideal) (A3 Q) (A4 Q) = Prelude.soft (Prelude.zed (A3 Q) (A4 Q)) := rfl
  rw [e, Prelude.zed_up]
  refine (Prelude.soft_up _).trans ?_
  refine congrArg (up2 (φ := .f32)) (funext fun t => funext fun h => ?_)
  simp only [Sq.dt, Sq.z, ix_rr_gr]
theorem r9 : val_main_v9 (F := Ideal) (A3 Q) (A4 Q) (A5 Q) = up2 (φ := .f32) fun t h => Q.adt (rr h) (gr h) t := by
  have e : val_main_v9 (F := Ideal) (A3 Q) (A4 Q) (A5 Q) = Prelude.expo (A5 Q) (val_main_v4_0 (F := Ideal) (A3 Q) (A4 Q)) := rfl
  rw [e, r4]
  refine (Prelude.expo_up _ _).trans ?_
  refine congrArg (up2 (φ := .f32)) (funext fun t => funext fun h => ?_)
  simp only [Sq.adt, Sq.A, ix_rr_gr]
theorem r10 : val_main_v10 (F := Ideal) (A3 Q) (A4 Q) (A5 Q) = up2 (φ := .f32) fun t h => Q.acs (rr h) (gr h) t := by
  have e : val_main_v10 (F := Ideal) (A3 Q) (A4 Q) (A5 Q) = Prelude.summed (val_main_v9 (F := Ideal) (A3 Q) (A4 Q) (A5 Q)) := rfl
  rw [e, r9]
  exact Prelude.summed_up _
theorem r12 : val_main_v12 (F := Ideal) (A3 Q) (A4 Q) (A5 Q) = up3 (φ := .f32) fun g r t => Q.acs r g t := by
  unfold val_main_v12 val_main_v11
  rw [r10]
  funext i
  have h0 : (i 0).val < 8 := (i 0).isLt
  have h1 : (i 1).val < 4 := (i 1).isLt
  pointwise [up2, up3]
  exact congrArg₂ (fun r g => ((Q.acs r g (i 2) : ℝ) : EReal)) (Fin.ext (by simp only [rr]; omega)) (Fin.ext (by simp only [gr]; omega))
theorem r14 : val_main_v14 (F := Ideal) (A3 Q) (A4 Q) = up3 (φ := .f32) fun g r t => Q.dt r g t := by
  unfold val_main_v14 val_main_v13
  rw [r4]
  funext i
  have h0 : (i 0).val < 8 := (i 0).isLt
  have h1 : (i 1).val < 4 := (i 1).isLt
  pointwise [up2, up3]
  exact congrArg₂ (fun r g => ((Q.dt r g (i 2) : ℝ) : EReal)) (Fin.ext (by simp only [rr]; omega)) (Fin.ext (by simp only [gr]; omega))
theorem r16 : val_main_v16 (F := Ideal) = fun i => BitVec.ofBool (decide ((i 1).val ≤ (i 0).val)) := by
  unfold val_main_v16 val_main_call2_v4 val_main_call2_v2 val_main_call2_v0 val_main_call2_v1 val_main_call2_c val_main_call2_v3
    val_main_v15 val_main_c val_main_call2_v5 val_main_call2_c_0
  funext i
  have h0 : (i 0).val < 16384 := (i 0).isLt
  have h1 : (i 1).val < 16384 := (i 1).isLt
  show Scalar.select (BitVec.ofBool ((BitVec.ofNat 32 (i 1).val).sle (BitVec.ofNat 32 (i 0).val + 0#32))) (1#1) (0#1) = _
  rw [select_ofBool, BitVec.add_zero, BitVec.sle_eq_decide, BitVec.toInt_eq_toNat_of_lt (by simp; omega), BitVec.toInt_eq_toNat_of_lt (by simp; omega)]
  simp only [BitVec.toNat_ofNat, decide_eq_true_eq]
  rw [Nat.mod_eq_of_lt (by omega), Nat.mod_eq_of_lt (by omega)]
  by_cases h : (i 1).val ≤ (i 0).val
  · rw [if_pos (by exact_mod_cast h), decide_eq_true h]; rfl
  · rw [if_neg (by exact_mod_cast h), decide_eq_false h]; rfl
theorem r22m : val_main_v22_1 (F := Ideal) = fun i => BitVec.ofBool (decide ((i 3).val ≤ (i 2).val)) := by
  unfold val_main_v22_1
  rw [r16]
  funext i
  pointwise []
theorem r21 : val_main_v21 (F := Ideal) (A3 Q) (A4 Q) (A5 Q) = up4 (φ := .f32) fun g r t s => Q.acs r g t - Q.acs r g s := by
  unfold val_main_v21 val_main_v19 val_main_v20 val_main_v17 val_main_v18
  rw [r12]
  funext i
  pointwise [up3, up4]
  exact (EReal.coe_sub _ _).symm
theorem r23 : val_main_v23 (F := Ideal) (A3 Q) (A4 Q) (A5 Q) = up4 (φ := .f32) fun g r t s => Q.L r g t s := by
  unfold val_main_v23 val_main_v22_0 val_main_call3_v2 val_main_call3_v0 val_main_cst
  rw [r22m, r21]
  funext i
  show Ideal.exp (Scalar.select (BitVec.ofBool (decide ((i 3).val ≤ (i 2).val)))
    (((Q.acs (i 1) (i 0) (i 2) - Q.acs (i 1) (i 0) (i 3) : ℝ) : EReal)) (Ideal.ofBits .f32 0xFF800000#32)) = _
  rw [select_ofBool, Prelude.ofBits_low]
  obtain ⟨g, r, t, s, rfl⟩ : ∃ (g : Fin 8) (r : Fin 4) (t s : Fin 16384), i = ValueIdx.ix4 g r t s := ⟨i 0, i 1, i 2, i 3, ValueIdx.eq_ix4 i⟩
  show _ = (((if s ≤ t then Real.exp (Q.acs r g t - Q.acs r g s) else 0 : ℝ)) : EReal)
  by_cases h : s.val ≤ t.val
  · rw [if_pos (decide_eq_true h), if_pos (Fin.le_def.mpr h)]; rfl
  · rw [if_neg (fun q => h (of_decide_eq_true q)), if_neg (fun q => h (Fin.le_def.mp q)), Ideal.exp_bot]; rfl
theorem r24 : val_main_v24 (F := Ideal) (A1 Q) (A2 Q) = up3 (φ := .f32) fun g t s => Q.cb g t s := by
  unfold val_main_v24
  funext i
  pointwise [A1, A2, up3]
  simp only [← EReal.coe_mul, ← coe_sum, Sq.cb]
theorem r26 : val_main_v26 (F := Ideal) (A3 Q) (A4 Q) = up4 (φ := .f32) fun g t r _ => Q.dt r g t := by
  unfold val_main_v26 val_main_v25
  rw [r14]
  funext i
  pointwise [up3, up4]
theorem r27 : val_main_v27 (F := Ideal) (A3 Q) (A4 Q) = up4 (φ := .f32) fun g t r _ => Q.dt r g t := by
  unfold val_main_v27
  rw [r26]
  funext i
  pointwise [up4]
theorem r28 : val_main_v28 (F := Ideal) (A0 Q) (A3 Q) (A4 Q) = up4 (φ := .f32) fun g t r q => Q.xd g t (ln r q) := by
  unfold val_main_v28
  rw [r0, r27, mulf_up4]
  simp only [Sq.xd, hd_ln]
theorem r31 : val_main_v31 (F := Ideal) (A1 Q) (A2 Q) (A3 Q) (A4 Q) (A5 Q) = up4 (φ := .f32) fun g r t s => Q.cb g t s * Q.L r g t s := by
  unfold val_main_v31 val_main_v30 val_main_v29
  rw [r24, r23]
  funext i
  pointwise [up3, up4]
  exact (EReal.coe_mul _ _).symm
theorem r44 : val_main_v44 (F := Ideal) (A6 Q) (A7 Q) = up4 (φ := .f32) fun g t r q => Q.Y g t (ln r q) * Q.D (ix r g) := by
  unfold val_main_v44 val_main_v43 val_main_v34
  rw [r39]
  funext i
  pointwise [A6, up1, up4]
  refine Eq.trans ?_ (EReal.coe_mul _ _).symm
  exact congrArg (fun h => _ * ((Q.D h : ℝ) : EReal)) (Fin.ext (by simp only [ix]; omega))
theorem lanes (f : Fin 256 → ℝ) (r : Fin 4) : ∑ q, f (ln r q) = ∑ p, if hd p = r then f p else 0 := by
  rw [← Finset.sum_filter]
  refine Finset.sum_bij (fun q _ => ln r q) ?_ ?_ ?_ ?_
  · intro q _; simp [hd_ln]
  · intro a _ b _ h
    have := congrArg Fin.val h
    simp only [ln] at this
    exact Fin.ext (by omega)
  · intro p hp
    simp only [Finset.mem_filter, Finset.mem_univ, true_and] at hp
    exact ⟨ft p, Finset.mem_univ _, by rw [← hp]; exact ln_hd_ft p⟩
  · intro _ _; rfl
theorem r47 : val_main_v47 (F := Ideal) (A0 Q) (A3 Q) (A4 Q) (A7 Q) = up4 (φ := .f32) fun g r t s => Q.dM r g t s := by
  unfold val_main_v47 val_main_v46
  rw [r39, r28]
  funext i
  pointwise [up4]
  simp only [← EReal.coe_mul, ← coe_sum, Sq.dM]
  exact congrArg (fun x : ℝ => (x : EReal)) (lanes (fun p => Q.Y (i 0) (i 2) p * Q.xd (i 0) (i 3) p) (i 1))
theorem r49 : val_main_v49 (F := Ideal) (A1 Q) (A2 Q) (A3 Q) (A4 Q) (A5 Q) (A7 Q) = up4 (φ := .f32) fun g s r q => Q.dxd g s (ln r q) := by
  unfold val_main_v49 val_main_v48 val_main_v46
  rw [r39, r31]
  funext i
  pointwise [up4]
  simp only [← EReal.coe_mul, ← coe_sum]
  refine congrArg (fun x : ℝ => (x : EReal)) (Finset.sum_congr rfl fun t _ => ?_)
  refine (mul_comm _ _).trans ?_
  exact congrArg (fun r => Q.cb (i 0) t (i 1) * Q.L r (i 0) t (i 1) * Q.Y (i 0) t (ln (i 2) (i 3))) (hd_ln (i 2) (i 3)).symm

end Cert.Ref

end
-- ==== Proof.RefB.lean ====
/- The reference over finite values, operation by operation, from the gradient of the masked product to the results. -/
module

public import proofs.«01_k».proof.Proof.RefA

@[expose] public section

set_option maxRecDepth 16384

noncomputable section

namespace Cert.Ref

open Idealize.ShloMosaic Idealize.ShloMosaic.TcCoe Idealize.SL.Sem Cert.ReferenceIdeal Cert.ReferenceIdeal.Gen
open Cert.ReferenceIdeal.Read Cert.Lift

variable (Q : Sq)

/-- A sum over the second and fourth axes, read at an index of the two that stay. -/
theorem drop_sum {a b c d : ℕ} (x : (⟨4, ![a, b, c, d]⟩ : Shape).Idx → EReal)
    (h : (⟨4, ![a, b, c, d]⟩ : Shape).ReducesTo [1, 3] ⟨2, ![a, c]⟩) (j : (⟨2, ![a, c]⟩ : Shape).Idx) :
    ∑ i ∈ Finset.univ.filter (fun i => h.drop i = j), x i
      = ∑ t : Fin b, ∑ q : Fin d, x (ValueIdx.ix4 (j 0) t (j 1) q) := by
  rw [← Fintype.sum_prod_type' (f := fun (t : Fin b) (q : Fin d) => x (ValueIdx.ix4 (j 0) t (j 1) q))]
  refine Finset.sum_bij' (fun i _ => ((i 1 : Fin b), (i 3 : Fin d))) (fun tq _ => ValueIdx.ix4 (j 0) tq.1 (j 1) tq.2) ?_ ?_ ?_ ?_ ?_
  · intro i _; exact Finset.mem_univ _
  · intro tq _
    refine Finset.mem_filter.mpr ⟨Finset.mem_univ _, funext fun b => ?_⟩
    match b with
    | ⟨0, _⟩ => rfl
    | ⟨1, _⟩ => rfl
  · intro i hi
    have e := (Finset.mem_filter.mp hi).2
    refine Eq.trans ?_ (ValueIdx.eq_ix4 i).symm
    have e0 : j 0 = i 0 := by rw [← e]; rfl
    have e1 : j 1 = i 2 := by rw [← e]; rfl
    exact congrArg₂ (fun a b => ValueIdx.ix4 a (i 1) b (i 3)) e0 e1
  · intro tq _; exact Prod.ext rfl rfl
  · intro i hi
    have e := (Finset.mem_filter.mp hi).2
    refine congrArg x ?_
    refine (ValueIdx.eq_ix4 i).trans ?_
    have e0 : j 0 = i 0 := by rw [← e]; rfl
    have e1 : j 1 = i 2 := by rw [← e]; rfl
    exact congrArg₂ (fun a b => ValueIdx.ix4 a (i 1) b (i 3)) e0.symm e1.symm

theorem r41 : val_main_v41 (F := Ideal) (A0 Q) (A7 Q) = up2 (φ := .f32) fun g r => Q.dD r g := by
  unfold val_main_v41 val_main_v40 val_main_cst_0
  rw [r0, r39, mulf_up4]
  funext j
  show Ideal.hostReduceAdd _ _ _ j = _
  unfold Ideal.hostReduceAdd
  rw [drop_sum (a := 8) (b := 16384) (c := 4) (d := 64)]
  have h0 : (constant (F := Ideal) S_ .f32 0x00000000#32) (Shape.Idx.first h_S_) = 0 := Ideal.ofBits_zero_f32
  rw [h0, zero_add]
  refine Eq.trans (b := ((∑ t : Fin 16384, ∑ q : Fin 64, Q.X (j 0) t (ln (j 1) q) * Q.Y (j 0) t (ln (j 1) q) : ℝ) : EReal)) ?_ ?_
  · rw [coe_sum]
    exact Finset.sum_congr rfl fun t _ => (coe_sum _ _).symm
  · refine congrArg (fun x : ℝ => (x : EReal)) (Finset.sum_congr rfl fun t _ => ?_)
    exact lanes (fun p => Q.X (j 0) t p * Q.Y (j 0) t p) (j 1)
theorem r45 : val_main_v45 (F := Ideal) (A0 Q) (A7 Q) = up1 (φ := .f32) fun h => Q.dD (rr h) (gr h) := by
  unfold val_main_v45 val_main_v42
  rw [r41]
  funext i
  have h0 : (i 0).val < 32 := (i 0).isLt
  pointwise [up1, up2]
  exact congrArg₂ (fun r g => ((Q.dD r g : ℝ) : EReal)) (Fin.ext rfl) (Fin.ext rfl)
theorem r52 : val_main_v52 (F := Ideal) (A0 Q) (A3 Q) (A4 Q) (A5 Q) (A7 Q) = up4 (φ := .f32) fun g r t s => Q.dM r g t s * Q.L r g t s := by
  unfold val_main_v52
  rw [r47, r23, mulf_up4]
theorem r55 : val_main_v55 (F := Ideal) (A0 Q) (A3 Q) (A4 Q) (A5 Q) (A7 Q) = up3 (φ := .f32) fun g t s => Q.dcb g t s := by
  unfold val_main_v55 val_main_v54 val_main_v53 val_main_cst_1 val_main_cst_2
  rw [r52]
  funext i
  pointwise [up4, up3]
  simp only [zero_add, ← coe_sum, Fin.sum_univ_one]
  rfl
theorem r57 : val_main_v57 (F := Ideal) (A0 Q) (A1 Q) (A2 Q) (A3 Q) (A4 Q) (A5 Q) (A7 Q)
    = up3 (φ := .f32) fun g t r => ∑ p, if hd p = r then Q.X g t p * Q.dxd g t p else 0 := by
  unfold val_main_v57 val_main_v56 val_main_cst_3
  rw [r0, r49, mulf_up4]
  funext i
  pointwise [up4, up3]
  simp only [zero_add, ← coe_sum]
  exact congrArg (fun x : ℝ => (x : EReal)) (lanes (fun p => Q.X (i 0) (i 1) p * Q.dxd (i 0) (i 1) p) (i 2))
theorem r63 : val_main_v63 (F := Ideal) (A0 Q) (A1 Q) (A2 Q) (A3 Q) (A4 Q) (A5 Q) (A7 Q)
    = up3 (φ := .f32) fun g r t => ∑ p, if hd p = r then Q.X g t p * Q.dxd g t p else 0 := by
  unfold val_main_v63 val_main_v62 val_main_v58 val_main_cst_4
  rw [r57]
  funext i
  pointwise [up3]
  simp only [zero_add, Fin.sum_univ_one]
theorem r61 : val_main_v61 (F := Ideal) (A1 Q) (A2 Q) (A3 Q) (A4 Q) (A5 Q) (A6 Q) (A7 Q)
    = up4 (φ := .f32) fun g t r q => Q.dX g t (ln r q) := by
  unfold val_main_v61 val_main_v60 val_main_v59
  rw [r44, r49, r26]
  funext i
  pointwise [up4]
  refine Eq.trans ?_ (congrArg (fun r => ((Q.Y (i 0) (i 1) (ln (i 2) (i 3)) * Q.D (ix r (i 0))
    + Q.dxd (i 0) (i 1) (ln (i 2) (i 3)) * Q.dt r (i 0) (i 1) : ℝ) : EReal)) (hd_ln (i 2) (i 3)).symm)
  rw [EReal.coe_add, EReal.coe_mul]
  rfl
theorem r94 : val_main_v94 (F := Ideal) (A1 Q) (A2 Q) (A3 Q) (A4 Q) (A5 Q) (A6 Q) (A7 Q) = up3 (φ := .f32) fun g t p => Q.dX g t p := by
  unfold val_main_v94
  rw [r61]
  funext i
  have h2 : (i 2).val < 256 := (i 2).isLt
  pointwise [up3, up4]
  exact congrArg (fun p => ((Q.dX (i 0) (i 1) p : ℝ) : EReal)) (Fin.ext (by simp only [ln]; omega))
theorem r64 : val_main_v64 (F := Ideal) (A0 Q) (A2 Q) (A3 Q) (A4 Q) (A5 Q) (A7 Q) = up3 (φ := .f32) fun g s n => Q.dB g s n := by
  unfold val_main_v64
  rw [r55]
  funext i
  pointwise [A2, up3]
  simp only [← EReal.coe_mul, ← coe_sum]
  rfl
theorem r65 : val_main_v65 (F := Ideal) (A0 Q) (A1 Q) (A3 Q) (A4 Q) (A5 Q) (A7 Q) = up3 (φ := .f32) fun g t n => Q.dC g t n := by
  unfold val_main_v65
  rw [r55]
  funext i
  pointwise [A1, up3]
  simp only [← EReal.coe_mul, ← coe_sum]
  rfl

end Cert.Ref

end
-- ==== Proof.RefC.lean ====
/- The reference over finite values, operation by operation: the gradients of the step sizes and of the heads' parameters. -/
module

public import proofs.«01_k».proof.Proof.RefB

@[expose] public section

set_option maxRecDepth 16384

noncomputable section

namespace Cert.Ref

open Idealize.ShloMosaic Idealize.ShloMosaic.TcCoe Idealize.SL.Sem Cert.ReferenceIdeal Cert.ReferenceIdeal.Gen
open Cert.ReferenceIdeal.Read Cert.Lift

variable (Q : Sq)

theorem L_zero (r : Fin 4) (g : Fin 8) (t s : Fin 16384) (h : ¬s ≤ t) : Q.L r g t s = 0 := if_neg h
theorem A_at (h : Fin 32) : 0 - Real.exp (Q.al h) = Q.A (rr h) (gr h) := by rw [Sq.A, ix_rr_gr]
theorem z_at (t : Fin 16384) (h : Fin 32) : Q.raw t h + Q.bias h = Q.z (rr h) (gr h) t := by rw [Sq.z, ix_rr_gr]
theorem neg_rate (s e a : ℝ) (h : 0 - e = a) : -s * e = s * a := by rw [← h]; ring
theorem r67 : val_main_v67 (F := Ideal) (A0 Q) (A1 Q) (A2 Q) (A3 Q) (A4 Q) (A5 Q) (A7 Q) = up4 (φ := .f32) fun g r t s => Q.P r g t s := by
  unfold val_main_v67 val_main_v66 val_main_v51 val_main_v50 val_main_v29 val_main_call4_v0 val_main_call4_cst
  rw [r22m, r24, r47, r23]
  funext i
  obtain ⟨g, r, t, s, rfl⟩ : ∃ (g : Fin 8) (r : Fin 4) (t s : Fin 16384), i = ValueIdx.ix4 g r t s := ⟨i 0, i 1, i 2, i 3, ValueIdx.eq_ix4 i⟩
  pointwise [up3, up4]
  show (if s.val ≤ t.val then _ else _) = (((Q.cb g t s * Q.dM r g t s * Q.L r g t s : ℝ)) : EReal)
  by_cases h : s.val ≤ t.val
  · rw [if_pos h, EReal.coe_mul, EReal.coe_mul]
  · rw [if_neg h, L_zero Q r g t s (fun q => h (Fin.le_def.mp q)), mul_zero]; rfl
theorem r74 : val_main_v74 (F := Ideal) (A0 Q) (A1 Q) (A2 Q) (A3 Q) (A4 Q) (A5 Q) (A7 Q) = up3 (φ := .f32) fun g r t => ∑ s, Q.P r g t s := by
  unfold val_main_v74 val_main_v69 val_main_v68 val_main_cst_8 val_main_cst_5
  rw [r67]
  funext i
  pointwise [up3, up4]
  simp only [zero_add, Fin.sum_univ_one, ← coe_sum]
theorem r70 : val_main_v70 (F := Ideal) (A0 Q) (A1 Q) (A2 Q) (A3 Q) (A4 Q) (A5 Q) (A7 Q) = up4 (φ := .f32) fun g r t s => -Q.P r g t s := by
  unfold val_main_v70
  rw [r67]
  exact funext fun i => (EReal.coe_neg _).symm
theorem r73 : val_main_v73 (F := Ideal) (A0 Q) (A1 Q) (A2 Q) (A3 Q) (A4 Q) (A5 Q) (A7 Q) = up3 (φ := .f32) fun g r s => ∑ t, -Q.P r g t s := by
  unfold val_main_v73 val_main_v72 val_main_v71 val_main_cst_6 val_main_cst_7
  rw [r70]
  funext i
  pointwise [up3, up4]
  simp only [zero_add, Fin.sum_univ_one, ← coe_sum]
theorem r75 : val_main_v75 (F := Ideal) (A0 Q) (A1 Q) (A2 Q) (A3 Q) (A4 Q) (A5 Q) (A7 Q) = up3 (φ := .f32) fun g r t => Q.dacs r g t := by
  unfold val_main_v75
  rw [r73, r74, addf_up3]
  refine congrArg (up3 (φ := .f32)) (funext fun g => funext fun r => funext fun t => ?_)
  rw [Finset.sum_neg_distrib]
  exact (add_comm _ _).trans (sub_eq_add_neg _ _).symm
theorem r79 : val_main_v79 (F := Ideal) (A0 Q) (A1 Q) (A2 Q) (A3 Q) (A4 Q) (A5 Q) (A7 Q) = up2 (φ := .f32) fun t h => Q.dacs (rr h) (gr h) t := by
  unfold val_main_v79 val_main_v78
  rw [r75]
  funext i
  have h1 : (i 1).val < 32 := (i 1).isLt
  pointwise [up2, up3]
  first | rfl | exact congrArg₂ (fun r g => ((Q.dacs r g (i 0) : ℝ) : EReal)) (Fin.ext rfl) (Fin.ext rfl)
theorem r77 : val_main_v77 (F := Ideal) (A0 Q) (A1 Q) (A2 Q) (A3 Q) (A4 Q) (A5 Q) (A7 Q)
    = up2 (φ := .f32) fun t h => ∑ p, if hd p = rr h then Q.X (gr h) t p * Q.dxd (gr h) t p else 0 := by
  unfold val_main_v77 val_main_v76
  rw [r63]
  funext i
  have h1 : (i 1).val < 32 := (i 1).isLt
  pointwise [up2, up3]
  rfl
theorem r80 : val_main_v80 (F := Ideal) (A0 Q) (A1 Q) (A2 Q) (A3 Q) (A4 Q) (A5 Q) (A7 Q) = up2 (φ := .f32) fun t h => Q.dadt (rr h) (gr h) t := by
  unfold val_main_v80 val_main_call5_call0_v0 val_main_call5_call0_cst
  rw [r79]
  exact cumsum_up _ _ (fun i => by pointwise []) _ _
theorem r83 : val_main_v83 (F := Ideal) (A0 Q) (A1 Q) (A2 Q) (A3 Q) (A4 Q) (A5 Q) (A7 Q) = up2 (φ := .f32) fun t h => Q.ddt (rr h) (gr h) t := by
  have e : val_main_v82 (F := Ideal) (A0 Q) (A1 Q) (A2 Q) (A3 Q) (A4 Q) (A5 Q) (A7 Q)
      = Prelude.expo (A5 Q) (val_main_v80 (F := Ideal) (A0 Q) (A1 Q) (A2 Q) (A3 Q) (A4 Q) (A5 Q) (A7 Q)) := rfl
  unfold val_main_v83
  rw [e, r80, r77]
  refine (congrArg (addf _) (Prelude.expo_up _ _)).trans ?_
  funext i
  refine (EReal.coe_add _ _).symm.trans ?_
  refine congrArg (fun x : ℝ => (x : EReal)) ?_
  exact congrArg₂ (· + ·) rfl (congrArg₂ (· * ·) (A_at Q (i 1)) rfl)
theorem logistic (z : ℝ) : Real.exp (z - (max z 0 + Real.log (1 + Real.exp (0 - |z|)))) = Real.exp z / (1 + Real.exp z) := by
  have hp : 0 < 1 + Real.exp (0 - |z|) := by have := Real.exp_pos (0 - |z|); linarith
  rw [Real.exp_sub, Real.exp_add, Real.exp_log hp]
  congr 1
  rcases le_total 0 z with h | h
  · rw [max_eq_left h, abs_of_nonneg h, mul_add, ← Real.exp_add, show z + (0 - z) = 0 by ring, Real.exp_zero]; ring
  · rw [max_eq_right h, abs_of_nonpos h, Real.exp_zero, one_mul]; congr 2; ring
theorem ofBits_high : Ideal.ofBits .f32 0x7F800000#32 = (⊤ : EReal) := by
  simp [Ideal.ofBits, Ideal.ieee]
theorem guard (x : ℝ) (y : EReal) : Scalar.select (BitVec.ofBool (decide ((x : EReal) = Ideal.ofBits .f32 0x7F800000#32))) y (x : EReal) = (x : EReal) := by
  rw [ofBits_high, select_ofBool, if_neg (by simp)]
theorem r4s : val_main_v4_1 (F := Ideal) (A3 Q) (A4 Q)
    = up2 (φ := .f32) fun t h => Real.exp (Q.z (rr h) (gr h) t) / (1 + Real.exp (Q.z (rr h) (gr h) t)) := by
  unfold val_main_v4_1 val_main_call0_v21 val_main_call0_v16 val_main_call0_v20 val_main_call0_v14 val_main_call0_v18
  rw [r4, r3]
  funext i
  have hz : Q.raw (i 0) (i 1) + Q.bias (i 1) = Q.z (rr (i 1)) (gr (i 1)) (i 0) := z_at Q (i 0) (i 1)
  refine Eq.trans (b := Ideal.exp (((Q.raw (i 0) (i 1) + Q.bias (i 1) : ℝ) : EReal) - ((Q.dt (rr (i 1)) (gr (i 1)) (i 0) : ℝ) : EReal))) ?_ ?_
  · exact congrArg Ideal.exp (congrArg₂ (· - ·) (guard _ (val_main_call0_v15 (F := Ideal) i)) (guard _ (val_main_call0_v19 (F := Ideal) i)))
  · rw [← EReal.coe_sub, hz]
    exact congrArg (fun x : ℝ => (x : EReal)) (logistic _)
theorem r90 : val_main_v90 (F := Ideal) (A0 Q) (A1 Q) (A2 Q) (A3 Q) (A4 Q) (A5 Q) (A7 Q) = up2 (φ := .f32) fun t h => Q.dz (rr h) (gr h) t := by
  unfold val_main_v90
  rw [r83, r4s]
  exact funext fun i => (EReal.coe_mul _ _).symm
theorem r97 : val_main_v97 (F := Ideal) (A0 Q) (A1 Q) (A2 Q) (A3 Q) (A4 Q) (A5 Q) (A7 Q)
    = up5 (φ := .f32) fun k r g _ l => Q.dz r g (st k l) := by
  unfold val_main_v97 val_main_v96 val_main_v95
  rw [r90]
  funext i
  have h1 : (i 1).val < 4 := (i 1).isLt
  have h2 : (i 2).val < 8 := (i 2).isLt
  pointwise [up2, up5]
  refine Eq.trans (b := ((Q.dz (rr (ix (i 1) (i 2))) (gr (ix (i 1) (i 2))) (st (i 0) (i 4)) : ℝ) : EReal)) ?_ ?_
  · exact congrArg₂ (fun h t => ((Q.dz (rr h) (gr h) t : ℝ) : EReal)) (Fin.ext (by simp only [ix]; omega)) (Fin.ext (by simp only [st]; omega))
  · exact congrArg₂ (fun r g => ((Q.dz r g (st (i 0) (i 4)) : ℝ) : EReal)) (rr_ix (i 1) (i 2)) (gr_ix (i 1) (i 2))
theorem total (f : Fin 16384 → Fin 32 → ℝ) : (Host.reduceAdd (shapeCast S1x32 (Host.reduceAdd (up2 (φ := .f32) f)
    (constant (F := Ideal) S_ .f32 0x00000000#32) reducesTo_S16384x32_S32_d0 h_S_) shapeCasts_S32_S1x32)
    (constant (F := Ideal) S_ .f32 0x00000000#32) reducesTo_S1x32_S32_d0 h_S_ : FVec Ideal S32 .f32) = up1 (φ := .f32) fun h => ∑ t, f t h := by
  funext i
  pointwise [up1, up2]
  simp only [zero_add, Fin.sum_univ_one, ← coe_sum]
theorem r93 : val_main_v93 (F := Ideal) (A0 Q) (A1 Q) (A2 Q) (A3 Q) (A4 Q) (A5 Q) (A7 Q) = up1 (φ := .f32) fun h => Q.ddtb (rr h) (gr h) := by
  unfold val_main_v93 val_main_v92 val_main_v91 val_main_cst_11 val_main_cst_12
  rw [r90]
  exact total _
theorem r87 : val_main_v87 (F := Ideal) (A0 Q) (A1 Q) (A2 Q) (A3 Q) (A4 Q) (A5 Q) (A7 Q)
    = up1 (φ := .f32) fun h => ∑ t, Q.dadt (rr h) (gr h) t * Q.dt (rr h) (gr h) t := by
  have e : val_main_v84 (F := Ideal) (A0 Q) (A1 Q) (A2 Q) (A3 Q) (A4 Q) (A5 Q) (A7 Q)
      = up2 (φ := .f32) fun t h => Q.dadt (rr h) (gr h) t * Q.dt (rr h) (gr h) t := by
    unfold val_main_v84
    rw [r80, r4]
    exact funext fun i => (EReal.coe_mul _ _).symm
  unfold val_main_v87 val_main_v86 val_main_v85 val_main_cst_9 val_main_cst_10
  rw [e]
  exact total _
theorem r89 : val_main_v89 (F := Ideal) (A0 Q) (A1 Q) (A2 Q) (A3 Q) (A4 Q) (A5 Q) (A7 Q) = up1 (φ := .f32) fun h => Q.dal (rr h) (gr h) := by
  unfold val_main_v89 val_main_v88 val_main_v5
  rw [r87]
  funext i
  refine Eq.trans (b := (((-∑ t, Q.dadt (rr (i 0)) (gr (i 0)) t * Q.dt (rr (i 0)) (gr (i 0)) t) * Real.exp (Q.al (i 0)) : ℝ) : EReal)) ?_ ?_
  · rw [EReal.coe_mul, EReal.coe_neg]; rfl
  · exact congrArg (fun x : ℝ => (x : EReal)) (neg_rate _ _ _ (A_at Q (i 0)))
theorem heads_back (f : Fin 4 → Fin 8 → ℝ) : Prelude.heads (up1 (φ := .f32) fun h => f (rr h) (gr h)) = up4 (φ := .f32) fun r g _ _ => f r g := by
  rw [Prelude.heads_up]
  refine congrArg (up4 (φ := .f32)) (funext fun r => funext fun g => ?_)
  simp only [rr_ix, gr_ix]
theorem r100 : val_main_v100 (F := Ideal) (A0 Q) (A1 Q) (A2 Q) (A3 Q) (A4 Q) (A5 Q) (A7 Q) = up4 (φ := .f32) fun r g _ _ => Q.ddtb r g := by
  have e : val_main_v100 (F := Ideal) (A0 Q) (A1 Q) (A2 Q) (A3 Q) (A4 Q) (A5 Q) (A7 Q)
      = Prelude.heads (val_main_v93 (F := Ideal) (A0 Q) (A1 Q) (A2 Q) (A3 Q) (A4 Q) (A5 Q) (A7 Q)) := rfl
  rw [e, r93]
  exact heads_back Q.ddtb
theorem r103 : val_main_v103 (F := Ideal) (A0 Q) (A1 Q) (A2 Q) (A3 Q) (A4 Q) (A5 Q) (A7 Q) = up4 (φ := .f32) fun r g _ _ => Q.dal r g := by
  have e : val_main_v103 (F := Ideal) (A0 Q) (A1 Q) (A2 Q) (A3 Q) (A4 Q) (A5 Q) (A7 Q)
      = Prelude.heads (val_main_v89 (F := Ideal) (A0 Q) (A1 Q) (A2 Q) (A3 Q) (A4 Q) (A5 Q) (A7 Q)) := rfl
  rw [e, r89]
  exact heads_back Q.dal
theorem r106 : val_main_v106 (F := Ideal) (A0 Q) (A7 Q) = up4 (φ := .f32) fun r g _ _ => Q.dD r g := by
  have e : val_main_v106 (F := Ideal) (A0 Q) (A7 Q) = Prelude.heads (val_main_v45 (F := Ideal) (A0 Q) (A7 Q)) := rfl
  rw [e, r45]
  exact heads_back Q.dD

end Cert.Ref

end
-- ==== Proof.Finite.lean ====
/- What the precondition says: every argument is finite and no argument of softplus is zero, so the arguments hold a
   sequence of real numbers. -/
module

public import proofs.«01_k».proof.Pre_smooth
public import proofs.«01_k».proof.Proof.Gen.Pre_smooth
public import proofs.«01_k».proof.Proof.RefC
public import Idealize.ShloMosaic.Lib.ReduceAll

@[expose] public section

set_option maxRecDepth 16384

noncomputable section

namespace Cert.Finite

open Idealize.ShloMosaic Cert.Pre_smooth Cert.Pre_smooth.Gen Cert.Lift

/-- The only index of an array without axes. -/
def pt : S_.Idx := fun k => k.elim0
instance : Subsingleton S_.Idx := ⟨fun _ _ => funext fun k => k.elim0⟩

theorem ofBool_one (p : Bool) (h : BitVec.ofBool p = 1#1) : p = true := by
  cases p
  · exact absurd h (by decide)
  · rfl

/-- An array whose every element compares between the infinities holds real numbers. -/
theorem real_of {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (andi (cmpf .ogt x (broadcastInDim s ![] hb (constant (F := Ideal) S_ .f32 0xFF800000#32)))
      (cmpf .olt x (broadcastInDim s ![] hb (constant (F := Ideal) S_ .f32 0x7F800000#32)))) (constantI S_ 1 1#1) hr hu pt = 1#1)
    (i : s.Idx) : x i = (((x i : EReal).toReal : ℝ) : EReal) := by
  have h := Host.reduce_andi_all _ _ hr hu pt e i
  obtain ⟨h1, h2⟩ := IntOp.andi_eq_one.1 h
  have l : Ideal.ofBits .f32 0xFF800000#32 < (x i : EReal) := of_decide_eq_true (ofBool_one _ h1)
  have u : (x i : EReal) < Ideal.ofBits .f32 0x7F800000#32 := of_decide_eq_true (ofBool_one _ h2)
  rw [Prelude.ofBits_low] at l
  rw [Ref.ofBits_high] at u
  exact (EReal.coe_toReal (ne_of_lt u) (ne_of_gt l)).symm

variable (a0 : FVec Ideal S8x16384x256 .f32) (a1 a2 : FVec Ideal S8x16384x128 .f32) (a3 : FVec Ideal S16384x32 .f32)
  (a4 a5 a6 : FVec Ideal S32 .f32) (a7 : FVec Ideal S8x16384x256 .f32)

/-- The real numbers the arguments hold. -/
def seq : Sq where
  X g t p := (a0 (ValueIdx.ix3 g t p) : EReal).toReal
  B g t p := (a1 (ValueIdx.ix3 g t p) : EReal).toReal
  C g t p := (a2 (ValueIdx.ix3 g t p) : EReal).toReal
  raw t h := (a3 (ValueIdx.ix2 t h) : EReal).toReal
  bias h := (a4 (ValueIdx.ix1 h) : EReal).toReal
  al h := (a5 (ValueIdx.ix1 h) : EReal).toReal
  D h := (a6 (ValueIdx.ix1 h) : EReal).toReal
  Y g t p := (a7 (ValueIdx.ix3 g t p) : EReal).toReal

theorem up1_of {a : ℕ} (x : FVec Ideal ⟨1, ![a]⟩ .f32) (h : ∀ i, x i = (((x i : EReal).toReal : ℝ) : EReal)) :
    x = up1 (φ := .f32) fun i => (x (ValueIdx.ix1 i) : EReal).toReal :=
  funext fun i => (h i).trans (congrArg (fun j => (((x j : EReal).toReal : ℝ) : EReal)) (ValueIdx.eq_ix1 i))
theorem up2_of {a b : ℕ} (x : FVec Ideal ⟨2, ![a, b]⟩ .f32) (h : ∀ i, x i = (((x i : EReal).toReal : ℝ) : EReal)) :
    x = up2 (φ := .f32) fun i j => (x (ValueIdx.ix2 i j) : EReal).toReal :=
  funext fun i => (h i).trans (congrArg (fun j => (((x j : EReal).toReal : ℝ) : EReal)) (ValueIdx.eq_ix2 i))
theorem up3_of {a b c : ℕ} (x : FVec Ideal ⟨3, ![a, b, c]⟩ .f32) (h : ∀ i, x i = (((x i : EReal).toReal : ℝ) : EReal)) :
    x = up3 (φ := .f32) fun i j k => (x (ValueIdx.ix3 i j k) : EReal).toReal :=
  funext fun i => (h i).trans (congrArg (fun j => (((x j : EReal).toReal : ℝ) : EReal)) (ValueIdx.eq_ix3 i))

/-- A sum of two real numbers that compares unequal to zero is not zero. -/
theorem ne_of (x y : ℝ) (h : Ideal.cmp .une ((x : EReal) + (y : EReal)) (Ideal.ofBits .f32 0x00000000#32) = 1#1) : x + y ≠ 0 := by
  have h' : ((x : EReal) + (y : EReal)) ≠ Ideal.ofBits .f32 0x00000000#32 := of_decide_eq_true (ofBool_one _ h)
  intro e
  refine h' ?_
  rw [← EReal.coe_add, e]
  simp [Ideal.ofBits, Ideal.ieee]

/-- The test for a zero argument of softplus, read back. -/
theorem nz (q3 : ∀ i, a3 i = (((a3 i : EReal).toReal : ℝ) : EReal)) (q4 : ∀ i, a4 i = (((a4 i : EReal).toReal : ℝ) : EReal))
    (hb1 : S32.BroadcastsInDim S1x32 (![1] : Fin 1 → Fin S1x32.rank)) (hb2 : S1x32.BroadcastsInDim S16384x32 (![0, 1] : Fin 2 → Fin S16384x32.rank))
    (hb : S_.BroadcastsInDim S16384x32 (![] : Fin 0 → Fin S16384x32.rank)) (hr : S16384x32.ReducesTo [0, 1] S_) (hu : 0 < S_.numel)
    (e : Host.reduce IntOp.andi (cmpf .une (addf a3 (broadcastInDim S16384x32 ![0, 1] hb2 (broadcastInDim S1x32 ![1] hb1 a4)))
      (broadcastInDim S16384x32 ![] hb (constant (F := Ideal) S_ .f32 0x00000000#32))) (constantI S_ 1 1#1) hr hu pt = 1#1)
    (t : Fin 16384) (h : Fin 32) : (a3 (ValueIdx.ix2 t h) : EReal).toReal + (a4 (ValueIdx.ix1 h) : EReal).toReal ≠ 0 := by
  have k := Host.reduce_andi_all _ _ hr hu pt e (ValueIdx.ix2 t h : S16384x32.Idx)
  refine ne_of _ _ ?_
  rw [← q3 (ValueIdx.ix2 t h), ← q4 (ValueIdx.ix1 h)]
  refine Eq.trans ?_ k
  show Ideal.cmp .une (a3 (ValueIdx.ix2 t h) + a4 (ValueIdx.ix1 h)) _ = Ideal.cmp .une (a3 (ValueIdx.ix2 t h) + broadcastInDim S16384x32 ![0, 1] hb2 (broadcastInDim S1x32 ![1] hb1 a4) (ValueIdx.ix2 t h)) _
  refine congrArg (fun v => Ideal.cmp .une (a3 (ValueIdx.ix2 t h) + v) _) (congrArg a4 ?_)
  exact (ValueIdx.eq_ix1 _).symm

/-- The precondition holds: the arguments hold the sequence `seq`, no argument of softplus zero. -/
theorem of_pre (h : Cert.Pre_smooth.fn (F := Ideal) a0 a1 a2 a3 a4 a5 a6 a7 = fun _ => 1#1) :
    (a0 = Ref.A0 (seq a0 a1 a2 a3 a4 a5 a6 a7) ∧ a1 = Ref.A1 (seq a0 a1 a2 a3 a4 a5 a6 a7) ∧ a2 = Ref.A2 (seq a0 a1 a2 a3 a4 a5 a6 a7)
      ∧ a3 = Ref.A3 (seq a0 a1 a2 a3 a4 a5 a6 a7) ∧ a4 = Ref.A4 (seq a0 a1 a2 a3 a4 a5 a6 a7) ∧ a5 = Ref.A5 (seq a0 a1 a2 a3 a4 a5 a6 a7)
      ∧ a6 = Ref.A6 (seq a0 a1 a2 a3 a4 a5 a6 a7) ∧ a7 = Ref.A7 (seq a0 a1 a2 a3 a4 a5 a6 a7))
    ∧ ∀ r g t, (seq a0 a1 a2 a3 a4 a5 a6 a7).z r g t ≠ 0 := by
  have e := congrFun h pt
  dsimp only [fn, fn_part1, fn_part2, fn_part3] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨ez, e0⟩ := IntOp.andi_eq_one.1 e
  have q3 := real_of a3 _ _ _ e3
  have q4 := real_of a4 _ _ _ e4
  refine ⟨⟨up3_of a0 (real_of a0 _ _ _ e0), up3_of a1 (real_of a1 _ _ _ e1), up3_of a2 (real_of a2 _ _ _ e2),
    up2_of a3 q3, up1_of a4 q4, up1_of a5 (real_of a5 _ _ _ e5), up1_of a6 (real_of a6 _ _ _ e6), up3_of a7 (real_of a7 _ _ _ e7)⟩, fun r g t => ?_⟩
  exact nz a3 a4 q3 q4 _ _ _ _ _ ez t (ix r g)

end Cert.Finite

end
-- ==== Proof.Agree.lean ====
/- The gradient call and its reference end with equal arrays. -/
module

public import proofs.«01_k».proof.Defs
public import proofs.«01_k».proof.Proof.Gen.ReferenceIdeal.Run
public import proofs.«01_k».proof.Proof.Arrays
public import proofs.«01_k».proof.Proof.Finite

@[expose] public section

set_option maxRecDepth 16384

noncomputable section

namespace Cert.Ref

open Idealize.ShloMosaic Idealize.ShloMosaic.TcCoe Idealize.SL.Sem Cert.ReferenceIdeal Cert.ReferenceIdeal.Gen
open Cert.ReferenceIdeal.Read Cert.Lift

variable (Q : Sq)

theorem at94 {a1 : FVec Ideal S8x16384x128 .f32} {a2 : FVec Ideal S8x16384x128 .f32} {a3 : FVec Ideal S16384x32 .f32} {a4 : FVec Ideal S32 .f32} {a5 : FVec Ideal S32 .f32} {a6 : FVec Ideal S32 .f32} {a7 : FVec Ideal S8x16384x256 .f32}
    (h1 : a1 = A1 Q) (h2 : a2 = A2 Q) (h3 : a3 = A3 Q) (h4 : a4 = A4 Q) (h5 : a5 = A5 Q) (h6 : a6 = A6 Q) (h7 : a7 = A7 Q) : val_main_v94 (F := Ideal) a1 a2 a3 a4 a5 a6 a7 = (up3 (φ := .f32) fun g t p => Q.dX g t p : FVec Ideal S8x16384x256 .f32) := by
  subst h1 h2 h3 h4 h5 h6 h7
  exact r94 Q
theorem at64 {a0 : FVec Ideal S8x16384x256 .f32} {a2 : FVec Ideal S8x16384x128 .f32} {a3 : FVec Ideal S16384x32 .f32} {a4 : FVec Ideal S32 .f32} {a5 : FVec Ideal S32 .f32} {a7 : FVec Ideal S8x16384x256 .f32}
    (h0 : a0 = A0 Q) (h2 : a2 = A2 Q) (h3 : a3 = A3 Q) (h4 : a4 = A4 Q) (h5 : a5 = A5 Q) (h7 : a7 = A7 Q) : val_main_v64 (F := Ideal) a0 a2 a3 a4 a5 a7 = (up3 (φ := .f32) fun g t n => Q.dB g t n : FVec Ideal S8x16384x128 .f32) := by
  subst h0 h2 h3 h4 h5 h7
  exact r64 Q
theorem at65 {a0 : FVec Ideal S8x16384x256 .f32} {a1 : FVec Ideal S8x16384x128 .f32} {a3 : FVec Ideal S16384x32 .f32} {a4 : FVec Ideal S32 .f32} {a5 : FVec Ideal S32 .f32} {a7 : FVec Ideal S8x16384x256 .f32}
    (h0 : a0 = A0 Q) (h1 : a1 = A1 Q) (h3 : a3 = A3 Q) (h4 : a4 = A4 Q) (h5 : a5 = A5 Q) (h7 : a7 = A7 Q) : val_main_v65 (F := Ideal) a0 a1 a3 a4 a5 a7 = (up3 (φ := .f32) fun g t n => Q.dC g t n : FVec Ideal S8x16384x128 .f32) := by
  subst h0 h1 h3 h4 h5 h7
  exact r65 Q
theorem at97 {a0 : FVec Ideal S8x16384x256 .f32} {a1 : FVec Ideal S8x16384x128 .f32} {a2 : FVec Ideal S8x16384x128 .f32} {a3 : FVec Ideal S16384x32 .f32} {a4 : FVec Ideal S32 .f32} {a5 : FVec Ideal S32 .f32} {a7 : FVec Ideal S8x16384x256 .f32}
    (h0 : a0 = A0 Q) (h1 : a1 = A1 Q) (h2 : a2 = A2 Q) (h3 : a3 = A3 Q) (h4 : a4 = A4 Q) (h5 : a5 = A5 Q) (h7 : a7 = A7 Q) : val_main_v97 (F := Ideal) a0 a1 a2 a3 a4 a5 a7 = (up5 (φ := .f32) fun k r g _ l => Q.dz r g (st k l) : FVec Ideal S128x4x8x1x128 .f32) := by
  subst h0 h1 h2 h3 h4 h5 h7
  exact r97 Q
theorem at100 {a0 : FVec Ideal S8x16384x256 .f32} {a1 : FVec Ideal S8x16384x128 .f32} {a2 : FVec Ideal S8x16384x128 .f32} {a3 : FVec Ideal S16384x32 .f32} {a4 : FVec Ideal S32 .f32} {a5 : FVec Ideal S32 .f32} {a7 : FVec Ideal S8x16384x256 .f32}
    (h0 : a0 = A0 Q) (h1 : a1 = A1 Q) (h2 : a2 = A2 Q) (h3 : a3 = A3 Q) (h4 : a4 = A4 Q) (h5 : a5 = A5 Q) (h7 : a7 = A7 Q) : val_main_v100 (F := Ideal) a0 a1 a2 a3 a4 a5 a7 = (up4 (φ := .f32) fun r g _ _ => Q.ddtb r g : FVec Ideal S4x8x1x1 .f32) := by
  subst h0 h1 h2 h3 h4 h5 h7
  exact r100 Q
theorem at103 {a0 : FVec Ideal S8x16384x256 .f32} {a1 : FVec Ideal S8x16384x128 .f32} {a2 : FVec Ideal S8x16384x128 .f32} {a3 : FVec Ideal S16384x32 .f32} {a4 : FVec Ideal S32 .f32} {a5 : FVec Ideal S32 .f32} {a7 : FVec Ideal S8x16384x256 .f32}
    (h0 : a0 = A0 Q) (h1 : a1 = A1 Q) (h2 : a2 = A2 Q) (h3 : a3 = A3 Q) (h4 : a4 = A4 Q) (h5 : a5 = A5 Q) (h7 : a7 = A7 Q) : val_main_v103 (F := Ideal) a0 a1 a2 a3 a4 a5 a7 = (up4 (φ := .f32) fun r g _ _ => Q.dal r g : FVec Ideal S4x8x1x1 .f32) := by
  subst h0 h1 h2 h3 h4 h5 h7
  exact r103 Q
theorem at106 {a0 : FVec Ideal S8x16384x256 .f32} {a7 : FVec Ideal S8x16384x256 .f32}
    (h0 : a0 = A0 Q) (h7 : a7 = A7 Q) : val_main_v106 (F := Ideal) a0 a7 = (up4 (φ := .f32) fun r g _ _ => Q.dD r g : FVec Ideal S4x8x1x1 .f32) := by
  subst h0 h7
  exact r106 Q

end Cert.Ref

namespace Cert.Agree

open Idealize.ShloMosaic Idealize.ShloMosaic.TcCoe Idealize.SL.Sem Cert.Lift

/-- The real numbers the arguments of the call hold on a device. -/
def seq (m : (ℓ : Loc Cert.KernelIdeal.nD Cert.KernelIdeal.τ Cert.KernelIdeal.sig) → Buf (Elt Ideal) ℓ) (c : Dev Cert.KernelIdeal.nD) : Sq :=
  Finite.seq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))

/-- Over the reals, the call and its reference end with equal arrays. -/
theorem agree : Cert.algebraic_KernelIdeal_ReferenceIdeal_pre_smooth (hKernelIdeal := Cert.KernelIdeal.Gen.facts)
    (hReferenceIdeal := Cert.ReferenceIdeal.Gen.facts) (hPre_smooth := Cert.Pre_smooth.Gen.facts) := by
  intro m g m' g' hp hm
  have hq := fun c => Finite.of_pre _ _ _ _ _ _ _ _ (hp c)
  refine ⟨fun c => ((up3 (φ := .f32) fun g t p => (seq m c).dX g t p) : FVec Ideal Cert.KernelIdeal.S8x16384x256 .f32),
    fun c => ((up3 (φ := .f32) fun g t n => (seq m c).dB g t n) : FVec Ideal Cert.KernelIdeal.S8x16384x128 .f32),
    fun c => ((up3 (φ := .f32) fun g t n => (seq m c).dC g t n) : FVec Ideal Cert.KernelIdeal.S8x16384x128 .f32),
    fun c => ((up5 (φ := .f32) fun k r g _ l => (seq m c).dz r g (st k l)) : FVec Ideal Cert.KernelIdeal.S128x4x8x1x128 .f32),
    fun c => ((up4 (φ := .f32) fun r g _ _ => (seq m c).ddtb r g) : FVec Ideal Cert.KernelIdeal.S4x8x1x1 .f32),
    fun c => ((up4 (φ := .f32) fun r g _ _ => (seq m c).dal r g) : FVec Ideal Cert.KernelIdeal.S4x8x1x1 .f32),
    fun c => ((up4 (φ := .f32) fun r g _ _ => (seq m c).dD r g) : FVec Ideal Cert.KernelIdeal.S4x8x1x1 .f32), ?_, ?_⟩
  · refine (θ_run _ _ _).mono (fun r h c => ?_) (Cert.KernelIdeal.Value.run_blocks (F := Ideal) m g)
    obtain ⟨k0, k1, k2, k3, k4, k5, k6, rest⟩ := h c
    obtain ⟨⟨q0, q1, q2, q3, q4, q5, q6, q7⟩, hz⟩ := hq c
    have I := Grid.inputs_of m c (seq m c) q0 q1 q2 q3 q4 q5 q6 q7
    exact ⟨k0.trans (Grid.arr_9 I), k1.trans (Grid.arr_10 I), k2.trans (Grid.arr_11 I), k3.trans (Grid.arr_12 I hz),
      k4.trans (Grid.arr_13 I hz), k5.trans (Grid.arr_14 I), k6.trans (Grid.arr_15 I), rest⟩
  · refine (θ_run _ _ _).mono (fun r h c => ?_) (Cert.ReferenceIdeal.Value.run (F := Ideal) m' g')
    obtain ⟨k0, k1, k2, k3, k4, k5, k6, rest⟩ := h c
    obtain ⟨⟨q0, q1, q2, q3, q4, q5, q6, q7⟩, -⟩ := hq c
    obtain ⟨e0, e1, e2, e3, e4, e5, e6, e7⟩ := hm c
    exact ⟨k0.trans ((Cert.ReferenceIdeal.Read.val_main_v94_eq _).trans (Ref.at94 (seq m c) (e1.trans q1) (e2.trans q2) (e3.trans q3) (e4.trans q4) (e5.trans q5) (e6.trans q6) (e7.trans q7))),
      k1.trans ((Cert.ReferenceIdeal.Read.val_main_v64_eq _).trans (Ref.at64 (seq m c) (e0.trans q0) (e2.trans q2) (e3.trans q3) (e4.trans q4) (e5.trans q5) (e7.trans q7))),
      k2.trans ((Cert.ReferenceIdeal.Read.val_main_v65_eq _).trans (Ref.at65 (seq m c) (e0.trans q0) (e1.trans q1) (e3.trans q3) (e4.trans q4) (e5.trans q5) (e7.trans q7))),
      k3.trans ((Cert.ReferenceIdeal.Read.val_main_v97_eq _).trans (Ref.at97 (seq m c) (e0.trans q0) (e1.trans q1) (e2.trans q2) (e3.trans q3) (e4.trans q4) (e5.trans q5) (e7.trans q7))),
      k4.trans ((Cert.ReferenceIdeal.Read.val_main_v100_eq _).trans (Ref.at100 (seq m c) (e0.trans q0) (e1.trans q1) (e2.trans q2) (e3.trans q3) (e4.trans q4) (e5.trans q5) (e7.trans q7))),
      k5.trans ((Cert.ReferenceIdeal.Read.val_main_v103_eq _).trans (Ref.at103 (seq m c) (e0.trans q0) (e1.trans q1) (e2.trans q2) (e3.trans q3) (e4.trans q4) (e5.trans q5) (e7.trans q7))),
      k6.trans ((Cert.ReferenceIdeal.Read.val_main_v106_eq _).trans (Ref.at106 (seq m c) (e0.trans q0) (e7.trans q7))), rest⟩

end Cert.Agree

end
-- ==== Proof.InDxZ.lean ====
/- The gradient of the hidden state through the gate's and the step sizes' columns of the first layer's in-projection. -/
module

public import Idealize.ShloMosaic.Lib.Pointwise
public import Idealize.ShloMosaic.Lib.Pipeline.ValueKit
public import Idealize.ShloMosaic.Lib.StableHlo.ReadAt
public import proofs.«01_k».proof.Defs
public import proofs.«01_k».proof.Proof.Gen.InDxZIdeal.Value
public import proofs.«01_k».proof.Proof.Gen.InDxZReferenceIdeal.Run
public import proofs.«01_k».proof.Proof.Gen.InDxZReferenceIdeal.Read

@[expose] public section

set_option maxRecDepth 16384

noncomputable section

namespace Cert.DxZ

open Idealize.ShloMosaic Idealize.ShloMosaic.TcCoe Idealize.SL.Sem Cert.InDxZIdeal Cert.InDxZIdeal.Gen
open Idealize.ShloMosaic.Pipeline (Dat)

/-- The weights' column that meets a column of the gradient. -/
def col (k : Fin 2080) : Fin 6176 := ⟨if k.val < 2048 then k.val else 4096 + k.val, by split <;> omega⟩

theorem at2 (w : FVec Ideal S1024x6176 .bf16) {a a' : Fin 1024} {k k' : Fin 6176} (ha : a = a') (hk : k.val = k'.val) :
    w (ValueIdx.ix2 a k) = w (ValueIdx.ix2 a' k') := by
  rw [ha, Fin.ext hk]

/-- The gradient: each row of `d` against each row of the weights' columns. -/
def prod (d : FVec Ideal S16384x2176 .bf16) (w : FVec Ideal S1024x6176 .bf16) : FVec Ideal S16384x1024 .f32 :=
  fun i => (∑ k : Fin 2080, d (ValueIdx.ix2 (i 0) (⟨k.val, by omega⟩ : Fin 2176)) * w (ValueIdx.ix2 (i 1) (col k)))

/-- The product at one grid point. -/
theorem pay (x : Vec Ideal S1024x2176 .bf16) (y : Vec Ideal S1024x2176 .bf16) (i : S1024x1024.Idx) :
    k0_pay1 (F := Ideal) x y i = (∑ k : Fin 2176, x (ValueIdx.ix2 (i 0) k) * y (ValueIdx.ix2 (i 1) k)) := by
  unfold k0_pay1
  pointwise
  rfl

theorem out_eq (x : Vec Ideal S1024x2176 .bf16) (y : Vec Ideal S1024x2176 .bf16) :
    out0_2 (F := Ideal) x y = k0_pay1 x y := by
  have hz : (![0, 0] : Fin 2 → Nat) = fun _ => 0 := funext fun a => by fin_cases a <;> rfl
  unfold out0_2
  rw [View.canon_unit_zero hz, View.ld_unit_zero hz, View.ld_unit_zero hz]

theorem ix_0 : ∀ t : Fin cfg0.N, win0_0.index t = ![t.val, 0] := by decide +kernel
theorem ix_1 : ∀ t : Fin cfg0.N, win0_1.index t = ![0, 0] := by decide +kernel
theorem ix_2 : ∀ t : Fin cfg0.N, win0_2.index t = ![t.val, 0] := by decide +kernel

variable (m : (ℓ : Loc nD τ sig) → Buf (Elt Ideal) ℓ) (c : Dev nD)

/-- The weights' columns that the host passes, with columns of zeros after them. -/
def cols (w : FVec Ideal S1024x6176 .bf16) : FVec Ideal S1024x2176 .bf16 :=
  concatenate S1024x2176 1
    [⟨S1024x2048, extractStridedSlice S1024x2048 ![0, 0] (extractStridedSlice S1024x6144 ![0, 0] w slices_S1024x6176_S1024x6144_0_0) slices_S1024x6144_S1024x2048_0_0⟩,
     ⟨S1024x128, concatenate S1024x128 1
      [⟨S1024x32, extractStridedSlice S1024x32 ![0, 6144] w slices_S1024x6176_S1024x32_0_6144⟩,
       ⟨S1024x96, broadcastInDim S1024x96 ![] bcast_S_S1024x96 (constant (F := Ideal) S_ .bf16 0x0000#16)⟩] concatenates_S1024x32_S1024x96_S1024x128_d1⟩]
    concatenates_S1024x2048_S1024x128_S1024x2176_d1
theorem cols_lo (w : FVec Ideal S1024x6176 .bf16) (a : Fin 1024) (k : Fin 2080) :
    cols w (ValueIdx.ix2 a (⟨k.val, by omega⟩ : Fin 2176)) = w (ValueIdx.ix2 a (col k)) := by
  unfold cols col
  pointwise
  by_cases h : k.val < 2048
  · rw [dif_pos h]
    exact at2 w rfl (if_pos h).symm
  · rw [dif_neg h, dif_pos (by omega)]
    exact at2 w rfl (by show 6144 + (k.val - 2048) = (if k.val < 2048 then k.val else 4096 + k.val); rw [if_neg h]; omega)
theorem cols_hi (w : FVec Ideal S1024x6176 .bf16) (a : Fin 1024) (k : Fin 96) :
    cols w (ValueIdx.ix2 a (⟨2080 + k.val, by omega⟩ : Fin 2176)) = 0 := by
  unfold cols
  pointwise
  rw [dif_neg (by omega), dif_neg (by omega)]
/-- The columns of zeros add nothing. -/
theorem prod_eq (d : FVec Ideal S16384x2176 .bf16) (w : FVec Ideal S1024x6176 .bf16) (i : S16384x1024.Idx) :
    prod d w i = (∑ k : Fin 2176, d (ValueIdx.ix2 (i 0) k) * cols w (ValueIdx.ix2 (i 1) k)) := by
  unfold prod
  show _ = _
  refine Eq.symm ((Fin.sum_univ_add (a := 2080) (b := 96) (fun k : Fin (2080 + 96) => d (ValueIdx.ix2 (i 0) k) * cols w (ValueIdx.ix2 (i 1) k))).trans ?_)
  rw [Finset.sum_eq_zero (s := (Finset.univ : Finset (Fin 96))), add_zero]
  · exact Finset.sum_congr rfl fun k _ => congrArg (_ * ·) (cols_lo w (i 1) k)
  · intro k _
    exact (congrArg (_ * ·) (cols_hi w (i 1) k)).trans (mul_zero _)
theorem V_v5 : V m c main_v5 = cols (m ((c : Thread nD τ).loc main_arg1)) := by
  unfold_abbrev_sides
  after_reads_simp
  rfl

/-- What the call leaves. -/
theorem arr : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  have e0 : ((((cfg0.win 2).blk t).view.emb y) 0 : ℕ) = t.val * 1024 + (y 0).val := by blk_simp [ix_2]
  have e1 : ((((cfg0.win 2).blk t).view.emb y) 1 : ℕ) = (y 1).val := by blk_simp [ix_2]
  blk_simp
  rw [after0_2, out_eq]
  refine (pay _ _ _).trans ?_
  refine Eq.trans ?_ (prod_eq _ _ _).symm
  refine Finset.sum_congr rfl fun k _ => congrArg₂ (· * ·) ?_ ?_
  · show V m c (Pipeline.arrRef spec0 0) _ = _
    refine (congrFun (V_main_arg0 m c) _).trans (congrArg (m ((c : Thread nD τ).loc main_arg0)) (funext fun a => Fin.ext ?_))
    fin_cases a
    · refine Eq.trans ?_ e0.symm
      blk_simp [ix_0]
    · blk_simp [ix_0]
  · show V m c (Pipeline.arrRef spec0 1) _ = _
    refine (congrFun (V_v5 m c) _).trans (congrArg (cols _) (funext fun a => Fin.ext ?_))
    fin_cases a
    · refine Eq.trans ?_ e1.symm
      blk_simp [ix_1]
    · blk_simp [ix_1]

end Cert.DxZ

namespace Cert.DxZ.Ref

open Idealize.ShloMosaic Idealize.ShloMosaic.TcCoe Cert.InDxZReferenceIdeal Cert.InDxZReferenceIdeal.Read

theorem cols_apply (w : FVec Ideal S1024x6176 .bf16) (a : Fin 1024) (k : Fin 2080) :
    val_main_v2 (F := Ideal) w (ValueIdx.ix2 a k) = w (ValueIdx.ix2 a (col k)) := by
  unfold val_main_v2 val_main_v0 val_main_v1 col
  pointwise
  by_cases h : k.val < 2048
  · refine (dif_pos h).trans ?_
    exact at2 w rfl (if_pos h).symm
  · refine (dif_neg h).trans ?_
    exact at2 w rfl (by show 6144 + (k.val - 2048) = (if k.val < 2048 then k.val else 4096 + k.val); rw [if_neg h]; omega)
/-- What the reference computes. -/
theorem eq (d : FVec Ideal S16384x2176 .bf16) (w : FVec Ideal S1024x6176 .bf16) :
    val_main_v8 (F := Ideal) d w = prod d w := by
  funext i
  rw [val_main_v8_apply]
  refine Finset.sum_congr rfl fun k _ => congrArg₂ (· * ·) ?_ ?_
  · rw [val_main_v7_apply, val_main_v3_apply]
    exact congrArg d (funext fun a => by fin_cases a <;> rfl)
  · rw [val_main_v5_apply]
    exact (congrArg (val_main_v2 (F := Ideal) w) (funext fun a => by fin_cases a <;> rfl)).trans (cols_apply w (i 1) k)
theorem at_eq {d d' : FVec Ideal S16384x2176 .bf16} {w w' : FVec Ideal S1024x6176 .bf16}
    (hd : d' = d) (hw : w' = w) : val_main_v8 (F := Ideal) d' w' = prod d w := by
  subst hd hw
  exact eq d' w'

end Cert.DxZ.Ref

namespace Cert.DxZ

open Idealize.ShloMosaic Idealize.ShloMosaic.TcCoe Idealize.SL.Sem

/-- Over the reals, the call and its reference end with equal arrays. -/
theorem agree : Cert.algebraic_InDxZIdeal_InDxZReferenceIdeal (hInDxZIdeal := Cert.InDxZIdeal.Gen.facts)
    (hInDxZReferenceIdeal := Cert.InDxZReferenceIdeal.Gen.facts) := by
  intro m g m' g' _ hm
  refine ⟨fun c => prod (m ((c.tc : Thread Cert.InDxZIdeal.nD Cert.InDxZIdeal.τ).loc Cert.InDxZIdeal.main_arg0)) (m ((c.tc : Thread Cert.InDxZIdeal.nD Cert.InDxZIdeal.τ).loc Cert.InDxZIdeal.main_arg1)), ?_, ?_⟩
  · refine (θ_run _ _ _).mono (fun r h c => ?_) (Cert.InDxZIdeal.Value.run_blocks (F := Ideal) m g)
    obtain ⟨k0, rest⟩ := h c
    exact ⟨k0.trans (arr m c), rest⟩
  · refine (θ_run _ _ _).mono (fun r h c => ?_) (Cert.InDxZReferenceIdeal.Value.run (F := Ideal) m' g')
    obtain ⟨k0, rest⟩ := h c
    obtain ⟨e0, e1⟩ := hm c
    exact ⟨k0.trans ((Cert.InDxZReferenceIdeal.Read.val_main_v8_eq _ _).trans (Ref.at_eq e0 e1)), rest⟩

end Cert.DxZ

end
-- ==== Proof.InDxXbc.lean ====
/- The gradient of the hidden state through the convolution's columns of the first layer's in-projection. -/
module

public import Idealize.ShloMosaic.Lib.Pointwise
public import Idealize.ShloMosaic.Lib.Pipeline.ValueKit
public import Idealize.ShloMosaic.Lib.StableHlo.ReadAt
public import proofs.«01_k».proof.Defs
public import proofs.«01_k».proof.Proof.Gen.InDxXbcIdeal.Value
public import proofs.«01_k».proof.Proof.Gen.InDxXbcReferenceIdeal.Run
public import proofs.«01_k».proof.Proof.Gen.InDxXbcReferenceIdeal.Read

@[expose] public section

set_option maxRecDepth 16384

noncomputable section

namespace Cert.DxXbc

open Idealize.ShloMosaic Idealize.ShloMosaic.TcCoe Idealize.SL.Sem Cert.InDxXbcIdeal Cert.InDxXbcIdeal.Gen
open Idealize.ShloMosaic.Pipeline (Dat)

/-- The gradient: each row of `d` against each row of the weights' columns, and what is passed on. -/
def prod (d : FVec Ideal S16384x4096 .bf16) (w : FVec Ideal S1024x6176 .bf16) (h : FVec Ideal S16384x1024 .f32) : FVec Ideal S16384x1024 .f32 :=
  fun i => (∑ k : Fin 4096, d (ValueIdx.ix2 (i 0) k) * w (ValueIdx.ix2 (i 1) (⟨2048 + k.val, by omega⟩ : Fin 6176))) + h i

/-- The product at one grid point. -/
theorem pay (x : Vec Ideal S1024x4096 .bf16) (y : Vec Ideal S1024x4096 .bf16) (z : Vec Ideal S1024x1024 .f32) (i : S1024x1024.Idx) :
    k0_pay1 (F := Ideal) x y z i = (∑ k : Fin 4096, x (ValueIdx.ix2 (i 0) k) * y (ValueIdx.ix2 (i 1) k)) + z i := by
  unfold k0_pay1
  pointwise
  rfl

theorem out_eq (x : Vec Ideal S1024x4096 .bf16) (y : Vec Ideal S1024x4096 .bf16) (z : Vec Ideal S1024x1024 .f32) :
    out0_3 (F := Ideal) x y z = k0_pay1 x y z := by
  have hz : (![0, 0] : Fin 2 → Nat) = fun _ => 0 := funext fun a => by fin_cases a <;> rfl
  unfold out0_3
  rw [View.canon_unit_zero hz, View.ld_unit_zero hz, View.ld_unit_zero hz, View.ld_unit_zero hz]

theorem ix_0 : ∀ t : Fin cfg0.N, win0_0.index t = ![t.val, 0] := by decide +kernel
theorem ix_1 : ∀ t : Fin cfg0.N, win0_1.index t = ![0, 0] := by decide +kernel
theorem ix_2 : ∀ t : Fin cfg0.N, win0_2.index t = ![t.val, 0] := by decide +kernel
theorem ix_3 : ∀ t : Fin cfg0.N, win0_3.index t = ![t.val, 0] := by decide +kernel

variable (m : (ℓ : Loc nD τ sig) → Buf (Elt Ideal) ℓ) (c : Dev nD)

/-- The weights' columns that the host passes. -/
def cols (w : FVec Ideal S1024x6176 .bf16) : FVec Ideal S1024x4096 .bf16 :=
  extractStridedSlice S1024x4096 ![0, 2048] (extractStridedSlice S1024x6144 ![0, 0] w slices_S1024x6176_S1024x6144_0_0) slices_S1024x6144_S1024x4096_0_2048
theorem cols_apply (w : FVec Ideal S1024x6176 .bf16) (a : Fin 1024) (k : Fin 4096) :
    cols w (ValueIdx.ix2 a k) = w (ValueIdx.ix2 a (⟨2048 + k.val, by omega⟩ : Fin 6176)) := by
  unfold cols
  pointwise
  rfl
theorem V_v1 : V m c main_v1 = cols (m ((c : Thread nD τ).loc main_arg1)) := by
  unfold_abbrev_sides
  after_reads_simp
  rfl

/-- What the call leaves. -/
theorem arr : (dats m 0 c).arrAt 3 cfg0.N
    = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  have e0 : ((((cfg0.win 3).blk t).view.emb y) 0 : ℕ) = t.val * 1024 + (y 0).val := by blk_simp [ix_3]
  have e1 : ((((cfg0.win 3).blk t).view.emb y) 1 : ℕ) = (y 1).val := by blk_simp [ix_3]
  blk_simp
  rw [after0_3, out_eq]
  refine (pay _ _ _ _).trans ?_
  unfold prod
  refine congrArg₂ (· + ·) (Finset.sum_congr rfl fun k _ => congrArg₂ (· * ·) ?_ ?_) ?_
  · show V m c (Pipeline.arrRef spec0 0) _ = _
    refine (congrFun (V_main_arg0 m c) _).trans (congrArg (m ((c : Thread nD τ).loc main_arg0)) (funext fun a => Fin.ext ?_))
    fin_cases a
    · refine Eq.trans ?_ e0.symm
      blk_simp [ix_0]
    · blk_simp [ix_0]
  · show V m c (Pipeline.arrRef spec0 1) _ = _
    refine (congrFun (V_v1 m c) _).trans ((congrArg (cols _) (funext fun a => Fin.ext ?_)).trans (cols_apply _ _ k))
    fin_cases a
    · refine Eq.trans ?_ e1.symm
      blk_simp [ix_1]
    · blk_simp [ix_1]
  · show V m c (Pipeline.arrRef spec0 2) _ = _
    refine (congrFun (V_main_arg2 m c) _).trans (congrArg (m ((c : Thread nD τ).loc main_arg2)) (funext fun a => Fin.ext ?_))
    fin_cases a
    · refine Eq.trans ?_ e0.symm
      blk_simp [ix_2]
      rfl
    · refine Eq.trans ?_ e1.symm
      blk_simp [ix_2]
      rfl

end Cert.DxXbc

namespace Cert.DxXbc.Ref

open Idealize.ShloMosaic Idealize.ShloMosaic.TcCoe Cert.InDxXbcReferenceIdeal Cert.InDxXbcReferenceIdeal.Read

/-- What the reference computes. -/
theorem eq (d : FVec Ideal S16384x4096 .bf16) (w : FVec Ideal S1024x6176 .bf16) (h : FVec Ideal S16384x1024 .f32) :
    val_main_v6 (F := Ideal) d w h = prod d w h := by
  funext i
  rw [val_main_v6_apply, val_main_v5_apply]
  refine (add_comm _ _).trans ?_
  refine congrArg (· + h i) (Finset.sum_congr rfl fun k _ => congrArg₂ (· * ·) ?_ ?_)
  · rw [val_main_v4_apply]
    exact congrArg d (funext fun a => by fin_cases a <;> rfl)
  · rw [val_main_v2_apply, val_main_v0_apply]
    exact congrArg w (funext fun a => by fin_cases a <;> rfl)
theorem at_eq {d d' : FVec Ideal S16384x4096 .bf16} {w w' : FVec Ideal S1024x6176 .bf16} {h h' : FVec Ideal S16384x1024 .f32}
    (hd : d' = d) (hw : w' = w) (hh : h' = h) : val_main_v6 (F := Ideal) d' w' h' = prod d w h := by
  subst hd hw hh
  exact eq d' w' h'

end Cert.DxXbc.Ref

namespace Cert.DxXbc

open Idealize.ShloMosaic Idealize.ShloMosaic.TcCoe Idealize.SL.Sem

/-- Over the reals, the call and its reference end with equal arrays. -/
theorem agree : Cert.algebraic_InDxXbcIdeal_InDxXbcReferenceIdeal (hInDxXbcIdeal := Cert.InDxXbcIdeal.Gen.facts)
    (hInDxXbcReferenceIdeal := Cert.InDxXbcReferenceIdeal.Gen.facts) := by
  intro m g m' g' _ hm
  refine ⟨fun c => prod (m ((c.tc : Thread Cert.InDxXbcIdeal.nD Cert.InDxXbcIdeal.τ).loc Cert.InDxXbcIdeal.main_arg0)) (m ((c.tc : Thread Cert.InDxXbcIdeal.nD Cert.InDxXbcIdeal.τ).loc Cert.InDxXbcIdeal.main_arg1)) (m ((c.tc : Thread Cert.InDxXbcIdeal.nD Cert.InDxXbcIdeal.τ).loc Cert.InDxXbcIdeal.main_arg2)), ?_, ?_⟩
  · refine (θ_run _ _ _).mono (fun r h c => ?_) (Cert.InDxXbcIdeal.Value.run_blocks (F := Ideal) m g)
    obtain ⟨k0, rest⟩ := h c
    exact ⟨k0.trans (arr m c), rest⟩
  · refine (θ_run _ _ _).mono (fun r h c => ?_) (Cert.InDxXbcReferenceIdeal.Value.run (F := Ideal) m' g')
    obtain ⟨k0, rest⟩ := h c
    obtain ⟨e0, e1, e2⟩ := hm c
    exact ⟨k0.trans ((Cert.InDxXbcReferenceIdeal.Read.val_main_v6_eq _ _ _).trans (Ref.at_eq e0 e1 e2)), rest⟩

end Cert.DxXbc

end
-- ==== Proof.GdnDxQkv.lean ====
/- The gradient of the hidden state through the convolution's columns of the second layer's in-projection. -/
module

public import Idealize.ShloMosaic.Lib.Pointwise
public import Idealize.ShloMosaic.Lib.Pipeline.ValueKit
public import Idealize.ShloMosaic.Lib.StableHlo.ReadAt
public import proofs.«01_k».proof.Defs
public import proofs.«01_k».proof.Proof.Gen.GdnDxQkvIdeal.Value
public import proofs.«01_k».proof.Proof.Gen.GdnDxQkvReferenceIdeal.Run
public import proofs.«01_k».proof.Proof.Gen.GdnDxQkvReferenceIdeal.Read

@[expose] public section

set_option maxRecDepth 16384

noncomputable section

namespace Cert.DxQkv

open Idealize.ShloMosaic Idealize.ShloMosaic.TcCoe Idealize.SL.Sem Cert.GdnDxQkvIdeal Cert.GdnDxQkvIdeal.Gen
open Idealize.ShloMosaic.Pipeline (Dat)

/-- The gradient: each row of `d` against each row of the weights' columns. -/
def prod (d : FVec Ideal S16384x4096 .bf16) (w : FVec Ideal S1024x6176 .bf16) : FVec Ideal S16384x1024 .f32 :=
  fun i => (∑ k : Fin 4096, d (ValueIdx.ix2 (i 0) k) * w (ValueIdx.ix2 (i 1) (⟨k.val, by omega⟩ : Fin 6176)))

/-- The product at one grid point. -/
theorem pay (x : Vec Ideal S1024x4096 .bf16) (y : Vec Ideal S1024x4096 .bf16) (i : S1024x1024.Idx) :
    k0_pay1 (F := Ideal) x y i = (∑ k : Fin 4096, x (ValueIdx.ix2 (i 0) k) * y (ValueIdx.ix2 (i 1) k)) := by
  unfold k0_pay1
  pointwise
  rfl

theorem out_eq (x : Vec Ideal S1024x4096 .bf16) (y : Vec Ideal S1024x4096 .bf16) :
    out0_2 (F := Ideal) x y = k0_pay1 x y := by
  have hz : (![0, 0] : Fin 2 → Nat) = fun _ => 0 := funext fun a => by fin_cases a <;> rfl
  unfold out0_2
  rw [View.canon_unit_zero hz, View.ld_unit_zero hz, View.ld_unit_zero hz]

theorem ix_0 : ∀ t : Fin cfg0.N, win0_0.index t = ![t.val, 0] := by decide +kernel
theorem ix_1 : ∀ t : Fin cfg0.N, win0_1.index t = ![0, 0] := by decide +kernel
theorem ix_2 : ∀ t : Fin cfg0.N, win0_2.index t = ![t.val, 0] := by decide +kernel

variable (m : (ℓ : Loc nD τ sig) → Buf (Elt Ideal) ℓ) (c : Dev nD)

/-- The weights' columns that the host passes. -/
def cols (w : FVec Ideal S1024x6176 .bf16) : FVec Ideal S1024x4096 .bf16 :=
  extractStridedSlice S1024x4096 ![0, 0] (extractStridedSlice S1024x6144 ![0, 0] w slices_S1024x6176_S1024x6144_0_0) slices_S1024x6144_S1024x4096_0_0
theorem cols_apply (w : FVec Ideal S1024x6176 .bf16) (a : Fin 1024) (k : Fin 4096) :
    cols w (ValueIdx.ix2 a k) = w (ValueIdx.ix2 a (⟨k.val, by omega⟩ : Fin 6176)) := by
  unfold cols
  pointwise
  rfl
theorem V_v1 : V m c main_v1 = cols (m ((c : Thread nD τ).loc main_arg1)) := by
  unfold_abbrev_sides
  after_reads_simp
  rfl

/-- What the call leaves. -/
theorem arr : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  have e0 : ((((cfg0.win 2).blk t).view.emb y) 0 : ℕ) = t.val * 1024 + (y 0).val := by blk_simp [ix_2]
  have e1 : ((((cfg0.win 2).blk t).view.emb y) 1 : ℕ) = (y 1).val := by blk_simp [ix_2]
  blk_simp
  rw [after0_2, out_eq]
  refine (pay _ _ _).trans ?_
  unfold prod
  refine Finset.sum_congr rfl fun k _ => congrArg₂ (· * ·) ?_ ?_
  · show V m c (Pipeline.arrRef spec0 0) _ = _
    refine (congrFun (V_main_arg0 m c) _).trans (congrArg (m ((c : Thread nD τ).loc main_arg0)) (funext fun a => Fin.ext ?_))
    fin_cases a
    · refine Eq.trans ?_ e0.symm
      blk_simp [ix_0]
    · blk_simp [ix_0]
  · show V m c (Pipeline.arrRef spec0 1) _ = _
    refine (congrFun (V_v1 m c) _).trans ((congrArg (cols _) (funext fun a => Fin.ext ?_)).trans (cols_apply _ _ k))
    fin_cases a
    · refine Eq.trans ?_ e1.symm
      blk_simp [ix_1]
    · blk_simp [ix_1]

end Cert.DxQkv

namespace Cert.DxQkv.Ref

open Idealize.ShloMosaic Idealize.ShloMosaic.TcCoe Cert.GdnDxQkvReferenceIdeal Cert.GdnDxQkvReferenceIdeal.Read

/-- What the reference computes. -/
theorem eq (d : FVec Ideal S16384x4096 .bf16) (w : FVec Ideal S1024x6176 .bf16) :
    val_main_v5 (F := Ideal) d w = prod d w := by
  funext i
  rw [val_main_v5_apply]
  refine Finset.sum_congr rfl fun k _ => congrArg₂ (· * ·) ?_ ?_
  · rw [val_main_v4_apply]
    exact congrArg d (funext fun a => by fin_cases a <;> rfl)
  · rw [val_main_v2_apply, val_main_v0_apply]
    exact congrArg w (funext fun a => by fin_cases a <;> rfl)
theorem at_eq {d d' : FVec Ideal S16384x4096 .bf16} {w w' : FVec Ideal S1024x6176 .bf16}
    (hd : d' = d) (hw : w' = w) : val_main_v5 (F := Ideal) d' w' = prod d w := by
  subst hd hw
  exact eq d' w'

end Cert.DxQkv.Ref

namespace Cert.DxQkv

open Idealize.ShloMosaic Idealize.ShloMosaic.TcCoe Idealize.SL.Sem

/-- Over the reals, the call and its reference end with equal arrays. -/
theorem agree : Cert.algebraic_GdnDxQkvIdeal_GdnDxQkvReferenceIdeal (hGdnDxQkvIdeal := Cert.GdnDxQkvIdeal.Gen.facts)
    (hGdnDxQkvReferenceIdeal := Cert.GdnDxQkvReferenceIdeal.Gen.facts) := by
  intro m g m' g' _ hm
  refine ⟨fun c => prod (m ((c.tc : Thread Cert.GdnDxQkvIdeal.nD Cert.GdnDxQkvIdeal.τ).loc Cert.GdnDxQkvIdeal.main_arg0)) (m ((c.tc : Thread Cert.GdnDxQkvIdeal.nD Cert.GdnDxQkvIdeal.τ).loc Cert.GdnDxQkvIdeal.main_arg1)), ?_, ?_⟩
  · refine (θ_run _ _ _).mono (fun r h c => ?_) (Cert.GdnDxQkvIdeal.Value.run_blocks (F := Ideal) m g)
    obtain ⟨k0, rest⟩ := h c
    exact ⟨k0.trans (arr m c), rest⟩
  · refine (θ_run _ _ _).mono (fun r h c => ?_) (Cert.GdnDxQkvReferenceIdeal.Value.run (F := Ideal) m' g')
    obtain ⟨k0, rest⟩ := h c
    obtain ⟨e0, e1⟩ := hm c
    exact ⟨k0.trans ((Cert.GdnDxQkvReferenceIdeal.Read.val_main_v5_eq _ _).trans (Ref.at_eq e0 e1)), rest⟩

end Cert.DxQkv

end
-- ==== Proof.GdnDxZ.lean ====
/- The gradient of the hidden state through the gate's and the step sizes' columns of the second layer's in-projection. -/
module

public import Idealize.ShloMosaic.Lib.Pointwise
public import Idealize.ShloMosaic.Lib.Pipeline.ValueKit
public import Idealize.ShloMosaic.Lib.StableHlo.ReadAt
public import proofs.«01_k».proof.Defs
public import proofs.«01_k».proof.Proof.Gen.GdnDxZIdeal.Value
public import proofs.«01_k».proof.Proof.Gen.GdnDxZReferenceIdeal.Run
public import proofs.«01_k».proof.Proof.Gen.GdnDxZReferenceIdeal.Read

@[expose] public section

set_option maxRecDepth 16384

noncomputable section

namespace Cert.GdnZ

open Idealize.ShloMosaic Idealize.ShloMosaic.TcCoe Idealize.SL.Sem Cert.GdnDxZIdeal Cert.GdnDxZIdeal.Gen
open Idealize.ShloMosaic.Pipeline (Dat)

/-- The weights' column that meets a column of the gradient. -/
def col (k : Fin 2080) : Fin 6176 := ⟨4096 + k.val, by omega⟩

theorem at2 (w : FVec Ideal S1024x6176 .bf16) {a a' : Fin 1024} {k k' : Fin 6176} (ha : a = a') (hk : k.val = k'.val) :
    w (ValueIdx.ix2 a k) = w (ValueIdx.ix2 a' k') := by
  rw [ha, Fin.ext hk]

/-- The gradient: each row of `d` against each row of the weights' columns, and what is passed on. -/
def prod (d : FVec Ideal S16384x2176 .bf16) (w : FVec Ideal S1024x6176 .bf16) (h : FVec Ideal S16384x1024 .f32) : FVec Ideal S16384x1024 .f32 :=
  fun i => (∑ k : Fin 2080, d (ValueIdx.ix2 (i 0) (⟨k.val, by omega⟩ : Fin 2176)) * w (ValueIdx.ix2 (i 1) (col k))) + h i

/-- The product at one grid point. -/
theorem pay (x : Vec Ideal S1024x2176 .bf16) (y : Vec Ideal S1024x2176 .bf16) (z : Vec Ideal S1024x1024 .f32) (i : S1024x1024.Idx) :
    k0_pay1 (F := Ideal) x y z i = (∑ k : Fin 2176, x (ValueIdx.ix2 (i 0) k) * y (ValueIdx.ix2 (i 1) k)) + z i := by
  unfold k0_pay1
  pointwise
  rfl

theorem out_eq (x : Vec Ideal S1024x2176 .bf16) (y : Vec Ideal S1024x2176 .bf16) (z : Vec Ideal S1024x1024 .f32) :
    out0_3 (F := Ideal) x y z = k0_pay1 x y z := by
  have hz : (![0, 0] : Fin 2 → Nat) = fun _ => 0 := funext fun a => by fin_cases a <;> rfl
  unfold out0_3
  rw [View.canon_unit_zero hz, View.ld_unit_zero hz, View.ld_unit_zero hz, View.ld_unit_zero hz]

theorem ix_0 : ∀ t : Fin cfg0.N, win0_0.index t = ![t.val, 0] := by decide +kernel
theorem ix_1 : ∀ t : Fin cfg0.N, win0_1.index t = ![0, 0] := by decide +kernel
theorem ix_2 : ∀ t : Fin cfg0.N, win0_2.index t = ![t.val, 0] := by decide +kernel
theorem ix_3 : ∀ t : Fin cfg0.N, win0_3.index t = ![t.val, 0] := by decide +kernel

variable (m : (ℓ : Loc nD τ sig) → Buf (Elt Ideal) ℓ) (c : Dev nD)

/-- The weights' columns that the host passes, with columns of zeros after them. -/
def cols (w : FVec Ideal S1024x6176 .bf16) : FVec Ideal S1024x2176 .bf16 :=
  concatenate S1024x2176 1
    [⟨S1024x2048, extractStridedSlice S1024x2048 ![0, 4096] (extractStridedSlice S1024x6144 ![0, 0] w slices_S1024x6176_S1024x6144_0_0) slices_S1024x6144_S1024x2048_0_4096⟩,
     ⟨S1024x128, concatenate S1024x128 1
      [⟨S1024x32, extractStridedSlice S1024x32 ![0, 6144] w slices_S1024x6176_S1024x32_0_6144⟩,
       ⟨S1024x96, broadcastInDim S1024x96 ![] bcast_S_S1024x96 (constant (F := Ideal) S_ .bf16 0x0000#16)⟩] concatenates_S1024x32_S1024x96_S1024x128_d1⟩]
    concatenates_S1024x2048_S1024x128_S1024x2176_d1
theorem cols_lo (w : FVec Ideal S1024x6176 .bf16) (a : Fin 1024) (k : Fin 2080) :
    cols w (ValueIdx.ix2 a (⟨k.val, by omega⟩ : Fin 2176)) = w (ValueIdx.ix2 a (col k)) := by
  unfold cols col
  pointwise
  by_cases h : k.val < 2048
  · rw [dif_pos h]
    exact at2 w rfl rfl
  · rw [dif_neg h, dif_pos (by omega)]
    exact at2 w rfl (by show 6144 + (k.val - 2048) = 4096 + k.val; omega)
theorem cols_hi (w : FVec Ideal S1024x6176 .bf16) (a : Fin 1024) (k : Fin 96) :
    cols w (ValueIdx.ix2 a (⟨2080 + k.val, by omega⟩ : Fin 2176)) = 0 := by
  unfold cols
  pointwise
  rw [dif_neg (by omega), dif_neg (by omega)]
/-- The columns of zeros add nothing. -/
theorem prod_eq (d : FVec Ideal S16384x2176 .bf16) (w : FVec Ideal S1024x6176 .bf16) (h : FVec Ideal S16384x1024 .f32) (i : S16384x1024.Idx) :
    prod d w h i = (∑ k : Fin 2176, d (ValueIdx.ix2 (i 0) k) * cols w (ValueIdx.ix2 (i 1) k)) + h i := by
  unfold prod
  refine congrArg (· + h i) ?_
  refine Eq.symm ((Fin.sum_univ_add (a := 2080) (b := 96) (fun k : Fin (2080 + 96) => d (ValueIdx.ix2 (i 0) k) * cols w (ValueIdx.ix2 (i 1) k))).trans ?_)
  rw [Finset.sum_eq_zero (s := (Finset.univ : Finset (Fin 96))), add_zero]
  · exact Finset.sum_congr rfl fun k _ => congrArg (_ * ·) (cols_lo w (i 1) k)
  · intro k _
    exact (congrArg (_ * ·) (cols_hi w (i 1) k)).trans (mul_zero _)
theorem V_v5 : V m c main_v5 = cols (m ((c : Thread nD τ).loc main_arg1)) := by
  unfold_abbrev_sides
  after_reads_simp
  rfl

/-- What the call leaves. -/
theorem arr : (dats m 0 c).arrAt 3 cfg0.N
    = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  have e0 : ((((cfg0.win 3).blk t).view.emb y) 0 : ℕ) = t.val * 1024 + (y 0).val := by blk_simp [ix_3]
  have e1 : ((((cfg0.win 3).blk t).view.emb y) 1 : ℕ) = (y 1).val := by blk_simp [ix_3]
  blk_simp
  rw [after0_3, out_eq]
  refine (pay _ _ _ _).trans ?_
  refine Eq.trans ?_ (prod_eq _ _ _ _).symm
  refine congrArg₂ (· + ·) (Finset.sum_congr rfl fun k _ => congrArg₂ (· * ·) ?_ ?_) ?_
  · show V m c (Pipeline.arrRef spec0 0) _ = _
    refine (congrFun (V_main_arg0 m c) _).trans (congrArg (m ((c : Thread nD τ).loc main_arg0)) (funext fun a => Fin.ext ?_))
    fin_cases a
    · refine Eq.trans ?_ e0.symm
      blk_simp [ix_0]
    · blk_simp [ix_0]
  · show V m c (Pipeline.arrRef spec0 1) _ = _
    refine (congrFun (V_v5 m c) _).trans (congrArg (cols _) (funext fun a => Fin.ext ?_))
    fin_cases a
    · refine Eq.trans ?_ e1.symm
      blk_simp [ix_1]
    · blk_simp [ix_1]
  · show V m c (Pipeline.arrRef spec0 2) _ = _
    refine (congrFun (V_main_arg2 m c) _).trans (congrArg (m ((c : Thread nD τ).loc main_arg2)) (funext fun a => Fin.ext ?_))
    fin_cases a
    · refine Eq.trans ?_ e0.symm
      blk_simp [ix_2]
      rfl
    · refine Eq.trans ?_ e1.symm
      blk_simp [ix_2]
      rfl

end Cert.GdnZ

namespace Cert.GdnZ.Ref

open Idealize.ShloMosaic Idealize.ShloMosaic.TcCoe Cert.GdnDxZReferenceIdeal Cert.GdnDxZReferenceIdeal.Read

/-- What the reference computes. -/
theorem eq (d : FVec Ideal S16384x2176 .bf16) (w : FVec Ideal S1024x6176 .bf16) (h : FVec Ideal S16384x1024 .f32) :
    val_main_v7 (F := Ideal) d w h = prod d w h := by
  funext i
  rw [val_main_v7_apply, val_main_v6_apply]
  refine (add_comm _ _).trans ?_
  refine congrArg (· + h i) (Finset.sum_congr rfl fun k _ => congrArg₂ (· * ·) ?_ ?_)
  · rw [val_main_v5_apply, val_main_v1_apply]
    exact congrArg d (funext fun a => by fin_cases a <;> rfl)
  · rw [val_main_v3_apply, val_main_v0_apply]
    exact congrArg w (funext fun a => by fin_cases a <;> rfl)
theorem at_eq {d d' : FVec Ideal S16384x2176 .bf16} {w w' : FVec Ideal S1024x6176 .bf16} {h h' : FVec Ideal S16384x1024 .f32}
    (hd : d' = d) (hw : w' = w) (hh : h' = h) : val_main_v7 (F := Ideal) d' w' h' = prod d w h := by
  subst hd hw hh
  exact eq d' w' h'

end Cert.GdnZ.Ref

namespace Cert.GdnZ

open Idealize.ShloMosaic Idealize.ShloMosaic.TcCoe Idealize.SL.Sem

/-- Over the reals, the call and its reference end with equal arrays. -/
theorem agree : Cert.algebraic_GdnDxZIdeal_GdnDxZReferenceIdeal (hGdnDxZIdeal := Cert.GdnDxZIdeal.Gen.facts)
    (hGdnDxZReferenceIdeal := Cert.GdnDxZReferenceIdeal.Gen.facts) := by
  intro m g m' g' _ hm
  refine ⟨fun c => prod (m ((c.tc : Thread Cert.GdnDxZIdeal.nD Cert.GdnDxZIdeal.τ).loc Cert.GdnDxZIdeal.main_arg0)) (m ((c.tc : Thread Cert.GdnDxZIdeal.nD Cert.GdnDxZIdeal.τ).loc Cert.GdnDxZIdeal.main_arg1)) (m ((c.tc : Thread Cert.GdnDxZIdeal.nD Cert.GdnDxZIdeal.τ).loc Cert.GdnDxZIdeal.main_arg2)), ?_, ?_⟩
  · refine (θ_run _ _ _).mono (fun r h c => ?_) (Cert.GdnDxZIdeal.Value.run_blocks (F := Ideal) m g)
    obtain ⟨k0, rest⟩ := h c
    exact ⟨k0.trans (arr m c), rest⟩
  · refine (θ_run _ _ _).mono (fun r h c => ?_) (Cert.GdnDxZReferenceIdeal.Value.run (F := Ideal) m' g')
    obtain ⟨k0, rest⟩ := h c
    obtain ⟨e0, e1, e2⟩ := hm c
    exact ⟨k0.trans ((Cert.GdnDxZReferenceIdeal.Read.val_main_v7_eq _ _ _).trans (Ref.at_eq e0 e1 e2)), rest⟩

end Cert.GdnZ

end
-- ==== Proof.Tokens.lean ====
/- A sum over the tokens, taken block by block. -/
module

public import Idealize.ShloMosaic.Lib.Pointwise

@[expose] public section

namespace Cert.Tokens

/-- A token, by its number. -/
def tok (n : ℕ) : Fin 16384 := ⟨n % 16384, Nat.mod_lt _ (by decide)⟩

theorem tok_val (k : Fin 16384) : tok k.val = k := Fin.ext (Nat.mod_eq_of_lt k.isLt)

theorem sum_blocks {α : Type*} [AddCommMonoid α] (b : ℕ) (F : ℕ → α) (n : ℕ) :
    ∑ s ∈ Finset.range n, ∑ k : Fin b, F (s * b + k.val) = ∑ k ∈ Finset.range (n * b), F k := by
  induction n with
  | zero => simp
  | succ n ih =>
    rw [Finset.sum_range_succ, ih, Nat.succ_mul, Finset.sum_range_add]
    exact congrArg (_ + ·) (Fin.sum_univ_eq_sum_range (fun k => F (n * b + k)) b)

/-- The sums over the blocks of tokens together are the sum over the tokens. -/
theorem sum_tok {α : Type*} [AddCommMonoid α] (f : Fin 16384 → α) (n b : ℕ) (h : n * b = 16384) :
    ∑ s ∈ Finset.range n, ∑ k : Fin b, f (tok (s * b + k.val)) = ∑ k : Fin 16384, f k := by
  rw [sum_blocks b (fun k => f (tok k)) n, h, ← Fin.sum_univ_eq_sum_range]
  exact Finset.sum_congr rfl fun k _ => congrArg f (tok_val k)

end Cert.Tokens
-- ==== Proof.InDwXbc.lean ====
/- The gradient of the in-projection's weights at the convolution's columns. -/
module

public import Idealize.ShloMosaic.Lib.Pointwise
public import Idealize.ShloMosaic.Lib.Tactic
public import Idealize.ShloMosaic.Lib.Pipeline.ValueKit
public import proofs.«01_k».proof.Defs
public import proofs.«01_k».proof.Proof.Tokens
public import proofs.«01_k».proof.Proof.Gen.InDwXbcIdeal.Value
public import proofs.«01_k».proof.Proof.Gen.InDwXbcReferenceIdeal.Run
public import proofs.«01_k».proof.Proof.Gen.InDwXbcReferenceIdeal.Read

@[expose] public section

set_option maxRecDepth 16384

noncomputable section

namespace Cert.DwXbc

open Idealize.ShloMosaic Idealize.ShloMosaic.TcCoe Idealize.SL.Sem Cert.InDwXbcIdeal Cert.InDwXbcIdeal.Gen Cert.Tokens
open Idealize.ShloMosaic.Pipeline (Dat)

/-- The gradient: each column of the hidden state against each column of `d`. -/
def prod (a : FVec Ideal S16384x1024 .bf16) (d : FVec Ideal S16384x4096 .bf16) : FVec Ideal S1024x4096 .f32 :=
  fun i => ∑ k : Fin 16384, a (ValueIdx.ix2 k (i 0)) * d (ValueIdx.ix2 k (i 1))

theorem prod_blocks (a : FVec Ideal S16384x1024 .bf16) (d : FVec Ideal S16384x4096 .bf16) (i : S1024x4096.Idx) :
    prod a d i = ∑ s ∈ Finset.range 8, ∑ k : Fin 2048, a (ValueIdx.ix2 (tok (s * 2048 + k.val)) (i 0)) * d (ValueIdx.ix2 (tok (s * 2048 + k.val)) (i 1)) :=
  (sum_tok (fun k => a (ValueIdx.ix2 k (i 0)) * d (ValueIdx.ix2 k (i 1))) 8 2048 rfl).symm

/-! ### One grid point -/

theorem pay_1 (x : Vec Ideal S2048x1024 .bf16) (y : Vec Ideal S2048x1024 .bf16) (i : S1024x1024.Idx) :
    k0_pay1 (F := Ideal) x y i = ∑ k : Fin 2048, x (ValueIdx.ix2 k (i 0)) * y (ValueIdx.ix2 k (i 1)) := by
  unfold k0_pay1
  pointwise
  rfl
theorem pay_2 (x : Vec Ideal S2048x1024 .bf16) (y : Vec Ideal S2048x1024 .bf16) (i : S1024x1024.Idx) :
    k0_pay2 (F := Ideal) x y i = k0_pay1 (F := Ideal) x y i := by
  unfold k0_pay2
  generalize k0_pay1 (F := Ideal) x y = z
  pointwise
theorem pay_3 (x : Vec Ideal S2048x1024 .bf16) (y : Vec Ideal S2048x1024 .bf16) (z : Vec Ideal S1024x1024 .f32) (i : S1024x1024.Idx) :
    k0_pay3 (F := Ideal) x y z i = z i + k0_pay1 (F := Ideal) x y i := by
  unfold k0_pay3
  generalize k0_pay1 (F := Ideal) x y = u
  pointwise
theorem pay_4 (x : Vec Ideal S2048x1024 .bf16) (y : Vec Ideal S2048x1024 .bf16) (z : Vec Ideal S1024x1024 .f32) (i : S1024x1024.Idx) :
    k0_pay4 (F := Ideal) x y z i = z i + k0_pay1 (F := Ideal) x y i := rfl

theorem hz : (![0, 0] : Fin 2 → Nat) = fun _ => 0 := funext fun a => by fin_cases a <;> rfl

section
variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S2048x1024 .bf16) (x1 : Vec Ideal S2048x1024 .bf16) (xs0 : Vec Ideal S1024x1024 .f32)

theorem first (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay2 x0 x1 := by
  unfold sout0_A_0
  rw [View.read_writes_eq_canon _ _ _ (scover0_A_0 (F := Ideal) c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S2048x1024) hz, View.ld_unit_zero (S := S2048x1024) hz, View.ld_unit_zero (S := S1024x1024) hz]
theorem later (hc0 : ¬cond0_0 i) (hc1 : cond0_1 i) (hc2 : ¬cond0_2 i) :
    sout0_B_0 (F := Ideal) c i arg3 harg3 arg4 harg4 arg5 harg5 arg6 harg6 hc0 hc1 hc2 x0 x1 xs0 = k0_pay3 x0 x1 xs0 := by
  unfold sout0_B_0
  rw [View.read_writes_eq_canon _ _ _ (scover0_B_0 (F := Ideal) c i arg3 harg3 arg4 harg4 arg5 harg5 arg6 harg6 hc0 hc1 hc2 x0 x1 xs0)]
  unfold kernelRun0_B
  dsimp only
  sl_unfold_words
  rw [View.canon_unit_zero hz]
  simp only [View.readAt_eq_ld, harg3.read_unread, harg4.read_unread, harg6.read_unread, View.ld_unit_zero (S := S2048x1024) hz, View.ld_unit_zero (S := S2048x1024) hz, View.ld_unit_zero (S := S1024x1024) hz]
theorem last (hc0 : ¬cond0_0 i) (hc1 : ¬cond0_1 i) (hc2 : cond0_2 i) :
    out0_C_2 (F := Ideal) c i arg3 harg3 arg4 harg4 arg5 harg5 arg6 harg6 hc0 hc1 hc2 x0 x1 xs0 = k0_pay4 x0 x1 xs0 := by
  unfold out0_C_2
  rw [View.read_writes_eq_canon _ _ _ (cover0_C_2 (F := Ideal) c i arg3 harg3 arg4 harg4 arg5 harg5 arg6 harg6 hc0 hc1 hc2 x0 x1 xs0)]
  unfold kernelRun0_C
  dsimp only
  sl_unfold_words
  rw [View.canon_unit_zero hz]
  simp only [View.readAt_eq_ld, harg3.read_unread, harg4.read_unread, harg6.read_unread, View.ld_unit_zero (S := S2048x1024) hz, View.ld_unit_zero (S := S2048x1024) hz, View.ld_unit_zero (S := S1024x1024) hz]
end

/-! ### The points of a block of the result -/

theorem ix_0 : ∀ t : Fin cfg0.N, win0_0.index t = ![t.val % 8, 0] := by decide +kernel
theorem ix_1 : ∀ t : Fin cfg0.N, win0_1.index t = ![t.val % 8, t.val / 8 % 4] := by decide +kernel
theorem ix_2 : ∀ t : Fin cfg0.N, win0_2.index t = ![0, t.val / 8 % 4] := by decide +kernel
theorem flush_2 : ∀ t : Fin cfg0.N, (cfg0.win 2).flush t = true → t.val % 8 = 7 := by decide +kernel

/-- What the point `n` adds: the products of its block of tokens. -/
def part (a : FVec Ideal S16384x1024 .bf16) (d : FVec Ideal S16384x4096 .bf16) (n : ℕ) (y : S1024x1024.Idx) : EReal :=
  ∑ k : Fin 2048, a (ValueIdx.ix2 (tok (n % 8 * 2048 + k.val)) (y 0)) * d (ValueIdx.ix2 (tok (n % 8 * 2048 + k.val)) (⟨n / 8 % 4 * 1024 + (y 1).val, by have h : (y 1).val < 1024 := (y 1).isLt; omega⟩ : Fin 4096))

variable (m : (ℓ : Loc nD τ sig) → Buf (Elt Ideal) ℓ) (c : Dev nD)

theorem part_eq (t : Fin cfg0.N) (y : S1024x1024.Idx) :
    k0_pay1 (F := Ideal) (iblk m c 0 t) (iblk m c 1 t) y
      = part (m ((c : Thread nD τ).loc main_arg0)) (m ((c : Thread nD τ).loc main_arg1)) t.val y := by
  refine (pay_1 _ _ _).trans ?_
  unfold part
  refine Finset.sum_congr rfl fun k _ => congrArg₂ (· * ·) ?_ ?_
  · show V m c (Pipeline.arrRef spec0 0) _ = _
    refine (congrFun (V_main_arg0 m c) _).trans (congrArg (m ((c : Thread nD τ).loc main_arg0)) (funext fun a => Fin.ext ?_))
    fin_cases a
    · refine Eq.trans (b := t.val % 8 * 2048 + k.val) (by blk_simp [ix_0]) ?_
      exact (Nat.mod_eq_of_lt (by omega)).symm
    · refine Eq.trans (b := (y 0).val) (by blk_simp [ix_0] <;> rfl) ?_
      rfl
  · show V m c (Pipeline.arrRef spec0 1) _ = _
    refine (congrFun (V_main_arg1 m c) _).trans (congrArg (m ((c : Thread nD τ).loc main_arg1)) (funext fun a => Fin.ext ?_))
    fin_cases a
    · refine Eq.trans (b := t.val % 8 * 2048 + k.val) (by blk_simp [ix_1]) ?_
      exact (Nat.mod_eq_of_lt (by omega)).symm
    · refine Eq.trans (b := t.val / 8 % 4 * 1024 + (y 1).val) (by blk_simp [ix_1] <;> rfl) ?_
      rfl

/-- The running sum before the last point of a block. -/
theorem acc (q : ℕ) (y : S1024x1024.Idx) : ∀ (j : ℕ) (hj : j ≤ 6) (h : 8 * q + j < cfg0.N),
    (outsAt0 m c (8 * q + j) h).2 y
      = ∑ s ∈ Finset.range (j + 1), part (m ((c : Thread nD τ).loc main_arg0)) (m ((c : Thread nD τ).loc main_arg1)) (8 * q + s) y
  | 0, hj, h => by
    rw [Finset.sum_range_one]
    have e := outsAt0_A m c ⟨8 * q + 0, h⟩ (by show (8 * q + 0) % 8 = 0; omega) (by show ¬(1 ≤ (8 * q + 0) % 8 ∧ (8 * q + 0) % 8 ≤ 6); omega) (by show ¬(8 * q + 0) % 8 = 7; omega)
    refine (congrFun (congrArg Prod.snd e) y).trans ?_
    dsimp only
    rw [first]
    exact (pay_2 _ _ y).trans (part_eq m c _ y)
  | j + 1, hj, h => by
    rw [Finset.sum_range_succ, ← acc q y j (by omega) (by omega)]
    have e := outsAt0_B m c ⟨8 * q + (j + 1), h⟩ (by show ¬(8 * q + (j + 1)) % 8 = 0; omega) (by show 1 ≤ (8 * q + (j + 1)) % 8 ∧ (8 * q + (j + 1)) % 8 ≤ 6; omega) (by show ¬(8 * q + (j + 1)) % 8 = 7; omega)
    refine (congrFun (congrArg Prod.snd e) y).trans ?_
    dsimp only
    rw [later]
    exact (pay_3 _ _ _ y).trans (congrArg (_ + ·) (part_eq m c _ y))

theorem outs_congr (n n' : ℕ) (h : n < cfg0.N) (h' : n' < cfg0.N) (e : n = n') : outsAt0 m c n h = outsAt0 m c n' h' := by
  subst e
  rfl

/-- What the call leaves. -/
theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have e0 : ((((cfg0.win 2).blk t).view.emb y) 0 : ℕ) = (y 0).val := by blk_simp [ix_2]
  have e1 : ((((cfg0.win 2).blk t).view.emb y) 1 : ℕ) = t.val / 8 % 4 * 1024 + (y 1).val := by blk_simp [ix_2]
  have ht := flush_2 t hf
  have hN : t.val < 32 := t.isLt
  blk_simp
  rw [after0_2]
  have e := outsAt0_C m c t (by omega) (by omega) ht
  refine (congrFun (congrArg Prod.fst e) y).trans ?_
  dsimp only
  rw [last]
  refine (pay_4 _ _ _ y).trans ?_
  rw [outs_congr m c (t.val - 1) (8 * (t.val / 8) + 6) _ (lt_of_le_of_lt (by omega) t.isLt) (by omega)]
  refine (congrArg₂ (· + ·) (acc m c (t.val / 8) y 6 le_rfl _) ((part_eq m c t y).trans (congrArg (fun n => part _ _ n y) (show t.val = 8 * (t.val / 8) + 7 by omega)))).trans ?_
  refine (Finset.sum_range_succ (fun s => part _ _ (8 * (t.val / 8) + s) y) 7).symm.trans ?_
  refine Eq.trans (Finset.sum_congr rfl fun s hs => ?_) (prod_blocks _ _ _).symm
  have hs' : s < 8 := Finset.mem_range.mp hs
  unfold part
  rw [show (8 * (t.val / 8) + s) % 8 = s by omega]
  refine Finset.sum_congr rfl fun k _ => congrArg₂ (· * ·) (congrArg _ (funext fun a => ?_)) (congrArg _ (funext fun a => ?_))
  · fin_cases a
    · rfl
    · refine Fin.ext (Eq.trans ?_ e0.symm)
      rfl
  · fin_cases a
    · rfl
    · refine Fin.ext (Eq.trans ?_ e1.symm)
      show (8 * (t.val / 8) + s) / 8 % 4 * 1024 + (y 1).val = t.val / 8 % 4 * 1024 + (y 1).val
      omega

end Cert.DwXbc

namespace Cert.DwXbc.Ref

open Idealize.ShloMosaic Idealize.ShloMosaic.TcCoe Cert.InDwXbcReferenceIdeal Cert.InDwXbcReferenceIdeal.Read

/-- What the reference computes. -/
theorem eq (a : FVec Ideal S16384x1024 .bf16) (d : FVec Ideal S16384x4096 .bf16) : val_main_v5 (F := Ideal) a d = prod a d := by
  funext i
  rw [val_main_v5_apply, val_main_v4_apply]
  refine Finset.sum_congr rfl fun k _ => (mul_comm _ _).trans (congrArg₂ (· * ·) ?_ ?_)
  · rw [val_main_v1_apply]
    exact congrArg a (funext fun b => by fin_cases b <;> rfl)
  · rw [val_main_v3_apply]
    exact congrArg d (funext fun b => by fin_cases b <;> rfl)
theorem at_eq {a a' : FVec Ideal S16384x1024 .bf16} {d d' : FVec Ideal S16384x4096 .bf16} (ha : a' = a) (hd : d' = d) :
    val_main_v5 (F := Ideal) a' d' = prod a d := by
  subst ha hd
  exact eq a' d'

end Cert.DwXbc.Ref

namespace Cert.DwXbc

open Idealize.ShloMosaic Idealize.ShloMosaic.TcCoe Idealize.SL.Sem

/-- Over the reals, the call and its reference end with equal arrays. -/
theorem agree : Cert.algebraic_InDwXbcIdeal_InDwXbcReferenceIdeal (hInDwXbcIdeal := Cert.InDwXbcIdeal.Gen.facts)
    (hInDwXbcReferenceIdeal := Cert.InDwXbcReferenceIdeal.Gen.facts) := by
  intro m g m' g' _ hm
  refine ⟨fun c => prod (m ((c.tc : Thread Cert.InDwXbcIdeal.nD Cert.InDwXbcIdeal.τ).loc Cert.InDwXbcIdeal.main_arg0)) (m ((c.tc : Thread Cert.InDwXbcIdeal.nD Cert.InDwXbcIdeal.τ).loc Cert.InDwXbcIdeal.main_arg1)), ?_, ?_⟩
  · refine (θ_run _ _ _).mono (fun r h c => ?_) (Cert.InDwXbcIdeal.Value.run_blocks (F := Ideal) m g)
    obtain ⟨k0, rest⟩ := h c
    exact ⟨k0.trans (arr m c), rest⟩
  · refine (θ_run _ _ _).mono (fun r h c => ?_) (Cert.InDwXbcReferenceIdeal.Value.run (F := Ideal) m' g')
    obtain ⟨k0, rest⟩ := h c
    obtain ⟨e0, e1⟩ := hm c
    exact ⟨k0.trans ((Cert.InDwXbcReferenceIdeal.Read.val_main_v5_eq _ _).trans (Ref.at_eq e0 e1)), rest⟩

end Cert.DwXbc

end
-- ==== Proof.InDwZ.lean ====
/- The gradient of the in-projection's weights at the gate's and the step sizes' columns, and at the columns after them. -/
module

public import Idealize.ShloMosaic.Lib.Pointwise
public import Idealize.ShloMosaic.Lib.Tactic
public import Idealize.ShloMosaic.Lib.Pipeline.ValueKit
public import proofs.«01_k».proof.Defs
public import proofs.«01_k».proof.Proof.Tokens
public import proofs.«01_k».proof.Proof.Gen.InDwZIdeal.Value
public import proofs.«01_k».proof.Proof.Gen.InDwZReferenceIdeal.Run
public import proofs.«01_k».proof.Proof.Gen.InDwZReferenceIdeal.Read

@[expose] public section

set_option maxRecDepth 16384

noncomputable section

namespace Cert.DwZ

open Idealize.ShloMosaic Idealize.ShloMosaic.TcCoe Idealize.SL.Sem Cert.InDwZIdeal Cert.InDwZIdeal.Gen Cert.Tokens
open Idealize.ShloMosaic.Pipeline (Dat)

/-- The gradient: each column of the hidden state against each column of `d`. -/
def prod (a : FVec Ideal S16384x1024 .bf16) (d : FVec Ideal S16384x2176 .bf16) : FVec Ideal S1024x2176 .f32 :=
  fun i => ∑ k : Fin 16384, a (ValueIdx.ix2 k (i 0)) * d (ValueIdx.ix2 k (i 1))

theorem prod_blocks (a : FVec Ideal S16384x1024 .bf16) (d : FVec Ideal S16384x2176 .bf16) (i : S1024x2176.Idx) :
    prod a d i = ∑ s ∈ Finset.range 16, ∑ k : Fin 1024, a (ValueIdx.ix2 (tok (s * 1024 + k.val)) (i 0)) * d (ValueIdx.ix2 (tok (s * 1024 + k.val)) (i 1)) :=
  (sum_tok (fun k => a (ValueIdx.ix2 k (i 0)) * d (ValueIdx.ix2 k (i 1))) 16 1024 rfl).symm

/-! ### One grid point -/

theorem pay_1 (x : Vec Ideal S1024x1024 .bf16) (y : Vec Ideal S1024x2176 .bf16) (i : S1024x2176.Idx) :
    k0_pay1 (F := Ideal) x y i = ∑ k : Fin 1024, x (ValueIdx.ix2 k (i 0)) * y (ValueIdx.ix2 k (i 1)) := by
  unfold k0_pay1
  pointwise
  rfl
theorem pay_2 (x : Vec Ideal S1024x1024 .bf16) (y : Vec Ideal S1024x2176 .bf16) (i : S1024x2176.Idx) :
    k0_pay2 (F := Ideal) x y i = k0_pay1 (F := Ideal) x y i := by
  unfold k0_pay2
  generalize k0_pay1 (F := Ideal) x y = z
  pointwise
theorem pay_3 (x : Vec Ideal S1024x1024 .bf16) (y : Vec Ideal S1024x2176 .bf16) (z : Vec Ideal S1024x2176 .f32) (i : S1024x2176.Idx) :
    k0_pay3 (F := Ideal) x y z i = z i + k0_pay1 (F := Ideal) x y i := by
  unfold k0_pay3
  generalize k0_pay1 (F := Ideal) x y = u
  pointwise
theorem pay_4 (x : Vec Ideal S1024x1024 .bf16) (y : Vec Ideal S1024x2176 .bf16) (z : Vec Ideal S1024x2176 .f32) (i : S1024x2176.Idx) :
    k0_pay4 (F := Ideal) x y z i = z i + k0_pay1 (F := Ideal) x y i := rfl

theorem hz : (![0, 0] : Fin 2 → Nat) = fun _ => 0 := funext fun a => by fin_cases a <;> rfl

section
variable (c : Dev nD) (i : grid0.Coords) (arg3 : Memref sig .tc .vmem S1024x1024 .bf16) (harg3 : arg3.IsWhole) (arg4 : Memref sig .tc .vmem S1024x2176 .bf16) (harg4 : arg4.IsWhole) (arg5 : Memref sig .tc .vmem S1024x2176 .f32) (harg5 : arg5.IsWhole) (arg6 : Memref sig .tc .vmem S1024x2176 .f32) (harg6 : arg6.IsWhole)
  (x0 : Vec Ideal S1024x1024 .bf16) (x1 : Vec Ideal S1024x2176 .bf16) (xs0 : Vec Ideal S1024x2176 .f32)

theorem first (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay2 x0 x1 := by
  unfold sout0_A_0
  rw [View.read_writes_eq_canon _ _ _ (scover0_A_0 (F := Ideal) c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x1024) hz, View.ld_unit_zero (S := S1024x2176) hz, View.ld_unit_zero (S := S1024x2176) hz]
theorem later (hc0 : ¬cond0_0 i) (hc1 : cond0_1 i) (hc2 : ¬cond0_2 i) :
    sout0_B_0 (F := Ideal) c i arg3 harg3 arg4 harg4 arg5 harg5 arg6 harg6 hc0 hc1 hc2 x0 x1 xs0 = k0_pay3 x0 x1 xs0 := by
  unfold sout0_B_0
  rw [View.read_writes_eq_canon _ _ _ (scover0_B_0 (F := Ideal) c i arg3 harg3 arg4 harg4 arg5 harg5 arg6 harg6 hc0 hc1 hc2 x0 x1 xs0)]
  unfold kernelRun0_B
  dsimp only
  sl_unfold_words
  rw [View.canon_unit_zero hz]
  simp only [View.readAt_eq_ld, harg3.read_unread, harg4.read_unread, harg6.read_unread, View.ld_unit_zero (S := S1024x1024) hz, View.ld_unit_zero (S := S1024x2176) hz, View.ld_unit_zero (S := S1024x2176) hz]
theorem last (hc0 : ¬cond0_0 i) (hc1 : ¬cond0_1 i) (hc2 : cond0_2 i) :
    out0_C_2 (F := Ideal) c i arg3 harg3 arg4 harg4 arg5 harg5 arg6 harg6 hc0 hc1 hc2 x0 x1 xs0 = k0_pay4 x0 x1 xs0 := by
  unfold out0_C_2
  rw [View.read_writes_eq_canon _ _ _ (cover0_C_2 (F := Ideal) c i arg3 harg3 arg4 harg4 arg5 harg5 arg6 harg6 hc0 hc1 hc2 x0 x1 xs0)]
  unfold kernelRun0_C
  dsimp only
  sl_unfold_words
  rw [View.canon_unit_zero hz]
  simp only [View.readAt_eq_ld, harg3.read_unread, harg4.read_unread, harg6.read_unread, View.ld_unit_zero (S := S1024x1024) hz, View.ld_unit_zero (S := S1024x2176) hz, View.ld_unit_zero (S := S1024x2176) hz]
end

/-! ### The points of a block of the result -/

theorem ix_0 : ∀ t : Fin cfg0.N, win0_0.index t = ![t.val % 16, 0] := by decide +kernel
theorem ix_1 : ∀ t : Fin cfg0.N, win0_1.index t = ![t.val % 16, 0] := by decide +kernel
theorem ix_2 : ∀ t : Fin cfg0.N, win0_2.index t = ![0, 0] := by decide +kernel
theorem flush_2 : ∀ t : Fin cfg0.N, (cfg0.win 2).flush t = true → t.val % 16 = 15 := by decide +kernel

/-- What the point `n` adds: the products of its block of tokens. -/
def part (a : FVec Ideal S16384x1024 .bf16) (d : FVec Ideal S16384x2176 .bf16) (n : ℕ) (y : S1024x2176.Idx) : EReal :=
  ∑ k : Fin 1024, a (ValueIdx.ix2 (tok (n % 16 * 1024 + k.val)) (y 0)) * d (ValueIdx.ix2 (tok (n % 16 * 1024 + k.val)) (y 1))

variable (m : (ℓ : Loc nD τ sig) → Buf (Elt Ideal) ℓ) (c : Dev nD)

theorem part_eq (t : Fin cfg0.N) (y : S1024x2176.Idx) :
    k0_pay1 (F := Ideal) (iblk m c 0 t) (iblk m c 1 t) y
      = part (m ((c : Thread nD τ).loc main_arg0)) (m ((c : Thread nD τ).loc main_arg1)) t.val y := by
  refine (pay_1 _ _ _).trans ?_
  unfold part
  refine Finset.sum_congr rfl fun k _ => congrArg₂ (· * ·) ?_ ?_
  · show V m c (Pipeline.arrRef spec0 0) _ = _
    refine (congrFun (V_main_arg0 m c) _).trans (congrArg (m ((c : Thread nD τ).loc main_arg0)) (funext fun a => Fin.ext ?_))
    fin_cases a
    · refine Eq.trans (b := t.val % 16 * 1024 + k.val) (by blk_simp [ix_0]) ?_
      exact (Nat.mod_eq_of_lt (by omega)).symm
    · refine Eq.trans (b := (y 0).val) (by blk_simp [ix_0] <;> rfl) ?_
      rfl
  · show V m c (Pipeline.arrRef spec0 1) _ = _
    refine (congrFun (V_main_arg1 m c) _).trans (congrArg (m ((c : Thread nD τ).loc main_arg1)) (funext fun a => Fin.ext ?_))
    fin_cases a
    · refine Eq.trans (b := t.val % 16 * 1024 + k.val) (by blk_simp [ix_1]) ?_
      exact (Nat.mod_eq_of_lt (by omega)).symm
    · refine Eq.trans (b := (y 1).val) (by blk_simp [ix_1] <;> rfl) ?_
      rfl

/-- The running sum before the last point of a block. -/
theorem acc (q : ℕ) (y : S1024x2176.Idx) : ∀ (j : ℕ) (hj : j ≤ 14) (h : 16 * q + j < cfg0.N),
    (outsAt0 m c (16 * q + j) h).2 y
      = ∑ s ∈ Finset.range (j + 1), part (m ((c : Thread nD τ).loc main_arg0)) (m ((c : Thread nD τ).loc main_arg1)) (16 * q + s) y
  | 0, hj, h => by
    rw [Finset.sum_range_one]
    have e := outsAt0_A m c ⟨16 * q + 0, h⟩ (by show (16 * q + 0) % 16 = 0; omega) (by show ¬(1 ≤ (16 * q + 0) % 16 ∧ (16 * q + 0) % 16 ≤ 14); omega) (by show ¬(16 * q + 0) % 16 = 15; omega)
    refine (congrFun (congrArg Prod.snd e) y).trans ?_
    dsimp only
    rw [first]
    exact (pay_2 _ _ y).trans (part_eq m c _ y)
  | j + 1, hj, h => by
    rw [Finset.sum_range_succ, ← acc q y j (by omega) (by omega)]
    have e := outsAt0_B m c ⟨16 * q + (j + 1), h⟩ (by show ¬(16 * q + (j + 1)) % 16 = 0; omega) (by show 1 ≤ (16 * q + (j + 1)) % 16 ∧ (16 * q + (j + 1)) % 16 ≤ 14; omega) (by show ¬(16 * q + (j + 1)) % 16 = 15; omega)
    refine (congrFun (congrArg Prod.snd e) y).trans ?_
    dsimp only
    rw [later]
    exact (pay_3 _ _ _ y).trans (congrArg (_ + ·) (part_eq m c _ y))

theorem outs_congr (n n' : ℕ) (h : n < cfg0.N) (h' : n' < cfg0.N) (e : n = n') : outsAt0 m c n h = outsAt0 m c n' h' := by
  subst e
  rfl

/-- What the call leaves. -/
theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have e0 : ((((cfg0.win 2).blk t).view.emb y) 0 : ℕ) = (y 0).val := by blk_simp [ix_2]
  have e1 : ((((cfg0.win 2).blk t).view.emb y) 1 : ℕ) = (y 1).val := by blk_simp [ix_2]
  have ht := flush_2 t hf
  have hN : t.val < 16 := t.isLt
  blk_simp
  rw [after0_2]
  have e := outsAt0_C m c t (by omega) (by omega) ht
  refine (congrFun (congrArg Prod.fst e) y).trans ?_
  dsimp only
  rw [last]
  refine (pay_4 _ _ _ y).trans ?_
  rw [outs_congr m c (t.val - 1) (16 * (t.val / 16) + 14) _ (lt_of_le_of_lt (by omega) t.isLt) (by omega)]
  refine (congrArg₂ (· + ·) (acc m c (t.val / 16) y 14 le_rfl _) ((part_eq m c t y).trans (congrArg (fun n => part _ _ n y) (show t.val = 16 * (t.val / 16) + 15 by omega)))).trans ?_
  refine (Finset.sum_range_succ (fun s => part _ _ (16 * (t.val / 16) + s) y) 15).symm.trans ?_
  refine Eq.trans (Finset.sum_congr rfl fun s hs => ?_) (prod_blocks _ _ _).symm
  have hs' : s < 16 := Finset.mem_range.mp hs
  unfold part
  rw [show (16 * (t.val / 16) + s) % 16 = s by omega]
  refine Finset.sum_congr rfl fun k _ => congrArg₂ (· * ·) (congrArg _ (funext fun a => ?_)) (congrArg _ (funext fun a => ?_))
  · fin_cases a
    · rfl
    · refine Fin.ext (Eq.trans ?_ e0.symm)
      rfl
  · fin_cases a
    · rfl
    · refine Fin.ext (Eq.trans ?_ e1.symm)
      rfl

end Cert.DwZ

namespace Cert.DwZ.Ref

open Idealize.ShloMosaic Idealize.ShloMosaic.TcCoe Cert.InDwZReferenceIdeal Cert.InDwZReferenceIdeal.Read

/-- What the reference computes. -/
theorem eq (a : FVec Ideal S16384x1024 .bf16) (d : FVec Ideal S16384x2176 .bf16) : val_main_v5 (F := Ideal) a d = prod a d := by
  funext i
  rw [val_main_v5_apply, val_main_v4_apply]
  refine Finset.sum_congr rfl fun k _ => (mul_comm _ _).trans (congrArg₂ (· * ·) ?_ ?_)
  · rw [val_main_v1_apply]
    exact congrArg a (funext fun b => by fin_cases b <;> rfl)
  · rw [val_main_v3_apply]
    exact congrArg d (funext fun b => by fin_cases b <;> rfl)
theorem at_eq {a a' : FVec Ideal S16384x1024 .bf16} {d d' : FVec Ideal S16384x2176 .bf16} (ha : a' = a) (hd : d' = d) :
    val_main_v5 (F := Ideal) a' d' = prod a d := by
  subst ha hd
  exact eq a' d'

end Cert.DwZ.Ref

namespace Cert.DwZ

open Idealize.ShloMosaic Idealize.ShloMosaic.TcCoe Idealize.SL.Sem

/-- Over the reals, the call and its reference end with equal arrays. -/
theorem agree : Cert.algebraic_InDwZIdeal_InDwZReferenceIdeal (hInDwZIdeal := Cert.InDwZIdeal.Gen.facts)
    (hInDwZReferenceIdeal := Cert.InDwZReferenceIdeal.Gen.facts) := by
  intro m g m' g' _ hm
  refine ⟨fun c => prod (m ((c.tc : Thread Cert.InDwZIdeal.nD Cert.InDwZIdeal.τ).loc Cert.InDwZIdeal.main_arg0)) (m ((c.tc : Thread Cert.InDwZIdeal.nD Cert.InDwZIdeal.τ).loc Cert.InDwZIdeal.main_arg1)), ?_, ?_⟩
  · refine (θ_run _ _ _).mono (fun r h c => ?_) (Cert.InDwZIdeal.Value.run_blocks (F := Ideal) m g)
    obtain ⟨k0, rest⟩ := h c
    exact ⟨k0.trans (arr m c), rest⟩
  · refine (θ_run _ _ _).mono (fun r h c => ?_) (Cert.InDwZReferenceIdeal.Value.run (F := Ideal) m' g')
    obtain ⟨k0, rest⟩ := h c
    obtain ⟨e0, e1⟩ := hm c
    exact ⟨k0.trans ((Cert.InDwZReferenceIdeal.Read.val_main_v5_eq _ _).trans (Ref.at_eq e0 e1)), rest⟩

end Cert.DwZ

end
-- ==== Proof.OutDx.lean ====
/- The gradient of the mixer's output through the out-projection. -/
module

public import Idealize.ShloMosaic.Lib.Pointwise
public import Idealize.ShloMosaic.Lib.Pipeline.ValueKit
public import Idealize.ShloMosaic.Lib.StableHlo.ReadAt
public import proofs.«01_k».proof.Defs
public import proofs.«01_k».proof.Proof.Gen.OutDxIdeal.Value
public import proofs.«01_k».proof.Proof.Gen.OutDxReferenceIdeal.Run
public import proofs.«01_k».proof.Proof.Gen.OutDxReferenceIdeal.Read

@[expose] public section

set_option maxRecDepth 16384

noncomputable section

namespace Cert.OutGrad

open Idealize.ShloMosaic Idealize.ShloMosaic.TcCoe Idealize.SL.Sem Cert.OutDxIdeal Cert.OutDxIdeal.Gen
open Idealize.ShloMosaic.Pipeline (Dat)

/-- The gradient: each row of `d` against each row of the weights. -/
def prod (d : FVec Ideal S16384x1024 .f32) (w : FVec Ideal S2048x1024 .bf16) : FVec Ideal S16384x2048 .bf16 :=
  fun i => (∑ k : Fin 1024, d (ValueIdx.ix2 (i 0) k) * w (ValueIdx.ix2 (i 1) k))

/-- The product at one grid point. -/
theorem pay (x : Vec Ideal S1024x1024 .f32) (y : Vec Ideal S2048x1024 .bf16) (i : S1024x2048.Idx) :
    k0_pay1 (F := Ideal) x y i = (∑ k : Fin 1024, x (ValueIdx.ix2 (i 0) k) * y (ValueIdx.ix2 (i 1) k)) := by
  unfold k0_pay1
  pointwise
  rfl

theorem out_eq (x : Vec Ideal S1024x1024 .f32) (y : Vec Ideal S2048x1024 .bf16) :
    out0_2 (F := Ideal) x y = k0_pay1 x y := by
  have hz : (![0, 0] : Fin 2 → Nat) = fun _ => 0 := funext fun a => by fin_cases a <;> rfl
  unfold out0_2
  rw [View.canon_unit_zero hz, View.ld_unit_zero hz, View.ld_unit_zero hz]

theorem ix_0 : ∀ t : Fin cfg0.N, win0_0.index t = ![t.val, 0] := by decide +kernel
theorem ix_1 : ∀ t : Fin cfg0.N, win0_1.index t = ![0, 0] := by decide +kernel
theorem ix_2 : ∀ t : Fin cfg0.N, win0_2.index t = ![t.val, 0] := by decide +kernel

variable (m : (ℓ : Loc nD τ sig) → Buf (Elt Ideal) ℓ) (c : Dev nD)

/-- What the call leaves. -/
theorem arr : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  have e0 : ((((cfg0.win 2).blk t).view.emb y) 0 : ℕ) = t.val * 1024 + (y 0).val := by blk_simp [ix_2]
  have e1 : ((((cfg0.win 2).blk t).view.emb y) 1 : ℕ) = (y 1).val := by blk_simp [ix_2]
  blk_simp
  rw [after0_2, out_eq]
  refine (pay _ _ _).trans ?_
  unfold prod
  refine Finset.sum_congr rfl fun k _ => congrArg₂ (· * ·) ?_ ?_
  · show V m c (Pipeline.arrRef spec0 0) _ = _
    refine (congrFun (V_main_arg0 m c) _).trans (congrArg (m ((c : Thread nD τ).loc main_arg0)) (funext fun a => Fin.ext ?_))
    fin_cases a
    · refine Eq.trans ?_ e0.symm
      blk_simp [ix_0]
    · blk_simp [ix_0]
  · show V m c (Pipeline.arrRef spec0 1) _ = _
    refine (congrFun (V_main_arg1 m c) _).trans (congrArg (m ((c : Thread nD τ).loc main_arg1)) (funext fun a => Fin.ext ?_))
    fin_cases a
    · refine Eq.trans ?_ e1.symm
      blk_simp [ix_1]
    · blk_simp [ix_1]

end Cert.OutGrad

namespace Cert.OutGrad.Ref

open Idealize.ShloMosaic Idealize.ShloMosaic.TcCoe Cert.OutDxReferenceIdeal Cert.OutDxReferenceIdeal.Read

/-- What the reference computes. -/
theorem eq (d : FVec Ideal S16384x1024 .f32) (w : FVec Ideal S2048x1024 .bf16) :
    val_main_v4 (F := Ideal) d w = prod d w := by
  funext i
  rw [val_main_v4_apply, val_main_v3_apply]
  refine Finset.sum_congr rfl fun k _ => congrArg₂ (· * ·) ?_ ?_
  · exact congrArg d (funext fun a => by fin_cases a <;> rfl)
  · rw [val_main_v1_apply]
    exact congrArg w (funext fun a => by fin_cases a <;> rfl)
theorem at_eq {d d' : FVec Ideal S16384x1024 .f32} {w w' : FVec Ideal S2048x1024 .bf16}
    (hd : d' = d) (hw : w' = w) : val_main_v4 (F := Ideal) d' w' = prod d w := by
  subst hd hw
  exact eq d' w'

end Cert.OutGrad.Ref

namespace Cert.OutGrad

open Idealize.ShloMosaic Idealize.ShloMosaic.TcCoe Idealize.SL.Sem

/-- Over the reals, the call and its reference end with equal arrays. -/
theorem agree : Cert.algebraic_OutDxIdeal_OutDxReferenceIdeal (hOutDxIdeal := Cert.OutDxIdeal.Gen.facts)
    (hOutDxReferenceIdeal := Cert.OutDxReferenceIdeal.Gen.facts) := by
  intro m g m' g' _ hm
  refine ⟨fun c => prod (m ((c.tc : Thread Cert.OutDxIdeal.nD Cert.OutDxIdeal.τ).loc Cert.OutDxIdeal.main_arg0)) (m ((c.tc : Thread Cert.OutDxIdeal.nD Cert.OutDxIdeal.τ).loc Cert.OutDxIdeal.main_arg1)), ?_, ?_⟩
  · refine (θ_run _ _ _).mono (fun r h c => ?_) (Cert.OutDxIdeal.Value.run_blocks (F := Ideal) m g)
    obtain ⟨k0, rest⟩ := h c
    exact ⟨k0.trans (arr m c), rest⟩
  · refine (θ_run _ _ _).mono (fun r h c => ?_) (Cert.OutDxReferenceIdeal.Value.run (F := Ideal) m' g')
    obtain ⟨k0, rest⟩ := h c
    obtain ⟨e0, e1⟩ := hm c
    exact ⟨k0.trans ((Cert.OutDxReferenceIdeal.Read.val_main_v4_eq _ _).trans (Ref.at_eq e0 e1)), rest⟩

end Cert.OutGrad

end
-- ==== Proof.OutDw.lean ====
/- The gradient of the out-projection's weights. -/
module

public import Idealize.ShloMosaic.Lib.Pointwise
public import Idealize.ShloMosaic.Lib.Tactic
public import Idealize.ShloMosaic.Lib.Pipeline.ValueKit
public import proofs.«01_k».proof.Defs
public import proofs.«01_k».proof.Proof.Tokens
public import proofs.«01_k».proof.Proof.Gen.OutDwIdeal.Value
public import proofs.«01_k».proof.Proof.Gen.OutDwReferenceIdeal.Run
public import proofs.«01_k».proof.Proof.Gen.OutDwReferenceIdeal.Read

@[expose] public section

set_option maxRecDepth 16384

noncomputable section

namespace Cert.DwOut

open Idealize.ShloMosaic Idealize.ShloMosaic.TcCoe Idealize.SL.Sem Cert.OutDwIdeal Cert.OutDwIdeal.Gen Cert.Tokens
open Idealize.ShloMosaic.Pipeline (Dat)

/-- The gradient: each column of the mixer's output against each column of `d`. -/
def prod (a : FVec Ideal S16384x2048 .bf16) (d : FVec Ideal S16384x1024 .f32) : FVec Ideal S2048x1024 .f32 :=
  fun i => ∑ k : Fin 16384, a (ValueIdx.ix2 k (i 0)) * d (ValueIdx.ix2 k (i 1))

theorem prod_blocks (a : FVec Ideal S16384x2048 .bf16) (d : FVec Ideal S16384x1024 .f32) (i : S2048x1024.Idx) :
    prod a d i = ∑ s ∈ Finset.range 8, ∑ k : Fin 2048, a (ValueIdx.ix2 (tok (s * 2048 + k.val)) (i 0)) * d (ValueIdx.ix2 (tok (s * 2048 + k.val)) (i 1)) :=
  (sum_tok (fun k => a (ValueIdx.ix2 k (i 0)) * d (ValueIdx.ix2 k (i 1))) 8 2048 rfl).symm

/-! ### One grid point -/

theorem pay_1 (x : Vec Ideal S2048x1024 .bf16) (y : Vec Ideal S2048x1024 .f32) (i : S1024x1024.Idx) :
    k0_pay1 (F := Ideal) x y i = ∑ k : Fin 2048, x (ValueIdx.ix2 k (i 0)) * y (ValueIdx.ix2 k (i 1)) := by
  unfold k0_pay1
  pointwise
  rfl
theorem pay_2 (x : Vec Ideal S2048x1024 .bf16) (y : Vec Ideal S2048x1024 .f32) (i : S1024x1024.Idx) :
    k0_pay2 (F := Ideal) x y i = k0_pay1 (F := Ideal) x y i := by
  unfold k0_pay2
  generalize k0_pay1 (F := Ideal) x y = z
  pointwise
theorem pay_3 (x : Vec Ideal S2048x1024 .bf16) (y : Vec Ideal S2048x1024 .f32) (z : Vec Ideal S1024x1024 .f32) (i : S1024x1024.Idx) :
    k0_pay3 (F := Ideal) x y z i = z i + k0_pay1 (F := Ideal) x y i := by
  unfold k0_pay3
  generalize k0_pay1 (F := Ideal) x y = u
  pointwise
theorem pay_4 (x : Vec Ideal S2048x1024 .bf16) (y : Vec Ideal S2048x1024 .f32) (z : Vec Ideal S1024x1024 .f32) (i : S1024x1024.Idx) :
    k0_pay4 (F := Ideal) x y z i = z i + k0_pay1 (F := Ideal) x y i := rfl

theorem hz : (![0, 0] : Fin 2 → Nat) = fun _ => 0 := funext fun a => by fin_cases a <;> rfl

section
variable (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .f32) (harg5 : arg5.IsWhole) (arg6 : Memref sig .tc .vmem S1024x1024 .f32) (harg6 : arg6.IsWhole)
  (x0 : Vec Ideal S2048x1024 .bf16) (x1 : Vec Ideal S2048x1024 .f32) (xs0 : Vec Ideal S1024x1024 .f32)

theorem first (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay2 x0 x1 := by
  unfold sout0_A_0
  rw [View.read_writes_eq_canon _ _ _ (scover0_A_0 (F := Ideal) c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S2048x1024) hz, View.ld_unit_zero (S := S2048x1024) hz, View.ld_unit_zero (S := S1024x1024) hz]
theorem later (hc0 : ¬cond0_0 i) (hc1 : cond0_1 i) (hc2 : ¬cond0_2 i) :
    sout0_B_0 (F := Ideal) c i arg3 harg3 arg4 harg4 arg5 harg5 arg6 harg6 hc0 hc1 hc2 x0 x1 xs0 = k0_pay3 x0 x1 xs0 := by
  unfold sout0_B_0
  rw [View.read_writes_eq_canon _ _ _ (scover0_B_0 (F := Ideal) c i arg3 harg3 arg4 harg4 arg5 harg5 arg6 harg6 hc0 hc1 hc2 x0 x1 xs0)]
  unfold kernelRun0_B
  dsimp only
  sl_unfold_words
  rw [View.canon_unit_zero hz]
  simp only [View.readAt_eq_ld, harg3.read_unread, harg4.read_unread, harg6.read_unread, View.ld_unit_zero (S := S2048x1024) hz, View.ld_unit_zero (S := S2048x1024) hz, View.ld_unit_zero (S := S1024x1024) hz]
theorem last (hc0 : ¬cond0_0 i) (hc1 : ¬cond0_1 i) (hc2 : cond0_2 i) :
    out0_C_2 (F := Ideal) c i arg3 harg3 arg4 harg4 arg5 harg5 arg6 harg6 hc0 hc1 hc2 x0 x1 xs0 = k0_pay4 x0 x1 xs0 := by
  unfold out0_C_2
  rw [View.read_writes_eq_canon _ _ _ (cover0_C_2 (F := Ideal) c i arg3 harg3 arg4 harg4 arg5 harg5 arg6 harg6 hc0 hc1 hc2 x0 x1 xs0)]
  unfold kernelRun0_C
  dsimp only
  sl_unfold_words
  rw [View.canon_unit_zero hz]
  simp only [View.readAt_eq_ld, harg3.read_unread, harg4.read_unread, harg6.read_unread, View.ld_unit_zero (S := S2048x1024) hz, View.ld_unit_zero (S := S2048x1024) hz, View.ld_unit_zero (S := S1024x1024) hz]
end

/-! ### The points of a block of the result -/

theorem ix_0 : ∀ t : Fin cfg0.N, win0_0.index t = ![t.val % 8, t.val / 8 % 2] := by decide +kernel
theorem ix_1 : ∀ t : Fin cfg0.N, win0_1.index t = ![t.val % 8, 0] := by decide +kernel
theorem ix_2 : ∀ t : Fin cfg0.N, win0_2.index t = ![t.val / 8 % 2, 0] := by decide +kernel
theorem flush_2 : ∀ t : Fin cfg0.N, (cfg0.win 2).flush t = true → t.val % 8 = 7 := by decide +kernel

/-- What the point `n` adds: the products of its block of tokens. -/
def part (a : FVec Ideal S16384x2048 .bf16) (d : FVec Ideal S16384x1024 .f32) (n : ℕ) (y : S1024x1024.Idx) : EReal :=
  ∑ k : Fin 2048, a (ValueIdx.ix2 (tok (n % 8 * 2048 + k.val)) (⟨n / 8 % 2 * 1024 + (y 0).val, by have h : (y 0).val < 1024 := (y 0).isLt; omega⟩ : Fin 2048)) * d (ValueIdx.ix2 (tok (n % 8 * 2048 + k.val)) (y 1))

variable (m : (ℓ : Loc nD τ sig) → Buf (Elt Ideal) ℓ) (c : Dev nD)

theorem part_eq (t : Fin cfg0.N) (y : S1024x1024.Idx) :
    k0_pay1 (F := Ideal) (iblk m c 0 t) (iblk m c 1 t) y
      = part (m ((c : Thread nD τ).loc main_arg0)) (m ((c : Thread nD τ).loc main_arg1)) t.val y := by
  refine (pay_1 _ _ _).trans ?_
  unfold part
  refine Finset.sum_congr rfl fun k _ => congrArg₂ (· * ·) ?_ ?_
  · show V m c (Pipeline.arrRef spec0 0) _ = _
    refine (congrFun (V_main_arg0 m c) _).trans (congrArg (m ((c : Thread nD τ).loc main_arg0)) (funext fun a => Fin.ext ?_))
    fin_cases a
    · refine Eq.trans (b := t.val % 8 * 2048 + k.val) (by blk_simp [ix_0]) ?_
      exact (Nat.mod_eq_of_lt (by omega)).symm
    · refine Eq.trans (b := t.val / 8 % 2 * 1024 + (y 0).val) (by blk_simp [ix_0] <;> rfl) ?_
      rfl
  · show V m c (Pipeline.arrRef spec0 1) _ = _
    refine (congrFun (V_main_arg1 m c) _).trans (congrArg (m ((c : Thread nD τ).loc main_arg1)) (funext fun a => Fin.ext ?_))
    fin_cases a
    · refine Eq.trans (b := t.val % 8 * 2048 + k.val) (by blk_simp [ix_1]) ?_
      exact (Nat.mod_eq_of_lt (by omega)).symm
    · refine Eq.trans (b := (y 1).val) (by blk_simp [ix_1] <;> rfl) ?_
      rfl

/-- The running sum before the last point of a block. -/
theorem acc (q : ℕ) (y : S1024x1024.Idx) : ∀ (j : ℕ) (hj : j ≤ 6) (h : 8 * q + j < cfg0.N),
    (outsAt0 m c (8 * q + j) h).2 y
      = ∑ s ∈ Finset.range (j + 1), part (m ((c : Thread nD τ).loc main_arg0)) (m ((c : Thread nD τ).loc main_arg1)) (8 * q + s) y
  | 0, hj, h => by
    rw [Finset.sum_range_one]
    have e := outsAt0_A m c ⟨8 * q + 0, h⟩ (by show (8 * q + 0) % 8 = 0; omega) (by show ¬(1 ≤ (8 * q + 0) % 8 ∧ (8 * q + 0) % 8 ≤ 6); omega) (by show ¬(8 * q + 0) % 8 = 7; omega)
    refine (congrFun (congrArg Prod.snd e) y).trans ?_
    dsimp only
    rw [first]
    exact (pay_2 _ _ y).trans (part_eq m c _ y)
  | j + 1, hj, h => by
    rw [Finset.sum_range_succ, ← acc q y j (by omega) (by omega)]
    have e := outsAt0_B m c ⟨8 * q + (j + 1), h⟩ (by show ¬(8 * q + (j + 1)) % 8 = 0; omega) (by show 1 ≤ (8 * q + (j + 1)) % 8 ∧ (8 * q + (j + 1)) % 8 ≤ 6; omega) (by show ¬(8 * q + (j + 1)) % 8 = 7; omega)
    refine (congrFun (congrArg Prod.snd e) y).trans ?_
    dsimp only
    rw [later]
    exact (pay_3 _ _ _ y).trans (congrArg (_ + ·) (part_eq m c _ y))

theorem outs_congr (n n' : ℕ) (h : n < cfg0.N) (h' : n' < cfg0.N) (e : n = n') : outsAt0 m c n h = outsAt0 m c n' h' := by
  subst e
  rfl

/-- What the call leaves. -/
theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have e0 : ((((cfg0.win 2).blk t).view.emb y) 0 : ℕ) = t.val / 8 % 2 * 1024 + (y 0).val := by blk_simp [ix_2]
  have e1 : ((((cfg0.win 2).blk t).view.emb y) 1 : ℕ) = (y 1).val := by blk_simp [ix_2]
  have ht := flush_2 t hf
  have hN : t.val < 16 := t.isLt
  blk_simp
  rw [after0_2]
  have e := outsAt0_C m c t (by omega) (by omega) ht
  refine (congrFun (congrArg Prod.fst e) y).trans ?_
  dsimp only
  rw [last]
  refine (pay_4 _ _ _ y).trans ?_
  rw [outs_congr m c (t.val - 1) (8 * (t.val / 8) + 6) _ (lt_of_le_of_lt (by omega) t.isLt) (by omega)]
  refine (congrArg₂ (· + ·) (acc m c (t.val / 8) y 6 le_rfl _) ((part_eq m c t y).trans (congrArg (fun n => part _ _ n y) (show t.val = 8 * (t.val / 8) + 7 by omega)))).trans ?_
  refine (Finset.sum_range_succ (fun s => part _ _ (8 * (t.val / 8) + s) y) 7).symm.trans ?_
  refine Eq.trans (Finset.sum_congr rfl fun s hs => ?_) (prod_blocks _ _ _).symm
  have hs' : s < 8 := Finset.mem_range.mp hs
  unfold part
  rw [show (8 * (t.val / 8) + s) % 8 = s by omega]
  refine Finset.sum_congr rfl fun k _ => congrArg₂ (· * ·) (congrArg _ (funext fun a => ?_)) (congrArg _ (funext fun a => ?_))
  · fin_cases a
    · rfl
    · refine Fin.ext (Eq.trans ?_ e0.symm)
      show (8 * (t.val / 8) + s) / 8 % 2 * 1024 + (y 0).val = t.val / 8 % 2 * 1024 + (y 0).val
      omega
  · fin_cases a
    · rfl
    · refine Fin.ext (Eq.trans ?_ e1.symm)
      rfl

end Cert.DwOut

namespace Cert.DwOut.Ref

open Idealize.ShloMosaic Idealize.ShloMosaic.TcCoe Cert.OutDwReferenceIdeal Cert.OutDwReferenceIdeal.Read

/-- What the reference computes. -/
theorem eq (a : FVec Ideal S16384x2048 .bf16) (d : FVec Ideal S16384x1024 .f32) : val_main_v4 (F := Ideal) a d = prod a d := by
  funext i
  rw [val_main_v4_apply, val_main_v3_apply]
  refine Finset.sum_congr rfl fun k _ => (mul_comm _ _).trans (congrArg₂ (· * ·) ?_ ?_)
  · rw [val_main_v1_apply]
    exact congrArg a (funext fun b => by fin_cases b <;> rfl)
  · exact congrArg d (funext fun b => by fin_cases b <;> rfl)
theorem at_eq {a a' : FVec Ideal S16384x2048 .bf16} {d d' : FVec Ideal S16384x1024 .f32} (ha : a' = a) (hd : d' = d) :
    val_main_v4 (F := Ideal) a' d' = prod a d := by
  subst ha hd
  exact eq a' d'

end Cert.DwOut.Ref

namespace Cert.DwOut

open Idealize.ShloMosaic Idealize.ShloMosaic.TcCoe Idealize.SL.Sem

/-- Over the reals, the call and its reference end with equal arrays. -/
theorem agree : Cert.algebraic_OutDwIdeal_OutDwReferenceIdeal (hOutDwIdeal := Cert.OutDwIdeal.Gen.facts)
    (hOutDwReferenceIdeal := Cert.OutDwReferenceIdeal.Gen.facts) := by
  intro m g m' g' _ hm
  refine ⟨fun c => prod (m ((c.tc : Thread Cert.OutDwIdeal.nD Cert.OutDwIdeal.τ).loc Cert.OutDwIdeal.main_arg0)) (m ((c.tc : Thread Cert.OutDwIdeal.nD Cert.OutDwIdeal.τ).loc Cert.OutDwIdeal.main_arg1)), ?_, ?_⟩
  · refine (θ_run _ _ _).mono (fun r h c => ?_) (Cert.OutDwIdeal.Value.run_blocks (F := Ideal) m g)
    obtain ⟨k0, rest⟩ := h c
    exact ⟨k0.trans (arr m c), rest⟩
  · refine (θ_run _ _ _).mono (fun r h c => ?_) (Cert.OutDwReferenceIdeal.Value.run (F := Ideal) m' g')
    obtain ⟨k0, rest⟩ := h c
    obtain ⟨e0, e1⟩ := hm c
    exact ⟨k0.trans ((Cert.OutDwReferenceIdeal.Read.val_main_v4_eq _ _).trans (Ref.at_eq e0 e1)), rest⟩

end Cert.DwOut

end
-- ==== Proof.InProj.lean ====
/- The in-projection of the hidden state, but for its last columns. -/
module

public import Idealize.ShloMosaic.Lib.Pointwise
public import Idealize.ShloMosaic.Lib.Pipeline.ValueKit
public import Idealize.ShloMosaic.Lib.StableHlo.ReadAt
public import proofs.«01_k».proof.Defs
public import proofs.«01_k».proof.Proof.Gen.InProjIdeal.Value
public import proofs.«01_k».proof.Proof.Gen.InProjReferenceIdeal.Run
public import proofs.«01_k».proof.Proof.Gen.InProjReferenceIdeal.Read

@[expose] public section

set_option maxRecDepth 16384

noncomputable section

namespace Cert.Proj

open Idealize.ShloMosaic Idealize.ShloMosaic.TcCoe Idealize.SL.Sem Cert.InProjIdeal Cert.InProjIdeal.Gen
open Idealize.ShloMosaic.Pipeline (Dat)

/-- The product of the hidden state and the weights' columns. -/
def prod (d : FVec Ideal S16384x1024 .bf16) (w : FVec Ideal S1024x6176 .bf16) : FVec Ideal S16384x6144 .f32 :=
  fun i => (∑ k : Fin 1024, d (ValueIdx.ix2 (i 0) k) * w (ValueIdx.ix2 k (⟨(i 1).val, by have h : (i 1).val < 6144 := (i 1).isLt; omega⟩ : Fin 6176)))

/-- The product at one grid point. -/
theorem pay (x : Vec Ideal S2048x1024 .bf16) (y : Vec Ideal S1024x1536 .bf16) (i : S2048x1536.Idx) :
    k0_pay1 (F := Ideal) x y i = (∑ k : Fin 1024, x (ValueIdx.ix2 (i 0) k) * y (ValueIdx.ix2 k (i 1))) := by
  unfold k0_pay1
  pointwise
  rfl

theorem out_eq (x : Vec Ideal S2048x1024 .bf16) (y : Vec Ideal S1024x1536 .bf16) :
    out0_2 (F := Ideal) x y = k0_pay1 x y := by
  have hz : (![0, 0] : Fin 2 → Nat) = fun _ => 0 := funext fun a => by fin_cases a <;> rfl
  unfold out0_2
  rw [View.canon_unit_zero hz, View.ld_unit_zero hz, View.ld_unit_zero hz]

theorem ix_0 : ∀ t : Fin cfg0.N, win0_0.index t = ![t.val / 4, 0] := by decide +kernel
theorem ix_1 : ∀ t : Fin cfg0.N, win0_1.index t = ![0, t.val % 4] := by decide +kernel
theorem ix_2 : ∀ t : Fin cfg0.N, win0_2.index t = ![t.val / 4, t.val % 4] := by decide +kernel

variable (m : (ℓ : Loc nD τ sig) → Buf (Elt Ideal) ℓ) (c : Dev nD)

/-- The weights' columns that the host passes. -/
def cols (w : FVec Ideal S1024x6176 .bf16) : FVec Ideal S1024x6144 .bf16 :=
  extractStridedSlice S1024x6144 ![0, 0] w slices_S1024x6176_S1024x6144_0_0
theorem cols_apply (w : FVec Ideal S1024x6176 .bf16) (k : Fin 1024) (a : Fin 6144) :
    cols w (ValueIdx.ix2 k a) = w (ValueIdx.ix2 k (⟨a.val, by omega⟩ : Fin 6176)) := by
  unfold cols
  pointwise
  rfl
theorem V_v0 : V m c main_v0 = cols (m ((c : Thread nD τ).loc main_arg1)) := by
  unfold_abbrev_sides
  after_reads_simp
  rfl

/-- What the call leaves. -/
theorem arr : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  have e0 : ((((cfg0.win 2).blk t).view.emb y) 0 : ℕ) = (t.val / 4) * 2048 + (y 0).val := by blk_simp [ix_2]
  have e1 : ((((cfg0.win 2).blk t).view.emb y) 1 : ℕ) = (t.val % 4) * 1536 + (y 1).val := by blk_simp [ix_2]
  blk_simp
  rw [after0_2, out_eq]
  refine (pay _ _ _).trans ?_
  unfold prod
  refine Finset.sum_congr rfl fun k _ => congrArg₂ (· * ·) ?_ ?_
  · show V m c (Pipeline.arrRef spec0 0) _ = _
    refine (congrFun (V_main_arg0 m c) _).trans (congrArg (m ((c : Thread nD τ).loc main_arg0)) (funext fun a => Fin.ext ?_))
    fin_cases a
    · refine Eq.trans ?_ e0.symm
      blk_simp [ix_0]
    · blk_simp [ix_0]
  · show V m c (Pipeline.arrRef spec0 1) _ = _
    refine (congrFun (V_v0 m c) _).trans ((congrArg (cols _) (funext fun a => Fin.ext ?_)).trans (cols_apply _ _ _))
    fin_cases a
    · blk_simp [ix_1]
    · refine Eq.trans ?_ e1.symm
      blk_simp [ix_1]

end Cert.Proj

namespace Cert.Proj.Ref

open Idealize.ShloMosaic Idealize.ShloMosaic.TcCoe Cert.InProjReferenceIdeal Cert.InProjReferenceIdeal.Read

/-- What the reference computes. -/
theorem eq (d : FVec Ideal S16384x1024 .bf16) (w : FVec Ideal S1024x6176 .bf16) :
    val_main_v3 (F := Ideal) d w = prod d w := by
  funext i
  rw [val_main_v3_apply]
  refine Finset.sum_congr rfl fun k _ => congrArg₂ (· * ·) ?_ ?_
  · rw [val_main_v0_apply]
    exact congrArg d (funext fun a => by fin_cases a <;> rfl)
  · rw [val_main_v2_apply, val_main_v1_apply]
    exact congrArg w (funext fun a => by fin_cases a <;> rfl)
theorem at_eq {d d' : FVec Ideal S16384x1024 .bf16} {w w' : FVec Ideal S1024x6176 .bf16}
    (hd : d' = d) (hw : w' = w) : val_main_v3 (F := Ideal) d' w' = prod d w := by
  subst hd hw
  exact eq d' w'

end Cert.Proj.Ref

namespace Cert.Proj

open Idealize.ShloMosaic Idealize.ShloMosaic.TcCoe Idealize.SL.Sem

/-- Over the reals, the call and its reference end with equal arrays. -/
theorem agree : Cert.algebraic_InProjIdeal_InProjReferenceIdeal (hInProjIdeal := Cert.InProjIdeal.Gen.facts)
    (hInProjReferenceIdeal := Cert.InProjReferenceIdeal.Gen.facts) := by
  intro m g m' g' _ hm
  refine ⟨fun c => prod (m ((c.tc : Thread Cert.InProjIdeal.nD Cert.InProjIdeal.τ).loc Cert.InProjIdeal.main_arg0)) (m ((c.tc : Thread Cert.InProjIdeal.nD Cert.InProjIdeal.τ).loc Cert.InProjIdeal.main_arg1)), ?_, ?_⟩
  · refine (θ_run _ _ _).mono (fun r h c => ?_) (Cert.InProjIdeal.Value.run_blocks (F := Ideal) m g)
    obtain ⟨k0, rest⟩ := h c
    exact ⟨k0.trans (arr m c), rest⟩
  · refine (θ_run _ _ _).mono (fun r h c => ?_) (Cert.InProjReferenceIdeal.Value.run (F := Ideal) m' g')
    obtain ⟨k0, rest⟩ := h c
    obtain ⟨e0, e1⟩ := hm c
    exact ⟨k0.trans ((Cert.InProjReferenceIdeal.Read.val_main_v3_eq _ _).trans (Ref.at_eq e0 e1)), rest⟩

end Cert.Proj

end
-- ==== Proof.OutProj.lean ====
/- The out-projection, added to the stream that it joins. -/
module

public import Idealize.ShloMosaic.Lib.Pointwise
public import Idealize.ShloMosaic.Lib.Pipeline.ValueKit
public import Idealize.ShloMosaic.Lib.StableHlo.ReadAt
public import proofs.«01_k».proof.Defs
public import proofs.«01_k».proof.Proof.Gen.OutProjIdeal.Value
public import proofs.«01_k».proof.Proof.Gen.OutProjReferenceIdeal.Run
public import proofs.«01_k».proof.Proof.Gen.OutProjReferenceIdeal.Read

@[expose] public section

set_option maxRecDepth 16384

noncomputable section

namespace Cert.Out

open Idealize.ShloMosaic Idealize.ShloMosaic.TcCoe Idealize.SL.Sem Cert.OutProjIdeal Cert.OutProjIdeal.Gen
open Idealize.ShloMosaic.Pipeline (Dat)

/-- The product of the mixer's output and the weights, and the stream. -/
def prod (d : FVec Ideal S16384x2048 .bf16) (w : FVec Ideal S2048x1024 .bf16) (h : FVec Ideal S16384x1024 .f32) : FVec Ideal S16384x1024 .f32 :=
  fun i => (∑ k : Fin 2048, d (ValueIdx.ix2 (i 0) k) * w (ValueIdx.ix2 k (i 1))) + h i

/-- The product at one grid point. -/
theorem pay (x : Vec Ideal S1024x2048 .bf16) (y : Vec Ideal S2048x1024 .bf16) (z : Vec Ideal S1024x1024 .f32) (i : S1024x1024.Idx) :
    k0_pay1 (F := Ideal) x y z i = (∑ k : Fin 2048, x (ValueIdx.ix2 (i 0) k) * y (ValueIdx.ix2 k (i 1))) + z i := by
  unfold k0_pay1
  pointwise
  rfl

theorem out_eq (x : Vec Ideal S1024x2048 .bf16) (y : Vec Ideal S2048x1024 .bf16) (z : Vec Ideal S1024x1024 .f32) :
    out0_3 (F := Ideal) x y z = k0_pay1 x y z := by
  have hz : (![0, 0] : Fin 2 → Nat) = fun _ => 0 := funext fun a => by fin_cases a <;> rfl
  unfold out0_3
  rw [View.canon_unit_zero hz, View.ld_unit_zero hz, View.ld_unit_zero hz, View.ld_unit_zero hz]

theorem ix_0 : ∀ t : Fin cfg0.N, win0_0.index t = ![t.val, 0] := by decide +kernel
theorem ix_1 : ∀ t : Fin cfg0.N, win0_1.index t = ![0, 0] := by decide +kernel
theorem ix_2 : ∀ t : Fin cfg0.N, win0_2.index t = ![t.val, 0] := by decide +kernel
theorem ix_3 : ∀ t : Fin cfg0.N, win0_3.index t = ![t.val, 0] := by decide +kernel

variable (m : (ℓ : Loc nD τ sig) → Buf (Elt Ideal) ℓ) (c : Dev nD)

/-- What the call leaves. -/
theorem arr : (dats m 0 c).arrAt 3 cfg0.N
    = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  have e0 : ((((cfg0.win 3).blk t).view.emb y) 0 : ℕ) = t.val * 1024 + (y 0).val := by blk_simp [ix_3]
  have e1 : ((((cfg0.win 3).blk t).view.emb y) 1 : ℕ) = (y 1).val := by blk_simp [ix_3]
  blk_simp
  rw [after0_3, out_eq]
  refine (pay _ _ _ _).trans ?_
  unfold prod
  refine congrArg₂ (· + ·) (Finset.sum_congr rfl fun k _ => congrArg₂ (· * ·) ?_ ?_) ?_
  · show V m c (Pipeline.arrRef spec0 0) _ = _
    refine (congrFun (V_main_arg0 m c) _).trans (congrArg (m ((c : Thread nD τ).loc main_arg0)) (funext fun a => Fin.ext ?_))
    fin_cases a
    · refine Eq.trans ?_ e0.symm
      blk_simp [ix_0]
    · blk_simp [ix_0]
  · show V m c (Pipeline.arrRef spec0 1) _ = _
    refine (congrFun (V_main_arg1 m c) _).trans (congrArg (m ((c : Thread nD τ).loc main_arg1)) (funext fun a => Fin.ext ?_))
    fin_cases a
    · blk_simp [ix_1]
    · refine Eq.trans ?_ e1.symm
      blk_simp [ix_1]
  · show V m c (Pipeline.arrRef spec0 2) _ = _
    refine (congrFun (V_main_arg2 m c) _).trans (congrArg (m ((c : Thread nD τ).loc main_arg2)) (funext fun a => Fin.ext ?_))
    fin_cases a
    · refine Eq.trans ?_ e0.symm
      blk_simp [ix_2]
      rfl
    · refine Eq.trans ?_ e1.symm
      blk_simp [ix_2]
      rfl

end Cert.Out

namespace Cert.Out.Ref

open Idealize.ShloMosaic Idealize.ShloMosaic.TcCoe Cert.OutProjReferenceIdeal Cert.OutProjReferenceIdeal.Read

/-- What the reference computes. -/
theorem eq (d : FVec Ideal S16384x2048 .bf16) (w : FVec Ideal S2048x1024 .bf16) (h : FVec Ideal S16384x1024 .f32) :
    val_main_v3 (F := Ideal) d w h = prod d w h := by
  funext i
  rw [val_main_v3_apply, val_main_v2_apply]
  refine (add_comm _ _).trans ?_
  refine congrArg (· + h i) (Finset.sum_congr rfl fun k _ => congrArg₂ (· * ·) ?_ ?_)
  · rw [val_main_v0_apply]
    exact congrArg d (funext fun a => by fin_cases a <;> rfl)
  · rw [val_main_v1_apply]
    exact congrArg w (funext fun a => by fin_cases a <;> rfl)
theorem at_eq {d d' : FVec Ideal S16384x2048 .bf16} {w w' : FVec Ideal S2048x1024 .bf16} {h h' : FVec Ideal S16384x1024 .f32}
    (hd : d' = d) (hw : w' = w) (hh : h' = h) : val_main_v3 (F := Ideal) d' w' h' = prod d w h := by
  subst hd hw hh
  exact eq d' w' h'

end Cert.Out.Ref

namespace Cert.Out

open Idealize.ShloMosaic Idealize.ShloMosaic.TcCoe Idealize.SL.Sem

/-- Over the reals, the call and its reference end with equal arrays. -/
theorem agree : Cert.algebraic_OutProjIdeal_OutProjReferenceIdeal (hOutProjIdeal := Cert.OutProjIdeal.Gen.facts)
    (hOutProjReferenceIdeal := Cert.OutProjReferenceIdeal.Gen.facts) := by
  intro m g m' g' _ hm
  refine ⟨fun c => prod (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)), ?_, ?_⟩
  · refine (θ_run _ _ _).mono (fun r h c => ?_) (Cert.OutProjIdeal.Value.run_blocks (F := Ideal) m g)
    obtain ⟨k0, rest⟩ := h c
    exact ⟨k0.trans (arr m c), rest⟩
  · refine (θ_run _ _ _).mono (fun r h c => ?_) (Cert.OutProjReferenceIdeal.Value.run (F := Ideal) m' g')
    obtain ⟨k0, rest⟩ := h c
    obtain ⟨e0, e1, e2⟩ := hm c
    exact ⟨k0.trans ((Cert.OutProjReferenceIdeal.Read.val_main_v3_eq _ _ _).trans (Ref.at_eq e0 e1 e2)), rest⟩

end Cert.Out

end
-- ==== Proof.FwdBlk.lean ====
/- The forward values of one chunk, and the array operations of the forward scan that the backward one does not have. -/
module

public import proofs.«01_k».proof.Proof.Lift
public import proofs.«01_k».proof.Proof.Blk
public import proofs.«01_k».proof.Proof.Gen.FwdIdeal

@[expose] public section

noncomputable section

namespace Cert.Blk

variable (K : Blk)

/-- The scan's output. -/
def y (g : Fin 8) (l : Fin 128) (p : Fin 256) : ℝ :=
  (∑ s, K.cb g l s * K.L (hd p) g l s * K.xd g s p) + K.cs g l p * K.ecs (hd p) g l + K.x g l p * K.D (hd p) g
/-- The state the chunk leaves. -/
def Sn (g : Fin 8) (p : Fin 256) (n : Fin 128) : ℝ :=
  K.S g p n * K.edl (hd p) g + ∑ l, K.xd g l p * (K.b g l n * K.dst (hd p) g l)

end Cert.Blk

namespace Cert.Lift

open Idealize.ShloMosaic Idealize.ShloMosaic.ValueIdx

variable {φ ψ : FTy}

theorem fnamed_mask : (Named.named Cert.FwdIdeal.κ "mask" 0xF149F2CA#32 : Ideal .f32) = (⊥ : EReal) := rfl
theorem cast_8x256x128_1x8x256x128 (f : Fin 8 → Fin 256 → Fin 128 → ℝ) (h) :
    shapeCast (⟨4, ![1, 8, 256, 128]⟩ : Shape) (up3 f : FVec Ideal ⟨3, ![8, 256, 128]⟩ φ) h = up4 fun _ i j k => f i j k := by
  funext i
  pointwise [up3, up4]
theorem fdot_8x128x128_8x128x128_22 (f : Fin 8 → Fin 128 → Fin 128 → ℝ) (g : Fin 8 → Fin 128 → Fin 128 → ℝ) :
    matmul Cert.FwdIdeal.dot_S8x128x128_S8x128x128_S8x128x128_2_2_1_1_0_0 none (up3 f : FVec Ideal _ φ) (up3 g : FVec Ideal _ ψ) (constant (⟨3, ![8, 128, 128]⟩ : Shape) .f32 0x00000000#32)
      = up3 fun i j k => ∑ x : Fin 128, f i j x * g i k x := by
  funext i
  pointwise [up3]
  simp only [coe_sum, EReal.coe_mul]
theorem fdot_8x128x128_8x256x128_22 (f : Fin 8 → Fin 128 → Fin 128 → ℝ) (g : Fin 8 → Fin 256 → Fin 128 → ℝ) :
    matmul Cert.FwdIdeal.dot_S8x128x128_S8x256x128_S8x128x256_2_2_1_1_0_0 none (up3 f : FVec Ideal _ φ) (up3 g : FVec Ideal _ ψ) (constant (⟨3, ![8, 128, 256]⟩ : Shape) .f32 0x00000000#32)
      = up3 fun i j k => ∑ x : Fin 128, f i j x * g i k x := by
  funext i
  pointwise [up3]
  simp only [coe_sum, EReal.coe_mul]
theorem fdot_8x128x128_8x128x256_21 (f : Fin 8 → Fin 128 → Fin 128 → ℝ) (g : Fin 8 → Fin 128 → Fin 256 → ℝ) :
    matmul Cert.FwdIdeal.dot_S8x128x128_S8x128x256_S8x128x256_2_1_1_2_0_0 none (up3 f : FVec Ideal _ φ) (up3 g : FVec Ideal _ ψ) (constant (⟨3, ![8, 128, 256]⟩ : Shape) .f32 0x00000000#32)
      = up3 fun i j k => ∑ x : Fin 128, f i j x * g i x k := by
  funext i
  pointwise [up3]
  simp only [coe_sum, EReal.coe_mul]
theorem fdot_8x128x256_8x128x128_11 (f : Fin 8 → Fin 128 → Fin 256 → ℝ) (g : Fin 8 → Fin 128 → Fin 128 → ℝ) :
    matmul Cert.FwdIdeal.dot_S8x128x256_S8x128x128_S8x256x128_1_1_2_2_0_0 none (up3 f : FVec Ideal _ φ) (up3 g : FVec Ideal _ ψ) (constant (⟨3, ![8, 256, 128]⟩ : Shape) .f32 0x00000000#32)
      = up3 fun i j k => ∑ x : Fin 128, f i x j * g i x k := by
  funext i
  pointwise [up3]
  simp only [coe_sum, EReal.coe_mul]

end Cert.Lift

end
-- ==== Proof.FwdSeq.lean ====
/- The forward scan over the whole sequence: what one chunk leaves is the sequence's output and the state of the next. -/
module

public import proofs.«01_k».proof.Proof.Seq
public import proofs.«01_k».proof.Proof.FwdBlk

@[expose] public section

noncomputable section

namespace Cert.Sq

variable (Q : Sq)

/-- The output at a step: the decayed products with every step up to it, and the skip. -/
def y (g : Fin 8) (t : Fin 16384) (p : Fin 256) : ℝ :=
  (∑ s, Q.cb g t s * Q.L (hd p) g t s * Q.xd g s p) + Q.X g t p * Q.D (ix (hd p) g)

variable (c : Fin 128) (g : Fin 8)

theorem blk_y (l : Fin 128) (p : Fin 256) : (Q.blk c).y g l p = Q.y g (st c l) p := by
  have h1 : (Q.blk c).cs g l p * (Q.blk c).ecs (hd p) g l = ∑ s ∈ lo c, Q.cb g (st c l) s * Q.L (hd p) g (st c l) s * Q.xd g s p := by
    have e (n : Fin 128) : (Q.blk c).c g l n * (Q.blk c).S g p n
        = ∑ s ∈ lo c, Q.C g (st c l) n * Q.B g s n * (Real.exp (Q.pre (hd p) g (128 * c.val) - Q.acs (hd p) g s) * Q.xd g s p) := by
      rw [blk_c, blk_S, S_eq, Finset.mul_sum]
      exact Finset.sum_congr rfl fun s _ => by ring
    rw [Blk.cs, Finset.sum_congr rfl fun n _ => e n, Finset.sum_comm, Finset.sum_mul, blk_ecs]
    refine Finset.sum_congr rfl fun s hs => ?_
    rw [Q.L_lo c _ g l hs, ← Finset.sum_mul, cb]; ring
  have h2 : (∑ s, (Q.blk c).cb g l s * (Q.blk c).L (hd p) g l s * (Q.blk c).xd g s p)
      = ∑ s, Q.cb g (st c l) (st c s) * Q.L (hd p) g (st c l) (st c s) * Q.xd g (st c s) p :=
    Finset.sum_congr rfl fun s _ => by rw [blk_cb, blk_L, blk_xd]
  have h3 : ∑ s ∈ hi c, Q.cb g (st c l) s * Q.L (hd p) g (st c l) s * Q.xd g s p = 0 :=
    Finset.sum_eq_zero fun s hs => by rw [Q.L_hi_zero c _ g l hs, mul_zero, zero_mul]
  rw [Blk.y, y, sum_split c, h1, h2, h3, blk_x, add_zero]
  show _ + _ + Q.X g (st c l) p * Q.D (ix (hd p) g) = _
  ring

theorem blk_Sn (c' : Fin 128) (hc : c.val + 1 = c'.val) (p : Fin 256) (n : Fin 128) : (Q.blk c).Sn g p n = Q.S c' g p n := by
  have hm : 128 * c'.val = 128 * c.val + 128 := by omega
  have e : Q.S c' g p n = (∑ s ∈ lo c, Real.exp (Q.pre (hd p) g (128 * c.val + 128) - Q.acs (hd p) g s) * Q.xd g s p * Q.B g s n)
      + ∑ l, (Q.blk c).xd g l p * ((Q.blk c).b g l n * (Q.blk c).dst (hd p) g l) := by
    rw [S_eq, lo, Finset.sum_filter, sum_split c, hm]
    have h1 : (∑ t ∈ hi c, if t.val < 128 * c.val + 128 then Real.exp (Q.pre (hd p) g (128 * c.val + 128) - Q.acs (hd p) g t) * Q.xd g t p * Q.B g t n else 0) = 0 :=
      Finset.sum_eq_zero fun t ht => by rw [mem_hi] at ht; rw [if_neg (by omega)]
    rw [h1, add_zero]
    refine congrArg₂ (· + ·) ?_ ?_
    · refine Finset.sum_congr rfl fun t ht => ?_
      rw [mem_lo] at ht
      rw [if_pos (by omega)]
    · refine Finset.sum_congr rfl fun l _ => ?_
      have := l.isLt
      rw [if_pos (by simp only [st]; omega), blk_xd, blk_b, blk_dst]
      ring
  rw [e, Blk.Sn, blk_S, S_eq, Finset.sum_mul, blk_edl]
  refine congrArg₂ (· + ·) (Finset.sum_congr rfl fun s _ => ?_) rfl
  rw [exp_cut (Q.pre (hd p) g (128 * c.val + 128)) (Q.pre (hd p) g (128 * c.val)) (Q.acs (hd p) g s)]
  ring

theorem S_first (hc : c.val = 0) (p : Fin 256) (n : Fin 128) : Q.S c g p n = 0 := by
  rw [S_eq]
  refine Finset.sum_eq_zero fun t ht => ?_
  rw [mem_lo] at ht
  omega

end Cert.Sq
-- ==== Proof.FwdPay1.lean ====
/- What each value of a grid point of the forward scan is over the reals, at finite inputs. -/
module

public import proofs.«01_k».proof.Proof.FwdBlk
public import proofs.«01_k».proof.Proof.Gen.FwdIdeal.Skeleton

@[expose] public section

noncomputable section

namespace Cert.FwdPay

open Idealize.ShloMosaic Cert.FwdIdeal Cert.FwdIdeal.Gen Cert.Lift Cert.Blk

theorem pay_2 : (k0_pay2 (F := Ideal)) = (up3 (φ := .f32) fun _ _ _ => 0) := by
  simp -index only [k0_pay2, ofBits_zero, broadcast_up3, shapeCast_self]
  all_goals rfl
theorem pay_3 (K : Blk) : k0_pay3 (F := Ideal) (up3 (φ := .f32) fun g p n => K.S g p n) = (up4 (φ := .f32) fun _ g p n => K.S g p n) := by
  simp -index only [k0_pay3, cast_8x256x128_1x8x256x128]
  all_goals rfl
theorem pay_4 (K : Blk) : k0_pay4 (F := Ideal) (up5 (φ := .f32) fun _ r g _ l => K.raw r g l) = (up4 (φ := .f32) fun r g _ l => K.raw r g l) := by
  simp -index only [k0_pay4, cast_1x4x8x1x128_4x8x1x128]
  all_goals rfl
theorem pay_5 (K : Blk) : k0_pay5 (F := Ideal) (up4 (φ := .f32) fun r g _ _ => K.bias r g) = (up4 (φ := .f32) fun r g _ _ => K.bias r g) := by
  simp -index only [k0_pay5, shapeCast_self]
  all_goals rfl
theorem pay_6 (K : Blk) : k0_pay6 (F := Ideal) (up4 (φ := .f32) fun r g _ _ => K.al r g) = (up4 (φ := .f32) fun r g _ _ => K.al r g) := by
  simp -index only [k0_pay6, shapeCast_self]
  all_goals rfl
theorem pay_7 (K : Blk) : k0_pay7 (F := Ideal) (up4 (φ := .f32) fun r g _ _ => K.D r g) = (up4 (φ := .f32) fun r g _ _ => K.D r g) := by
  simp -index only [k0_pay7, shapeCast_self]
  all_goals rfl
theorem pay_8 : k0_pay8 = (bm3 fun _ l s => decide (s ≤ l)) := by
  simp -index only [k0_pay8, mask_ge]
  all_goals rfl
theorem pay_9 : k0_pay9 (iota .tc S1x128x128 32 [1] Facts₀.iota_S1x128x128_d1_w32) (iota .tc S1x128x128 32 [2] Facts₀.iota_S1x128x128_d2_w32) = (bm3 fun _ l s => decide (l = s)) := by
  simp -index only [k0_pay9, mask_eq]
  all_goals rfl
theorem pay_10 : k0_pay10 (iota .tc S1x128x128 32 [1] Facts₀.iota_S1x128x128_d1_w32) (iota .tc S1x128x128 32 [2] Facts₀.iota_S1x128x128_d2_w32) = (bm3 fun _ l s => decide (l ≤ s)) := by
  simp -index only [k0_pay10, mask_le]
  all_goals rfl
theorem pay_11 (K : Blk) : k0_pay11 (F := Ideal) (up3 (φ := .f32) fun g l n => K.b g l n) (up3 (φ := .f32) fun g l n => K.c g l n) = (up3 (φ := .f32) fun g l s => K.cb g l s) := by
  simp -index only [k0_pay11, truncf_up3, fdot_8x128x128_8x128x128_22]
  all_goals rfl
theorem pay_12 (K : Blk) : k0_pay12 (F := Ideal) (up3 (φ := .f32) fun g p n => K.S g p n) (up3 (φ := .f32) fun g l n => K.c g l n) = (up3 (φ := .f32) fun g l p => K.cs g l p) := by
  simp -index only [k0_pay12, truncf_up3, fdot_8x128x128_8x256x128_22]
  all_goals rfl
theorem pay_13 (K : Blk) : k0_pay13 (F := Ideal) (up4 (φ := .f32) fun r g _ l => K.raw r g l) (up4 (φ := .f32) fun r g _ _ => K.bias r g) = (up3 (φ := .f32) fun g _ l => K.dt 0 g l) := by
  simp -index only [k0_pay13, slice_0_128, cast_1x8x1x128_8x1x128, slice_0_1, cast_1x8x1x1_8x1x1, bcast_8x1x1_8x1x128, addf_up3, ofBits_zero, broadcast_up3, maximumf_up3, absf_up3, subf_up3, exp_up3, exp_low3, ofBits_one, log_up3]
  all_goals rfl
theorem pay_14 (K : Blk) : k0_pay14 (F := Ideal) (up4 (φ := .f32) fun r g _ l => K.raw r g l) (up4 (φ := .f32) fun r g _ _ => K.bias r g) (up4 (φ := .f32) fun r g _ _ => K.al r g) = (up3 (φ := .f32) fun g _ l => K.adt 0 g l) := by
  simp -index only [k0_pay14, pay_13, slice_0_1, cast_1x8x1x1_8x1x1, exp_up3, exp_low3, ofBits_zero, broadcast_up3, subf_up3, bcast_8x1x1_8x1x128, mulf_up3]
  all_goals rfl
theorem pay_15 (K : Blk) : k0_pay15 (F := Ideal) (up4 (φ := .f32) fun r g _ l => K.raw r g l) (up4 (φ := .f32) fun r g _ _ => K.bias r g) (iota .tc S1x128x128 32 [1] Facts₀.iota_S1x128x128_d1_w32) (iota .tc S1x128x128 32 [2] Facts₀.iota_S1x128x128_d2_w32) = (up3 (φ := .f32) fun g l _ => K.dt 0 g l) := by
  simp -index only [k0_pay15, pay_9, pay_13, ofBits_zero, shapeCast_self, mcast_1x128x128_8x128x128, bcast_8x1x128_8x128x128, broadcast_up3, select_up3, select_low3, sum_8x128x128_2, cast_8x128_8x128x1]
  simp only [decide_eq_true_eq, Finset.sum_ite_eq, Finset.mem_univ, if_true]
  all_goals rfl
theorem pay_16 (K : Blk) : k0_pay16 (F := Ideal) (up4 (φ := .f32) fun r g _ l => K.raw r g l) (up4 (φ := .f32) fun r g _ _ => K.bias r g) (up4 (φ := .f32) fun r g _ _ => K.al r g) (iota .tc S1x128x128 32 [1] Facts₀.iota_S1x128x128_d1_w32) (iota .tc S1x128x128 32 [2] Facts₀.iota_S1x128x128_d2_w32) = (up3 (φ := .f32) fun g l _ => K.adt 0 g l) := by
  simp -index only [k0_pay16, pay_9, pay_14, ofBits_zero, shapeCast_self, mcast_1x128x128_8x128x128, bcast_8x1x128_8x128x128, broadcast_up3, select_up3, select_low3, sum_8x128x128_2, cast_8x128_8x128x1]
  simp only [decide_eq_true_eq, Finset.sum_ite_eq, Finset.mem_univ, if_true]
  all_goals rfl
theorem pay_17 (K : Blk) : k0_pay17 (F := Ideal) (bm3 fun _ l s => decide (s ≤ l)) (up3 (φ := .f32) fun g _ l => K.adt 0 g l) ((0 : ℝ) : EReal) = (up3 (φ := .f32) fun g l _ => K.acs 0 g l) := by
  simp -index only [k0_pay17, shapeCast_self, mcast_1x128x128_8x128x128, bcast_8x1x128_8x128x128, broadcast_up3, select_up3, select_low3, sum_8x128x128_2, cast_8x128_8x128x1]
  simp only [decide_eq_true_eq, Finset.sum_ite_eq, Finset.mem_univ, if_true]
  all_goals rfl
theorem pay_18 (K : Blk) : k0_pay18 (F := Ideal) (up3 (φ := .f32) fun g _ l => K.adt 0 g l) = (up3 (φ := .f32) fun g _ _ => K.last 0 g) := by
  simp -index only [k0_pay18, sum_8x1x128_2, cast_8x1_8x1x1]
  all_goals rfl
theorem pay_19 (K : Blk) : k0_pay19 (F := Ideal) (bm3 fun _ l s => decide (s ≤ l)) (bm3 fun _ l s => decide (l ≤ s)) (up3 (φ := .f32) fun g _ l => K.adt 0 g l) (up3 (φ := .f32) fun g l _ => K.adt 0 g l) ((0 : ℝ) : EReal) = (up3 (φ := .f32) fun g l s => K.L 0 g l s) := by
  simp -index only [k0_pay19, pay_17, ofBits_zero, shapeCast_self, mcast_1x128x128_8x128x128, bcast_8x128x1_8x128x128, broadcast_up3, select_up3, select_low3, sum_8x128x128_1, cast_8x128_8x1x128, bcast_8x1x128_8x128x128, subf_up3, fnamed_mask, exp_up3, exp_low3]
  simp only [decide_eq_true_eq, Finset.sum_ite_eq, Finset.mem_univ, if_true]
  all_goals rfl
theorem pay_20 (K : Blk) : k0_pay20 (F := Ideal) (bm3 fun _ l s => decide (s ≤ l)) (up3 (φ := .f32) fun g _ l => K.adt 0 g l) ((0 : ℝ) : EReal) = (up3 (φ := .f32) fun g l _ => K.ecs 0 g l) := by
  simp -index only [k0_pay20, pay_17, exp_up3, exp_low3]
  all_goals rfl
theorem pay_21 (K : Blk) : k0_pay21 (F := Ideal) (bm3 fun _ l s => decide (s ≤ l)) (up3 (φ := .f32) fun g _ l => K.adt 0 g l) ((0 : ℝ) : EReal) = (up3 (φ := .f32) fun g l _ => K.dst 0 g l) := by
  simp -index only [k0_pay21, pay_17, pay_18, bcast_8x1x1_8x128x1, subf_up3, exp_up3, exp_low3]
  all_goals rfl
theorem pay_22 (K : Blk) : k0_pay22 (F := Ideal) (up3 (φ := .f32) fun g _ l => K.adt 0 g l) = (up3 (φ := .f32) fun g _ _ => K.edl 0 g) := by
  simp -index only [k0_pay22, pay_18, exp_up3, exp_low3]
  all_goals rfl
theorem pay_23 (K : Blk) : k0_pay23 (F := Ideal) (up4 (φ := .f32) fun r g _ l => K.raw r g l) (up4 (φ := .f32) fun r g _ _ => K.bias r g) = (up3 (φ := .f32) fun g _ l => K.dt 1 g l) := by
  simp -index only [k0_pay23, slice_1_128, cast_1x8x1x128_8x1x128, slice_1_1, cast_1x8x1x1_8x1x1, bcast_8x1x1_8x1x128, addf_up3, ofBits_zero, broadcast_up3, maximumf_up3, absf_up3, subf_up3, exp_up3, exp_low3, ofBits_one, log_up3]
  all_goals rfl
theorem pay_24 (K : Blk) : k0_pay24 (F := Ideal) (up4 (φ := .f32) fun r g _ _ => K.al r g) = (up3 (φ := .f32) fun g _ _ => Real.exp (K.al 1 g)) := by
  simp -index only [k0_pay24, slice_1_1, cast_1x8x1x1_8x1x1, exp_up3, exp_low3]
  all_goals rfl
theorem pay_25 : (k0_pay25 (F := Ideal)) = (up3 (φ := .f32) fun _ _ _ => 0) := by
  simp -index only [k0_pay25, ofBits_zero, broadcast_up3]
  all_goals rfl
theorem pay_26 (K : Blk) : k0_pay26 (F := Ideal) (up3 (φ := .f32) fun g _ l => K.dt 1 g l) (up3 (φ := .f32) fun g _ _ => Real.exp (K.al 1 g)) (up3 (φ := .f32) fun _ _ _ => 0) = (up3 (φ := .f32) fun g _ l => K.adt 1 g l) := by
  simp -index only [k0_pay26, subf_up3, bcast_8x1x1_8x1x128, mulf_up3]
  all_goals rfl
theorem pay_27 (K : Blk) : k0_pay27 (F := Ideal) (bm3 fun _ l s => decide (l = s)) (up3 (φ := .f32) fun g _ l => K.dt 1 g l) = (up3 (φ := .f32) fun g l _ => K.dt 1 g l) := by
  simp -index only [k0_pay27, ofBits_zero, shapeCast_self, mcast_1x128x128_8x128x128, bcast_8x1x128_8x128x128, broadcast_up3, select_up3, select_low3, sum_8x128x128_2, cast_8x128_8x128x1]
  simp only [decide_eq_true_eq, Finset.sum_ite_eq, Finset.mem_univ, if_true]
  all_goals rfl
theorem pay_28 (K : Blk) : k0_pay28 (F := Ideal) (bm3 fun _ l s => decide (s ≤ l)) (up3 (φ := .f32) fun g _ l => K.dt 1 g l) (up3 (φ := .f32) fun g _ _ => Real.exp (K.al 1 g)) (up3 (φ := .f32) fun _ _ _ => 0) = (up3 (φ := .f32) fun g l _ => K.acs 1 g l) := by
  simp -index only [k0_pay28, pay_26, ofBits_zero, shapeCast_self, mcast_1x128x128_8x128x128, bcast_8x1x128_8x128x128, broadcast_up3, select_up3, select_low3, sum_8x128x128_2, cast_8x128_8x128x1]
  simp only [decide_eq_true_eq, Finset.sum_ite_eq, Finset.mem_univ, if_true]
  all_goals rfl
theorem pay_29 (K : Blk) : k0_pay29 (F := Ideal) (up3 (φ := .f32) fun g _ l => K.dt 1 g l) (up3 (φ := .f32) fun g _ _ => Real.exp (K.al 1 g)) (up3 (φ := .f32) fun _ _ _ => 0) = (up3 (φ := .f32) fun g _ _ => K.last 1 g) := by
  simp -index only [k0_pay29, pay_26, sum_8x1x128_2, cast_8x1_8x1x1]
  all_goals rfl
theorem pay_30 (K : Blk) : k0_pay30 (F := Ideal) (bm3 fun _ l s => decide (s ≤ l)) (bm3 fun _ l s => decide (l = s)) (bm3 fun _ l s => decide (l ≤ s)) (up3 (φ := .f32) fun g _ l => K.dt 1 g l) (up3 (φ := .f32) fun g _ _ => Real.exp (K.al 1 g)) (up3 (φ := .f32) fun _ _ _ => 0) = (up3 (φ := .f32) fun g l s => K.L 1 g l s) := by
  simp -index only [k0_pay30, pay_26, pay_28, ofBits_zero, shapeCast_self, mcast_1x128x128_8x128x128, bcast_8x1x128_8x128x128, broadcast_up3, select_up3, select_low3, sum_8x128x128_2, cast_8x128_8x128x1, bcast_8x128x1_8x128x128, sum_8x128x128_1, cast_8x128_8x1x128, subf_up3, fnamed_mask, exp_up3, exp_low3]
  simp only [decide_eq_true_eq, Finset.sum_ite_eq, Finset.mem_univ, if_true]
  all_goals rfl
theorem pay_31 (K : Blk) : k0_pay31 (F := Ideal) (bm3 fun _ l s => decide (s ≤ l)) (up3 (φ := .f32) fun g _ l => K.dt 1 g l) (up3 (φ := .f32) fun g _ _ => Real.exp (K.al 1 g)) (up3 (φ := .f32) fun _ _ _ => 0) = (up3 (φ := .f32) fun g l _ => K.ecs 1 g l) := by
  simp -index only [k0_pay31, pay_28, exp_up3, exp_low3]
  all_goals rfl
theorem pay_32 (K : Blk) : k0_pay32 (F := Ideal) (bm3 fun _ l s => decide (s ≤ l)) (up3 (φ := .f32) fun g _ l => K.dt 1 g l) (up3 (φ := .f32) fun g _ _ => Real.exp (K.al 1 g)) (up3 (φ := .f32) fun _ _ _ => 0) = (up3 (φ := .f32) fun g l _ => K.dst 1 g l) := by
  simp -index only [k0_pay32, pay_28, pay_29, bcast_8x1x1_8x128x1, subf_up3, exp_up3, exp_low3]
  all_goals rfl
theorem pay_33 (K : Blk) : k0_pay33 (F := Ideal) (up3 (φ := .f32) fun g _ l => K.dt 1 g l) (up3 (φ := .f32) fun g _ _ => Real.exp (K.al 1 g)) (up3 (φ := .f32) fun _ _ _ => 0) = (up3 (φ := .f32) fun g _ _ => K.edl 1 g) := by
  simp -index only [k0_pay33, pay_29, exp_up3, exp_low3]
  all_goals rfl
theorem pay_34 (K : Blk) : k0_pay34 (F := Ideal) (up4 (φ := .f32) fun r g _ l => K.raw r g l) (up4 (φ := .f32) fun r g _ _ => K.bias r g) = (up3 (φ := .f32) fun g _ l => K.dt 2 g l) := by
  simp -index only [k0_pay34, slice_2_128, cast_1x8x1x128_8x1x128, slice_2_1, cast_1x8x1x1_8x1x1, bcast_8x1x1_8x1x128, addf_up3, ofBits_zero, broadcast_up3, maximumf_up3, absf_up3, subf_up3, exp_up3, exp_low3, ofBits_one, log_up3]
  all_goals rfl
theorem pay_35 (K : Blk) : k0_pay35 (F := Ideal) (up4 (φ := .f32) fun r g _ l => K.raw r g l) (up4 (φ := .f32) fun r g _ _ => K.bias r g) (up4 (φ := .f32) fun r g _ _ => K.al r g) = (up3 (φ := .f32) fun g _ l => K.adt 2 g l) := by
  simp -index only [k0_pay35, pay_34, slice_2_1, cast_1x8x1x1_8x1x1, exp_up3, exp_low3, ofBits_zero, broadcast_up3, subf_up3, bcast_8x1x1_8x1x128, mulf_up3]
  all_goals rfl
theorem pay_36 (K : Blk) : k0_pay36 (F := Ideal) (up4 (φ := .f32) fun r g _ l => K.raw r g l) (up4 (φ := .f32) fun r g _ _ => K.bias r g) (bm3 fun _ l s => decide (l = s)) = (up3 (φ := .f32) fun g l _ => K.dt 2 g l) := by
  simp -index only [k0_pay36, pay_34, ofBits_zero, shapeCast_self, mcast_1x128x128_8x128x128, bcast_8x1x128_8x128x128, broadcast_up3, select_up3, select_low3, sum_8x128x128_2, cast_8x128_8x128x1]
  simp only [decide_eq_true_eq, Finset.sum_ite_eq, Finset.mem_univ, if_true]
  all_goals rfl
theorem pay_37 (K : Blk) : k0_pay37 (F := Ideal) (up4 (φ := .f32) fun r g _ l => K.raw r g l) (up4 (φ := .f32) fun r g _ _ => K.bias r g) (up4 (φ := .f32) fun r g _ _ => K.al r g) (bm3 fun _ l s => decide (l = s)) = (up3 (φ := .f32) fun g l _ => K.adt 2 g l) := by
  simp -index only [k0_pay37, pay_35, ofBits_zero, shapeCast_self, mcast_1x128x128_8x128x128, bcast_8x1x128_8x128x128, broadcast_up3, select_up3, select_low3, sum_8x128x128_2, cast_8x128_8x128x1]
  simp only [decide_eq_true_eq, Finset.sum_ite_eq, Finset.mem_univ, if_true]
  all_goals rfl
theorem pay_38 (K : Blk) : k0_pay38 (F := Ideal) (up4 (φ := .f32) fun r g _ l => K.raw r g l) (up4 (φ := .f32) fun r g _ _ => K.bias r g) (up4 (φ := .f32) fun r g _ _ => K.al r g) (bm3 fun _ l s => decide (s ≤ l)) = (up3 (φ := .f32) fun g l _ => K.acs 2 g l) := by
  simp -index only [k0_pay38, pay_35, ofBits_zero, shapeCast_self, mcast_1x128x128_8x128x128, bcast_8x1x128_8x128x128, broadcast_up3, select_up3, select_low3, sum_8x128x128_2, cast_8x128_8x128x1]
  simp only [decide_eq_true_eq, Finset.sum_ite_eq, Finset.mem_univ, if_true]
  all_goals rfl
theorem pay_39 : k0_pay39 (bm3 fun _ l s => decide (l ≤ s)) = (bm3 fun _ l s => decide (l ≤ s)) := by
  simp -index only [k0_pay39, shapeCast_self, mcast_1x128x128_8x128x128]
  all_goals rfl
theorem pay_40 (K : Blk) : k0_pay40 (F := Ideal) (up3 (φ := .f32) fun g _ l => K.adt 2 g l) = (up3 (φ := .f32) fun g _ _ => K.last 2 g) := by
  simp -index only [k0_pay40, sum_8x1x128_2, cast_8x1_8x1x1]
  all_goals rfl
theorem pay_41 (K : Blk) : k0_pay41 (F := Ideal) (bm3 fun _ l s => decide (s ≤ l)) (up3 (φ := .f32) fun g l _ => K.adt 2 g l) (up3 (φ := .f32) fun g l _ => K.acs 2 g l) ((0 : ℝ) : EReal) (bm3 fun _ l s => decide (l ≤ s)) = (up3 (φ := .f32) fun g l s => K.L 2 g l s) := by
  simp -index only [k0_pay41, shapeCast_self, bcast_8x128x1_8x128x128, broadcast_up3, select_up3, select_low3, sum_8x128x128_1, cast_8x128_8x1x128, bcast_8x1x128_8x128x128, subf_up3, fnamed_mask, mcast_1x128x128_8x128x128, exp_up3, exp_low3]
  simp only [decide_eq_true_eq, Finset.sum_ite_eq, Finset.mem_univ, if_true]
  all_goals rfl
theorem pay_42 (K : Blk) : k0_pay42 (F := Ideal) (up3 (φ := .f32) fun g l _ => K.acs 2 g l) = (up3 (φ := .f32) fun g l _ => K.ecs 2 g l) := by
  simp -index only [k0_pay42, exp_up3, exp_low3]
  all_goals rfl
theorem pay_43 (K : Blk) : k0_pay43 (F := Ideal) (up3 (φ := .f32) fun g _ l => K.adt 2 g l) (up3 (φ := .f32) fun g l _ => K.acs 2 g l) = (up3 (φ := .f32) fun g l _ => K.dst 2 g l) := by
  simp -index only [k0_pay43, pay_40, bcast_8x1x1_8x128x1, subf_up3, exp_up3, exp_low3]
  all_goals rfl
theorem pay_44 (K : Blk) : k0_pay44 (F := Ideal) (up3 (φ := .f32) fun g _ l => K.adt 2 g l) = (up3 (φ := .f32) fun g _ _ => K.edl 2 g) := by
  simp -index only [k0_pay44, pay_40, exp_up3, exp_low3]
  all_goals rfl
theorem pay_45 (K : Blk) : k0_pay45 (F := Ideal) (up4 (φ := .f32) fun r g _ l => K.raw r g l) (up4 (φ := .f32) fun r g _ _ => K.bias r g) = (up3 (φ := .f32) fun g _ l => K.dt 3 g l) := by
  simp -index only [k0_pay45, slice_3_128, cast_1x8x1x128_8x1x128, slice_3_1, cast_1x8x1x1_8x1x1, bcast_8x1x1_8x1x128, addf_up3, ofBits_zero, broadcast_up3, maximumf_up3, absf_up3, subf_up3, exp_up3, exp_low3, ofBits_one, log_up3]
  all_goals rfl
theorem pay_46 (K : Blk) : k0_pay46 (F := Ideal) (up4 (φ := .f32) fun r g _ l => K.raw r g l) (up4 (φ := .f32) fun r g _ _ => K.bias r g) (up4 (φ := .f32) fun r g _ _ => K.al r g) = (up3 (φ := .f32) fun g _ l => K.adt 3 g l) := by
  simp -index only [k0_pay46, pay_45, slice_3_1, cast_1x8x1x1_8x1x1, exp_up3, exp_low3, ofBits_zero, broadcast_up3, subf_up3, bcast_8x1x1_8x1x128, mulf_up3]
  all_goals rfl
theorem pay_47 (K : Blk) : k0_pay47 (F := Ideal) (up4 (φ := .f32) fun r g _ l => K.raw r g l) (up4 (φ := .f32) fun r g _ _ => K.bias r g) (bm3 fun _ l s => decide (l = s)) = (up2 (φ := .f32) fun g l => K.dt 3 g l) := by
  simp -index only [k0_pay47, pay_45, ofBits_zero, shapeCast_self, mcast_1x128x128_8x128x128, bcast_8x1x128_8x128x128, broadcast_up3, select_up3, select_low3, sum_8x128x128_2]
  simp only [decide_eq_true_eq, Finset.sum_ite_eq, Finset.mem_univ, if_true]
  all_goals rfl
theorem pay_48 (K : Blk) : k0_pay48 (F := Ideal) (bm3 fun _ l s => decide (s ≤ l)) (up3 (φ := .f32) fun g _ l => K.adt 3 g l) = (up3 (φ := .f32) fun g l _ => K.acs 3 g l) := by
  simp -index only [k0_pay48, ofBits_zero, shapeCast_self, mcast_1x128x128_8x128x128, bcast_8x1x128_8x128x128, broadcast_up3, select_up3, select_low3, sum_8x128x128_2, cast_8x128_8x128x1]
  simp only [decide_eq_true_eq, Finset.sum_ite_eq, Finset.mem_univ, if_true]
  all_goals rfl
theorem pay_49 (K : Blk) : k0_pay49 (F := Ideal) (up3 (φ := .f32) fun g _ l => K.adt 3 g l) = (up3 (φ := .f32) fun g _ _ => K.last 3 g) := by
  simp -index only [k0_pay49, sum_8x1x128_2, cast_8x1_8x1x1]
  all_goals rfl
theorem pay_50 (K : Blk) : k0_pay50 (F := Ideal) (bm3 fun _ l s => decide (s ≤ l)) (bm3 fun _ l s => decide (l = s)) (bm3 fun _ l s => decide (l ≤ s)) (up3 (φ := .f32) fun g _ l => K.adt 3 g l) = (up3 (φ := .f32) fun g l s => K.L 3 g l s) := by
  simp -index only [k0_pay50, pay_48, ofBits_zero, shapeCast_self, mcast_1x128x128_8x128x128, bcast_8x1x128_8x128x128, broadcast_up3, select_up3, select_low3, sum_8x128x128_2, cast_8x128_8x128x1, bcast_8x128x1_8x128x128, sum_8x128x128_1, cast_8x128_8x1x128, subf_up3, fnamed_mask, exp_up3, exp_low3]
  simp only [decide_eq_true_eq, Finset.sum_ite_eq, Finset.mem_univ, if_true]
  all_goals rfl
theorem pay_51 (K : Blk) : k0_pay51 (F := Ideal) (bm3 fun _ l s => decide (s ≤ l)) (up3 (φ := .f32) fun g _ l => K.adt 3 g l) = (up3 (φ := .f32) fun g l _ => K.ecs 3 g l) := by
  simp -index only [k0_pay51, pay_48, exp_up3, exp_low3]
  all_goals rfl
theorem pay_52 (K : Blk) : k0_pay52 (F := Ideal) (bm3 fun _ l s => decide (s ≤ l)) (up3 (φ := .f32) fun g _ l => K.adt 3 g l) = (up3 (φ := .f32) fun g l _ => K.dst 3 g l) := by
  simp -index only [k0_pay52, pay_48, pay_49, bcast_8x1x1_8x128x1, subf_up3, exp_up3, exp_low3]
  all_goals rfl
theorem pay_53 (K : Blk) : k0_pay53 (F := Ideal) (up3 (φ := .f32) fun g _ l => K.adt 3 g l) = (up3 (φ := .f32) fun g _ _ => K.edl 3 g) := by
  simp -index only [k0_pay53, pay_49, exp_up3, exp_low3]
  all_goals rfl
theorem pay_54 (K : Blk) : k0_pay54 (F := Ideal) (iota .tc S1x1x256 32 [2] Facts₀.iota_S1x1x256_d2_w32) (up3 (φ := .f32) fun g l _ => K.dt 2 g l) (up2 (φ := .f32) fun g l => K.dt 3 g l) = (up3 (φ := .f32) fun g l p => if p.val < 192 then K.dt 2 g l else K.dt 3 g l) := by
  simp -index only [k0_pay54, cast_8x128_8x128x1, lanes_lt_192, shapeCast_self, mcast_1x1x256_8x128x256, bcast_8x128x1_8x128x256, select_up3, select_low3]
  simp only [decide_eq_true_eq, Finset.sum_ite_eq, Finset.mem_univ, if_true]
  all_goals rfl
theorem pay_55 : k0_pay55 = (broadcast S1x1x256 128#32) := by
  simp -index only [k0_pay55]
  all_goals rfl
theorem pay_56 (K : Blk) : k0_pay56 (F := Ideal) (up3 (φ := .f32) fun g l p => K.x g l p) (iota .tc S1x1x256 32 [2] Facts₀.iota_S1x1x256_d2_w32) (up3 (φ := .f32) fun g l _ => K.dt 0 g l) (up3 (φ := .f32) fun g l _ => K.dt 1 g l) (up3 (φ := .f32) fun g l p => if p.val < 192 then K.dt 2 g l else K.dt 3 g l) (broadcast S1x1x256 128#32) = (up3 (φ := .f32) fun g l p => K.xd g l p) := by
  simp -index only [k0_pay56, lanes_lt_128, shapeCast_self, mcast_1x1x256_8x128x256, bcast_8x128x1_8x128x256, select_up3, select_low3, lanes_lt_64, mulf_up3]
  refine congrArg up3 (funext fun _ => funext fun i => funext fun j => ?_)
  rcases head_of j with ⟨a, h⟩ | ⟨a, b, h⟩ | ⟨a, b, h⟩ | ⟨a, h⟩ <;> simp only [decide_eq_true_eq, Blk.xd, h] <;> split_ifs <;> first | rfl | (exfalso; omega)
theorem pay_57 (K : Blk) : k0_pay57 (F := Ideal) (up3 (φ := .f32) fun g l p => K.x g l p) (iota .tc S1x1x256 32 [2] Facts₀.iota_S1x1x256_d2_w32) (up3 (φ := .f32) fun g l s => K.cb g l s) (up3 (φ := .f32) fun g l _ => K.dt 0 g l) (up3 (φ := .f32) fun g l s => K.L 0 g l s) (up3 (φ := .f32) fun g l _ => K.dt 1 g l) (up3 (φ := .f32) fun g l s => K.L 1 g l s) (up3 (φ := .f32) fun g l s => K.L 2 g l s) (up3 (φ := .f32) fun g l s => K.L 3 g l s) (up3 (φ := .f32) fun g l p => if p.val < 192 then K.dt 2 g l else K.dt 3 g l) (broadcast S1x1x256 128#32) = (up3 (φ := .f32) fun g l p => ∑ s, K.cb g l s * K.L (hd p) g l s * K.xd g s p) := by
  simp -index only [k0_pay57, pay_56, mulf_up3, truncf_up3, fdot_8x128x128_8x128x256_21, lanes_lt_192, shapeCast_self, mcast_1x1x256_8x128x256, select_up3, select_low3, lanes_lt_128, lanes_lt_64]
  refine congrArg up3 (funext fun _ => funext fun i => funext fun j => ?_)
  rcases head_of j with ⟨a, h⟩ | ⟨a, b, h⟩ | ⟨a, b, h⟩ | ⟨a, h⟩ <;> simp only [decide_eq_true_eq, h] <;> split_ifs <;> first | rfl | (exfalso; omega)
theorem pay_58 (K : Blk) : k0_pay58 (F := Ideal) (up3 (φ := .f32) fun g l p => K.x g l p) (up3 (φ := .f32) fun g l n => K.b g l n) (iota .tc S1x1x256 32 [2] Facts₀.iota_S1x1x256_d2_w32) (up3 (φ := .f32) fun g l _ => K.dt 0 g l) (up3 (φ := .f32) fun g l _ => K.dst 0 g l) (up3 (φ := .f32) fun g l _ => K.dt 1 g l) (up3 (φ := .f32) fun g l p => if p.val < 192 then K.dt 2 g l else K.dt 3 g l) (broadcast S1x1x256 128#32) = (up3 (φ := .f32) fun g p n => ∑ l, K.xd g l p * (K.b g l n * K.dst 0 g l)) := by
  simp -index only [k0_pay58, pay_56, bcast_8x128x1_8x128x128, mulf_up3, truncf_up3, fdot_8x128x256_8x128x128_11]
  all_goals rfl
theorem pay_59 (K : Blk) : k0_pay59 (F := Ideal) (up3 (φ := .f32) fun g l _ => K.dst 1 g l) = (up3 (φ := .f32) fun g l _ => K.dst 1 g l) := by
  simp -index only [k0_pay59, bcast_8x128x1_8x128x128]
  all_goals rfl
theorem pay_60 (K : Blk) : k0_pay60 (F := Ideal) (up3 (φ := .f32) fun g l n => K.b g l n) (iota .tc S1x256x1 32 [1] Facts₀.iota_S1x256x1_d1_w32) (up3 (φ := .f32) fun g l _ => K.dst 2 g l) (up3 (φ := .f32) fun g l _ => K.dst 3 g l) (up3 (φ := .f32) fun g l p => K.xd g l p) (up3 (φ := .f32) fun g p n => ∑ l, K.xd g l p * (K.b g l n * K.dst 0 g l)) (up3 (φ := .f32) fun g l _ => K.dst 1 g l) = (up3 (φ := .f32) fun g p n => ∑ l, K.xd g l p * (K.b g l n * K.dst (hd p) g l)) := by
  simp -index only [k0_pay60, mulf_up3, truncf_up3, fdot_8x128x256_8x128x128_11, bcast_8x128x1_8x128x128, rows_lt_192, shapeCast_self, mcast_1x256x1_8x256x128, select_up3, select_low3, rows_lt_128, rows_lt_64]
  refine congrArg up3 (funext fun _ => funext fun i => funext fun j => ?_)
  rcases head_of i with ⟨a, h⟩ | ⟨a, b, h⟩ | ⟨a, b, h⟩ | ⟨a, h⟩ <;> simp only [decide_eq_true_eq, h] <;> split_ifs <;> first | rfl | (exfalso; omega)
theorem pay_61 (K : Blk) : k0_pay61 (F := Ideal) (iota .tc S1x1x256 32 [2] Facts₀.iota_S1x1x256_d2_w32) (up3 (φ := .f32) fun g l _ => K.ecs 1 g l) (up3 (φ := .f32) fun g l _ => K.ecs 2 g l) (up3 (φ := .f32) fun g l _ => K.ecs 3 g l) = (up3 (φ := .f32) fun g l p => if p.val < 128 then K.ecs 1 g l else if p.val < 192 then K.ecs 2 g l else K.ecs 3 g l) := by
  simp -index only [k0_pay61, lanes_lt_192, shapeCast_self, mcast_1x1x256_8x128x256, bcast_8x128x1_8x128x256, select_up3, select_low3, lanes_lt_128]
  simp only [decide_eq_true_eq]
theorem pay_62 : k0_pay62 (iota .tc S1x1x256 32 [2] Facts₀.iota_S1x1x256_d2_w32) = (bm3 fun _ _ p => decide (p.val < 64)) := by
  simp -index only [k0_pay62, lanes_lt_64, shapeCast_self, mcast_1x1x256_8x128x256]
  all_goals rfl
theorem pay_63 (K : Blk) : k0_pay63 (F := Ideal) (up3 (φ := .f32) fun g l _ => K.ecs 0 g l) = (up3 (φ := .f32) fun g l _ => K.ecs 0 g l) := by
  simp -index only [k0_pay63, shapeCast_self, bcast_8x128x1_8x128x256]
  all_goals rfl
theorem pay_64 (K : Blk) : k0_pay64 (F := Ideal) (up3 (φ := .f32) fun g l p => K.x g l p) (up4 (φ := .f32) fun r g _ _ => K.D r g) (iota .tc S1x1x256 32 [2] Facts₀.iota_S1x1x256_d2_w32) (up3 (φ := .f32) fun g l p => K.cs g l p) (up3 (φ := .f32) fun g l p => ∑ s, K.cb g l s * K.L (hd p) g l s * K.xd g s p) (up3 (φ := .f32) fun g l p => if p.val < 128 then K.ecs 1 g l else if p.val < 192 then K.ecs 2 g l else K.ecs 3 g l) (bm3 fun _ _ p => decide (p.val < 64)) (up3 (φ := .f32) fun g l _ => K.ecs 0 g l) = (up3 (φ := .f32) fun g l p => K.y g l p) := by
  simp -index only [k0_pay64, select_up3, select_low3, mulf_up3, addf_up3, slice_0_1, cast_1x8x1x1_8x1x1, slice_1_1, slice_2_1, slice_3_1, lanes_lt_192, shapeCast_self, mcast_1x1x256_8x1x256, bcast_8x1x1_8x1x256, lanes_lt_128, lanes_lt_64, bcast_8x1x256_8x128x256]
  refine congrArg up3 (funext fun _ => funext fun i => funext fun j => ?_)
  rcases head_of j with ⟨a, h⟩ | ⟨a, b, h⟩ | ⟨a, b, h⟩ | ⟨a, h⟩ <;> simp only [decide_eq_true_eq, Blk.y, h] <;> split_ifs <;> first | rfl | (exfalso; omega)
theorem pay_65 (K : Blk) : k0_pay65 (F := Ideal) (iota .tc S1x256x1 32 [1] Facts₀.iota_S1x256x1_d1_w32) (up3 (φ := .f32) fun g _ _ => K.edl 1 g) (up3 (φ := .f32) fun g _ _ => K.edl 2 g) (up3 (φ := .f32) fun g _ _ => K.edl 3 g) = (up3 (φ := .f32) fun g p _ => if p.val < 128 then K.edl 1 g else if p.val < 192 then K.edl 2 g else K.edl 3 g) := by
  simp -index only [k0_pay65, rows_lt_192, shapeCast_self, mcast_1x256x1_8x256x1, bcast_8x1x1_8x256x1, select_up3, select_low3, rows_lt_128]
  simp only [decide_eq_true_eq]
theorem pay_66 : k0_pay66 = (broadcast S1x256x1 64#32) := by
  simp -index only [k0_pay66]
  all_goals rfl
theorem pay_67 (K : Blk) : k0_pay67 (F := Ideal) (up3 (φ := .f32) fun g p n => K.S g p n) (iota .tc S1x256x1 32 [1] Facts₀.iota_S1x256x1_d1_w32) (up3 (φ := .f32) fun g _ _ => K.edl 0 g) (up3 (φ := .f32) fun g p n => ∑ l, K.xd g l p * (K.b g l n * K.dst (hd p) g l)) (up3 (φ := .f32) fun g p _ => if p.val < 128 then K.edl 1 g else if p.val < 192 then K.edl 2 g else K.edl 3 g) (broadcast S1x256x1 64#32) = (up3 (φ := .f32) fun g p n => K.Sn g p n) := by
  simp -index only [k0_pay67, rows_lt_64, shapeCast_self, mcast_1x256x1_8x256x1, bcast_8x1x1_8x256x1, select_up3, select_low3, bcast_8x256x1_8x256x128, mulf_up3, addf_up3]
  refine congrArg up3 (funext fun _ => funext fun i => funext fun j => ?_)
  rcases head_of i with ⟨a, h⟩ | ⟨a, b, h⟩ | ⟨a, b, h⟩ | ⟨a, h⟩ <;> simp only [decide_eq_true_eq, Blk.Sn, h] <;> split_ifs <;> first | rfl | (exfalso; omega)
theorem pay_68 (K : Blk) : k0_pay68 (F := Ideal) (up3 (φ := .f32) fun g p n => K.S g p n) (iota .tc S1x256x1 32 [1] Facts₀.iota_S1x256x1_d1_w32) (up3 (φ := .f32) fun g _ _ => K.edl 0 g) (up3 (φ := .f32) fun g p n => ∑ l, K.xd g l p * (K.b g l n * K.dst (hd p) g l)) (up3 (φ := .f32) fun g p _ => if p.val < 128 then K.edl 1 g else if p.val < 192 then K.edl 2 g else K.edl 3 g) (broadcast S1x256x1 64#32) = (up4 (φ := .f32) fun _ g p n => K.Sn g p n) := by
  simp -index only [k0_pay68, pay_67, cast_8x256x128_1x8x256x128]
  all_goals rfl
end Cert.FwdPay

end
-- ==== Proof.FwdPay2.lean ====
/- What each value of a grid point of the forward scan is over the reals, at finite inputs. -/
module

public import proofs.«01_k».proof.Proof.FwdBlk
public import proofs.«01_k».proof.Proof.Gen.FwdIdeal.Skeleton

@[expose] public section

noncomputable section

namespace Cert.FwdPay

open Idealize.ShloMosaic Cert.FwdIdeal Cert.FwdIdeal.Gen Cert.Lift Cert.Blk

theorem pay_1 (K : Blk) : k0_pay1 (F := Ideal) (up3 (φ := .f32) fun g p n => K.S g p n) (iota .tc S1x256x1 32 [1] Facts₀.iota_S1x256x1_d1_w32) (up3 (φ := .f32) fun g _ _ => K.edl 0 g) (up3 (φ := .f32) fun g p n => ∑ l, K.xd g l p * (K.b g l n * K.dst (hd p) g l)) (up3 (φ := .f32) fun g p _ => if p.val < 128 then K.edl 1 g else if p.val < 192 then K.edl 2 g else K.edl 3 g) = (up3 (φ := .f32) fun g p n => K.Sn g p n) := by
  simp -index only [k0_pay1, rows_lt_64, shapeCast_self, mcast_1x256x1_8x256x1, bcast_8x1x1_8x256x1, select_up3, select_low3, bcast_8x256x1_8x256x128, mulf_up3, addf_up3]
  refine congrArg up3 (funext fun _ => funext fun i => funext fun j => ?_)
  rcases head_of i with ⟨a, h⟩ | ⟨a, b, h⟩ | ⟨a, b, h⟩ | ⟨a, h⟩ <;> simp only [decide_eq_true_eq, Blk.Sn, h] <;> split_ifs <;> first | rfl | (exfalso; omega)
theorem pay_69 (K : Blk) : k0_pay69 (F := Ideal) (up5 (φ := .f32) fun _ r g _ l => K.raw r g l) = (up4 (φ := .f32) fun r g _ l => K.raw r g l) := by
  simp -index only [k0_pay69, cast_1x4x8x1x128_4x8x1x128]
  all_goals rfl
theorem pay_70 (K : Blk) : k0_pay70 (F := Ideal) (up4 (φ := .f32) fun r g _ _ => K.bias r g) = (up4 (φ := .f32) fun r g _ _ => K.bias r g) := by
  simp -index only [k0_pay70, shapeCast_self]
  all_goals rfl
theorem pay_71 (K : Blk) : k0_pay71 (F := Ideal) (up4 (φ := .f32) fun r g _ _ => K.al r g) = (up4 (φ := .f32) fun r g _ _ => K.al r g) := by
  simp -index only [k0_pay71, shapeCast_self]
  all_goals rfl
theorem pay_72 (K : Blk) : k0_pay72 (F := Ideal) (up4 (φ := .f32) fun r g _ _ => K.D r g) = (up4 (φ := .f32) fun r g _ _ => K.D r g) := by
  simp -index only [k0_pay72, shapeCast_self]
  all_goals rfl
theorem pay_73 : k0_pay73 (iota .tc S1x128x128 32 [1] Facts₀.iota_S1x128x128_d1_w32) = (bm3 fun _ l s => decide (s ≤ l)) := by
  simp -index only [k0_pay73, mask_ge]
  all_goals rfl
theorem pay_74 : k0_pay74 (iota .tc S1x128x128 32 [1] Facts₀.iota_S1x128x128_d1_w32) = (bm3 fun _ l s => decide (l = s)) := by
  simp -index only [k0_pay74, mask_eq]
  all_goals rfl
theorem pay_75 : k0_pay75 (iota .tc S1x128x128 32 [1] Facts₀.iota_S1x128x128_d1_w32) = (bm3 fun _ l s => decide (l ≤ s)) := by
  simp -index only [k0_pay75, mask_le]
  all_goals rfl
theorem pay_76 (K : Blk) : k0_pay76 (F := Ideal) (up3 (φ := .f32) fun g l n => K.b g l n) (up3 (φ := .f32) fun g l n => K.c g l n) = (up3 (φ := .f32) fun g l s => K.cb g l s) := by
  simp -index only [k0_pay76, truncf_up3, fdot_8x128x128_8x128x128_22]
  all_goals rfl
theorem pay_77 (K : Blk) : k0_pay77 (F := Ideal) (up3 (φ := .f32) fun g p n => K.S g p n) (up3 (φ := .f32) fun g l n => K.c g l n) = (up3 (φ := .f32) fun g l p => K.cs g l p) := by
  simp -index only [k0_pay77, truncf_up3, fdot_8x128x128_8x256x128_22]
  all_goals rfl
theorem pay_78 (K : Blk) : k0_pay78 (F := Ideal) (up4 (φ := .f32) fun r g _ l => K.raw r g l) (up4 (φ := .f32) fun r g _ _ => K.bias r g) = (up3 (φ := .f32) fun g _ l => K.dt 0 g l) := by
  simp -index only [k0_pay78, slice_0_128, cast_1x8x1x128_8x1x128, slice_0_1, cast_1x8x1x1_8x1x1, bcast_8x1x1_8x1x128, addf_up3, ofBits_zero, broadcast_up3, maximumf_up3, absf_up3, subf_up3, exp_up3, exp_low3, ofBits_one, log_up3]
  all_goals rfl
theorem pay_79 (K : Blk) : k0_pay79 (F := Ideal) (up4 (φ := .f32) fun r g _ l => K.raw r g l) (up4 (φ := .f32) fun r g _ _ => K.bias r g) (up4 (φ := .f32) fun r g _ _ => K.al r g) = (up3 (φ := .f32) fun g _ l => K.adt 0 g l) := by
  simp -index only [k0_pay79, pay_78, slice_0_1, cast_1x8x1x1_8x1x1, exp_up3, exp_low3, ofBits_zero, broadcast_up3, subf_up3, bcast_8x1x1_8x1x128, mulf_up3]
  all_goals rfl
theorem pay_80 (K : Blk) : k0_pay80 (F := Ideal) (up4 (φ := .f32) fun r g _ l => K.raw r g l) (up4 (φ := .f32) fun r g _ _ => K.bias r g) (iota .tc S1x128x128 32 [1] Facts₀.iota_S1x128x128_d1_w32) = (up3 (φ := .f32) fun g l _ => K.dt 0 g l) := by
  simp -index only [k0_pay80, pay_74, pay_78, ofBits_zero, shapeCast_self, mcast_1x128x128_8x128x128, bcast_8x1x128_8x128x128, broadcast_up3, select_up3, select_low3, sum_8x128x128_2, cast_8x128_8x128x1]
  simp only [decide_eq_true_eq, Finset.sum_ite_eq, Finset.mem_univ, if_true]
  all_goals rfl
theorem pay_81 (K : Blk) : k0_pay81 (F := Ideal) (up4 (φ := .f32) fun r g _ l => K.raw r g l) (up4 (φ := .f32) fun r g _ _ => K.bias r g) (up4 (φ := .f32) fun r g _ _ => K.al r g) (iota .tc S1x128x128 32 [1] Facts₀.iota_S1x128x128_d1_w32) = (up2 (φ := .f32) fun g l => K.adt 0 g l) := by
  simp -index only [k0_pay81, pay_74, pay_79, ofBits_zero, shapeCast_self, mcast_1x128x128_8x128x128, bcast_8x1x128_8x128x128, broadcast_up3, select_up3, select_low3, sum_8x128x128_2]
  simp only [decide_eq_true_eq, Finset.sum_ite_eq, Finset.mem_univ, if_true]
  all_goals rfl
theorem pay_82 (K : Blk) : k0_pay82 (F := Ideal) (bm3 fun _ l s => decide (s ≤ l)) (up3 (φ := .f32) fun g _ l => K.adt 0 g l) = (up3 (φ := .f32) fun g l _ => K.acs 0 g l) := by
  simp -index only [k0_pay82, ofBits_zero, shapeCast_self, mcast_1x128x128_8x128x128, bcast_8x1x128_8x128x128, broadcast_up3, select_up3, select_low3, sum_8x128x128_2, cast_8x128_8x128x1]
  simp only [decide_eq_true_eq, Finset.sum_ite_eq, Finset.mem_univ, if_true]
  all_goals rfl
theorem pay_83 (K : Blk) : k0_pay83 (F := Ideal) (up3 (φ := .f32) fun g _ l => K.adt 0 g l) = (up3 (φ := .f32) fun g _ _ => K.last 0 g) := by
  simp -index only [k0_pay83, sum_8x1x128_2, cast_8x1_8x1x1]
  all_goals rfl
theorem pay_84 (K : Blk) : k0_pay84 (F := Ideal) (bm3 fun _ l s => decide (s ≤ l)) (bm3 fun _ l s => decide (l ≤ s)) (up3 (φ := .f32) fun g _ l => K.adt 0 g l) (up2 (φ := .f32) fun g l => K.adt 0 g l) = (up3 (φ := .f32) fun g l s => K.L 0 g l s) := by
  simp -index only [k0_pay84, pay_82, cast_8x128_8x128x1, ofBits_zero, shapeCast_self, mcast_1x128x128_8x128x128, bcast_8x128x1_8x128x128, broadcast_up3, select_up3, select_low3, sum_8x128x128_1, cast_8x128_8x1x128, bcast_8x1x128_8x128x128, subf_up3, fnamed_mask, exp_up3, exp_low3]
  simp only [decide_eq_true_eq, Finset.sum_ite_eq, Finset.mem_univ, if_true]
  all_goals rfl
theorem pay_85 (K : Blk) : k0_pay85 (F := Ideal) (bm3 fun _ l s => decide (s ≤ l)) (up3 (φ := .f32) fun g _ l => K.adt 0 g l) = (up3 (φ := .f32) fun g l _ => K.ecs 0 g l) := by
  simp -index only [k0_pay85, pay_82, exp_up3, exp_low3]
  all_goals rfl
theorem pay_86 (K : Blk) : k0_pay86 (F := Ideal) (bm3 fun _ l s => decide (s ≤ l)) (up3 (φ := .f32) fun g _ l => K.adt 0 g l) = (up3 (φ := .f32) fun g l _ => K.dst 0 g l) := by
  simp -index only [k0_pay86, pay_82, pay_83, bcast_8x1x1_8x128x1, subf_up3, exp_up3, exp_low3]
  all_goals rfl
theorem pay_87 (K : Blk) : k0_pay87 (F := Ideal) (up3 (φ := .f32) fun g _ l => K.adt 0 g l) = (up3 (φ := .f32) fun g _ _ => K.edl 0 g) := by
  simp -index only [k0_pay87, pay_83, exp_up3, exp_low3]
  all_goals rfl
theorem pay_88 (K : Blk) : k0_pay88 (F := Ideal) (up4 (φ := .f32) fun r g _ l => K.raw r g l) (up4 (φ := .f32) fun r g _ _ => K.bias r g) = (up3 (φ := .f32) fun g _ l => K.dt 1 g l) := by
  simp -index only [k0_pay88, slice_1_128, cast_1x8x1x128_8x1x128, slice_1_1, cast_1x8x1x1_8x1x1, bcast_8x1x1_8x1x128, addf_up3, ofBits_zero, broadcast_up3, maximumf_up3, absf_up3, subf_up3, exp_up3, exp_low3, ofBits_one, log_up3]
  all_goals rfl
theorem pay_89 (K : Blk) : k0_pay89 (F := Ideal) (up4 (φ := .f32) fun r g _ _ => K.al r g) = (up3 (φ := .f32) fun g _ _ => Real.exp (K.al 1 g)) := by
  simp -index only [k0_pay89, slice_1_1, cast_1x8x1x1_8x1x1, exp_up3, exp_low3]
  all_goals rfl
theorem pay_90 (K : Blk) : k0_pay90 (F := Ideal) (up3 (φ := .f32) fun g _ l => K.dt 1 g l) (up3 (φ := .f32) fun g _ _ => Real.exp (K.al 1 g)) = (up3 (φ := .f32) fun g _ l => K.adt 1 g l) := by
  simp -index only [k0_pay90, ofBits_zero, broadcast_up3, subf_up3, bcast_8x1x1_8x1x128, mulf_up3]
  all_goals rfl
theorem pay_91 (K : Blk) : k0_pay91 (F := Ideal) (bm3 fun _ l s => decide (l = s)) (up3 (φ := .f32) fun g _ l => K.dt 1 g l) = (up3 (φ := .f32) fun g l _ => K.dt 1 g l) := by
  simp -index only [k0_pay91, ofBits_zero, shapeCast_self, mcast_1x128x128_8x128x128, bcast_8x1x128_8x128x128, broadcast_up3, select_up3, select_low3, sum_8x128x128_2, cast_8x128_8x128x1]
  simp only [decide_eq_true_eq, Finset.sum_ite_eq, Finset.mem_univ, if_true]
  all_goals rfl
theorem pay_92 (K : Blk) : k0_pay92 (F := Ideal) (bm3 fun _ l s => decide (s ≤ l)) (up3 (φ := .f32) fun g _ l => K.dt 1 g l) (up3 (φ := .f32) fun g _ _ => Real.exp (K.al 1 g)) = (up3 (φ := .f32) fun g l _ => K.acs 1 g l) := by
  simp -index only [k0_pay92, pay_90, ofBits_zero, shapeCast_self, mcast_1x128x128_8x128x128, bcast_8x1x128_8x128x128, broadcast_up3, select_up3, select_low3, sum_8x128x128_2, cast_8x128_8x128x1]
  simp only [decide_eq_true_eq, Finset.sum_ite_eq, Finset.mem_univ, if_true]
  all_goals rfl
theorem pay_93 (K : Blk) : k0_pay93 (F := Ideal) (up3 (φ := .f32) fun g _ l => K.dt 1 g l) (up3 (φ := .f32) fun g _ _ => Real.exp (K.al 1 g)) = (up3 (φ := .f32) fun g _ _ => K.last 1 g) := by
  simp -index only [k0_pay93, pay_90, sum_8x1x128_2, cast_8x1_8x1x1]
  all_goals rfl
theorem pay_94 (K : Blk) : k0_pay94 (F := Ideal) (bm3 fun _ l s => decide (s ≤ l)) (bm3 fun _ l s => decide (l = s)) (bm3 fun _ l s => decide (l ≤ s)) (up3 (φ := .f32) fun g _ l => K.dt 1 g l) (up3 (φ := .f32) fun g _ _ => Real.exp (K.al 1 g)) = (up3 (φ := .f32) fun g l s => K.L 1 g l s) := by
  simp -index only [k0_pay94, pay_90, pay_92, ofBits_zero, shapeCast_self, mcast_1x128x128_8x128x128, bcast_8x1x128_8x128x128, broadcast_up3, select_up3, select_low3, sum_8x128x128_2, cast_8x128_8x128x1, bcast_8x128x1_8x128x128, sum_8x128x128_1, cast_8x128_8x1x128, subf_up3, fnamed_mask, exp_up3, exp_low3]
  simp only [decide_eq_true_eq, Finset.sum_ite_eq, Finset.mem_univ, if_true]
  all_goals rfl
theorem pay_95 (K : Blk) : k0_pay95 (F := Ideal) (bm3 fun _ l s => decide (s ≤ l)) (up3 (φ := .f32) fun g _ l => K.dt 1 g l) (up3 (φ := .f32) fun g _ _ => Real.exp (K.al 1 g)) = (up3 (φ := .f32) fun g l _ => K.ecs 1 g l) := by
  simp -index only [k0_pay95, pay_92, exp_up3, exp_low3]
  all_goals rfl
theorem pay_96 (K : Blk) : k0_pay96 (F := Ideal) (bm3 fun _ l s => decide (s ≤ l)) (up3 (φ := .f32) fun g _ l => K.dt 1 g l) (up3 (φ := .f32) fun g _ _ => Real.exp (K.al 1 g)) = (up3 (φ := .f32) fun g l _ => K.last 1 g - K.acs 1 g l) := by
  simp -index only [k0_pay96, pay_92, pay_93, bcast_8x1x1_8x128x1, subf_up3]
  all_goals rfl
theorem pay_97 (K : Blk) : k0_pay97 (F := Ideal) (up3 (φ := .f32) fun g l _ => K.last 1 g - K.acs 1 g l) = (up3 (φ := .f32) fun g l _ => K.dst 1 g l) := by
  simp -index only [k0_pay97, exp_up3, exp_low3]
  all_goals rfl
theorem pay_98 (K : Blk) : k0_pay98 (F := Ideal) (up3 (φ := .f32) fun g _ _ => K.last 1 g) = (up3 (φ := .f32) fun g _ _ => K.edl 1 g) := by
  simp -index only [k0_pay98, exp_up3, exp_low3]
  all_goals rfl
theorem pay_99 (K : Blk) : k0_pay99 (F := Ideal) (up4 (φ := .f32) fun r g _ l => K.raw r g l) (up4 (φ := .f32) fun r g _ _ => K.bias r g) = (up3 (φ := .f32) fun g _ l => K.dt 2 g l) := by
  simp -index only [k0_pay99, slice_2_128, cast_1x8x1x128_8x1x128, slice_2_1, cast_1x8x1x1_8x1x1, bcast_8x1x1_8x1x128, addf_up3, ofBits_zero, broadcast_up3, maximumf_up3, absf_up3, subf_up3, exp_up3, exp_low3, ofBits_one, log_up3]
  all_goals rfl
theorem pay_100 (K : Blk) : k0_pay100 (F := Ideal) (up4 (φ := .f32) fun r g _ l => K.raw r g l) (up4 (φ := .f32) fun r g _ _ => K.bias r g) (up4 (φ := .f32) fun r g _ _ => K.al r g) = (up3 (φ := .f32) fun g _ l => K.adt 2 g l) := by
  simp -index only [k0_pay100, pay_99, slice_2_1, cast_1x8x1x1_8x1x1, exp_up3, exp_low3, ofBits_zero, broadcast_up3, subf_up3, bcast_8x1x1_8x1x128, mulf_up3]
  all_goals rfl
theorem pay_101 (K : Blk) : k0_pay101 (F := Ideal) (up4 (φ := .f32) fun r g _ l => K.raw r g l) (up4 (φ := .f32) fun r g _ _ => K.bias r g) (bm3 fun _ l s => decide (l = s)) = (up3 (φ := .f32) fun g l _ => K.dt 2 g l) := by
  simp -index only [k0_pay101, pay_99, ofBits_zero, shapeCast_self, mcast_1x128x128_8x128x128, bcast_8x1x128_8x128x128, broadcast_up3, select_up3, select_low3, sum_8x128x128_2, cast_8x128_8x128x1]
  simp only [decide_eq_true_eq, Finset.sum_ite_eq, Finset.mem_univ, if_true]
  all_goals rfl
theorem pay_102 (K : Blk) : k0_pay102 (F := Ideal) (up4 (φ := .f32) fun r g _ l => K.raw r g l) (up4 (φ := .f32) fun r g _ _ => K.bias r g) (up4 (φ := .f32) fun r g _ _ => K.al r g) (bm3 fun _ l s => decide (l = s)) = (up3 (φ := .f32) fun g l _ => K.adt 2 g l) := by
  simp -index only [k0_pay102, pay_100, ofBits_zero, shapeCast_self, mcast_1x128x128_8x128x128, bcast_8x1x128_8x128x128, broadcast_up3, select_up3, select_low3, sum_8x128x128_2, cast_8x128_8x128x1]
  simp only [decide_eq_true_eq, Finset.sum_ite_eq, Finset.mem_univ, if_true]
  all_goals rfl
theorem pay_103 (K : Blk) : k0_pay103 (F := Ideal) (up4 (φ := .f32) fun r g _ l => K.raw r g l) (up4 (φ := .f32) fun r g _ _ => K.bias r g) (up4 (φ := .f32) fun r g _ _ => K.al r g) (bm3 fun _ l s => decide (s ≤ l)) = (up3 (φ := .f32) fun g l _ => K.acs 2 g l) := by
  simp -index only [k0_pay103, pay_100, ofBits_zero, shapeCast_self, mcast_1x128x128_8x128x128, bcast_8x1x128_8x128x128, broadcast_up3, select_up3, select_low3, sum_8x128x128_2, cast_8x128_8x128x1]
  simp only [decide_eq_true_eq, Finset.sum_ite_eq, Finset.mem_univ, if_true]
  all_goals rfl
theorem pay_104 (K : Blk) : k0_pay104 (F := Ideal) (up3 (φ := .f32) fun g _ l => K.adt 2 g l) = (up3 (φ := .f32) fun g _ _ => K.last 2 g) := by
  simp -index only [k0_pay104, sum_8x1x128_2, cast_8x1_8x1x1]
  all_goals rfl
theorem pay_105 (K : Blk) : k0_pay105 (F := Ideal) (bm3 fun _ l s => decide (s ≤ l)) (bm3 fun _ l s => decide (l ≤ s)) (up3 (φ := .f32) fun g l _ => K.adt 2 g l) (up3 (φ := .f32) fun g l _ => K.acs 2 g l) ((0 : ℝ) : EReal) = (up3 (φ := .f32) fun g l s => K.L 2 g l s) := by
  simp -index only [k0_pay105, shapeCast_self, mcast_1x128x128_8x128x128, bcast_8x128x1_8x128x128, broadcast_up3, select_up3, select_low3, sum_8x128x128_1, cast_8x128_8x1x128, bcast_8x1x128_8x128x128, subf_up3, fnamed_mask, exp_up3, exp_low3]
  simp only [decide_eq_true_eq, Finset.sum_ite_eq, Finset.mem_univ, if_true]
  all_goals rfl
theorem pay_106 (K : Blk) : k0_pay106 (F := Ideal) (up3 (φ := .f32) fun g l _ => K.acs 2 g l) = (up3 (φ := .f32) fun g l _ => K.ecs 2 g l) := by
  simp -index only [k0_pay106, exp_up3, exp_low3]
  all_goals rfl
theorem pay_107 (K : Blk) : k0_pay107 (F := Ideal) (up3 (φ := .f32) fun g _ l => K.adt 2 g l) (up3 (φ := .f32) fun g l _ => K.acs 2 g l) = (up3 (φ := .f32) fun g l _ => K.dst 2 g l) := by
  simp -index only [k0_pay107, pay_104, bcast_8x1x1_8x128x1, subf_up3, exp_up3, exp_low3]
  all_goals rfl
theorem pay_108 (K : Blk) : k0_pay108 (F := Ideal) (up3 (φ := .f32) fun g _ l => K.adt 2 g l) = (up3 (φ := .f32) fun g _ _ => K.edl 2 g) := by
  simp -index only [k0_pay108, pay_104, exp_up3, exp_low3]
  all_goals rfl
theorem pay_109 (K : Blk) : k0_pay109 (F := Ideal) (up4 (φ := .f32) fun r g _ l => K.raw r g l) (up4 (φ := .f32) fun r g _ _ => K.bias r g) = (up3 (φ := .f32) fun g _ l => K.dt 3 g l) := by
  simp -index only [k0_pay109, slice_3_128, cast_1x8x1x128_8x1x128, slice_3_1, cast_1x8x1x1_8x1x1, bcast_8x1x1_8x1x128, addf_up3, ofBits_zero, broadcast_up3, maximumf_up3, absf_up3, subf_up3, exp_up3, exp_low3, ofBits_one, log_up3]
  all_goals rfl
theorem pay_110 (K : Blk) : k0_pay110 (F := Ideal) (up4 (φ := .f32) fun r g _ l => K.raw r g l) (up4 (φ := .f32) fun r g _ _ => K.bias r g) (up4 (φ := .f32) fun r g _ _ => K.al r g) = (up3 (φ := .f32) fun g _ l => K.adt 3 g l) := by
  simp -index only [k0_pay110, pay_109, slice_3_1, cast_1x8x1x1_8x1x1, exp_up3, exp_low3, ofBits_zero, broadcast_up3, subf_up3, bcast_8x1x1_8x1x128, mulf_up3]
  all_goals rfl
theorem pay_111 (K : Blk) : k0_pay111 (F := Ideal) (up4 (φ := .f32) fun r g _ l => K.raw r g l) (up4 (φ := .f32) fun r g _ _ => K.bias r g) (bm3 fun _ l s => decide (l = s)) = (up3 (φ := .f32) fun g l s => if l = s then K.dt 3 g s else 0) := by
  simp -index only [k0_pay111, pay_109, ofBits_zero, shapeCast_self, mcast_1x128x128_8x128x128, bcast_8x1x128_8x128x128, broadcast_up3, select_up3, select_low3]
  simp only [decide_eq_true_eq, Finset.sum_ite_eq, Finset.mem_univ, if_true]
  all_goals rfl
theorem pay_112 (K : Blk) : k0_pay112 (F := Ideal) (bm3 fun _ l s => decide (s ≤ l)) (up3 (φ := .f32) fun g _ l => K.adt 3 g l) = (up3 (φ := .f32) fun g l _ => K.acs 3 g l) := by
  simp -index only [k0_pay112, ofBits_zero, shapeCast_self, mcast_1x128x128_8x128x128, bcast_8x1x128_8x128x128, broadcast_up3, select_up3, select_low3, sum_8x128x128_2, cast_8x128_8x128x1]
  simp only [decide_eq_true_eq, Finset.sum_ite_eq, Finset.mem_univ, if_true]
  all_goals rfl
theorem pay_113 (K : Blk) : k0_pay113 (F := Ideal) (up3 (φ := .f32) fun g _ l => K.adt 3 g l) = (up3 (φ := .f32) fun g _ _ => K.last 3 g) := by
  simp -index only [k0_pay113, sum_8x1x128_2, cast_8x1_8x1x1]
  all_goals rfl
theorem pay_114 (K : Blk) : k0_pay114 (F := Ideal) (bm3 fun _ l s => decide (s ≤ l)) (bm3 fun _ l s => decide (l = s)) (bm3 fun _ l s => decide (l ≤ s)) (up3 (φ := .f32) fun g _ l => K.adt 3 g l) = (up3 (φ := .f32) fun g l s => K.L 3 g l s) := by
  simp -index only [k0_pay114, pay_112, ofBits_zero, shapeCast_self, mcast_1x128x128_8x128x128, bcast_8x1x128_8x128x128, broadcast_up3, select_up3, select_low3, sum_8x128x128_2, cast_8x128_8x128x1, bcast_8x128x1_8x128x128, sum_8x128x128_1, cast_8x128_8x1x128, subf_up3, fnamed_mask, exp_up3, exp_low3]
  simp only [decide_eq_true_eq, Finset.sum_ite_eq, Finset.mem_univ, if_true]
  all_goals rfl
theorem pay_115 (K : Blk) : k0_pay115 (F := Ideal) (bm3 fun _ l s => decide (s ≤ l)) (up3 (φ := .f32) fun g _ l => K.adt 3 g l) = (up3 (φ := .f32) fun g l _ => K.ecs 3 g l) := by
  simp -index only [k0_pay115, pay_112, exp_up3, exp_low3]
  all_goals rfl
theorem pay_116 (K : Blk) : k0_pay116 (F := Ideal) (bm3 fun _ l s => decide (s ≤ l)) (up3 (φ := .f32) fun g _ l => K.adt 3 g l) = (up3 (φ := .f32) fun g l _ => K.dst 3 g l) := by
  simp -index only [k0_pay116, pay_112, pay_113, bcast_8x1x1_8x128x1, subf_up3, exp_up3, exp_low3]
  all_goals rfl
theorem pay_117 (K : Blk) : k0_pay117 (F := Ideal) (up3 (φ := .f32) fun g _ l => K.adt 3 g l) = (up3 (φ := .f32) fun g _ _ => K.edl 3 g) := by
  simp -index only [k0_pay117, pay_113, exp_up3, exp_low3]
  all_goals rfl
theorem pay_118 (K : Blk) : k0_pay118 (F := Ideal) (iota .tc S1x1x256 32 [2] Facts₀.iota_S1x1x256_d2_w32) (up3 (φ := .f32) fun g l _ => K.dt 2 g l) (up3 (φ := .f32) fun g l s => if l = s then K.dt 3 g s else 0) = (up3 (φ := .f32) fun g l p => if p.val < 192 then K.dt 2 g l else K.dt 3 g l) := by
  simp -index only [k0_pay118, sum_8x128x128_2, cast_8x128_8x128x1, lanes_lt_192, shapeCast_self, mcast_1x1x256_8x128x256, bcast_8x128x1_8x128x256, select_up3, select_low3]
  simp only [decide_eq_true_eq, Finset.sum_ite_eq, Finset.mem_univ, if_true]
theorem pay_119 (K : Blk) : k0_pay119 (F := Ideal) (up3 (φ := .f32) fun g l p => K.x g l p) (iota .tc S1x1x256 32 [2] Facts₀.iota_S1x1x256_d2_w32) (up3 (φ := .f32) fun g l _ => K.dt 0 g l) (up3 (φ := .f32) fun g l _ => K.dt 1 g l) (up3 (φ := .f32) fun g l p => if p.val < 192 then K.dt 2 g l else K.dt 3 g l) = (up3 (φ := .f32) fun g l p => K.xd g l p) := by
  simp -index only [k0_pay119, lanes_lt_128, shapeCast_self, mcast_1x1x256_8x128x256, bcast_8x128x1_8x128x256, select_up3, select_low3, lanes_lt_64, mulf_up3]
  refine congrArg up3 (funext fun _ => funext fun i => funext fun j => ?_)
  rcases head_of j with ⟨a, h⟩ | ⟨a, b, h⟩ | ⟨a, b, h⟩ | ⟨a, h⟩ <;> simp only [decide_eq_true_eq, Blk.xd, h] <;> split_ifs <;> first | rfl | (exfalso; omega)
theorem pay_120 (K : Blk) : k0_pay120 (F := Ideal) (up3 (φ := .f32) fun g l p => K.x g l p) (iota .tc S1x1x256 32 [2] Facts₀.iota_S1x1x256_d2_w32) (up3 (φ := .f32) fun g l s => K.cb g l s) (up3 (φ := .f32) fun g l _ => K.dt 0 g l) (up3 (φ := .f32) fun g l s => K.L 0 g l s) (up3 (φ := .f32) fun g l _ => K.dt 1 g l) (up3 (φ := .f32) fun g l s => K.L 1 g l s) (up3 (φ := .f32) fun g l s => K.L 2 g l s) (up3 (φ := .f32) fun g l s => K.L 3 g l s) (up3 (φ := .f32) fun g l p => if p.val < 192 then K.dt 2 g l else K.dt 3 g l) = (up3 (φ := .f32) fun g l p => ∑ s, K.cb g l s * K.L (hd p) g l s * K.xd g s p) := by
  simp -index only [k0_pay120, pay_119, mulf_up3, truncf_up3, fdot_8x128x128_8x128x256_21, lanes_lt_192, shapeCast_self, mcast_1x1x256_8x128x256, select_up3, select_low3, lanes_lt_128, lanes_lt_64]
  refine congrArg up3 (funext fun _ => funext fun i => funext fun j => ?_)
  rcases head_of j with ⟨a, h⟩ | ⟨a, b, h⟩ | ⟨a, b, h⟩ | ⟨a, h⟩ <;> simp only [decide_eq_true_eq, h] <;> split_ifs <;> first | rfl | (exfalso; omega)
theorem pay_121 (K : Blk) : k0_pay121 (F := Ideal) (up3 (φ := .f32) fun g l p => K.x g l p) (iota .tc S1x1x256 32 [2] Facts₀.iota_S1x1x256_d2_w32) (up3 (φ := .f32) fun g l _ => K.dt 0 g l) (up3 (φ := .f32) fun g l _ => K.dt 1 g l) (up3 (φ := .f32) fun g l p => if p.val < 192 then K.dt 2 g l else K.dt 3 g l) = (up3 (φ := .bf16) fun g l p => K.xd g l p) := by
  simp -index only [k0_pay121, pay_119, truncf_up3]
  all_goals rfl
theorem pay_122 (K : Blk) : k0_pay122 (F := Ideal) (up3 (φ := .f32) fun g l n => K.b g l n) (up3 (φ := .f32) fun g l _ => K.dst 0 g l) = (up3 (φ := .bf16) fun g l n => K.b g l n * K.dst 0 g l) := by
  simp -index only [k0_pay122, bcast_8x128x1_8x128x128, mulf_up3, truncf_up3]
  all_goals rfl
theorem pay_123 (K : Blk) : k0_pay123 (F := Ideal) (up3 (φ := .f32) fun g l n => K.b g l n) (iota .tc S1x256x1 32 [1] Facts₀.iota_S1x256x1_d1_w32) (up3 (φ := .f32) fun g l _ => K.dst 1 g l) (up3 (φ := .f32) fun g l _ => K.dst 2 g l) (up3 (φ := .f32) fun g l _ => K.dst 3 g l) (up3 (φ := .f32) fun g l p => K.xd g l p) (up3 (φ := .bf16) fun g l p => K.xd g l p) (up3 (φ := .bf16) fun g l n => K.b g l n * K.dst 0 g l) (constant S8x256x128 .f32 0x00000000#32) = (up3 (φ := .f32) fun g p n => ∑ l, K.xd g l p * (K.b g l n * K.dst (hd p) g l)) := by
  simp -index only [k0_pay123, fdot_8x128x256_8x128x128_11, bcast_8x128x1_8x128x128, mulf_up3, truncf_up3, rows_lt_192, shapeCast_self, mcast_1x256x1_8x256x128, select_up3, select_low3, rows_lt_128, rows_lt_64]
  refine congrArg up3 (funext fun _ => funext fun i => funext fun j => ?_)
  rcases head_of i with ⟨a, h⟩ | ⟨a, b, h⟩ | ⟨a, b, h⟩ | ⟨a, h⟩ <;> simp only [decide_eq_true_eq, h] <;> split_ifs <;> first | rfl | (exfalso; omega)
theorem pay_124 (K : Blk) : k0_pay124 (F := Ideal) (iota .tc S1x1x256 32 [2] Facts₀.iota_S1x1x256_d2_w32) (up3 (φ := .f32) fun g l _ => K.ecs 1 g l) (up3 (φ := .f32) fun g l _ => K.ecs 2 g l) (up3 (φ := .f32) fun g l _ => K.ecs 3 g l) = (up3 (φ := .f32) fun g l p => if p.val < 128 then K.ecs 1 g l else if p.val < 192 then K.ecs 2 g l else K.ecs 3 g l) := by
  simp -index only [k0_pay124, lanes_lt_192, shapeCast_self, mcast_1x1x256_8x128x256, bcast_8x128x1_8x128x256, select_up3, select_low3, lanes_lt_128]
  simp only [decide_eq_true_eq]
theorem pay_125 : k0_pay125 (iota .tc S1x1x256 32 [2] Facts₀.iota_S1x1x256_d2_w32) = (bm3 fun _ _ p => decide (p.val < 64)) := by
  simp -index only [k0_pay125, lanes_lt_64, shapeCast_self, mcast_1x1x256_8x128x256]
  all_goals rfl
theorem pay_126 (K : Blk) : k0_pay126 (F := Ideal) (up3 (φ := .f32) fun g l p => K.x g l p) (up4 (φ := .f32) fun r g _ _ => K.D r g) (iota .tc S1x1x256 32 [2] Facts₀.iota_S1x1x256_d2_w32) (up3 (φ := .f32) fun g l p => K.cs g l p) (up3 (φ := .f32) fun g l _ => K.ecs 0 g l) (up3 (φ := .f32) fun g l p => ∑ s, K.cb g l s * K.L (hd p) g l s * K.xd g s p) (up3 (φ := .f32) fun g l p => if p.val < 128 then K.ecs 1 g l else if p.val < 192 then K.ecs 2 g l else K.ecs 3 g l) (bm3 fun _ _ p => decide (p.val < 64)) = (up3 (φ := .f32) fun g l p => K.y g l p) := by
  simp -index only [k0_pay126, shapeCast_self, bcast_8x128x1_8x128x256, select_up3, select_low3, mulf_up3, addf_up3, slice_0_1, cast_1x8x1x1_8x1x1, slice_1_1, slice_2_1, slice_3_1, lanes_lt_192, mcast_1x1x256_8x1x256, bcast_8x1x1_8x1x256, lanes_lt_128, lanes_lt_64, bcast_8x1x256_8x128x256]
  refine congrArg up3 (funext fun _ => funext fun i => funext fun j => ?_)
  rcases head_of j with ⟨a, h⟩ | ⟨a, b, h⟩ | ⟨a, b, h⟩ | ⟨a, h⟩ <;> simp only [decide_eq_true_eq, Blk.y, h] <;> split_ifs <;> first | rfl | (exfalso; omega)
theorem pay_127 (K : Blk) : k0_pay127 (F := Ideal) (iota .tc S1x256x1 32 [1] Facts₀.iota_S1x256x1_d1_w32) (up3 (φ := .f32) fun g _ _ => K.edl 1 g) (up3 (φ := .f32) fun g _ _ => K.edl 2 g) (up3 (φ := .f32) fun g _ _ => K.edl 3 g) = (up3 (φ := .f32) fun g p _ => if p.val < 128 then K.edl 1 g else if p.val < 192 then K.edl 2 g else K.edl 3 g) := by
  simp -index only [k0_pay127, rows_lt_192, shapeCast_self, mcast_1x256x1_8x256x1, bcast_8x1x1_8x256x1, select_up3, select_low3, rows_lt_128]
  simp only [decide_eq_true_eq]
end Cert.FwdPay

end
-- ==== Proof.FwdBody.lean ====
/- What one grid point of the forward scan leaves in its outputs and in the carried state, over the reals: a point
   runs two chunks, one after the other. -/
module

public import proofs.«01_k».proof.Proof.FwdPay1
public import proofs.«01_k».proof.Proof.FwdPay2
public import proofs.«01_k».proof.Proof.Gen.FwdIdeal.Frame
public import Idealize.ShloMosaic.Lib.Pipeline.Value
public import Idealize.ShloMosaic.Lib.Tactic

@[expose] public section

set_option maxRecDepth 16384

noncomputable section

namespace Cert.FwdBody

open Idealize.ShloMosaic Idealize.ShloMosaic.TcCoe Cert.FwdIdeal Cert.FwdIdeal.Gen Cert.Lift Cert.FwdPay

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The two halves of 256 steps. -/
def half {α : Type} (f f' : Fin 128 → α) (r : Fin 256) : α :=
  if h : r.val < 128 then f ⟨r.val, h⟩ else f' ⟨r.val - 128, by omega⟩
/-- Two rows of four heads. -/
def four {α : Type} (f f' : Fin 4 → α) (r : Fin 8) : α :=
  if h : r.val < 4 then f ⟨r.val, h⟩ else f' ⟨r.val - 4, by omega⟩

theorem half_lo {α : Type} (f f' : Fin 128 → α) (r : Fin 256) (l : Fin 128) (h : r.val = 0 + l.val) : half f f' r = f l := by
  have hl := l.isLt
  unfold half
  rw [dif_pos (by omega)]
  exact congrArg f (Fin.ext (by simp only []; omega))
theorem ld_half_lo {a c : ℕ} (f f' : Fin a → Fin 128 → Fin c → ℝ) (inb) :
    View.ld (S := ⟨3, ![a, 256, c]⟩) (Val := Elt Ideal) (e' := .f32) (up3 (φ := .f32) fun g r p => half (fun l => f g l p) (fun l => f' g l p) r)
      (Rect.unit (s := ⟨3, ![a, 256, c]⟩) ![0, 0, 0] ![a, 128, c] inb) = up3 (φ := .f32) fun g l p => f g l p := by
  funext j
  have e0 : (Rect.unit (s := ⟨3, ![a, 256, c]⟩) ![0, 0, 0] ![a, 128, c] inb).idx j 0 = j 0 := Fin.ext ((congrArg (0 + ·) (Nat.one_mul _)).trans (Nat.zero_add _))
  have e2 : (Rect.unit (s := ⟨3, ![a, 256, c]⟩) ![0, 0, 0] ![a, 128, c] inb).idx j 2 = j 2 := Fin.ext ((congrArg (0 + ·) (Nat.one_mul _)).trans (Nat.zero_add _))
  have e1 := half_lo (fun l => f (j 0) l (j 2)) (fun l => f' (j 0) l (j 2)) ((Rect.unit (s := ⟨3, ![a, 256, c]⟩) ![0, 0, 0] ![a, 128, c] inb).idx j 1) (j 1) (congrArg (0 + ·) (Nat.one_mul _))
  rw [← e0, ← e2] at e1
  refine congrArg (fun t : ℝ => (t : EReal)) (e1.trans ?_)
  simp only []
  exact (congrArg₂ (fun u v => f u (j 1) v) e0 e2)
theorem half_hi {α : Type} (f f' : Fin 128 → α) (r : Fin 256) (l : Fin 128) (h : r.val = 128 + l.val) : half f f' r = f' l := by
  have hl := l.isLt
  unfold half
  rw [dif_neg (by omega)]
  exact congrArg f' (Fin.ext (by simp only []; omega))
theorem ld_half_hi {a c : ℕ} (f f' : Fin a → Fin 128 → Fin c → ℝ) (inb) :
    View.ld (S := ⟨3, ![a, 256, c]⟩) (Val := Elt Ideal) (e' := .f32) (up3 (φ := .f32) fun g r p => half (fun l => f g l p) (fun l => f' g l p) r)
      (Rect.unit (s := ⟨3, ![a, 256, c]⟩) ![0, 128, 0] ![a, 128, c] inb) = up3 (φ := .f32) fun g l p => f' g l p := by
  funext j
  have e0 : (Rect.unit (s := ⟨3, ![a, 256, c]⟩) ![0, 128, 0] ![a, 128, c] inb).idx j 0 = j 0 := Fin.ext ((congrArg (0 + ·) (Nat.one_mul _)).trans (Nat.zero_add _))
  have e2 : (Rect.unit (s := ⟨3, ![a, 256, c]⟩) ![0, 128, 0] ![a, 128, c] inb).idx j 2 = j 2 := Fin.ext ((congrArg (0 + ·) (Nat.one_mul _)).trans (Nat.zero_add _))
  have e1 := half_hi (fun l => f (j 0) l (j 2)) (fun l => f' (j 0) l (j 2)) ((Rect.unit (s := ⟨3, ![a, 256, c]⟩) ![0, 128, 0] ![a, 128, c] inb).idx j 1) (j 1) (congrArg (128 + ·) (Nat.one_mul _))
  rw [← e0, ← e2] at e1
  refine congrArg (fun t : ℝ => (t : EReal)) (e1.trans ?_)
  simp only []
  exact (congrArg₂ (fun u v => f' u (j 1) v) e0 e2)
theorem four_lo {α : Type} (f f' : Fin 4 → α) (r : Fin 8) (l : Fin 4) (h : r.val = 0 + l.val) : four f f' r = f l := by
  have hl := l.isLt
  unfold four
  rw [dif_pos (by omega)]
  exact congrArg f (Fin.ext (by simp only []; omega))
theorem four_hi {α : Type} (f f' : Fin 4 → α) (r : Fin 8) (l : Fin 4) (h : r.val = 4 + l.val) : four f f' r = f' l := by
  have hl := l.isLt
  unfold four
  rw [dif_neg (by omega)]
  exact congrArg f' (Fin.ext (by simp only []; omega))
variable (K K' : Blk)

/-- A point's block of `x`. -/
def X : Vec Ideal S8x256x256 .f32 := up3 (φ := .f32) fun g r p => half (fun l => K.x g l p) (fun l => K'.x g l p) r
/-- A point's block of `b`. -/
def B : Vec Ideal S8x256x128 .f32 := up3 (φ := .f32) fun g r n => half (fun l => K.b g l n) (fun l => K'.b g l n) r
/-- A point's block of `c`. -/
def C : Vec Ideal S8x256x128 .f32 := up3 (φ := .f32) fun g r n => half (fun l => K.c g l n) (fun l => K'.c g l n) r
/-- A point's rows of raw step sizes. -/
def R : Vec Ideal S1x8x8x1x128 .f32 :=
  up5 (φ := .f32) fun _ j g _ l => four (fun r => K.raw r g l) (fun r => K'.raw r g l) j
/-- A point's block of the output. -/
def Y : Vec Ideal S8x256x256 .f32 := up3 (φ := .f32) fun g r p => half (fun l => K.y g l p) (fun l => K'.y g l p) r
/-- A point's two states. -/
def T (K : Blk) : Vec Ideal S2x8x256x128 .f32 := up4 (φ := .f32) fun j g p n => if j.val = 0 then K.S g p n else K.Sn g p n

theorem X_lo (inb) : View.ld (X K K') (Rect.unit (s := S8x256x256) ![0, 0, 0] S8x128x256.size inb) = up3 (φ := .f32) fun g l p => K.x g l p :=
  ld_half_lo (fun g l p => K.x g l p) (fun g l p => K'.x g l p) inb
theorem X_hi (inb) : View.ld (X K K') (Rect.unit (s := S8x256x256) ![0, 128, 0] S8x128x256.size inb) = up3 (φ := .f32) fun g l p => K'.x g l p :=
  ld_half_hi (fun g l p => K.x g l p) (fun g l p => K'.x g l p) inb
theorem B_lo (inb) : View.ld (B K K') (Rect.unit (s := S8x256x128) ![0, 0, 0] S8x128x128.size inb) = up3 (φ := .f32) fun g l p => K.b g l p :=
  ld_half_lo (fun g l p => K.b g l p) (fun g l p => K'.b g l p) inb
theorem B_hi (inb) : View.ld (B K K') (Rect.unit (s := S8x256x128) ![0, 128, 0] S8x128x128.size inb) = up3 (φ := .f32) fun g l p => K'.b g l p :=
  ld_half_hi (fun g l p => K.b g l p) (fun g l p => K'.b g l p) inb
theorem C_lo (inb) : View.ld (C K K') (Rect.unit (s := S8x256x128) ![0, 0, 0] S8x128x128.size inb) = up3 (φ := .f32) fun g l p => K.c g l p :=
  ld_half_lo (fun g l p => K.c g l p) (fun g l p => K'.c g l p) inb
theorem C_hi (inb) : View.ld (C K K') (Rect.unit (s := S8x256x128) ![0, 128, 0] S8x128x128.size inb) = up3 (φ := .f32) fun g l p => K'.c g l p :=
  ld_half_hi (fun g l p => K.c g l p) (fun g l p => K'.c g l p) inb
theorem Y_lo (inb) : View.ld (Y K K') (Rect.unit (s := S8x256x256) ![0, 0, 0] S8x128x256.size inb) = up3 (φ := .f32) fun g l p => K.y g l p :=
  ld_half_lo (fun g l p => K.y g l p) (fun g l p => K'.y g l p) inb
theorem Y_hi (inb) : View.ld (Y K K') (Rect.unit (s := S8x256x256) ![0, 128, 0] S8x128x256.size inb) = up3 (φ := .f32) fun g l p => K'.y g l p :=
  ld_half_hi (fun g l p => K.y g l p) (fun g l p => K'.y g l p) inb
theorem R_lo (inb) : View.ld (R K K') (Rect.unit (s := S1x8x8x1x128) ![0, 0, 0, 0, 0] S1x4x8x1x128.size inb) = up5 (φ := .f32) fun _ r g _ l => K.raw r g l := by
  funext j
  have e2 : (Rect.unit (s := S1x8x8x1x128) ![0, 0, 0, 0, 0] S1x4x8x1x128.size inb).idx j 2 = j 2 := Fin.ext ((congrArg (0 + ·) (Nat.one_mul _)).trans (Nat.zero_add _))
  have e4 : (Rect.unit (s := S1x8x8x1x128) ![0, 0, 0, 0, 0] S1x4x8x1x128.size inb).idx j 4 = j 4 := Fin.ext ((congrArg (0 + ·) (Nat.one_mul _)).trans (Nat.zero_add _))
  have e1 := four_lo (fun r => K.raw r (j 2) (j 4)) (fun r => K'.raw r (j 2) (j 4)) ((Rect.unit (s := S1x8x8x1x128) ![0, 0, 0, 0, 0] S1x4x8x1x128.size inb).idx j 1) (j 1) (congrArg (0 + ·) (Nat.one_mul _))
  rw [← e2, ← e4] at e1
  refine congrArg (fun t : ℝ => (t : EReal)) (e1.trans ?_)
  exact (congrArg₂ (fun u v => K.raw (j 1) u v) e2 e4)
theorem R_hi (inb) : View.ld (R K K') (Rect.unit (s := S1x8x8x1x128) ![0, 4, 0, 0, 0] S1x4x8x1x128.size inb) = up5 (φ := .f32) fun _ r g _ l => K'.raw r g l := by
  funext j
  have e2 : (Rect.unit (s := S1x8x8x1x128) ![0, 4, 0, 0, 0] S1x4x8x1x128.size inb).idx j 2 = j 2 := Fin.ext ((congrArg (0 + ·) (Nat.one_mul _)).trans (Nat.zero_add _))
  have e4 : (Rect.unit (s := S1x8x8x1x128) ![0, 4, 0, 0, 0] S1x4x8x1x128.size inb).idx j 4 = j 4 := Fin.ext ((congrArg (0 + ·) (Nat.one_mul _)).trans (Nat.zero_add _))
  have e1 := four_hi (fun r => K.raw r (j 2) (j 4)) (fun r => K'.raw r (j 2) (j 4)) ((Rect.unit (s := S1x8x8x1x128) ![0, 4, 0, 0, 0] S1x4x8x1x128.size inb).idx j 1) (j 1) (congrArg (4 + ·) (Nat.one_mul _))
  rw [← e2, ← e4] at e1
  refine congrArg (fun t : ℝ => (t : EReal)) (e1.trans ?_)
  exact (congrArg₂ (fun u v => K'.raw (j 1) u v) e2 e4)
theorem T_lo (inb) : View.ld (T K) (Rect.unit (s := S2x8x256x128) ![0, 0, 0, 0] S1x8x256x128.size inb) = up4 (φ := .f32) fun _ g p n => K.S g p n := by
  funext j
  have h0 : (j 0).val = 0 := Nat.lt_one_iff.1 (j 0).isLt
  have e0 : ((Rect.unit (s := S2x8x256x128) ![0, 0, 0, 0] S1x8x256x128.size inb).idx j 0).val = 0 := (congrArg (0 + ·) (Nat.one_mul _)).trans (by rw [h0])
  have e1 : (Rect.unit (s := S2x8x256x128) ![0, 0, 0, 0] S1x8x256x128.size inb).idx j 1 = j 1 := Fin.ext ((congrArg (0 + ·) (Nat.one_mul _)).trans (Nat.zero_add _))
  have e2 : (Rect.unit (s := S2x8x256x128) ![0, 0, 0, 0] S1x8x256x128.size inb).idx j 2 = j 2 := Fin.ext ((congrArg (0 + ·) (Nat.one_mul _)).trans (Nat.zero_add _))
  have e3 : (Rect.unit (s := S2x8x256x128) ![0, 0, 0, 0] S1x8x256x128.size inb).idx j 3 = j 3 := Fin.ext ((congrArg (0 + ·) (Nat.one_mul _)).trans (Nat.zero_add _))
  have h : (if ((Rect.unit (s := S2x8x256x128) ![0, 0, 0, 0] S1x8x256x128.size inb).idx j 0).val = 0 then K.S (j 1) (j 2) (j 3) else K.Sn (j 1) (j 2) (j 3)) = K.S (j 1) (j 2) (j 3) := by
    rw [e0]; exact if_pos rfl
  rw [← e1, ← e2, ← e3] at h
  refine congrArg (fun t : ℝ => (t : EReal)) (h.trans ?_)
  rw [e1, e2, e3]
theorem T_hi (inb) : View.ld (T K) (Rect.unit (s := S2x8x256x128) ![1, 0, 0, 0] S1x8x256x128.size inb) = up4 (φ := .f32) fun _ g p n => K.Sn g p n := by
  funext j
  have h0 : (j 0).val = 0 := Nat.lt_one_iff.1 (j 0).isLt
  have e0 : ((Rect.unit (s := S2x8x256x128) ![1, 0, 0, 0] S1x8x256x128.size inb).idx j 0).val = 1 := (congrArg (1 + ·) (Nat.one_mul _)).trans (by rw [h0])
  have e1 : (Rect.unit (s := S2x8x256x128) ![1, 0, 0, 0] S1x8x256x128.size inb).idx j 1 = j 1 := Fin.ext ((congrArg (0 + ·) (Nat.one_mul _)).trans (Nat.zero_add _))
  have e2 : (Rect.unit (s := S2x8x256x128) ![1, 0, 0, 0] S1x8x256x128.size inb).idx j 2 = j 2 := Fin.ext ((congrArg (0 + ·) (Nat.one_mul _)).trans (Nat.zero_add _))
  have e3 : (Rect.unit (s := S2x8x256x128) ![1, 0, 0, 0] S1x8x256x128.size inb).idx j 3 = j 3 := Fin.ext ((congrArg (0 + ·) (Nat.one_mul _)).trans (Nat.zero_add _))
  have h : (if ((Rect.unit (s := S2x8x256x128) ![1, 0, 0, 0] S1x8x256x128.size inb).idx j 0).val = 0 then K.S (j 1) (j 2) (j 3) else K.Sn (j 1) (j 2) (j 3)) = K.Sn (j 1) (j 2) (j 3) := by
    rw [e0]; exact if_neg one_ne_zero
  rw [← e1, ← e2, ← e3] at h
  refine congrArg (fun t : ℝ => (t : EReal)) (h.trans ?_)
  rw [e1, e2, e3]

variable (c : Dev nD) (i : grid0.Coords) (arg2 : Memref sig .tc .vmem S8x256x256 .f32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S1x8x8x1x128 .f32) (harg5 : arg5.IsWhole) (arg6 : Memref sig .tc .vmem S4x8x1x1 .f32) (harg6 : arg6.IsWhole) (arg7 : Memref sig .tc .vmem S4x8x1x1 .f32) (harg7 : arg7.IsWhole) (arg8 : Memref sig .tc .vmem S4x8x1x1 .f32) (harg8 : arg8.IsWhole) (arg9 : Memref sig .tc .vmem S8x256x256 .f32) (harg9 : arg9.IsWhole) (arg10 : Memref sig .tc .vmem S2x8x256x128 .f32) (harg10 : arg10.IsWhole) (arg11 : Memref sig .tc .vmem S8x256x128 .f32) (harg11 : arg11.IsWhole)
  (hS : ∀ g p n, K.Sn g p n = K'.S g p n) (hb : ∀ r g, K.bias r g = K'.bias r g) (ha : ∀ r g, K.al r g = K'.al r g) (hD : ∀ r g, K.D r g = K'.D r g)
include hS hb ha hD
theorem out0_A_7_eq (hc : cond0_0 i) (hK : ∀ g p n, K.S g p n = 0) (x0 : Vec Ideal S8x256x256 .f32) (x1 : Vec Ideal S8x256x128 .f32) (x2 : Vec Ideal S8x256x128 .f32) (x3 : Vec Ideal S1x8x8x1x128 .f32) (x4 : Vec Ideal S4x8x1x1 .f32) (x5 : Vec Ideal S4x8x1x1 .f32) (x6 : Vec Ideal S4x8x1x1 .f32)
    (hx0 : x0 = X K K') (hx1 : x1 = B K K') (hx2 : x2 = C K K') (hx3 : x3 = R K K') (hx4 : x4 = up4 (φ := .f32) fun r g _ _ => K.bias r g) (hx5 : x5 = up4 (φ := .f32) fun r g _ _ => K.al r g) (hx6 : x6 = up4 (φ := .f32) fun r g _ _ => K.D r g) :
    out0_A_7 (F := Ideal) c i arg2 harg2 arg3 harg3 arg4 harg4 arg5 harg5 arg6 harg6 arg7 harg7 arg8 harg8 arg9 harg9 arg10 harg10 arg11 harg11 hc x0 x1 x2 x3 x4 x5 x6 = Y K K' := by
  unfold out0_A_7
  rw [View.read_writes_eq_canon _ _ _ (cover0_A_7 (F := Ideal) c i arg2 harg2 arg3 harg3 arg4 harg4 arg5 harg5 arg6 harg6 arg7 harg7 arg8 harg8 arg9 harg9 arg10 harg10 arg11 harg11 hc x0 x1 x2 x3 x4 x5 x6)]
  funext y
  refine View.canon_apply_of_pieces _ _ ?_ y (cover0_A_7 (F := Ideal) c i arg2 harg2 arg3 harg3 arg4 harg4 arg5 harg5 arg6 harg6 arg7 harg7 arg8 harg8 arg9 harg9 arg10 harg10 arg11 harg11 hc x0 x1 x2 x3 x4 x5 x6 y)
  unfold kernelRun0_A
  dsimp only
  sl_unfold_words
  simp only [View.readAt_eq_ld, View.readCov_unit_zero (S := S8x256x128) _ hz3, harg2.read_unread, harg3.read_unread, harg4.read_unread, harg5.read_unread, harg6.read_unread, harg7.read_unread, harg8.read_unread, harg9.read_unread, harg10.read_unread, harg11.read_unread, View.ld_unit_zero (S := S4x8x1x1) hz4, View.ld_unit_zero (S := S8x256x128) hz3, ofBits_zero]
  subst hx0 hx1 hx2 hx3 hx4 hx5 hx6
  have hs : (up3 (φ := .f32) fun g p n => K.Sn g p n) = up3 (φ := .f32) fun g p n => K'.S g p n := by simp only [hS]
  have h70 : k0_pay70 (F := Ideal) (up4 (φ := .f32) fun r g _ _ => K.bias r g) = up4 (φ := .f32) fun r g _ _ => K'.bias r g := by rw [pay_70]; simp only [hb]
  have h71 : k0_pay71 (F := Ideal) (up4 (φ := .f32) fun r g _ _ => K.al r g) = up4 (φ := .f32) fun r g _ _ => K'.al r g := by rw [pay_71]; simp only [ha]
  have h72 : k0_pay72 (F := Ideal) (up4 (φ := .f32) fun r g _ _ => K.D r g) = up4 (φ := .f32) fun r g _ _ => K'.D r g := by rw [pay_72]; simp only [hD]
  have h2 : k0_pay2 (F := Ideal) = up3 (φ := .f32) fun g p n => K.S g p n := by rw [pay_2]; simp only [hK]
  refine List.forall_mem_cons.2 ⟨fun x => ?_, List.forall_mem_cons.2 ⟨fun x => ?_, fun _ h => absurd h List.not_mem_nil⟩⟩
  all_goals dsimp only
  · refine (congrFun (?_ : _ = up3 (φ := .f32) fun g l p => K'.y g l p) x).trans ?_
    on_goal 2 => exact (congrFun (Y_hi K K' _) x).symm
    simp -index only [X_lo, X_hi, B_lo, B_hi, C_lo, C_hi, R_lo, R_hi, pay_3, pay_4, pay_5, pay_6, pay_7, pay_8, pay_9, pay_10, pay_11, pay_12, pay_13, pay_14, pay_15, pay_16, pay_17, pay_18, pay_19, pay_20, pay_21, pay_22, pay_23, pay_24, pay_25, pay_26, pay_27, pay_28, pay_29, pay_30, pay_31, pay_32, pay_33, pay_34, pay_35, pay_36, pay_37, pay_38, pay_39, pay_40, pay_41, pay_42, pay_43, pay_44, pay_45, pay_46, pay_47, pay_48, pay_49, pay_50, pay_51, pay_52, pay_53, pay_54, pay_55, pay_56, pay_57, pay_58, pay_59, pay_60, pay_61, pay_62, pay_63, pay_64, pay_65, pay_66, pay_67, hs, h70, h71, h72, pay_1, pay_69, pay_73, pay_74, pay_75, pay_76, pay_77, pay_78, pay_79, pay_80, pay_81, pay_82, pay_83, pay_84, pay_85, pay_86, pay_87, pay_88, pay_89, pay_90, pay_91, pay_92, pay_93, pay_94, pay_95, pay_96, pay_97, pay_98, pay_99, pay_100, pay_101, pay_102, pay_103, pay_104, pay_105, pay_106, pay_107, pay_108, pay_109, pay_110, pay_111, pay_112, pay_113, pay_114, pay_115, pay_116, pay_117, pay_118, pay_119, pay_120, pay_121, pay_122, pay_123, pay_124, pay_125, pay_126, pay_127, h2]
  · refine (congrFun (?_ : _ = up3 (φ := .f32) fun g l p => K.y g l p) x).trans ?_
    on_goal 2 => exact (congrFun (Y_lo K K' _) x).symm
    simp -index only [X_lo, X_hi, B_lo, B_hi, C_lo, C_hi, R_lo, R_hi, pay_3, pay_4, pay_5, pay_6, pay_7, pay_8, pay_9, pay_10, pay_11, pay_12, pay_13, pay_14, pay_15, pay_16, pay_17, pay_18, pay_19, pay_20, pay_21, pay_22, pay_23, pay_24, pay_25, pay_26, pay_27, pay_28, pay_29, pay_30, pay_31, pay_32, pay_33, pay_34, pay_35, pay_36, pay_37, pay_38, pay_39, pay_40, pay_41, pay_42, pay_43, pay_44, pay_45, pay_46, pay_47, pay_48, pay_49, pay_50, pay_51, pay_52, pay_53, pay_54, pay_55, pay_56, pay_57, pay_58, pay_59, pay_60, pay_61, pay_62, pay_63, pay_64, pay_65, pay_66, pay_67, pay_68, h2]
theorem out0_A_8_eq (hc : cond0_0 i) (hK : ∀ g p n, K.S g p n = 0) (x0 : Vec Ideal S8x256x256 .f32) (x1 : Vec Ideal S8x256x128 .f32) (x2 : Vec Ideal S8x256x128 .f32) (x3 : Vec Ideal S1x8x8x1x128 .f32) (x4 : Vec Ideal S4x8x1x1 .f32) (x5 : Vec Ideal S4x8x1x1 .f32) (x6 : Vec Ideal S4x8x1x1 .f32)
    (hx0 : x0 = X K K') (hx1 : x1 = B K K') (hx2 : x2 = C K K') (hx3 : x3 = R K K') (hx4 : x4 = up4 (φ := .f32) fun r g _ _ => K.bias r g) (hx5 : x5 = up4 (φ := .f32) fun r g _ _ => K.al r g) (hx6 : x6 = up4 (φ := .f32) fun r g _ _ => K.D r g) :
    out0_A_8 (F := Ideal) c i arg2 harg2 arg3 harg3 arg4 harg4 arg5 harg5 arg6 harg6 arg7 harg7 arg8 harg8 arg9 harg9 arg10 harg10 arg11 harg11 hc x0 x1 x2 x3 x4 x5 x6 = T K := by
  unfold out0_A_8
  rw [View.read_writes_eq_canon _ _ _ (cover0_A_8 (F := Ideal) c i arg2 harg2 arg3 harg3 arg4 harg4 arg5 harg5 arg6 harg6 arg7 harg7 arg8 harg8 arg9 harg9 arg10 harg10 arg11 harg11 hc x0 x1 x2 x3 x4 x5 x6)]
  funext y
  refine View.canon_apply_of_pieces _ _ ?_ y (cover0_A_8 (F := Ideal) c i arg2 harg2 arg3 harg3 arg4 harg4 arg5 harg5 arg6 harg6 arg7 harg7 arg8 harg8 arg9 harg9 arg10 harg10 arg11 harg11 hc x0 x1 x2 x3 x4 x5 x6 y)
  unfold kernelRun0_A
  dsimp only
  sl_unfold_words
  simp only [View.readAt_eq_ld, View.readCov_unit_zero (S := S8x256x128) _ hz3, harg2.read_unread, harg3.read_unread, harg4.read_unread, harg5.read_unread, harg6.read_unread, harg7.read_unread, harg8.read_unread, harg9.read_unread, harg10.read_unread, harg11.read_unread, View.ld_unit_zero (S := S4x8x1x1) hz4, View.ld_unit_zero (S := S8x256x128) hz3, ofBits_zero]
  subst hx0 hx1 hx2 hx3 hx4 hx5 hx6
  have hs : (up3 (φ := .f32) fun g p n => K.Sn g p n) = up3 (φ := .f32) fun g p n => K'.S g p n := by simp only [hS]
  have h70 : k0_pay70 (F := Ideal) (up4 (φ := .f32) fun r g _ _ => K.bias r g) = up4 (φ := .f32) fun r g _ _ => K'.bias r g := by rw [pay_70]; simp only [hb]
  have h71 : k0_pay71 (F := Ideal) (up4 (φ := .f32) fun r g _ _ => K.al r g) = up4 (φ := .f32) fun r g _ _ => K'.al r g := by rw [pay_71]; simp only [ha]
  have h72 : k0_pay72 (F := Ideal) (up4 (φ := .f32) fun r g _ _ => K.D r g) = up4 (φ := .f32) fun r g _ _ => K'.D r g := by rw [pay_72]; simp only [hD]
  have h2 : k0_pay2 (F := Ideal) = up3 (φ := .f32) fun g p n => K.S g p n := by rw [pay_2]; simp only [hK]
  refine List.forall_mem_cons.2 ⟨fun x => ?_, List.forall_mem_cons.2 ⟨fun x => ?_, fun _ h => absurd h List.not_mem_nil⟩⟩
  all_goals dsimp only
  · refine (congrFun (?_ : _ = up4 (φ := .f32) fun _ g p n => K.Sn g p n) x).trans ?_
    on_goal 2 => exact (congrFun (T_hi K _) x).symm
    simp -index only [X_lo, X_hi, B_lo, B_hi, C_lo, C_hi, R_lo, R_hi, pay_3, pay_4, pay_5, pay_6, pay_7, pay_8, pay_9, pay_10, pay_11, pay_12, pay_13, pay_14, pay_15, pay_16, pay_17, pay_18, pay_19, pay_20, pay_21, pay_22, pay_23, pay_24, pay_25, pay_26, pay_27, pay_28, pay_29, pay_30, pay_31, pay_32, pay_33, pay_34, pay_35, pay_36, pay_37, pay_38, pay_39, pay_40, pay_41, pay_42, pay_43, pay_44, pay_45, pay_46, pay_47, pay_48, pay_49, pay_50, pay_51, pay_52, pay_53, pay_54, pay_55, pay_56, pay_57, pay_58, pay_59, pay_60, pay_61, pay_62, pay_63, pay_64, pay_65, pay_66, pay_67, pay_68, h2]
  · refine (congrFun (?_ : _ = up4 (φ := .f32) fun _ g p n => K.S g p n) x).trans ?_
    on_goal 2 => exact (congrFun (T_lo K _) x).symm
    simp -index only [X_lo, X_hi, B_lo, B_hi, C_lo, C_hi, R_lo, R_hi, pay_3, pay_4, pay_5, pay_6, pay_7, pay_8, pay_9, pay_10, pay_11, pay_12, pay_13, pay_14, pay_15, pay_16, pay_17, pay_18, pay_19, pay_20, pay_21, pay_22, pay_23, pay_24, pay_25, pay_26, pay_27, pay_28, pay_29, pay_30, pay_31, pay_32, pay_33, pay_34, pay_35, pay_36, pay_37, pay_38, pay_39, pay_40, pay_41, pay_42, pay_43, pay_44, pay_45, pay_46, pay_47, pay_48, pay_49, pay_50, pay_51, pay_52, pay_53, pay_54, pay_55, pay_56, pay_57, pay_58, pay_59, pay_60, pay_61, pay_62, pay_63, pay_64, pay_65, pay_66, pay_67, pay_68, h2]
theorem sout0_A_0_eq (hc : cond0_0 i) (hK : ∀ g p n, K.S g p n = 0) (x0 : Vec Ideal S8x256x256 .f32) (x1 : Vec Ideal S8x256x128 .f32) (x2 : Vec Ideal S8x256x128 .f32) (x3 : Vec Ideal S1x8x8x1x128 .f32) (x4 : Vec Ideal S4x8x1x1 .f32) (x5 : Vec Ideal S4x8x1x1 .f32) (x6 : Vec Ideal S4x8x1x1 .f32)
    (hx0 : x0 = X K K') (hx1 : x1 = B K K') (hx2 : x2 = C K K') (hx3 : x3 = R K K') (hx4 : x4 = up4 (φ := .f32) fun r g _ _ => K.bias r g) (hx5 : x5 = up4 (φ := .f32) fun r g _ _ => K.al r g) (hx6 : x6 = up4 (φ := .f32) fun r g _ _ => K.D r g) :
    sout0_A_0 (F := Ideal) c i arg2 harg2 arg3 harg3 arg4 harg4 arg5 harg5 arg6 harg6 arg7 harg7 arg8 harg8 arg9 harg9 arg10 harg10 arg11 harg11 hc x0 x1 x2 x3 x4 x5 x6 = up3 (φ := .f32) fun g p n => K'.Sn g p n := by
  unfold sout0_A_0
  rw [View.read_writes_eq_canon _ _ _ (scover0_A_0 (F := Ideal) c i arg2 harg2 arg3 harg3 arg4 harg4 arg5 harg5 arg6 harg6 arg7 harg7 arg8 harg8 arg9 harg9 arg10 harg10 arg11 harg11 hc x0 x1 x2 x3 x4 x5 x6)]
  unfold kernelRun0_A
  dsimp only
  sl_unfold_words
  rw [View.canon_cons_unit_zero hz3]
  simp only [View.readAt_eq_ld, View.readCov_unit_zero (S := S8x256x128) _ hz3, harg2.read_unread, harg3.read_unread, harg4.read_unread, harg5.read_unread, harg6.read_unread, harg7.read_unread, harg8.read_unread, harg9.read_unread, harg10.read_unread, harg11.read_unread, View.ld_unit_zero (S := S4x8x1x1) hz4, View.ld_unit_zero (S := S8x256x128) hz3, ofBits_zero]
  subst hx0 hx1 hx2 hx3 hx4 hx5 hx6
  have hs : (up3 (φ := .f32) fun g p n => K.Sn g p n) = up3 (φ := .f32) fun g p n => K'.S g p n := by simp only [hS]
  have h70 : k0_pay70 (F := Ideal) (up4 (φ := .f32) fun r g _ _ => K.bias r g) = up4 (φ := .f32) fun r g _ _ => K'.bias r g := by rw [pay_70]; simp only [hb]
  have h71 : k0_pay71 (F := Ideal) (up4 (φ := .f32) fun r g _ _ => K.al r g) = up4 (φ := .f32) fun r g _ _ => K'.al r g := by rw [pay_71]; simp only [ha]
  have h72 : k0_pay72 (F := Ideal) (up4 (φ := .f32) fun r g _ _ => K.D r g) = up4 (φ := .f32) fun r g _ _ => K'.D r g := by rw [pay_72]; simp only [hD]
  have h2 : k0_pay2 (F := Ideal) = up3 (φ := .f32) fun g p n => K.S g p n := by rw [pay_2]; simp only [hK]
  simp -index only [X_lo, X_hi, B_lo, B_hi, C_lo, C_hi, R_lo, R_hi, pay_3, pay_4, pay_5, pay_6, pay_7, pay_8, pay_9, pay_10, pay_11, pay_12, pay_13, pay_14, pay_15, pay_16, pay_17, pay_18, pay_19, pay_20, pay_21, pay_22, pay_23, pay_24, pay_25, pay_26, pay_27, pay_28, pay_29, pay_30, pay_31, pay_32, pay_33, pay_34, pay_35, pay_36, pay_37, pay_38, pay_39, pay_40, pay_41, pay_42, pay_43, pay_44, pay_45, pay_46, pay_47, pay_48, pay_49, pay_50, pay_51, pay_52, pay_53, pay_54, pay_55, pay_56, pay_57, pay_58, pay_59, pay_60, pay_61, pay_62, pay_63, pay_64, pay_65, pay_66, pay_67, hs, h70, h71, h72, pay_1, pay_69, pay_73, pay_74, pay_75, pay_76, pay_77, pay_78, pay_79, pay_80, pay_81, pay_82, pay_83, pay_84, pay_85, pay_86, pay_87, pay_88, pay_89, pay_90, pay_91, pay_92, pay_93, pay_94, pay_95, pay_96, pay_97, pay_98, pay_99, pay_100, pay_101, pay_102, pay_103, pay_104, pay_105, pay_106, pay_107, pay_108, pay_109, pay_110, pay_111, pay_112, pay_113, pay_114, pay_115, pay_116, pay_117, pay_118, pay_119, pay_120, pay_121, pay_122, pay_123, pay_124, pay_125, pay_126, pay_127, h2]
theorem out0_B_7_eq (hc : ¬cond0_0 i) (x0 : Vec Ideal S8x256x256 .f32) (x1 : Vec Ideal S8x256x128 .f32) (x2 : Vec Ideal S8x256x128 .f32) (x3 : Vec Ideal S1x8x8x1x128 .f32) (x4 : Vec Ideal S4x8x1x1 .f32) (x5 : Vec Ideal S4x8x1x1 .f32) (x6 : Vec Ideal S4x8x1x1 .f32) (xs : Vec Ideal S8x256x128 .f32)
    (hx0 : x0 = X K K') (hx1 : x1 = B K K') (hx2 : x2 = C K K') (hx3 : x3 = R K K') (hx4 : x4 = up4 (φ := .f32) fun r g _ _ => K.bias r g) (hx5 : x5 = up4 (φ := .f32) fun r g _ _ => K.al r g) (hx6 : x6 = up4 (φ := .f32) fun r g _ _ => K.D r g) (hxs : xs = up3 (φ := .f32) fun g p n => K.S g p n) :
    out0_B_7 (F := Ideal) c i arg2 harg2 arg3 harg3 arg4 harg4 arg5 harg5 arg6 harg6 arg7 harg7 arg8 harg8 arg9 harg9 arg10 harg10 arg11 harg11 hc x0 x1 x2 x3 x4 x5 x6 xs = Y K K' := by
  unfold out0_B_7
  rw [View.read_writes_eq_canon _ _ _ (cover0_B_7 (F := Ideal) c i arg2 harg2 arg3 harg3 arg4 harg4 arg5 harg5 arg6 harg6 arg7 harg7 arg8 harg8 arg9 harg9 arg10 harg10 arg11 harg11 hc x0 x1 x2 x3 x4 x5 x6 xs)]
  funext y
  refine View.canon_apply_of_pieces _ _ ?_ y (cover0_B_7 (F := Ideal) c i arg2 harg2 arg3 harg3 arg4 harg4 arg5 harg5 arg6 harg6 arg7 harg7 arg8 harg8 arg9 harg9 arg10 harg10 arg11 harg11 hc x0 x1 x2 x3 x4 x5 x6 xs y)
  unfold kernelRun0_B
  dsimp only
  sl_unfold_words
  simp only [View.readAt_eq_ld, View.readCov_unit_zero (S := S8x256x128) _ hz3, harg2.read_unread, harg3.read_unread, harg4.read_unread, harg5.read_unread, harg6.read_unread, harg7.read_unread, harg8.read_unread, harg9.read_unread, harg10.read_unread, harg11.read_unread, View.ld_unit_zero (S := S4x8x1x1) hz4, View.ld_unit_zero (S := S8x256x128) hz3, ofBits_zero]
  subst hx0 hx1 hx2 hx3 hx4 hx5 hx6 hxs
  have hs : (up3 (φ := .f32) fun g p n => K.Sn g p n) = up3 (φ := .f32) fun g p n => K'.S g p n := by simp only [hS]
  have h70 : k0_pay70 (F := Ideal) (up4 (φ := .f32) fun r g _ _ => K.bias r g) = up4 (φ := .f32) fun r g _ _ => K'.bias r g := by rw [pay_70]; simp only [hb]
  have h71 : k0_pay71 (F := Ideal) (up4 (φ := .f32) fun r g _ _ => K.al r g) = up4 (φ := .f32) fun r g _ _ => K'.al r g := by rw [pay_71]; simp only [ha]
  have h72 : k0_pay72 (F := Ideal) (up4 (φ := .f32) fun r g _ _ => K.D r g) = up4 (φ := .f32) fun r g _ _ => K'.D r g := by rw [pay_72]; simp only [hD]
  refine List.forall_mem_cons.2 ⟨fun x => ?_, List.forall_mem_cons.2 ⟨fun x => ?_, fun _ h => absurd h List.not_mem_nil⟩⟩
  all_goals dsimp only
  · refine (congrFun (?_ : _ = up3 (φ := .f32) fun g l p => K'.y g l p) x).trans ?_
    on_goal 2 => exact (congrFun (Y_hi K K' _) x).symm
    simp -index only [X_lo, X_hi, B_lo, B_hi, C_lo, C_hi, R_lo, R_hi, pay_3, pay_4, pay_5, pay_6, pay_7, pay_8, pay_9, pay_10, pay_11, pay_12, pay_13, pay_14, pay_15, pay_16, pay_17, pay_18, pay_19, pay_20, pay_21, pay_22, pay_23, pay_24, pay_25, pay_26, pay_27, pay_28, pay_29, pay_30, pay_31, pay_32, pay_33, pay_34, pay_35, pay_36, pay_37, pay_38, pay_39, pay_40, pay_41, pay_42, pay_43, pay_44, pay_45, pay_46, pay_47, pay_48, pay_49, pay_50, pay_51, pay_52, pay_53, pay_54, pay_55, pay_56, pay_57, pay_58, pay_59, pay_60, pay_61, pay_62, pay_63, pay_64, pay_65, pay_66, pay_67, hs, h70, h71, h72, pay_1, pay_69, pay_73, pay_74, pay_75, pay_76, pay_77, pay_78, pay_79, pay_80, pay_81, pay_82, pay_83, pay_84, pay_85, pay_86, pay_87, pay_88, pay_89, pay_90, pay_91, pay_92, pay_93, pay_94, pay_95, pay_96, pay_97, pay_98, pay_99, pay_100, pay_101, pay_102, pay_103, pay_104, pay_105, pay_106, pay_107, pay_108, pay_109, pay_110, pay_111, pay_112, pay_113, pay_114, pay_115, pay_116, pay_117, pay_118, pay_119, pay_120, pay_121, pay_122, pay_123, pay_124, pay_125, pay_126, pay_127]
  · refine (congrFun (?_ : _ = up3 (φ := .f32) fun g l p => K.y g l p) x).trans ?_
    on_goal 2 => exact (congrFun (Y_lo K K' _) x).symm
    simp -index only [X_lo, X_hi, B_lo, B_hi, C_lo, C_hi, R_lo, R_hi, pay_3, pay_4, pay_5, pay_6, pay_7, pay_8, pay_9, pay_10, pay_11, pay_12, pay_13, pay_14, pay_15, pay_16, pay_17, pay_18, pay_19, pay_20, pay_21, pay_22, pay_23, pay_24, pay_25, pay_26, pay_27, pay_28, pay_29, pay_30, pay_31, pay_32, pay_33, pay_34, pay_35, pay_36, pay_37, pay_38, pay_39, pay_40, pay_41, pay_42, pay_43, pay_44, pay_45, pay_46, pay_47, pay_48, pay_49, pay_50, pay_51, pay_52, pay_53, pay_54, pay_55, pay_56, pay_57, pay_58, pay_59, pay_60, pay_61, pay_62, pay_63, pay_64, pay_65, pay_66, pay_67, pay_68]
theorem out0_B_8_eq (hc : ¬cond0_0 i) (x0 : Vec Ideal S8x256x256 .f32) (x1 : Vec Ideal S8x256x128 .f32) (x2 : Vec Ideal S8x256x128 .f32) (x3 : Vec Ideal S1x8x8x1x128 .f32) (x4 : Vec Ideal S4x8x1x1 .f32) (x5 : Vec Ideal S4x8x1x1 .f32) (x6 : Vec Ideal S4x8x1x1 .f32) (xs : Vec Ideal S8x256x128 .f32)
    (hx0 : x0 = X K K') (hx1 : x1 = B K K') (hx2 : x2 = C K K') (hx3 : x3 = R K K') (hx4 : x4 = up4 (φ := .f32) fun r g _ _ => K.bias r g) (hx5 : x5 = up4 (φ := .f32) fun r g _ _ => K.al r g) (hx6 : x6 = up4 (φ := .f32) fun r g _ _ => K.D r g) (hxs : xs = up3 (φ := .f32) fun g p n => K.S g p n) :
    out0_B_8 (F := Ideal) c i arg2 harg2 arg3 harg3 arg4 harg4 arg5 harg5 arg6 harg6 arg7 harg7 arg8 harg8 arg9 harg9 arg10 harg10 arg11 harg11 hc x0 x1 x2 x3 x4 x5 x6 xs = T K := by
  unfold out0_B_8
  rw [View.read_writes_eq_canon _ _ _ (cover0_B_8 (F := Ideal) c i arg2 harg2 arg3 harg3 arg4 harg4 arg5 harg5 arg6 harg6 arg7 harg7 arg8 harg8 arg9 harg9 arg10 harg10 arg11 harg11 hc x0 x1 x2 x3 x4 x5 x6 xs)]
  funext y
  refine View.canon_apply_of_pieces _ _ ?_ y (cover0_B_8 (F := Ideal) c i arg2 harg2 arg3 harg3 arg4 harg4 arg5 harg5 arg6 harg6 arg7 harg7 arg8 harg8 arg9 harg9 arg10 harg10 arg11 harg11 hc x0 x1 x2 x3 x4 x5 x6 xs y)
  unfold kernelRun0_B
  dsimp only
  sl_unfold_words
  simp only [View.readAt_eq_ld, View.readCov_unit_zero (S := S8x256x128) _ hz3, harg2.read_unread, harg3.read_unread, harg4.read_unread, harg5.read_unread, harg6.read_unread, harg7.read_unread, harg8.read_unread, harg9.read_unread, harg10.read_unread, harg11.read_unread, View.ld_unit_zero (S := S4x8x1x1) hz4, View.ld_unit_zero (S := S8x256x128) hz3, ofBits_zero]
  subst hx0 hx1 hx2 hx3 hx4 hx5 hx6 hxs
  have hs : (up3 (φ := .f32) fun g p n => K.Sn g p n) = up3 (φ := .f32) fun g p n => K'.S g p n := by simp only [hS]
  have h70 : k0_pay70 (F := Ideal) (up4 (φ := .f32) fun r g _ _ => K.bias r g) = up4 (φ := .f32) fun r g _ _ => K'.bias r g := by rw [pay_70]; simp only [hb]
  have h71 : k0_pay71 (F := Ideal) (up4 (φ := .f32) fun r g _ _ => K.al r g) = up4 (φ := .f32) fun r g _ _ => K'.al r g := by rw [pay_71]; simp only [ha]
  have h72 : k0_pay72 (F := Ideal) (up4 (φ := .f32) fun r g _ _ => K.D r g) = up4 (φ := .f32) fun r g _ _ => K'.D r g := by rw [pay_72]; simp only [hD]
  refine List.forall_mem_cons.2 ⟨fun x => ?_, List.forall_mem_cons.2 ⟨fun x => ?_, fun _ h => absurd h List.not_mem_nil⟩⟩
  all_goals dsimp only
  · refine (congrFun (?_ : _ = up4 (φ := .f32) fun _ g p n => K.Sn g p n) x).trans ?_
    on_goal 2 => exact (congrFun (T_hi K _) x).symm
    simp -index only [X_lo, X_hi, B_lo, B_hi, C_lo, C_hi, R_lo, R_hi, pay_3, pay_4, pay_5, pay_6, pay_7, pay_8, pay_9, pay_10, pay_11, pay_12, pay_13, pay_14, pay_15, pay_16, pay_17, pay_18, pay_19, pay_20, pay_21, pay_22, pay_23, pay_24, pay_25, pay_26, pay_27, pay_28, pay_29, pay_30, pay_31, pay_32, pay_33, pay_34, pay_35, pay_36, pay_37, pay_38, pay_39, pay_40, pay_41, pay_42, pay_43, pay_44, pay_45, pay_46, pay_47, pay_48, pay_49, pay_50, pay_51, pay_52, pay_53, pay_54, pay_55, pay_56, pay_57, pay_58, pay_59, pay_60, pay_61, pay_62, pay_63, pay_64, pay_65, pay_66, pay_67, pay_68]
  · refine (congrFun (?_ : _ = up4 (φ := .f32) fun _ g p n => K.S g p n) x).trans ?_
    on_goal 2 => exact (congrFun (T_lo K _) x).symm
    simp -index only [X_lo, X_hi, B_lo, B_hi, C_lo, C_hi, R_lo, R_hi, pay_3, pay_4, pay_5, pay_6, pay_7, pay_8, pay_9, pay_10, pay_11, pay_12, pay_13, pay_14, pay_15, pay_16, pay_17, pay_18, pay_19, pay_20, pay_21, pay_22, pay_23, pay_24, pay_25, pay_26, pay_27, pay_28, pay_29, pay_30, pay_31, pay_32, pay_33, pay_34, pay_35, pay_36, pay_37, pay_38, pay_39, pay_40, pay_41, pay_42, pay_43, pay_44, pay_45, pay_46, pay_47, pay_48, pay_49, pay_50, pay_51, pay_52, pay_53, pay_54, pay_55, pay_56, pay_57, pay_58, pay_59, pay_60, pay_61, pay_62, pay_63, pay_64, pay_65, pay_66, pay_67, pay_68]
theorem sout0_B_0_eq (hc : ¬cond0_0 i) (x0 : Vec Ideal S8x256x256 .f32) (x1 : Vec Ideal S8x256x128 .f32) (x2 : Vec Ideal S8x256x128 .f32) (x3 : Vec Ideal S1x8x8x1x128 .f32) (x4 : Vec Ideal S4x8x1x1 .f32) (x5 : Vec Ideal S4x8x1x1 .f32) (x6 : Vec Ideal S4x8x1x1 .f32) (xs : Vec Ideal S8x256x128 .f32)
    (hx0 : x0 = X K K') (hx1 : x1 = B K K') (hx2 : x2 = C K K') (hx3 : x3 = R K K') (hx4 : x4 = up4 (φ := .f32) fun r g _ _ => K.bias r g) (hx5 : x5 = up4 (φ := .f32) fun r g _ _ => K.al r g) (hx6 : x6 = up4 (φ := .f32) fun r g _ _ => K.D r g) (hxs : xs = up3 (φ := .f32) fun g p n => K.S g p n) :
    sout0_B_0 (F := Ideal) c i arg2 harg2 arg3 harg3 arg4 harg4 arg5 harg5 arg6 harg6 arg7 harg7 arg8 harg8 arg9 harg9 arg10 harg10 arg11 harg11 hc x0 x1 x2 x3 x4 x5 x6 xs = up3 (φ := .f32) fun g p n => K'.Sn g p n := by
  unfold sout0_B_0
  rw [View.read_writes_eq_canon _ _ _ (scover0_B_0 (F := Ideal) c i arg2 harg2 arg3 harg3 arg4 harg4 arg5 harg5 arg6 harg6 arg7 harg7 arg8 harg8 arg9 harg9 arg10 harg10 arg11 harg11 hc x0 x1 x2 x3 x4 x5 x6 xs)]
  unfold kernelRun0_B
  dsimp only
  sl_unfold_words
  rw [View.canon_unit_zero hz3]
  simp only [View.readAt_eq_ld, View.readCov_unit_zero (S := S8x256x128) _ hz3, harg2.read_unread, harg3.read_unread, harg4.read_unread, harg5.read_unread, harg6.read_unread, harg7.read_unread, harg8.read_unread, harg9.read_unread, harg10.read_unread, harg11.read_unread, View.ld_unit_zero (S := S4x8x1x1) hz4, View.ld_unit_zero (S := S8x256x128) hz3, ofBits_zero]
  subst hx0 hx1 hx2 hx3 hx4 hx5 hx6 hxs
  have hs : (up3 (φ := .f32) fun g p n => K.Sn g p n) = up3 (φ := .f32) fun g p n => K'.S g p n := by simp only [hS]
  have h70 : k0_pay70 (F := Ideal) (up4 (φ := .f32) fun r g _ _ => K.bias r g) = up4 (φ := .f32) fun r g _ _ => K'.bias r g := by rw [pay_70]; simp only [hb]
  have h71 : k0_pay71 (F := Ideal) (up4 (φ := .f32) fun r g _ _ => K.al r g) = up4 (φ := .f32) fun r g _ _ => K'.al r g := by rw [pay_71]; simp only [ha]
  have h72 : k0_pay72 (F := Ideal) (up4 (φ := .f32) fun r g _ _ => K.D r g) = up4 (φ := .f32) fun r g _ _ => K'.D r g := by rw [pay_72]; simp only [hD]
  simp -index only [X_lo, X_hi, B_lo, B_hi, C_lo, C_hi, R_lo, R_hi, pay_3, pay_4, pay_5, pay_6, pay_7, pay_8, pay_9, pay_10, pay_11, pay_12, pay_13, pay_14, pay_15, pay_16, pay_17, pay_18, pay_19, pay_20, pay_21, pay_22, pay_23, pay_24, pay_25, pay_26, pay_27, pay_28, pay_29, pay_30, pay_31, pay_32, pay_33, pay_34, pay_35, pay_36, pay_37, pay_38, pay_39, pay_40, pay_41, pay_42, pay_43, pay_44, pay_45, pay_46, pay_47, pay_48, pay_49, pay_50, pay_51, pay_52, pay_53, pay_54, pay_55, pay_56, pay_57, pay_58, pay_59, pay_60, pay_61, pay_62, pay_63, pay_64, pay_65, pay_66, pay_67, hs, h70, h71, h72, pay_1, pay_69, pay_73, pay_74, pay_75, pay_76, pay_77, pay_78, pay_79, pay_80, pay_81, pay_82, pay_83, pay_84, pay_85, pay_86, pay_87, pay_88, pay_89, pay_90, pay_91, pay_92, pay_93, pay_94, pay_95, pay_96, pay_97, pay_98, pay_99, pay_100, pay_101, pay_102, pay_103, pay_104, pay_105, pay_106, pay_107, pay_108, pay_109, pay_110, pay_111, pay_112, pay_113, pay_114, pay_115, pay_116, pay_117, pay_118, pay_119, pay_120, pay_121, pay_122, pay_123, pay_124, pay_125, pay_126, pay_127]

end Cert.FwdBody
-- ==== Proof.FwdGrid.lean ====
/- The forward scan, two chunks a point: what each point of the grid reads and leaves, and what the result arrays hold
   after the last point. -/
module

public import Idealize.ShloMosaic.Lib.Pipeline.ValueKit
public import proofs.«01_k».proof.Proof.Host
public import proofs.«01_k».proof.Proof.FwdSeq
public import proofs.«01_k».proof.Proof.FwdBody

@[expose] public section

set_option maxRecDepth 16384

noncomputable section

namespace Cert.FwdGrid

open Idealize.ShloMosaic Idealize.ShloMosaic.TcCoe Idealize.SL.Sem Cert.FwdIdeal Cert.FwdIdeal.Gen Cert.Lift
open Idealize.ShloMosaic.Pipeline (Dat)
open Cert.FwdBody (half four half_lo half_hi four_lo four_hi)

/-- The two chunks that a point works on. -/
def ce (n : ℕ) : Fin 128 := ⟨2 * n % 128, by omega⟩
def co (n : ℕ) : Fin 128 := ⟨(2 * n + 1) % 128, by omega⟩

/-- The steps of a point's two chunks, one after the other. -/
theorem half_st {α : Type} (f : Fin 16384 → α) (n : ℕ) (hn : n < 64) (r : Fin 256) (u : Fin 16384) (hu : u.val = n * 256 + r.val) :
    half (fun l => f (st (ce n) l)) (fun l => f (st (co n) l)) r = f u := by
  by_cases h : r.val < 128
  · refine (half_lo _ _ r ⟨r.val, h⟩ (Nat.zero_add _).symm).trans (congrArg f (Fin.ext ?_))
    simp only [st, ce]; omega
  · have hr := r.isLt
    refine (half_hi _ _ r ⟨r.val - 128, by omega⟩ (by simp only []; omega)).trans (congrArg f (Fin.ext ?_))
    simp only [st, co]; omega

/-- The raw step sizes, by point, row and group. -/
def rows (x : FVec Ideal S16384x32 .f32) : FVec Ideal S64x8x8x1x128 .f32 :=
  shapeCast S64x8x8x1x128 (transpose S64x2x4x8x128 [0, 3, 2, 1, 4] (shapeCast S64x8x4x2x128
    (transpose S64x32x2x128 [0, 3, 1, 2] (shapeCast S64x2x128x32 x shapeCasts_S16384x32_S64x2x128x32)
      transposes_S64x2x128x32_S64x32x2x128_0_3_1_2) shapeCasts_S64x32x2x128_S64x8x4x2x128)
      transposes_S64x8x4x2x128_S64x2x4x8x128_0_3_2_1_4) shapeCasts_S64x2x4x8x128_S64x8x8x1x128
theorem rows_up (f : Fin 16384 → Fin 32 → ℝ) : rows (up2 f) = up5 (φ := .f32) fun k j g _ l =>
    four (fun r => f (st (ce k.val) l) (ix r g)) (fun r => f (st (co k.val) l) (ix r g)) j := by
  have e : rows (up2 f) = up5 (φ := .f32) fun k j g _ l => f ⟨256 * k.val + 128 * (j.val / 4) + l.val, by omega⟩ ⟨4 * g.val + j.val % 4, by omega⟩ := by
    unfold rows
    funext i
    pointwise [up2, up5]
    exact congrArg₂ (fun t h => ((f t h : ℝ) : EReal)) (Fin.ext (by simp only []; omega)) (Fin.ext (by simp only []; omega))
  rw [e]
  refine congrArg up5 (funext fun k => funext fun j => funext fun g => funext fun _ => funext fun l => ?_)
  have hk := k.isLt
  by_cases h : j.val < 4
  · refine Eq.trans ?_ (four_lo _ _ j ⟨j.val, h⟩ (Nat.zero_add _).symm).symm
    exact congrArg₂ f (Fin.ext (by simp only [st, ce]; omega)) (Fin.ext (by simp only [ix]; omega))
  · have hj := j.isLt
    refine Eq.trans ?_ (four_hi _ _ j ⟨j.val - 4, by omega⟩ (by simp only []; omega)).symm
    exact congrArg₂ f (Fin.ext (by simp only [st, co]; omega)) (Fin.ext (by simp only [ix]; omega))

theorem ix_0 : ∀ t : Fin cfg0.N, win0_0.index t = ![0, t.val, 0] := by decide +kernel
theorem ix_1 : ∀ t : Fin cfg0.N, win0_1.index t = ![0, t.val, 0] := by decide +kernel
theorem ix_2 : ∀ t : Fin cfg0.N, win0_2.index t = ![0, t.val, 0] := by decide +kernel
theorem ix_3 : ∀ t : Fin cfg0.N, win0_3.index t = ![t.val, 0, 0, 0, 0] := by decide +kernel
theorem ix_4 : ∀ t : Fin cfg0.N, win0_4.index t = ![0, 0, 0, 0] := by decide +kernel
theorem ix_5 : ∀ t : Fin cfg0.N, win0_5.index t = ![0, 0, 0, 0] := by decide +kernel
theorem ix_6 : ∀ t : Fin cfg0.N, win0_6.index t = ![0, 0, 0, 0] := by decide +kernel
theorem ix_7 : ∀ t : Fin cfg0.N, win0_7.index t = ![0, t.val, 0] := by decide +kernel
theorem ix_8 : ∀ t : Fin cfg0.N, win0_8.index t = ![t.val, 0, 0, 0] := by decide +kernel
theorem lt_64 (t : Fin cfg0.N) : t.val < 64 := t.isLt

variable (m : (ℓ : Loc nD τ sig) → Buf (Elt Ideal) ℓ) (c : Dev nD) (Q : Sq)

theorem V_v4 : V m c main_v4 = rows (m ((c : Thread nD τ).loc main_arg3)) := by
  unfold_abbrev_sides
  after_reads_simp
  rfl
theorem V_v7 : V m c main_v7 = Prelude.heads (m ((c : Thread nD τ).loc main_arg4)) := by
  unfold_abbrev_sides
  after_reads_simp
  rfl
theorem V_v10 : V m c main_v10 = Prelude.heads (m ((c : Thread nD τ).loc main_arg5)) := by
  unfold_abbrev_sides
  after_reads_simp
  rfl
theorem V_v13 : V m c main_v13 = Prelude.heads (m ((c : Thread nD τ).loc main_arg6)) := by
  unfold_abbrev_sides
  after_reads_simp
  rfl

/-- The arrays that the scan reads hold the sequence `Q`. -/
structure Inputs : Prop where
  h0 : V m c main_arg0 = (up3 (φ := .f32) Q.X : FVec Ideal S8x16384x256 .f32)
  h1 : V m c main_arg1 = (up3 (φ := .f32) Q.B : FVec Ideal S8x16384x128 .f32)
  h2 : V m c main_arg2 = (up3 (φ := .f32) Q.C : FVec Ideal S8x16384x128 .f32)
  h3 : V m c main_v4 = (up5 (φ := .f32) fun k j g _ l => four (fun r => Q.raw (st (ce k.val) l) (ix r g)) (fun r => Q.raw (st (co k.val) l) (ix r g)) j : FVec Ideal S64x8x8x1x128 .f32)
  h4 : V m c main_v7 = (up4 (φ := .f32) fun r g _ _ => Q.bias (ix r g) : FVec Ideal S4x8x1x1 .f32)
  h5 : V m c main_v10 = (up4 (φ := .f32) fun r g _ _ => Q.al (ix r g) : FVec Ideal S4x8x1x1 .f32)
  h6 : V m c main_v13 = (up4 (φ := .f32) fun r g _ _ => Q.D (ix r g) : FVec Ideal S4x8x1x1 .f32)

/-- The arguments being finite, they do. -/
theorem inputs_of (h0 : m ((c : Thread nD τ).loc main_arg0) = (up3 (φ := .f32) Q.X : FVec Ideal S8x16384x256 .f32))
    (h1 : m ((c : Thread nD τ).loc main_arg1) = (up3 (φ := .f32) Q.B : FVec Ideal S8x16384x128 .f32))
    (h2 : m ((c : Thread nD τ).loc main_arg2) = (up3 (φ := .f32) Q.C : FVec Ideal S8x16384x128 .f32))
    (h3 : m ((c : Thread nD τ).loc main_arg3) = (up2 (φ := .f32) Q.raw : FVec Ideal S16384x32 .f32))
    (h4 : m ((c : Thread nD τ).loc main_arg4) = (up1 (φ := .f32) Q.bias : FVec Ideal S32 .f32))
    (h5 : m ((c : Thread nD τ).loc main_arg5) = (up1 (φ := .f32) Q.al : FVec Ideal S32 .f32))
    (h6 : m ((c : Thread nD τ).loc main_arg6) = (up1 (φ := .f32) Q.D : FVec Ideal S32 .f32)) : Inputs m c Q where
  h0 := (V_main_arg0 m c).trans h0
  h1 := (V_main_arg1 m c).trans h1
  h2 := (V_main_arg2 m c).trans h2
  h3 := by rw [V_v4, h3]; exact rows_up Q.raw
  h4 := by rw [V_v7, h4]; exact Prelude.heads_up Q.bias
  h5 := by rw [V_v10, h5]; exact Prelude.heads_up Q.al
  h6 := by rw [V_v13, h6]; exact Prelude.heads_up Q.D

variable {m c Q}

set_option maxHeartbeats 400000 in
/-- What the first point leaves, its blocks being those of `K` and `K'`. -/
theorem outs_A (K K' : Blk) (t : Fin cfg0.N) (h0 : t.val % 64 = 0) (hK : ∀ g p n, K.S g p n = 0)
    (hS : ∀ g p n, K.Sn g p n = K'.S g p n) (hb : ∀ r g, K.bias r g = K'.bias r g) (ha : ∀ r g, K.al r g = K'.al r g)
    (hD : ∀ r g, K.D r g = K'.D r g)
    (b0 : (iblk m c 0 t : Vec Ideal S8x256x256 .f32) = FwdBody.X K K') (b1 : (iblk m c 1 t : Vec Ideal S8x256x128 .f32) = FwdBody.B K K')
    (b2 : (iblk m c 2 t : Vec Ideal S8x256x128 .f32) = FwdBody.C K K') (b3 : (iblk m c 3 t : Vec Ideal S1x8x8x1x128 .f32) = FwdBody.R K K')
    (b4 : (iblk m c 4 t : Vec Ideal S4x8x1x1 .f32) = up4 (φ := .f32) fun r g _ _ => K.bias r g)
    (b5 : (iblk m c 5 t : Vec Ideal S4x8x1x1 .f32) = up4 (φ := .f32) fun r g _ _ => K.al r g)
    (b6 : (iblk m c 6 t : Vec Ideal S4x8x1x1 .f32) = up4 (φ := .f32) fun r g _ _ => K.D r g) :
    outsAt0 m c t.val t.isLt = (FwdBody.Y K K', FwdBody.T K, up3 (φ := .f32) fun g p n => K'.Sn g p n) := by
  refine (outsAt0_A m c t h0).trans ?_
  refine congrArg₂ Prod.mk (FwdBody.out0_A_7_eq K K' c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hS hb ha hD ((hcond0_0 t).mpr h0) hK (iblk m c 0 t) (iblk m c 1 t) (iblk m c 2 t) (iblk m c 3 t) (iblk m c 4 t) (iblk m c 5 t) (iblk m c 6 t) b0 b1 b2 b3 b4 b5 b6) ?_
  exact congrArg₂ Prod.mk (FwdBody.out0_A_8_eq K K' c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hS hb ha hD ((hcond0_0 t).mpr h0) hK (iblk m c 0 t) (iblk m c 1 t) (iblk m c 2 t) (iblk m c 3 t) (iblk m c 4 t) (iblk m c 5 t) (iblk m c 6 t) b0 b1 b2 b3 b4 b5 b6) (FwdBody.sout0_A_0_eq K K' c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hS hb ha hD ((hcond0_0 t).mpr h0) hK (iblk m c 0 t) (iblk m c 1 t) (iblk m c 2 t) (iblk m c 3 t) (iblk m c 4 t) (iblk m c 5 t) (iblk m c 6 t) b0 b1 b2 b3 b4 b5 b6)
set_option maxHeartbeats 400000 in
/-- What a later point leaves, its blocks being those of `K` and `K'`. -/
theorem outs_B (K K' : Blk) (t : Fin cfg0.N) (h0 : ¬t.val % 64 = 0)
    (hs : ((outsAt0 m c (t.val - 1) (Nat.lt_of_le_of_lt (Nat.sub_le _ _) t.isLt)).2.2 : Vec Ideal S8x256x128 .f32) = up3 (φ := .f32) fun g p n => K.S g p n)
    (hS : ∀ g p n, K.Sn g p n = K'.S g p n) (hb : ∀ r g, K.bias r g = K'.bias r g) (ha : ∀ r g, K.al r g = K'.al r g)
    (hD : ∀ r g, K.D r g = K'.D r g)
    (b0 : (iblk m c 0 t : Vec Ideal S8x256x256 .f32) = FwdBody.X K K') (b1 : (iblk m c 1 t : Vec Ideal S8x256x128 .f32) = FwdBody.B K K')
    (b2 : (iblk m c 2 t : Vec Ideal S8x256x128 .f32) = FwdBody.C K K') (b3 : (iblk m c 3 t : Vec Ideal S1x8x8x1x128 .f32) = FwdBody.R K K')
    (b4 : (iblk m c 4 t : Vec Ideal S4x8x1x1 .f32) = up4 (φ := .f32) fun r g _ _ => K.bias r g)
    (b5 : (iblk m c 5 t : Vec Ideal S4x8x1x1 .f32) = up4 (φ := .f32) fun r g _ _ => K.al r g)
    (b6 : (iblk m c 6 t : Vec Ideal S4x8x1x1 .f32) = up4 (φ := .f32) fun r g _ _ => K.D r g) :
    outsAt0 m c t.val t.isLt = (FwdBody.Y K K', FwdBody.T K, up3 (φ := .f32) fun g p n => K'.Sn g p n) := by
  refine (outsAt0_B m c t h0).trans ?_
  refine congrArg₂ Prod.mk (FwdBody.out0_B_7_eq K K' c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hS hb ha hD (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2 b0 b1 b2 b3 b4 b5 b6 hs) ?_
  exact congrArg₂ Prod.mk (FwdBody.out0_B_8_eq K K' c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hS hb ha hD (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2 b0 b1 b2 b3 b4 b5 b6 hs) (FwdBody.sout0_B_0_eq K K' c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hS hb ha hD (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2 b0 b1 b2 b3 b4 b5 b6 hs)

variable (I : Inputs m c Q)
include I

theorem iblk_0 (t : Fin cfg0.N) : (iblk m c 0 t : Vec Ideal S8x256x256 .f32) = FwdBody.X (Q.blk (ce t.val)) (Q.blk (co t.val)) := by
  funext y
  show V m c (Pipeline.arrRef spec0 0) (((cfg0.win 0).blk t).view.emb y) = _
  refine (congrFun I.h0 _).trans (congrArg (fun x : ℝ => (x : EReal)) ?_)
  have e0 : ((((cfg0.win 0).blk t).view.emb y) 0 : ℕ) = (y 0).val := by blk_simp [ix_0]
  have e1 : ((((cfg0.win 0).blk t).view.emb y) 1 : ℕ) = t.val * 256 + (y 1).val := by blk_simp [ix_0]
  have e2 : ((((cfg0.win 0).blk t).view.emb y) 2 : ℕ) = (y 2).val := by blk_simp [ix_0]
  refine Eq.trans ?_ (half_st (fun u => Q.X (y 0) u (y 2)) t.val (lt_64 t) (y 1) (((cfg0.win 0).blk t).view.emb y 1) e1).symm
  exact congrArg₂ (fun u v => Q.X u _ v) (Fin.ext e0) (Fin.ext e2)
theorem iblk_1 (t : Fin cfg0.N) : (iblk m c 1 t : Vec Ideal S8x256x128 .f32) = FwdBody.B (Q.blk (ce t.val)) (Q.blk (co t.val)) := by
  funext y
  show V m c (Pipeline.arrRef spec0 1) (((cfg0.win 1).blk t).view.emb y) = _
  refine (congrFun I.h1 _).trans (congrArg (fun x : ℝ => (x : EReal)) ?_)
  have e0 : ((((cfg0.win 1).blk t).view.emb y) 0 : ℕ) = (y 0).val := by blk_simp [ix_1]
  have e1 : ((((cfg0.win 1).blk t).view.emb y) 1 : ℕ) = t.val * 256 + (y 1).val := by blk_simp [ix_1]
  have e2 : ((((cfg0.win 1).blk t).view.emb y) 2 : ℕ) = (y 2).val := by blk_simp [ix_1]
  refine Eq.trans ?_ (half_st (fun u => Q.B (y 0) u (y 2)) t.val (lt_64 t) (y 1) (((cfg0.win 1).blk t).view.emb y 1) e1).symm
  exact congrArg₂ (fun u v => Q.B u _ v) (Fin.ext e0) (Fin.ext e2)
theorem iblk_2 (t : Fin cfg0.N) : (iblk m c 2 t : Vec Ideal S8x256x128 .f32) = FwdBody.C (Q.blk (ce t.val)) (Q.blk (co t.val)) := by
  funext y
  show V m c (Pipeline.arrRef spec0 2) (((cfg0.win 2).blk t).view.emb y) = _
  refine (congrFun I.h2 _).trans (congrArg (fun x : ℝ => (x : EReal)) ?_)
  have e0 : ((((cfg0.win 2).blk t).view.emb y) 0 : ℕ) = (y 0).val := by blk_simp [ix_2]
  have e1 : ((((cfg0.win 2).blk t).view.emb y) 1 : ℕ) = t.val * 256 + (y 1).val := by blk_simp [ix_2]
  have e2 : ((((cfg0.win 2).blk t).view.emb y) 2 : ℕ) = (y 2).val := by blk_simp [ix_2]
  refine Eq.trans ?_ (half_st (fun u => Q.C (y 0) u (y 2)) t.val (lt_64 t) (y 1) (((cfg0.win 2).blk t).view.emb y 1) e1).symm
  exact congrArg₂ (fun u v => Q.C u _ v) (Fin.ext e0) (Fin.ext e2)
theorem iblk_3 (t : Fin cfg0.N) : (iblk m c 3 t : Vec Ideal S1x8x8x1x128 .f32) = FwdBody.R (Q.blk (ce t.val)) (Q.blk (co t.val)) := by
  funext y
  show V m c (Pipeline.arrRef spec0 3) (((cfg0.win 3).blk t).view.emb y) = _
  refine (congrFun I.h3 _).trans (congrArg (fun x : ℝ => (x : EReal)) ?_)
  have e0 : ((((cfg0.win 3).blk t).view.emb y) 0 : ℕ) = t.val := by
    have hy : (y 0).val = 0 := by have h : (y 0).val < 1 := (y 0).isLt; omega
    blk_simp [ix_3]
  have e1 : ((((cfg0.win 3).blk t).view.emb y) 1 : ℕ) = (y 1).val := by blk_simp [ix_3]
  have e2 : ((((cfg0.win 3).blk t).view.emb y) 2 : ℕ) = (y 2).val := by blk_simp [ix_3]
  have e4 : ((((cfg0.win 3).blk t).view.emb y) 4 : ℕ) = (y 4).val := by blk_simp [ix_3]
  have key (k j g l : ℕ) (k' : Fin 64) (j' g' : Fin 8) (l' : Fin 128) (hk : k'.val = k) (hj : j'.val = j) (hg : g'.val = g) (hl : l'.val = l)
      (j'' g'' : Fin 8) (l'' : Fin 128) (hj' : j''.val = j) (hg' : g''.val = g) (hl' : l''.val = l) :
      four (fun r => Q.raw (st (ce k'.val) l') (ix r g')) (fun r => Q.raw (st (co k'.val) l') (ix r g')) j'
        = four (fun r => Q.raw (st (ce k) l'') (ix r g'')) (fun r => Q.raw (st (co k) l'') (ix r g'')) j'' := by
    obtain rfl : j' = j'' := Fin.ext (hj.trans hj'.symm)
    obtain rfl : g' = g'' := Fin.ext (hg.trans hg'.symm)
    obtain rfl : l' = l'' := Fin.ext (hl.trans hl'.symm)
    rw [hk]
  exact key t.val (y 1).val (y 2).val (y 4).val _ _ _ _ e0 e1 e2 e4 (y 1) (y 2) (y 4) rfl rfl rfl
theorem iblk_4 (t : Fin cfg0.N) : (iblk m c 4 t : Vec Ideal S4x8x1x1 .f32) = up4 (φ := .f32) fun r g _ _ => (Q.blk (ce t.val)).bias r g := by
  funext y
  show V m c (Pipeline.arrRef spec0 4) (((cfg0.win 4).blk t).view.emb y) = _
  refine (congrFun I.h4 _).trans (congrArg (fun x : ℝ => (x : EReal)) ?_)
  have e0 : ((((cfg0.win 4).blk t).view.emb y) 0 : ℕ) = (y 0).val := by blk_simp [ix_4]
  have e1 : ((((cfg0.win 4).blk t).view.emb y) 1 : ℕ) = (y 1).val := by blk_simp [ix_4]
  show Q.bias (ix _ _) = Q.bias (ix (y 0) (y 1))
  exact congrArg Q.bias (congrArg₂ ix (Fin.ext e0) (Fin.ext e1))
theorem iblk_5 (t : Fin cfg0.N) : (iblk m c 5 t : Vec Ideal S4x8x1x1 .f32) = up4 (φ := .f32) fun r g _ _ => (Q.blk (ce t.val)).al r g := by
  funext y
  show V m c (Pipeline.arrRef spec0 5) (((cfg0.win 5).blk t).view.emb y) = _
  refine (congrFun I.h5 _).trans (congrArg (fun x : ℝ => (x : EReal)) ?_)
  have e0 : ((((cfg0.win 5).blk t).view.emb y) 0 : ℕ) = (y 0).val := by blk_simp [ix_5]
  have e1 : ((((cfg0.win 5).blk t).view.emb y) 1 : ℕ) = (y 1).val := by blk_simp [ix_5]
  show Q.al (ix _ _) = Q.al (ix (y 0) (y 1))
  exact congrArg Q.al (congrArg₂ ix (Fin.ext e0) (Fin.ext e1))
theorem iblk_6 (t : Fin cfg0.N) : (iblk m c 6 t : Vec Ideal S4x8x1x1 .f32) = up4 (φ := .f32) fun r g _ _ => (Q.blk (ce t.val)).D r g := by
  funext y
  show V m c (Pipeline.arrRef spec0 6) (((cfg0.win 6).blk t).view.emb y) = _
  refine (congrFun I.h6 _).trans (congrArg (fun x : ℝ => (x : EReal)) ?_)
  have e0 : ((((cfg0.win 6).blk t).view.emb y) 0 : ℕ) = (y 0).val := by blk_simp [ix_6]
  have e1 : ((((cfg0.win 6).blk t).view.emb y) 1 : ℕ) = (y 1).val := by blk_simp [ix_6]
  show Q.D (ix _ _) = Q.D (ix (y 0) (y 1))
  exact congrArg Q.D (congrArg₂ ix (Fin.ext e0) (Fin.ext e1))

/-- After point `n`: the outputs of its two chunks, the states they started from, and the state after them. -/
theorem outs_eq : ∀ (n : ℕ) (hn : n < cfg0.N), outsAt0 m c n hn =
    (FwdBody.Y (Q.blk (ce n)) (Q.blk (co n)), FwdBody.T (Q.blk (ce n)), up3 (φ := .f32) fun g p u => (Q.blk (co n)).Sn g p u)
  | 0, hn => outs_A (Q.blk (ce 0)) (Q.blk (co 0)) ⟨0, hn⟩ rfl (fun g p u => (Q.blk_S _ g p u).trans (Q.S_first _ g rfl p u))
      (fun g p u => (Q.blk_Sn _ g _ rfl p u).trans (Q.blk_S _ g p u).symm) (fun _ _ => rfl) (fun _ _ => rfl) (fun _ _ => rfl)
      (iblk_0 I _) (iblk_1 I _) (iblk_2 I _) (iblk_3 I _) (iblk_4 I _) (iblk_5 I _) (iblk_6 I _)
  | n + 1, hn => by
    have h64 : n + 1 < 64 := hn
    refine outs_B (Q.blk (ce (n + 1))) (Q.blk (co (n + 1))) ⟨n + 1, hn⟩ (by simp only []; omega) ?_
      (fun g p u => (Q.blk_Sn _ g (co (n + 1)) (by simp only [ce, co]; omega) p u).trans (Q.blk_S _ g p u).symm)
      (fun _ _ => rfl) (fun _ _ => rfl) (fun _ _ => rfl)
      (iblk_0 I _) (iblk_1 I _) (iblk_2 I _) (iblk_3 I _) (iblk_4 I _) (iblk_5 I _) (iblk_6 I _)
    have e := congrArg (fun o => o.2.2) (outs_eq n (Nat.lt_of_succ_lt hn))
    refine Eq.trans e (congrArg up3 (funext fun g => funext fun p => funext fun u => ?_))
    exact (Q.blk_Sn _ g (ce (n + 1)) (by simp only [ce, co]; omega) p u).trans (Q.blk_S _ g p u).symm

/-- The output array. -/
theorem arr_7 : (dats m 0 c).arrAt 7 cfg0.N = (up3 (φ := .f32) Q.y : FVec Ideal S8x16384x256 .f32) := by
  refine (dats m 0 c).arrAt_eq_of_covers 7 _ (by decide +kernel) fun t hf y => ?_
  have e0 : ((((cfg0.win 7).blk t).view.emb y) 0 : ℕ) = (y 0).val := by blk_simp [ix_7]
  have e1 : ((((cfg0.win 7).blk t).view.emb y) 1 : ℕ) = t.val * 256 + (y 1).val := by blk_simp [ix_7]
  have e2 : ((((cfg0.win 7).blk t).view.emb y) 2 : ℕ) = (y 2).val := by blk_simp [ix_7]
  blk_simp
  rw [after0_7, outs_eq I t.val t.isLt]
  have key (g : Fin 8) (u : Fin 16384) (p : Fin 256) (r : Fin 256) (hu : u.val = t.val * 256 + r.val) (g' : Fin 8) (p' : Fin 256)
      (hg : g.val = g'.val) (hp : p.val = p'.val) :
      half (fun l => (Q.blk (ce t.val)).y g' l p') (fun l => (Q.blk (co t.val)).y g' l p') r = Q.y g u p := by
    obtain rfl : g = g' := Fin.ext hg
    obtain rfl : p = p' := Fin.ext hp
    refine Eq.trans ?_ (half_st (fun u => Q.y g u p) t.val (lt_64 t) r u hu)
    exact congrArg₂ (fun f f' => half f f' r) (funext fun l => Q.blk_y _ g l p) (funext fun l => Q.blk_y _ g l p)
  exact congrArg (fun x : ℝ => (x : EReal)) (key _ _ _ (y 1) e1 (y 0) (y 2) e0 e2)
/-- The array of the chunks' starting states. -/
theorem arr_8 : (dats m 0 c).arrAt 8 cfg0.N = (up4 (φ := .f32) Q.S : FVec Ideal S128x8x256x128 .f32) := by
  refine (dats m 0 c).arrAt_eq_of_covers 8 _ (by decide +kernel) fun t hf y => ?_
  have h64 := lt_64 t
  have e0 : ((((cfg0.win 8).blk t).view.emb y) 0 : ℕ) = t.val * 2 + (y 0).val := by blk_simp [ix_8]
  have e1 : ((((cfg0.win 8).blk t).view.emb y) 1 : ℕ) = (y 1).val := by blk_simp [ix_8]
  have e2 : ((((cfg0.win 8).blk t).view.emb y) 2 : ℕ) = (y 2).val := by blk_simp [ix_8]
  have e3 : ((((cfg0.win 8).blk t).view.emb y) 3 : ℕ) = (y 3).val := by blk_simp [ix_8]
  blk_simp
  rw [after0_8, outs_eq I t.val t.isLt]
  have key (k : Fin 128) (g : Fin 8) (p : Fin 256) (u : Fin 128) (j : ℕ) (hj : j < 2) (hk : k.val = t.val * 2 + j) (g' : Fin 8) (p' : Fin 256) (u' : Fin 128)
      (hg : g.val = g'.val) (hp : p.val = p'.val) (hu : u.val = u'.val) :
      (if j = 0 then (Q.blk (ce t.val)).S g' p' u' else (Q.blk (ce t.val)).Sn g' p' u') = Q.S k g p u := by
    obtain rfl : g = g' := Fin.ext hg
    obtain rfl : p = p' := Fin.ext hp
    obtain rfl : u = u' := Fin.ext hu
    split
    · rw [Q.blk_S]
      exact congrArg (fun k => Q.S k g p u) (Fin.ext (by simp only [ce]; omega))
    · exact Q.blk_Sn _ g k (by simp only [ce]; omega) p u
  exact congrArg (fun x : ℝ => (x : EReal)) (key _ _ _ _ (y 0).val (y 0).isLt e0 (y 1) (y 2) (y 3) e1 e2 e3)

end Cert.FwdGrid

end
-- ==== Proof.FwdRef.lean ====
/- The reference of the forward scan over finite values: its output and its states are the sequence's. -/
module

public import proofs.«01_k».proof.Proof.Gen.FwdReferenceIdeal.Read
public import proofs.«01_k».proof.Proof.RefA
public import proofs.«01_k».proof.Proof.FwdSeq

@[expose] public section

set_option maxRecDepth 16384

noncomputable section

namespace Cert.FwdRef

open Idealize.ShloMosaic Idealize.ShloMosaic.TcCoe Idealize.SL.Sem Cert.FwdReferenceIdeal Cert.FwdReferenceIdeal.Gen
open Cert.FwdReferenceIdeal.Read Cert.Lift
open Cert.Ref (A0 A1 A2 A3 A4 A5 A6)

variable (Q : Sq)

theorem s0 : val_main_v0 (F := Ideal) (A0 Q) = up4 (φ := .f32) fun g t r q => Q.X g t (ln r q) := Ref.r0 Q.X
theorem s28 : val_main_v28 (F := Ideal) (A0 Q) (A3 Q) (A4 Q) = up4 (φ := .f32) fun g t r q => Q.xd g t (ln r q) := by
  have e : val_main_v28 (F := Ideal) (A0 Q) (A3 Q) (A4 Q) = Cert.ReferenceIdeal.Read.val_main_v28 (F := Ideal) (A0 Q) (A3 Q) (A4 Q) := rfl
  exact e.trans (Ref.r28 Q)
theorem s31 : val_main_v31 (F := Ideal) (A1 Q) (A2 Q) (A3 Q) (A4 Q) (A5 Q) = up4 (φ := .f32) fun g r t s => Q.cb g t s * Q.L r g t s := by
  have e : val_main_v31 (F := Ideal) (A1 Q) (A2 Q) (A3 Q) (A4 Q) (A5 Q)
      = Cert.ReferenceIdeal.Read.val_main_v31 (F := Ideal) (A1 Q) (A2 Q) (A3 Q) (A4 Q) (A5 Q) := rfl
  exact e.trans (Ref.r31 Q)
theorem s33 : val_main_v33 (F := Ideal) (A0 Q) (A1 Q) (A2 Q) (A3 Q) (A4 Q) (A5 Q)
    = up4 (φ := .f32) fun g t r q => ∑ s, Q.cb g t s * Q.L r g t s * Q.xd g s (ln r q) := by
  unfold val_main_v33 val_main_v32
  rw [s28, s31]
  funext i
  pointwise [up4]
  simp only [← EReal.coe_mul, ← coe_sum]
  exact congrArg (fun x : ℝ => (x : EReal)) (Finset.sum_congr rfl fun s _ => mul_comm _ _)
theorem s36 : val_main_v36 (F := Ideal) (A0 Q) (A6 Q) = up4 (φ := .f32) fun g t r q => Q.X g t (ln r q) * Q.D (ix r g) := by
  unfold val_main_v36 val_main_v35 val_main_v34
  rw [s0]
  funext i
  pointwise [A6, up1, up4]
  refine Eq.trans ?_ (EReal.coe_mul _ _).symm
  exact congrArg (fun h => _ * ((Q.D h : ℝ) : EReal)) (Fin.ext (by simp only [ix]; omega))
theorem s38 : val_main_v38 (F := Ideal) (A0 Q) (A1 Q) (A2 Q) (A3 Q) (A4 Q) (A5 Q) (A6 Q) = up3 (φ := .f32) Q.y := by
  unfold val_main_v38 val_main_v37
  rw [s33, s36, addf_up4]
  have e : (up4 (φ := .f32) fun g t r q => (∑ s, Q.cb g t s * Q.L r g t s * Q.xd g s (ln r q)) + Q.X g t (ln r q) * Q.D (ix r g))
      = (up4 (φ := .f32) fun g t r q => Q.y g t (ln r q) : FVec Ideal S8x16384x4x64 .f32) := by
    simp only [Sq.y, hd_ln]
  rw [e]
  funext i
  pointwise [up3, up4]
  refine congrArg (fun p => ((Q.y (i 0) (i 1) p : ℝ) : EReal)) (Fin.ext ?_)
  simp only [ln]; omega
theorem s83 : val_main_v83 (F := Ideal) (A0 Q) (A1 Q) (A3 Q) (A4 Q) (A5 Q) = up4 (φ := .f32) fun k g p n => Q.S k g p n := by
  refine Eq.trans ?_ (Prelude.states_eq Q)
  rfl

end Cert.FwdRef

end
-- ==== Proof.FwdAgree.lean ====
/- The forward scan and its reference end with equal arrays. -/
module

public import proofs.«01_k».proof.Defs
public import proofs.«01_k».proof.Proof.Gen.FwdReferenceIdeal.Run
public import proofs.«01_k».proof.Proof.Gen.Pre_finite
public import proofs.«01_k».proof.Proof.Gen.FwdIdeal.Value
public import proofs.«01_k».proof.Proof.FwdGrid
public import proofs.«01_k».proof.Proof.FwdRef
public import proofs.«01_k».proof.Proof.Finite

@[expose] public section

set_option maxRecDepth 16384

noncomputable section

namespace Cert.FwdFinite

open Idealize.ShloMosaic Cert.Pre_finite Cert.Pre_finite.Gen Cert.Lift
open Cert.Finite (pt real_of up1_of up2_of up3_of)

variable (a0 : FVec Ideal S8x16384x256 .f32) (a1 a2 : FVec Ideal S8x16384x128 .f32) (a3 : FVec Ideal S16384x32 .f32)
  (a4 a5 a6 : FVec Ideal S32 .f32)

/-- The real numbers the arguments hold; the scan has no gradient coming in. -/
def seq : Sq := Finite.seq a0 a1 a2 a3 a4 a5 a6 (fun _ => 0)

/-- Arguments that the precondition holds of are a sequence of real numbers. -/
theorem of_pre (h : Cert.Pre_finite.fn (F := Ideal) a0 a1 a2 a3 a4 a5 a6 = fun _ => 1#1) :
    a0 = Ref.A0 (seq a0 a1 a2 a3 a4 a5 a6) ∧ a1 = Ref.A1 (seq a0 a1 a2 a3 a4 a5 a6) ∧ a2 = Ref.A2 (seq a0 a1 a2 a3 a4 a5 a6)
      ∧ a3 = Ref.A3 (seq a0 a1 a2 a3 a4 a5 a6) ∧ a4 = Ref.A4 (seq a0 a1 a2 a3 a4 a5 a6) ∧ a5 = Ref.A5 (seq a0 a1 a2 a3 a4 a5 a6)
      ∧ a6 = Ref.A6 (seq a0 a1 a2 a3 a4 a5 a6) := by
  have e := congrFun h pt
  dsimp only [fn, fn_part1, fn_part2] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨up3_of a0 (real_of a0 _ _ _ e0), up3_of a1 (real_of a1 _ _ _ e1), up3_of a2 (real_of a2 _ _ _ e2),
    up2_of a3 (real_of a3 _ _ _ e3), up1_of a4 (real_of a4 _ _ _ e4), up1_of a5 (real_of a5 _ _ _ e5), up1_of a6 (real_of a6 _ _ _ e6)⟩

end Cert.FwdFinite

namespace Cert.FwdRef

open Idealize.ShloMosaic Idealize.ShloMosaic.TcCoe Idealize.SL.Sem Cert.FwdReferenceIdeal Cert.FwdReferenceIdeal.Gen
open Cert.FwdReferenceIdeal.Read Cert.Lift
open Cert.Ref (A0 A1 A2 A3 A4 A5 A6)

variable (Q : Sq) {a0 : FVec Ideal S8x16384x256 .f32} {a1 a2 : FVec Ideal S8x16384x128 .f32} {a3 : FVec Ideal S16384x32 .f32}
  {a4 a5 a6 : FVec Ideal S32 .f32}

theorem at38 (h0 : a0 = A0 Q) (h1 : a1 = A1 Q) (h2 : a2 = A2 Q) (h3 : a3 = A3 Q) (h4 : a4 = A4 Q) (h5 : a5 = A5 Q) (h6 : a6 = A6 Q) :
    val_main_v38 (F := Ideal) a0 a1 a2 a3 a4 a5 a6 = (up3 (φ := .f32) Q.y : FVec Ideal S8x16384x256 .f32) := by
  subst h0 h1 h2 h3 h4 h5 h6
  exact s38 Q
theorem at83 (h0 : a0 = A0 Q) (h1 : a1 = A1 Q) (h3 : a3 = A3 Q) (h4 : a4 = A4 Q) (h5 : a5 = A5 Q) :
    val_main_v83 (F := Ideal) a0 a1 a3 a4 a5 = (up4 (φ := .f32) Q.S : FVec Ideal S128x8x256x128 .f32) := by
  subst h0 h1 h3 h4 h5
  exact s83 Q

end Cert.FwdRef

namespace Cert.FwdAgree

open Idealize.ShloMosaic Idealize.ShloMosaic.TcCoe Idealize.SL.Sem Cert.Lift

/-- The real numbers the arguments of the call hold on a device. -/
def seq (m : (ℓ : Loc Cert.FwdIdeal.nD Cert.FwdIdeal.τ Cert.FwdIdeal.sig) → Buf (Elt Ideal) ℓ) (c : Dev Cert.FwdIdeal.nD) : Sq :=
  FwdFinite.seq (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6))

/-- Over the reals, the call and its reference end with equal arrays. -/
theorem agree : Cert.algebraic_FwdIdeal_FwdReferenceIdeal_pre_finite (hFwdIdeal := Cert.FwdIdeal.Gen.facts)
    (hFwdReferenceIdeal := Cert.FwdReferenceIdeal.Gen.facts) (hPre_finite := Cert.Pre_finite.Gen.facts) := by
  intro m g m' g' hp hm
  have hq := fun c => FwdFinite.of_pre _ _ _ _ _ _ _ (hp c)
  refine ⟨fun c => ((up3 (φ := .f32) (seq m c).y) : FVec Ideal Cert.FwdIdeal.S8x16384x256 .f32),
    fun c => ((up4 (φ := .f32) (seq m c).S) : FVec Ideal Cert.FwdIdeal.S128x8x256x128 .f32), ?_, ?_⟩
  · refine (θ_run _ _ _).mono (fun r h c => ?_) (Cert.FwdIdeal.Value.run_blocks (F := Ideal) m g)
    obtain ⟨k0, k1, rest⟩ := h c
    obtain ⟨q0, q1, q2, q3, q4, q5, q6⟩ := hq c
    have I := FwdGrid.inputs_of m c (seq m c) q0 q1 q2 q3 q4 q5 q6
    exact ⟨k0.trans (FwdGrid.arr_7 I), k1.trans (FwdGrid.arr_8 I), rest⟩
  · refine (θ_run _ _ _).mono (fun r h c => ?_) (Cert.FwdReferenceIdeal.Value.run (F := Ideal) m' g')
    obtain ⟨k0, k1, rest⟩ := h c
    obtain ⟨q0, q1, q2, q3, q4, q5, q6⟩ := hq c
    obtain ⟨e0, e1, e2, e3, e4, e5, e6⟩ := hm c
    exact ⟨k0.trans ((Cert.FwdReferenceIdeal.Read.val_main_v38_eq _ _).trans (FwdRef.at38 (seq m c) (e0.trans q0) (e1.trans q1) (e2.trans q2) (e3.trans q3) (e4.trans q4) (e5.trans q5) (e6.trans q6))),
      k1.trans ((Cert.FwdReferenceIdeal.Read.val_main_v83_eq _ _).trans (FwdRef.at83 (seq m c) (e0.trans q0) (e1.trans q1) (e3.trans q3) (e4.trans q4) (e5.trans q5))), rest⟩

end Cert.FwdAgree

end
-- ==== Proof.AdamIn.lean ====
/- The optimiser's step of an in-projection's weights, at one device's part. -/
module

public import proofs.«01_k».proof.Defs
public import proofs.«01_k».proof.Proof.Gen.AdamInIdeal.Value
public import proofs.«01_k».proof.Proof.Gen.AdamInReferenceIdeal.Run
public import proofs.«01_k».proof.Proof.Gen.AdamInReferenceIdeal.Read

@[expose] public section

noncomputable section

namespace Cert.AdamIn

open Idealize.ShloMosaic Idealize.ShloMosaic.TcCoe Idealize.SL.Sem Cert.AdamInReferenceIdeal.Read

/-- Over the reals, the call and its reference end with equal arrays. -/
theorem agree : Cert.algebraic_AdamInIdeal_AdamInReferenceIdeal (hAdamInIdeal := Cert.AdamInIdeal.Gen.facts)
    (hAdamInReferenceIdeal := Cert.AdamInReferenceIdeal.Gen.facts) := by
  intro m g m' g' _ hm
  refine ⟨_, _, _, Cert.AdamInIdeal.Value.run (F := Ideal) m g, ?_⟩
  refine (θ_run _ _ _).mono (fun r h c => ?_) (Cert.AdamInReferenceIdeal.Value.run (F := Ideal) m' g')
  obtain ⟨k0, k1, k2, rest⟩ := h c
  obtain ⟨e0, e1, e2, e3⟩ := hm c
  refine ⟨k0.trans ?_, k1.trans ?_, k2.trans ?_, rest⟩
  · refine (val_main_v23_eq _ _ _ _).trans ?_
    rw [e0, e1, e2, e3]
    exact funext fun i => rfl
  · refine (val_main_v4_eq _ _).trans ?_
    rw [e1, e2]
    exact funext fun i => rfl
  · refine (val_main_v10_eq _ _).trans ?_
    rw [e1, e3]
    exact funext fun i => rfl

end Cert.AdamIn

end
-- ==== Proof.AdamOut.lean ====
/- The optimiser's step of an out-projection's weights, at one device's part. -/
module

public import proofs.«01_k».proof.Defs
public import proofs.«01_k».proof.Proof.Gen.AdamOutIdeal.Value
public import proofs.«01_k».proof.Proof.Gen.AdamOutReferenceIdeal.Run
public import proofs.«01_k».proof.Proof.Gen.AdamOutReferenceIdeal.Read

@[expose] public section

noncomputable section

namespace Cert.AdamOut

open Idealize.ShloMosaic Idealize.ShloMosaic.TcCoe Idealize.SL.Sem Cert.AdamOutReferenceIdeal.Read

/-- Over the reals, the call and its reference end with equal arrays. -/
theorem agree : Cert.algebraic_AdamOutIdeal_AdamOutReferenceIdeal (hAdamOutIdeal := Cert.AdamOutIdeal.Gen.facts)
    (hAdamOutReferenceIdeal := Cert.AdamOutReferenceIdeal.Gen.facts) := by
  intro m g m' g' _ hm
  refine ⟨_, _, _, Cert.AdamOutIdeal.Value.run (F := Ideal) m g, ?_⟩
  refine (θ_run _ _ _).mono (fun r h c => ?_) (Cert.AdamOutReferenceIdeal.Value.run (F := Ideal) m' g')
  obtain ⟨k0, k1, k2, rest⟩ := h c
  obtain ⟨e0, e1, e2, e3⟩ := hm c
  refine ⟨k0.trans ?_, k1.trans ?_, k2.trans ?_, rest⟩
  · refine (val_main_v23_eq _ _ _ _).trans ?_
    rw [e0, e1, e2, e3]
    exact funext fun i => rfl
  · refine (val_main_v4_eq _ _).trans ?_
    rw [e1, e2]
    exact funext fun i => rfl
  · refine (val_main_v10_eq _ _).trans ?_
    rw [e1, e3]
    exact funext fun i => rfl

end Cert.AdamOut

end
-- ==== Proof.AdamSmall.lean ====
/- The optimiser's step of the small weights, packed together. -/
module

public import proofs.«01_k».proof.Defs
public import proofs.«01_k».proof.Proof.Gen.AdamSmallIdeal.Value
public import proofs.«01_k».proof.Proof.Gen.AdamSmallReferenceIdeal.Run
public import proofs.«01_k».proof.Proof.Gen.AdamSmallReferenceIdeal.Read

@[expose] public section

noncomputable section

namespace Cert.AdamSmall

open Idealize.ShloMosaic Idealize.ShloMosaic.TcCoe Idealize.SL.Sem Cert.AdamSmallReferenceIdeal.Read

/-- Over the reals, the call and its reference end with equal arrays. -/
theorem agree : Cert.algebraic_AdamSmallIdeal_AdamSmallReferenceIdeal (hAdamSmallIdeal := Cert.AdamSmallIdeal.Gen.facts)
    (hAdamSmallReferenceIdeal := Cert.AdamSmallReferenceIdeal.Gen.facts) := by
  intro m g m' g' _ hm
  refine ⟨_, _, _, Cert.AdamSmallIdeal.Value.run (F := Ideal) m g, ?_⟩
  refine (θ_run _ _ _).mono (fun r h c => ?_) (Cert.AdamSmallReferenceIdeal.Value.run (F := Ideal) m' g')
  obtain ⟨k0, k1, k2, rest⟩ := h c
  obtain ⟨e0, e1, e2, e3⟩ := hm c
  refine ⟨k0.trans ?_, k1.trans ?_, k2.trans ?_, rest⟩
  · refine (val_main_v23_eq _ _ _ _).trans ?_
    rw [e0, e1, e2, e3]
    exact funext fun i => rfl
  · refine (val_main_v4_eq _ _).trans ?_
    rw [e1, e2]
    exact funext fun i => rfl
  · refine (val_main_v10_eq _ _).trans ?_
    rw [e1, e3]
    exact funext fun i => rfl

end Cert.AdamSmall

end
-- ==== Proof.Norm.lean ====
/- The gradient of the first norm: of its operand and of its weights. -/
module

public import Idealize.ShloMosaic.Lib.Pointwise
public import Idealize.ShloMosaic.Lib.Tactic
public import Idealize.ShloMosaic.Lib.Pipeline.ValueKit
public import proofs.«01_k».proof.Defs
public import proofs.«01_k».proof.Proof.Tokens
public import proofs.«01_k».proof.Proof.Gen.NormIdeal.Value
public import proofs.«01_k».proof.Proof.Gen.NormReferenceIdeal.Run
public import proofs.«01_k».proof.Proof.Gen.NormReferenceIdeal.Read

@[expose] public section

set_option maxRecDepth 16384

noncomputable section

namespace Cert.RmsBwd

open Idealize.ShloMosaic Idealize.ShloMosaic.TcCoe Idealize.SL.Sem Cert.NormIdeal Cert.NormIdeal.Gen Cert.Tokens
open Idealize.ShloMosaic.Pipeline (Dat)

/-- The mean of a row's squares, with the small number added. -/
def ms (x : Fin 1024 → EReal) : EReal :=
  Ideal.div (∑ k, x k * x k) (Ideal.ofBits .f32 0x44800000#32) + Ideal.ofBits .f32 0x358637BD#32
/-- The factor a row is scaled by. -/
def rs (x : Fin 1024 → EReal) : EReal := Ideal.rsqrt (ms x)
/-- Half the gradient with respect to the sum of a row's squares, summed over a unit axis. -/
def slope (x w h : Fin 1024 → EReal) : EReal :=
  ∑ _ : Fin 1, Ideal.div ((∑ k, x k * (h k * w k)) * (Ideal.ofBits .f32 0xBF000000#32 * Ideal.div (rs x) (ms x)))
    (Ideal.ofBits .f32 0x44800000#32)
/-- One entry of the gradient of a row: what comes past the norm, and what comes through it. -/
def dx (x w h : Fin 1024 → EReal) (xj wj hj r : EReal) : EReal :=
  r + hj * wj * rs x + xj * slope x w h + slope x w h * xj

/-- The gradient of the operand. -/
def dxs (x r h : FVec Ideal S16384x1024 .f32) (w : FVec Ideal S1x1024 .f32) : FVec Ideal S16384x1024 .f32 :=
  fun i => dx (fun k => x (ValueIdx.ix2 (i 0) k)) (fun k => w (ValueIdx.ix2 0 k)) (fun k => h (ValueIdx.ix2 (i 0) k)) (x i) (w (ValueIdx.ix2 0 (i 1))) (h i) (r i)
/-- What a token adds to the gradient of the weights. -/
def term (x h : FVec Ideal S16384x1024 .f32) (j : Fin 1024) (k : Fin 16384) : EReal :=
  x (ValueIdx.ix2 k j) * rs (fun l => x (ValueIdx.ix2 k l)) * h (ValueIdx.ix2 k j)
/-- The gradient of the weights. -/
def dws (x h : FVec Ideal S16384x1024 .f32) : FVec Ideal S1x1024 .f32 := fun i => ∑ k : Fin 16384, term x h (i 1) k

/-! ### One grid point -/

theorem pay_3 (x : Vec Ideal S512x1024 .f32) (i : S512x1.Idx) :
    k0_pay3 (F := Ideal) x i = ms (fun k => x (ValueIdx.ix2 (i 0) k)) := by
  unfold k0_pay3
  pointwise
  rfl
theorem pay_4 (x : Vec Ideal S512x1024 .f32) (i : S512x1.Idx) :
    k0_pay4 (F := Ideal) x i = rs (fun k => x (ValueIdx.ix2 (i 0) k)) := by
  refine Eq.trans ?_ (congrArg Ideal.rsqrt (pay_3 x i))
  unfold k0_pay4
  generalize k0_pay3 (F := Ideal) x = v
  pointwise
theorem pay_5 (x h : Vec Ideal S512x1024 .f32) (i : S1x1024.Idx) :
    k0_pay5 (F := Ideal) x h i
      = ∑ k : Fin 512, x (ValueIdx.ix2 k (i 1)) * rs (fun l => x (ValueIdx.ix2 k l)) * h (ValueIdx.ix2 k (i 1)) := by
  refine Eq.trans ?_ (Finset.sum_congr rfl fun k _ => congrArg (fun v => _ * v * _) (pay_4 x (ValueIdx.ix2 k 0)))
  unfold k0_pay5
  generalize k0_pay4 (F := Ideal) x = v
  pointwise
  rfl
theorem pay_6 (x r h : Vec Ideal S512x1024 .f32) (w : Vec Ideal S1x1024 .f32) (i : S512x1024.Idx) :
    k0_pay6 (F := Ideal) x w r h i
      = dx (fun k => x (ValueIdx.ix2 (i 0) k)) (fun k => w (ValueIdx.ix2 0 k)) (fun k => h (ValueIdx.ix2 (i 0) k)) (x i) (w (ValueIdx.ix2 0 (i 1))) (h i) (r i) := by
  unfold k0_pay6
  pointwise
  simp only [pay_3, pay_4]
  rfl
theorem pay_1 (i : S1x1024.Idx) : k0_pay1 (F := Ideal) i = 0 := by
  unfold k0_pay1
  pointwise
theorem pay_2 (u z : Vec Ideal S1x1024 .f32) (i : S1x1024.Idx) : k0_pay2 (F := Ideal) u z i = z i + u i := by
  unfold k0_pay2
  pointwise

theorem hz : (![0, 0] : Fin 2 → Nat) = fun _ => 0 := funext fun a => by fin_cases a <;> rfl

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole)
  (x0 : Vec Ideal S512x1024 .f32) (x1 : Vec Ideal S1x1024 .f32) (x2 x3 : Vec Ideal S512x1024 .f32) (z : Vec Ideal S1x1024 .f32)

theorem dx_A (hc0 : cond0_0 i) :
    out0_A_4 (F := Ideal) c i arg1 harg1 arg2 harg2 arg3 harg3 arg4 harg4 arg5 harg5 arg6 harg6 hc0 x0 x1 x2 x3 = k0_pay6 x0 x1 x2 x3 := by
  unfold out0_A_4
  rw [View.read_writes_eq_canon _ _ _ (cover0_A_4 (F := Ideal) c i arg1 harg1 arg2 harg2 arg3 harg3 arg4 harg4 arg5 harg5 arg6 harg6 hc0 x0 x1 x2 x3)]
  unfold kernelRun0_A
  dsimp only
  sl_unfold_words
  rw [View.canon_unit_zero hz]
  simp only [View.readAt_eq_ld, View.readCov_unit_zero (S := S1x1024) _ hz, harg1.read_unread, harg2.read_unread, harg3.read_unread, harg4.read_unread, harg6.read_unread, View.ld_unit_zero (S := S512x1024) hz, View.ld_unit_zero (S := S1x1024) hz]
theorem dw_A (hc0 : cond0_0 i) :
    out0_A_5 (F := Ideal) c i arg1 harg1 arg2 harg2 arg3 harg3 arg4 harg4 arg5 harg5 arg6 harg6 hc0 x0 x1 x2 x3 = k0_pay2 (k0_pay5 x0 x3) (k0_pay1 (F := Ideal)) := by
  unfold out0_A_5
  rw [View.read_writes_eq_canon _ _ _ (cover0_A_5 (F := Ideal) c i arg1 harg1 arg2 harg2 arg3 harg3 arg4 harg4 arg5 harg5 arg6 harg6 hc0 x0 x1 x2 x3)]
  unfold kernelRun0_A
  dsimp only
  sl_unfold_words
  rw [View.canon_cons_unit_zero hz]
  simp only [View.readAt_eq_ld, View.readCov_unit_zero (S := S1x1024) _ hz, harg1.read_unread, harg2.read_unread, harg3.read_unread, harg4.read_unread, harg6.read_unread, View.ld_unit_zero (S := S512x1024) hz, View.ld_unit_zero (S := S1x1024) hz]
theorem dx_B (hc0 : ¬cond0_0 i) :
    out0_B_4 (F := Ideal) c i arg1 harg1 arg2 harg2 arg3 harg3 arg4 harg4 arg5 harg5 arg6 harg6 hc0 x0 x1 x2 x3 z = k0_pay6 x0 x1 x2 x3 := by
  unfold out0_B_4
  rw [View.read_writes_eq_canon _ _ _ (cover0_B_4 (F := Ideal) c i arg1 harg1 arg2 harg2 arg3 harg3 arg4 harg4 arg5 harg5 arg6 harg6 hc0 x0 x1 x2 x3 z)]
  unfold kernelRun0_B
  dsimp only
  sl_unfold_words
  rw [View.canon_unit_zero hz]
  simp only [View.readAt_eq_ld, View.readCov_unit_zero (S := S1x1024) _ hz, harg1.read_unread, harg2.read_unread, harg3.read_unread, harg4.read_unread, harg6.read_unread, View.ld_unit_zero (S := S512x1024) hz, View.ld_unit_zero (S := S1x1024) hz]
theorem dw_B (hc0 : ¬cond0_0 i) :
    out0_B_5 (F := Ideal) c i arg1 harg1 arg2 harg2 arg3 harg3 arg4 harg4 arg5 harg5 arg6 harg6 hc0 x0 x1 x2 x3 z = k0_pay2 (k0_pay5 x0 x3) z := by
  unfold out0_B_5
  rw [View.read_writes_eq_canon _ _ _ (cover0_B_5 (F := Ideal) c i arg1 harg1 arg2 harg2 arg3 harg3 arg4 harg4 arg5 harg5 arg6 harg6 hc0 x0 x1 x2 x3 z)]
  unfold kernelRun0_B
  dsimp only
  sl_unfold_words
  rw [View.canon_unit_zero hz]
  simp only [View.readAt_eq_ld, View.readCov_unit_zero (S := S1x1024) _ hz, harg1.read_unread, harg2.read_unread, harg3.read_unread, harg4.read_unread, harg6.read_unread, View.ld_unit_zero (S := S512x1024) hz, View.ld_unit_zero (S := S1x1024) hz]
end

/-! ### The points -/

theorem ix_0 : ∀ t : Fin cfg0.N, win0_0.index t = ![t.val, 0] := by decide +kernel
theorem ix_1 : ∀ t : Fin cfg0.N, win0_1.index t = ![0, 0] := by decide +kernel
theorem ix_2 : ∀ t : Fin cfg0.N, win0_2.index t = ![t.val, 0] := by decide +kernel
theorem ix_3 : ∀ t : Fin cfg0.N, win0_3.index t = ![t.val, 0] := by decide +kernel
theorem ix_4 : ∀ t : Fin cfg0.N, win0_4.index t = ![t.val, 0] := by decide +kernel
theorem ix_5 : ∀ t : Fin cfg0.N, win0_5.index t = ![0, 0] := by decide +kernel
theorem flush_5 : ∀ t : Fin cfg0.N, (cfg0.win 5).flush t = true → t.val = 31 := by decide +kernel

variable (m : (ℓ : Loc nD τ sig) → Buf (Elt Ideal) ℓ) (c : Dev nD)

theorem blk_0 (t : Fin cfg0.N) (y : S512x1024.Idx) :
    iblk m c 0 t y = m ((c : Thread nD τ).loc main_arg0) (ValueIdx.ix2 (tok (t.val * 512 + (y 0).val)) (y 1)) := by
  have h0 : (y 0).val < 512 := (y 0).isLt
  have hN : t.val < 32 := t.isLt
  show V m c (Pipeline.arrRef spec0 0) _ = _
  refine (congrFun (V_main_arg0 m c) _).trans (congrArg (m ((c : Thread nD τ).loc main_arg0)) (funext fun a => Fin.ext ?_))
  fin_cases a
  · refine Eq.trans (b := t.val * 512 + (y 0).val) (by blk_simp [ix_0] <;> rfl) ?_
    exact (Nat.mod_eq_of_lt (by omega)).symm
  · refine Eq.trans (b := (y 1).val) (by blk_simp [ix_0] <;> rfl) ?_
    rfl
theorem blk_2 (t : Fin cfg0.N) (y : S512x1024.Idx) :
    iblk m c 2 t y = m ((c : Thread nD τ).loc main_arg2) (ValueIdx.ix2 (tok (t.val * 512 + (y 0).val)) (y 1)) := by
  have h0 : (y 0).val < 512 := (y 0).isLt
  have hN : t.val < 32 := t.isLt
  show V m c (Pipeline.arrRef spec0 2) _ = _
  refine (congrFun (V_main_arg2 m c) _).trans (congrArg (m ((c : Thread nD τ).loc main_arg2)) (funext fun a => Fin.ext ?_))
  fin_cases a
  · refine Eq.trans (b := t.val * 512 + (y 0).val) (by blk_simp [ix_2] <;> rfl) ?_
    exact (Nat.mod_eq_of_lt (by omega)).symm
  · refine Eq.trans (b := (y 1).val) (by blk_simp [ix_2] <;> rfl) ?_
    rfl
theorem blk_3 (t : Fin cfg0.N) (y : S512x1024.Idx) :
    iblk m c 3 t y = m ((c : Thread nD τ).loc main_arg3) (ValueIdx.ix2 (tok (t.val * 512 + (y 0).val)) (y 1)) := by
  have h0 : (y 0).val < 512 := (y 0).isLt
  have hN : t.val < 32 := t.isLt
  show V m c (Pipeline.arrRef spec0 3) _ = _
  refine (congrFun (V_main_arg3 m c) _).trans (congrArg (m ((c : Thread nD τ).loc main_arg3)) (funext fun a => Fin.ext ?_))
  fin_cases a
  · refine Eq.trans (b := t.val * 512 + (y 0).val) (by blk_simp [ix_3] <;> rfl) ?_
    exact (Nat.mod_eq_of_lt (by omega)).symm
  · refine Eq.trans (b := (y 1).val) (by blk_simp [ix_3] <;> rfl) ?_
    rfl
theorem blk_1 (t : Fin cfg0.N) (j : Fin 1024) :
    iblk m c 1 t (ValueIdx.ix2 0 j) = m ((c : Thread nD τ).loc main_arg1) (ValueIdx.ix2 0 j) := by
  show V m c (Pipeline.arrRef spec0 1) _ = _
  refine (congrFun (V_main_arg1 m c) _).trans (congrArg (m ((c : Thread nD τ).loc main_arg1)) (funext fun a => Fin.ext ?_))
  fin_cases a
  · refine Eq.trans (b := 0) (by blk_simp [ix_1]) ?_
    rfl
  · refine Eq.trans (b := j.val) (by blk_simp [ix_1] <;> rfl) ?_
    rfl

/-- What the point `n` adds to the gradient of the weights: the terms of its block of tokens. -/
def part (x h : FVec Ideal S16384x1024 .f32) (n : ℕ) (y : S1x1024.Idx) : EReal :=
  ∑ k : Fin 512, term x h (y 1) (tok (n * 512 + k.val))

theorem part_eq (t : Fin cfg0.N) (y : S1x1024.Idx) :
    k0_pay5 (F := Ideal) (iblk m c 0 t) (iblk m c 3 t) y
      = part (m ((c : Thread nD τ).loc main_arg0)) (m ((c : Thread nD τ).loc main_arg3)) t.val y := by
  refine (pay_5 _ _ _).trans ?_
  unfold part
  refine Finset.sum_congr rfl fun k _ => ?_
  refine congrArg₂ (· * ·) (congrArg₂ (· * ·) (blk_0 m c t _) (congrArg rs (funext fun l => blk_0 m c t _))) (blk_3 m c t _)

/-- The running sum of the gradient of the weights. -/
theorem acc (y : S1x1024.Idx) : ∀ (n : ℕ) (h : n < cfg0.N),
    (outsAt0 m c n h).2 y
      = ∑ s ∈ Finset.range (n + 1), part (m ((c : Thread nD τ).loc main_arg0)) (m ((c : Thread nD τ).loc main_arg3)) s y
  | 0, h => by
    rw [Finset.sum_range_one]
    have e := outsAt0_A m c ⟨0, h⟩ (by show 0 % 32 = 0; omega)
    refine (congrFun (congrArg Prod.snd e) y).trans ?_
    dsimp only
    rw [dw_A]
    exact (pay_2 _ _ y).trans ((congrArg₂ (· + ·) (pay_1 y) (part_eq m c _ y)).trans (zero_add _))
  | n + 1, h => by
    have hN : n + 1 < 32 := h
    rw [Finset.sum_range_succ, ← acc y n (by omega)]
    have e := outsAt0_B m c ⟨n + 1, h⟩ (by show ¬(n + 1) % 32 = 0; omega)
    refine (congrFun (congrArg Prod.snd e) y).trans ?_
    dsimp only
    rw [dw_B]
    exact (pay_2 _ _ y).trans (congrArg (_ + ·) (part_eq m c _ y))

/-- What every point leaves of the gradient of the operand. -/
theorem at_4 (t : Fin cfg0.N) :
    (outsAt0 m c t.val t.isLt).1 = k0_pay6 (iblk m c 0 t) (iblk m c 1 t) (iblk m c 2 t) (iblk m c 3 t) := by
  by_cases h0 : t.val % 32 = 0
  · refine (congrArg Prod.fst (outsAt0_A m c t h0)).trans ?_
    dsimp only
    exact dx_A ..
  · refine (congrArg Prod.fst (outsAt0_B m c t h0)).trans ?_
    dsimp only
    exact dx_B ..

theorem at_pay (t : Fin cfg0.N) (y : S512x1024.Idx) :
    k0_pay6 (F := Ideal) (iblk m c 0 t) (iblk m c 1 t) (iblk m c 2 t) (iblk m c 3 t) y
      = dxs (m ((c : Thread nD τ).loc main_arg0)) (m ((c : Thread nD τ).loc main_arg2)) (m ((c : Thread nD τ).loc main_arg3))
          (m ((c : Thread nD τ).loc main_arg1)) (ValueIdx.ix2 (tok (t.val * 512 + (y 0).val)) (y 1)) := by
  rw [pay_6]
  simp only [blk_0, blk_1, blk_2, blk_3]
  exact congrArg (fun v => dx _ _ _ _ v _ _) (blk_1 m c t (y 1))

/-- What the call leaves of the gradient of the operand. -/
theorem arr_4 : (dats m 0 c).arrAt 4 cfg0.N = dxs (m ((c : Thread nD τ).loc main_arg0)) (m ((c : Thread nD τ).loc main_arg2))
    (m ((c : Thread nD τ).loc main_arg3)) (m ((c : Thread nD τ).loc main_arg1)) := by
  refine (dats m 0 c).arrAt_eq_of_covers 4 _ (by decide +kernel) fun t hf y => ?_
  have h0 : (y 0).val < 512 := (y 0).isLt
  have hN : t.val < 32 := t.isLt
  have e0 : ((((cfg0.win 4).blk t).view.emb y) 0 : ℕ) = t.val * 512 + (y 0).val := by blk_simp [ix_4]
  have e1 : ((((cfg0.win 4).blk t).view.emb y) 1 : ℕ) = (y 1).val := by blk_simp [ix_4]
  have i0 : tok (t.val * 512 + (y 0).val) = (((cfg0.win 4).blk t).view.emb y) 0 :=
    Fin.ext ((Nat.mod_eq_of_lt (by omega)).trans e0.symm)
  have i1 : y 1 = (((cfg0.win 4).blk t).view.emb y) 1 := Fin.ext e1.symm
  blk_simp
  rw [after0_4, at_4]
  refine (at_pay m c t y).trans ?_
  have ey : ValueIdx.ix2 (tok (t.val * 512 + (y 0).val)) (y 1) = ((cfg0.win 4).blk t).view.emb y := funext fun a => by
    fin_cases a
    · exact i0
    · exact i1
  exact congrArg (dxs _ _ _ _) ey

/-- What the call leaves of the gradient of the weights. -/
theorem arr_5 : (dats m 0 c).arrAt 5 cfg0.N = dws (m ((c : Thread nD τ).loc main_arg0)) (m ((c : Thread nD τ).loc main_arg3)) := by
  refine (dats m 0 c).arrAt_eq_of_covers 5 _ (by decide +kernel) fun t hf y => ?_
  have e1 : ((((cfg0.win 5).blk t).view.emb y) 1 : ℕ) = (y 1).val := by blk_simp [ix_5]
  have i1 : y 1 = (((cfg0.win 5).blk t).view.emb y) 1 := Fin.ext e1.symm
  have ht := flush_5 t hf
  blk_simp
  rw [after0_5]
  refine (acc m c y t.val t.isLt).trans ?_
  rw [ht]
  unfold dws part
  rw [← i1]
  exact sum_tok (term _ _ (y 1)) 32 512 rfl

end Cert.RmsBwd

namespace Cert.RmsBwd.Ref

open Idealize.ShloMosaic Idealize.ShloMosaic.TcCoe Cert.NormReferenceIdeal Cert.NormReferenceIdeal.Read

theorem v6 (x : FVec Ideal S16384x1024 .f32) (i : S16384x1.Idx) :
    val_main_v6 (F := Ideal) x i = ms (fun k => x (ValueIdx.ix2 (i 0) k)) := by
  have e (k : Fin 1024) : idx_main_v1 (idx_main_v2 i) k = ValueIdx.ix2 (i 0) k := funext fun a => by fin_cases a <;> rfl
  rw [val_main_v6_apply, val_main_v4_apply, val_main_v5_apply, val_main_v2_apply, val_main_v1_apply, val_main_v3_apply]
  simp only [val_main_v0_apply, val_main_cst_apply, val_main_cst_0_apply, val_main_cst_1_apply, e]
  pointwise
  rfl
theorem v7 (x : FVec Ideal S16384x1024 .f32) (i : S16384x1.Idx) :
    val_main_v7 (F := Ideal) x i = rs (fun k => x (ValueIdx.ix2 (i 0) k)) := congrArg Ideal.rsqrt (v6 x i)
theorem v21 (h : FVec Ideal S16384x1024 .f32) (w : FVec Ideal S1x1024 .f32) (i : S16384x1024.Idx) :
    val_main_v21 (F := Ideal) w h i = h i * w (ValueIdx.ix2 0 (i 1)) := by
  have e : idx_main_v13 (idx_main_v14 (idx_main_v20 i)) = ValueIdx.ix2 0 (i 1) := funext fun a => by
    fin_cases a
    · rfl
    · exact Fin.ext (Nat.mod_eq_of_lt (i 1).isLt)
  rw [val_main_v21_apply, val_main_v20_apply, val_main_v14_apply, val_main_v13_apply, e]
  rfl
theorem v33 (x h : FVec Ideal S16384x1024 .f32) (w : FVec Ideal S1x1024 .f32) (i : S16384.Idx) :
    val_main_v33 (F := Ideal) x w h i
      = slope (fun k => x (ValueIdx.ix2 (i 0) k)) (fun k => w (ValueIdx.ix2 0 k)) (fun k => h (ValueIdx.ix2 (i 0) k)) := by
  have e (u : Fin 1) (k : Fin 1024) : idx_main_v25 (idx_main_v26 (idx_main_v33 i u)) k = ValueIdx.ix2 (i 0) k :=
    funext fun a => by
      fin_cases a
      · exact Fin.ext (by show (i 0).val * 1 + u.val = (i 0).val; omega)
      · rfl
  rw [val_main_v33_apply]
  simp only [val_main_v32_apply, val_main_v31_apply, val_main_v30_apply, val_main_v26_apply, val_main_v25_apply, val_main_v24_apply, val_main_v10_apply, val_main_v9_apply, val_main_v8_apply, v21, v7, v6, val_main_cst_7_apply, val_main_cst_6_apply, val_main_cst_5_apply, val_main_cst_2_apply]
  simp only [e]
  pointwise
  rfl

/-- What the reference computes for the operand. -/
theorem eq_4 (x r h : FVec Ideal S16384x1024 .f32) (w : FVec Ideal S1x1024 .f32) : val_main_v38 (F := Ideal) x w r h = dxs x r h w := by
  funext i
  simp only [val_main_v38_apply, val_main_v37_apply, val_main_v36_apply, val_main_v35_apply, val_main_v34_apply, val_main_v29_apply, val_main_v28_apply, val_main_v27_apply, v21, v33, v7]
  rfl
/-- What the reference computes for the weights. -/
theorem eq_5 (x h : FVec Ideal S16384x1024 .f32) : val_main_v23 (F := Ideal) x h = dws x h := by
  funext i
  have e (u : Fin 1) (k : Fin 16384) : idx_main_v18 (idx_main_v19 (idx_main_v22 (idx_main_v23 i) u)) k = ValueIdx.ix2 k (i 1) :=
    funext fun a => by
      fin_cases a
      · rfl
      · exact Fin.ext (by show u.val * 1024 + (i 1).val = (i 1).val; omega)
  rw [val_main_v23_apply, val_main_v22_apply]
  simp only [val_main_v19_apply, val_main_v18_apply, val_main_v17_apply, val_main_v12_apply, val_main_v11_apply, v7, val_main_cst_3_apply, val_main_cst_4_apply]
  simp only [e]
  pointwise
  refine (Fin.sum_univ_one _).trans ?_
  unfold dws term
  refine Finset.sum_congr rfl fun k _ => ?_
  rfl

end Cert.RmsBwd.Ref

namespace Cert.RmsBwd

open Idealize.ShloMosaic Idealize.ShloMosaic.TcCoe Idealize.SL.Sem

/-- Over the reals, the call and its reference end with equal arrays. -/
theorem agree : Cert.algebraic_NormIdeal_NormReferenceIdeal (hNormIdeal := Cert.NormIdeal.Gen.facts)
    (hNormReferenceIdeal := Cert.NormReferenceIdeal.Gen.facts) := by
  intro m g m' g' _ hm
  refine ⟨fun c => dxs (m ((c.tc : Thread Cert.NormIdeal.nD Cert.NormIdeal.τ).loc Cert.NormIdeal.main_arg0)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg1)),
    fun c => dws (m ((c.tc : Thread Cert.NormIdeal.nD Cert.NormIdeal.τ).loc Cert.NormIdeal.main_arg0)) (m ((c.tc : Thread Cert.NormIdeal.nD Cert.NormIdeal.τ).loc Cert.NormIdeal.main_arg3)), ?_, ?_⟩
  · refine (θ_run _ _ _).mono (fun r h c => ?_) (Cert.NormIdeal.Value.run_blocks (F := Ideal) m g)
    obtain ⟨k0, k1, rest⟩ := h c
    exact ⟨k0.trans (arr_4 m c), k1.trans (arr_5 m c), rest⟩
  · refine (θ_run _ _ _).mono (fun r h c => ?_) (Cert.NormReferenceIdeal.Value.run (F := Ideal) m' g')
    obtain ⟨k0, k1, rest⟩ := h c
    obtain ⟨e0, e1, e2, e3⟩ := hm c
    refine ⟨k0.trans ?_, k1.trans ?_, rest⟩
    · rw [Cert.NormReferenceIdeal.Read.val_main_v38_eq, e0, e1, e2, e3]
      exact Ref.eq_4 ..
    · rw [Cert.NormReferenceIdeal.Read.val_main_v23_eq, e0, e3]
      exact Ref.eq_5 ..

end Cert.RmsBwd

end
-- ==== Proof.lean ====
/- The gradient and forward calls of the state-space scan, the products of the two projections with their gradients, the
   gradient of the norms, and the optimiser: their frames, that the ideal readings keep every operation but the named mask,
   and that over the reals each call ends with the arrays of its reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_smooth
public import proofs.«01_k».proof.Proof.Gen.InDxZ
public import proofs.«01_k».proof.Proof.Gen.InDxZ.Skeleton
public import proofs.«01_k».proof.Proof.Gen.InDxZ.Launch
public import proofs.«01_k».proof.Proof.Gen.InDxZ.Points
public import proofs.«01_k».proof.Proof.Gen.InDxZ.Frame
public import proofs.«01_k».proof.Proof.Gen.InDxZIdeal
public import proofs.«01_k».proof.Proof.Gen.InDxZIdeal.Skeleton
public import proofs.«01_k».proof.Proof.Gen.InDxZIdeal.Launch
public import proofs.«01_k».proof.Proof.Gen.InDxZIdeal.Points
public import proofs.«01_k».proof.Proof.Gen.InDxZIdeal.Frame
public import proofs.«01_k».proof.Proof.Gen.InDxZIdeal.Value
public import proofs.«01_k».proof.Proof.Gen.InDxZReferenceIdeal
public import proofs.«01_k».proof.Proof.Gen.InDxZReferenceIdeal.Run
public import proofs.«01_k».proof.Proof.Gen.InDxZReferenceIdeal.Read
public import proofs.«01_k».proof.Proof.Gen.InDxXbc
public import proofs.«01_k».proof.Proof.Gen.InDxXbc.Skeleton
public import proofs.«01_k».proof.Proof.Gen.InDxXbc.Launch
public import proofs.«01_k».proof.Proof.Gen.InDxXbc.Points
public import proofs.«01_k».proof.Proof.Gen.InDxXbc.Frame
public import proofs.«01_k».proof.Proof.Gen.InDxXbcIdeal
public import proofs.«01_k».proof.Proof.Gen.InDxXbcIdeal.Skeleton
public import proofs.«01_k».proof.Proof.Gen.InDxXbcIdeal.Launch
public import proofs.«01_k».proof.Proof.Gen.InDxXbcIdeal.Points
public import proofs.«01_k».proof.Proof.Gen.InDxXbcIdeal.Frame
public import proofs.«01_k».proof.Proof.Gen.InDxXbcIdeal.Value
public import proofs.«01_k».proof.Proof.Gen.InDxXbcReferenceIdeal
public import proofs.«01_k».proof.Proof.Gen.InDxXbcReferenceIdeal.Run
public import proofs.«01_k».proof.Proof.Gen.InDxXbcReferenceIdeal.Read
public import proofs.«01_k».proof.Proof.Gen.GdnDxQkv
public import proofs.«01_k».proof.Proof.Gen.GdnDxQkv.Skeleton
public import proofs.«01_k».proof.Proof.Gen.GdnDxQkv.Launch
public import proofs.«01_k».proof.Proof.Gen.GdnDxQkv.Points
public import proofs.«01_k».proof.Proof.Gen.GdnDxQkv.Frame
public import proofs.«01_k».proof.Proof.Gen.GdnDxQkvIdeal
public import proofs.«01_k».proof.Proof.Gen.GdnDxQkvIdeal.Skeleton
public import proofs.«01_k».proof.Proof.Gen.GdnDxQkvIdeal.Launch
public import proofs.«01_k».proof.Proof.Gen.GdnDxQkvIdeal.Points
public import proofs.«01_k».proof.Proof.Gen.GdnDxQkvIdeal.Frame
public import proofs.«01_k».proof.Proof.Gen.GdnDxQkvIdeal.Value
public import proofs.«01_k».proof.Proof.Gen.GdnDxQkvReferenceIdeal
public import proofs.«01_k».proof.Proof.Gen.GdnDxQkvReferenceIdeal.Run
public import proofs.«01_k».proof.Proof.Gen.GdnDxQkvReferenceIdeal.Read
public import proofs.«01_k».proof.Proof.Gen.GdnDxZ
public import proofs.«01_k».proof.Proof.Gen.GdnDxZ.Skeleton
public import proofs.«01_k».proof.Proof.Gen.GdnDxZ.Launch
public import proofs.«01_k».proof.Proof.Gen.GdnDxZ.Points
public import proofs.«01_k».proof.Proof.Gen.GdnDxZ.Frame
public import proofs.«01_k».proof.Proof.Gen.GdnDxZIdeal
public import proofs.«01_k».proof.Proof.Gen.GdnDxZIdeal.Skeleton
public import proofs.«01_k».proof.Proof.Gen.GdnDxZIdeal.Launch
public import proofs.«01_k».proof.Proof.Gen.GdnDxZIdeal.Points
public import proofs.«01_k».proof.Proof.Gen.GdnDxZIdeal.Frame
public import proofs.«01_k».proof.Proof.Gen.GdnDxZIdeal.Value
public import proofs.«01_k».proof.Proof.Gen.GdnDxZReferenceIdeal
public import proofs.«01_k».proof.Proof.Gen.GdnDxZReferenceIdeal.Run
public import proofs.«01_k».proof.Proof.Gen.GdnDxZReferenceIdeal.Read
public import proofs.«01_k».proof.Proof.Gen.InDwXbc
public import proofs.«01_k».proof.Proof.Gen.InDwXbc.Skeleton
public import proofs.«01_k».proof.Proof.Gen.InDwXbc.Launch
public import proofs.«01_k».proof.Proof.Gen.InDwXbc.Points
public import proofs.«01_k».proof.Proof.Gen.InDwXbc.Frame
public import proofs.«01_k».proof.Proof.Gen.InDwXbcIdeal
public import proofs.«01_k».proof.Proof.Gen.InDwXbcIdeal.Skeleton
public import proofs.«01_k».proof.Proof.Gen.InDwXbcIdeal.Launch
public import proofs.«01_k».proof.Proof.Gen.InDwXbcIdeal.Points
public import proofs.«01_k».proof.Proof.Gen.InDwXbcIdeal.Frame
public import proofs.«01_k».proof.Proof.Gen.InDwXbcIdeal.Value
public import proofs.«01_k».proof.Proof.Gen.InDwXbcReferenceIdeal
public import proofs.«01_k».proof.Proof.Gen.InDwXbcReferenceIdeal.Run
public import proofs.«01_k».proof.Proof.Gen.InDwXbcReferenceIdeal.Read
public import proofs.«01_k».proof.Proof.Gen.InDwZ
public import proofs.«01_k».proof.Proof.Gen.InDwZ.Skeleton
public import proofs.«01_k».proof.Proof.Gen.InDwZ.Launch
public import proofs.«01_k».proof.Proof.Gen.InDwZ.Points
public import proofs.«01_k».proof.Proof.Gen.InDwZ.Frame
public import proofs.«01_k».proof.Proof.Gen.InDwZIdeal
public import proofs.«01_k».proof.Proof.Gen.InDwZIdeal.Skeleton
public import proofs.«01_k».proof.Proof.Gen.InDwZIdeal.Launch
public import proofs.«01_k».proof.Proof.Gen.InDwZIdeal.Points
public import proofs.«01_k».proof.Proof.Gen.InDwZIdeal.Frame
public import proofs.«01_k».proof.Proof.Gen.InDwZIdeal.Value
public import proofs.«01_k».proof.Proof.Gen.InDwZReferenceIdeal
public import proofs.«01_k».proof.Proof.Gen.InDwZReferenceIdeal.Run
public import proofs.«01_k».proof.Proof.Gen.InDwZReferenceIdeal.Read
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.OutDxReferenceIdeal
public import proofs.«01_k».proof.Proof.Gen.OutDxReferenceIdeal.Run
public import proofs.«01_k».proof.Proof.Gen.OutDxReferenceIdeal.Read
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwReferenceIdeal
public import proofs.«01_k».proof.Proof.Gen.OutDwReferenceIdeal.Run
public import proofs.«01_k».proof.Proof.Gen.OutDwReferenceIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.OutProjReferenceIdeal.Read
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdIdeal.Value
public import proofs.«01_k».proof.Proof.Gen.FwdReferenceIdeal
public import proofs.«01_k».proof.Proof.Gen.FwdReferenceIdeal.Run
public import proofs.«01_k».proof.Proof.Gen.FwdReferenceIdeal.Read
public import proofs.«01_k».proof.Proof.Gen.Pre_finite
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInReferenceIdeal
public import proofs.«01_k».proof.Proof.Gen.AdamInReferenceIdeal.Run
public import proofs.«01_k».proof.Proof.Gen.AdamInReferenceIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutReferenceIdeal
public import proofs.«01_k».proof.Proof.Gen.AdamOutReferenceIdeal.Run
public import proofs.«01_k».proof.Proof.Gen.AdamOutReferenceIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallReferenceIdeal
public import proofs.«01_k».proof.Proof.Gen.AdamSmallReferenceIdeal.Run
public import proofs.«01_k».proof.Proof.Gen.AdamSmallReferenceIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Agree
public import proofs.«01_k».proof.Proof.InDxZ
public import proofs.«01_k».proof.Proof.InDxXbc
public import proofs.«01_k».proof.Proof.GdnDxQkv
public import proofs.«01_k».proof.Proof.GdnDxZ
public import proofs.«01_k».proof.Proof.InDwXbc
public import proofs.«01_k».proof.Proof.InDwZ
public import proofs.«01_k».proof.Proof.OutDx
public import proofs.«01_k».proof.Proof.OutDw
public import proofs.«01_k».proof.Proof.InProj
public import proofs.«01_k».proof.Proof.OutProj
public import proofs.«01_k».proof.Proof.FwdAgree
public import proofs.«01_k».proof.Proof.AdamIn
public import proofs.«01_k».proof.Proof.AdamOut
public import proofs.«01_k».proof.Proof.AdamSmall
public import proofs.«01_k».proof.Proof.Norm
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.InDxZ.Gen.facts, Cert.InDxZIdeal.Gen.facts, Cert.InDxZReferenceIdeal.Gen.facts,
  Cert.InDxXbc.Gen.facts, Cert.InDxXbcIdeal.Gen.facts, Cert.InDxXbcReferenceIdeal.Gen.facts,
  Cert.GdnDxQkv.Gen.facts, Cert.GdnDxQkvIdeal.Gen.facts, Cert.GdnDxQkvReferenceIdeal.Gen.facts,
  Cert.GdnDxZ.Gen.facts, Cert.GdnDxZIdeal.Gen.facts, Cert.GdnDxZReferenceIdeal.Gen.facts,
  Cert.InDwXbc.Gen.facts, Cert.InDwXbcIdeal.Gen.facts, Cert.InDwXbcReferenceIdeal.Gen.facts,
  Cert.InDwZ.Gen.facts, Cert.InDwZIdeal.Gen.facts, Cert.InDwZReferenceIdeal.Gen.facts,
  Cert.OutDx.Gen.facts, Cert.OutDxIdeal.Gen.facts, Cert.OutDxReferenceIdeal.Gen.facts,
  Cert.OutDw.Gen.facts, Cert.OutDwIdeal.Gen.facts, Cert.OutDwReferenceIdeal.Gen.facts,
  Cert.InProj.Gen.facts, Cert.InProjIdeal.Gen.facts, Cert.InProjReferenceIdeal.Gen.facts,
  Cert.OutProj.Gen.facts, Cert.OutProjIdeal.Gen.facts, Cert.OutProjReferenceIdeal.Gen.facts,
  Cert.Fwd.Gen.facts, Cert.FwdIdeal.Gen.facts, Cert.FwdReferenceIdeal.Gen.facts,
  Cert.AdamIn.Gen.facts, Cert.AdamInIdeal.Gen.facts, Cert.AdamInReferenceIdeal.Gen.facts,
  Cert.AdamOut.Gen.facts, Cert.AdamOutIdeal.Gen.facts, Cert.AdamOutReferenceIdeal.Gen.facts,
  Cert.AdamSmall.Gen.facts, Cert.AdamSmallIdeal.Gen.facts, Cert.AdamSmallReferenceIdeal.Gen.facts,
  Cert.Norm.Gen.facts, Cert.NormIdeal.Gen.facts, Cert.NormReferenceIdeal.Gen.facts,
  Cert.Pre_smooth.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun r h => ⟨fun c => (h c).2.2.2.2.2.2.2, sem_eq_zero_of_no_sems (by decide) r.2⟩)
    (Cert.ReferenceIdeal.Value.run (F := Ideal) m ρ),
  fun m ρ _ => (θ_run _ _ _).mono (fun r h => ⟨fun c => (h c).2.2.2.2.2.2.2, sem_eq_zero_of_no_sems (by decide) r.2⟩)
    (Cert.ReferenceIdeal.Value.run (F := Ideal) m ρ),
  fun m ρ _ => Cert.InDxZ.Gen.frame m ρ,
  fun m ρ _ => Cert.InDxZIdeal.Gen.frame m ρ,
  fun m ρ _ => (θ_run _ _ _).mono (fun r h => ⟨fun c => (h c).2, sem_eq_zero_of_no_sems (by decide) r.2⟩)
    (Cert.InDxZReferenceIdeal.Value.run (F := Ideal) m ρ),
  fun m ρ _ => Cert.InDxXbc.Gen.frame m ρ,
  fun m ρ _ => Cert.InDxXbcIdeal.Gen.frame m ρ,
  fun m ρ _ => (θ_run _ _ _).mono (fun r h => ⟨fun c => (h c).2, sem_eq_zero_of_no_sems (by decide) r.2⟩)
    (Cert.InDxXbcReferenceIdeal.Value.run (F := Ideal) m ρ),
  fun m ρ _ => Cert.GdnDxQkv.Gen.frame m ρ,
  fun m ρ _ => Cert.GdnDxQkvIdeal.Gen.frame m ρ,
  fun m ρ _ => (θ_run _ _ _).mono (fun r h => ⟨fun c => (h c).2, sem_eq_zero_of_no_sems (by decide) r.2⟩)
    (Cert.GdnDxQkvReferenceIdeal.Value.run (F := Ideal) m ρ),
  fun m ρ _ => Cert.GdnDxZ.Gen.frame m ρ,
  fun m ρ _ => Cert.GdnDxZIdeal.Gen.frame m ρ,
  fun m ρ _ => (θ_run _ _ _).mono (fun r h => ⟨fun c => (h c).2, sem_eq_zero_of_no_sems (by decide) r.2⟩)
    (Cert.GdnDxZReferenceIdeal.Value.run (F := Ideal) m ρ),
  fun m ρ _ => Cert.InDwXbc.Gen.frame m ρ,
  fun m ρ _ => Cert.InDwXbcIdeal.Gen.frame m ρ,
  fun m ρ _ => (θ_run _ _ _).mono (fun r h => ⟨fun c => (h c).2, sem_eq_zero_of_no_sems (by decide) r.2⟩)
    (Cert.InDwXbcReferenceIdeal.Value.run (F := Ideal) m ρ),
  fun m ρ _ => Cert.InDwZ.Gen.frame m ρ,
  fun m ρ _ => Cert.InDwZIdeal.Gen.frame m ρ,
  fun m ρ _ => (θ_run _ _ _).mono (fun r h => ⟨fun c => (h c).2, sem_eq_zero_of_no_sems (by decide) r.2⟩)
    (Cert.InDwZReferenceIdeal.Value.run (F := Ideal) m ρ),
  fun m ρ _ => Cert.OutDx.Gen.frame m ρ,
  fun m ρ _ => Cert.OutDxIdeal.Gen.frame m ρ,
  fun m ρ _ => (θ_run _ _ _).mono (fun r h => ⟨fun c => (h c).2, sem_eq_zero_of_no_sems (by decide) r.2⟩)
    (Cert.OutDxReferenceIdeal.Value.run (F := Ideal) m ρ),
  fun m ρ _ => Cert.OutDw.Gen.frame m ρ,
  fun m ρ _ => Cert.OutDwIdeal.Gen.frame m ρ,
  fun m ρ _ => (θ_run _ _ _).mono (fun r h => ⟨fun c => (h c).2, sem_eq_zero_of_no_sems (by decide) r.2⟩)
    (Cert.OutDwReferenceIdeal.Value.run (F := Ideal) m ρ),
  fun m ρ _ => Cert.InProj.Gen.frame m ρ,
  fun m ρ _ => Cert.InProjIdeal.Gen.frame m ρ,
  fun m ρ _ => (θ_run _ _ _).mono (fun r h => ⟨fun c => (h c).2, sem_eq_zero_of_no_sems (by decide) r.2⟩)
    (Cert.InProjReferenceIdeal.Value.run (F := Ideal) m ρ),
  fun m ρ _ => Cert.OutProj.Gen.frame m ρ,
  fun m ρ _ => Cert.OutProjIdeal.Gen.frame m ρ,
  fun m ρ _ => (θ_run _ _ _).mono (fun r h => ⟨fun c => (h c).2, sem_eq_zero_of_no_sems (by decide) r.2⟩)
    (Cert.OutProjReferenceIdeal.Value.run (F := Ideal) m ρ),
  fun m ρ _ => Cert.Fwd.Gen.frame m ρ,
  fun m ρ _ => Cert.FwdIdeal.Gen.frame m ρ,
  fun m ρ _ => Cert.FwdIdeal.Gen.frame m ρ,
  fun m ρ _ => (θ_run _ _ _).mono (fun r h => ⟨fun c => (h c).2.2, sem_eq_zero_of_no_sems (by decide) r.2⟩)
    (Cert.FwdReferenceIdeal.Value.run (F := Ideal) m ρ),
  fun m ρ _ => (θ_run _ _ _).mono (fun r h => ⟨fun c => (h c).2.2, sem_eq_zero_of_no_sems (by decide) r.2⟩)
    (Cert.FwdReferenceIdeal.Value.run (F := Ideal) m ρ),
  fun m ρ _ => Cert.AdamIn.Gen.frame m ρ,
  fun m ρ _ => Cert.AdamInIdeal.Gen.frame m ρ,
  fun m ρ _ => (θ_run _ _ _).mono (fun r h => ⟨fun c => (h c).2.2.2, sem_eq_zero_of_no_sems (by decide) r.2⟩)
    (Cert.AdamInReferenceIdeal.Value.run (F := Ideal) m ρ),
  fun m ρ _ => Cert.AdamOut.Gen.frame m ρ,
  fun m ρ _ => Cert.AdamOutIdeal.Gen.frame m ρ,
  fun m ρ _ => (θ_run _ _ _).mono (fun r h => ⟨fun c => (h c).2.2.2, sem_eq_zero_of_no_sems (by decide) r.2⟩)
    (Cert.AdamOutReferenceIdeal.Value.run (F := Ideal) m ρ),
  fun m ρ _ => Cert.AdamSmall.Gen.frame m ρ,
  fun m ρ _ => Cert.AdamSmallIdeal.Gen.frame m ρ,
  fun m ρ _ => (θ_run _ _ _).mono (fun r h => ⟨fun c => (h c).2.2.2, sem_eq_zero_of_no_sems (by decide) r.2⟩)
    (Cert.AdamSmallReferenceIdeal.Value.run (F := Ideal) m ρ),
  fun m ρ _ => Cert.Norm.Gen.frame m ρ,
  fun m ρ _ => Cert.NormIdeal.Gen.frame m ρ,
  fun m ρ _ => (θ_run _ _ _).mono (fun r h => ⟨fun c => (h c).2.2, sem_eq_zero_of_no_sems (by decide) r.2⟩)
    (Cert.NormReferenceIdeal.Value.run (F := Ideal) m ρ),
  IdealRules.named_const.statement Cert.KernelIdeal.κ "mask" .f32 0xF149F2CA#32 ⊥ rfl,
  Cert.Agree.agree,
  trivial,
  Cert.DxZ.agree,
  trivial,
  Cert.DxXbc.agree,
  trivial,
  Cert.DxQkv.agree,
  trivial,
  Cert.GdnZ.agree,
  trivial,
  Cert.DwXbc.agree,
  trivial,
  Cert.DwZ.agree,
  trivial,
  Cert.OutGrad.agree,
  trivial,
  Cert.DwOut.agree,
  trivial,
  Cert.Proj.agree,
  trivial,
  Cert.Out.agree,
  IdealRules.named_const.statement Cert.FwdIdeal.κ "mask" .f32 0xF149F2CA#32 ⊥ rfl,
  Cert.FwdAgree.agree,
  trivial,
  Cert.AdamIn.agree,
  trivial,
  Cert.AdamOut.agree,
  trivial,
  Cert.AdamSmall.agree,
  trivial,
  Cert.RmsBwd.agree⟩

end Cert.Proof

end
